-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ScIn (m : (ℓ : Loc Cert.ScIn.nD Cert.ScIn.τ Cert.ScIn.sig) → Buf (Elt Bits) ℓ) : Prop :=
  True

def Pre_ScInIdeal (m : (ℓ : Loc Cert.ScInIdeal.nD Cert.ScInIdeal.τ Cert.ScInIdeal.sig) → Buf (Elt Ideal) ℓ) : Prop :=
  True

def Pre_ScInRefIdeal (m : (ℓ : Loc Cert.ScInRefIdeal.nD Cert.ScInRefIdeal.τ Cert.ScInRefIdeal.sig) → Buf (Elt Ideal) ℓ) : Prop :=
  True

def Pre_ScInDx (m : (ℓ : Loc Cert.ScInDx.nD Cert.ScInDx.τ Cert.ScInDx.sig) → Buf (Elt Bits) ℓ) : Prop :=
  True

def Pre_ScInDxIdeal (m : (ℓ : Loc Cert.ScInDxIdeal.nD Cert.ScInDxIdeal.τ Cert.ScInDxIdeal.sig) → Buf (Elt Ideal) ℓ) : Prop :=
  True

def Pre_ScInDxRefIdeal (m : (ℓ : Loc Cert.ScInDxRefIdeal.nD Cert.ScInDxRefIdeal.τ Cert.ScInDxRefIdeal.sig) → Buf (Elt Ideal) ℓ) : Prop :=
  True

def Pre_ScInDw (m : (ℓ : Loc Cert.ScInDw.nD Cert.ScInDw.τ Cert.ScInDw.sig) → Buf (Elt Bits) ℓ) : Prop :=
  True

def Pre_ScInDwIdeal (m : (ℓ : Loc Cert.ScInDwIdeal.nD Cert.ScInDwIdeal.τ Cert.ScInDwIdeal.sig) → Buf (Elt Ideal) ℓ) : Prop :=
  True

def Pre_ScInDwRefIdeal (m : (ℓ : Loc Cert.ScInDwRefIdeal.nD Cert.ScInDwRefIdeal.τ Cert.ScInDwRefIdeal.sig) → Buf (Elt Ideal) ℓ) : Prop :=
  True

def Pre_ScOutDx (m : (ℓ : Loc Cert.ScOutDx.nD Cert.ScOutDx.τ Cert.ScOutDx.sig) → Buf (Elt Bits) ℓ) : Prop :=
  True

def Pre_ScOutDxIdeal (m : (ℓ : Loc Cert.ScOutDxIdeal.nD Cert.ScOutDxIdeal.τ Cert.ScOutDxIdeal.sig) → Buf (Elt Ideal) ℓ) : Prop :=
  True

def Pre_ScOutDxRefIdeal (m : (ℓ : Loc Cert.ScOutDxRefIdeal.nD Cert.ScOutDxRefIdeal.τ Cert.ScOutDxRefIdeal.sig) → Buf (Elt Ideal) ℓ) : Prop :=
  True

def Pre_ScOutDw (m : (ℓ : Loc Cert.ScOutDw.nD Cert.ScOutDw.τ Cert.ScOutDw.sig) → Buf (Elt Bits) ℓ) : Prop :=
  True

def Pre_ScOutDwIdeal (m : (ℓ : Loc Cert.ScOutDwIdeal.nD Cert.ScOutDwIdeal.τ Cert.ScOutDwIdeal.sig) → Buf (Elt Ideal) ℓ) : Prop :=
  True

def Pre_ScOutDwRefIdeal (m : (ℓ : Loc Cert.ScOutDwRefIdeal.nD Cert.ScOutDwRefIdeal.τ Cert.ScOutDwRefIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInRefIdeal (m : (ℓ : Loc Cert.GlaInRefIdeal.nD Cert.GlaInRefIdeal.τ Cert.GlaInRefIdeal.sig) → Buf (Elt Ideal) ℓ) : Prop :=
  True

def Pre_GlaInDx (m : (ℓ : Loc Cert.GlaInDx.nD Cert.GlaInDx.τ Cert.GlaInDx.sig) → Buf (Elt Bits) ℓ) : Prop :=
  True

def Pre_GlaInDxIdeal (m : (ℓ : Loc Cert.GlaInDxIdeal.nD Cert.GlaInDxIdeal.τ Cert.GlaInDxIdeal.sig) → Buf (Elt Ideal) ℓ) : Prop :=
  True

def Pre_GlaInDxRefIdeal (m : (ℓ : Loc Cert.GlaInDxRefIdeal.nD Cert.GlaInDxRefIdeal.τ Cert.GlaInDxRefIdeal.sig) → Buf (Elt Ideal) ℓ) : Prop :=
  True

def Pre_GlaInDw (m : (ℓ : Loc Cert.GlaInDw.nD Cert.GlaInDw.τ Cert.GlaInDw.sig) → Buf (Elt Bits) ℓ) : Prop :=
  True

def Pre_GlaInDwIdeal (m : (ℓ : Loc Cert.GlaInDwIdeal.nD Cert.GlaInDwIdeal.τ Cert.GlaInDwIdeal.sig) → Buf (Elt Ideal) ℓ) : Prop :=
  True

def Pre_GlaInDwRefIdeal (m : (ℓ : Loc Cert.GlaInDwRefIdeal.nD Cert.GlaInDwRefIdeal.τ Cert.GlaInDwRefIdeal.sig) → Buf (Elt Ideal) ℓ) : Prop :=
  True

def Pre_GlaOutDw (m : (ℓ : Loc Cert.GlaOutDw.nD Cert.GlaOutDw.τ Cert.GlaOutDw.sig) → Buf (Elt Bits) ℓ) : Prop :=
  True

def Pre_GlaOutDwIdeal (m : (ℓ : Loc Cert.GlaOutDwIdeal.nD Cert.GlaOutDwIdeal.τ Cert.GlaOutDwIdeal.sig) → Buf (Elt Ideal) ℓ) : Prop :=
  True

def Pre_GlaOutDwRefIdeal (m : (ℓ : Loc Cert.GlaOutDwRefIdeal.nD Cert.GlaOutDwRefIdeal.τ Cert.GlaOutDwRefIdeal.sig) → Buf (Elt Ideal) ℓ) : Prop :=
  True

def Pre_OutMod (m : (ℓ : Loc Cert.OutMod.nD Cert.OutMod.τ Cert.OutMod.sig) → Buf (Elt Bits) ℓ) : Prop :=
  True

def Pre_OutModIdeal (m : (ℓ : Loc Cert.OutModIdeal.nD Cert.OutModIdeal.τ Cert.OutModIdeal.sig) → Buf (Elt Ideal) ℓ) : Prop :=
  True

def Pre_OutModRefIdeal (m : (ℓ : Loc Cert.OutModRefIdeal.nD Cert.OutModRefIdeal.τ Cert.OutModRefIdeal.sig) → Buf (Elt Ideal) ℓ) : Prop :=
  True

def Pre_DownMod (m : (ℓ : Loc Cert.DownMod.nD Cert.DownMod.τ Cert.DownMod.sig) → Buf (Elt Bits) ℓ) : Prop :=
  True

def Pre_DownModIdeal (m : (ℓ : Loc Cert.DownModIdeal.nD Cert.DownModIdeal.τ Cert.DownModIdeal.sig) → Buf (Elt Ideal) ℓ) : Prop :=
  True

def Pre_DownModRefIdeal (m : (ℓ : Loc Cert.DownModRefIdeal.nD Cert.DownModRefIdeal.τ Cert.DownModRefIdeal.sig) → Buf (Elt Ideal) ℓ) : Prop :=
  True

def Pre_ResModBwd (m : (ℓ : Loc Cert.ResModBwd.nD Cert.ResModBwd.τ Cert.ResModBwd.sig) → Buf (Elt Bits) ℓ) : Prop :=
  True

def Pre_ResModBwdIdeal (m : (ℓ : Loc Cert.ResModBwdIdeal.nD Cert.ResModBwdIdeal.τ Cert.ResModBwdIdeal.sig) → Buf (Elt Ideal) ℓ) : Prop :=
  True

def Pre_ResModBwdRefIdeal (m : (ℓ : Loc Cert.ResModBwdRefIdeal.nD Cert.ResModBwdRefIdeal.τ Cert.ResModBwdRefIdeal.sig) → Buf (Elt Ideal) ℓ) : Prop :=
  True

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdRefIdeal (m : (ℓ : Loc Cert.ModBwdRefIdeal.nD Cert.ModBwdRefIdeal.τ Cert.ModBwdRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdRefIdeal (m : (ℓ : Loc Cert.PostBwdRefIdeal.nD Cert.PostBwdRefIdeal.τ Cert.PostBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_ScIn [hScIn : Cert.ScIn.Facts] : Prop :=
  ∀ (m : (ℓ : Loc Cert.ScIn.nD Cert.ScIn.τ Cert.ScIn.sig) → Buf (Elt Bits) ℓ) (g : Dev Cert.ScIn.nD → PrngReg), Pre_ScIn m →
    θ_run (Cert.ScIn.defs (F := Bits)) (onTc (τ := Cert.ScIn.τ) (Cert.ScIn.main (F := Bits))) ⟨m, fun _ => 0, g⟩ (fun r => (∀ c : Dev Cert.ScIn.nD,
      r.2.mem ((c.tc : Thread Cert.ScIn.nD Cert.ScIn.τ).loc Cert.ScIn.main_arg0) = m ((c.tc : Thread Cert.ScIn.nD Cert.ScIn.τ).loc Cert.ScIn.main_arg0)
      ∧ r.2.mem ((c.tc : Thread Cert.ScIn.nD Cert.ScIn.τ).loc Cert.ScIn.main_arg1) = m ((c.tc : Thread Cert.ScIn.nD Cert.ScIn.τ).loc Cert.ScIn.main_arg1))
      ∧ r.2.sem = fun _ => 0)

def quiescent_ScInIdeal [hScInIdeal : Cert.ScInIdeal.Facts] : Prop :=
  ∀ (m : (ℓ : Loc Cert.ScInIdeal.nD Cert.ScInIdeal.τ Cert.ScInIdeal.sig) → Buf (Elt Ideal) ℓ) (g : Dev Cert.ScInIdeal.nD → PrngReg), Pre_ScInIdeal m →
    θ_run (Cert.ScInIdeal.defs (F := Ideal)) (onTc (τ := Cert.ScInIdeal.τ) (Cert.ScInIdeal.main (F := Ideal))) ⟨m, fun _ => 0, g⟩ (fun r => (∀ c : Dev Cert.ScInIdeal.nD,
      r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
      ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ r.2.sem = fun _ => 0)

def quiescent_ScInRefIdeal [hScInRefIdeal : Cert.ScInRefIdeal.Facts] : Prop :=
  ∀ (m : (ℓ : Loc Cert.ScInRefIdeal.nD Cert.ScInRefIdeal.τ Cert.ScInRefIdeal.sig) → Buf (Elt Ideal) ℓ) (g : Dev Cert.ScInRefIdeal.nD → PrngReg), Pre_ScInRefIdeal m →
    θ_run (Cert.ScInRefIdeal.defs (F := Ideal)) (onTc (τ := Cert.ScInRefIdeal.τ) (Cert.ScInRefIdeal.main (F := Ideal))) ⟨m, fun _ => 0, g⟩ (fun r => (∀ c : Dev Cert.ScInRefIdeal.nD,
      r.2.mem ((c.tc : Thread Cert.ScInRefIdeal.nD Cert.ScInRefIdeal.τ).loc Cert.ScInRefIdeal.main_arg0) = m ((c.tc : Thread Cert.ScInRefIdeal.nD Cert.ScInRefIdeal.τ).loc Cert.ScInRefIdeal.main_arg0)
      ∧ r.2.mem ((c.tc : Thread Cert.ScInRefIdeal.nD Cert.ScInRefIdeal.τ).loc Cert.ScInRefIdeal.main_arg1) = m ((c.tc : Thread Cert.ScInRefIdeal.nD Cert.ScInRefIdeal.τ).loc Cert.ScInRefIdeal.main_arg1))
      ∧ r.2.sem = fun _ => 0)

def quiescent_ScInDx [hScInDx : Cert.ScInDx.Facts] : Prop :=
  ∀ (m : (ℓ : Loc Cert.ScInDx.nD Cert.ScInDx.τ Cert.ScInDx.sig) → Buf (Elt Bits) ℓ) (g : Dev Cert.ScInDx.nD → PrngReg), Pre_ScInDx m →
    θ_run (Cert.ScInDx.defs (F := Bits)) (onTc (τ := Cert.ScInDx.τ) (Cert.ScInDx.main (F := Bits))) ⟨m, fun _ => 0, g⟩ (fun r => (∀ c : Dev Cert.ScInDx.nD,
      r.2.mem ((c.tc : Thread Cert.ScInDx.nD Cert.ScInDx.τ).loc Cert.ScInDx.main_arg0) = m ((c.tc : Thread Cert.ScInDx.nD Cert.ScInDx.τ).loc Cert.ScInDx.main_arg0)
      ∧ r.2.mem ((c.tc : Thread Cert.ScInDx.nD Cert.ScInDx.τ).loc Cert.ScInDx.main_arg1) = m ((c.tc : Thread Cert.ScInDx.nD Cert.ScInDx.τ).loc Cert.ScInDx.main_arg1))
      ∧ r.2.sem = fun _ => 0)

def quiescent_ScInDxIdeal [hScInDxIdeal : Cert.ScInDxIdeal.Facts] : Prop :=
  ∀ (m : (ℓ : Loc Cert.ScInDxIdeal.nD Cert.ScInDxIdeal.τ Cert.ScInDxIdeal.sig) → Buf (Elt Ideal) ℓ) (g : Dev Cert.ScInDxIdeal.nD → PrngReg), Pre_ScInDxIdeal m →
    θ_run (Cert.ScInDxIdeal.defs (F := Ideal)) (onTc (τ := Cert.ScInDxIdeal.τ) (Cert.ScInDxIdeal.main (F := Ideal))) ⟨m, fun _ => 0, g⟩ (fun r => (∀ c : Dev Cert.ScInDxIdeal.nD,
      r.2.mem ((c.tc : Thread Cert.ScInDxIdeal.nD Cert.ScInDxIdeal.τ).loc Cert.ScInDxIdeal.main_arg0) = m ((c.tc : Thread Cert.ScInDxIdeal.nD Cert.ScInDxIdeal.τ).loc Cert.ScInDxIdeal.main_arg0)
      ∧ r.2.mem ((c.tc : Thread Cert.ScInDxIdeal.nD Cert.ScInDxIdeal.τ).loc Cert.ScInDxIdeal.main_arg1) = m ((c.tc : Thread Cert.ScInDxIdeal.nD Cert.ScInDxIdeal.τ).loc Cert.ScInDxIdeal.main_arg1))
      ∧ r.2.sem = fun _ => 0)

def quiescent_ScInDxRefIdeal [hScInDxRefIdeal : Cert.ScInDxRefIdeal.Facts] : Prop :=
  ∀ (m : (ℓ : Loc Cert.ScInDxRefIdeal.nD Cert.ScInDxRefIdeal.τ Cert.ScInDxRefIdeal.sig) → Buf (Elt Ideal) ℓ) (g : Dev Cert.ScInDxRefIdeal.nD → PrngReg), Pre_ScInDxRefIdeal m →
    θ_run (Cert.ScInDxRefIdeal.defs (F := Ideal)) (onTc (τ := Cert.ScInDxRefIdeal.τ) (Cert.ScInDxRefIdeal.main (F := Ideal))) ⟨m, fun _ => 0, g⟩ (fun r => (∀ c : Dev Cert.ScInDxRefIdeal.nD,
      r.2.mem ((c.tc : Thread Cert.ScInDxRefIdeal.nD Cert.ScInDxRefIdeal.τ).loc Cert.ScInDxRefIdeal.main_arg0) = m ((c.tc : Thread Cert.ScInDxRefIdeal.nD Cert.ScInDxRefIdeal.τ).loc Cert.ScInDxRefIdeal.main_arg0)
      ∧ r.2.mem ((c.tc : Thread Cert.ScInDxRefIdeal.nD Cert.ScInDxRefIdeal.τ).loc Cert.ScInDxRefIdeal.main_arg1) = m ((c.tc : Thread Cert.ScInDxRefIdeal.nD Cert.ScInDxRefIdeal.τ).loc Cert.ScInDxRefIdeal.main_arg1))
      ∧ r.2.sem = fun _ => 0)

def quiescent_ScInDw [hScInDw : Cert.ScInDw.Facts] : Prop :=
  ∀ (m : (ℓ : Loc Cert.ScInDw.nD Cert.ScInDw.τ Cert.ScInDw.sig) → Buf (Elt Bits) ℓ) (g : Dev Cert.ScInDw.nD → PrngReg), Pre_ScInDw m →
    θ_run (Cert.ScInDw.defs (F := Bits)) (onTc (τ := Cert.ScInDw.τ) (Cert.ScInDw.main (F := Bits))) ⟨m, fun _ => 0, g⟩ (fun r => (∀ c : Dev Cert.ScInDw.nD,
      r.2.mem ((c.tc : Thread Cert.ScInDw.nD Cert.ScInDw.τ).loc Cert.ScInDw.main_arg0) = m ((c.tc : Thread Cert.ScInDw.nD Cert.ScInDw.τ).loc Cert.ScInDw.main_arg0)
      ∧ r.2.mem ((c.tc : Thread Cert.ScInDw.nD Cert.ScInDw.τ).loc Cert.ScInDw.main_arg1) = m ((c.tc : Thread Cert.ScInDw.nD Cert.ScInDw.τ).loc Cert.ScInDw.main_arg1))
      ∧ r.2.sem = fun _ => 0)

def quiescent_ScInDwIdeal [hScInDwIdeal : Cert.ScInDwIdeal.Facts] : Prop :=
  ∀ (m : (ℓ : Loc Cert.ScInDwIdeal.nD Cert.ScInDwIdeal.τ Cert.ScInDwIdeal.sig) → Buf (Elt Ideal) ℓ) (g : Dev Cert.ScInDwIdeal.nD → PrngReg), Pre_ScInDwIdeal m →
    θ_run (Cert.ScInDwIdeal.defs (F := Ideal)) (onTc (τ := Cert.ScInDwIdeal.τ) (Cert.ScInDwIdeal.main (F := Ideal))) ⟨m, fun _ => 0, g⟩ (fun r => (∀ c : Dev Cert.ScInDwIdeal.nD,
      r.2.mem ((c.tc : Thread Cert.ScInDwIdeal.nD Cert.ScInDwIdeal.τ).loc Cert.ScInDwIdeal.main_arg0) = m ((c.tc : Thread Cert.ScInDwIdeal.nD Cert.ScInDwIdeal.τ).loc Cert.ScInDwIdeal.main_arg0)
      ∧ r.2.mem ((c.tc : Thread Cert.ScInDwIdeal.nD Cert.ScInDwIdeal.τ).loc Cert.ScInDwIdeal.main_arg1) = m ((c.tc : Thread Cert.ScInDwIdeal.nD Cert.ScInDwIdeal.τ).loc Cert.ScInDwIdeal.main_arg1))
      ∧ r.2.sem = fun _ => 0)

def quiescent_ScInDwRefIdeal [hScInDwRefIdeal : Cert.ScInDwRefIdeal.Facts] : Prop :=
  ∀ (m : (ℓ : Loc Cert.ScInDwRefIdeal.nD Cert.ScInDwRefIdeal.τ Cert.ScInDwRefIdeal.sig) → Buf (Elt Ideal) ℓ) (g : Dev Cert.ScInDwRefIdeal.nD → PrngReg), Pre_ScInDwRefIdeal m →
    θ_run (Cert.ScInDwRefIdeal.defs (F := Ideal)) (onTc (τ := Cert.ScInDwRefIdeal.τ) (Cert.ScInDwRefIdeal.main (F := Ideal))) ⟨m, fun _ => 0, g⟩ (fun r => (∀ c : Dev Cert.ScInDwRefIdeal.nD,
      r.2.mem ((c.tc : Thread Cert.ScInDwRefIdeal.nD Cert.ScInDwRefIdeal.τ).loc Cert.ScInDwRefIdeal.main_arg0) = m ((c.tc : Thread Cert.ScInDwRefIdeal.nD Cert.ScInDwRefIdeal.τ).loc Cert.ScInDwRefIdeal.main_arg0)
      ∧ r.2.mem ((c.tc : Thread Cert.ScInDwRefIdeal.nD Cert.ScInDwRefIdeal.τ).loc Cert.ScInDwRefIdeal.main_arg1) = m ((c.tc : Thread Cert.ScInDwRefIdeal.nD Cert.ScInDwRefIdeal.τ).loc Cert.ScInDwRefIdeal.main_arg1))
      ∧ r.2.sem = fun _ => 0)

def quiescent_ScOutDx [hScOutDx : Cert.ScOutDx.Facts] : Prop :=
  ∀ (m : (ℓ : Loc Cert.ScOutDx.nD Cert.ScOutDx.τ Cert.ScOutDx.sig) → Buf (Elt Bits) ℓ) (g : Dev Cert.ScOutDx.nD → PrngReg), Pre_ScOutDx m →
    θ_run (Cert.ScOutDx.defs (F := Bits)) (onTc (τ := Cert.ScOutDx.τ) (Cert.ScOutDx.main (F := Bits))) ⟨m, fun _ => 0, g⟩ (fun r => (∀ c : Dev Cert.ScOutDx.nD,
      r.2.mem ((c.tc : Thread Cert.ScOutDx.nD Cert.ScOutDx.τ).loc Cert.ScOutDx.main_arg0) = m ((c.tc : Thread Cert.ScOutDx.nD Cert.ScOutDx.τ).loc Cert.ScOutDx.main_arg0)
      ∧ r.2.mem ((c.tc : Thread Cert.ScOutDx.nD Cert.ScOutDx.τ).loc Cert.ScOutDx.main_arg1) = m ((c.tc : Thread Cert.ScOutDx.nD Cert.ScOutDx.τ).loc Cert.ScOutDx.main_arg1))
      ∧ r.2.sem = fun _ => 0)

def quiescent_ScOutDxIdeal [hScOutDxIdeal : Cert.ScOutDxIdeal.Facts] : Prop :=
  ∀ (m : (ℓ : Loc Cert.ScOutDxIdeal.nD Cert.ScOutDxIdeal.τ Cert.ScOutDxIdeal.sig) → Buf (Elt Ideal) ℓ) (g : Dev Cert.ScOutDxIdeal.nD → PrngReg), Pre_ScOutDxIdeal m →
    θ_run (Cert.ScOutDxIdeal.defs (F := Ideal)) (onTc (τ := Cert.ScOutDxIdeal.τ) (Cert.ScOutDxIdeal.main (F := Ideal))) ⟨m, fun _ => 0, g⟩ (fun r => (∀ c : Dev Cert.ScOutDxIdeal.nD,
      r.2.mem ((c.tc : Thread Cert.ScOutDxIdeal.nD Cert.ScOutDxIdeal.τ).loc Cert.ScOutDxIdeal.main_arg0) = m ((c.tc : Thread Cert.ScOutDxIdeal.nD Cert.ScOutDxIdeal.τ).loc Cert.ScOutDxIdeal.main_arg0)
      ∧ r.2.mem ((c.tc : Thread Cert.ScOutDxIdeal.nD Cert.ScOutDxIdeal.τ).loc Cert.ScOutDxIdeal.main_arg1) = m ((c.tc : Thread Cert.ScOutDxIdeal.nD Cert.ScOutDxIdeal.τ).loc Cert.ScOutDxIdeal.main_arg1))
      ∧ r.2.sem = fun _ => 0)

def quiescent_ScOutDxRefIdeal [hScOutDxRefIdeal : Cert.ScOutDxRefIdeal.Facts] : Prop :=
  ∀ (m : (ℓ : Loc Cert.ScOutDxRefIdeal.nD Cert.ScOutDxRefIdeal.τ Cert.ScOutDxRefIdeal.sig) → Buf (Elt Ideal) ℓ) (g : Dev Cert.ScOutDxRefIdeal.nD → PrngReg), Pre_ScOutDxRefIdeal m →
    θ_run (Cert.ScOutDxRefIdeal.defs (F := Ideal)) (onTc (τ := Cert.ScOutDxRefIdeal.τ) (Cert.ScOutDxRefIdeal.main (F := Ideal))) ⟨m, fun _ => 0, g⟩ (fun r => (∀ c : Dev Cert.ScOutDxRefIdeal.nD,
      r.2.mem ((c.tc : Thread Cert.ScOutDxRefIdeal.nD Cert.ScOutDxRefIdeal.τ).loc Cert.ScOutDxRefIdeal.main_arg0) = m ((c.tc : Thread Cert.ScOutDxRefIdeal.nD Cert.ScOutDxRefIdeal.τ).loc Cert.ScOutDxRefIdeal.main_arg0)
      ∧ r.2.mem ((c.tc : Thread Cert.ScOutDxRefIdeal.nD Cert.ScOutDxRefIdeal.τ).loc Cert.ScOutDxRefIdeal.main_arg1) = m ((c.tc : Thread Cert.ScOutDxRefIdeal.nD Cert.ScOutDxRefIdeal.τ).loc Cert.ScOutDxRefIdeal.main_arg1))
      ∧ r.2.sem = fun _ => 0)

def quiescent_ScOutDw [hScOutDw : Cert.ScOutDw.Facts] : Prop :=
  ∀ (m : (ℓ : Loc Cert.ScOutDw.nD Cert.ScOutDw.τ Cert.ScOutDw.sig) → Buf (Elt Bits) ℓ) (g : Dev Cert.ScOutDw.nD → PrngReg), Pre_ScOutDw m →
    θ_run (Cert.ScOutDw.defs (F := Bits)) (onTc (τ := Cert.ScOutDw.τ) (Cert.ScOutDw.main (F := Bits))) ⟨m, fun _ => 0, g⟩ (fun r => (∀ c : Dev Cert.ScOutDw.nD,
      r.2.mem ((c.tc : Thread Cert.ScOutDw.nD Cert.ScOutDw.τ).loc Cert.ScOutDw.main_arg0) = m ((c.tc : Thread Cert.ScOutDw.nD Cert.ScOutDw.τ).loc Cert.ScOutDw.main_arg0)
      ∧ r.2.mem ((c.tc : Thread Cert.ScOutDw.nD Cert.ScOutDw.τ).loc Cert.ScOutDw.main_arg1) = m ((c.tc : Thread Cert.ScOutDw.nD Cert.ScOutDw.τ).loc Cert.ScOutDw.main_arg1))
      ∧ r.2.sem = fun _ => 0)

def quiescent_ScOutDwIdeal [hScOutDwIdeal : Cert.ScOutDwIdeal.Facts] : Prop :=
  ∀ (m : (ℓ : Loc Cert.ScOutDwIdeal.nD Cert.ScOutDwIdeal.τ Cert.ScOutDwIdeal.sig) → Buf (Elt Ideal) ℓ) (g : Dev Cert.ScOutDwIdeal.nD → PrngReg), Pre_ScOutDwIdeal m →
    θ_run (Cert.ScOutDwIdeal.defs (F := Ideal)) (onTc (τ := Cert.ScOutDwIdeal.τ) (Cert.ScOutDwIdeal.main (F := Ideal))) ⟨m, fun _ => 0, g⟩ (fun r => (∀ c : Dev Cert.ScOutDwIdeal.nD,
      r.2.mem ((c.tc : Thread Cert.ScOutDwIdeal.nD Cert.ScOutDwIdeal.τ).loc Cert.ScOutDwIdeal.main_arg0) = m ((c.tc : Thread Cert.ScOutDwIdeal.nD Cert.ScOutDwIdeal.τ).loc Cert.ScOutDwIdeal.main_arg0)
      ∧ r.2.mem ((c.tc : Thread Cert.ScOutDwIdeal.nD Cert.ScOutDwIdeal.τ).loc Cert.ScOutDwIdeal.main_arg1) = m ((c.tc : Thread Cert.ScOutDwIdeal.nD Cert.ScOutDwIdeal.τ).loc Cert.ScOutDwIdeal.main_arg1))
      ∧ r.2.sem = fun _ => 0)

def quiescent_ScOutDwRefIdeal [hScOutDwRefIdeal : Cert.ScOutDwRefIdeal.Facts] : Prop :=
  ∀ (m : (ℓ : Loc Cert.ScOutDwRefIdeal.nD Cert.ScOutDwRefIdeal.τ Cert.ScOutDwRefIdeal.sig) → Buf (Elt Ideal) ℓ) (g : Dev Cert.ScOutDwRefIdeal.nD → PrngReg), Pre_ScOutDwRefIdeal m →
    θ_run (Cert.ScOutDwRefIdeal.defs (F := Ideal)) (onTc (τ := Cert.ScOutDwRefIdeal.τ) (Cert.ScOutDwRefIdeal.main (F := Ideal))) ⟨m, fun _ => 0, g⟩ (fun r => (∀ c : Dev Cert.ScOutDwRefIdeal.nD,
      r.2.mem ((c.tc : Thread Cert.ScOutDwRefIdeal.nD Cert.ScOutDwRefIdeal.τ).loc Cert.ScOutDwRefIdeal.main_arg0) = m ((c.tc : Thread Cert.ScOutDwRefIdeal.nD Cert.ScOutDwRefIdeal.τ).loc Cert.ScOutDwRefIdeal.main_arg0)
      ∧ r.2.mem ((c.tc : Thread Cert.ScOutDwRefIdeal.nD Cert.ScOutDwRefIdeal.τ).loc Cert.ScOutDwRefIdeal.main_arg1) = m ((c.tc : Thread Cert.ScOutDwRefIdeal.nD Cert.ScOutDwRefIdeal.τ).loc Cert.ScOutDwRefIdeal.main_arg1))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1))
      ∧ r.2.sem = fun _ => 0)

def quiescent_GlaInDx [hGlaInDx : Cert.GlaInDx.Facts] : Prop :=
  ∀ (m : (ℓ : Loc Cert.GlaInDx.nD Cert.GlaInDx.τ Cert.GlaInDx.sig) → Buf (Elt Bits) ℓ) (g : Dev Cert.GlaInDx.nD → PrngReg), Pre_GlaInDx m →
    θ_run (Cert.GlaInDx.defs (F := Bits)) (onTc (τ := Cert.GlaInDx.τ) (Cert.GlaInDx.main (F := Bits))) ⟨m, fun _ => 0, g⟩ (fun r => (∀ c : Dev Cert.GlaInDx.nD,
      r.2.mem ((c.tc : Thread Cert.GlaInDx.nD Cert.GlaInDx.τ).loc Cert.GlaInDx.main_arg0) = m ((c.tc : Thread Cert.GlaInDx.nD Cert.GlaInDx.τ).loc Cert.GlaInDx.main_arg0)
      ∧ r.2.mem ((c.tc : Thread Cert.GlaInDx.nD Cert.GlaInDx.τ).loc Cert.GlaInDx.main_arg1) = m ((c.tc : Thread Cert.GlaInDx.nD Cert.GlaInDx.τ).loc Cert.GlaInDx.main_arg1))
      ∧ r.2.sem = fun _ => 0)

def quiescent_GlaInDxIdeal [hGlaInDxIdeal : Cert.GlaInDxIdeal.Facts] : Prop :=
  ∀ (m : (ℓ : Loc Cert.GlaInDxIdeal.nD Cert.GlaInDxIdeal.τ Cert.GlaInDxIdeal.sig) → Buf (Elt Ideal) ℓ) (g : Dev Cert.GlaInDxIdeal.nD → PrngReg), Pre_GlaInDxIdeal m →
    θ_run (Cert.GlaInDxIdeal.defs (F := Ideal)) (onTc (τ := Cert.GlaInDxIdeal.τ) (Cert.GlaInDxIdeal.main (F := Ideal))) ⟨m, fun _ => 0, g⟩ (fun r => (∀ c : Dev Cert.GlaInDxIdeal.nD,
      r.2.mem ((c.tc : Thread Cert.GlaInDxIdeal.nD Cert.GlaInDxIdeal.τ).loc Cert.GlaInDxIdeal.main_arg0) = m ((c.tc : Thread Cert.GlaInDxIdeal.nD Cert.GlaInDxIdeal.τ).loc Cert.GlaInDxIdeal.main_arg0)
      ∧ r.2.mem ((c.tc : Thread Cert.GlaInDxIdeal.nD Cert.GlaInDxIdeal.τ).loc Cert.GlaInDxIdeal.main_arg1) = m ((c.tc : Thread Cert.GlaInDxIdeal.nD Cert.GlaInDxIdeal.τ).loc Cert.GlaInDxIdeal.main_arg1))
      ∧ r.2.sem = fun _ => 0)

def quiescent_GlaInDxRefIdeal [hGlaInDxRefIdeal : Cert.GlaInDxRefIdeal.Facts] : Prop :=
  ∀ (m : (ℓ : Loc Cert.GlaInDxRefIdeal.nD Cert.GlaInDxRefIdeal.τ Cert.GlaInDxRefIdeal.sig) → Buf (Elt Ideal) ℓ) (g : Dev Cert.GlaInDxRefIdeal.nD → PrngReg), Pre_GlaInDxRefIdeal m →
    θ_run (Cert.GlaInDxRefIdeal.defs (F := Ideal)) (onTc (τ := Cert.GlaInDxRefIdeal.τ) (Cert.GlaInDxRefIdeal.main (F := Ideal))) ⟨m, fun _ => 0, g⟩ (fun r => (∀ c : Dev Cert.GlaInDxRefIdeal.nD,
      r.2.mem ((c.tc : Thread Cert.GlaInDxRefIdeal.nD Cert.GlaInDxRefIdeal.τ).loc Cert.GlaInDxRefIdeal.main_arg0) = m ((c.tc : Thread Cert.GlaInDxRefIdeal.nD Cert.GlaInDxRefIdeal.τ).loc Cert.GlaInDxRefIdeal.main_arg0)
      ∧ r.2.mem ((c.tc : Thread Cert.GlaInDxRefIdeal.nD Cert.GlaInDxRefIdeal.τ).loc Cert.GlaInDxRefIdeal.main_arg1) = m ((c.tc : Thread Cert.GlaInDxRefIdeal.nD Cert.GlaInDxRefIdeal.τ).loc Cert.GlaInDxRefIdeal.main_arg1))
      ∧ r.2.sem = fun _ => 0)

def quiescent_GlaInDw [hGlaInDw : Cert.GlaInDw.Facts] : Prop :=
  ∀ (m : (ℓ : Loc Cert.GlaInDw.nD Cert.GlaInDw.τ Cert.GlaInDw.sig) → Buf (Elt Bits) ℓ) (g : Dev Cert.GlaInDw.nD → PrngReg), Pre_GlaInDw m →
    θ_run (Cert.GlaInDw.defs (F := Bits)) (onTc (τ := Cert.GlaInDw.τ) (Cert.GlaInDw.main (F := Bits))) ⟨m, fun _ => 0, g⟩ (fun r => (∀ c : Dev Cert.GlaInDw.nD,
      r.2.mem ((c.tc : Thread Cert.GlaInDw.nD Cert.GlaInDw.τ).loc Cert.GlaInDw.main_arg0) = m ((c.tc : Thread Cert.GlaInDw.nD Cert.GlaInDw.τ).loc Cert.GlaInDw.main_arg0)
      ∧ r.2.mem ((c.tc : Thread Cert.GlaInDw.nD Cert.GlaInDw.τ).loc Cert.GlaInDw.main_arg1) = m ((c.tc : Thread Cert.GlaInDw.nD Cert.GlaInDw.τ).loc Cert.GlaInDw.main_arg1)
      ∧ r.2.mem ((c.tc : Thread Cert.GlaInDw.nD Cert.GlaInDw.τ).loc Cert.GlaInDw.main_arg2) = m ((c.tc : Thread Cert.GlaInDw.nD Cert.GlaInDw.τ).loc Cert.GlaInDw.main_arg2))
      ∧ r.2.sem = fun _ => 0)

def quiescent_GlaInDwIdeal [hGlaInDwIdeal : Cert.GlaInDwIdeal.Facts] : Prop :=
  ∀ (m : (ℓ : Loc Cert.GlaInDwIdeal.nD Cert.GlaInDwIdeal.τ Cert.GlaInDwIdeal.sig) → Buf (Elt Ideal) ℓ) (g : Dev Cert.GlaInDwIdeal.nD → PrngReg), Pre_GlaInDwIdeal m →
    θ_run (Cert.GlaInDwIdeal.defs (F := Ideal)) (onTc (τ := Cert.GlaInDwIdeal.τ) (Cert.GlaInDwIdeal.main (F := Ideal))) ⟨m, fun _ => 0, g⟩ (fun r => (∀ c : Dev Cert.GlaInDwIdeal.nD,
      r.2.mem ((c.tc : Thread Cert.GlaInDwIdeal.nD Cert.GlaInDwIdeal.τ).loc Cert.GlaInDwIdeal.main_arg0) = m ((c.tc : Thread Cert.GlaInDwIdeal.nD Cert.GlaInDwIdeal.τ).loc Cert.GlaInDwIdeal.main_arg0)
      ∧ r.2.mem ((c.tc : Thread Cert.GlaInDwIdeal.nD Cert.GlaInDwIdeal.τ).loc Cert.GlaInDwIdeal.main_arg1) = m ((c.tc : Thread Cert.GlaInDwIdeal.nD Cert.GlaInDwIdeal.τ).loc Cert.GlaInDwIdeal.main_arg1)
      ∧ r.2.mem ((c.tc : Thread Cert.GlaInDwIdeal.nD Cert.GlaInDwIdeal.τ).loc Cert.GlaInDwIdeal.main_arg2) = m ((c.tc : Thread Cert.GlaInDwIdeal.nD Cert.GlaInDwIdeal.τ).loc Cert.GlaInDwIdeal.main_arg2))
      ∧ r.2.sem = fun _ => 0)

def quiescent_GlaInDwRefIdeal [hGlaInDwRefIdeal : Cert.GlaInDwRefIdeal.Facts] : Prop :=
  ∀ (m : (ℓ : Loc Cert.GlaInDwRefIdeal.nD Cert.GlaInDwRefIdeal.τ Cert.GlaInDwRefIdeal.sig) → Buf (Elt Ideal) ℓ) (g : Dev Cert.GlaInDwRefIdeal.nD → PrngReg), Pre_GlaInDwRefIdeal m →
    θ_run (Cert.GlaInDwRefIdeal.defs (F := Ideal)) (onTc (τ := Cert.GlaInDwRefIdeal.τ) (Cert.GlaInDwRefIdeal.main (F := Ideal))) ⟨m, fun _ => 0, g⟩ (fun r => (∀ c : Dev Cert.GlaInDwRefIdeal.nD,
      r.2.mem ((c.tc : Thread Cert.GlaInDwRefIdeal.nD Cert.GlaInDwRefIdeal.τ).loc Cert.GlaInDwRefIdeal.main_arg0) = m ((c.tc : Thread Cert.GlaInDwRefIdeal.nD Cert.GlaInDwRefIdeal.τ).loc Cert.GlaInDwRefIdeal.main_arg0)
      ∧ r.2.mem ((c.tc : Thread Cert.GlaInDwRefIdeal.nD Cert.GlaInDwRefIdeal.τ).loc Cert.GlaInDwRefIdeal.main_arg1) = m ((c.tc : Thread Cert.GlaInDwRefIdeal.nD Cert.GlaInDwRefIdeal.τ).loc Cert.GlaInDwRefIdeal.main_arg1)
      ∧ r.2.mem ((c.tc : Thread Cert.GlaInDwRefIdeal.nD Cert.GlaInDwRefIdeal.τ).loc Cert.GlaInDwRefIdeal.main_arg2) = m ((c.tc : Thread Cert.GlaInDwRefIdeal.nD Cert.GlaInDwRefIdeal.τ).loc Cert.GlaInDwRefIdeal.main_arg2))
      ∧ r.2.sem = fun _ => 0)

def quiescent_GlaOutDw [hGlaOutDw : Cert.GlaOutDw.Facts] : Prop :=
  ∀ (m : (ℓ : Loc Cert.GlaOutDw.nD Cert.GlaOutDw.τ Cert.GlaOutDw.sig) → Buf (Elt Bits) ℓ) (g : Dev Cert.GlaOutDw.nD → PrngReg), Pre_GlaOutDw m →
    θ_run (Cert.GlaOutDw.defs (F := Bits)) (onTc (τ := Cert.GlaOutDw.τ) (Cert.GlaOutDw.main (F := Bits))) ⟨m, fun _ => 0, g⟩ (fun r => (∀ c : Dev Cert.GlaOutDw.nD,
      r.2.mem ((c.tc : Thread Cert.GlaOutDw.nD Cert.GlaOutDw.τ).loc Cert.GlaOutDw.main_arg0) = m ((c.tc : Thread Cert.GlaOutDw.nD Cert.GlaOutDw.τ).loc Cert.GlaOutDw.main_arg0)
      ∧ r.2.mem ((c.tc : Thread Cert.GlaOutDw.nD Cert.GlaOutDw.τ).loc Cert.GlaOutDw.main_arg1) = m ((c.tc : Thread Cert.GlaOutDw.nD Cert.GlaOutDw.τ).loc Cert.GlaOutDw.main_arg1)
      ∧ r.2.mem ((c.tc : Thread Cert.GlaOutDw.nD Cert.GlaOutDw.τ).loc Cert.GlaOutDw.main_arg2) = m ((c.tc : Thread Cert.GlaOutDw.nD Cert.GlaOutDw.τ).loc Cert.GlaOutDw.main_arg2))
      ∧ r.2.sem = fun _ => 0)

def quiescent_GlaOutDwIdeal [hGlaOutDwIdeal : Cert.GlaOutDwIdeal.Facts] : Prop :=
  ∀ (m : (ℓ : Loc Cert.GlaOutDwIdeal.nD Cert.GlaOutDwIdeal.τ Cert.GlaOutDwIdeal.sig) → Buf (Elt Ideal) ℓ) (g : Dev Cert.GlaOutDwIdeal.nD → PrngReg), Pre_GlaOutDwIdeal m →
    θ_run (Cert.GlaOutDwIdeal.defs (F := Ideal)) (onTc (τ := Cert.GlaOutDwIdeal.τ) (Cert.GlaOutDwIdeal.main (F := Ideal))) ⟨m, fun _ => 0, g⟩ (fun r => (∀ c : Dev Cert.GlaOutDwIdeal.nD,
      r.2.mem ((c.tc : Thread Cert.GlaOutDwIdeal.nD Cert.GlaOutDwIdeal.τ).loc Cert.GlaOutDwIdeal.main_arg0) = m ((c.tc : Thread Cert.GlaOutDwIdeal.nD Cert.GlaOutDwIdeal.τ).loc Cert.GlaOutDwIdeal.main_arg0)
      ∧ r.2.mem ((c.tc : Thread Cert.GlaOutDwIdeal.nD Cert.GlaOutDwIdeal.τ).loc Cert.GlaOutDwIdeal.main_arg1) = m ((c.tc : Thread Cert.GlaOutDwIdeal.nD Cert.GlaOutDwIdeal.τ).loc Cert.GlaOutDwIdeal.main_arg1)
      ∧ r.2.mem ((c.tc : Thread Cert.GlaOutDwIdeal.nD Cert.GlaOutDwIdeal.τ).loc Cert.GlaOutDwIdeal.main_arg2) = m ((c.tc : Thread Cert.GlaOutDwIdeal.nD Cert.GlaOutDwIdeal.τ).loc Cert.GlaOutDwIdeal.main_arg2))
      ∧ r.2.sem = fun _ => 0)

def quiescent_GlaOutDwRefIdeal [hGlaOutDwRefIdeal : Cert.GlaOutDwRefIdeal.Facts] : Prop :=
  ∀ (m : (ℓ : Loc Cert.GlaOutDwRefIdeal.nD Cert.GlaOutDwRefIdeal.τ Cert.GlaOutDwRefIdeal.sig) → Buf (Elt Ideal) ℓ) (g : Dev Cert.GlaOutDwRefIdeal.nD → PrngReg), Pre_GlaOutDwRefIdeal m →
    θ_run (Cert.GlaOutDwRefIdeal.defs (F := Ideal)) (onTc (τ := Cert.GlaOutDwRefIdeal.τ) (Cert.GlaOutDwRefIdeal.main (F := Ideal))) ⟨m, fun _ => 0, g⟩ (fun r => (∀ c : Dev Cert.GlaOutDwRefIdeal.nD,
      r.2.mem ((c.tc : Thread Cert.GlaOutDwRefIdeal.nD Cert.GlaOutDwRefIdeal.τ).loc Cert.GlaOutDwRefIdeal.main_arg0) = m ((c.tc : Thread Cert.GlaOutDwRefIdeal.nD Cert.GlaOutDwRefIdeal.τ).loc Cert.GlaOutDwRefIdeal.main_arg0)
      ∧ r.2.mem ((c.tc : Thread Cert.GlaOutDwRefIdeal.nD Cert.GlaOutDwRefIdeal.τ).loc Cert.GlaOutDwRefIdeal.main_arg1) = m ((c.tc : Thread Cert.GlaOutDwRefIdeal.nD Cert.GlaOutDwRefIdeal.τ).loc Cert.GlaOutDwRefIdeal.main_arg1)
      ∧ r.2.mem ((c.tc : Thread Cert.GlaOutDwRefIdeal.nD Cert.GlaOutDwRefIdeal.τ).loc Cert.GlaOutDwRefIdeal.main_arg2) = m ((c.tc : Thread Cert.GlaOutDwRefIdeal.nD Cert.GlaOutDwRefIdeal.τ).loc Cert.GlaOutDwRefIdeal.main_arg2))
      ∧ r.2.sem = fun _ => 0)

def quiescent_OutMod [hOutMod : Cert.OutMod.Facts] : Prop :=
  ∀ (m : (ℓ : Loc Cert.OutMod.nD Cert.OutMod.τ Cert.OutMod.sig) → Buf (Elt Bits) ℓ) (g : Dev Cert.OutMod.nD → PrngReg), Pre_OutMod m →
    θ_run (Cert.OutMod.defs (F := Bits)) (onTc (τ := Cert.OutMod.τ) (Cert.OutMod.main (F := Bits))) ⟨m, fun _ => 0, g⟩ (fun r => (∀ c : Dev Cert.OutMod.nD,
      r.2.mem ((c.tc : Thread Cert.OutMod.nD Cert.OutMod.τ).loc Cert.OutMod.main_arg0) = m ((c.tc : Thread Cert.OutMod.nD Cert.OutMod.τ).loc Cert.OutMod.main_arg0)
      ∧ r.2.mem ((c.tc : Thread Cert.OutMod.nD Cert.OutMod.τ).loc Cert.OutMod.main_arg1) = m ((c.tc : Thread Cert.OutMod.nD Cert.OutMod.τ).loc Cert.OutMod.main_arg1)
      ∧ r.2.mem ((c.tc : Thread Cert.OutMod.nD Cert.OutMod.τ).loc Cert.OutMod.main_arg2) = m ((c.tc : Thread Cert.OutMod.nD Cert.OutMod.τ).loc Cert.OutMod.main_arg2)
      ∧ r.2.mem ((c.tc : Thread Cert.OutMod.nD Cert.OutMod.τ).loc Cert.OutMod.main_arg3) = m ((c.tc : Thread Cert.OutMod.nD Cert.OutMod.τ).loc Cert.OutMod.main_arg3)
      ∧ r.2.mem ((c.tc : Thread Cert.OutMod.nD Cert.OutMod.τ).loc Cert.OutMod.main_arg4) = m ((c.tc : Thread Cert.OutMod.nD Cert.OutMod.τ).loc Cert.OutMod.main_arg4)
      ∧ r.2.mem ((c.tc : Thread Cert.OutMod.nD Cert.OutMod.τ).loc Cert.OutMod.main_arg5) = m ((c.tc : Thread Cert.OutMod.nD Cert.OutMod.τ).loc Cert.OutMod.main_arg5)
      ∧ r.2.mem ((c.tc : Thread Cert.OutMod.nD Cert.OutMod.τ).loc Cert.OutMod.main_arg6) = m ((c.tc : Thread Cert.OutMod.nD Cert.OutMod.τ).loc Cert.OutMod.main_arg6))
      ∧ r.2.sem = fun _ => 0)

def quiescent_OutModIdeal [hOutModIdeal : Cert.OutModIdeal.Facts] : Prop :=
  ∀ (m : (ℓ : Loc Cert.OutModIdeal.nD Cert.OutModIdeal.τ Cert.OutModIdeal.sig) → Buf (Elt Ideal) ℓ) (g : Dev Cert.OutModIdeal.nD → PrngReg), Pre_OutModIdeal m →
    θ_run (Cert.OutModIdeal.defs (F := Ideal)) (onTc (τ := Cert.OutModIdeal.τ) (Cert.OutModIdeal.main (F := Ideal))) ⟨m, fun _ => 0, g⟩ (fun r => (∀ c : Dev Cert.OutModIdeal.nD,
      r.2.mem ((c.tc : Thread Cert.OutModIdeal.nD Cert.OutModIdeal.τ).loc Cert.OutModIdeal.main_arg0) = m ((c.tc : Thread Cert.OutModIdeal.nD Cert.OutModIdeal.τ).loc Cert.OutModIdeal.main_arg0)
      ∧ r.2.mem ((c.tc : Thread Cert.OutModIdeal.nD Cert.OutModIdeal.τ).loc Cert.OutModIdeal.main_arg1) = m ((c.tc : Thread Cert.OutModIdeal.nD Cert.OutModIdeal.τ).loc Cert.OutModIdeal.main_arg1)
      ∧ r.2.mem ((c.tc : Thread Cert.OutModIdeal.nD Cert.OutModIdeal.τ).loc Cert.OutModIdeal.main_arg2) = m ((c.tc : Thread Cert.OutModIdeal.nD Cert.OutModIdeal.τ).loc Cert.OutModIdeal.main_arg2)
      ∧ r.2.mem ((c.tc : Thread Cert.OutModIdeal.nD Cert.OutModIdeal.τ).loc Cert.OutModIdeal.main_arg3) = m ((c.tc : Thread Cert.OutModIdeal.nD Cert.OutModIdeal.τ).loc Cert.OutModIdeal.main_arg3)
      ∧ r.2.mem ((c.tc : Thread Cert.OutModIdeal.nD Cert.OutModIdeal.τ).loc Cert.OutModIdeal.main_arg4) = m ((c.tc : Thread Cert.OutModIdeal.nD Cert.OutModIdeal.τ).loc Cert.OutModIdeal.main_arg4)
      ∧ r.2.mem ((c.tc : Thread Cert.OutModIdeal.nD Cert.OutModIdeal.τ).loc Cert.OutModIdeal.main_arg5) = m ((c.tc : Thread Cert.OutModIdeal.nD Cert.OutModIdeal.τ).loc Cert.OutModIdeal.main_arg5)
      ∧ r.2.mem ((c.tc : Thread Cert.OutModIdeal.nD Cert.OutModIdeal.τ).loc Cert.OutModIdeal.main_arg6) = m ((c.tc : Thread Cert.OutModIdeal.nD Cert.OutModIdeal.τ).loc Cert.OutModIdeal.main_arg6))
      ∧ r.2.sem = fun _ => 0)

def quiescent_OutModRefIdeal [hOutModRefIdeal : Cert.OutModRefIdeal.Facts] : Prop :=
  ∀ (m : (ℓ : Loc Cert.OutModRefIdeal.nD Cert.OutModRefIdeal.τ Cert.OutModRefIdeal.sig) → Buf (Elt Ideal) ℓ) (g : Dev Cert.OutModRefIdeal.nD → PrngReg), Pre_OutModRefIdeal m →
    θ_run (Cert.OutModRefIdeal.defs (F := Ideal)) (onTc (τ := Cert.OutModRefIdeal.τ) (Cert.OutModRefIdeal.main (F := Ideal))) ⟨m, fun _ => 0, g⟩ (fun r => (∀ c : Dev Cert.OutModRefIdeal.nD,
      r.2.mem ((c.tc : Thread Cert.OutModRefIdeal.nD Cert.OutModRefIdeal.τ).loc Cert.OutModRefIdeal.main_arg0) = m ((c.tc : Thread Cert.OutModRefIdeal.nD Cert.OutModRefIdeal.τ).loc Cert.OutModRefIdeal.main_arg0)
      ∧ r.2.mem ((c.tc : Thread Cert.OutModRefIdeal.nD Cert.OutModRefIdeal.τ).loc Cert.OutModRefIdeal.main_arg1) = m ((c.tc : Thread Cert.OutModRefIdeal.nD Cert.OutModRefIdeal.τ).loc Cert.OutModRefIdeal.main_arg1)
      ∧ r.2.mem ((c.tc : Thread Cert.OutModRefIdeal.nD Cert.OutModRefIdeal.τ).loc Cert.OutModRefIdeal.main_arg2) = m ((c.tc : Thread Cert.OutModRefIdeal.nD Cert.OutModRefIdeal.τ).loc Cert.OutModRefIdeal.main_arg2)
      ∧ r.2.mem ((c.tc : Thread Cert.OutModRefIdeal.nD Cert.OutModRefIdeal.τ).loc Cert.OutModRefIdeal.main_arg3) = m ((c.tc : Thread Cert.OutModRefIdeal.nD Cert.OutModRefIdeal.τ).loc Cert.OutModRefIdeal.main_arg3)
      ∧ r.2.mem ((c.tc : Thread Cert.OutModRefIdeal.nD Cert.OutModRefIdeal.τ).loc Cert.OutModRefIdeal.main_arg4) = m ((c.tc : Thread Cert.OutModRefIdeal.nD Cert.OutModRefIdeal.τ).loc Cert.OutModRefIdeal.main_arg4)
      ∧ r.2.mem ((c.tc : Thread Cert.OutModRefIdeal.nD Cert.OutModRefIdeal.τ).loc Cert.OutModRefIdeal.main_arg5) = m ((c.tc : Thread Cert.OutModRefIdeal.nD Cert.OutModRefIdeal.τ).loc Cert.OutModRefIdeal.main_arg5)
      ∧ r.2.mem ((c.tc : Thread Cert.OutModRefIdeal.nD Cert.OutModRefIdeal.τ).loc Cert.OutModRefIdeal.main_arg6) = m ((c.tc : Thread Cert.OutModRefIdeal.nD Cert.OutModRefIdeal.τ).loc Cert.OutModRefIdeal.main_arg6))
      ∧ r.2.sem = fun _ => 0)

def quiescent_DownMod [hDownMod : Cert.DownMod.Facts] : Prop :=
  ∀ (m : (ℓ : Loc Cert.DownMod.nD Cert.DownMod.τ Cert.DownMod.sig) → Buf (Elt Bits) ℓ) (g : Dev Cert.DownMod.nD → PrngReg), Pre_DownMod m →
    θ_run (Cert.DownMod.defs (F := Bits)) (onTc (τ := Cert.DownMod.τ) (Cert.DownMod.main (F := Bits))) ⟨m, fun _ => 0, g⟩ (fun r => (∀ c : Dev Cert.DownMod.nD,
      r.2.mem ((c.tc : Thread Cert.DownMod.nD Cert.DownMod.τ).loc Cert.DownMod.main_arg0) = m ((c.tc : Thread Cert.DownMod.nD Cert.DownMod.τ).loc Cert.DownMod.main_arg0)
      ∧ r.2.mem ((c.tc : Thread Cert.DownMod.nD Cert.DownMod.τ).loc Cert.DownMod.main_arg1) = m ((c.tc : Thread Cert.DownMod.nD Cert.DownMod.τ).loc Cert.DownMod.main_arg1)
      ∧ r.2.mem ((c.tc : Thread Cert.DownMod.nD Cert.DownMod.τ).loc Cert.DownMod.main_arg2) = m ((c.tc : Thread Cert.DownMod.nD Cert.DownMod.τ).loc Cert.DownMod.main_arg2)
      ∧ r.2.mem ((c.tc : Thread Cert.DownMod.nD Cert.DownMod.τ).loc Cert.DownMod.main_arg3) = m ((c.tc : Thread Cert.DownMod.nD Cert.DownMod.τ).loc Cert.DownMod.main_arg3)
      ∧ r.2.mem ((c.tc : Thread Cert.DownMod.nD Cert.DownMod.τ).loc Cert.DownMod.main_arg4) = m ((c.tc : Thread Cert.DownMod.nD Cert.DownMod.τ).loc Cert.DownMod.main_arg4)
      ∧ r.2.mem ((c.tc : Thread Cert.DownMod.nD Cert.DownMod.τ).loc Cert.DownMod.main_arg5) = m ((c.tc : Thread Cert.DownMod.nD Cert.DownMod.τ).loc Cert.DownMod.main_arg5)
      ∧ r.2.mem ((c.tc : Thread Cert.DownMod.nD Cert.DownMod.τ).loc Cert.DownMod.main_arg6) = m ((c.tc : Thread Cert.DownMod.nD Cert.DownMod.τ).loc Cert.DownMod.main_arg6))
      ∧ r.2.sem = fun _ => 0)

def quiescent_DownModIdeal [hDownModIdeal : Cert.DownModIdeal.Facts] : Prop :=
  ∀ (m : (ℓ : Loc Cert.DownModIdeal.nD Cert.DownModIdeal.τ Cert.DownModIdeal.sig) → Buf (Elt Ideal) ℓ) (g : Dev Cert.DownModIdeal.nD → PrngReg), Pre_DownModIdeal m →
    θ_run (Cert.DownModIdeal.defs (F := Ideal)) (onTc (τ := Cert.DownModIdeal.τ) (Cert.DownModIdeal.main (F := Ideal))) ⟨m, fun _ => 0, g⟩ (fun r => (∀ c : Dev Cert.DownModIdeal.nD,
      r.2.mem ((c.tc : Thread Cert.DownModIdeal.nD Cert.DownModIdeal.τ).loc Cert.DownModIdeal.main_arg0) = m ((c.tc : Thread Cert.DownModIdeal.nD Cert.DownModIdeal.τ).loc Cert.DownModIdeal.main_arg0)
      ∧ r.2.mem ((c.tc : Thread Cert.DownModIdeal.nD Cert.DownModIdeal.τ).loc Cert.DownModIdeal.main_arg1) = m ((c.tc : Thread Cert.DownModIdeal.nD Cert.DownModIdeal.τ).loc Cert.DownModIdeal.main_arg1)
      ∧ r.2.mem ((c.tc : Thread Cert.DownModIdeal.nD Cert.DownModIdeal.τ).loc Cert.DownModIdeal.main_arg2) = m ((c.tc : Thread Cert.DownModIdeal.nD Cert.DownModIdeal.τ).loc Cert.DownModIdeal.main_arg2)
      ∧ r.2.mem ((c.tc : Thread Cert.DownModIdeal.nD Cert.DownModIdeal.τ).loc Cert.DownModIdeal.main_arg3) = m ((c.tc : Thread Cert.DownModIdeal.nD Cert.DownModIdeal.τ).loc Cert.DownModIdeal.main_arg3)
      ∧ r.2.mem ((c.tc : Thread Cert.DownModIdeal.nD Cert.DownModIdeal.τ).loc Cert.DownModIdeal.main_arg4) = m ((c.tc : Thread Cert.DownModIdeal.nD Cert.DownModIdeal.τ).loc Cert.DownModIdeal.main_arg4)
      ∧ r.2.mem ((c.tc : Thread Cert.DownModIdeal.nD Cert.DownModIdeal.τ).loc Cert.DownModIdeal.main_arg5) = m ((c.tc : Thread Cert.DownModIdeal.nD Cert.DownModIdeal.τ).loc Cert.DownModIdeal.main_arg5)
      ∧ r.2.mem ((c.tc : Thread Cert.DownModIdeal.nD Cert.DownModIdeal.τ).loc Cert.DownModIdeal.main_arg6) = m ((c.tc : Thread Cert.DownModIdeal.nD Cert.DownModIdeal.τ).loc Cert.DownModIdeal.main_arg6))
      ∧ r.2.sem = fun _ => 0)

def quiescent_DownModRefIdeal [hDownModRefIdeal : Cert.DownModRefIdeal.Facts] : Prop :=
  ∀ (m : (ℓ : Loc Cert.DownModRefIdeal.nD Cert.DownModRefIdeal.τ Cert.DownModRefIdeal.sig) → Buf (Elt Ideal) ℓ) (g : Dev Cert.DownModRefIdeal.nD → PrngReg), Pre_DownModRefIdeal m →
    θ_run (Cert.DownModRefIdeal.defs (F := Ideal)) (onTc (τ := Cert.DownModRefIdeal.τ) (Cert.DownModRefIdeal.main (F := Ideal))) ⟨m, fun _ => 0, g⟩ (fun r => (∀ c : Dev Cert.DownModRefIdeal.nD,
      r.2.mem ((c.tc : Thread Cert.DownModRefIdeal.nD Cert.DownModRefIdeal.τ).loc Cert.DownModRefIdeal.main_arg0) = m ((c.tc : Thread Cert.DownModRefIdeal.nD Cert.DownModRefIdeal.τ).loc Cert.DownModRefIdeal.main_arg0)
      ∧ r.2.mem ((c.tc : Thread Cert.DownModRefIdeal.nD Cert.DownModRefIdeal.τ).loc Cert.DownModRefIdeal.main_arg1) = m ((c.tc : Thread Cert.DownModRefIdeal.nD Cert.DownModRefIdeal.τ).loc Cert.DownModRefIdeal.main_arg1)
      ∧ r.2.mem ((c.tc : Thread Cert.DownModRefIdeal.nD Cert.DownModRefIdeal.τ).loc Cert.DownModRefIdeal.main_arg2) = m ((c.tc : Thread Cert.DownModRefIdeal.nD Cert.DownModRefIdeal.τ).loc Cert.DownModRefIdeal.main_arg2)
      ∧ r.2.mem ((c.tc : Thread Cert.DownModRefIdeal.nD Cert.DownModRefIdeal.τ).loc Cert.DownModRefIdeal.main_arg3) = m ((c.tc : Thread Cert.DownModRefIdeal.nD Cert.DownModRefIdeal.τ).loc Cert.DownModRefIdeal.main_arg3)
      ∧ r.2.mem ((c.tc : Thread Cert.DownModRefIdeal.nD Cert.DownModRefIdeal.τ).loc Cert.DownModRefIdeal.main_arg4) = m ((c.tc : Thread Cert.DownModRefIdeal.nD Cert.DownModRefIdeal.τ).loc Cert.DownModRefIdeal.main_arg4)
      ∧ r.2.mem ((c.tc : Thread Cert.DownModRefIdeal.nD Cert.DownModRefIdeal.τ).loc Cert.DownModRefIdeal.main_arg5) = m ((c.tc : Thread Cert.DownModRefIdeal.nD Cert.DownModRefIdeal.τ).loc Cert.DownModRefIdeal.main_arg5)
      ∧ r.2.mem ((c.tc : Thread Cert.DownModRefIdeal.nD Cert.DownModRefIdeal.τ).loc Cert.DownModRefIdeal.main_arg6) = m ((c.tc : Thread Cert.DownModRefIdeal.nD Cert.DownModRefIdeal.τ).loc Cert.DownModRefIdeal.main_arg6))
      ∧ r.2.sem = fun _ => 0)

def quiescent_ResModBwd [hResModBwd : Cert.ResModBwd.Facts] : Prop :=
  ∀ (m : (ℓ : Loc Cert.ResModBwd.nD Cert.ResModBwd.τ Cert.ResModBwd.sig) → Buf (Elt Bits) ℓ) (g : Dev Cert.ResModBwd.nD → PrngReg), Pre_ResModBwd m →
    θ_run (Cert.ResModBwd.defs (F := Bits)) (onTc (τ := Cert.ResModBwd.τ) (Cert.ResModBwd.main (F := Bits))) ⟨m, fun _ => 0, g⟩ (fun r => (∀ c : Dev Cert.ResModBwd.nD,
      r.2.mem ((c.tc : Thread Cert.ResModBwd.nD Cert.ResModBwd.τ).loc Cert.ResModBwd.main_arg0) = m ((c.tc : Thread Cert.ResModBwd.nD Cert.ResModBwd.τ).loc Cert.ResModBwd.main_arg0)
      ∧ r.2.mem ((c.tc : Thread Cert.ResModBwd.nD Cert.ResModBwd.τ).loc Cert.ResModBwd.main_arg1) = m ((c.tc : Thread Cert.ResModBwd.nD Cert.ResModBwd.τ).loc Cert.ResModBwd.main_arg1)
      ∧ r.2.mem ((c.tc : Thread Cert.ResModBwd.nD Cert.ResModBwd.τ).loc Cert.ResModBwd.main_arg2) = m ((c.tc : Thread Cert.ResModBwd.nD Cert.ResModBwd.τ).loc Cert.ResModBwd.main_arg2)
      ∧ r.2.mem ((c.tc : Thread Cert.ResModBwd.nD Cert.ResModBwd.τ).loc Cert.ResModBwd.main_arg3) = m ((c.tc : Thread Cert.ResModBwd.nD Cert.ResModBwd.τ).loc Cert.ResModBwd.main_arg3)
      ∧ r.2.mem ((c.tc : Thread Cert.ResModBwd.nD Cert.ResModBwd.τ).loc Cert.ResModBwd.main_arg4) = m ((c.tc : Thread Cert.ResModBwd.nD Cert.ResModBwd.τ).loc Cert.ResModBwd.main_arg4)
      ∧ r.2.mem ((c.tc : Thread Cert.ResModBwd.nD Cert.ResModBwd.τ).loc Cert.ResModBwd.main_arg5) = m ((c.tc : Thread Cert.ResModBwd.nD Cert.ResModBwd.τ).loc Cert.ResModBwd.main_arg5)
      ∧ r.2.mem ((c.tc : Thread Cert.ResModBwd.nD Cert.ResModBwd.τ).loc Cert.ResModBwd.main_arg6) = m ((c.tc : Thread Cert.ResModBwd.nD Cert.ResModBwd.τ).loc Cert.ResModBwd.main_arg6)
      ∧ r.2.mem ((c.tc : Thread Cert.ResModBwd.nD Cert.ResModBwd.τ).loc Cert.ResModBwd.main_arg7) = m ((c.tc : Thread Cert.ResModBwd.nD Cert.ResModBwd.τ).loc Cert.ResModBwd.main_arg7))
      ∧ r.2.sem = fun _ => 0)

def quiescent_ResModBwdIdeal [hResModBwdIdeal : Cert.ResModBwdIdeal.Facts] : Prop :=
  ∀ (m : (ℓ : Loc Cert.ResModBwdIdeal.nD Cert.ResModBwdIdeal.τ Cert.ResModBwdIdeal.sig) → Buf (Elt Ideal) ℓ) (g : Dev Cert.ResModBwdIdeal.nD → PrngReg), Pre_ResModBwdIdeal m →
    θ_run (Cert.ResModBwdIdeal.defs (F := Ideal)) (onTc (τ := Cert.ResModBwdIdeal.τ) (Cert.ResModBwdIdeal.main (F := Ideal))) ⟨m, fun _ => 0, g⟩ (fun r => (∀ c : Dev Cert.ResModBwdIdeal.nD,
      r.2.mem ((c.tc : Thread Cert.ResModBwdIdeal.nD Cert.ResModBwdIdeal.τ).loc Cert.ResModBwdIdeal.main_arg0) = m ((c.tc : Thread Cert.ResModBwdIdeal.nD Cert.ResModBwdIdeal.τ).loc Cert.ResModBwdIdeal.main_arg0)
      ∧ r.2.mem ((c.tc : Thread Cert.ResModBwdIdeal.nD Cert.ResModBwdIdeal.τ).loc Cert.ResModBwdIdeal.main_arg1) = m ((c.tc : Thread Cert.ResModBwdIdeal.nD Cert.ResModBwdIdeal.τ).loc Cert.ResModBwdIdeal.main_arg1)
      ∧ r.2.mem ((c.tc : Thread Cert.ResModBwdIdeal.nD Cert.ResModBwdIdeal.τ).loc Cert.ResModBwdIdeal.main_arg2) = m ((c.tc : Thread Cert.ResModBwdIdeal.nD Cert.ResModBwdIdeal.τ).loc Cert.ResModBwdIdeal.main_arg2)
      ∧ r.2.mem ((c.tc : Thread Cert.ResModBwdIdeal.nD Cert.ResModBwdIdeal.τ).loc Cert.ResModBwdIdeal.main_arg3) = m ((c.tc : Thread Cert.ResModBwdIdeal.nD Cert.ResModBwdIdeal.τ).loc Cert.ResModBwdIdeal.main_arg3)
      ∧ r.2.mem ((c.tc : Thread Cert.ResModBwdIdeal.nD Cert.ResModBwdIdeal.τ).loc Cert.ResModBwdIdeal.main_arg4) = m ((c.tc : Thread Cert.ResModBwdIdeal.nD Cert.ResModBwdIdeal.τ).loc Cert.ResModBwdIdeal.main_arg4)
      ∧ r.2.mem ((c.tc : Thread Cert.ResModBwdIdeal.nD Cert.ResModBwdIdeal.τ).loc Cert.ResModBwdIdeal.main_arg5) = m ((c.tc : Thread Cert.ResModBwdIdeal.nD Cert.ResModBwdIdeal.τ).loc Cert.ResModBwdIdeal.main_arg5)
      ∧ r.2.mem ((c.tc : Thread Cert.ResModBwdIdeal.nD Cert.ResModBwdIdeal.τ).loc Cert.ResModBwdIdeal.main_arg6) = m ((c.tc : Thread Cert.ResModBwdIdeal.nD Cert.ResModBwdIdeal.τ).loc Cert.ResModBwdIdeal.main_arg6)
      ∧ r.2.mem ((c.tc : Thread Cert.ResModBwdIdeal.nD Cert.ResModBwdIdeal.τ).loc Cert.ResModBwdIdeal.main_arg7) = m ((c.tc : Thread Cert.ResModBwdIdeal.nD Cert.ResModBwdIdeal.τ).loc Cert.ResModBwdIdeal.main_arg7))
      ∧ r.2.sem = fun _ => 0)

def quiescent_ResModBwdRefIdeal [hResModBwdRefIdeal : Cert.ResModBwdRefIdeal.Facts] : Prop :=
  ∀ (m : (ℓ : Loc Cert.ResModBwdRefIdeal.nD Cert.ResModBwdRefIdeal.τ Cert.ResModBwdRefIdeal.sig) → Buf (Elt Ideal) ℓ) (g : Dev Cert.ResModBwdRefIdeal.nD → PrngReg), Pre_ResModBwdRefIdeal m →
    θ_run (Cert.ResModBwdRefIdeal.defs (F := Ideal)) (onTc (τ := Cert.ResModBwdRefIdeal.τ) (Cert.ResModBwdRefIdeal.main (F := Ideal))) ⟨m, fun _ => 0, g⟩ (fun r => (∀ c : Dev Cert.ResModBwdRefIdeal.nD,
      r.2.mem ((c.tc : Thread Cert.ResModBwdRefIdeal.nD Cert.ResModBwdRefIdeal.τ).loc Cert.ResModBwdRefIdeal.main_arg0) = m ((c.tc : Thread Cert.ResModBwdRefIdeal.nD Cert.ResModBwdRefIdeal.τ).loc Cert.ResModBwdRefIdeal.main_arg0)
      ∧ r.2.mem ((c.tc : Thread Cert.ResModBwdRefIdeal.nD Cert.ResModBwdRefIdeal.τ).loc Cert.ResModBwdRefIdeal.main_arg1) = m ((c.tc : Thread Cert.ResModBwdRefIdeal.nD Cert.ResModBwdRefIdeal.τ).loc Cert.ResModBwdRefIdeal.main_arg1)
      ∧ r.2.mem ((c.tc : Thread Cert.ResModBwdRefIdeal.nD Cert.ResModBwdRefIdeal.τ).loc Cert.ResModBwdRefIdeal.main_arg2) = m ((c.tc : Thread Cert.ResModBwdRefIdeal.nD Cert.ResModBwdRefIdeal.τ).loc Cert.ResModBwdRefIdeal.main_arg2)
      ∧ r.2.mem ((c.tc : Thread Cert.ResModBwdRefIdeal.nD Cert.ResModBwdRefIdeal.τ).loc Cert.ResModBwdRefIdeal.main_arg3) = m ((c.tc : Thread Cert.ResModBwdRefIdeal.nD Cert.ResModBwdRefIdeal.τ).loc Cert.ResModBwdRefIdeal.main_arg3)
      ∧ r.2.mem ((c.tc : Thread Cert.ResModBwdRefIdeal.nD Cert.ResModBwdRefIdeal.τ).loc Cert.ResModBwdRefIdeal.main_arg4) = m ((c.tc : Thread Cert.ResModBwdRefIdeal.nD Cert.ResModBwdRefIdeal.τ).loc Cert.ResModBwdRefIdeal.main_arg4)
      ∧ r.2.mem ((c.tc : Thread Cert.ResModBwdRefIdeal.nD Cert.ResModBwdRefIdeal.τ).loc Cert.ResModBwdRefIdeal.main_arg5) = m ((c.tc : Thread Cert.ResModBwdRefIdeal.nD Cert.ResModBwdRefIdeal.τ).loc Cert.ResModBwdRefIdeal.main_arg5)
      ∧ r.2.mem ((c.tc : Thread Cert.ResModBwdRefIdeal.nD Cert.ResModBwdRefIdeal.τ).loc Cert.ResModBwdRefIdeal.main_arg6) = m ((c.tc : Thread Cert.ResModBwdRefIdeal.nD Cert.ResModBwdRefIdeal.τ).loc Cert.ResModBwdRefIdeal.main_arg6)
      ∧ r.2.mem ((c.tc : Thread Cert.ResModBwdRefIdeal.nD Cert.ResModBwdRefIdeal.τ).loc Cert.ResModBwdRefIdeal.main_arg7) = m ((c.tc : Thread Cert.ResModBwdRefIdeal.nD Cert.ResModBwdRefIdeal.τ).loc Cert.ResModBwdRefIdeal.main_arg7))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2)
      ∧ r.2.mem ((c.tc : Thread Cert.ModBwd.nD Cert.ModBwd.τ).loc Cert.ModBwd.main_arg3) = m ((c.tc : Thread Cert.ModBwd.nD Cert.ModBwd.τ).loc Cert.ModBwd.main_arg3)
      ∧ r.2.mem ((c.tc : Thread Cert.ModBwd.nD Cert.ModBwd.τ).loc Cert.ModBwd.main_arg4) = m ((c.tc : Thread Cert.ModBwd.nD Cert.ModBwd.τ).loc Cert.ModBwd.main_arg4)
      ∧ r.2.mem ((c.tc : Thread Cert.ModBwd.nD Cert.ModBwd.τ).loc Cert.ModBwd.main_arg5) = m ((c.tc : Thread Cert.ModBwd.nD Cert.ModBwd.τ).loc Cert.ModBwd.main_arg5))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
      ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3)
      ∧ r.2.mem ((c.tc : Thread Cert.ModBwdIdeal.nD Cert.ModBwdIdeal.τ).loc Cert.ModBwdIdeal.main_arg4) = m ((c.tc : Thread Cert.ModBwdIdeal.nD Cert.ModBwdIdeal.τ).loc Cert.ModBwdIdeal.main_arg4)
      ∧ r.2.mem ((c.tc : Thread Cert.ModBwdIdeal.nD Cert.ModBwdIdeal.τ).loc Cert.ModBwdIdeal.main_arg5) = m ((c.tc : Thread Cert.ModBwdIdeal.nD Cert.ModBwdIdeal.τ).loc Cert.ModBwdIdeal.main_arg5))
      ∧ r.2.sem = fun _ => 0)

def quiescent_ModBwdRefIdeal [hModBwdRefIdeal : Cert.ModBwdRefIdeal.Facts] : Prop :=
  ∀ (m : (ℓ : Loc Cert.ModBwdRefIdeal.nD Cert.ModBwdRefIdeal.τ Cert.ModBwdRefIdeal.sig) → Buf (Elt Ideal) ℓ) (g : Dev Cert.ModBwdRefIdeal.nD → PrngReg), Pre_ModBwdRefIdeal m →
    θ_run (Cert.ModBwdRefIdeal.defs (F := Ideal)) (onTc (τ := Cert.ModBwdRefIdeal.τ) (Cert.ModBwdRefIdeal.main (F := Ideal))) ⟨m, fun _ => 0, g⟩ (fun r => (∀ c : Dev Cert.ModBwdRefIdeal.nD,
      r.2.mem ((c.tc : Thread Cert.ModBwdRefIdeal.nD Cert.ModBwdRefIdeal.τ).loc Cert.ModBwdRefIdeal.main_arg0) = m ((c.tc : Thread Cert.ModBwdRefIdeal.nD Cert.ModBwdRefIdeal.τ).loc Cert.ModBwdRefIdeal.main_arg0)
      ∧ r.2.mem ((c.tc : Thread Cert.ModBwdRefIdeal.nD Cert.ModBwdRefIdeal.τ).loc Cert.ModBwdRefIdeal.main_arg1) = m ((c.tc : Thread Cert.ModBwdRefIdeal.nD Cert.ModBwdRefIdeal.τ).loc Cert.ModBwdRefIdeal.main_arg1)
      ∧ r.2.mem ((c.tc : Thread Cert.ModBwdRefIdeal.nD Cert.ModBwdRefIdeal.τ).loc Cert.ModBwdRefIdeal.main_arg2) = m ((c.tc : Thread Cert.ModBwdRefIdeal.nD Cert.ModBwdRefIdeal.τ).loc Cert.ModBwdRefIdeal.main_arg2)
      ∧ r.2.mem ((c.tc : Thread Cert.ModBwdRefIdeal.nD Cert.ModBwdRefIdeal.τ).loc Cert.ModBwdRefIdeal.main_arg3) = m ((c.tc : Thread Cert.ModBwdRefIdeal.nD Cert.ModBwdRefIdeal.τ).loc Cert.ModBwdRefIdeal.main_arg3)
      ∧ r.2.mem ((c.tc : Thread Cert.ModBwdRefIdeal.nD Cert.ModBwdRefIdeal.τ).loc Cert.ModBwdRefIdeal.main_arg4) = m ((c.tc : Thread Cert.ModBwdRefIdeal.nD Cert.ModBwdRefIdeal.τ).loc Cert.ModBwdRefIdeal.main_arg4)
      ∧ r.2.mem ((c.tc : Thread Cert.ModBwdRefIdeal.nD Cert.ModBwdRefIdeal.τ).loc Cert.ModBwdRefIdeal.main_arg5) = m ((c.tc : Thread Cert.ModBwdRefIdeal.nD Cert.ModBwdRefIdeal.τ).loc Cert.ModBwdRefIdeal.main_arg5))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v46) = v0 c
          ∧ r.2.mem ((c.tc : Thread Cert.FwdRefIdeal.nD Cert.FwdRefIdeal.τ).loc Cert.FwdRefIdeal.main_v48) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v10) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v1) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v10) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v6) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_ScIn_ScInIdeal : Prop :=
  True

def algebraic_ScInIdeal_ScInRefIdeal [hScInIdeal : Cert.ScInIdeal.Facts] [hScInRefIdeal : Cert.ScInRefIdeal.Facts] : Prop :=
  ∀ (m : (ℓ : Loc Cert.ScInIdeal.nD Cert.ScInIdeal.τ Cert.ScInIdeal.sig) → Buf (Elt Ideal) ℓ) (g : Dev Cert.ScInIdeal.nD → PrngReg)
    (m' : (ℓ : Loc Cert.ScInRefIdeal.nD Cert.ScInRefIdeal.τ Cert.ScInRefIdeal.sig) → Buf (Elt Ideal) ℓ) (g' : Dev Cert.ScInRefIdeal.nD → PrngReg), Pre_ScInIdeal m →
    (∀ c : Dev Cert.ScInIdeal.nD,
      m' ((c.tc : Thread Cert.ScInRefIdeal.nD Cert.ScInRefIdeal.τ).loc Cert.ScInRefIdeal.main_arg0) = m ((c.tc : Thread Cert.ScInIdeal.nD Cert.ScInIdeal.τ).loc Cert.ScInIdeal.main_arg0)
      ∧ m' ((c.tc : Thread Cert.ScInRefIdeal.nD Cert.ScInRefIdeal.τ).loc Cert.ScInRefIdeal.main_arg1) = m ((c.tc : Thread Cert.ScInIdeal.nD Cert.ScInIdeal.τ).loc Cert.ScInIdeal.main_arg1)) →
    ∃ (v0 : (c : Dev Cert.ScInIdeal.nD) → Buf (Elt Ideal) ((c.tc : Thread Cert.ScInIdeal.nD Cert.ScInIdeal.τ).loc Cert.ScInIdeal.main_v1)),
      θ_run (Cert.ScInIdeal.defs (F := Ideal)) (onTc (τ := Cert.ScInIdeal.τ) (Cert.ScInIdeal.main (F := Ideal))) ⟨m, fun _ => 0, g⟩ (fun r => ∀ c : Dev Cert.ScInIdeal.nD,
          r.2.mem ((c.tc : Thread Cert.ScInIdeal.nD Cert.ScInIdeal.τ).loc Cert.ScInIdeal.main_v1) = v0 c
          ∧ r.2.mem ((c.tc : Thread Cert.ScInIdeal.nD Cert.ScInIdeal.τ).loc Cert.ScInIdeal.main_arg0) = m ((c.tc : Thread Cert.ScInIdeal.nD Cert.ScInIdeal.τ).loc Cert.ScInIdeal.main_arg0)
          ∧ r.2.mem ((c.tc : Thread Cert.ScInIdeal.nD Cert.ScInIdeal.τ).loc Cert.ScInIdeal.main_arg1) = m ((c.tc : Thread Cert.ScInIdeal.nD Cert.ScInIdeal.τ).loc Cert.ScInIdeal.main_arg1))
      ∧ θ_run (Cert.ScInRefIdeal.defs (F := Ideal)) (onTc (τ := Cert.ScInRefIdeal.τ) (Cert.ScInRefIdeal.main (F := Ideal))) ⟨m', fun _ => 0, g'⟩ (fun r => ∀ c : Dev Cert.ScInRefIdeal.nD,
          r.2.mem ((c.tc : Thread Cert.ScInRefIdeal.nD Cert.ScInRefIdeal.τ).loc Cert.ScInRefIdeal.main_v5) = v0 c
          ∧ r.2.mem ((c.tc : Thread Cert.ScInRefIdeal.nD Cert.ScInRefIdeal.τ).loc Cert.ScInRefIdeal.main_arg0) = m' ((c.tc : Thread Cert.ScInRefIdeal.nD Cert.ScInRefIdeal.τ).loc Cert.ScInRefIdeal.main_arg0)
          ∧ r.2.mem ((c.tc : Thread Cert.ScInRefIdeal.nD Cert.ScInRefIdeal.τ).loc Cert.ScInRefIdeal.main_arg1) = m' ((c.tc : Thread Cert.ScInRefIdeal.nD Cert.ScInRefIdeal.τ).loc Cert.ScInRefIdeal.main_arg1))

def preserves_ScInDx_ScInDxIdeal : Prop :=
  True

def algebraic_ScInDxIdeal_ScInDxRefIdeal [hScInDxIdeal : Cert.ScInDxIdeal.Facts] [hScInDxRefIdeal : Cert.ScInDxRefIdeal.Facts] : Prop :=
  ∀ (m : (ℓ : Loc Cert.ScInDxIdeal.nD Cert.ScInDxIdeal.τ Cert.ScInDxIdeal.sig) → Buf (Elt Ideal) ℓ) (g : Dev Cert.ScInDxIdeal.nD → PrngReg)
    (m' : (ℓ : Loc Cert.ScInDxRefIdeal.nD Cert.ScInDxRefIdeal.τ Cert.ScInDxRefIdeal.sig) → Buf (Elt Ideal) ℓ) (g' : Dev Cert.ScInDxRefIdeal.nD → PrngReg), Pre_ScInDxIdeal m →
    (∀ c : Dev Cert.ScInDxIdeal.nD,
      m' ((c.tc : Thread Cert.ScInDxRefIdeal.nD Cert.ScInDxRefIdeal.τ).loc Cert.ScInDxRefIdeal.main_arg0) = m ((c.tc : Thread Cert.ScInDxIdeal.nD Cert.ScInDxIdeal.τ).loc Cert.ScInDxIdeal.main_arg0)
      ∧ m' ((c.tc : Thread Cert.ScInDxRefIdeal.nD Cert.ScInDxRefIdeal.τ).loc Cert.ScInDxRefIdeal.main_arg1) = m ((c.tc : Thread Cert.ScInDxIdeal.nD Cert.ScInDxIdeal.τ).loc Cert.ScInDxIdeal.main_arg1)) →
    ∃ (v0 : (c : Dev Cert.ScInDxIdeal.nD) → Buf (Elt Ideal) ((c.tc : Thread Cert.ScInDxIdeal.nD Cert.ScInDxIdeal.τ).loc Cert.ScInDxIdeal.main_v1)),
      θ_run (Cert.ScInDxIdeal.defs (F := Ideal)) (onTc (τ := Cert.ScInDxIdeal.τ) (Cert.ScInDxIdeal.main (F := Ideal))) ⟨m, fun _ => 0, g⟩ (fun r => ∀ c : Dev Cert.ScInDxIdeal.nD,
          r.2.mem ((c.tc : Thread Cert.ScInDxIdeal.nD Cert.ScInDxIdeal.τ).loc Cert.ScInDxIdeal.main_v1) = v0 c
          ∧ r.2.mem ((c.tc : Thread Cert.ScInDxIdeal.nD Cert.ScInDxIdeal.τ).loc Cert.ScInDxIdeal.main_arg0) = m ((c.tc : Thread Cert.ScInDxIdeal.nD Cert.ScInDxIdeal.τ).loc Cert.ScInDxIdeal.main_arg0)
          ∧ r.2.mem ((c.tc : Thread Cert.ScInDxIdeal.nD Cert.ScInDxIdeal.τ).loc Cert.ScInDxIdeal.main_arg1) = m ((c.tc : Thread Cert.ScInDxIdeal.nD Cert.ScInDxIdeal.τ).loc Cert.ScInDxIdeal.main_arg1))
      ∧ θ_run (Cert.ScInDxRefIdeal.defs (F := Ideal)) (onTc (τ := Cert.ScInDxRefIdeal.τ) (Cert.ScInDxRefIdeal.main (F := Ideal))) ⟨m', fun _ => 0, g'⟩ (fun r => ∀ c : Dev Cert.ScInDxRefIdeal.nD,
          r.2.mem ((c.tc : Thread Cert.ScInDxRefIdeal.nD Cert.ScInDxRefIdeal.τ).loc Cert.ScInDxRefIdeal.main_v8) = v0 c
          ∧ r.2.mem ((c.tc : Thread Cert.ScInDxRefIdeal.nD Cert.ScInDxRefIdeal.τ).loc Cert.ScInDxRefIdeal.main_arg0) = m' ((c.tc : Thread Cert.ScInDxRefIdeal.nD Cert.ScInDxRefIdeal.τ).loc Cert.ScInDxRefIdeal.main_arg0)
          ∧ r.2.mem ((c.tc : Thread Cert.ScInDxRefIdeal.nD Cert.ScInDxRefIdeal.τ).loc Cert.ScInDxRefIdeal.main_arg1) = m' ((c.tc : Thread Cert.ScInDxRefIdeal.nD Cert.ScInDxRefIdeal.τ).loc Cert.ScInDxRefIdeal.main_arg1))

def preserves_ScInDw_ScInDwIdeal : Prop :=
  True

def algebraic_ScInDwIdeal_ScInDwRefIdeal [hScInDwIdeal : Cert.ScInDwIdeal.Facts] [hScInDwRefIdeal : Cert.ScInDwRefIdeal.Facts] : Prop :=
  ∀ (m : (ℓ : Loc Cert.ScInDwIdeal.nD Cert.ScInDwIdeal.τ Cert.ScInDwIdeal.sig) → Buf (Elt Ideal) ℓ) (g : Dev Cert.ScInDwIdeal.nD → PrngReg)
    (m' : (ℓ : Loc Cert.ScInDwRefIdeal.nD Cert.ScInDwRefIdeal.τ Cert.ScInDwRefIdeal.sig) → Buf (Elt Ideal) ℓ) (g' : Dev Cert.ScInDwRefIdeal.nD → PrngReg), Pre_ScInDwIdeal m →
    (∀ c : Dev Cert.ScInDwIdeal.nD,
      m' ((c.tc : Thread Cert.ScInDwRefIdeal.nD Cert.ScInDwRefIdeal.τ).loc Cert.ScInDwRefIdeal.main_arg0) = m ((c.tc : Thread Cert.ScInDwIdeal.nD Cert.ScInDwIdeal.τ).loc Cert.ScInDwIdeal.main_arg0)
      ∧ m' ((c.tc : Thread Cert.ScInDwRefIdeal.nD Cert.ScInDwRefIdeal.τ).loc Cert.ScInDwRefIdeal.main_arg1) = m ((c.tc : Thread Cert.ScInDwIdeal.nD Cert.ScInDwIdeal.τ).loc Cert.ScInDwIdeal.main_arg1)) →
    ∃ (v0 : (c : Dev Cert.ScInDwIdeal.nD) → Buf (Elt Ideal) ((c.tc : Thread Cert.ScInDwIdeal.nD Cert.ScInDwIdeal.τ).loc Cert.ScInDwIdeal.main_v2)),
      θ_run (Cert.ScInDwIdeal.defs (F := Ideal)) (onTc (τ := Cert.ScInDwIdeal.τ) (Cert.ScInDwIdeal.main (F := Ideal))) ⟨m, fun _ => 0, g⟩ (fun r => ∀ c : Dev Cert.ScInDwIdeal.nD,
          r.2.mem ((c.tc : Thread Cert.ScInDwIdeal.nD Cert.ScInDwIdeal.τ).loc Cert.ScInDwIdeal.main_v2) = v0 c
          ∧ r.2.mem ((c.tc : Thread Cert.ScInDwIdeal.nD Cert.ScInDwIdeal.τ).loc Cert.ScInDwIdeal.main_arg0) = m ((c.tc : Thread Cert.ScInDwIdeal.nD Cert.ScInDwIdeal.τ).loc Cert.ScInDwIdeal.main_arg0)
          ∧ r.2.mem ((c.tc : Thread Cert.ScInDwIdeal.nD Cert.ScInDwIdeal.τ).loc Cert.ScInDwIdeal.main_arg1) = m ((c.tc : Thread Cert.ScInDwIdeal.nD Cert.ScInDwIdeal.τ).loc Cert.ScInDwIdeal.main_arg1))
      ∧ θ_run (Cert.ScInDwRefIdeal.defs (F := Ideal)) (onTc (τ := Cert.ScInDwRefIdeal.τ) (Cert.ScInDwRefIdeal.main (F := Ideal))) ⟨m', fun _ => 0, g'⟩ (fun r => ∀ c : Dev Cert.ScInDwRefIdeal.nD,
          r.2.mem ((c.tc : Thread Cert.ScInDwRefIdeal.nD Cert.ScInDwRefIdeal.τ).loc Cert.ScInDwRefIdeal.main_v8) = v0 c
          ∧ r.2.mem ((c.tc : Thread Cert.ScInDwRefIdeal.nD Cert.ScInDwRefIdeal.τ).loc Cert.ScInDwRefIdeal.main_arg0) = m' ((c.tc : Thread Cert.ScInDwRefIdeal.nD Cert.ScInDwRefIdeal.τ).loc Cert.ScInDwRefIdeal.main_arg0)
          ∧ r.2.mem ((c.tc : Thread Cert.ScInDwRefIdeal.nD Cert.ScInDwRefIdeal.τ).loc Cert.ScInDwRefIdeal.main_arg1) = m' ((c.tc : Thread Cert.ScInDwRefIdeal.nD Cert.ScInDwRefIdeal.τ).loc Cert.ScInDwRefIdeal.main_arg1))

def preserves_ScOutDx_ScOutDxIdeal : Prop :=
  True

def algebraic_ScOutDxIdeal_ScOutDxRefIdeal [hScOutDxIdeal : Cert.ScOutDxIdeal.Facts] [hScOutDxRefIdeal : Cert.ScOutDxRefIdeal.Facts] : Prop :=
  ∀ (m : (ℓ : Loc Cert.ScOutDxIdeal.nD Cert.ScOutDxIdeal.τ Cert.ScOutDxIdeal.sig) → Buf (Elt Ideal) ℓ) (g : Dev Cert.ScOutDxIdeal.nD → PrngReg)
    (m' : (ℓ : Loc Cert.ScOutDxRefIdeal.nD Cert.ScOutDxRefIdeal.τ Cert.ScOutDxRefIdeal.sig) → Buf (Elt Ideal) ℓ) (g' : Dev Cert.ScOutDxRefIdeal.nD → PrngReg), Pre_ScOutDxIdeal m →
    (∀ c : Dev Cert.ScOutDxIdeal.nD,
      m' ((c.tc : Thread Cert.ScOutDxRefIdeal.nD Cert.ScOutDxRefIdeal.τ).loc Cert.ScOutDxRefIdeal.main_arg0) = m ((c.tc : Thread Cert.ScOutDxIdeal.nD Cert.ScOutDxIdeal.τ).loc Cert.ScOutDxIdeal.main_arg0)
      ∧ m' ((c.tc : Thread Cert.ScOutDxRefIdeal.nD Cert.ScOutDxRefIdeal.τ).loc Cert.ScOutDxRefIdeal.main_arg1) = m ((c.tc : Thread Cert.ScOutDxIdeal.nD Cert.ScOutDxIdeal.τ).loc Cert.ScOutDxIdeal.main_arg1)) →
    ∃ (v0 : (c : Dev Cert.ScOutDxIdeal.nD) → Buf (Elt Ideal) ((c.tc : Thread Cert.ScOutDxIdeal.nD Cert.ScOutDxIdeal.τ).loc Cert.ScOutDxIdeal.main_v1)),
      θ_run (Cert.ScOutDxIdeal.defs (F := Ideal)) (onTc (τ := Cert.ScOutDxIdeal.τ) (Cert.ScOutDxIdeal.main (F := Ideal))) ⟨m, fun _ => 0, g⟩ (fun r => ∀ c : Dev Cert.ScOutDxIdeal.nD,
          r.2.mem ((c.tc : Thread Cert.ScOutDxIdeal.nD Cert.ScOutDxIdeal.τ).loc Cert.ScOutDxIdeal.main_v1) = v0 c
          ∧ r.2.mem ((c.tc : Thread Cert.ScOutDxIdeal.nD Cert.ScOutDxIdeal.τ).loc Cert.ScOutDxIdeal.main_arg0) = m ((c.tc : Thread Cert.ScOutDxIdeal.nD Cert.ScOutDxIdeal.τ).loc Cert.ScOutDxIdeal.main_arg0)
          ∧ r.2.mem ((c.tc : Thread Cert.ScOutDxIdeal.nD Cert.ScOutDxIdeal.τ).loc Cert.ScOutDxIdeal.main_arg1) = m ((c.tc : Thread Cert.ScOutDxIdeal.nD Cert.ScOutDxIdeal.τ).loc Cert.ScOutDxIdeal.main_arg1))
      ∧ θ_run (Cert.ScOutDxRefIdeal.defs (F := Ideal)) (onTc (τ := Cert.ScOutDxRefIdeal.τ) (Cert.ScOutDxRefIdeal.main (F := Ideal))) ⟨m', fun _ => 0, g'⟩ (fun r => ∀ c : Dev Cert.ScOutDxRefIdeal.nD,
          r.2.mem ((c.tc : Thread Cert.ScOutDxRefIdeal.nD Cert.ScOutDxRefIdeal.τ).loc Cert.ScOutDxRefIdeal.main_v6) = v0 c
          ∧ r.2.mem ((c.tc : Thread Cert.ScOutDxRefIdeal.nD Cert.ScOutDxRefIdeal.τ).loc Cert.ScOutDxRefIdeal.main_arg0) = m' ((c.tc : Thread Cert.ScOutDxRefIdeal.nD Cert.ScOutDxRefIdeal.τ).loc Cert.ScOutDxRefIdeal.main_arg0)
          ∧ r.2.mem ((c.tc : Thread Cert.ScOutDxRefIdeal.nD Cert.ScOutDxRefIdeal.τ).loc Cert.ScOutDxRefIdeal.main_arg1) = m' ((c.tc : Thread Cert.ScOutDxRefIdeal.nD Cert.ScOutDxRefIdeal.τ).loc Cert.ScOutDxRefIdeal.main_arg1))

def preserves_ScOutDw_ScOutDwIdeal : Prop :=
  True

def algebraic_ScOutDwIdeal_ScOutDwRefIdeal [hScOutDwIdeal : Cert.ScOutDwIdeal.Facts] [hScOutDwRefIdeal : Cert.ScOutDwRefIdeal.Facts] : Prop :=
  ∀ (m : (ℓ : Loc Cert.ScOutDwIdeal.nD Cert.ScOutDwIdeal.τ Cert.ScOutDwIdeal.sig) → Buf (Elt Ideal) ℓ) (g : Dev Cert.ScOutDwIdeal.nD → PrngReg)
    (m' : (ℓ : Loc Cert.ScOutDwRefIdeal.nD Cert.ScOutDwRefIdeal.τ Cert.ScOutDwRefIdeal.sig) → Buf (Elt Ideal) ℓ) (g' : Dev Cert.ScOutDwRefIdeal.nD → PrngReg), Pre_ScOutDwIdeal m →
    (∀ c : Dev Cert.ScOutDwIdeal.nD,
      m' ((c.tc : Thread Cert.ScOutDwRefIdeal.nD Cert.ScOutDwRefIdeal.τ).loc Cert.ScOutDwRefIdeal.main_arg0) = m ((c.tc : Thread Cert.ScOutDwIdeal.nD Cert.ScOutDwIdeal.τ).loc Cert.ScOutDwIdeal.main_arg0)
      ∧ m' ((c.tc : Thread Cert.ScOutDwRefIdeal.nD Cert.ScOutDwRefIdeal.τ).loc Cert.ScOutDwRefIdeal.main_arg1) = m ((c.tc : Thread Cert.ScOutDwIdeal.nD Cert.ScOutDwIdeal.τ).loc Cert.ScOutDwIdeal.main_arg1)) →
    ∃ (v0 : (c : Dev Cert.ScOutDwIdeal.nD) → Buf (Elt Ideal) ((c.tc : Thread Cert.ScOutDwIdeal.nD Cert.ScOutDwIdeal.τ).loc Cert.ScOutDwIdeal.main_v2)),
      θ_run (Cert.ScOutDwIdeal.defs (F := Ideal)) (onTc (τ := Cert.ScOutDwIdeal.τ) (Cert.ScOutDwIdeal.main (F := Ideal))) ⟨m, fun _ => 0, g⟩ (fun r => ∀ c : Dev Cert.ScOutDwIdeal.nD,
          r.2.mem ((c.tc : Thread Cert.ScOutDwIdeal.nD Cert.ScOutDwIdeal.τ).loc Cert.ScOutDwIdeal.main_v2) = v0 c
          ∧ r.2.mem ((c.tc : Thread Cert.ScOutDwIdeal.nD Cert.ScOutDwIdeal.τ).loc Cert.ScOutDwIdeal.main_arg0) = m ((c.tc : Thread Cert.ScOutDwIdeal.nD Cert.ScOutDwIdeal.τ).loc Cert.ScOutDwIdeal.main_arg0)
          ∧ r.2.mem ((c.tc : Thread Cert.ScOutDwIdeal.nD Cert.ScOutDwIdeal.τ).loc Cert.ScOutDwIdeal.main_arg1) = m ((c.tc : Thread Cert.ScOutDwIdeal.nD Cert.ScOutDwIdeal.τ).loc Cert.ScOutDwIdeal.main_arg1))
      ∧ θ_run (Cert.ScOutDwRefIdeal.defs (F := Ideal)) (onTc (τ := Cert.ScOutDwRefIdeal.τ) (Cert.ScOutDwRefIdeal.main (F := Ideal))) ⟨m', fun _ => 0, g'⟩ (fun r => ∀ c : Dev Cert.ScOutDwRefIdeal.nD,
          r.2.mem ((c.tc : Thread Cert.ScOutDwRefIdeal.nD Cert.ScOutDwRefIdeal.τ).loc Cert.ScOutDwRefIdeal.main_v6) = v0 c
          ∧ r.2.mem ((c.tc : Thread Cert.ScOutDwRefIdeal.nD Cert.ScOutDwRefIdeal.τ).loc Cert.ScOutDwRefIdeal.main_arg0) = m' ((c.tc : Thread Cert.ScOutDwRefIdeal.nD Cert.ScOutDwRefIdeal.τ).loc Cert.ScOutDwRefIdeal.main_arg0)
          ∧ r.2.mem ((c.tc : Thread Cert.ScOutDwRefIdeal.nD Cert.ScOutDwRefIdeal.τ).loc Cert.ScOutDwRefIdeal.main_arg1) = m' ((c.tc : Thread Cert.ScOutDwRefIdeal.nD Cert.ScOutDwRefIdeal.τ).loc Cert.ScOutDwRefIdeal.main_arg1))

def preserves_GlaIn_GlaInIdeal : Prop :=
  True

def algebraic_GlaInIdeal_GlaInRefIdeal [hGlaInIdeal : Cert.GlaInIdeal.Facts] [hGlaInRefIdeal : Cert.GlaInRefIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)) →
    ∃ (v0 : (c : Dev Cert.GlaInIdeal.nD) → Buf (Elt Ideal) ((c.tc : Thread Cert.GlaInIdeal.nD Cert.GlaInIdeal.τ).loc Cert.GlaInIdeal.main_v1)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v1) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v7) = v0 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1))

def preserves_GlaInDx_GlaInDxIdeal : Prop :=
  True

def algebraic_GlaInDxIdeal_GlaInDxRefIdeal [hGlaInDxIdeal : Cert.GlaInDxIdeal.Facts] [hGlaInDxRefIdeal : Cert.GlaInDxRefIdeal.Facts] : Prop :=
  ∀ (m : (ℓ : Loc Cert.GlaInDxIdeal.nD Cert.GlaInDxIdeal.τ Cert.GlaInDxIdeal.sig) → Buf (Elt Ideal) ℓ) (g : Dev Cert.GlaInDxIdeal.nD → PrngReg)
    (m' : (ℓ : Loc Cert.GlaInDxRefIdeal.nD Cert.GlaInDxRefIdeal.τ Cert.GlaInDxRefIdeal.sig) → Buf (Elt Ideal) ℓ) (g' : Dev Cert.GlaInDxRefIdeal.nD → PrngReg), Pre_GlaInDxIdeal m →
    (∀ c : Dev Cert.GlaInDxIdeal.nD,
      m' ((c.tc : Thread Cert.GlaInDxRefIdeal.nD Cert.GlaInDxRefIdeal.τ).loc Cert.GlaInDxRefIdeal.main_arg0) = m ((c.tc : Thread Cert.GlaInDxIdeal.nD Cert.GlaInDxIdeal.τ).loc Cert.GlaInDxIdeal.main_arg0)
      ∧ m' ((c.tc : Thread Cert.GlaInDxRefIdeal.nD Cert.GlaInDxRefIdeal.τ).loc Cert.GlaInDxRefIdeal.main_arg1) = m ((c.tc : Thread Cert.GlaInDxIdeal.nD Cert.GlaInDxIdeal.τ).loc Cert.GlaInDxIdeal.main_arg1)) →
    ∃ (v0 : (c : Dev Cert.GlaInDxIdeal.nD) → Buf (Elt Ideal) ((c.tc : Thread Cert.GlaInDxIdeal.nD Cert.GlaInDxIdeal.τ).loc Cert.GlaInDxIdeal.main_v1)),
      θ_run (Cert.GlaInDxIdeal.defs (F := Ideal)) (onTc (τ := Cert.GlaInDxIdeal.τ) (Cert.GlaInDxIdeal.main (F := Ideal))) ⟨m, fun _ => 0, g⟩ (fun r => ∀ c : Dev Cert.GlaInDxIdeal.nD,
          r.2.mem ((c.tc : Thread Cert.GlaInDxIdeal.nD Cert.GlaInDxIdeal.τ).loc Cert.GlaInDxIdeal.main_v1) = v0 c
          ∧ r.2.mem ((c.tc : Thread Cert.GlaInDxIdeal.nD Cert.GlaInDxIdeal.τ).loc Cert.GlaInDxIdeal.main_arg0) = m ((c.tc : Thread Cert.GlaInDxIdeal.nD Cert.GlaInDxIdeal.τ).loc Cert.GlaInDxIdeal.main_arg0)
          ∧ r.2.mem ((c.tc : Thread Cert.GlaInDxIdeal.nD Cert.GlaInDxIdeal.τ).loc Cert.GlaInDxIdeal.main_arg1) = m ((c.tc : Thread Cert.GlaInDxIdeal.nD Cert.GlaInDxIdeal.τ).loc Cert.GlaInDxIdeal.main_arg1))
      ∧ θ_run (Cert.GlaInDxRefIdeal.defs (F := Ideal)) (onTc (τ := Cert.GlaInDxRefIdeal.τ) (Cert.GlaInDxRefIdeal.main (F := Ideal))) ⟨m', fun _ => 0, g'⟩ (fun r => ∀ c : Dev Cert.GlaInDxRefIdeal.nD,
          r.2.mem ((c.tc : Thread Cert.GlaInDxRefIdeal.nD Cert.GlaInDxRefIdeal.τ).loc Cert.GlaInDxRefIdeal.main_v9) = v0 c
          ∧ r.2.mem ((c.tc : Thread Cert.GlaInDxRefIdeal.nD Cert.GlaInDxRefIdeal.τ).loc Cert.GlaInDxRefIdeal.main_arg0) = m' ((c.tc : Thread Cert.GlaInDxRefIdeal.nD Cert.GlaInDxRefIdeal.τ).loc Cert.GlaInDxRefIdeal.main_arg0)
          ∧ r.2.mem ((c.tc : Thread Cert.GlaInDxRefIdeal.nD Cert.GlaInDxRefIdeal.τ).loc Cert.GlaInDxRefIdeal.main_arg1) = m' ((c.tc : Thread Cert.GlaInDxRefIdeal.nD Cert.GlaInDxRefIdeal.τ).loc Cert.GlaInDxRefIdeal.main_arg1))

def preserves_GlaInDw_GlaInDwIdeal : Prop :=
  True

def algebraic_GlaInDwIdeal_GlaInDwRefIdeal [hGlaInDwIdeal : Cert.GlaInDwIdeal.Facts] [hGlaInDwRefIdeal : Cert.GlaInDwRefIdeal.Facts] : Prop :=
  ∀ (m : (ℓ : Loc Cert.GlaInDwIdeal.nD Cert.GlaInDwIdeal.τ Cert.GlaInDwIdeal.sig) → Buf (Elt Ideal) ℓ) (g : Dev Cert.GlaInDwIdeal.nD → PrngReg)
    (m' : (ℓ : Loc Cert.GlaInDwRefIdeal.nD Cert.GlaInDwRefIdeal.τ Cert.GlaInDwRefIdeal.sig) → Buf (Elt Ideal) ℓ) (g' : Dev Cert.GlaInDwRefIdeal.nD → PrngReg), Pre_GlaInDwIdeal m →
    (∀ c : Dev Cert.GlaInDwIdeal.nD,
      m' ((c.tc : Thread Cert.GlaInDwRefIdeal.nD Cert.GlaInDwRefIdeal.τ).loc Cert.GlaInDwRefIdeal.main_arg0) = m ((c.tc : Thread Cert.GlaInDwIdeal.nD Cert.GlaInDwIdeal.τ).loc Cert.GlaInDwIdeal.main_arg0)
      ∧ m' ((c.tc : Thread Cert.GlaInDwRefIdeal.nD Cert.GlaInDwRefIdeal.τ).loc Cert.GlaInDwRefIdeal.main_arg1) = m ((c.tc : Thread Cert.GlaInDwIdeal.nD Cert.GlaInDwIdeal.τ).loc Cert.GlaInDwIdeal.main_arg1)
      ∧ m' ((c.tc : Thread Cert.GlaInDwRefIdeal.nD Cert.GlaInDwRefIdeal.τ).loc Cert.GlaInDwRefIdeal.main_arg2) = m ((c.tc : Thread Cert.GlaInDwIdeal.nD Cert.GlaInDwIdeal.τ).loc Cert.GlaInDwIdeal.main_arg2)) →
    ∃ (v0 : (c : Dev Cert.GlaInDwIdeal.nD) → Buf (Elt Ideal) ((c.tc : Thread Cert.GlaInDwIdeal.nD Cert.GlaInDwIdeal.τ).loc Cert.GlaInDwIdeal.main_v2)),
      θ_run (Cert.GlaInDwIdeal.defs (F := Ideal)) (onTc (τ := Cert.GlaInDwIdeal.τ) (Cert.GlaInDwIdeal.main (F := Ideal))) ⟨m, fun _ => 0, g⟩ (fun r => ∀ c : Dev Cert.GlaInDwIdeal.nD,
          r.2.mem ((c.tc : Thread Cert.GlaInDwIdeal.nD Cert.GlaInDwIdeal.τ).loc Cert.GlaInDwIdeal.main_v2) = v0 c
          ∧ r.2.mem ((c.tc : Thread Cert.GlaInDwIdeal.nD Cert.GlaInDwIdeal.τ).loc Cert.GlaInDwIdeal.main_arg0) = m ((c.tc : Thread Cert.GlaInDwIdeal.nD Cert.GlaInDwIdeal.τ).loc Cert.GlaInDwIdeal.main_arg0)
          ∧ r.2.mem ((c.tc : Thread Cert.GlaInDwIdeal.nD Cert.GlaInDwIdeal.τ).loc Cert.GlaInDwIdeal.main_arg1) = m ((c.tc : Thread Cert.GlaInDwIdeal.nD Cert.GlaInDwIdeal.τ).loc Cert.GlaInDwIdeal.main_arg1)
          ∧ r.2.mem ((c.tc : Thread Cert.GlaInDwIdeal.nD Cert.GlaInDwIdeal.τ).loc Cert.GlaInDwIdeal.main_arg2) = m ((c.tc : Thread Cert.GlaInDwIdeal.nD Cert.GlaInDwIdeal.τ).loc Cert.GlaInDwIdeal.main_arg2))
      ∧ θ_run (Cert.GlaInDwRefIdeal.defs (F := Ideal)) (onTc (τ := Cert.GlaInDwRefIdeal.τ) (Cert.GlaInDwRefIdeal.main (F := Ideal))) ⟨m', fun _ => 0, g'⟩ (fun r => ∀ c : Dev Cert.GlaInDwRefIdeal.nD,
          r.2.mem ((c.tc : Thread Cert.GlaInDwRefIdeal.nD Cert.GlaInDwRefIdeal.τ).loc Cert.GlaInDwRefIdeal.main_v9) = v0 c
          ∧ r.2.mem ((c.tc : Thread Cert.GlaInDwRefIdeal.nD Cert.GlaInDwRefIdeal.τ).loc Cert.GlaInDwRefIdeal.main_arg0) = m' ((c.tc : Thread Cert.GlaInDwRefIdeal.nD Cert.GlaInDwRefIdeal.τ).loc Cert.GlaInDwRefIdeal.main_arg0)
          ∧ r.2.mem ((c.tc : Thread Cert.GlaInDwRefIdeal.nD Cert.GlaInDwRefIdeal.τ).loc Cert.GlaInDwRefIdeal.main_arg1) = m' ((c.tc : Thread Cert.GlaInDwRefIdeal.nD Cert.GlaInDwRefIdeal.τ).loc Cert.GlaInDwRefIdeal.main_arg1)
          ∧ r.2.mem ((c.tc : Thread Cert.GlaInDwRefIdeal.nD Cert.GlaInDwRefIdeal.τ).loc Cert.GlaInDwRefIdeal.main_arg2) = m' ((c.tc : Thread Cert.GlaInDwRefIdeal.nD Cert.GlaInDwRefIdeal.τ).loc Cert.GlaInDwRefIdeal.main_arg2))

def preserves_GlaOutDw_GlaOutDwIdeal : Prop :=
  True

def algebraic_GlaOutDwIdeal_GlaOutDwRefIdeal [hGlaOutDwIdeal : Cert.GlaOutDwIdeal.Facts] [hGlaOutDwRefIdeal : Cert.GlaOutDwRefIdeal.Facts] : Prop :=
  ∀ (m : (ℓ : Loc Cert.GlaOutDwIdeal.nD Cert.GlaOutDwIdeal.τ Cert.GlaOutDwIdeal.sig) → Buf (Elt Ideal) ℓ) (g : Dev Cert.GlaOutDwIdeal.nD → PrngReg)
    (m' : (ℓ : Loc Cert.GlaOutDwRefIdeal.nD Cert.GlaOutDwRefIdeal.τ Cert.GlaOutDwRefIdeal.sig) → Buf (Elt Ideal) ℓ) (g' : Dev Cert.GlaOutDwRefIdeal.nD → PrngReg), Pre_GlaOutDwIdeal m →
    (∀ c : Dev Cert.GlaOutDwIdeal.nD,
      m' ((c.tc : Thread Cert.GlaOutDwRefIdeal.nD Cert.GlaOutDwRefIdeal.τ).loc Cert.GlaOutDwRefIdeal.main_arg0) = m ((c.tc : Thread Cert.GlaOutDwIdeal.nD Cert.GlaOutDwIdeal.τ).loc Cert.GlaOutDwIdeal.main_arg0)
      ∧ m' ((c.tc : Thread Cert.GlaOutDwRefIdeal.nD Cert.GlaOutDwRefIdeal.τ).loc Cert.GlaOutDwRefIdeal.main_arg1) = m ((c.tc : Thread Cert.GlaOutDwIdeal.nD Cert.GlaOutDwIdeal.τ).loc Cert.GlaOutDwIdeal.main_arg1)
      ∧ m' ((c.tc : Thread Cert.GlaOutDwRefIdeal.nD Cert.GlaOutDwRefIdeal.τ).loc Cert.GlaOutDwRefIdeal.main_arg2) = m ((c.tc : Thread Cert.GlaOutDwIdeal.nD Cert.GlaOutDwIdeal.τ).loc Cert.GlaOutDwIdeal.main_arg2)) →
    ∃ (v0 : (c : Dev Cert.GlaOutDwIdeal.nD) → Buf (Elt Ideal) ((c.tc : Thread Cert.GlaOutDwIdeal.nD Cert.GlaOutDwIdeal.τ).loc Cert.GlaOutDwIdeal.main_v2)),
      θ_run (Cert.GlaOutDwIdeal.defs (F := Ideal)) (onTc (τ := Cert.GlaOutDwIdeal.τ) (Cert.GlaOutDwIdeal.main (F := Ideal))) ⟨m, fun _ => 0, g⟩ (fun r => ∀ c : Dev Cert.GlaOutDwIdeal.nD,
          r.2.mem ((c.tc : Thread Cert.GlaOutDwIdeal.nD Cert.GlaOutDwIdeal.τ).loc Cert.GlaOutDwIdeal.main_v2) = v0 c
          ∧ r.2.mem ((c.tc : Thread Cert.GlaOutDwIdeal.nD Cert.GlaOutDwIdeal.τ).loc Cert.GlaOutDwIdeal.main_arg0) = m ((c.tc : Thread Cert.GlaOutDwIdeal.nD Cert.GlaOutDwIdeal.τ).loc Cert.GlaOutDwIdeal.main_arg0)
          ∧ r.2.mem ((c.tc : Thread Cert.GlaOutDwIdeal.nD Cert.GlaOutDwIdeal.τ).loc Cert.GlaOutDwIdeal.main_arg1) = m ((c.tc : Thread Cert.GlaOutDwIdeal.nD Cert.GlaOutDwIdeal.τ).loc Cert.GlaOutDwIdeal.main_arg1)
          ∧ r.2.mem ((c.tc : Thread Cert.GlaOutDwIdeal.nD Cert.GlaOutDwIdeal.τ).loc Cert.GlaOutDwIdeal.main_arg2) = m ((c.tc : Thread Cert.GlaOutDwIdeal.nD Cert.GlaOutDwIdeal.τ).loc Cert.GlaOutDwIdeal.main_arg2))
      ∧ θ_run (Cert.GlaOutDwRefIdeal.defs (F := Ideal)) (onTc (τ := Cert.GlaOutDwRefIdeal.τ) (Cert.GlaOutDwRefIdeal.main (F := Ideal))) ⟨m', fun _ => 0, g'⟩ (fun r => ∀ c : Dev Cert.GlaOutDwRefIdeal.nD,
          r.2.mem ((c.tc : Thread Cert.GlaOutDwRefIdeal.nD Cert.GlaOutDwRefIdeal.τ).loc Cert.GlaOutDwRefIdeal.main_v6) = v0 c
          ∧ r.2.mem ((c.tc : Thread Cert.GlaOutDwRefIdeal.nD Cert.GlaOutDwRefIdeal.τ).loc Cert.GlaOutDwRefIdeal.main_arg0) = m' ((c.tc : Thread Cert.GlaOutDwRefIdeal.nD Cert.GlaOutDwRefIdeal.τ).loc Cert.GlaOutDwRefIdeal.main_arg0)
          ∧ r.2.mem ((c.tc : Thread Cert.GlaOutDwRefIdeal.nD Cert.GlaOutDwRefIdeal.τ).loc Cert.GlaOutDwRefIdeal.main_arg1) = m' ((c.tc : Thread Cert.GlaOutDwRefIdeal.nD Cert.GlaOutDwRefIdeal.τ).loc Cert.GlaOutDwRefIdeal.main_arg1)
          ∧ r.2.mem ((c.tc : Thread Cert.GlaOutDwRefIdeal.nD Cert.GlaOutDwRefIdeal.τ).loc Cert.GlaOutDwRefIdeal.main_arg2) = m' ((c.tc : Thread Cert.GlaOutDwRefIdeal.nD Cert.GlaOutDwRefIdeal.τ).loc Cert.GlaOutDwRefIdeal.main_arg2))

def preserves_OutMod_OutModIdeal : Prop :=
  True

def algebraic_OutModIdeal_OutModRefIdeal [hOutModIdeal : Cert.OutModIdeal.Facts] [hOutModRefIdeal : Cert.OutModRefIdeal.Facts] : Prop :=
  ∀ (m : (ℓ : Loc Cert.OutModIdeal.nD Cert.OutModIdeal.τ Cert.OutModIdeal.sig) → Buf (Elt Ideal) ℓ) (g : Dev Cert.OutModIdeal.nD → PrngReg)
    (m' : (ℓ : Loc Cert.OutModRefIdeal.nD Cert.OutModRefIdeal.τ Cert.OutModRefIdeal.sig) → Buf (Elt Ideal) ℓ) (g' : Dev Cert.OutModRefIdeal.nD → PrngReg), Pre_OutModIdeal m →
    (∀ c : Dev Cert.OutModIdeal.nD,
      m' ((c.tc : Thread Cert.OutModRefIdeal.nD Cert.OutModRefIdeal.τ).loc Cert.OutModRefIdeal.main_arg0) = m ((c.tc : Thread Cert.OutModIdeal.nD Cert.OutModIdeal.τ).loc Cert.OutModIdeal.main_arg0)
      ∧ m' ((c.tc : Thread Cert.OutModRefIdeal.nD Cert.OutModRefIdeal.τ).loc Cert.OutModRefIdeal.main_arg1) = m ((c.tc : Thread Cert.OutModIdeal.nD Cert.OutModIdeal.τ).loc Cert.OutModIdeal.main_arg1)
      ∧ m' ((c.tc : Thread Cert.OutModRefIdeal.nD Cert.OutModRefIdeal.τ).loc Cert.OutModRefIdeal.main_arg2) = m ((c.tc : Thread Cert.OutModIdeal.nD Cert.OutModIdeal.τ).loc Cert.OutModIdeal.main_arg2)
      ∧ m' ((c.tc : Thread Cert.OutModRefIdeal.nD Cert.OutModRefIdeal.τ).loc Cert.OutModRefIdeal.main_arg3) = m ((c.tc : Thread Cert.OutModIdeal.nD Cert.OutModIdeal.τ).loc Cert.OutModIdeal.main_arg3)
      ∧ m' ((c.tc : Thread Cert.OutModRefIdeal.nD Cert.OutModRefIdeal.τ).loc Cert.OutModRefIdeal.main_arg4) = m ((c.tc : Thread Cert.OutModIdeal.nD Cert.OutModIdeal.τ).loc Cert.OutModIdeal.main_arg4)
      ∧ m' ((c.tc : Thread Cert.OutModRefIdeal.nD Cert.OutModRefIdeal.τ).loc Cert.OutModRefIdeal.main_arg5) = m ((c.tc : Thread Cert.OutModIdeal.nD Cert.OutModIdeal.τ).loc Cert.OutModIdeal.main_arg5)
      ∧ m' ((c.tc : Thread Cert.OutModRefIdeal.nD Cert.OutModRefIdeal.τ).loc Cert.OutModRefIdeal.main_arg6) = m ((c.tc : Thread Cert.OutModIdeal.nD Cert.OutModIdeal.τ).loc Cert.OutModIdeal.main_arg6)) →
    ∃ (v0 : (c : Dev Cert.OutModIdeal.nD) → Buf (Elt Ideal) ((c.tc : Thread Cert.OutModIdeal.nD Cert.OutModIdeal.τ).loc Cert.OutModIdeal.main_v0_0)) (v1 : (c : Dev Cert.OutModIdeal.nD) → Buf (Elt Ideal) ((c.tc : Thread Cert.OutModIdeal.nD Cert.OutModIdeal.τ).loc Cert.OutModIdeal.main_v0_1)) (v2 : (c : Dev Cert.OutModIdeal.nD) → Buf (Elt Ideal) ((c.tc : Thread Cert.OutModIdeal.nD Cert.OutModIdeal.τ).loc Cert.OutModIdeal.main_v0_2)),
      θ_run (Cert.OutModIdeal.defs (F := Ideal)) (onTc (τ := Cert.OutModIdeal.τ) (Cert.OutModIdeal.main (F := Ideal))) ⟨m, fun _ => 0, g⟩ (fun r => ∀ c : Dev Cert.OutModIdeal.nD,
          r.2.mem ((c.tc : Thread Cert.OutModIdeal.nD Cert.OutModIdeal.τ).loc Cert.OutModIdeal.main_v0_0) = v0 c
          ∧ r.2.mem ((c.tc : Thread Cert.OutModIdeal.nD Cert.OutModIdeal.τ).loc Cert.OutModIdeal.main_v0_1) = v1 c
          ∧ r.2.mem ((c.tc : Thread Cert.OutModIdeal.nD Cert.OutModIdeal.τ).loc Cert.OutModIdeal.main_v0_2) = v2 c
          ∧ r.2.mem ((c.tc : Thread Cert.OutModIdeal.nD Cert.OutModIdeal.τ).loc Cert.OutModIdeal.main_arg0) = m ((c.tc : Thread Cert.OutModIdeal.nD Cert.OutModIdeal.τ).loc Cert.OutModIdeal.main_arg0)
          ∧ r.2.mem ((c.tc : Thread Cert.OutModIdeal.nD Cert.OutModIdeal.τ).loc Cert.OutModIdeal.main_arg1) = m ((c.tc : Thread Cert.OutModIdeal.nD Cert.OutModIdeal.τ).loc Cert.OutModIdeal.main_arg1)
          ∧ r.2.mem ((c.tc : Thread Cert.OutModIdeal.nD Cert.OutModIdeal.τ).loc Cert.OutModIdeal.main_arg2) = m ((c.tc : Thread Cert.OutModIdeal.nD Cert.OutModIdeal.τ).loc Cert.OutModIdeal.main_arg2)
          ∧ r.2.mem ((c.tc : Thread Cert.OutModIdeal.nD Cert.OutModIdeal.τ).loc Cert.OutModIdeal.main_arg3) = m ((c.tc : Thread Cert.OutModIdeal.nD Cert.OutModIdeal.τ).loc Cert.OutModIdeal.main_arg3)
          ∧ r.2.mem ((c.tc : Thread Cert.OutModIdeal.nD Cert.OutModIdeal.τ).loc Cert.OutModIdeal.main_arg4) = m ((c.tc : Thread Cert.OutModIdeal.nD Cert.OutModIdeal.τ).loc Cert.OutModIdeal.main_arg4)
          ∧ r.2.mem ((c.tc : Thread Cert.OutModIdeal.nD Cert.OutModIdeal.τ).loc Cert.OutModIdeal.main_arg5) = m ((c.tc : Thread Cert.OutModIdeal.nD Cert.OutModIdeal.τ).loc Cert.OutModIdeal.main_arg5)
          ∧ r.2.mem ((c.tc : Thread Cert.OutModIdeal.nD Cert.OutModIdeal.τ).loc Cert.OutModIdeal.main_arg6) = m ((c.tc : Thread Cert.OutModIdeal.nD Cert.OutModIdeal.τ).loc Cert.OutModIdeal.main_arg6))
      ∧ θ_run (Cert.OutModRefIdeal.defs (F := Ideal)) (onTc (τ := Cert.OutModRefIdeal.τ) (Cert.OutModRefIdeal.main (F := Ideal))) ⟨m', fun _ => 0, g'⟩ (fun r => ∀ c : Dev Cert.OutModRefIdeal.nD,
          r.2.mem ((c.tc : Thread Cert.OutModRefIdeal.nD Cert.OutModRefIdeal.τ).loc Cert.OutModRefIdeal.main_v6) = v0 c
          ∧ r.2.mem ((c.tc : Thread Cert.OutModRefIdeal.nD Cert.OutModRefIdeal.τ).loc Cert.OutModRefIdeal.main_v5) = v1 c
          ∧ r.2.mem ((c.tc : Thread Cert.OutModRefIdeal.nD Cert.OutModRefIdeal.τ).loc Cert.OutModRefIdeal.main_v26) = v2 c
          ∧ r.2.mem ((c.tc : Thread Cert.OutModRefIdeal.nD Cert.OutModRefIdeal.τ).loc Cert.OutModRefIdeal.main_arg0) = m' ((c.tc : Thread Cert.OutModRefIdeal.nD Cert.OutModRefIdeal.τ).loc Cert.OutModRefIdeal.main_arg0)
          ∧ r.2.mem ((c.tc : Thread Cert.OutModRefIdeal.nD Cert.OutModRefIdeal.τ).loc Cert.OutModRefIdeal.main_arg1) = m' ((c.tc : Thread Cert.OutModRefIdeal.nD Cert.OutModRefIdeal.τ).loc Cert.OutModRefIdeal.main_arg1)
          ∧ r.2.mem ((c.tc : Thread Cert.OutModRefIdeal.nD Cert.OutModRefIdeal.τ).loc Cert.OutModRefIdeal.main_arg2) = m' ((c.tc : Thread Cert.OutModRefIdeal.nD Cert.OutModRefIdeal.τ).loc Cert.OutModRefIdeal.main_arg2)
          ∧ r.2.mem ((c.tc : Thread Cert.OutModRefIdeal.nD Cert.OutModRefIdeal.τ).loc Cert.OutModRefIdeal.main_arg3) = m' ((c.tc : Thread Cert.OutModRefIdeal.nD Cert.OutModRefIdeal.τ).loc Cert.OutModRefIdeal.main_arg3)
          ∧ r.2.mem ((c.tc : Thread Cert.OutModRefIdeal.nD Cert.OutModRefIdeal.τ).loc Cert.OutModRefIdeal.main_arg4) = m' ((c.tc : Thread Cert.OutModRefIdeal.nD Cert.OutModRefIdeal.τ).loc Cert.OutModRefIdeal.main_arg4)
          ∧ r.2.mem ((c.tc : Thread Cert.OutModRefIdeal.nD Cert.OutModRefIdeal.τ).loc Cert.OutModRefIdeal.main_arg5) = m' ((c.tc : Thread Cert.OutModRefIdeal.nD Cert.OutModRefIdeal.τ).loc Cert.OutModRefIdeal.main_arg5)
          ∧ r.2.mem ((c.tc : Thread Cert.OutModRefIdeal.nD Cert.OutModRefIdeal.τ).loc Cert.OutModRefIdeal.main_arg6) = m' ((c.tc : Thread Cert.OutModRefIdeal.nD Cert.OutModRefIdeal.τ).loc Cert.OutModRefIdeal.main_arg6))

def preserves_DownMod_DownModIdeal : Prop :=
  True

def algebraic_DownModIdeal_DownModRefIdeal [hDownModIdeal : Cert.DownModIdeal.Facts] [hDownModRefIdeal : Cert.DownModRefIdeal.Facts] : Prop :=
  ∀ (m : (ℓ : Loc Cert.DownModIdeal.nD Cert.DownModIdeal.τ Cert.DownModIdeal.sig) → Buf (Elt Ideal) ℓ) (g : Dev Cert.DownModIdeal.nD → PrngReg)
    (m' : (ℓ : Loc Cert.DownModRefIdeal.nD Cert.DownModRefIdeal.τ Cert.DownModRefIdeal.sig) → Buf (Elt Ideal) ℓ) (g' : Dev Cert.DownModRefIdeal.nD → PrngReg), Pre_DownModIdeal m →
    (∀ c : Dev Cert.DownModIdeal.nD,
      m' ((c.tc : Thread Cert.DownModRefIdeal.nD Cert.DownModRefIdeal.τ).loc Cert.DownModRefIdeal.main_arg0) = m ((c.tc : Thread Cert.DownModIdeal.nD Cert.DownModIdeal.τ).loc Cert.DownModIdeal.main_arg0)
      ∧ m' ((c.tc : Thread Cert.DownModRefIdeal.nD Cert.DownModRefIdeal.τ).loc Cert.DownModRefIdeal.main_arg1) = m ((c.tc : Thread Cert.DownModIdeal.nD Cert.DownModIdeal.τ).loc Cert.DownModIdeal.main_arg1)
      ∧ m' ((c.tc : Thread Cert.DownModRefIdeal.nD Cert.DownModRefIdeal.τ).loc Cert.DownModRefIdeal.main_arg2) = m ((c.tc : Thread Cert.DownModIdeal.nD Cert.DownModIdeal.τ).loc Cert.DownModIdeal.main_arg2)
      ∧ m' ((c.tc : Thread Cert.DownModRefIdeal.nD Cert.DownModRefIdeal.τ).loc Cert.DownModRefIdeal.main_arg3) = m ((c.tc : Thread Cert.DownModIdeal.nD Cert.DownModIdeal.τ).loc Cert.DownModIdeal.main_arg3)
      ∧ m' ((c.tc : Thread Cert.DownModRefIdeal.nD Cert.DownModRefIdeal.τ).loc Cert.DownModRefIdeal.main_arg4) = m ((c.tc : Thread Cert.DownModIdeal.nD Cert.DownModIdeal.τ).loc Cert.DownModIdeal.main_arg4)
      ∧ m' ((c.tc : Thread Cert.DownModRefIdeal.nD Cert.DownModRefIdeal.τ).loc Cert.DownModRefIdeal.main_arg5) = m ((c.tc : Thread Cert.DownModIdeal.nD Cert.DownModIdeal.τ).loc Cert.DownModIdeal.main_arg5)
      ∧ m' ((c.tc : Thread Cert.DownModRefIdeal.nD Cert.DownModRefIdeal.τ).loc Cert.DownModRefIdeal.main_arg6) = m ((c.tc : Thread Cert.DownModIdeal.nD Cert.DownModIdeal.τ).loc Cert.DownModIdeal.main_arg6)) →
    ∃ (v0 : (c : Dev Cert.DownModIdeal.nD) → Buf (Elt Ideal) ((c.tc : Thread Cert.DownModIdeal.nD Cert.DownModIdeal.τ).loc Cert.DownModIdeal.main_v0_0)) (v1 : (c : Dev Cert.DownModIdeal.nD) → Buf (Elt Ideal) ((c.tc : Thread Cert.DownModIdeal.nD Cert.DownModIdeal.τ).loc Cert.DownModIdeal.main_v0_1)) (v2 : (c : Dev Cert.DownModIdeal.nD) → Buf (Elt Ideal) ((c.tc : Thread Cert.DownModIdeal.nD Cert.DownModIdeal.τ).loc Cert.DownModIdeal.main_v0_2)),
      θ_run (Cert.DownModIdeal.defs (F := Ideal)) (onTc (τ := Cert.DownModIdeal.τ) (Cert.DownModIdeal.main (F := Ideal))) ⟨m, fun _ => 0, g⟩ (fun r => ∀ c : Dev Cert.DownModIdeal.nD,
          r.2.mem ((c.tc : Thread Cert.DownModIdeal.nD Cert.DownModIdeal.τ).loc Cert.DownModIdeal.main_v0_0) = v0 c
          ∧ r.2.mem ((c.tc : Thread Cert.DownModIdeal.nD Cert.DownModIdeal.τ).loc Cert.DownModIdeal.main_v0_1) = v1 c
          ∧ r.2.mem ((c.tc : Thread Cert.DownModIdeal.nD Cert.DownModIdeal.τ).loc Cert.DownModIdeal.main_v0_2) = v2 c
          ∧ r.2.mem ((c.tc : Thread Cert.DownModIdeal.nD Cert.DownModIdeal.τ).loc Cert.DownModIdeal.main_arg0) = m ((c.tc : Thread Cert.DownModIdeal.nD Cert.DownModIdeal.τ).loc Cert.DownModIdeal.main_arg0)
          ∧ r.2.mem ((c.tc : Thread Cert.DownModIdeal.nD Cert.DownModIdeal.τ).loc Cert.DownModIdeal.main_arg1) = m ((c.tc : Thread Cert.DownModIdeal.nD Cert.DownModIdeal.τ).loc Cert.DownModIdeal.main_arg1)
          ∧ r.2.mem ((c.tc : Thread Cert.DownModIdeal.nD Cert.DownModIdeal.τ).loc Cert.DownModIdeal.main_arg2) = m ((c.tc : Thread Cert.DownModIdeal.nD Cert.DownModIdeal.τ).loc Cert.DownModIdeal.main_arg2)
          ∧ r.2.mem ((c.tc : Thread Cert.DownModIdeal.nD Cert.DownModIdeal.τ).loc Cert.DownModIdeal.main_arg3) = m ((c.tc : Thread Cert.DownModIdeal.nD Cert.DownModIdeal.τ).loc Cert.DownModIdeal.main_arg3)
          ∧ r.2.mem ((c.tc : Thread Cert.DownModIdeal.nD Cert.DownModIdeal.τ).loc Cert.DownModIdeal.main_arg4) = m ((c.tc : Thread Cert.DownModIdeal.nD Cert.DownModIdeal.τ).loc Cert.DownModIdeal.main_arg4)
          ∧ r.2.mem ((c.tc : Thread Cert.DownModIdeal.nD Cert.DownModIdeal.τ).loc Cert.DownModIdeal.main_arg5) = m ((c.tc : Thread Cert.DownModIdeal.nD Cert.DownModIdeal.τ).loc Cert.DownModIdeal.main_arg5)
          ∧ r.2.mem ((c.tc : Thread Cert.DownModIdeal.nD Cert.DownModIdeal.τ).loc Cert.DownModIdeal.main_arg6) = m ((c.tc : Thread Cert.DownModIdeal.nD Cert.DownModIdeal.τ).loc Cert.DownModIdeal.main_arg6))
      ∧ θ_run (Cert.DownModRefIdeal.defs (F := Ideal)) (onTc (τ := Cert.DownModRefIdeal.τ) (Cert.DownModRefIdeal.main (F := Ideal))) ⟨m', fun _ => 0, g'⟩ (fun r => ∀ c : Dev Cert.DownModRefIdeal.nD,
          r.2.mem ((c.tc : Thread Cert.DownModRefIdeal.nD Cert.DownModRefIdeal.τ).loc Cert.DownModRefIdeal.main_v6) = v0 c
          ∧ r.2.mem ((c.tc : Thread Cert.DownModRefIdeal.nD Cert.DownModRefIdeal.τ).loc Cert.DownModRefIdeal.main_v5) = v1 c
          ∧ r.2.mem ((c.tc : Thread Cert.DownModRefIdeal.nD Cert.DownModRefIdeal.τ).loc Cert.DownModRefIdeal.main_v26) = v2 c
          ∧ r.2.mem ((c.tc : Thread Cert.DownModRefIdeal.nD Cert.DownModRefIdeal.τ).loc Cert.DownModRefIdeal.main_arg0) = m' ((c.tc : Thread Cert.DownModRefIdeal.nD Cert.DownModRefIdeal.τ).loc Cert.DownModRefIdeal.main_arg0)
          ∧ r.2.mem ((c.tc : Thread Cert.DownModRefIdeal.nD Cert.DownModRefIdeal.τ).loc Cert.DownModRefIdeal.main_arg1) = m' ((c.tc : Thread Cert.DownModRefIdeal.nD Cert.DownModRefIdeal.τ).loc Cert.DownModRefIdeal.main_arg1)
          ∧ r.2.mem ((c.tc : Thread Cert.DownModRefIdeal.nD Cert.DownModRefIdeal.τ).loc Cert.DownModRefIdeal.main_arg2) = m' ((c.tc : Thread Cert.DownModRefIdeal.nD Cert.DownModRefIdeal.τ).loc Cert.DownModRefIdeal.main_arg2)
          ∧ r.2.mem ((c.tc : Thread Cert.DownModRefIdeal.nD Cert.DownModRefIdeal.τ).loc Cert.DownModRefIdeal.main_arg3) = m' ((c.tc : Thread Cert.DownModRefIdeal.nD Cert.DownModRefIdeal.τ).loc Cert.DownModRefIdeal.main_arg3)
          ∧ r.2.mem ((c.tc : Thread Cert.DownModRefIdeal.nD Cert.DownModRefIdeal.τ).loc Cert.DownModRefIdeal.main_arg4) = m' ((c.tc : Thread Cert.DownModRefIdeal.nD Cert.DownModRefIdeal.τ).loc Cert.DownModRefIdeal.main_arg4)
          ∧ r.2.mem ((c.tc : Thread Cert.DownModRefIdeal.nD Cert.DownModRefIdeal.τ).loc Cert.DownModRefIdeal.main_arg5) = m' ((c.tc : Thread Cert.DownModRefIdeal.nD Cert.DownModRefIdeal.τ).loc Cert.DownModRefIdeal.main_arg5)
          ∧ r.2.mem ((c.tc : Thread Cert.DownModRefIdeal.nD Cert.DownModRefIdeal.τ).loc Cert.DownModRefIdeal.main_arg6) = m' ((c.tc : Thread Cert.DownModRefIdeal.nD Cert.DownModRefIdeal.τ).loc Cert.DownModRefIdeal.main_arg6))

def preserves_ResModBwd_ResModBwdIdeal : Prop :=
  True

def algebraic_ResModBwdIdeal_ResModBwdRefIdeal [hResModBwdIdeal : Cert.ResModBwdIdeal.Facts] [hResModBwdRefIdeal : Cert.ResModBwdRefIdeal.Facts] : Prop :=
  ∀ (m : (ℓ : Loc Cert.ResModBwdIdeal.nD Cert.ResModBwdIdeal.τ Cert.ResModBwdIdeal.sig) → Buf (Elt Ideal) ℓ) (g : Dev Cert.ResModBwdIdeal.nD → PrngReg)
    (m' : (ℓ : Loc Cert.ResModBwdRefIdeal.nD Cert.ResModBwdRefIdeal.τ Cert.ResModBwdRefIdeal.sig) → Buf (Elt Ideal) ℓ) (g' : Dev Cert.ResModBwdRefIdeal.nD → PrngReg), Pre_ResModBwdIdeal m →
    (∀ c : Dev Cert.ResModBwdIdeal.nD,
      m' ((c.tc : Thread Cert.ResModBwdRefIdeal.nD Cert.ResModBwdRefIdeal.τ).loc Cert.ResModBwdRefIdeal.main_arg0) = m ((c.tc : Thread Cert.ResModBwdIdeal.nD Cert.ResModBwdIdeal.τ).loc Cert.ResModBwdIdeal.main_arg0)
      ∧ m' ((c.tc : Thread Cert.ResModBwdRefIdeal.nD Cert.ResModBwdRefIdeal.τ).loc Cert.ResModBwdRefIdeal.main_arg1) = m ((c.tc : Thread Cert.ResModBwdIdeal.nD Cert.ResModBwdIdeal.τ).loc Cert.ResModBwdIdeal.main_arg1)
      ∧ m' ((c.tc : Thread Cert.ResModBwdRefIdeal.nD Cert.ResModBwdRefIdeal.τ).loc Cert.ResModBwdRefIdeal.main_arg2) = m ((c.tc : Thread Cert.ResModBwdIdeal.nD Cert.ResModBwdIdeal.τ).loc Cert.ResModBwdIdeal.main_arg2)
      ∧ m' ((c.tc : Thread Cert.ResModBwdRefIdeal.nD Cert.ResModBwdRefIdeal.τ).loc Cert.ResModBwdRefIdeal.main_arg3) = m ((c.tc : Thread Cert.ResModBwdIdeal.nD Cert.ResModBwdIdeal.τ).loc Cert.ResModBwdIdeal.main_arg3)
      ∧ m' ((c.tc : Thread Cert.ResModBwdRefIdeal.nD Cert.ResModBwdRefIdeal.τ).loc Cert.ResModBwdRefIdeal.main_arg4) = m ((c.tc : Thread Cert.ResModBwdIdeal.nD Cert.ResModBwdIdeal.τ).loc Cert.ResModBwdIdeal.main_arg4)
      ∧ m' ((c.tc : Thread Cert.ResModBwdRefIdeal.nD Cert.ResModBwdRefIdeal.τ).loc Cert.ResModBwdRefIdeal.main_arg5) = m ((c.tc : Thread Cert.ResModBwdIdeal.nD Cert.ResModBwdIdeal.τ).loc Cert.ResModBwdIdeal.main_arg5)
      ∧ m' ((c.tc : Thread Cert.ResModBwdRefIdeal.nD Cert.ResModBwdRefIdeal.τ).loc Cert.ResModBwdRefIdeal.main_arg6) = m ((c.tc : Thread Cert.ResModBwdIdeal.nD Cert.ResModBwdIdeal.τ).loc Cert.ResModBwdIdeal.main_arg6)
      ∧ m' ((c.tc : Thread Cert.ResModBwdRefIdeal.nD Cert.ResModBwdRefIdeal.τ).loc Cert.ResModBwdRefIdeal.main_arg7) = m ((c.tc : Thread Cert.ResModBwdIdeal.nD Cert.ResModBwdIdeal.τ).loc Cert.ResModBwdIdeal.main_arg7)) →
    ∃ (v0 : (c : Dev Cert.ResModBwdIdeal.nD) → Buf (Elt Ideal) ((c.tc : Thread Cert.ResModBwdIdeal.nD Cert.ResModBwdIdeal.τ).loc Cert.ResModBwdIdeal.main_v0_0)) (v1 : (c : Dev Cert.ResModBwdIdeal.nD) → Buf (Elt Ideal) ((c.tc : Thread Cert.ResModBwdIdeal.nD Cert.ResModBwdIdeal.τ).loc Cert.ResModBwdIdeal.main_v0_1)) (v2 : (c : Dev Cert.ResModBwdIdeal.nD) → Buf (Elt Ideal) ((c.tc : Thread Cert.ResModBwdIdeal.nD Cert.ResModBwdIdeal.τ).loc Cert.ResModBwdIdeal.main_v0_2)) (v3 : (c : Dev Cert.ResModBwdIdeal.nD) → Buf (Elt Ideal) ((c.tc : Thread Cert.ResModBwdIdeal.nD Cert.ResModBwdIdeal.τ).loc Cert.ResModBwdIdeal.main_v0_3)) (v4 : (c : Dev Cert.ResModBwdIdeal.nD) → Buf (Elt Ideal) ((c.tc : Thread Cert.ResModBwdIdeal.nD Cert.ResModBwdIdeal.τ).loc Cert.ResModBwdIdeal.main_v0_4)) (v5 : (c : Dev Cert.ResModBwdIdeal.nD) → Buf (Elt Ideal) ((c.tc : Thread Cert.ResModBwdIdeal.nD Cert.ResModBwdIdeal.τ).loc Cert.ResModBwdIdeal.main_v0_5)),
      θ_run (Cert.ResModBwdIdeal.defs (F := Ideal)) (onTc (τ := Cert.ResModBwdIdeal.τ) (Cert.ResModBwdIdeal.main (F := Ideal))) ⟨m, fun _ => 0, g⟩ (fun r => ∀ c : Dev Cert.ResModBwdIdeal.nD,
          r.2.mem ((c.tc : Thread Cert.ResModBwdIdeal.nD Cert.ResModBwdIdeal.τ).loc Cert.ResModBwdIdeal.main_v0_0) = v0 c
          ∧ r.2.mem ((c.tc : Thread Cert.ResModBwdIdeal.nD Cert.ResModBwdIdeal.τ).loc Cert.ResModBwdIdeal.main_v0_1) = v1 c
          ∧ r.2.mem ((c.tc : Thread Cert.ResModBwdIdeal.nD Cert.ResModBwdIdeal.τ).loc Cert.ResModBwdIdeal.main_v0_2) = v2 c
          ∧ r.2.mem ((c.tc : Thread Cert.ResModBwdIdeal.nD Cert.ResModBwdIdeal.τ).loc Cert.ResModBwdIdeal.main_v0_3) = v3 c
          ∧ r.2.mem ((c.tc : Thread Cert.ResModBwdIdeal.nD Cert.ResModBwdIdeal.τ).loc Cert.ResModBwdIdeal.main_v0_4) = v4 c
          ∧ r.2.mem ((c.tc : Thread Cert.ResModBwdIdeal.nD Cert.ResModBwdIdeal.τ).loc Cert.ResModBwdIdeal.main_v0_5) = v5 c
          ∧ r.2.mem ((c.tc : Thread Cert.ResModBwdIdeal.nD Cert.ResModBwdIdeal.τ).loc Cert.ResModBwdIdeal.main_arg0) = m ((c.tc : Thread Cert.ResModBwdIdeal.nD Cert.ResModBwdIdeal.τ).loc Cert.ResModBwdIdeal.main_arg0)
          ∧ r.2.mem ((c.tc : Thread Cert.ResModBwdIdeal.nD Cert.ResModBwdIdeal.τ).loc Cert.ResModBwdIdeal.main_arg1) = m ((c.tc : Thread Cert.ResModBwdIdeal.nD Cert.ResModBwdIdeal.τ).loc Cert.ResModBwdIdeal.main_arg1)
          ∧ r.2.mem ((c.tc : Thread Cert.ResModBwdIdeal.nD Cert.ResModBwdIdeal.τ).loc Cert.ResModBwdIdeal.main_arg2) = m ((c.tc : Thread Cert.ResModBwdIdeal.nD Cert.ResModBwdIdeal.τ).loc Cert.ResModBwdIdeal.main_arg2)
          ∧ r.2.mem ((c.tc : Thread Cert.ResModBwdIdeal.nD Cert.ResModBwdIdeal.τ).loc Cert.ResModBwdIdeal.main_arg3) = m ((c.tc : Thread Cert.ResModBwdIdeal.nD Cert.ResModBwdIdeal.τ).loc Cert.ResModBwdIdeal.main_arg3)
          ∧ r.2.mem ((c.tc : Thread Cert.ResModBwdIdeal.nD Cert.ResModBwdIdeal.τ).loc Cert.ResModBwdIdeal.main_arg4) = m ((c.tc : Thread Cert.ResModBwdIdeal.nD Cert.ResModBwdIdeal.τ).loc Cert.ResModBwdIdeal.main_arg4)
          ∧ r.2.mem ((c.tc : Thread Cert.ResModBwdIdeal.nD Cert.ResModBwdIdeal.τ).loc Cert.ResModBwdIdeal.main_arg5) = m ((c.tc : Thread Cert.ResModBwdIdeal.nD Cert.ResModBwdIdeal.τ).loc Cert.ResModBwdIdeal.main_arg5)
          ∧ r.2.mem ((c.tc : Thread Cert.ResModBwdIdeal.nD Cert.ResModBwdIdeal.τ).loc Cert.ResModBwdIdeal.main_arg6) = m ((c.tc : Thread Cert.ResModBwdIdeal.nD Cert.ResModBwdIdeal.τ).loc Cert.ResModBwdIdeal.main_arg6)
          ∧ r.2.mem ((c.tc : Thread Cert.ResModBwdIdeal.nD Cert.ResModBwdIdeal.τ).loc Cert.ResModBwdIdeal.main_arg7) = m ((c.tc : Thread Cert.ResModBwdIdeal.nD Cert.ResModBwdIdeal.τ).loc Cert.ResModBwdIdeal.main_arg7))
      ∧ θ_run (Cert.ResModBwdRefIdeal.defs (F := Ideal)) (onTc (τ := Cert.ResModBwdRefIdeal.τ) (Cert.ResModBwdRefIdeal.main (F := Ideal))) ⟨m', fun _ => 0, g'⟩ (fun r => ∀ c : Dev Cert.ResModBwdRefIdeal.nD,
          r.2.mem ((c.tc : Thread Cert.ResModBwdRefIdeal.nD Cert.ResModBwdRefIdeal.τ).loc Cert.ResModBwdRefIdeal.main_v55) = v0 c
          ∧ r.2.mem ((c.tc : Thread Cert.ResModBwdRefIdeal.nD Cert.ResModBwdRefIdeal.τ).loc Cert.ResModBwdRefIdeal.main_v62) = v1 c
          ∧ r.2.mem ((c.tc : Thread Cert.ResModBwdRefIdeal.nD Cert.ResModBwdRefIdeal.τ).loc Cert.ResModBwdRefIdeal.main_v61) = v2 c
          ∧ r.2.mem ((c.tc : Thread Cert.ResModBwdRefIdeal.nD Cert.ResModBwdRefIdeal.τ).loc Cert.ResModBwdRefIdeal.main_v40) = v3 c
          ∧ r.2.mem ((c.tc : Thread Cert.ResModBwdRefIdeal.nD Cert.ResModBwdRefIdeal.τ).loc Cert.ResModBwdRefIdeal.main_v28) = v4 c
          ∧ r.2.mem ((c.tc : Thread Cert.ResModBwdRefIdeal.nD Cert.ResModBwdRefIdeal.τ).loc Cert.ResModBwdRefIdeal.main_v31) = v5 c
          ∧ r.2.mem ((c.tc : Thread Cert.ResModBwdRefIdeal.nD Cert.ResModBwdRefIdeal.τ).loc Cert.ResModBwdRefIdeal.main_arg0) = m' ((c.tc : Thread Cert.ResModBwdRefIdeal.nD Cert.ResModBwdRefIdeal.τ).loc Cert.ResModBwdRefIdeal.main_arg0)
          ∧ r.2.mem ((c.tc : Thread Cert.ResModBwdRefIdeal.nD Cert.ResModBwdRefIdeal.τ).loc Cert.ResModBwdRefIdeal.main_arg1) = m' ((c.tc : Thread Cert.ResModBwdRefIdeal.nD Cert.ResModBwdRefIdeal.τ).loc Cert.ResModBwdRefIdeal.main_arg1)
          ∧ r.2.mem ((c.tc : Thread Cert.ResModBwdRefIdeal.nD Cert.ResModBwdRefIdeal.τ).loc Cert.ResModBwdRefIdeal.main_arg2) = m' ((c.tc : Thread Cert.ResModBwdRefIdeal.nD Cert.ResModBwdRefIdeal.τ).loc Cert.ResModBwdRefIdeal.main_arg2)
          ∧ r.2.mem ((c.tc : Thread Cert.ResModBwdRefIdeal.nD Cert.ResModBwdRefIdeal.τ).loc Cert.ResModBwdRefIdeal.main_arg3) = m' ((c.tc : Thread Cert.ResModBwdRefIdeal.nD Cert.ResModBwdRefIdeal.τ).loc Cert.ResModBwdRefIdeal.main_arg3)
          ∧ r.2.mem ((c.tc : Thread Cert.ResModBwdRefIdeal.nD Cert.ResModBwdRefIdeal.τ).loc Cert.ResModBwdRefIdeal.main_arg4) = m' ((c.tc : Thread Cert.ResModBwdRefIdeal.nD Cert.ResModBwdRefIdeal.τ).loc Cert.ResModBwdRefIdeal.main_arg4)
          ∧ r.2.mem ((c.tc : Thread Cert.ResModBwdRefIdeal.nD Cert.ResModBwdRefIdeal.τ).loc Cert.ResModBwdRefIdeal.main_arg5) = m' ((c.tc : Thread Cert.ResModBwdRefIdeal.nD Cert.ResModBwdRefIdeal.τ).loc Cert.ResModBwdRefIdeal.main_arg5)
          ∧ r.2.mem ((c.tc : Thread Cert.ResModBwdRefIdeal.nD Cert.ResModBwdRefIdeal.τ).loc Cert.ResModBwdRefIdeal.main_arg6) = m' ((c.tc : Thread Cert.ResModBwdRefIdeal.nD Cert.ResModBwdRefIdeal.τ).loc Cert.ResModBwdRefIdeal.main_arg6)
          ∧ r.2.mem ((c.tc : Thread Cert.ResModBwdRefIdeal.nD Cert.ResModBwdRefIdeal.τ).loc Cert.ResModBwdRefIdeal.main_arg7) = m' ((c.tc : Thread Cert.ResModBwdRefIdeal.nD Cert.ResModBwdRefIdeal.τ).loc Cert.ResModBwdRefIdeal.main_arg7))

def preserves_ModBwd_ModBwdIdeal : Prop :=
  True

def algebraic_ModBwdIdeal_ModBwdRefIdeal [hModBwdIdeal : Cert.ModBwdIdeal.Facts] [hModBwdRefIdeal : Cert.ModBwdRefIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdRefIdeal.nD Cert.ModBwdRefIdeal.τ Cert.ModBwdRefIdeal.sig) → Buf (Elt Ideal) ℓ) (g' : Dev Cert.ModBwdRefIdeal.nD → PrngReg), Pre_ModBwdIdeal m →
    (∀ c : Dev Cert.ModBwdIdeal.nD,
      m' ((c.tc : Thread Cert.ModBwdRefIdeal.nD Cert.ModBwdRefIdeal.τ).loc Cert.ModBwdRefIdeal.main_arg0) = m ((c.tc : Thread Cert.ModBwdIdeal.nD Cert.ModBwdIdeal.τ).loc Cert.ModBwdIdeal.main_arg0)
      ∧ m' ((c.tc : Thread Cert.ModBwdRefIdeal.nD Cert.ModBwdRefIdeal.τ).loc Cert.ModBwdRefIdeal.main_arg1) = m ((c.tc : Thread Cert.ModBwdIdeal.nD Cert.ModBwdIdeal.τ).loc Cert.ModBwdIdeal.main_arg1)
      ∧ m' ((c.tc : Thread Cert.ModBwdRefIdeal.nD Cert.ModBwdRefIdeal.τ).loc Cert.ModBwdRefIdeal.main_arg2) = m ((c.tc : Thread Cert.ModBwdIdeal.nD Cert.ModBwdIdeal.τ).loc Cert.ModBwdIdeal.main_arg2)
      ∧ m' ((c.tc : Thread Cert.ModBwdRefIdeal.nD Cert.ModBwdRefIdeal.τ).loc Cert.ModBwdRefIdeal.main_arg3) = m ((c.tc : Thread Cert.ModBwdIdeal.nD Cert.ModBwdIdeal.τ).loc Cert.ModBwdIdeal.main_arg3)
      ∧ m' ((c.tc : Thread Cert.ModBwdRefIdeal.nD Cert.ModBwdRefIdeal.τ).loc Cert.ModBwdRefIdeal.main_arg4) = m ((c.tc : Thread Cert.ModBwdIdeal.nD Cert.ModBwdIdeal.τ).loc Cert.ModBwdIdeal.main_arg4)
      ∧ m' ((c.tc : Thread Cert.ModBwdRefIdeal.nD Cert.ModBwdRefIdeal.τ).loc Cert.ModBwdRefIdeal.main_arg5) = m ((c.tc : Thread Cert.ModBwdIdeal.nD Cert.ModBwdIdeal.τ).loc Cert.ModBwdIdeal.main_arg5)) →
    ∃ (v0 : (c : Dev Cert.ModBwdIdeal.nD) → Buf (Elt Ideal) ((c.tc : Thread Cert.ModBwdIdeal.nD Cert.ModBwdIdeal.τ).loc Cert.ModBwdIdeal.main_v0_0)) (v1 : (c : Dev Cert.ModBwdIdeal.nD) → Buf (Elt Ideal) ((c.tc : Thread Cert.ModBwdIdeal.nD Cert.ModBwdIdeal.τ).loc Cert.ModBwdIdeal.main_v0_1)) (v2 : (c : Dev Cert.ModBwdIdeal.nD) → Buf (Elt Ideal) ((c.tc : Thread Cert.ModBwdIdeal.nD Cert.ModBwdIdeal.τ).loc Cert.ModBwdIdeal.main_v0_2)) (v3 : (c : Dev Cert.ModBwdIdeal.nD) → Buf (Elt Ideal) ((c.tc : Thread Cert.ModBwdIdeal.nD Cert.ModBwdIdeal.τ).loc Cert.ModBwdIdeal.main_v0_3)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v0_0) = v0 c
          ∧ r.2.mem ((c.tc : Thread Cert.ModBwdIdeal.nD Cert.ModBwdIdeal.τ).loc Cert.ModBwdIdeal.main_v0_1) = v1 c
          ∧ r.2.mem ((c.tc : Thread Cert.ModBwdIdeal.nD Cert.ModBwdIdeal.τ).loc Cert.ModBwdIdeal.main_v0_2) = v2 c
          ∧ r.2.mem ((c.tc : Thread Cert.ModBwdIdeal.nD Cert.ModBwdIdeal.τ).loc Cert.ModBwdIdeal.main_v0_3) = v3 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
          ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3)
          ∧ r.2.mem ((c.tc : Thread Cert.ModBwdIdeal.nD Cert.ModBwdIdeal.τ).loc Cert.ModBwdIdeal.main_arg4) = m ((c.tc : Thread Cert.ModBwdIdeal.nD Cert.ModBwdIdeal.τ).loc Cert.ModBwdIdeal.main_arg4)
          ∧ r.2.mem ((c.tc : Thread Cert.ModBwdIdeal.nD Cert.ModBwdIdeal.τ).loc Cert.ModBwdIdeal.main_arg5) = m ((c.tc : Thread Cert.ModBwdIdeal.nD Cert.ModBwdIdeal.τ).loc Cert.ModBwdIdeal.main_arg5))
      ∧ θ_run (Cert.ModBwdRefIdeal.defs (F := Ideal)) (onTc (τ := Cert.ModBwdRefIdeal.τ) (Cert.ModBwdRefIdeal.main (F := Ideal))) ⟨m', fun _ => 0, g'⟩ (fun r => ∀ c : Dev Cert.ModBwdRefIdeal.nD,
          r.2.mem ((c.tc : Thread Cert.ModBwdRefIdeal.nD Cert.ModBwdRefIdeal.τ).loc Cert.ModBwdRefIdeal.main_v52) = v0 c
          ∧ r.2.mem ((c.tc : Thread Cert.ModBwdRefIdeal.nD Cert.ModBwdRefIdeal.τ).loc Cert.ModBwdRefIdeal.main_v37) = v1 c
          ∧ r.2.mem ((c.tc : Thread Cert.ModBwdRefIdeal.nD Cert.ModBwdRefIdeal.τ).loc Cert.ModBwdRefIdeal.main_v25) = v2 c
          ∧ r.2.mem ((c.tc : Thread Cert.ModBwdRefIdeal.nD Cert.ModBwdRefIdeal.τ).loc Cert.ModBwdRefIdeal.main_v28) = v3 c
          ∧ r.2.mem ((c.tc : Thread Cert.ModBwdRefIdeal.nD Cert.ModBwdRefIdeal.τ).loc Cert.ModBwdRefIdeal.main_arg0) = m' ((c.tc : Thread Cert.ModBwdRefIdeal.nD Cert.ModBwdRefIdeal.τ).loc Cert.ModBwdRefIdeal.main_arg0)
          ∧ r.2.mem ((c.tc : Thread Cert.ModBwdRefIdeal.nD Cert.ModBwdRefIdeal.τ).loc Cert.ModBwdRefIdeal.main_arg1) = m' ((c.tc : Thread Cert.ModBwdRefIdeal.nD Cert.ModBwdRefIdeal.τ).loc Cert.ModBwdRefIdeal.main_arg1)
          ∧ r.2.mem ((c.tc : Thread Cert.ModBwdRefIdeal.nD Cert.ModBwdRefIdeal.τ).loc Cert.ModBwdRefIdeal.main_arg2) = m' ((c.tc : Thread Cert.ModBwdRefIdeal.nD Cert.ModBwdRefIdeal.τ).loc Cert.ModBwdRefIdeal.main_arg2)
          ∧ r.2.mem ((c.tc : Thread Cert.ModBwdRefIdeal.nD Cert.ModBwdRefIdeal.τ).loc Cert.ModBwdRefIdeal.main_arg3) = m' ((c.tc : Thread Cert.ModBwdRefIdeal.nD Cert.ModBwdRefIdeal.τ).loc Cert.ModBwdRefIdeal.main_arg3)
          ∧ r.2.mem ((c.tc : Thread Cert.ModBwdRefIdeal.nD Cert.ModBwdRefIdeal.τ).loc Cert.ModBwdRefIdeal.main_arg4) = m' ((c.tc : Thread Cert.ModBwdRefIdeal.nD Cert.ModBwdRefIdeal.τ).loc Cert.ModBwdRefIdeal.main_arg4)
          ∧ r.2.mem ((c.tc : Thread Cert.ModBwdRefIdeal.nD Cert.ModBwdRefIdeal.τ).loc Cert.ModBwdRefIdeal.main_arg5) = m' ((c.tc : Thread Cert.ModBwdRefIdeal.nD Cert.ModBwdRefIdeal.τ).loc Cert.ModBwdRefIdeal.main_arg5))

def preserves_PostBwd_PostBwdIdeal : Prop :=
  True

def algebraic_PostBwdIdeal_PostBwdRefIdeal [hPostBwdIdeal : Cert.PostBwdIdeal.Facts] [hPostBwdRefIdeal : Cert.PostBwdRefIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)
      ∧ m' ((c.tc : Thread Cert.PostBwdRefIdeal.nD Cert.PostBwdRefIdeal.τ).loc Cert.PostBwdRefIdeal.main_arg3) = m ((c.tc : Thread Cert.PostBwdIdeal.nD Cert.PostBwdIdeal.τ).loc Cert.PostBwdIdeal.main_arg3)) →
    ∃ (v0 : (c : Dev Cert.PostBwdIdeal.nD) → Buf (Elt Ideal) ((c.tc : Thread Cert.PostBwdIdeal.nD Cert.PostBwdIdeal.τ).loc Cert.PostBwdIdeal.main_v0_0)) (v1 : (c : Dev Cert.PostBwdIdeal.nD) → Buf (Elt Ideal) ((c.tc : Thread Cert.PostBwdIdeal.nD Cert.PostBwdIdeal.τ).loc Cert.PostBwdIdeal.main_v0_1)) (v2 : (c : Dev Cert.PostBwdIdeal.nD) → Buf (Elt Ideal) ((c.tc : Thread Cert.PostBwdIdeal.nD Cert.PostBwdIdeal.τ).loc Cert.PostBwdIdeal.main_v0_2)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v0_0) = v0 c
          ∧ r.2.mem ((c.tc : Thread Cert.PostBwdIdeal.nD Cert.PostBwdIdeal.τ).loc Cert.PostBwdIdeal.main_v0_1) = v1 c
          ∧ r.2.mem ((c.tc : Thread Cert.PostBwdIdeal.nD Cert.PostBwdIdeal.τ).loc Cert.PostBwdIdeal.main_v0_2) = v2 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v52) = v0 c
          ∧ r.2.mem ((c.tc : Thread Cert.PostBwdRefIdeal.nD Cert.PostBwdRefIdeal.τ).loc Cert.PostBwdRefIdeal.main_v53) = v1 c
          ∧ r.2.mem ((c.tc : Thread Cert.PostBwdRefIdeal.nD Cert.PostBwdRefIdeal.τ).loc Cert.PostBwdRefIdeal.main_v36) = v2 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2)
          ∧ r.2.mem ((c.tc : Thread Cert.PostBwdRefIdeal.nD Cert.PostBwdRefIdeal.τ).loc Cert.PostBwdRefIdeal.main_arg3) = m' ((c.tc : Thread Cert.PostBwdRefIdeal.nD Cert.PostBwdRefIdeal.τ).loc Cert.PostBwdRefIdeal.main_arg3))

def Claim : Prop :=
  ∃ (hKernel : Cert.Kernel.Facts) (hKernelIdeal : Cert.KernelIdeal.Facts) (hReferenceIdeal : Cert.ReferenceIdeal.Facts) (hFwd : Cert.Fwd.Facts) (hFwdIdeal : Cert.FwdIdeal.Facts) (hFwdRefIdeal : Cert.FwdRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hScIn : Cert.ScIn.Facts) (hScInIdeal : Cert.ScInIdeal.Facts) (hScInRefIdeal : Cert.ScInRefIdeal.Facts) (hScInDx : Cert.ScInDx.Facts) (hScInDxIdeal : Cert.ScInDxIdeal.Facts) (hScInDxRefIdeal : Cert.ScInDxRefIdeal.Facts) (hScInDw : Cert.ScInDw.Facts) (hScInDwIdeal : Cert.ScInDwIdeal.Facts) (hScInDwRefIdeal : Cert.ScInDwRefIdeal.Facts) (hScOutDx : Cert.ScOutDx.Facts) (hScOutDxIdeal : Cert.ScOutDxIdeal.Facts) (hScOutDxRefIdeal : Cert.ScOutDxRefIdeal.Facts) (hScOutDw : Cert.ScOutDw.Facts) (hScOutDwIdeal : Cert.ScOutDwIdeal.Facts) (hScOutDwRefIdeal : Cert.ScOutDwRefIdeal.Facts) (hGlaIn : Cert.GlaIn.Facts) (hGlaInIdeal : Cert.GlaInIdeal.Facts) (hGlaInRefIdeal : Cert.GlaInRefIdeal.Facts) (hGlaInDx : Cert.GlaInDx.Facts) (hGlaInDxIdeal : Cert.GlaInDxIdeal.Facts) (hGlaInDxRefIdeal : Cert.GlaInDxRefIdeal.Facts) (hGlaInDw : Cert.GlaInDw.Facts) (hGlaInDwIdeal : Cert.GlaInDwIdeal.Facts) (hGlaInDwRefIdeal : Cert.GlaInDwRefIdeal.Facts) (hGlaOutDw : Cert.GlaOutDw.Facts) (hGlaOutDwIdeal : Cert.GlaOutDwIdeal.Facts) (hGlaOutDwRefIdeal : Cert.GlaOutDwRefIdeal.Facts) (hOutMod : Cert.OutMod.Facts) (hOutModIdeal : Cert.OutModIdeal.Facts) (hOutModRefIdeal : Cert.OutModRefIdeal.Facts) (hDownMod : Cert.DownMod.Facts) (hDownModIdeal : Cert.DownModIdeal.Facts) (hDownModRefIdeal : Cert.DownModRefIdeal.Facts) (hResModBwd : Cert.ResModBwd.Facts) (hResModBwdIdeal : Cert.ResModBwdIdeal.Facts) (hResModBwdRefIdeal : Cert.ResModBwdRefIdeal.Facts) (hModBwd : Cert.ModBwd.Facts) (hModBwdIdeal : Cert.ModBwdIdeal.Facts) (hModBwdRefIdeal : Cert.ModBwdRefIdeal.Facts) (hPostBwd : Cert.PostBwd.Facts) (hPostBwdIdeal : Cert.PostBwdIdeal.Facts) (hPostBwdRefIdeal : Cert.PostBwdRefIdeal.Facts),
    quiescent_Kernel (hKernel := hKernel)
    ∧ quiescent_KernelIdeal (hKernelIdeal := hKernelIdeal)
    ∧ quiescent_ReferenceIdeal (hReferenceIdeal := hReferenceIdeal)
    ∧ quiescent_Fwd (hFwd := hFwd)
    ∧ quiescent_FwdIdeal (hFwdIdeal := hFwdIdeal)
    ∧ quiescent_FwdRefIdeal (hFwdRefIdeal := hFwdRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_ScIn (hScIn := hScIn)
    ∧ quiescent_ScInIdeal (hScInIdeal := hScInIdeal)
    ∧ quiescent_ScInRefIdeal (hScInRefIdeal := hScInRefIdeal)
    ∧ quiescent_ScInDx (hScInDx := hScInDx)
    ∧ quiescent_ScInDxIdeal (hScInDxIdeal := hScInDxIdeal)
    ∧ quiescent_ScInDxRefIdeal (hScInDxRefIdeal := hScInDxRefIdeal)
    ∧ quiescent_ScInDw (hScInDw := hScInDw)
    ∧ quiescent_ScInDwIdeal (hScInDwIdeal := hScInDwIdeal)
    ∧ quiescent_ScInDwRefIdeal (hScInDwRefIdeal := hScInDwRefIdeal)
    ∧ quiescent_ScOutDx (hScOutDx := hScOutDx)
    ∧ quiescent_ScOutDxIdeal (hScOutDxIdeal := hScOutDxIdeal)
    ∧ quiescent_ScOutDxRefIdeal (hScOutDxRefIdeal := hScOutDxRefIdeal)
    ∧ quiescent_ScOutDw (hScOutDw := hScOutDw)
    ∧ quiescent_ScOutDwIdeal (hScOutDwIdeal := hScOutDwIdeal)
    ∧ quiescent_ScOutDwRefIdeal (hScOutDwRefIdeal := hScOutDwRefIdeal)
    ∧ quiescent_GlaIn (hGlaIn := hGlaIn)
    ∧ quiescent_GlaInIdeal (hGlaInIdeal := hGlaInIdeal)
    ∧ quiescent_GlaInRefIdeal (hGlaInRefIdeal := hGlaInRefIdeal)
    ∧ quiescent_GlaInDx (hGlaInDx := hGlaInDx)
    ∧ quiescent_GlaInDxIdeal (hGlaInDxIdeal := hGlaInDxIdeal)
    ∧ quiescent_GlaInDxRefIdeal (hGlaInDxRefIdeal := hGlaInDxRefIdeal)
    ∧ quiescent_GlaInDw (hGlaInDw := hGlaInDw)
    ∧ quiescent_GlaInDwIdeal (hGlaInDwIdeal := hGlaInDwIdeal)
    ∧ quiescent_GlaInDwRefIdeal (hGlaInDwRefIdeal := hGlaInDwRefIdeal)
    ∧ quiescent_GlaOutDw (hGlaOutDw := hGlaOutDw)
    ∧ quiescent_GlaOutDwIdeal (hGlaOutDwIdeal := hGlaOutDwIdeal)
    ∧ quiescent_GlaOutDwRefIdeal (hGlaOutDwRefIdeal := hGlaOutDwRefIdeal)
    ∧ quiescent_OutMod (hOutMod := hOutMod)
    ∧ quiescent_OutModIdeal (hOutModIdeal := hOutModIdeal)
    ∧ quiescent_OutModRefIdeal (hOutModRefIdeal := hOutModRefIdeal)
    ∧ quiescent_DownMod (hDownMod := hDownMod)
    ∧ quiescent_DownModIdeal (hDownModIdeal := hDownModIdeal)
    ∧ quiescent_DownModRefIdeal (hDownModRefIdeal := hDownModRefIdeal)
    ∧ quiescent_ResModBwd (hResModBwd := hResModBwd)
    ∧ quiescent_ResModBwdIdeal (hResModBwdIdeal := hResModBwdIdeal)
    ∧ quiescent_ResModBwdRefIdeal (hResModBwdRefIdeal := hResModBwdRefIdeal)
    ∧ quiescent_ModBwd (hModBwd := hModBwd)
    ∧ quiescent_ModBwdIdeal (hModBwdIdeal := hModBwdIdeal)
    ∧ quiescent_ModBwdRefIdeal (hModBwdRefIdeal := hModBwdRefIdeal)
    ∧ quiescent_PostBwd (hPostBwd := hPostBwd)
    ∧ quiescent_PostBwdIdeal (hPostBwdIdeal := hPostBwdIdeal)
    ∧ quiescent_PostBwdRefIdeal (hPostBwdRefIdeal := hPostBwdRefIdeal)
    ∧ preserves_Kernel_KernelIdeal
    ∧ algebraic_KernelIdeal_ReferenceIdeal (hKernelIdeal := hKernelIdeal) (hReferenceIdeal := hReferenceIdeal)
    ∧ preserves_Fwd_FwdIdeal
    ∧ algebraic_FwdIdeal_FwdRefIdeal (hFwdIdeal := hFwdIdeal) (hFwdRefIdeal := hFwdRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_ScIn_ScInIdeal
    ∧ algebraic_ScInIdeal_ScInRefIdeal (hScInIdeal := hScInIdeal) (hScInRefIdeal := hScInRefIdeal)
    ∧ preserves_ScInDx_ScInDxIdeal
    ∧ algebraic_ScInDxIdeal_ScInDxRefIdeal (hScInDxIdeal := hScInDxIdeal) (hScInDxRefIdeal := hScInDxRefIdeal)
    ∧ preserves_ScInDw_ScInDwIdeal
    ∧ algebraic_ScInDwIdeal_ScInDwRefIdeal (hScInDwIdeal := hScInDwIdeal) (hScInDwRefIdeal := hScInDwRefIdeal)
    ∧ preserves_ScOutDx_ScOutDxIdeal
    ∧ algebraic_ScOutDxIdeal_ScOutDxRefIdeal (hScOutDxIdeal := hScOutDxIdeal) (hScOutDxRefIdeal := hScOutDxRefIdeal)
    ∧ preserves_ScOutDw_ScOutDwIdeal
    ∧ algebraic_ScOutDwIdeal_ScOutDwRefIdeal (hScOutDwIdeal := hScOutDwIdeal) (hScOutDwRefIdeal := hScOutDwRefIdeal)
    ∧ preserves_GlaIn_GlaInIdeal
    ∧ algebraic_GlaInIdeal_GlaInRefIdeal (hGlaInIdeal := hGlaInIdeal) (hGlaInRefIdeal := hGlaInRefIdeal)
    ∧ preserves_GlaInDx_GlaInDxIdeal
    ∧ algebraic_GlaInDxIdeal_GlaInDxRefIdeal (hGlaInDxIdeal := hGlaInDxIdeal) (hGlaInDxRefIdeal := hGlaInDxRefIdeal)
    ∧ preserves_GlaInDw_GlaInDwIdeal
    ∧ algebraic_GlaInDwIdeal_GlaInDwRefIdeal (hGlaInDwIdeal := hGlaInDwIdeal) (hGlaInDwRefIdeal := hGlaInDwRefIdeal)
    ∧ preserves_GlaOutDw_GlaOutDwIdeal
    ∧ algebraic_GlaOutDwIdeal_GlaOutDwRefIdeal (hGlaOutDwIdeal := hGlaOutDwIdeal) (hGlaOutDwRefIdeal := hGlaOutDwRefIdeal)
    ∧ preserves_OutMod_OutModIdeal
    ∧ algebraic_OutModIdeal_OutModRefIdeal (hOutModIdeal := hOutModIdeal) (hOutModRefIdeal := hOutModRefIdeal)
    ∧ preserves_DownMod_DownModIdeal
    ∧ algebraic_DownModIdeal_DownModRefIdeal (hDownModIdeal := hDownModIdeal) (hDownModRefIdeal := hDownModRefIdeal)
    ∧ preserves_ResModBwd_ResModBwdIdeal
    ∧ algebraic_ResModBwdIdeal_ResModBwdRefIdeal (hResModBwdIdeal := hResModBwdIdeal) (hResModBwdRefIdeal := hResModBwdRefIdeal)
    ∧ preserves_ModBwd_ModBwdIdeal
    ∧ algebraic_ModBwdIdeal_ModBwdRefIdeal (hModBwdIdeal := hModBwdIdeal) (hModBwdRefIdeal := hModBwdRefIdeal)
    ∧ preserves_PostBwd_PostBwdIdeal
    ∧ algebraic_PostBwdIdeal_PostBwdRefIdeal (hPostBwdIdeal := hPostBwdIdeal) (hPostBwdRefIdeal := hPostBwdRefIdeal)
-- ==== Kernel.lean ====
abbrev S2x2304x3200 : Shape := ⟨3, ![2, 2304, 3200]⟩
abbrev S2x2304x1024 : Shape := ⟨3, ![2, 2304, 1024]⟩
abbrev S2x2x36x4x256x128 : Shape := ⟨6, ![2, 2, 36, 4, 256, 128]⟩
abbrev S2x2048x1024 : Shape := ⟨3, ![2, 2048, 1024]⟩
abbrev S2x2x2304x512 : Shape := ⟨4, ![2, 2, 2304, 512]⟩
abbrev S2x2x2304x1024 : Shape := ⟨4, ![2, 2, 2304, 1024]⟩
abbrev S2x64x512 : Shape := ⟨3, ![2, 64, 512]⟩
abbrev S2x64x1024 : Shape := ⟨3, ![2, 64, 1024]⟩
abbrev S2x1x1x4x256x128 : Shape := ⟨6, ![2, 1, 1, 4, 256, 128]⟩
abbrev S1x2x64x512 : Shape := ⟨4, ![1, 2, 64, 512]⟩
abbrev S1x2x64x1024 : Shape := ⟨4, ![1, 2, 64, 1024]⟩
abbrev S2x4x256x128 : Shape := ⟨4, ![2, 4, 256, 128]⟩
abbrev S64x64 : Shape := ⟨2, ![64, 64]⟩
abbrev S1x64x512 : Shape := ⟨3, ![1, 64, 512]⟩
abbrev S64x512 : Shape := ⟨2, ![64, 512]⟩
abbrev S512 : Shape := ⟨1, ![512]⟩
abbrev S1x512 : Shape := ⟨2, ![1, 512]⟩
abbrev S64x128 : Shape := ⟨2, ![64, 128]⟩
abbrev S1x128 : Shape := ⟨2, ![1, 128]⟩
abbrev S1x64x256 : Shape := ⟨3, ![1, 64, 256]⟩
abbrev S64x256 : Shape := ⟨2, ![64, 256]⟩
abbrev S1x1x1x1x256x128 : Shape := ⟨6, ![1, 1, 1, 1, 256, 128]⟩
abbrev S256x128 : Shape := ⟨2, ![256, 128]⟩
abbrev S1x1x256x128 : Shape := ⟨4, ![1, 1, 256, 128]⟩
abbrev S1x1x64x256 : Shape := ⟨4, ![1, 1, 64, 256]⟩
abbrev S128 : Shape := ⟨1, ![128]⟩
abbrev S1x1x64x128 : Shape := ⟨4, ![1, 1, 64, 128]⟩

abbrev nBuf : Space → Nat
  | .hbm => 8
  | .vmem => 21
  | .smem => 0
  | _ => 0

abbrev bufTy : (tb : Table) → Fin (tcTables nBuf tb) → BufTy
  | .hbm, ⟨0, _⟩ => ⟨S2x2304x3200, .bf16⟩
  | .hbm, ⟨1, _⟩ => ⟨S2x2304x1024, .f32⟩
  | .hbm, ⟨2, _⟩ => ⟨S2x2x36x4x256x128, .f32⟩
  | .hbm, ⟨3, _⟩ => ⟨S2x2048x1024, .bf16⟩
  | .hbm, ⟨4, _⟩ => ⟨S2x2x2304x512, .bf16⟩
  | .hbm, ⟨5, _⟩ => ⟨S2x2x2304x512, .bf16⟩
  | .hbm, ⟨6, _⟩ => ⟨S2x2x2304x1024, .bf16⟩
  | .hbm, ⟨7, _⟩ => ⟨S2x2304x1024, .f32⟩
  | .local _ .vmem, ⟨0, _⟩ => ⟨S2x64x512, .bf16⟩
  | .local _ .vmem, ⟨1, _⟩ => ⟨S2x64x512, .bf16⟩
  | .local _ .vmem, ⟨2, _⟩ => ⟨S2x64x512, .bf16⟩
  | .local _ .vmem, ⟨3, _⟩ => ⟨S2x64x512, .bf16⟩
  | .local _ .vmem, ⟨4, _⟩ => ⟨S2x64x1024, .bf16⟩
  | .local _ .vmem, ⟨5, _⟩ => ⟨S2x64x1024, .bf16⟩
  | .local _ .vmem, ⟨6, _⟩ => ⟨S2x64x512, .f32⟩
  | .local _ .vmem, ⟨7, _⟩ => ⟨S2x64x512, .f32⟩
  | .local _ .vmem, ⟨8, _⟩ => ⟨S2x1x1x4x256x128, .f32⟩
  | .local _ .vmem, ⟨9, _⟩ => ⟨S2x1x1x4x256x128, .f32⟩
  | .local _ .vmem, ⟨10, _⟩ => ⟨S2x64x1024, .bf16⟩
  | .local _ .vmem, ⟨11, _⟩ => ⟨S2x64x1024, .bf16⟩
  | .local _ .vmem, ⟨12, _⟩ => ⟨S1x2x64x512, .bf16⟩
  | .local _ .vmem, ⟨13, _⟩ => ⟨S1x2x64x512, .bf16⟩
  | .local _ .vmem, ⟨14, _⟩ => ⟨S1x2x64x512, .bf16⟩
  | .local _ .vmem, ⟨15, _⟩ => ⟨S1x2x64x512, .bf16⟩
  | .local _ .vmem, ⟨16, _⟩ => ⟨S1x2x64x1024, .bf16⟩
  | .local _ .vmem, ⟨17, _⟩ => ⟨S1x2x64x1024, .bf16⟩
  | .local _ .vmem, ⟨18, _⟩ => ⟨S2x64x512, .f32⟩
  | .local _ .vmem, ⟨19, _⟩ => ⟨S2x64x512, .f32⟩
  | .local _ .vmem, ⟨20, _⟩ => ⟨S2x4x256x128, .f32⟩
  | _, _ => ⟨S2x2304x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 36], ![false, false]⟩

def k0_cond2 (i : grid0.Coords) : BitVec 1 :=
  let arg0 : BitVec 32 := BitVec.ofNat 32 (i 0).val
  let c0_i32_3 : BitVec 32 := 0#32
  let v11 : BitVec 1 := Scalar.cmpi .eq arg0 c0_i32_3
  let v12 : BitVec 32 := Scalar.extui v11
  let c0_i32_4 : BitVec 32 := 0#32
  let v13 : BitVec 1 := Scalar.cmpi .ne v12 c0_i32_4
  v13

def k0_cond3 (i : grid0.Coords) : BitVec 1 :=
  let arg0 : BitVec 32 := BitVec.ofNat 32 (i 0).val
  let c1_i32 : BitVec 32 := 1#32
  let v14 : BitVec 1 := Scalar.cmpi .eq arg0 c1_i32
  let v15 : BitVec 32 := Scalar.extui v14
  let c0_i32_5 : BitVec 32 := 0#32
  let v16 : BitVec 1 := Scalar.cmpi .ne v15 c0_i32_5
  v16

def cc0_transform_0 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c39_i32 : BitVec 32 := 39#32
  let v4 : BitVec 32 := Scalar.subi c39_i32 v0
  let v5 : BitVec 32 := Scalar.select v2 v3 v4
  let v6 : BitVec 32 := Scalar.select v1 v0 v5
  let c0_i32_0 : BitVec 32 := 0#32
  let c0_i32_1 : BitVec 32 := 0#32
  let c0_i32_2 : BitVec 32 := 0#32
  ![c0_i32_0.toNat, v6.toNat, c0_i32_1.toNat]

def cc0_transform_1 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c39_i32 : BitVec 32 := 39#32
  let v4 : BitVec 32 := Scalar.subi c39_i32 v0
  let v5 : BitVec 32 := Scalar.select v2 v3 v4
  let v6 : BitVec 32 := Scalar.select v1 v0 v5
  let c0_i32_0 : BitVec 32 := 0#32
  let c1_i32 : BitVec 32 := 1#32
  let c0_i32_1 : BitVec 32 := 0#32
  ![c0_i32_0.toNat, v6.toNat, c1_i32.toNat]

def cc0_transform_2 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c39_i32 : BitVec 32 := 39#32
  let v4 : BitVec 32 := Scalar.subi c39_i32 v0
  let v5 : BitVec 32 := Scalar.select v2 v3 v4
  let v6 : BitVec 32 := Scalar.select v1 v0 v5
  let c0_i32_0 : BitVec 32 := 0#32
  let c1_i32 : BitVec 32 := 1#32
  let c0_i32_1 : BitVec 32 := 0#32
  ![c0_i32_0.toNat, v6.toNat, c1_i32.toNat]

def cc0_transform_3 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c39_i32 : BitVec 32 := 39#32
  let v4 : BitVec 32 := Scalar.subi c39_i32 v0
  let v5 : BitVec 32 := Scalar.select v2 v3 v4
  let v6 : BitVec 32 := Scalar.select v1 v0 v5
  let c0_i32_0 : BitVec 32 := 0#32
  let c0_i32_1 : BitVec 32 := 0#32
  ![c0_i32_0.toNat, v6.toNat, arg0.toNat]

def cc0_transform_4 (i : grid0.Coords) : Fin 6 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, v0.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c39_i32 : BitVec 32 := 39#32
  let v4 : BitVec 32 := Scalar.subi c39_i32 v0
  let v5 : BitVec 32 := Scalar.select v2 v3 v4
  let v6 : BitVec 32 := Scalar.select v1 v0 v5
  let c4_i32_0 : BitVec 32 := 4#32
  let v7 : BitVec 32 := Scalar.subi v6 c4_i32_0
  let c0_i32_1 : BitVec 32 := 0#32
  let v8 : BitVec 32 := Scalar.maxsi v7 c0_i32_1
  let c0_i32_2 : BitVec 32 := 0#32
  let c0_i32_3 : BitVec 32 := 0#32
  let c0_i32_4 : BitVec 32 := 0#32
  ![c0_i32_2.toNat, v8.toNat, c0_i32_3.toNat]

def cc0_transform_6 (i : grid0.Coords) : Fin 4 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c39_i32 : BitVec 32 := 39#32
  let v4 : BitVec 32 := Scalar.subi c39_i32 v0
  let v5 : BitVec 32 := Scalar.select v2 v3 v4
  let v6 : BitVec 32 := Scalar.select v1 v0 v5
  let c0_i32_0 : BitVec 32 := 0#32
  let c0_i32_1 : BitVec 32 := 0#32
  let c0_i32_2 : BitVec 32 := 0#32
  ![arg0.toNat, c0_i32_0.toNat, v6.toNat, c0_i32_1.toNat]

def cc0_transform_7 (i : grid0.Coords) : Fin 4 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c39_i32 : BitVec 32 := 39#32
  let v4 : BitVec 32 := Scalar.subi c39_i32 v0
  let v5 : BitVec 32 := Scalar.select v2 v3 v4
  let v6 : BitVec 32 := Scalar.select v1 v0 v5
  let c0_i32_0 : BitVec 32 := 0#32
  let c0_i32_1 : BitVec 32 := 0#32
  let c0_i32_2 : BitVec 32 := 0#32
  ![arg0.toNat, c0_i32_0.toNat, v6.toNat, c0_i32_1.toNat]

def cc0_transform_8 (i : grid0.Coords) : Fin 4 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c39_i32 : BitVec 32 := 39#32
  let v4 : BitVec 32 := Scalar.subi c39_i32 v0
  let v5 : BitVec 32 := Scalar.select v2 v3 v4
  let v6 : BitVec 32 := Scalar.select v1 v0 v5
  let c0_i32_0 : BitVec 32 := 0#32
  let c0_i32_1 : BitVec 32 := 0#32
  let c0_i32_2 : BitVec 32 := 0#32
  ![arg0.toNat, c0_i32_0.toNat, v6.toNat, c0_i32_1.toNat]

def cc0_transform_9 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c39_i32 : BitVec 32 := 39#32
  let v4 : BitVec 32 := Scalar.subi c39_i32 v0
  let v5 : BitVec 32 := Scalar.select v2 v3 v4
  let v6 : BitVec 32 := Scalar.select v1 v0 v5
  let c0_i32_0 : BitVec 32 := 0#32
  let c0_i32_1 : BitVec 32 := 0#32
  ![c0_i32_0.toNat, v6.toNat, arg0.toNat]

abbrev stage0_0 : Fin 2 → Memref sig .tc .vmem S2x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x2304x3200 : Shape := ⟨3, ![2, 2304, 3200]⟩
abbrev S2x2304x1024 : Shape := ⟨3, ![2, 2304, 1024]⟩
abbrev S2x2x36x4x256x128 : Shape := ⟨6, ![2, 2, 36, 4, 256, 128]⟩
abbrev S2x2048x1024 : Shape := ⟨3, ![2, 2048, 1024]⟩
abbrev S_ : Shape := ⟨0, ![]⟩
abbrev S2x256x1024 : Shape := ⟨3, ![2, 256, 1024]⟩
abbrev S4x2304x1024 : Shape := ⟨3, ![4, 2304, 1024]⟩
abbrev S4x2304x4x256 : Shape := ⟨4, ![4, 2304, 4, 256]⟩
abbrev S4x36x64x4x256 : Shape := ⟨5, ![4, 36, 64, 4, 256]⟩
abbrev S36x4x4x64x256 : Shape := ⟨5, ![36, 4, 4, 64, 256]⟩
abbrev S36x2x2x4x128x256 : Shape := ⟨6, ![36, 2, 2, 4, 128, 256]⟩
abbrev S36x4x4x128x256 : Shape := ⟨5, ![36, 4, 4, 128, 256]⟩
abbrev S4x4x128x256 : Shape := ⟨4, ![4, 4, 128, 256]⟩
abbrev S2x2304x2048 : Shape := ⟨3, ![2, 2304, 2048]⟩
abbrev S2x256x2048 : Shape := ⟨3, ![2, 256, 2048]⟩
abbrev S2x2048x2048 : Shape := ⟨3, ![2, 2048, 2048]⟩
abbrev S4x2304x2048 : Shape := ⟨3, ![4, 2304, 2048]⟩
abbrev S4x2304x512 : Shape := ⟨3, ![4, 2304, 512]⟩
abbrev S4x2304x4x128 : Shape := ⟨4, ![4, 2304, 4, 128]⟩
abbrev S2x2304x512 : Shape := ⟨3, ![2, 2304, 512]⟩
abbrev S2x256x512 : Shape := ⟨3, ![2, 256, 512]⟩
abbrev S2x2048x512 : Shape := ⟨3, ![2, 2048, 512]⟩
abbrev S4x36x64x4x128 : Shape := ⟨5, ![4, 36, 64, 4, 128]⟩
abbrev S36x4x4x64x128 : Shape := ⟨5, ![36, 4, 4, 64, 128]⟩
abbrev S1x4x4x128x256 : Shape := ⟨5, ![1, 4, 4, 128, 256]⟩
abbrev S1x4x4x64x128 : Shape := ⟨5, ![1, 4, 4, 64, 128]⟩
abbrev S4x4x64x128 : Shape := ⟨4, ![4, 4, 64, 128]⟩
abbrev S1x4x4x64x256 : Shape := ⟨5, ![1, 4, 4, 64, 256]⟩
abbrev S4x4x64x256 : Shape := ⟨4, ![4, 4, 64, 256]⟩
abbrev S64x64 : Shape := ⟨2, ![64, 64]⟩
abbrev S4x4x1x128 : Shape := ⟨4, ![4, 4, 1, 128]⟩
abbrev S4x4x64x64 : Shape := ⟨4, ![4, 4, 64, 64]⟩
abbrev S4x4x128 : Shape := ⟨3, ![4, 4, 128]⟩
abbrev S4x4x128x1 : Shape := ⟨4, ![4, 4, 128, 1]⟩
abbrev S4x4x256x64 : Shape := ⟨4, ![4, 4, 256, 64]⟩
abbrev S4x4x128x64 : Shape := ⟨4, ![4, 4, 128, 64]⟩
abbrev S4x4x256x128 : Shape := ⟨4, ![4, 4, 256, 128]⟩
abbrev S1x2x2304x512 : Shape := ⟨4, ![1, 2, 2304, 512]⟩
abbrev S2x2x2304x512 : Shape := ⟨4, ![2, 2, 2304, 512]⟩
abbrev S1x2x2304x1024 : Shape := ⟨4, ![1, 2, 2304, 1024]⟩
abbrev S2x2x2304x1024 : Shape := ⟨4, ![2, 2, 2304, 1024]⟩

abbrev nBuf : Space → Nat
  | .hbm => 290
  | .vmem => 0
  | .smem => 0
  | _ => 0

abbrev hbmTy0_0 (i : Nat) : BufTy := match i % 128 with
  | 0 => ⟨S2x2304x3200, .bf16⟩
  | 1 => ⟨S2x2304x1024, .f32⟩
  | 2 => ⟨S2x2x36x4x256x128, .f32⟩
  | 3 => ⟨S2x2048x1024, .bf16⟩
  | 4 => ⟨S_, .f32⟩
  | 5 => ⟨S2x256x1024, .f32⟩
  | 6 => ⟨S2x2048x1024, .f32⟩
  | 7 => ⟨S2x2304x1024, .f32⟩
  | 8 => ⟨S2x256x1024, .f32⟩
  | 9 => ⟨S2x256x1024, .f32⟩
  | 10 => ⟨S2x2048x1024, .f32⟩
  | 11 => ⟨S2x2048x1024, .f32⟩
  | 12 => ⟨S2x2304x1024, .f32⟩
  | 13 => ⟨S4x2304x1024, .f32⟩
  | 14 => ⟨S4x2304x4x256, .f32⟩
  | 15 => ⟨S4x36x64x4x256, .f32⟩
  | 16 => ⟨S36x4x4x64x256, .f32⟩
  | 17 => ⟨S36x2x2x4x128x256, .f32⟩
  | 18 => ⟨S36x4x4x128x256, .f32⟩
  | 19 => ⟨S_, .f32⟩
  | 20 => ⟨S4x4x128x256, .f32⟩
  | 21 => ⟨S2x2304x2048, .bf16⟩
  | 22 => ⟨S2x2304x2048, .f32⟩
  | 23 => ⟨S2x256x2048, .f32⟩
  | 24 => ⟨S2x256x2048, .f32⟩
  | 25 => ⟨S2x2048x2048, .f32⟩
  | 26 => ⟨S2x2048x2048, .f32⟩
  | 27 => ⟨S2x2304x2048, .f32⟩
  | 28 => ⟨S4x2304x2048, .f32⟩
  | 29 => ⟨S4x2304x512, .f32⟩
  | 30 => ⟨S4x2304x512, .f32⟩
  | 31 => ⟨S4x2304x1024, .f32⟩
  | 32 => ⟨S4x2304x4x128, .f32⟩
  | 33 => ⟨S_, .f32⟩
  | 34 => ⟨S4x2304x4x128, .f32⟩
  | 35 => ⟨S4x2304x4x128, .f32⟩
  | 36 => ⟨S2x2304x512, .f32⟩
  | 37 => ⟨S2x2304x512, .f32⟩
  | 38 => ⟨S2x256x512, .f32⟩
  | 39 => ⟨S2x256x512, .f32⟩
  | 40 => ⟨S2x2048x512, .f32⟩
  | 41 => ⟨S2x2048x512, .f32⟩
  | 42 => ⟨S2x2304x512, .f32⟩
  | 43 => ⟨S4x2304x512, .f32⟩
  | 44 => ⟨S4x36x64x4x128, .f32⟩
  | 45 => ⟨S36x4x4x64x128, .f32⟩
  | 46 => ⟨S4x2304x4x128, .f32⟩
  | 47 => ⟨S4x36x64x4x128, .f32⟩
  | 48 => ⟨S36x4x4x64x128, .f32⟩
  | 49 => ⟨S4x2304x4x256, .f32⟩
  | 50 => ⟨S4x36x64x4x256, .f32⟩
  | 51 => ⟨S36x4x4x64x256, .f32⟩
  | 52 => ⟨S4x2304x4x128, .f32⟩
  | 53 => ⟨S4x36x64x4x128, .f32⟩
  | 54 => ⟨S36x4x4x64x128, .f32⟩
  | 55 => ⟨S_, .f32⟩
  | 56 => ⟨S36x4x4x64x128, .f32⟩
  | 57 => ⟨S_, .f32⟩
  | 58 => ⟨S36x4x4x64x128, .f32⟩
  | 59 => ⟨S_, .f32⟩
  | 60 => ⟨S36x4x4x64x256, .f32⟩
  | 61 => ⟨S_, .f32⟩
  | 62 => ⟨S36x4x4x64x128, .f32⟩
  | 63 => ⟨S_, .i32⟩
  | 64 => ⟨S36x4x4x128x256, .f32⟩
  | 65 => ⟨S36x4x4x64x128, .f32⟩
  | 66 => ⟨S36x4x4x64x128, .f32⟩
  | 67 => ⟨S36x4x4x64x256, .f32⟩
  | 68 => ⟨S36x4x4x64x128, .f32⟩
  | 69 => ⟨S36x4x4x64x256, .f32⟩
  | 70 => ⟨S_, .i32⟩
  | 71 => ⟨S4x4x128x256, .f32⟩
  | 72 => ⟨S36x4x4x64x128, .f32⟩
  | 73 => ⟨S36x4x4x64x128, .f32⟩
  | 74 => ⟨S36x4x4x64x256, .f32⟩
  | 75 => ⟨S36x4x4x64x128, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S1x4x4x128x256, .f32⟩
  | 87 => ⟨S4x4x128x256, .f32⟩
  | 88 => ⟨S_, .i32⟩
  | 89 => ⟨S_, .i32⟩
  | 90 => ⟨S_, .i32⟩
  | 91 => ⟨S_, .i32⟩
  | 92 => ⟨S1x4x4x64x128, .f32⟩
  | 93 => ⟨S4x4x64x128, .f32⟩
  | 94 => ⟨S_, .i32⟩
  | 95 => ⟨S_, .i32⟩
  | 96 => ⟨S_, .i32⟩
  | 97 => ⟨S_, .i32⟩
  | 98 => ⟨S1x4x4x64x128, .f32⟩
  | 99 => ⟨S4x4x64x128, .f32⟩
  | 100 => ⟨S_, .i32⟩
  | 101 => ⟨S_, .i32⟩
  | 102 => ⟨S_, .i32⟩
  | 103 => ⟨S_, .i32⟩
  | 104 => ⟨S1x4x4x64x256, .f32⟩
  | 105 => ⟨S4x4x64x256, .f32⟩
  | 106 => ⟨S_, .i32⟩
  | 107 => ⟨S_, .i32⟩
  | 108 => ⟨S_, .i32⟩
  | 109 => ⟨S_, .i32⟩
  | 110 => ⟨S1x4x4x64x128, .f32⟩
  | 111 => ⟨S4x4x64x128, .f32⟩
  | 112 => ⟨S_, .i32⟩
  | 113 => ⟨S_, .i32⟩
  | 114 => ⟨S_, .i32⟩
  | 115 => ⟨S_, .i32⟩
  | 116 => ⟨S1x4x4x64x256, .f32⟩
  | 117 => ⟨S4x4x64x256, .f32⟩
  | 118 => ⟨S_, .i1⟩
  | 119 => ⟨S64x64, .i1⟩
  | 120 => ⟨S64x64, .i32⟩
  | 121 => ⟨S_, .i32⟩
  | 122 => ⟨S64x64, .i32⟩
  | 123 => ⟨S64x64, .i32⟩
  | 124 => ⟨S64x64, .i32⟩
  | 125 => ⟨S64x64, .i1⟩
  | 126 => ⟨S_, .i1⟩
  | 127 => ⟨S64x64, .i1⟩
  | _ => ⟨S2x2304x3200, .bf16⟩

abbrev hbmTy0_1 (i : Nat) : BufTy := match i % 128 with
  | 0 => ⟨S64x64, .i1⟩
  | 1 => ⟨S_, .f32⟩
  | 2 => ⟨S_, .f32⟩
  | 3 => ⟨S4x4x64x128, .f32⟩
  | 4 => ⟨S4x4x1x128, .f32⟩
  | 5 => ⟨S4x4x64x128, .f32⟩
  | 6 => ⟨S4x4x64x128, .f32⟩
  | 7 => ⟨S4x4x64x128, .f32⟩
  | 8 => ⟨S4x4x64x128, .f32⟩
  | 9 => ⟨S4x4x64x128, .f32⟩
  | 10 => ⟨S4x4x64x128, .f32⟩
  | 11 => ⟨S4x4x64x128, .f32⟩
  | 12 => ⟨S4x4x64x128, .f32⟩
  | 13 => ⟨S4x4x64x128, .f32⟩
  | 14 => ⟨S4x4x64x64, .f32⟩
  | 15 => ⟨S_, .f32⟩
  | 16 => ⟨S_, .f32⟩
  | 17 => ⟨S4x4x64x64, .i1⟩
  | 18 => ⟨S4x4x64x64, .f32⟩
  | 19 => ⟨S4x4x64x64, .f32⟩
  | 20 => ⟨S_, .f32⟩
  | 21 => ⟨S4x4x64x64, .f32⟩
  | 22 => ⟨S4x4x64x256, .f32⟩
  | 23 => ⟨S4x4x64x256, .f32⟩
  | 24 => ⟨S4x4x64x256, .f32⟩
  | 25 => ⟨S4x4x128, .f32⟩
  | 26 => ⟨S4x4x128, .f32⟩
  | 27 => ⟨S4x4x128x1, .f32⟩
  | 28 => ⟨S4x4x128x256, .f32⟩
  | 29 => ⟨S4x4x128x256, .f32⟩
  | 30 => ⟨S4x4x128x256, .f32⟩
  | 31 => ⟨S4x4x128x256, .f32⟩
  | 32 => ⟨S4x4x256x64, .f32⟩
  | 33 => ⟨S4x4x64x256, .f32⟩
  | 34 => ⟨S4x4x128x64, .f32⟩
  | 35 => ⟨S4x4x64x128, .f32⟩
  | 36 => ⟨S4x4x128x256, .f32⟩
  | 37 => ⟨S4x4x128x256, .f32⟩
  | 38 => ⟨S4x4x128x256, .f32⟩
  | 39 => ⟨S_, .f32⟩
  | 40 => ⟨S4x4x128, .f32⟩
  | 41 => ⟨S4x4x128x1, .f32⟩
  | 42 => ⟨S_, .f32⟩
  | 43 => ⟨S4x4x128, .f32⟩
  | 44 => ⟨S4x4x128, .f32⟩
  | 45 => ⟨S4x4x1x128, .f32⟩
  | 46 => ⟨S4x4x256x64, .f32⟩
  | 47 => ⟨S4x4x64x256, .f32⟩
  | 48 => ⟨S4x4x64x256, .f32⟩
  | 49 => ⟨S4x4x64x64, .f32⟩
  | 50 => ⟨S4x4x256x128, .f32⟩
  | 51 => ⟨S4x4x128x256, .f32⟩
  | 52 => ⟨S4x4x128x256, .f32⟩
  | 53 => ⟨S4x4x64x128, .f32⟩
  | 54 => ⟨S_, .f32⟩
  | 55 => ⟨S4x4x64x64, .f32⟩
  | 56 => ⟨S4x4x64x64, .f32⟩
  | 57 => ⟨S4x4x64x128, .f32⟩
  | 58 => ⟨S4x4x64x128, .f32⟩
  | 59 => ⟨S4x4x64x128, .f32⟩
  | 60 => ⟨S4x4x64x128, .f32⟩
  | 61 => ⟨S4x4x64x128, .f32⟩
  | 62 => ⟨S4x4x64x128, .f32⟩
  | 63 => ⟨S_, .f32⟩
  | 64 => ⟨S4x4x128, .f32⟩
  | 65 => ⟨S4x4x1x128, .f32⟩
  | 66 => ⟨S4x4x64x128, .f32⟩
  | 67 => ⟨S4x4x1x128, .f32⟩
  | 68 => ⟨S4x4x64x128, .f32⟩
  | 69 => ⟨S4x4x64x128, .f32⟩
  | 70 => ⟨S4x4x64x128, .f32⟩
  | 71 => ⟨S4x4x64x128, .f32⟩
  | 72 => ⟨S4x4x64x128, .f32⟩
  | 73 => ⟨S4x4x64x128, .f32⟩
  | 74 => ⟨S4x4x64x128, .f32⟩
  | 75 => ⟨S4x4x64x128, .f32⟩
  | 76 => ⟨S4x4x64x128, .f32⟩
  | 77 => ⟨S4x4x64x128, .f32⟩
  | 78 => ⟨S_, .f32⟩
  | 79 => ⟨S4x4x64x128, .f32⟩
  | 80 => ⟨S4x4x64x128, .f32⟩
  | 81 => ⟨S_, .f32⟩
  | 82 => ⟨S_, .f32⟩
  | 83 => ⟨S4x4x64x128, .f32⟩
  | 84 => ⟨S1x4x4x64x128, .f32⟩
  | 85 => ⟨S_, .i32⟩
  | 86 => ⟨S_, .i32⟩
  | 87 => ⟨S_, .i32⟩
  | 88 => ⟨S_, .i32⟩
  | 89 => ⟨S36x4x4x64x128, .f32⟩
  | 90 => ⟨S1x4x4x64x128, .f32⟩
  | 91 => ⟨S_, .i32⟩
  | 92 => ⟨S_, .i32⟩
  | 93 => ⟨S_, .i32⟩
  | 94 => ⟨S_, .i32⟩
  | 95 => ⟨S36x4x4x64x128, .f32⟩
  | 96 => ⟨S1x4x4x64x256, .f32⟩
  | 97 => ⟨S_, .i32⟩
  | 98 => ⟨S_, .i32⟩
  | 99 => ⟨S_, .i32⟩
  | 100 => ⟨S_, .i32⟩
  | 101 => ⟨S36x4x4x64x256, .f32⟩
  | 102 => ⟨S1x4x4x64x128, .f32⟩
  | 103 => ⟨S_, .i32⟩
  | 104 => ⟨S_, .i32⟩
  | 105 => ⟨S_, .i32⟩
  | 106 => ⟨S_, .i32⟩
  | 107 => ⟨S36x4x4x64x128, .f32⟩
  | 108 => ⟨S_, .i32⟩
  | 109 => ⟨S_, .i32⟩
  | 110 => ⟨S4x36x64x4x128, .f32⟩
  | 111 => ⟨S4x2304x512, .f32⟩
  | 112 => ⟨S2x2304x512, .f32⟩
  | 113 => ⟨S2x2304x512, .f32⟩
  | 114 => ⟨S2x256x512, .f32⟩
  | 115 => ⟨S2x256x512, .f32⟩
  | 116 => ⟨S2x2048x512, .f32⟩
  | 117 => ⟨S2x2048x512, .f32⟩
  | 118 => ⟨S2x2304x512, .f32⟩
  | 119 => ⟨S4x36x64x4x128, .f32⟩
  | 120 => ⟨S4x2304x512, .f32⟩
  | 121 => ⟨S2x2304x512, .f32⟩
  | 122 => ⟨S2x2304x512, .f32⟩
  | 123 => ⟨S2x256x512, .f32⟩
  | 124 => ⟨S2x256x512, .f32⟩
  | 125 => ⟨S2x2048x512, .f32⟩
  | 126 => ⟨S2x2048x512, .f32⟩
  | 127 => ⟨S2x2304x512, .f32⟩
  | _ => ⟨S2x2304x3200, .bf16⟩

abbrev hbmTy0_2 (i : Nat) : BufTy := match i % 128 with
  | 0 => ⟨S4x36x64x4x256, .f32⟩
  | 1 => ⟨S4x2304x1024, .f32⟩
  | 2 => ⟨S2x2304x1024, .f32⟩
  | 3 => ⟨S2x2304x1024, .f32⟩
  | 4 => ⟨S2x256x1024, .f32⟩
  | 5 => ⟨S2x256x1024, .f32⟩
  | 6 => ⟨S2x2048x1024, .f32⟩
  | 7 => ⟨S2x2048x1024, .f32⟩
  | 8 => ⟨S2x2304x1024, .f32⟩
  | 9 => ⟨S4x36x64x4x128, .f32⟩
  | 10 => ⟨S4x2304x512, .f32⟩
  | 11 => ⟨S2x2304x512, .f32⟩
  | 12 => ⟨S2x2304x512, .f32⟩
  | 13 => ⟨S2x256x512, .f32⟩
  | 14 => ⟨S2x256x512, .f32⟩
  | 15 => ⟨S2x2048x512, .f32⟩
  | 16 => ⟨S2x2048x512, .f32⟩
  | 17 => ⟨S2x2304x512, .f32⟩
  | 18 => ⟨S1x2x2304x512, .f32⟩
  | 19 => ⟨S1x2x2304x512, .f32⟩
  | 20 => ⟨S2x2x2304x512, .f32⟩
  | 21 => ⟨S_, .f32⟩
  | 22 => ⟨S2x2x2304x512, .f32⟩
  | 23 => ⟨S2x2x2304x512, .f32⟩
  | 24 => ⟨S2x2x2304x512, .bf16⟩
  | 25 => ⟨S1x2x2304x512, .f32⟩
  | 26 => ⟨S1x2x2304x512, .f32⟩
  | 27 => ⟨S2x2x2304x512, .f32⟩
  | 28 => ⟨S2x2x2304x512, .bf16⟩
  | 29 => ⟨S1x2x2304x1024, .f32⟩
  | 30 => ⟨S1x2x2304x1024, .f32⟩
  | 31 => ⟨S2x2x2304x1024, .f32⟩
  | 32 => ⟨S2x2x2304x1024, .bf16⟩
  | 33 => ⟨S2x2304x1024, .f32⟩
  | _ => ⟨S2x2304x3200, .bf16⟩

abbrev hbmTy (i : Nat) : BufTy := match i / 128 with
  | 0 => hbmTy0_0 i
  | 1 => hbmTy0_1 i
  | 2 => hbmTy0_2 i
  | _ => ⟨S2x2304x3200, .bf16⟩

abbrev bufTy : (tb : Table) → Fin (tcTables nBuf tb) → BufTy
  | .hbm, ⟨i, _⟩ => hbmTy i
  | _, _ => ⟨S2x2304x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_2 : Ref sig .tc := ⟨.hbm, 55, rfl⟩
abbrev main_v48 : Ref sig .tc := ⟨.hbm, 56, rfl⟩
abbrev main_cst_3 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_c : Ref sig .tc := ⟨.hbm, 63, rfl⟩
abbrev main_v52_0 : Ref sig .tc := ⟨.hbm, 64, rfl⟩
abbrev main_v52_1 : Ref sig .tc := ⟨.hbm, 65, rfl⟩
abbrev main_v52_2 : Ref sig .tc := ⟨.hbm, 66, rfl⟩
abbrev main_v52_3 : Ref sig .tc := ⟨.hbm, 67, rfl⟩
abbrev main_v52_4 : Ref sig .tc := ⟨.hbm, 68, rfl⟩
abbrev main_v52_5 : Ref sig .tc := ⟨.hbm, 69, rfl⟩
abbrev main_v52_6 : Ref sig .tc := ⟨.hbm, 70, rfl⟩
abbrev main_v52_7 : Ref sig .tc := ⟨.hbm, 71, rfl⟩
abbrev main_v52_8 : Ref sig .tc := ⟨.hbm, 72, rfl⟩
abbrev main_v52_9 : Ref sig .tc := ⟨.hbm, 73, rfl⟩
abbrev main_v52_10 : Ref sig .tc := ⟨.hbm, 74, rfl⟩
abbrev main_v52_11 : Ref sig .tc := ⟨.hbm, 75, rfl⟩
abbrev main_while0c_c_18 : Ref sig .tc := ⟨.hbm, 76, rfl⟩
abbrev main_while0c_v104 : Ref sig .tc := ⟨.hbm, 77, rfl⟩
abbrev main_while0b_c_18 : Ref sig .tc := ⟨.hbm, 78, rfl⟩
abbrev main_while0b_v104 : Ref sig .tc := ⟨.hbm, 79, rfl⟩
abbrev main_while0b_c_19 : Ref sig .tc := ⟨.hbm, 80, rfl⟩
abbrev main_while0b_v105 : Ref sig .tc := ⟨.hbm, 81, rfl⟩
abbrev main_while0b_call6_c : Ref sig .tc := ⟨.hbm, 82, rfl⟩
abbrev main_while0b_call6_c_0 : Ref sig .tc := ⟨.hbm, 83, rfl⟩
abbrev main_while0b_call6_c_1 : Ref sig .tc := ⟨.hbm, 84, rfl⟩
abbrev main_while0b_call6_c_2 : Ref sig .tc := ⟨.hbm, 85, rfl⟩
abbrev main_while0b_call6_v0 : Ref sig .tc := ⟨.hbm, 86, rfl⟩
abbrev main_while0b_v106 : Ref sig .tc := ⟨.hbm, 87, rfl⟩
abbrev main_while0b_call7_c : Ref sig .tc := ⟨.hbm, 88, rfl⟩
abbrev main_while0b_call7_c_0 : Ref sig .tc := ⟨.hbm, 89, rfl⟩
abbrev main_while0b_call7_c_1 : Ref sig .tc := ⟨.hbm, 90, rfl⟩
abbrev main_while0b_call7_c_2 : Ref sig .tc := ⟨.hbm, 91, rfl⟩
abbrev main_while0b_call7_v0 : Ref sig .tc := ⟨.hbm, 92, rfl⟩
abbrev main_while0b_v107 : Ref sig .tc := ⟨.hbm, 93, rfl⟩
abbrev main_while0b_call8_c : Ref sig .tc := ⟨.hbm, 94, rfl⟩
abbrev main_while0b_call8_c_0 : Ref sig .tc := ⟨.hbm, 95, rfl⟩
abbrev main_while0b_call8_c_1 : Ref sig .tc := ⟨.hbm, 96, rfl⟩
abbrev main_while0b_call8_c_2 : Ref sig .tc := ⟨.hbm, 97, rfl⟩
abbrev main_while0b_call8_v0 : Ref sig .tc := ⟨.hbm, 98, rfl⟩
abbrev main_while0b_v108 : Ref sig .tc := ⟨.hbm, 99, rfl⟩
abbrev main_while0b_call9_c : Ref sig .tc := ⟨.hbm, 100, rfl⟩
abbrev main_while0b_call9_c_0 : Ref sig .tc := ⟨.hbm, 101, rfl⟩
abbrev main_while0b_call9_c_1 : Ref sig .tc := ⟨.hbm, 102, rfl⟩
abbrev main_while0b_call9_c_2 : Ref sig .tc := ⟨.hbm, 103, rfl⟩
abbrev main_while0b_call9_v0 : Ref sig .tc := ⟨.hbm, 104, rfl⟩
abbrev main_while0b_v109 : Ref sig .tc := ⟨.hbm, 105, rfl⟩
abbrev main_while0b_call10_c : Ref sig .tc := ⟨.hbm, 106, rfl⟩
abbrev main_while0b_call10_c_0 : Ref sig .tc := ⟨.hbm, 107, rfl⟩
abbrev main_while0b_call10_c_1 : Ref sig .tc := ⟨.hbm, 108, rfl⟩
abbrev main_while0b_call10_c_2 : Ref sig .tc := ⟨.hbm, 109, rfl⟩
abbrev main_while0b_call10_v0 : Ref sig .tc := ⟨.hbm, 110, rfl⟩
abbrev main_while0b_v110 : Ref sig .tc := ⟨.hbm, 111, rfl⟩
abbrev main_while0b_call11_c : Ref sig .tc := ⟨.hbm, 112, rfl⟩
abbrev main_while0b_call11_c_0 : Ref sig .tc := ⟨.hbm, 113, rfl⟩
abbrev main_while0b_call11_c_1 : Ref sig .tc := ⟨.hbm, 114, rfl⟩
abbrev main_while0b_call11_c_2 : Ref sig .tc := ⟨.hbm, 115, rfl⟩
abbrev main_while0b_call11_v0 : Ref sig .tc := ⟨.hbm, 116, rfl⟩
abbrev main_while0b_v111 : Ref sig .tc := ⟨.hbm, 117, rfl⟩
abbrev main_while0b_c_20 : Ref sig .tc := ⟨.hbm, 118, rfl⟩
abbrev main_while0b_v112 : Ref sig .tc := ⟨.hbm, 119, rfl⟩
abbrev main_while0b_call12_v0 : Ref sig .tc := ⟨.hbm, 120, rfl⟩
abbrev main_while0b_call12_c : Ref sig .tc := ⟨.hbm, 121, rfl⟩
abbrev main_while0b_call12_v1 : Ref sig .tc := ⟨.hbm, 122, rfl⟩
abbrev main_while0b_call12_v2 : Ref sig .tc := ⟨.hbm, 123, rfl⟩
abbrev main_while0b_call12_v3 : Ref sig .tc := ⟨.hbm, 124, rfl⟩
abbrev main_while0b_call12_v4 : Ref sig .tc := ⟨.hbm, 125, rfl⟩
abbrev main_while0b_call12_c_0 : Ref sig .tc := ⟨.hbm, 126, rfl⟩
abbrev main_while0b_call12_v5 : Ref sig .tc := ⟨.hbm, 127, rfl⟩
abbrev main_while0b_v113 : Ref sig .tc := ⟨.hbm, 128, rfl⟩
abbrev main_while0b_call13_call0_cst : Ref sig .tc := ⟨.hbm, 129, rfl⟩
abbrev main_while0b_call13_call0_v0 : Ref sig .tc := ⟨.hbm, 130, rfl⟩
abbrev main_while0b_v114 : Ref sig .tc := ⟨.hbm, 131, rfl⟩
abbrev main_while0b_v115 : Ref sig .tc := ⟨.hbm, 132, rfl⟩
abbrev main_while0b_v116 : Ref sig .tc := ⟨.hbm, 133, rfl⟩
abbrev main_while0b_v117 : Ref sig .tc := ⟨.hbm, 134, rfl⟩
abbrev main_while0b_v118 : Ref sig .tc := ⟨.hbm, 135, rfl⟩
abbrev main_while0b_v119 : Ref sig .tc := ⟨.hbm, 136, rfl⟩
abbrev main_while0b_v120 : Ref sig .tc := ⟨.hbm, 137, rfl⟩
abbrev main_while0b_v121 : Ref sig .tc := ⟨.hbm, 138, rfl⟩
abbrev main_while0b_v122 : Ref sig .tc := ⟨.hbm, 139, rfl⟩
abbrev main_while0b_v123 : Ref sig .tc := ⟨.hbm, 140, rfl⟩
abbrev main_while0b_v124 : Ref sig .tc := ⟨.hbm, 141, rfl⟩
abbrev main_while0b_v125 : Ref sig .tc := ⟨.hbm, 142, rfl⟩
abbrev main_while0b_cst_21 : Ref sig .tc := ⟨.hbm, 143, rfl⟩
abbrev main_while0b_call14_v0 : Ref sig .tc := ⟨.hbm, 144, rfl⟩
abbrev main_while0b_v126_1 : Ref sig .tc := ⟨.hbm, 145, rfl⟩
abbrev main_while0b_call14_v2 : Ref sig .tc := ⟨.hbm, 146, rfl⟩
abbrev main_while0b_v126_0 : Ref sig .tc := ⟨.hbm, 147, rfl⟩
abbrev main_while0b_call14_cst : Ref sig .tc := ⟨.hbm, 148, rfl⟩
abbrev main_while0b_v126_2 : Ref sig .tc := ⟨.hbm, 149, rfl⟩
abbrev main_while0b_v127 : Ref sig .tc := ⟨.hbm, 150, rfl⟩
abbrev main_while0b_v128 : Ref sig .tc := ⟨.hbm, 151, rfl⟩
abbrev main_while0b_v129 : Ref sig .tc := ⟨.hbm, 152, rfl⟩
abbrev main_while0b_v130 : Ref sig .tc := ⟨.hbm, 153, rfl⟩
abbrev main_while0b_v131 : Ref sig .tc := ⟨.hbm, 154, rfl⟩
abbrev main_while0b_v132 : Ref sig .tc := ⟨.hbm, 155, rfl⟩
abbrev main_while0b_v133 : Ref sig .tc := ⟨.hbm, 156, rfl⟩
abbrev main_while0b_v134 : Ref sig .tc := ⟨.hbm, 157, rfl⟩
abbrev main_while0b_v135 : Ref sig .tc := ⟨.hbm, 158, rfl⟩
abbrev main_while0b_v136 : Ref sig .tc := ⟨.hbm, 159, rfl⟩
abbrev main_while0b_v137 : Ref sig .tc := ⟨.hbm, 160, rfl⟩
abbrev main_while0b_v138 : Ref sig .tc := ⟨.hbm, 161, rfl⟩
abbrev main_while0b_v139 : Ref sig .tc := ⟨.hbm, 162, rfl⟩
abbrev main_while0b_v140 : Ref sig .tc := ⟨.hbm, 163, rfl⟩
abbrev main_while0b_v141 : Ref sig .tc := ⟨.hbm, 164, rfl⟩
abbrev main_while0b_v142 : Ref sig .tc := ⟨.hbm, 165, rfl⟩
abbrev main_while0b_v143 : Ref sig .tc := ⟨.hbm, 166, rfl⟩
abbrev main_while0b_cst_22 : Ref sig .tc := ⟨.hbm, 167, rfl⟩
abbrev main_while0b_v144 : Ref sig .tc := ⟨.hbm, 168, rfl⟩
abbrev main_while0b_v145 : Ref sig .tc := ⟨.hbm, 169, rfl⟩
abbrev main_while0b_cst_23 : Ref sig .tc := ⟨.hbm, 170, rfl⟩
abbrev main_while0b_v146 : Ref sig .tc := ⟨.hbm, 171, rfl⟩
abbrev main_while0b_v147 : Ref sig .tc := ⟨.hbm, 172, rfl⟩
abbrev main_while0b_v148 : Ref sig .tc := ⟨.hbm, 173, rfl⟩
abbrev main_while0b_v149 : Ref sig .tc := ⟨.hbm, 174, rfl⟩
abbrev main_while0b_v150 : Ref sig .tc := ⟨.hbm, 175, rfl⟩
abbrev main_while0b_v151 : Ref sig .tc := ⟨.hbm, 176, rfl⟩
abbrev main_while0b_v152 : Ref sig .tc := ⟨.hbm, 177, rfl⟩
abbrev main_while0b_v153 : Ref sig .tc := ⟨.hbm, 178, rfl⟩
abbrev main_while0b_v154 : Ref sig .tc := ⟨.hbm, 179, rfl⟩
abbrev main_while0b_v155 : Ref sig .tc := ⟨.hbm, 180, rfl⟩
abbrev main_while0b_v156 : Ref sig .tc := ⟨.hbm, 181, rfl⟩
abbrev main_while0b_call15_cst : Ref sig .tc := ⟨.hbm, 182, rfl⟩
abbrev main_while0b_call15_v0 : Ref sig .tc := ⟨.hbm, 183, rfl⟩
abbrev main_while0b_v157 : Ref sig .tc := ⟨.hbm, 184, rfl⟩
abbrev main_while0b_v158 : Ref sig .tc := ⟨.hbm, 185, rfl⟩
abbrev main_while0b_v159 : Ref sig .tc := ⟨.hbm, 186, rfl⟩
abbrev main_while0b_v160 : Ref sig .tc := ⟨.hbm, 187, rfl⟩
abbrev main_while0b_v161 : Ref sig .tc := ⟨.hbm, 188, rfl⟩
abbrev main_while0b_v162 : Ref sig .tc := ⟨.hbm, 189, rfl⟩
abbrev main_while0b_v163 : Ref sig .tc := ⟨.hbm, 190, rfl⟩
abbrev main_while0b_cst_24 : Ref sig .tc := ⟨.hbm, 191, rfl⟩
abbrev main_while0b_v164 : Ref sig .tc := ⟨.hbm, 192, rfl⟩
abbrev main_while0b_v165 : Ref sig .tc := ⟨.hbm, 193, rfl⟩
abbrev main_while0b_v166 : Ref sig .tc := ⟨.hbm, 194, rfl⟩
abbrev main_while0b_v167 : Ref sig .tc := ⟨.hbm, 195, rfl⟩
abbrev main_while0b_v168 : Ref sig .tc := ⟨.hbm, 196, rfl⟩
abbrev main_while0b_v169 : Ref sig .tc := ⟨.hbm, 197, rfl⟩
abbrev main_while0b_v170 : Ref sig .tc := ⟨.hbm, 198, rfl⟩
abbrev main_while0b_v171 : Ref sig .tc := ⟨.hbm, 199, rfl⟩
abbrev main_while0b_v172 : Ref sig .tc := ⟨.hbm, 200, rfl⟩
abbrev main_while0b_v173 : Ref sig .tc := ⟨.hbm, 201, rfl⟩
abbrev main_while0b_v174 : Ref sig .tc := ⟨.hbm, 202, rfl⟩
abbrev main_while0b_v175 : Ref sig .tc := ⟨.hbm, 203, rfl⟩
abbrev main_while0b_v176 : Ref sig .tc := ⟨.hbm, 204, rfl⟩
abbrev main_while0b_v177 : Ref sig .tc := ⟨.hbm, 205, rfl⟩
abbrev main_while0b_cst_25 : Ref sig .tc := ⟨.hbm, 206, rfl⟩
abbrev main_while0b_v178 : Ref sig .tc := ⟨.hbm, 207, rfl⟩
abbrev main_while0b_v179 : Ref sig .tc := ⟨.hbm, 208, rfl⟩
abbrev main_while0b_call16_call0_cst : Ref sig .tc := ⟨.hbm, 209, rfl⟩
abbrev main_while0b_call16_call0_v0 : Ref sig .tc := ⟨.hbm, 210, rfl⟩
abbrev main_while0b_v180 : Ref sig .tc := ⟨.hbm, 211, rfl⟩
abbrev main_while0b_call17_v0 : Ref sig .tc := ⟨.hbm, 212, rfl⟩
abbrev main_while0b_call17_c : Ref sig .tc := ⟨.hbm, 213, rfl⟩
abbrev main_while0b_call17_c_0 : Ref sig .tc := ⟨.hbm, 214, rfl⟩
abbrev main_while0b_call17_c_1 : Ref sig .tc := ⟨.hbm, 215, rfl⟩
abbrev main_while0b_call17_c_2 : Ref sig .tc := ⟨.hbm, 216, rfl⟩
abbrev main_while0b_v181 : Ref sig .tc := ⟨.hbm, 217, rfl⟩
abbrev main_while0b_call18_v0 : Ref sig .tc := ⟨.hbm, 218, rfl⟩
abbrev main_while0b_call18_c : Ref sig .tc := ⟨.hbm, 219, rfl⟩
abbrev main_while0b_call18_c_0 : Ref sig .tc := ⟨.hbm, 220, rfl⟩
abbrev main_while0b_call18_c_1 : Ref sig .tc := ⟨.hbm, 221, rfl⟩
abbrev main_while0b_call18_c_2 : Ref sig .tc := ⟨.hbm, 222, rfl⟩
abbrev main_while0b_v182 : Ref sig .tc := ⟨.hbm, 223, rfl⟩
abbrev main_while0b_call19_v0 : Ref sig .tc := ⟨.hbm, 224, rfl⟩
abbrev main_while0b_call19_c : Ref sig .tc := ⟨.hbm, 225, rfl⟩
abbrev main_while0b_call19_c_0 : Ref sig .tc := ⟨.hbm, 226, rfl⟩
abbrev main_while0b_call19_c_1 : Ref sig .tc := ⟨.hbm, 227, rfl⟩
abbrev main_while0b_call19_c_2 : Ref sig .tc := ⟨.hbm, 228, rfl⟩
abbrev main_while0b_v183 : Ref sig .tc := ⟨.hbm, 229, rfl⟩
abbrev main_while0b_call20_v0 : Ref sig .tc := ⟨.hbm, 230, rfl⟩
abbrev main_while0b_call20_c : Ref sig .tc := ⟨.hbm, 231, rfl⟩
abbrev main_while0b_call20_c_0 : Ref sig .tc := ⟨.hbm, 232, rfl⟩
abbrev main_while0b_call20_c_1 : Ref sig .tc := ⟨.hbm, 233, rfl⟩
abbrev main_while0b_call20_c_2 : Ref sig .tc := ⟨.hbm, 234, rfl⟩
abbrev main_while0b_v184 : Ref sig .tc := ⟨.hbm, 235, rfl⟩
abbrev main_while0b_c_26 : Ref sig .tc := ⟨.hbm, 236, rfl⟩
abbrev main_while0b_v185 : Ref sig .tc := ⟨.hbm, 237, rfl⟩
abbrev main_v53 : Ref sig .tc := ⟨.hbm, 238, rfl⟩
abbrev main_v54 : Ref sig .tc := ⟨.hbm, 239, rfl⟩
abbrev main_v55 : Ref sig .tc := ⟨.hbm, 240, rfl⟩
abbrev main_v56 : Ref sig .tc := ⟨.hbm, 241, rfl⟩
abbrev main_v57 : Ref sig .tc := ⟨.hbm, 242, rfl⟩
abbrev main_v58 : Ref sig .tc := ⟨.hbm, 243, rfl⟩
abbrev main_v59 : Ref sig .tc := ⟨.hbm, 244, rfl⟩
abbrev main_v60 : Ref sig .tc := ⟨.hbm, 245, rfl⟩
abbrev main_v61 : Ref sig .tc := ⟨.hbm, 246, rfl⟩
abbrev main_v62 : Ref sig .tc := ⟨.hbm, 247, rfl⟩
abbrev main_v63 : Ref sig .tc := ⟨.hbm, 248, rfl⟩
abbrev main_v64 : Ref sig .tc := ⟨.hbm, 249, rfl⟩
abbrev main_v65 : Ref sig .tc := ⟨.hbm, 250, rfl⟩
abbrev main_v66 : Ref sig .tc := ⟨.hbm, 251, rfl⟩
abbrev main_v67 : Ref sig .tc := ⟨.hbm, 252, rfl⟩
abbrev main_v68 : Ref sig .tc := ⟨.hbm, 253, rfl⟩
abbrev main_v69 : Ref sig .tc := ⟨.hbm, 254, rfl⟩
abbrev main_v70 : Ref sig .tc := ⟨.hbm, 255, rfl⟩
abbrev main_v71 : Ref sig .tc := ⟨.hbm, 256, rfl⟩
abbrev main_v72 : Ref sig .tc := ⟨.hbm, 257, rfl⟩
abbrev main_v73 : Ref sig .tc := ⟨.hbm, 258, rfl⟩
abbrev main_v74 : Ref sig .tc := ⟨.hbm, 259, rfl⟩
abbrev main_v75 : Ref sig .tc := ⟨.hbm, 260, rfl⟩
abbrev main_v76 : Ref sig .tc := ⟨.hbm, 261, rfl⟩
abbrev main_v77 : Ref sig .tc := ⟨.hbm, 262, rfl⟩
abbrev main_v78 : Ref sig .tc := ⟨.hbm, 263, rfl⟩
abbrev main_v79 : Ref sig .tc := ⟨.hbm, 264, rfl⟩
abbrev main_v80 : Ref sig .tc := ⟨.hbm, 265, rfl⟩
abbrev main_v81 : Ref sig .tc := ⟨.hbm, 266, rfl⟩
abbrev main_v82 : Ref sig .tc := ⟨.hbm, 267, rfl⟩
abbrev main_v83 : Ref sig .tc := ⟨.hbm, 268, rfl⟩
abbrev main_v84 : Ref sig .tc := ⟨.hbm, 269, rfl⟩
abbrev main_v85 : Ref sig .tc := ⟨.hbm, 270, rfl⟩
abbrev main_v86 : Ref sig .tc := ⟨.hbm, 271, rfl⟩
abbrev main_v87 : Ref sig .tc := ⟨.hbm, 272, rfl⟩
abbrev main_v88 : Ref sig .tc := ⟨.hbm, 273, rfl⟩
abbrev main_v89 : Ref sig .tc := ⟨.hbm, 274, rfl⟩
abbrev main_v90 : Ref sig .tc := ⟨.hbm, 275, rfl⟩
abbrev main_v91 : Ref sig .tc := ⟨.hbm, 276, rfl⟩
abbrev main_cst_6 : Ref sig .tc := ⟨.hbm, 277, rfl⟩
abbrev main_v92 : Ref sig .tc := ⟨.hbm, 278, rfl⟩
abbrev main_v93 : Ref sig .tc := ⟨.hbm, 279, rfl⟩
abbrev main_v94 : Ref sig .tc := ⟨.hbm, 280, rfl⟩
abbrev main_v95 : Ref sig .tc := ⟨.hbm, 281, rfl⟩
abbrev main_v96 : Ref sig .tc := ⟨.hbm, 282, rfl⟩
abbrev main_v97 : Ref sig .tc := ⟨.hbm, 283, rfl⟩
abbrev main_v98 : Ref sig .tc := ⟨.hbm, 284, rfl⟩
abbrev main_v99 : Ref sig .tc := ⟨.hbm, 285, rfl⟩
abbrev main_v100 : Ref sig .tc := ⟨.hbm, 286, rfl⟩
abbrev main_v101 : Ref sig .tc := ⟨.hbm, 287, rfl⟩
abbrev main_v102 : Ref sig .tc := ⟨.hbm, 288, rfl⟩
abbrev main_v103 : Ref sig .tc := ⟨.hbm, 289, rfl⟩

abbrev nD : Nat := 1
abbrev τ : Topo := Topo.v7x

variable {F : FTy → Type} [FloatOps F]

abbrev main_while0_count : Scf.Loop 32 := ⟨0#32, 36#32, 1#32⟩
-- ==== Fwd.lean ====
abbrev S2x2304x3200 : Shape := ⟨3, ![2, 2304, 3200]⟩
abbrev S2x2304x1024 : Shape := ⟨3, ![2, 2304, 1024]⟩
abbrev S2x2304x2048 : Shape := ⟨3, ![2, 2304, 2048]⟩
abbrev S2x2x36x4x256x128 : Shape := ⟨6, ![2, 2, 36, 4, 256, 128]⟩
abbrev S2x64x512 : Shape := ⟨3, ![2, 64, 512]⟩
abbrev S2x64x1024 : Shape := ⟨3, ![2, 64, 1024]⟩
abbrev S2x1x1x4x256x128 : Shape := ⟨6, ![2, 1, 1, 4, 256, 128]⟩
abbrev S2x4x256x128 : Shape := ⟨4, ![2, 4, 256, 128]⟩
abbrev S64x64 : Shape := ⟨2, ![64, 64]⟩
abbrev S1x64x512 : Shape := ⟨3, ![1, 64, 512]⟩
abbrev S64x512 : Shape := ⟨2, ![64, 512]⟩
abbrev S512 : Shape := ⟨1, ![512]⟩
abbrev S1x512 : Shape := ⟨2, ![1, 512]⟩
abbrev S64x128 : Shape := ⟨2, ![64, 128]⟩
abbrev S1x64x256 : Shape := ⟨3, ![1, 64, 256]⟩
abbrev S64x256 : Shape := ⟨2, ![64, 256]⟩
abbrev S1x1x256x128 : Shape := ⟨4, ![1, 1, 256, 128]⟩
abbrev S256x128 : Shape := ⟨2, ![256, 128]⟩
abbrev S1x128 : Shape := ⟨2, ![1, 128]⟩

abbrev nBuf : Space → Nat
  | .hbm => 4
  | .vmem => 13
  | .smem => 0
  | _ => 0

abbrev bufTy : (tb : Table) → Fin (tcTables nBuf tb) → BufTy
  | .hbm, ⟨0, _⟩ => ⟨S2x2304x3200, .bf16⟩
  | .hbm, ⟨1, _⟩ => ⟨S2x2304x1024, .f32⟩
  | .hbm, ⟨2, _⟩ => ⟨S2x2304x2048, .f32⟩
  | .hbm, ⟨3, _⟩ => ⟨S2x2x36x4x256x128, .f32⟩
  | .local _ .vmem, ⟨0, _⟩ => ⟨S2x64x512, .bf16⟩
  | .local _ .vmem, ⟨1, _⟩ => ⟨S2x64x512, .bf16⟩
  | .local _ .vmem, ⟨2, _⟩ => ⟨S2x64x512, .bf16⟩
  | .local _ .vmem, ⟨3, _⟩ => ⟨S2x64x512, .bf16⟩
  | .local _ .vmem, ⟨4, _⟩ => ⟨S2x64x1024, .bf16⟩
  | .local _ .vmem, ⟨5, _⟩ => ⟨S2x64x1024, .bf16⟩
  | .local _ .vmem, ⟨6, _⟩ => ⟨S2x64x512, .f32⟩
  | .local _ .vmem, ⟨7, _⟩ => ⟨S2x64x512, .f32⟩
  | .local _ .vmem, ⟨8, _⟩ => ⟨S2x64x1024, .f32⟩
  | .local _ .vmem, ⟨9, _⟩ => ⟨S2x64x1024, .f32⟩
  | .local _ .vmem, ⟨10, _⟩ => ⟨S2x1x1x4x256x128, .f32⟩
  | .local _ .vmem, ⟨11, _⟩ => ⟨S2x1x1x4x256x128, .f32⟩
  | .local _ .vmem, ⟨12, _⟩ => ⟨S2x4x256x128, .f32⟩
  | _, _ => ⟨S2x2304x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 36], ![false, false]⟩

def k0_cond2 (i : grid0.Coords) : BitVec 1 :=
  let arg0 : BitVec 32 := BitVec.ofNat 32 (i 0).val
  let c0_i32_10 : BitVec 32 := 0#32
  let v7 : BitVec 1 := Scalar.cmpi .eq arg0 c0_i32_10
  let v8 : BitVec 32 := Scalar.extui v7
  let c0_i32_11 : BitVec 32 := 0#32
  let v9 : BitVec 1 := Scalar.cmpi .ne v8 c0_i32_11
  v9

def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_12 : BitVec 32 := 0#32
  let v12 : BitVec 1 := Scalar.cmpi .ne v11 c0_i32_12
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 1 := Scalar.cmpi .slt arg1 c4_i32
  let c3_i32 : BitVec 32 := 3#32
  let v2 : BitVec 32 := Scalar.subi c3_i32 arg1
  let c39_i32 : BitVec 32 := 39#32
  let v3 : BitVec 32 := Scalar.subi c39_i32 arg1
  let v4 : BitVec 32 := Scalar.select v1 v2 v3
  let v5 : BitVec 32 := Scalar.select v0 arg1 v4
  let c0_i32_0 : BitVec 32 := 0#32
  let c0_i32_1 : BitVec 32 := 0#32
  let c0_i32_2 : BitVec 32 := 0#32
  ![c0_i32_0.toNat, v5.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 1 := Scalar.cmpi .slt arg1 c4_i32
  let c3_i32 : BitVec 32 := 3#32
  let v2 : BitVec 32 := Scalar.subi c3_i32 arg1
  let c39_i32 : BitVec 32 := 39#32
  let v3 : BitVec 32 := Scalar.subi c39_i32 arg1
  let v4 : BitVec 32 := Scalar.select v1 v2 v3
  let v5 : BitVec 32 := Scalar.select v0 arg1 v4
  let c0_i32_0 : BitVec 32 := 0#32
  let c1_i32 : BitVec 32 := 1#32
  let c0_i32_1 : BitVec 32 := 0#32
  ![c0_i32_0.toNat, v5.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 1 := Scalar.cmpi .slt arg1 c4_i32
  let c3_i32 : BitVec 32 := 3#32
  let v2 : BitVec 32 := Scalar.subi c3_i32 arg1
  let c39_i32 : BitVec 32 := 39#32
  let v3 : BitVec 32 := Scalar.subi c39_i32 arg1
  let v4 : BitVec 32 := Scalar.select v1 v2 v3
  let v5 : BitVec 32 := Scalar.select v0 arg1 v4
  let c0_i32_0 : BitVec 32 := 0#32
  let c1_i32 : BitVec 32 := 1#32
  let c0_i32_1 : BitVec 32 := 0#32
  ![c0_i32_0.toNat, v5.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 1 := Scalar.cmpi .slt arg1 c4_i32
  let c3_i32 : BitVec 32 := 3#32
  let v2 : BitVec 32 := Scalar.subi c3_i32 arg1
  let c39_i32 : BitVec 32 := 39#32
  let v3 : BitVec 32 := Scalar.subi c39_i32 arg1
  let v4 : BitVec 32 := Scalar.select v1 v2 v3
  let v5 : BitVec 32 := Scalar.select v0 arg1 v4
  let c0_i32_0 : BitVec 32 := 0#32
  let c0_i32_1 : BitVec 32 := 0#32
  ![c0_i32_0.toNat, v5.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 1 := Scalar.cmpi .slt arg1 c4_i32
  let c3_i32 : BitVec 32 := 3#32
  let v2 : BitVec 32 := Scalar.subi c3_i32 arg1
  let c39_i32 : BitVec 32 := 39#32
  let v3 : BitVec 32 := Scalar.subi c39_i32 arg1
  let v4 : BitVec 32 := Scalar.select v1 v2 v3
  let v5 : BitVec 32 := Scalar.select v0 arg1 v4
  let c0_i32_0 : BitVec 32 := 0#32
  let c0_i32_1 : BitVec 32 := 0#32
  ![c0_i32_0.toNat, v5.toNat, arg0.toNat]

def cc0_transform_5 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, arg1.toNat, c0_i32_0.toNat, c0_i32_1.toNat, c0_i32_2.toNat]

abbrev stage0_0 : Fin 2 → Memref sig .tc .vmem S2x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FwdRefIdeal.lean ====
abbrev S2x2304x3200 : Shape := ⟨3, ![2, 2304, 3200]⟩
abbrev S2x2304x1024 : Shape := ⟨3, ![2, 2304, 1024]⟩
abbrev S_ : Shape := ⟨0, ![]⟩
abbrev S4x4x128x256 : Shape := ⟨4, ![4, 4, 128, 256]⟩
abbrev S2x2304x2048 : Shape := ⟨3, ![2, 2304, 2048]⟩
abbrev S2x256x2048 : Shape := ⟨3, ![2, 256, 2048]⟩
abbrev S2x2048x2048 : Shape := ⟨3, ![2, 2048, 2048]⟩
abbrev S4x2304x2048 : Shape := ⟨3, ![4, 2304, 2048]⟩
abbrev S4x2304x512 : Shape := ⟨3, ![4, 2304, 512]⟩
abbrev S4x2304x1024 : Shape := ⟨3, ![4, 2304, 1024]⟩
abbrev S4x2304x4x128 : Shape := ⟨4, ![4, 2304, 4, 128]⟩
abbrev S2x2304x512 : Shape := ⟨3, ![2, 2304, 512]⟩
abbrev S2x256x512 : Shape := ⟨3, ![2, 256, 512]⟩
abbrev S2x2048x512 : Shape := ⟨3, ![2, 2048, 512]⟩
abbrev S4x36x64x4x128 : Shape := ⟨5, ![4, 36, 64, 4, 128]⟩
abbrev S36x4x4x64x128 : Shape := ⟨5, ![36, 4, 4, 64, 128]⟩
abbrev S4x2304x4x256 : Shape := ⟨4, ![4, 2304, 4, 256]⟩
abbrev S4x36x64x4x256 : Shape := ⟨5, ![4, 36, 64, 4, 256]⟩
abbrev S36x4x4x64x256 : Shape := ⟨5, ![36, 4, 4, 64, 256]⟩
abbrev S36x4x4x128x256 : Shape := ⟨5, ![36, 4, 4, 128, 256]⟩
abbrev S1x4x4x64x128 : Shape := ⟨5, ![1, 4, 4, 64, 128]⟩
abbrev S4x4x64x128 : Shape := ⟨4, ![4, 4, 64, 128]⟩
abbrev S1x4x4x64x256 : Shape := ⟨5, ![1, 4, 4, 64, 256]⟩
abbrev S4x4x64x256 : Shape := ⟨4, ![4, 4, 64, 256]⟩
abbrev S64x64 : Shape := ⟨2, ![64, 64]⟩
abbrev S4x4x1x128 : Shape := ⟨4, ![4, 4, 1, 128]⟩
abbrev S4x4x64x64 : Shape := ⟨4, ![4, 4, 64, 64]⟩
abbrev S4x4x128 : Shape := ⟨3, ![4, 4, 128]⟩
abbrev S4x4x128x1 : Shape := ⟨4, ![4, 4, 128, 1]⟩
abbrev S1x4x4x128x256 : Shape := ⟨5, ![1, 4, 4, 128, 256]⟩
abbrev S2x256x1024 : Shape := ⟨3, ![2, 256, 1024]⟩
abbrev S2x2048x1024 : Shape := ⟨3, ![2, 2048, 1024]⟩
abbrev S36x2x2x4x128x256 : Shape := ⟨6, ![36, 2, 2, 4, 128, 256]⟩
abbrev S2x2x36x4x256x128 : Shape := ⟨6, ![2, 2, 36, 4, 256, 128]⟩

abbrev nBuf : Space → Nat
  | .hbm => 143
  | .vmem => 0
  | .smem => 0
  | _ => 0

abbrev hbmTy0_0 (i : Nat) : BufTy := match i % 128 with
  | 0 => ⟨S2x2304x3200, .bf16⟩
  | 1 => ⟨S2x2304x1024, .f32⟩
  | 2 => ⟨S_, .f32⟩
  | 3 => ⟨S4x4x128x256, .f32⟩
  | 4 => ⟨S2x2304x2048, .bf16⟩
  | 5 => ⟨S2x2304x2048, .f32⟩
  | 6 => ⟨S2x256x2048, .f32⟩
  | 7 => ⟨S2x256x2048, .f32⟩
  | 8 => ⟨S2x2048x2048, .f32⟩
  | 9 => ⟨S2x2048x2048, .f32⟩
  | 10 => ⟨S2x2304x2048, .f32⟩
  | 11 => ⟨S4x2304x2048, .f32⟩
  | 12 => ⟨S4x2304x512, .f32⟩
  | 13 => ⟨S4x2304x512, .f32⟩
  | 14 => ⟨S4x2304x1024, .f32⟩
  | 15 => ⟨S4x2304x4x128, .f32⟩
  | 16 => ⟨S_, .f32⟩
  | 17 => ⟨S4x2304x4x128, .f32⟩
  | 18 => ⟨S4x2304x4x128, .f32⟩
  | 19 => ⟨S2x2304x512, .f32⟩
  | 20 => ⟨S2x2304x512, .f32⟩
  | 21 => ⟨S2x256x512, .f32⟩
  | 22 => ⟨S2x256x512, .f32⟩
  | 23 => ⟨S2x2048x512, .f32⟩
  | 24 => ⟨S2x2048x512, .f32⟩
  | 25 => ⟨S2x2304x512, .f32⟩
  | 26 => ⟨S4x2304x512, .f32⟩
  | 27 => ⟨S4x36x64x4x128, .f32⟩
  | 28 => ⟨S36x4x4x64x128, .f32⟩
  | 29 => ⟨S4x2304x4x128, .f32⟩
  | 30 => ⟨S4x36x64x4x128, .f32⟩
  | 31 => ⟨S36x4x4x64x128, .f32⟩
  | 32 => ⟨S4x2304x4x256, .f32⟩
  | 33 => ⟨S4x36x64x4x256, .f32⟩
  | 34 => ⟨S36x4x4x64x256, .f32⟩
  | 35 => ⟨S4x2304x4x128, .f32⟩
  | 36 => ⟨S4x36x64x4x128, .f32⟩
  | 37 => ⟨S36x4x4x64x128, .f32⟩
  | 38 => ⟨S_, .f32⟩
  | 39 => ⟨S36x4x4x64x256, .f32⟩
  | 40 => ⟨S_, .f32⟩
  | 41 => ⟨S36x4x4x128x256, .f32⟩
  | 42 => ⟨S_, .i32⟩
  | 43 => ⟨S36x4x4x64x128, .f32⟩
  | 44 => ⟨S36x4x4x64x128, .f32⟩
  | 45 => ⟨S36x4x4x64x256, .f32⟩
  | 46 => ⟨S36x4x4x64x128, .f32⟩
  | 47 => ⟨S_, .i32⟩
  | 48 => ⟨S4x4x128x256, .f32⟩
  | 49 => ⟨S36x4x4x64x256, .f32⟩
  | 50 => ⟨S36x4x4x128x256, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S1x4x4x64x128, .f32⟩
  | 58 => ⟨S4x4x64x128, .f32⟩
  | 59 => ⟨S_, .i32⟩
  | 60 => ⟨S_, .i32⟩
  | 61 => ⟨S_, .i32⟩
  | 62 => ⟨S_, .i32⟩
  | 63 => ⟨S1x4x4x64x128, .f32⟩
  | 64 => ⟨S4x4x64x128, .f32⟩
  | 65 => ⟨S_, .i32⟩
  | 66 => ⟨S_, .i32⟩
  | 67 => ⟨S_, .i32⟩
  | 68 => ⟨S_, .i32⟩
  | 69 => ⟨S1x4x4x64x256, .f32⟩
  | 70 => ⟨S4x4x64x256, .f32⟩
  | 71 => ⟨S_, .i32⟩
  | 72 => ⟨S_, .i32⟩
  | 73 => ⟨S_, .i32⟩
  | 74 => ⟨S_, .i32⟩
  | 75 => ⟨S1x4x4x64x128, .f32⟩
  | 76 => ⟨S4x4x64x128, .f32⟩
  | 77 => ⟨S_, .i1⟩
  | 78 => ⟨S64x64, .i1⟩
  | 79 => ⟨S64x64, .i32⟩
  | 80 => ⟨S_, .i32⟩
  | 81 => ⟨S64x64, .i32⟩
  | 82 => ⟨S64x64, .i32⟩
  | 83 => ⟨S64x64, .i32⟩
  | 84 => ⟨S64x64, .i1⟩
  | 85 => ⟨S_, .i1⟩
  | 86 => ⟨S64x64, .i1⟩
  | 87 => ⟨S64x64, .i1⟩
  | 88 => ⟨S_, .f32⟩
  | 89 => ⟨S_, .f32⟩
  | 90 => ⟨S4x4x64x128, .f32⟩
  | 91 => ⟨S4x4x1x128, .f32⟩
  | 92 => ⟨S4x4x64x128, .f32⟩
  | 93 => ⟨S4x4x64x128, .f32⟩
  | 94 => ⟨S4x4x64x128, .f32⟩
  | 95 => ⟨S4x4x64x128, .f32⟩
  | 96 => ⟨S4x4x64x128, .f32⟩
  | 97 => ⟨S4x4x64x128, .f32⟩
  | 98 => ⟨S4x4x64x128, .f32⟩
  | 99 => ⟨S4x4x64x128, .f32⟩
  | 100 => ⟨S4x4x64x128, .f32⟩
  | 101 => ⟨S4x4x64x64, .f32⟩
  | 102 => ⟨S_, .f32⟩
  | 103 => ⟨S_, .f32⟩
  | 104 => ⟨S4x4x64x64, .i1⟩
  | 105 => ⟨S4x4x64x64, .f32⟩
  | 106 => ⟨S4x4x64x64, .f32⟩
  | 107 => ⟨S4x4x64x256, .f32⟩
  | 108 => ⟨S4x4x64x256, .f32⟩
  | 109 => ⟨S4x4x64x256, .f32⟩
  | 110 => ⟨S4x4x128, .f32⟩
  | 111 => ⟨S4x4x128, .f32⟩
  | 112 => ⟨S4x4x128x1, .f32⟩
  | 113 => ⟨S4x4x128x256, .f32⟩
  | 114 => ⟨S4x4x128x256, .f32⟩
  | 115 => ⟨S4x4x128x256, .f32⟩
  | 116 => ⟨S4x4x128x256, .f32⟩
  | 117 => ⟨S1x4x4x64x256, .f32⟩
  | 118 => ⟨S_, .i32⟩
  | 119 => ⟨S_, .i32⟩
  | 120 => ⟨S_, .i32⟩
  | 121 => ⟨S_, .i32⟩
  | 122 => ⟨S36x4x4x64x256, .f32⟩
  | 123 => ⟨S1x4x4x128x256, .f32⟩
  | 124 => ⟨S_, .i32⟩
  | 125 => ⟨S_, .i32⟩
  | 126 => ⟨S_, .i32⟩
  | 127 => ⟨S_, .i32⟩
  | _ => ⟨S2x2304x3200, .bf16⟩

abbrev hbmTy0_1 (i : Nat) : BufTy := match i % 128 with
  | 0 => ⟨S36x4x4x128x256, .f32⟩
  | 1 => ⟨S_, .i32⟩
  | 2 => ⟨S_, .i32⟩
  | 3 => ⟨S4x36x64x4x256, .f32⟩
  | 4 => ⟨S4x2304x1024, .f32⟩
  | 5 => ⟨S2x2304x1024, .f32⟩
  | 6 => ⟨S2x2304x1024, .f32⟩
  | 7 => ⟨S2x256x1024, .f32⟩
  | 8 => ⟨S2x256x1024, .f32⟩
  | 9 => ⟨S2x2048x1024, .f32⟩
  | 10 => ⟨S2x2048x1024, .f32⟩
  | 11 => ⟨S2x2304x1024, .f32⟩
  | 12 => ⟨S2x2304x2048, .f32⟩
  | 13 => ⟨S36x2x2x4x128x256, .f32⟩
  | 14 => ⟨S2x2x36x4x256x128, .f32⟩
  | _ => ⟨S2x2304x3200, .bf16⟩

abbrev hbmTy (i : Nat) : BufTy := match i / 128 with
  | 0 => hbmTy0_0 i
  | 1 => hbmTy0_1 i
  | _ => ⟨S2x2304x3200, .bf16⟩

abbrev bufTy : (tb : Table) → Fin (tcTables nBuf tb) → BufTy
  | .hbm, ⟨i, _⟩ => hbmTy i
  | _, _ => ⟨S2x2304x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst_1 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_c : Ref sig .tc := ⟨.hbm, 42, rfl⟩
abbrev main_v36_0 : Ref sig .tc := ⟨.hbm, 43, rfl⟩
abbrev main_v36_1 : Ref sig .tc := ⟨.hbm, 44, rfl⟩
abbrev main_v36_2 : Ref sig .tc := ⟨.hbm, 45, rfl⟩
abbrev main_v36_3 : Ref sig .tc := ⟨.hbm, 46, rfl⟩
abbrev main_v36_4 : Ref sig .tc := ⟨.hbm, 47, rfl⟩
abbrev main_v36_5 : Ref sig .tc := ⟨.hbm, 48, rfl⟩
abbrev main_v36_6 : Ref sig .tc := ⟨.hbm, 49, rfl⟩
abbrev main_v36_7 : Ref sig .tc := ⟨.hbm, 50, rfl⟩
abbrev main_while0c_c_10 : Ref sig .tc := ⟨.hbm, 51, rfl⟩
abbrev main_while0c_v49 : Ref sig .tc := ⟨.hbm, 52, rfl⟩
abbrev main_while0b_call4_c : Ref sig .tc := ⟨.hbm, 53, rfl⟩
abbrev main_while0b_call4_c_0 : Ref sig .tc := ⟨.hbm, 54, rfl⟩
abbrev main_while0b_call4_c_1 : Ref sig .tc := ⟨.hbm, 55, rfl⟩
abbrev main_while0b_call4_c_2 : Ref sig .tc := ⟨.hbm, 56, rfl⟩
abbrev main_while0b_call4_v0 : Ref sig .tc := ⟨.hbm, 57, rfl⟩
abbrev main_while0b_v49 : Ref sig .tc := ⟨.hbm, 58, rfl⟩
abbrev main_while0b_call5_c : Ref sig .tc := ⟨.hbm, 59, rfl⟩
abbrev main_while0b_call5_c_0 : Ref sig .tc := ⟨.hbm, 60, rfl⟩
abbrev main_while0b_call5_c_1 : Ref sig .tc := ⟨.hbm, 61, rfl⟩
abbrev main_while0b_call5_c_2 : Ref sig .tc := ⟨.hbm, 62, rfl⟩
abbrev main_while0b_call5_v0 : Ref sig .tc := ⟨.hbm, 63, rfl⟩
abbrev main_while0b_v50 : Ref sig .tc := ⟨.hbm, 64, rfl⟩
abbrev main_while0b_call6_c : Ref sig .tc := ⟨.hbm, 65, rfl⟩
abbrev main_while0b_call6_c_0 : Ref sig .tc := ⟨.hbm, 66, rfl⟩
abbrev main_while0b_call6_c_1 : Ref sig .tc := ⟨.hbm, 67, rfl⟩
abbrev main_while0b_call6_c_2 : Ref sig .tc := ⟨.hbm, 68, rfl⟩
abbrev main_while0b_call6_v0 : Ref sig .tc := ⟨.hbm, 69, rfl⟩
abbrev main_while0b_v51 : Ref sig .tc := ⟨.hbm, 70, rfl⟩
abbrev main_while0b_call7_c : Ref sig .tc := ⟨.hbm, 71, rfl⟩
abbrev main_while0b_call7_c_0 : Ref sig .tc := ⟨.hbm, 72, rfl⟩
abbrev main_while0b_call7_c_1 : Ref sig .tc := ⟨.hbm, 73, rfl⟩
abbrev main_while0b_call7_c_2 : Ref sig .tc := ⟨.hbm, 74, rfl⟩
abbrev main_while0b_call7_v0 : Ref sig .tc := ⟨.hbm, 75, rfl⟩
abbrev main_while0b_v52 : Ref sig .tc := ⟨.hbm, 76, rfl⟩
abbrev main_while0b_c_10 : Ref sig .tc := ⟨.hbm, 77, rfl⟩
abbrev main_while0b_v53 : Ref sig .tc := ⟨.hbm, 78, rfl⟩
abbrev main_while0b_call8_v0 : Ref sig .tc := ⟨.hbm, 79, rfl⟩
abbrev main_while0b_call8_c : Ref sig .tc := ⟨.hbm, 80, rfl⟩
abbrev main_while0b_call8_v1 : Ref sig .tc := ⟨.hbm, 81, rfl⟩
abbrev main_while0b_call8_v2 : Ref sig .tc := ⟨.hbm, 82, rfl⟩
abbrev main_while0b_call8_v3 : Ref sig .tc := ⟨.hbm, 83, rfl⟩
abbrev main_while0b_call8_v4 : Ref sig .tc := ⟨.hbm, 84, rfl⟩
abbrev main_while0b_call8_c_0 : Ref sig .tc := ⟨.hbm, 85, rfl⟩
abbrev main_while0b_call8_v5 : Ref sig .tc := ⟨.hbm, 86, rfl⟩
abbrev main_while0b_v54 : Ref sig .tc := ⟨.hbm, 87, rfl⟩
abbrev main_while0b_call9_call0_cst : Ref sig .tc := ⟨.hbm, 88, rfl⟩
abbrev main_while0b_call9_call0_v0 : Ref sig .tc := ⟨.hbm, 89, rfl⟩
abbrev main_while0b_v55 : Ref sig .tc := ⟨.hbm, 90, rfl⟩
abbrev main_while0b_v56 : Ref sig .tc := ⟨.hbm, 91, rfl⟩
abbrev main_while0b_v57 : Ref sig .tc := ⟨.hbm, 92, rfl⟩
abbrev main_while0b_v58 : Ref sig .tc := ⟨.hbm, 93, rfl⟩
abbrev main_while0b_v59 : Ref sig .tc := ⟨.hbm, 94, rfl⟩
abbrev main_while0b_v60 : Ref sig .tc := ⟨.hbm, 95, rfl⟩
abbrev main_while0b_v61 : Ref sig .tc := ⟨.hbm, 96, rfl⟩
abbrev main_while0b_v62 : Ref sig .tc := ⟨.hbm, 97, rfl⟩
abbrev main_while0b_v63 : Ref sig .tc := ⟨.hbm, 98, rfl⟩
abbrev main_while0b_v64 : Ref sig .tc := ⟨.hbm, 99, rfl⟩
abbrev main_while0b_v65 : Ref sig .tc := ⟨.hbm, 100, rfl⟩
abbrev main_while0b_v66 : Ref sig .tc := ⟨.hbm, 101, rfl⟩
abbrev main_while0b_cst_11 : Ref sig .tc := ⟨.hbm, 102, rfl⟩
abbrev main_while0b_call10_v0 : Ref sig .tc := ⟨.hbm, 103, rfl⟩
abbrev main_while0b_call10_v1 : Ref sig .tc := ⟨.hbm, 104, rfl⟩
abbrev main_while0b_call10_v2 : Ref sig .tc := ⟨.hbm, 105, rfl⟩
abbrev main_while0b_v67 : Ref sig .tc := ⟨.hbm, 106, rfl⟩
abbrev main_while0b_v68 : Ref sig .tc := ⟨.hbm, 107, rfl⟩
abbrev main_while0b_v69 : Ref sig .tc := ⟨.hbm, 108, rfl⟩
abbrev main_while0b_v70 : Ref sig .tc := ⟨.hbm, 109, rfl⟩
abbrev main_while0b_v71 : Ref sig .tc := ⟨.hbm, 110, rfl⟩
abbrev main_while0b_v72 : Ref sig .tc := ⟨.hbm, 111, rfl⟩
abbrev main_while0b_v73 : Ref sig .tc := ⟨.hbm, 112, rfl⟩
abbrev main_while0b_v74 : Ref sig .tc := ⟨.hbm, 113, rfl⟩
abbrev main_while0b_v75 : Ref sig .tc := ⟨.hbm, 114, rfl⟩
abbrev main_while0b_v76 : Ref sig .tc := ⟨.hbm, 115, rfl⟩
abbrev main_while0b_v77 : Ref sig .tc := ⟨.hbm, 116, rfl⟩
abbrev main_while0b_call11_v0 : Ref sig .tc := ⟨.hbm, 117, rfl⟩
abbrev main_while0b_call11_c : Ref sig .tc := ⟨.hbm, 118, rfl⟩
abbrev main_while0b_call11_c_0 : Ref sig .tc := ⟨.hbm, 119, rfl⟩
abbrev main_while0b_call11_c_1 : Ref sig .tc := ⟨.hbm, 120, rfl⟩
abbrev main_while0b_call11_c_2 : Ref sig .tc := ⟨.hbm, 121, rfl⟩
abbrev main_while0b_v78 : Ref sig .tc := ⟨.hbm, 122, rfl⟩
abbrev main_while0b_call12_v0 : Ref sig .tc := ⟨.hbm, 123, rfl⟩
abbrev main_while0b_call12_c : Ref sig .tc := ⟨.hbm, 124, rfl⟩
abbrev main_while0b_call12_c_0 : Ref sig .tc := ⟨.hbm, 125, rfl⟩
abbrev main_while0b_call12_c_1 : Ref sig .tc := ⟨.hbm, 126, rfl⟩
abbrev main_while0b_call12_c_2 : Ref sig .tc := ⟨.hbm, 127, rfl⟩
abbrev main_while0b_v79 : Ref sig .tc := ⟨.hbm, 128, rfl⟩
abbrev main_while0b_c_12 : Ref sig .tc := ⟨.hbm, 129, rfl⟩
abbrev main_while0b_v80 : Ref sig .tc := ⟨.hbm, 130, rfl⟩
abbrev main_v37 : Ref sig .tc := ⟨.hbm, 131, rfl⟩
abbrev main_v38 : Ref sig .tc := ⟨.hbm, 132, rfl⟩
abbrev main_v39 : Ref sig .tc := ⟨.hbm, 133, rfl⟩
abbrev main_v40 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩

abbrev nD : Nat := 1
abbrev τ : Topo := Topo.v7x

variable {F : FTy → Type} [FloatOps F]

abbrev main_while0_count : Scf.Loop 32 := ⟨0#32, 36#32, 1#32⟩
-- ==== UpDx.lean ====
abbrev S2x2x2048x2560 : Shape := ⟨4, ![2, 2, 2048, 2560]⟩
abbrev S8x1024x640 : Shape := ⟨3, ![8, 1024, 640]⟩
abbrev S4096x1024 : Shape := ⟨2, ![4096, 1024]⟩
abbrev S1x2x1024x2560 : Shape := ⟨4, ![1, 2, 1024, 2560]⟩
abbrev S8x512x640 : Shape := ⟨3, ![8, 512, 640]⟩
abbrev S1024x512 : Shape := ⟨2, ![1024, 512]⟩
abbrev S1x1x1024x2560 : Shape := ⟨4, ![1, 1, 1024, 2560]⟩
abbrev S1024x2560 : Shape := ⟨2, ![1024, 2560]⟩
abbrev S1024x5120 : Shape := ⟨2, ![1024, 5120]⟩
abbrev S1x512x640 : Shape := ⟨3, ![1, 512, 640]⟩
abbrev S512x640 : Shape := ⟨2, ![512, 640]⟩
abbrev S512x5120 : Shape := ⟨2, ![512, 5120]⟩

abbrev nBuf : Space → Nat
  | .hbm => 3
  | .vmem => 6
  | .smem => 0
  | _ => 0

abbrev bufTy : (tb : Table) → Fin (tcTables nBuf tb) → BufTy
  | .hbm, ⟨0, _⟩ => ⟨S2x2x2048x2560, .bf16⟩
  | .hbm, ⟨1, _⟩ => ⟨S8x1024x640, .bf16⟩
  | .hbm, ⟨2, _⟩ => ⟨S4096x1024, .bf16⟩
  | .local _ .vmem, ⟨0, _⟩ => ⟨S1x2x1024x2560, .bf16⟩
  | .local _ .vmem, ⟨1, _⟩ => ⟨S1x2x1024x2560, .bf16⟩
  | .local _ .vmem, ⟨2, _⟩ => ⟨S8x512x640, .bf16⟩
  | .local _ .vmem, ⟨3, _⟩ => ⟨S8x512x640, .bf16⟩
  | .local _ .vmem, ⟨4, _⟩ => ⟨S1024x512, .bf16⟩
  | .local _ .vmem, ⟨5, _⟩ => ⟨S1024x512, .bf16⟩
  | _, _ => ⟨S2x2x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2x1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S8x512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2x2x2048x2560 : Shape := ⟨4, ![2, 2, 2048, 2560]⟩
abbrev S8x1024x640 : Shape := ⟨3, ![8, 1024, 640]⟩
abbrev S2x2048x2x2560 : Shape := ⟨4, ![2, 2048, 2, 2560]⟩
abbrev S2x2048x5120 : Shape := ⟨3, ![2, 2048, 5120]⟩
abbrev S1024x8x640 : Shape := ⟨3, ![1024, 8, 640]⟩
abbrev S1024x5120 : Shape := ⟨2, ![1024, 5120]⟩
abbrev S_ : Shape := ⟨0, ![]⟩
abbrev S2x2048x1024 : Shape := ⟨3, ![2, 2048, 1024]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x2x2048x2560, .bf16⟩
  | .hbm, ⟨1, _⟩ => ⟨S8x1024x640, .bf16⟩
  | .hbm, ⟨2, _⟩ => ⟨S2x2048x2x2560, .bf16⟩
  | .hbm, ⟨3, _⟩ => ⟨S2x2048x5120, .bf16⟩
  | .hbm, ⟨4, _⟩ => ⟨S2x2048x5120, .f32⟩
  | .hbm, ⟨5, _⟩ => ⟨S1024x8x640, .bf16⟩
  | .hbm, ⟨6, _⟩ => ⟨S1024x5120, .bf16⟩
  | .hbm, ⟨7, _⟩ => ⟨S1024x5120, .f32⟩
  | .hbm, ⟨8, _⟩ => ⟨S_, .f32⟩
  | .hbm, ⟨9, _⟩ => ⟨S2x2048x1024, .f32⟩
  | .hbm, ⟨10, _⟩ => ⟨S2x2048x5120, .f32⟩
  | .hbm, ⟨11, _⟩ => ⟨S2x2048x1024, .f32⟩
  | .hbm, ⟨12, _⟩ => ⟨S4096x1024, .f32⟩
  | .hbm, ⟨13, _⟩ => ⟨S4096x1024, .bf16⟩
  | _, _ => ⟨S2x2x2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== UpDw.lean ====
abbrev S2x2048x1024 : Shape := ⟨3, ![2, 2048, 1024]⟩
abbrev S2x2x2048x2560 : Shape := ⟨4, ![2, 2, 2048, 2560]⟩
abbrev S4096x1024 : Shape := ⟨2, ![4096, 1024]⟩
abbrev S8x1024x640 : Shape := ⟨3, ![8, 1024, 640]⟩
abbrev S2048x1024 : Shape := ⟨2, ![2048, 1024]⟩
abbrev S1x1x2048x1280 : Shape := ⟨4, ![1, 1, 2048, 1280]⟩
abbrev S2x1024x640 : Shape := ⟨3, ![2, 1024, 640]⟩
abbrev S1024x1280 : Shape := ⟨2, ![1024, 1280]⟩
abbrev S2048x1280 : Shape := ⟨2, ![2048, 1280]⟩
abbrev S1024x640 : Shape := ⟨2, ![1024, 640]⟩
abbrev S1x1024x640 : Shape := ⟨3, ![1, 1024, 640]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S2x2x2048x2560, .bf16⟩
  | .hbm, ⟨2, _⟩ => ⟨S4096x1024, .bf16⟩
  | .hbm, ⟨3, _⟩ => ⟨S8x1024x640, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x2048x1280, .bf16⟩
  | .local _ .vmem, ⟨3, _⟩ => ⟨S1x1x2048x1280, .bf16⟩
  | .local _ .vmem, ⟨4, _⟩ => ⟨S2x1024x640, .bf16⟩
  | .local _ .vmem, ⟨5, _⟩ => ⟨S2x1024x640, .bf16⟩
  | .local _ .vmem, ⟨6, _⟩ => ⟨S1024x1280, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi arg1 c2_i32
  let c0_i32_5 : BitVec 32 := 0#32
  let v18 : BitVec 1 := Scalar.cmpi .sgt arg1 c0_i32_5
  let v19 : BitVec 32 := Scalar.extui v18
  let c0_i32_6 : BitVec 32 := 0#32
  let v20 : BitVec 1 := Scalar.cmpi .slt arg1 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi arg1 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi arg2 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2x2048x1024 : Shape := ⟨3, ![2, 2048, 1024]⟩
abbrev S2x2x2048x2560 : Shape := ⟨4, ![2, 2, 2048, 2560]⟩
abbrev S2x2048x2x2560 : Shape := ⟨4, ![2, 2048, 2, 2560]⟩
abbrev S2x2048x5120 : Shape := ⟨3, ![2, 2048, 5120]⟩
abbrev S_ : Shape := ⟨0, ![]⟩
abbrev S1024x5120 : Shape := ⟨2, ![1024, 5120]⟩
abbrev S5120x1024 : Shape := ⟨2, ![5120, 1024]⟩
abbrev S1024x8x640 : Shape := ⟨3, ![1024, 8, 640]⟩
abbrev S8x1024x640 : Shape := ⟨3, ![8, 1024, 640]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2x2048x2560, .bf16⟩
  | .hbm, ⟨2, _⟩ => ⟨S2x2048x1024, .f32⟩
  | .hbm, ⟨3, _⟩ => ⟨S2x2048x2x2560, .bf16⟩
  | .hbm, ⟨4, _⟩ => ⟨S2x2048x5120, .bf16⟩
  | .hbm, ⟨5, _⟩ => ⟨S2x2048x5120, .f32⟩
  | .hbm, ⟨6, _⟩ => ⟨S_, .f32⟩
  | .hbm, ⟨7, _⟩ => ⟨S1024x5120, .f32⟩
  | .hbm, ⟨8, _⟩ => ⟨S2x2048x5120, .f32⟩
  | .hbm, ⟨9, _⟩ => ⟨S5120x1024, .f32⟩
  | .hbm, ⟨10, _⟩ => ⟨S1024x5120, .f32⟩
  | .hbm, ⟨11, _⟩ => ⟨S1024x8x640, .f32⟩
  | .hbm, ⟨12, _⟩ => ⟨S8x1024x640, .f32⟩
  | .hbm, ⟨13, _⟩ => ⟨S8x1024x640, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DownDx.lean ====
abbrev S2x2048x1024 : Shape := ⟨3, ![2, 2048, 1024]⟩
abbrev S2560x1024 : Shape := ⟨2, ![2560, 1024]⟩
abbrev S4096x1024 : Shape := ⟨2, ![4096, 1024]⟩
abbrev S4096x2560 : Shape := ⟨2, ![4096, 2560]⟩
abbrev S1024x1024 : Shape := ⟨2, ![1024, 1024]⟩
abbrev S1280x1024 : Shape := ⟨2, ![1280, 1024]⟩
abbrev S1024x1280 : Shape := ⟨2, ![1024, 1280]⟩

abbrev nBuf : Space → Nat
  | .hbm => 4
  | .vmem => 6
  | .smem => 0
  | _ => 0

abbrev bufTy : (tb : Table) → Fin (tcTables nBuf tb) → BufTy
  | .hbm, ⟨0, _⟩ => ⟨S2x2048x1024, .bf16⟩
  | .hbm, ⟨1, _⟩ => ⟨S2560x1024, .bf16⟩
  | .hbm, ⟨2, _⟩ => ⟨S4096x1024, .bf16⟩
  | .hbm, ⟨3, _⟩ => ⟨S4096x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1280, .bf16⟩
  | .local _ .vmem, ⟨5, _⟩ => ⟨S1024x1280, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2x2048x1024 : Shape := ⟨3, ![2, 2048, 1024]⟩
abbrev S2560x1024 : Shape := ⟨2, ![2560, 1024]⟩
abbrev S_ : Shape := ⟨0, ![]⟩
abbrev S2x2048x2560 : Shape := ⟨3, ![2, 2048, 2560]⟩
abbrev S4096x2560 : Shape := ⟨2, ![4096, 2560]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2560x1024, .bf16⟩
  | .hbm, ⟨2, _⟩ => ⟨S2x2048x1024, .f32⟩
  | .hbm, ⟨3, _⟩ => ⟨S2560x1024, .f32⟩
  | .hbm, ⟨4, _⟩ => ⟨S_, .f32⟩
  | .hbm, ⟨5, _⟩ => ⟨S2x2048x2560, .f32⟩
  | .hbm, ⟨6, _⟩ => ⟨S2x2048x1024, .f32⟩
  | .hbm, ⟨7, _⟩ => ⟨S2x2048x2560, .f32⟩
  | .hbm, ⟨8, _⟩ => ⟨S4096x2560, .f32⟩
  | .hbm, ⟨9, _⟩ => ⟨S4096x2560, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S2x2048x2560 : Shape := ⟨3, ![2, 2048, 2560]⟩
abbrev S2x2048x1024 : Shape := ⟨3, ![2, 2048, 1024]⟩
abbrev S4096x2560 : Shape := ⟨2, ![4096, 2560]⟩
abbrev S4096x1024 : Shape := ⟨2, ![4096, 1024]⟩
abbrev S2560x1024 : Shape := ⟨2, ![2560, 1024]⟩
abbrev S4096x640 : Shape := ⟨2, ![4096, 640]⟩
abbrev S4096x512 : Shape := ⟨2, ![4096, 512]⟩
abbrev S640x512 : Shape := ⟨2, ![640, 512]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x2560, .bf16⟩
  | .hbm, ⟨1, _⟩ => ⟨S2x2048x1024, .bf16⟩
  | .hbm, ⟨2, _⟩ => ⟨S4096x2560, .bf16⟩
  | .hbm, ⟨3, _⟩ => ⟨S4096x1024, .bf16⟩
  | .hbm, ⟨4, _⟩ => ⟨S2560x1024, .bf16⟩
  | .local _ .vmem, ⟨0, _⟩ => ⟨S4096x640, .bf16⟩
  | .local _ .vmem, ⟨1, _⟩ => ⟨S4096x640, .bf16⟩
  | .local _ .vmem, ⟨2, _⟩ => ⟨S4096x512, .bf16⟩
  | .local _ .vmem, ⟨3, _⟩ => ⟨S4096x512, .bf16⟩
  | .local _ .vmem, ⟨4, _⟩ => ⟨S640x512, .bf16⟩
  | .local _ .vmem, ⟨5, _⟩ => ⟨S640x512, .bf16⟩
  | _, _ => ⟨S2x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2x2048x2560 : Shape := ⟨3, ![2, 2048, 2560]⟩
abbrev S2x2048x1024 : Shape := ⟨3, ![2, 2048, 1024]⟩
abbrev S_ : Shape := ⟨0, ![]⟩
abbrev S2560x1024 : Shape := ⟨2, ![2560, 1024]⟩
abbrev S1024x2560 : Shape := ⟨2, ![1024, 2560]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x2560, .bf16⟩
  | .hbm, ⟨1, _⟩ => ⟨S2x2048x1024, .bf16⟩
  | .hbm, ⟨2, _⟩ => ⟨S2x2048x2560, .f32⟩
  | .hbm, ⟨3, _⟩ => ⟨S2x2048x1024, .f32⟩
  | .hbm, ⟨4, _⟩ => ⟨S_, .f32⟩
  | .hbm, ⟨5, _⟩ => ⟨S2560x1024, .f32⟩
  | .hbm, ⟨6, _⟩ => ⟨S2x2048x1024, .f32⟩
  | .hbm, ⟨7, _⟩ => ⟨S1024x2560, .f32⟩
  | .hbm, ⟨8, _⟩ => ⟨S2560x1024, .f32⟩
  | .hbm, ⟨9, _⟩ => ⟨S2560x1024, .bf16⟩
  | _, _ => ⟨S2x2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S2x2048x1024 : Shape := ⟨3, ![2, 2048, 1024]⟩
abbrev S8x1024x640 : Shape := ⟨3, ![8, 1024, 640]⟩
abbrev S4096x1024 : Shape := ⟨2, ![4096, 1024]⟩
abbrev S2x2x2048x2560 : Shape := ⟨4, ![2, 2, 2048, 2560]⟩
abbrev S1024x1024 : Shape := ⟨2, ![1024, 1024]⟩
abbrev S2x1024x640 : Shape := ⟨3, ![2, 1024, 640]⟩
abbrev S1x1x1024x1280 : Shape := ⟨4, ![1, 1, 1024, 1280]⟩
abbrev S1x1024x640 : Shape := ⟨3, ![1, 1024, 640]⟩
abbrev S1024x640 : Shape := ⟨2, ![1024, 640]⟩
abbrev S1024x1280 : Shape := ⟨2, ![1024, 1280]⟩

abbrev nBuf : Space → Nat
  | .hbm => 4
  | .vmem => 6
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x640, .bf16⟩
  | .hbm, ⟨2, _⟩ => ⟨S4096x1024, .bf16⟩
  | .hbm, ⟨3, _⟩ => ⟨S2x2x2048x2560, .bf16⟩
  | .local _ .vmem, ⟨0, _⟩ => ⟨S1024x1024, .bf16⟩
  | .local _ .vmem, ⟨1, _⟩ => ⟨S1024x1024, .bf16⟩
  | .local _ .vmem, ⟨2, _⟩ => ⟨S2x1024x640, .bf16⟩
  | .local _ .vmem, ⟨3, _⟩ => ⟨S2x1024x640, .bf16⟩
  | .local _ .vmem, ⟨4, _⟩ => ⟨S1x1x1024x1280, .bf16⟩
  | .local _ .vmem, ⟨5, _⟩ => ⟨S1x1x1024x1280, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.divsi arg1 c2_i32_4
  let c0_i32_5 : BitVec 32 := 0#32
  let v18 : BitVec 1 := Scalar.cmpi .sgt arg1 c0_i32_5
  let v19 : BitVec 32 := Scalar.extui v18
  let c0_i32_6 : BitVec 32 := 0#32
  let v20 : BitVec 1 := Scalar.cmpi .slt arg1 c0_i32_6
  let v21 : BitVec 32 := Scalar.extui v20
  let v22 : BitVec 32 := Scalar.subi v19 v21
  let c0_i32_7 : BitVec 32 := 0#32
  let v23 : BitVec 1 := Scalar.cmpi .sgt c2_i32_4 c0_i32_7
  let v24 : BitVec 32 := Scalar.extui v23
  let c0_i32_8 : BitVec 32 := 0#32
  let v25 : BitVec 1 := Scalar.cmpi .slt c2_i32_4 c0_i32_8
  let v26 : BitVec 32 := Scalar.extui v25
  let v27 : BitVec 32 := Scalar.subi v24 v26
  let v28 : BitVec 1 := Scalar.cmpi .ne v22 v27
  let v29 : BitVec 32 := Scalar.remsi arg1 c2_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let c0_i32_12 : BitVec 32 := 0#32
  let v34 : BitVec 1 := Scalar.cmpi .eq c2_i32_11 c0_i32_12
  let c1_i32_13 : BitVec 32 := 1#32
  let v35 : BitVec 32 := Scalar.select v34 c1_i32_13 c2_i32_11
  let v36 : BitVec 32 := Scalar.remsi arg0 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2x2048x1024 : Shape := ⟨3, ![2, 2048, 1024]⟩
abbrev S8x1024x640 : Shape := ⟨3, ![8, 1024, 640]⟩
abbrev S1024x8x640 : Shape := ⟨3, ![1024, 8, 640]⟩
abbrev S1024x5120 : Shape := ⟨2, ![1024, 5120]⟩
abbrev S2x2048x5120 : Shape := ⟨3, ![2, 2048, 5120]⟩
abbrev S2x2048x2x2560 : Shape := ⟨4, ![2, 2048, 2, 2560]⟩
abbrev S2x2x2048x2560 : Shape := ⟨4, ![2, 2, 2048, 2560]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x640, .bf16⟩
  | .hbm, ⟨2, _⟩ => ⟨S2x2048x1024, .f32⟩
  | .hbm, ⟨3, _⟩ => ⟨S1024x8x640, .bf16⟩
  | .hbm, ⟨4, _⟩ => ⟨S1024x5120, .bf16⟩
  | .hbm, ⟨5, _⟩ => ⟨S1024x5120, .f32⟩
  | .hbm, ⟨6, _⟩ => ⟨S2x2048x5120, .f32⟩
  | .hbm, ⟨7, _⟩ => ⟨S2x2048x2x2560, .f32⟩
  | .hbm, ⟨8, _⟩ => ⟨S2x2x2048x2560, .f32⟩
  | .hbm, ⟨9, _⟩ => ⟨S2x2x2048x2560, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Down.lean ====
abbrev S2x2048x2560 : Shape := ⟨3, ![2, 2048, 2560]⟩
abbrev S2560x1024 : Shape := ⟨2, ![2560, 1024]⟩
abbrev S4096x2560 : Shape := ⟨2, ![4096, 2560]⟩
abbrev S4096x1024 : Shape := ⟨2, ![4096, 1024]⟩
abbrev S1024x2560 : Shape := ⟨2, ![1024, 2560]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2x2048x2560, .bf16⟩
  | .hbm, ⟨1, _⟩ => ⟨S2560x1024, .bf16⟩
  | .hbm, ⟨2, _⟩ => ⟨S4096x2560, .bf16⟩
  | .hbm, ⟨3, _⟩ => ⟨S4096x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S1024x1024, .f32⟩
  | .local _ .vmem, ⟨4, _⟩ => ⟨S1024x1024, .f32⟩
  | _, _ => ⟨S2x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2x2048x2560 : Shape := ⟨3, ![2, 2048, 2560]⟩
abbrev S2560x1024 : Shape := ⟨2, ![2560, 1024]⟩
abbrev S2x2048x1024 : Shape := ⟨3, ![2, 2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x2560, .bf16⟩
  | .hbm, ⟨1, _⟩ => ⟨S2560x1024, .bf16⟩
  | .hbm, ⟨2, _⟩ => ⟨S2x2048x2560, .f32⟩
  | .hbm, ⟨3, _⟩ => ⟨S2560x1024, .f32⟩
  | .hbm, ⟨4, _⟩ => ⟨S2x2048x1024, .f32⟩
  | .hbm, ⟨5, _⟩ => ⟨S4096x1024, .f32⟩
  | _, _ => ⟨S2x2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ScIn.lean ====
abbrev S2x2048x1024 : Shape := ⟨3, ![2, 2048, 1024]⟩
abbrev S8x1024x384 : Shape := ⟨3, ![8, 1024, 384]⟩
abbrev S4096x1024 : Shape := ⟨2, ![4096, 1024]⟩
abbrev S4096x3072 : Shape := ⟨2, ![4096, 3072]⟩
abbrev S1024x1024 : Shape := ⟨2, ![1024, 1024]⟩
abbrev S4x1024x384 : Shape := ⟨3, ![4, 1024, 384]⟩
abbrev S1024x1536 : Shape := ⟨2, ![1024, 1536]⟩
abbrev S1x1024x384 : Shape := ⟨3, ![1, 1024, 384]⟩
abbrev S1024x384 : Shape := ⟨2, ![1024, 384]⟩

abbrev nBuf : Space → Nat
  | .hbm => 4
  | .vmem => 6
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x384, .bf16⟩
  | .hbm, ⟨2, _⟩ => ⟨S4096x1024, .bf16⟩
  | .hbm, ⟨3, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S4x1024x384, .bf16⟩
  | .local _ .vmem, ⟨3, _⟩ => ⟨S4x1024x384, .bf16⟩
  | .local _ .vmem, ⟨4, _⟩ => ⟨S1024x1536, .f32⟩
  | .local _ .vmem, ⟨5, _⟩ => ⟨S1024x1536, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInRefIdeal.lean ====
abbrev S2x2048x1024 : Shape := ⟨3, ![2, 2048, 1024]⟩
abbrev S8x1024x384 : Shape := ⟨3, ![8, 1024, 384]⟩
abbrev S1024x8x384 : Shape := ⟨3, ![1024, 8, 384]⟩
abbrev S1024x3072 : Shape := ⟨2, ![1024, 3072]⟩
abbrev S2x2048x3072 : Shape := ⟨3, ![2, 2048, 3072]⟩
abbrev S4096x3072 : Shape := ⟨2, ![4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x384, .bf16⟩
  | .hbm, ⟨2, _⟩ => ⟨S2x2048x1024, .f32⟩
  | .hbm, ⟨3, _⟩ => ⟨S1024x8x384, .bf16⟩
  | .hbm, ⟨4, _⟩ => ⟨S1024x3072, .bf16⟩
  | .hbm, ⟨5, _⟩ => ⟨S1024x3072, .f32⟩
  | .hbm, ⟨6, _⟩ => ⟨S2x2048x3072, .f32⟩
  | .hbm, ⟨7, _⟩ => ⟨S4096x3072, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ScInDx.lean ====
abbrev S2x2048x3072 : Shape := ⟨3, ![2, 2048, 3072]⟩
abbrev S8x1024x384 : Shape := ⟨3, ![8, 1024, 384]⟩
abbrev S4096x3072 : Shape := ⟨2, ![4096, 3072]⟩
abbrev S4096x1024 : Shape := ⟨2, ![4096, 1024]⟩
abbrev S1024x3072 : Shape := ⟨2, ![1024, 3072]⟩
abbrev S1024x1024 : Shape := ⟨2, ![1024, 1024]⟩
abbrev S1x1024x384 : Shape := ⟨3, ![1, 1024, 384]⟩
abbrev S1024x384 : Shape := ⟨2, ![1024, 384]⟩

abbrev nBuf : Space → Nat
  | .hbm => 4
  | .vmem => 5
  | .smem => 0
  | _ => 0

abbrev bufTy : (tb : Table) → Fin (tcTables nBuf tb) → BufTy
  | .hbm, ⟨0, _⟩ => ⟨S2x2048x3072, .bf16⟩
  | .hbm, ⟨1, _⟩ => ⟨S8x1024x384, .bf16⟩
  | .hbm, ⟨2, _⟩ => ⟨S4096x3072, .bf16⟩
  | .hbm, ⟨3, _⟩ => ⟨S4096x1024, .bf16⟩
  | .local _ .vmem, ⟨0, _⟩ => ⟨S1024x3072, .bf16⟩
  | .local _ .vmem, ⟨1, _⟩ => ⟨S1024x3072, .bf16⟩
  | .local _ .vmem, ⟨2, _⟩ => ⟨S8x1024x384, .bf16⟩
  | .local _ .vmem, ⟨3, _⟩ => ⟨S1024x1024, .bf16⟩
  | .local _ .vmem, ⟨4, _⟩ => ⟨S1024x1024, .bf16⟩
  | _, _ => ⟨S2x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInDxRefIdeal.lean ====
abbrev S2x2048x3072 : Shape := ⟨3, ![2, 2048, 3072]⟩
abbrev S8x1024x384 : Shape := ⟨3, ![8, 1024, 384]⟩
abbrev S1024x8x384 : Shape := ⟨3, ![1024, 8, 384]⟩
abbrev S1024x3072 : Shape := ⟨2, ![1024, 3072]⟩
abbrev S_ : Shape := ⟨0, ![]⟩
abbrev S2x2048x1024 : Shape := ⟨3, ![2, 2048, 1024]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x3072, .bf16⟩
  | .hbm, ⟨1, _⟩ => ⟨S8x1024x384, .bf16⟩
  | .hbm, ⟨2, _⟩ => ⟨S2x2048x3072, .f32⟩
  | .hbm, ⟨3, _⟩ => ⟨S1024x8x384, .bf16⟩
  | .hbm, ⟨4, _⟩ => ⟨S1024x3072, .bf16⟩
  | .hbm, ⟨5, _⟩ => ⟨S1024x3072, .f32⟩
  | .hbm, ⟨6, _⟩ => ⟨S_, .f32⟩
  | .hbm, ⟨7, _⟩ => ⟨S2x2048x1024, .f32⟩
  | .hbm, ⟨8, _⟩ => ⟨S2x2048x3072, .f32⟩
  | .hbm, ⟨9, _⟩ => ⟨S2x2048x1024, .f32⟩
  | .hbm, ⟨10, _⟩ => ⟨S4096x1024, .f32⟩
  | .hbm, ⟨11, _⟩ => ⟨S4096x1024, .bf16⟩
  | _, _ => ⟨S2x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ScInDw.lean ====
abbrev S2x2048x1024 : Shape := ⟨3, ![2, 2048, 1024]⟩
abbrev S2x2048x3072 : Shape := ⟨3, ![2, 2048, 3072]⟩
abbrev S4096x1024 : Shape := ⟨2, ![4096, 1024]⟩
abbrev S4096x3072 : Shape := ⟨2, ![4096, 3072]⟩
abbrev S8x1024x384 : Shape := ⟨3, ![8, 1024, 384]⟩
abbrev S4096x512 : Shape := ⟨2, ![4096, 512]⟩
abbrev S4096x768 : Shape := ⟨2, ![4096, 768]⟩
abbrev S2x512x384 : Shape := ⟨3, ![2, 512, 384]⟩
abbrev S512x768 : Shape := ⟨2, ![512, 768]⟩
abbrev S512x384 : Shape := ⟨2, ![512, 384]⟩
abbrev S1x512x384 : Shape := ⟨3, ![1, 512, 384]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x3072, .bf16⟩
  | .hbm, ⟨2, _⟩ => ⟨S4096x1024, .bf16⟩
  | .hbm, ⟨3, _⟩ => ⟨S4096x3072, .bf16⟩
  | .hbm, ⟨4, _⟩ => ⟨S8x1024x384, .bf16⟩
  | .local _ .vmem, ⟨0, _⟩ => ⟨S4096x512, .bf16⟩
  | .local _ .vmem, ⟨1, _⟩ => ⟨S4096x512, .bf16⟩
  | .local _ .vmem, ⟨2, _⟩ => ⟨S4096x768, .bf16⟩
  | .local _ .vmem, ⟨3, _⟩ => ⟨S4096x768, .bf16⟩
  | .local _ .vmem, ⟨4, _⟩ => ⟨S2x512x384, .bf16⟩
  | .local _ .vmem, ⟨5, _⟩ => ⟨S2x512x384, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInDwRefIdeal.lean ====
abbrev S2x2048x1024 : Shape := ⟨3, ![2, 2048, 1024]⟩
abbrev S2x2048x3072 : Shape := ⟨3, ![2, 2048, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x3072, .bf16⟩
  | .hbm, ⟨2, _⟩ => ⟨S2x2048x1024, .f32⟩
  | .hbm, ⟨3, _⟩ => ⟨S2x2048x3072, .f32⟩
  | .hbm, ⟨4, _⟩ => ⟨S_, .f32⟩
  | .hbm, ⟨5, _⟩ => ⟨S1024x3072, .f32⟩
  | .hbm, ⟨6, _⟩ => ⟨S2x2048x3072, .f32⟩
  | .hbm, ⟨7, _⟩ => ⟨S3072x1024, .f32⟩
  | .hbm, ⟨8, _⟩ => ⟨S1024x3072, .f32⟩
  | .hbm, ⟨9, _⟩ => ⟨S1024x8x384, .f32⟩
  | .hbm, ⟨10, _⟩ => ⟨S8x1024x384, .f32⟩
  | .hbm, ⟨11, _⟩ => ⟨S8x1024x384, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ScOutDx.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2x2048x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScOutDxRefIdeal.lean ====
abbrev S2x2048x1024 : Shape := ⟨3, ![2, 2048, 1024]⟩
abbrev S1024x1024 : Shape := ⟨2, ![1024, 1024]⟩
abbrev S_ : Shape := ⟨0, ![]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024x1024, .bf16⟩
  | .hbm, ⟨2, _⟩ => ⟨S2x2048x1024, .f32⟩
  | .hbm, ⟨3, _⟩ => ⟨S1024x1024, .f32⟩
  | .hbm, ⟨4, _⟩ => ⟨S_, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S4096x1024, .f32⟩
  | .hbm, ⟨9, _⟩ => ⟨S4096x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ScOutDw.lean ====
abbrev S2x2048x1024 : Shape := ⟨3, ![2, 2048, 1024]⟩
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x1024, .bf16⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScOutDwRefIdeal.lean ====
abbrev S2x2048x1024 : Shape := ⟨3, ![2, 2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x1024, .bf16⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S1024x1024, .f32⟩
  | .hbm, ⟨6, _⟩ => ⟨S2x2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GlaIn.lean ====
abbrev S2x2304x1024 : Shape := ⟨3, ![2, 2304, 1024]⟩
abbrev S8x1024x388 : Shape := ⟨3, ![8, 1024, 388]⟩
abbrev S4608x1024 : Shape := ⟨2, ![4608, 1024]⟩
abbrev S4608x3200 : Shape := ⟨2, ![4608, 3200]⟩
abbrev S1536x1024 : Shape := ⟨2, ![1536, 1024]⟩
abbrev S1536x3200 : Shape := ⟨2, ![1536, 3200]⟩
abbrev S1x1024x388 : Shape := ⟨3, ![1, 1024, 388]⟩
abbrev S1024x388 : Shape := ⟨2, ![1024, 388]⟩
abbrev S1024x96 : Shape := ⟨2, ![1024, 96]⟩
abbrev S1024x3200 : Shape := ⟨2, ![1024, 3200]⟩

abbrev nBuf : Space → Nat
  | .hbm => 4
  | .vmem => 5
  | .smem => 0
  | _ => 0

abbrev bufTy : (tb : Table) → Fin (tcTables nBuf tb) → BufTy
  | .hbm, ⟨0, _⟩ => ⟨S2x2304x1024, .bf16⟩
  | .hbm, ⟨1, _⟩ => ⟨S8x1024x388, .bf16⟩
  | .hbm, ⟨2, _⟩ => ⟨S4608x1024, .bf16⟩
  | .hbm, ⟨3, _⟩ => ⟨S4608x3200, .bf16⟩
  | .local _ .vmem, ⟨0, _⟩ => ⟨S1536x1024, .bf16⟩
  | .local _ .vmem, ⟨1, _⟩ => ⟨S1536x1024, .bf16⟩
  | .local _ .vmem, ⟨2, _⟩ => ⟨S8x1024x388, .bf16⟩
  | .local _ .vmem, ⟨3, _⟩ => ⟨S1536x3200, .bf16⟩
  | .local _ .vmem, ⟨4, _⟩ => ⟨S1536x3200, .bf16⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x1024x388 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaInRefIdeal.lean ====
abbrev S2x2304x1024 : Shape := ⟨3, ![2, 2304, 1024]⟩
abbrev S8x1024x388 : Shape := ⟨3, ![8, 1024, 388]⟩
abbrev S1024x8x388 : Shape := ⟨3, ![1024, 8, 388]⟩
abbrev S1024x3104 : Shape := ⟨2, ![1024, 3104]⟩
abbrev S2x2304x3104 : Shape := ⟨3, ![2, 2304, 3104]⟩
abbrev S_ : Shape := ⟨0, ![]⟩
abbrev S2x2304x3200 : Shape := ⟨3, ![2, 2304, 3200]⟩
abbrev S4608x3200 : Shape := ⟨2, ![4608, 3200]⟩

abbrev nBuf : Space → Nat
  | .hbm => 12
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S8x1024x388, .bf16⟩
  | .hbm, ⟨2, _⟩ => ⟨S2x2304x1024, .f32⟩
  | .hbm, ⟨3, _⟩ => ⟨S1024x8x388, .bf16⟩
  | .hbm, ⟨4, _⟩ => ⟨S1024x3104, .bf16⟩
  | .hbm, ⟨5, _⟩ => ⟨S1024x3104, .f32⟩
  | .hbm, ⟨6, _⟩ => ⟨S2x2304x3104, .f32⟩
  | .hbm, ⟨7, _⟩ => ⟨S_, .i32⟩
  | .hbm, ⟨8, _⟩ => ⟨S_, .f32⟩
  | .hbm, ⟨9, _⟩ => ⟨S2x2304x3200, .f32⟩
  | .hbm, ⟨10, _⟩ => ⟨S4608x3200, .f32⟩
  | .hbm, ⟨11, _⟩ => ⟨S4608x3200, .bf16⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== GlaInDx.lean ====
abbrev S2x2304x3200 : Shape := ⟨3, ![2, 2304, 3200]⟩
abbrev S8x1024x388 : Shape := ⟨3, ![8, 1024, 388]⟩
abbrev S4608x3200 : Shape := ⟨2, ![4608, 3200]⟩
abbrev S4608x1024 : Shape := ⟨2, ![4608, 1024]⟩
abbrev S768x3200 : Shape := ⟨2, ![768, 3200]⟩
abbrev S768x1024 : Shape := ⟨2, ![768, 1024]⟩
abbrev S1x1024x388 : Shape := ⟨3, ![1, 1024, 388]⟩
abbrev S1024x388 : Shape := ⟨2, ![1024, 388]⟩
abbrev S1024x96 : Shape := ⟨2, ![1024, 96]⟩
abbrev S1024x3200 : Shape := ⟨2, ![1024, 3200]⟩

abbrev nBuf : Space → Nat
  | .hbm => 4
  | .vmem => 5
  | .smem => 0
  | _ => 0

abbrev bufTy : (tb : Table) → Fin (tcTables nBuf tb) → BufTy
  | .hbm, ⟨0, _⟩ => ⟨S2x2304x3200, .bf16⟩
  | .hbm, ⟨1, _⟩ => ⟨S8x1024x388, .bf16⟩
  | .hbm, ⟨2, _⟩ => ⟨S4608x3200, .bf16⟩
  | .hbm, ⟨3, _⟩ => ⟨S4608x1024, .bf16⟩
  | .local _ .vmem, ⟨0, _⟩ => ⟨S768x3200, .bf16⟩
  | .local _ .vmem, ⟨1, _⟩ => ⟨S768x3200, .bf16⟩
  | .local _ .vmem, ⟨2, _⟩ => ⟨S8x1024x388, .bf16⟩
  | .local _ .vmem, ⟨3, _⟩ => ⟨S768x1024, .bf16⟩
  | .local _ .vmem, ⟨4, _⟩ => ⟨S768x1024, .bf16⟩
  | _, _ => ⟨S2x2304x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x1024x388 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaInDxRefIdeal.lean ====
abbrev S2x2304x3200 : Shape := ⟨3, ![2, 2304, 3200]⟩
abbrev S8x1024x388 : Shape := ⟨3, ![8, 1024, 388]⟩
abbrev S2x2304x3104 : Shape := ⟨3, ![2, 2304, 3104]⟩
abbrev S_ : Shape := ⟨0, ![]⟩
abbrev S2x2304x1024 : Shape := ⟨3, ![2, 2304, 1024]⟩
abbrev S1024x8x388 : Shape := ⟨3, ![1024, 8, 388]⟩
abbrev S1024x3104 : Shape := ⟨2, ![1024, 3104]⟩
abbrev S4608x1024 : Shape := ⟨2, ![4608, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x2304x3200, .bf16⟩
  | .hbm, ⟨1, _⟩ => ⟨S8x1024x388, .bf16⟩
  | .hbm, ⟨2, _⟩ => ⟨S2x2304x3104, .bf16⟩
  | .hbm, ⟨3, _⟩ => ⟨S2x2304x3104, .f32⟩
  | .hbm, ⟨4, _⟩ => ⟨S_, .f32⟩
  | .hbm, ⟨5, _⟩ => ⟨S2x2304x1024, .f32⟩
  | .hbm, ⟨6, _⟩ => ⟨S1024x8x388, .bf16⟩
  | .hbm, ⟨7, _⟩ => ⟨S1024x3104, .bf16⟩
  | .hbm, ⟨8, _⟩ => ⟨S1024x3104, .f32⟩
  | .hbm, ⟨9, _⟩ => ⟨S2x2304x3104, .f32⟩
  | .hbm, ⟨10, _⟩ => ⟨S2x2304x1024, .f32⟩
  | .hbm, ⟨11, _⟩ => ⟨S4608x1024, .f32⟩
  | .hbm, ⟨12, _⟩ => ⟨S4608x1024, .bf16⟩
  | _, _ => ⟨S2x2304x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GlaInDw.lean ====
abbrev S2x2304x1024 : Shape := ⟨3, ![2, 2304, 1024]⟩
abbrev S2x2304x3200 : Shape := ⟨3, ![2, 2304, 3200]⟩
abbrev S8x128 : Shape := ⟨2, ![8, 128]⟩
abbrev S4608x1024 : Shape := ⟨2, ![4608, 1024]⟩
abbrev S4608x3200 : Shape := ⟨2, ![4608, 3200]⟩
abbrev S8x1024x388 : Shape := ⟨3, ![8, 1024, 388]⟩
abbrev S768x1024 : Shape := ⟨2, ![768, 1024]⟩
abbrev S768x3200 : Shape := ⟨2, ![768, 3200]⟩
abbrev S1024x3200 : Shape := ⟨2, ![1024, 3200]⟩
abbrev S1024x388 : Shape := ⟨2, ![1024, 388]⟩
abbrev S1x1024x388 : Shape := ⟨3, ![1, 1024, 388]⟩

abbrev nBuf : Space → Nat
  | .hbm => 6
  | .vmem => 6
  | .smem => 0
  | _ => 0

abbrev bufTy : (tb : Table) → Fin (tcTables nBuf tb) → BufTy
  | .hbm, ⟨0, _⟩ => ⟨S2x2304x1024, .bf16⟩
  | .hbm, ⟨1, _⟩ => ⟨S2x2304x3200, .bf16⟩
  | .hbm, ⟨2, _⟩ => ⟨S8x128, .f32⟩
  | .hbm, ⟨3, _⟩ => ⟨S4608x1024, .bf16⟩
  | .hbm, ⟨4, _⟩ => ⟨S4608x3200, .bf16⟩
  | .hbm, ⟨5, _⟩ => ⟨S8x1024x388, .bf16⟩
  | .local _ .vmem, ⟨0, _⟩ => ⟨S768x1024, .bf16⟩
  | .local _ .vmem, ⟨1, _⟩ => ⟨S768x1024, .bf16⟩
  | .local _ .vmem, ⟨2, _⟩ => ⟨S768x3200, .bf16⟩
  | .local _ .vmem, ⟨3, _⟩ => ⟨S768x3200, .bf16⟩
  | .local _ .vmem, ⟨4, _⟩ => ⟨S8x1024x388, .bf16⟩
  | .local _ .vmem, ⟨5, _⟩ => ⟨S1024x3200, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x1024x388 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GlaInDwRefIdeal.lean ====
abbrev S2x2304x1024 : Shape := ⟨3, ![2, 2304, 1024]⟩
abbrev S2x2304x3200 : Shape := ⟨3, ![2, 2304, 3200]⟩
abbrev S8x128 : Shape := ⟨2, ![8, 128]⟩
abbrev S2x2304x3104 : Shape := ⟨3, ![2, 2304, 3104]⟩
abbrev S_ : Shape := ⟨0, ![]⟩
abbrev S1024x3104 : Shape := ⟨2, ![1024, 3104]⟩
abbrev S3104x1024 : Shape := ⟨2, ![3104, 1024]⟩
abbrev S1024x8x388 : Shape := ⟨3, ![1024, 8, 388]⟩
abbrev S8x1024x388 : Shape := ⟨3, ![8, 1024, 388]⟩

abbrev nBuf : Space → Nat
  | .hbm => 14
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S2x2304x3200, .bf16⟩
  | .hbm, ⟨2, _⟩ => ⟨S8x128, .f32⟩
  | .hbm, ⟨3, _⟩ => ⟨S2x2304x1024, .f32⟩
  | .hbm, ⟨4, _⟩ => ⟨S2x2304x3104, .bf16⟩
  | .hbm, ⟨5, _⟩ => ⟨S2x2304x3104, .f32⟩
  | .hbm, ⟨6, _⟩ => ⟨S_, .f32⟩
  | .hbm, ⟨7, _⟩ => ⟨S1024x3104, .f32⟩
  | .hbm, ⟨8, _⟩ => ⟨S2x2304x3104, .f32⟩
  | .hbm, ⟨9, _⟩ => ⟨S3104x1024, .f32⟩
  | .hbm, ⟨10, _⟩ => ⟨S1024x3104, .f32⟩
  | .hbm, ⟨11, _⟩ => ⟨S1024x8x388, .f32⟩
  | .hbm, ⟨12, _⟩ => ⟨S8x1024x388, .f32⟩
  | .hbm, ⟨13, _⟩ => ⟨S8x1024x388, .bf16⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== GlaOutDw.lean ====
abbrev S2x2048x1024 : Shape := ⟨3, ![2, 2048, 1024]⟩
abbrev S8x128 : Shape := ⟨2, ![8, 128]⟩
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x1024, .bf16⟩
  | .hbm, ⟨2, _⟩ => ⟨S8x128, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaOutDwRefIdeal.lean ====
abbrev S2x2048x1024 : Shape := ⟨3, ![2, 2048, 1024]⟩
abbrev S8x128 : Shape := ⟨2, ![8, 128]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x1024, .bf16⟩
  | .hbm, ⟨2, _⟩ => ⟨S8x128, .f32⟩
  | .hbm, ⟨3, _⟩ => ⟨S2x2048x1024, .f32⟩
  | .hbm, ⟨4, _⟩ => ⟨S2x2048x1024, .f32⟩
  | .hbm, ⟨5, _⟩ => ⟨S_, .f32⟩
  | .hbm, ⟨6, _⟩ => ⟨S1024x1024, .f32⟩
  | .hbm, ⟨7, _⟩ => ⟨S2x2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OutMod.lean ====
abbrev S2x2048x1024 : Shape := ⟨3, ![2, 2048, 1024]⟩
abbrev S1024x1024 : Shape := ⟨2, ![1024, 1024]⟩
abbrev S2x1x1024 : Shape := ⟨3, ![2, 1, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 10
  | .vmem => 18
  | .smem => 0
  | _ => 0

abbrev bufTy : (tb : Table) → Fin (tcTables nBuf tb) → BufTy
  | .hbm, ⟨0, _⟩ => ⟨S2x2048x1024, .bf16⟩
  | .hbm, ⟨1, _⟩ => ⟨S1024x1024, .bf16⟩
  | .hbm, ⟨2, _⟩ => ⟨S2x2048x1024, .f32⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x2048x1024, .bf16⟩
  | .hbm, ⟨8, _⟩ => ⟨S2x2048x1024, .f32⟩
  | .hbm, ⟨9, _⟩ => ⟨S2x2048x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1x1024x1024, .bf16⟩
  | .local _ .vmem, ⟨17, _⟩ => ⟨S1x1024x1024, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutModRefIdeal.lean ====
abbrev S2x2048x1024 : Shape := ⟨3, ![2, 2048, 1024]⟩
abbrev S1024x1024 : Shape := ⟨2, ![1024, 1024]⟩
abbrev S2x1x1024 : Shape := ⟨3, ![2, 1, 1024]⟩
abbrev S1x1024 : Shape := ⟨2, ![1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024x1024, .bf16⟩
  | .hbm, ⟨2, _⟩ => ⟨S2x2048x1024, .f32⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x2048x1024, .f32⟩
  | .hbm, ⟨8, _⟩ => ⟨S1024x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .bf16⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== DownMod.lean ====
abbrev S2x2048x2560 : Shape := ⟨3, ![2, 2048, 2560]⟩
abbrev S2560x1024 : Shape := ⟨2, ![2560, 1024]⟩
abbrev S2x2048x1024 : Shape := ⟨3, ![2, 2048, 1024]⟩
abbrev S2x1x1024 : Shape := ⟨3, ![2, 1, 1024]⟩
abbrev S1x1024 : Shape := ⟨2, ![1, 1024]⟩
abbrev S1x512x2560 : Shape := ⟨3, ![1, 512, 2560]⟩
abbrev S1x512x1024 : Shape := ⟨3, ![1, 512, 1024]⟩
abbrev S1x1x1024 : Shape := ⟨3, ![1, 1, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 18
  | .smem => 0
  | _ => 0

abbrev bufTy : (tb : Table) → Fin (tcTables nBuf tb) → BufTy
  | .hbm, ⟨0, _⟩ => ⟨S2x2048x2560, .bf16⟩
  | .hbm, ⟨1, _⟩ => ⟨S2560x1024, .bf16⟩
  | .hbm, ⟨2, _⟩ => ⟨S2x2048x1024, .f32⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x2048x1024, .bf16⟩
  | .hbm, ⟨8, _⟩ => ⟨S2x2048x1024, .f32⟩
  | .hbm, ⟨9, _⟩ => ⟨S2x2048x1024, .bf16⟩
  | .local _ .vmem, ⟨0, _⟩ => ⟨S1x512x2560, .bf16⟩
  | .local _ .vmem, ⟨1, _⟩ => ⟨S1x512x2560, .bf16⟩
  | .local _ .vmem, ⟨2, _⟩ => ⟨S2560x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .f32⟩
  | .local _ .vmem, ⟨15, _⟩ => ⟨S1x512x1024, .f32⟩
  | .local _ .vmem, ⟨16, _⟩ => ⟨S1x512x1024, .bf16⟩
  | .local _ .vmem, ⟨17, _⟩ => ⟨S1x512x1024, .bf16⟩
  | _, _ => ⟨S2x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DownModRefIdeal.lean ====
abbrev S2x2048x2560 : Shape := ⟨3, ![2, 2048, 2560]⟩
abbrev S2560x1024 : Shape := ⟨2, ![2560, 1024]⟩
abbrev S2x2048x1024 : Shape := ⟨3, ![2, 2048, 1024]⟩
abbrev S2x1x1024 : Shape := ⟨3, ![2, 1, 1024]⟩
abbrev S1x1024 : Shape := ⟨2, ![1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x2560, .bf16⟩
  | .hbm, ⟨1, _⟩ => ⟨S2560x1024, .bf16⟩
  | .hbm, ⟨2, _⟩ => ⟨S2x2048x1024, .f32⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x2048x2560, .f32⟩
  | .hbm, ⟨8, _⟩ => ⟨S2560x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .bf16⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .bf16⟩
  | _, _ => ⟨S2x2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== ResModBwd.lean ====
abbrev S2x2048x1024 : Shape := ⟨3, ![2, 2048, 1024]⟩
abbrev S2x1x1024 : Shape := ⟨3, ![2, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S2x1x1024, .f32⟩
  | .hbm, ⟨3, _⟩ => ⟨S1x1024, .f32⟩
  | .hbm, ⟨4, _⟩ => ⟨S2x1x1024, .f32⟩
  | .hbm, ⟨5, _⟩ => ⟨S2x1x1024, .f32⟩
  | .hbm, ⟨6, _⟩ => ⟨S2x2048x1024, .f32⟩
  | .hbm, ⟨7, _⟩ => ⟨S2x2048x1024, .bf16⟩
  | .hbm, ⟨8, _⟩ => ⟨S2x2048x1024, .f32⟩
  | .hbm, ⟨9, _⟩ => ⟨S2x2048x1024, .bf16⟩
  | .hbm, ⟨10, _⟩ => ⟨S2x1x1024, .f32⟩
  | .hbm, ⟨11, _⟩ => ⟨S1x1024, .f32⟩
  | .hbm, ⟨12, _⟩ => ⟨S2x1x1024, .f32⟩
  | .hbm, ⟨13, _⟩ => ⟨S2x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x1x1024, .f32⟩
  | .local _ .vmem, ⟨20, _⟩ => ⟨S1x1x1024, .f32⟩
  | .local _ .vmem, ⟨21, _⟩ => ⟨S1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v76 : BitVec 1 := Scalar.cmpi .eq arg2 c0_i32
  let v77 : BitVec 32 := Scalar.extui v76
  let c0_i32_36 : BitVec 32 := 0#32
  let v78 : BitVec 1 := Scalar.cmpi .ne v77 c0_i32_36
  v78

def k0_cond2 (i : grid0.Coords) : BitVec 1 :=
  let arg2 : BitVec 32 := BitVec.ofNat 32 (i 2).val
  let c0_i32 : BitVec 32 := 0#32
  let v76 : BitVec 1 := Scalar.cmpi .eq arg2 c0_i32
  let v_true : BitVec 1 := 1#1
  let v79 : BitVec 1 := Scalar.xori v76 v_true
  let v80 : BitVec 32 := Scalar.extui v79
  let c0_i32_37 : BitVec 32 := 0#32
  let v81 : BitVec 1 := Scalar.cmpi .ne v80 c0_i32_37
  v81

def k0_cond3 (i : grid0.Coords) : BitVec 1 :=
  let arg1 : BitVec 32 := BitVec.ofNat 32 (i 1).val
  let c0_i32_38 : BitVec 32 := 0#32
  let v82 : BitVec 1 := Scalar.cmpi .eq arg1 c0_i32_38
  let arg2 : BitVec 32 := BitVec.ofNat 32 (i 2).val
  let c0_i32_39 : BitVec 32 := 0#32
  let v83 : BitVec 1 := Scalar.cmpi .eq arg2 c0_i32_39
  let v84 : BitVec 1 := Scalar.andi v82 v83
  let v85 : BitVec 32 := Scalar.extui v84
  let c0_i32_40 : BitVec 32 := 0#32
  let v86 : BitVec 1 := Scalar.cmpi .ne v85 c0_i32_40
  v86

def k0_cond4 (i : grid0.Coords) : BitVec 1 :=
  let arg1 : BitVec 32 := BitVec.ofNat 32 (i 1).val
  let c0_i32_38 : BitVec 32 := 0#32
  let v82 : BitVec 1 := Scalar.cmpi .eq arg1 c0_i32_38
  let arg2 : BitVec 32 := BitVec.ofNat 32 (i 2).val
  let c0_i32_39 : BitVec 32 := 0#32
  let v83 : BitVec 1 := Scalar.cmpi .eq arg2 c0_i32_39
  let v84 : BitVec 1 := Scalar.andi v82 v83
  let true_41 : BitVec 1 := 1#1
  let v87 : BitVec 1 := Scalar.xori v84 true_41
  let v88 : BitVec 32 := Scalar.extui v87
  let c0_i32_42 : BitVec 32 := 0#32
  let v89 : BitVec 1 := Scalar.cmpi .ne v88 c0_i32_42
  v89

def k0_cond5 (i : grid0.Coords) : BitVec 1 :=
  let arg2 : BitVec 32 := BitVec.ofNat 32 (i 2).val
  let c0_i32_43 : BitVec 32 := 0#32
  let v90 : BitVec 1 := Scalar.cmpi .eq arg2 c0_i32_43
  let v91 : BitVec 32 := Scalar.extui v90
  let c0_i32_44 : BitVec 32 := 0#32
  let v92 : BitVec 1 := Scalar.cmpi .ne v91 c0_i32_44
  v92

def k0_cond6 (i : grid0.Coords) : BitVec 1 :=
  let arg2 : BitVec 32 := BitVec.ofNat 32 (i 2).val
  let c0_i32_43 : BitVec 32 := 0#32
  let v90 : BitVec 1 := Scalar.cmpi .eq arg2 c0_i32_43
  let true_45 : BitVec 1 := 1#1
  let v93 : BitVec 1 := Scalar.xori v90 true_45
  let v94 : BitVec 32 := Scalar.extui v93
  let c0_i32_46 : BitVec 32 := 0#32
  let v95 : BitVec 1 := Scalar.cmpi .ne v94 c0_i32_46
  v95

def k0_cond7 (i : grid0.Coords) : BitVec 1 :=
  let arg2 : BitVec 32 := BitVec.ofNat 32 (i 2).val
  let c0_i32_47 : BitVec 32 := 0#32
  let v96 : BitVec 1 := Scalar.cmpi .eq arg2 c0_i32_47
  let v97 : BitVec 32 := Scalar.extui v96
  let c0_i32_48 : BitVec 32 := 0#32
  let v98 : BitVec 1 := Scalar.cmpi .ne v97 c0_i32_48
  v98

def k0_cond8 (i : grid0.Coords) : BitVec 1 :=
  let arg2 : BitVec 32 := BitVec.ofNat 32 (i 2).val
  let c0_i32_47 : BitVec 32 := 0#32
  let v96 : BitVec 1 := Scalar.cmpi .eq arg2 c0_i32_47
  let true_49 : BitVec 1 := 1#1
  let v99 : BitVec 1 := Scalar.xori v96 true_49
  let v100 : BitVec 32 := Scalar.extui v99
  let c0_i32_50 : BitVec 32 := 0#32
  let v101 : BitVec 1 := Scalar.cmpi .ne v100 c0_i32_50
  v101

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![arg1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![arg1.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![arg1.toNat, v0.toNat, v1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![arg1.toNat, v0.toNat, v1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== ResModBwdRefIdeal.lean ====
abbrev S2x2048x1024 : Shape := ⟨3, ![2, 2048, 1024]⟩
abbrev S2x1x1024 : Shape := ⟨3, ![2, 1, 1024]⟩
abbrev S1x1024 : Shape := ⟨2, ![1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S2x1x1024, .f32⟩
  | .hbm, ⟨3, _⟩ => ⟨S1x1024, .f32⟩
  | .hbm, ⟨4, _⟩ => ⟨S2x1x1024, .f32⟩
  | .hbm, ⟨5, _⟩ => ⟨S2x1x1024, .f32⟩
  | .hbm, ⟨6, _⟩ => ⟨S2x2048x1024, .f32⟩
  | .hbm, ⟨7, _⟩ => ⟨S2x2048x1024, .bf16⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S1x1x1024, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x1024, .f32⟩
  | .hbm, ⟨42, _⟩ => ⟨S2x1x1024, .f32⟩
  | .hbm, ⟨43, _⟩ => ⟨S2x2048x1024, .f32⟩
  | .hbm, ⟨44, _⟩ => ⟨S_, .f32⟩
  | .hbm, ⟨45, _⟩ => ⟨S2x1024, .f32⟩
  | .hbm, ⟨46, _⟩ => ⟨S2x1x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2x2048x1024, .f32⟩
  | .hbm, ⟨59, _⟩ => ⟨S_, .f32⟩
  | .hbm, ⟨60, _⟩ => ⟨S2x2048, .f32⟩
  | .hbm, ⟨61, _⟩ => ⟨S2x2048x1, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S2x2048x1, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S_, .f32⟩
  | .hbm, ⟨70, _⟩ => ⟨S2x2048, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S_, .f32⟩
  | .hbm, ⟨81, _⟩ => ⟨S2x1024, .f32⟩
  | .hbm, ⟨82, _⟩ => ⟨S2x1x1024, .f32⟩
  | .hbm, ⟨83, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== ModBwd.lean ====
abbrev S2x2048x1024 : Shape := ⟨3, ![2, 2048, 1024]⟩
abbrev S1x1024 : Shape := ⟨2, ![1, 1024]⟩
abbrev S2x1x1024 : Shape := ⟨3, ![2, 1, 1024]⟩
abbrev S2x2304x1024 : Shape := ⟨3, ![2, 2304, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S2x2304x1024, .bf16⟩
  | .hbm, ⟨5, _⟩ => ⟨S2x2048x1024, .f32⟩
  | .hbm, ⟨6, _⟩ => ⟨S2x2048x1024, .f32⟩
  | .hbm, ⟨7, _⟩ => ⟨S1x1024, .f32⟩
  | .hbm, ⟨8, _⟩ => ⟨S2x1x1024, .f32⟩
  | .hbm, ⟨9, _⟩ => ⟨S2x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg1 : BitVec 32 := BitVec.ofNat 32 (i 1).val
  let c0_i32 : BitVec 32 := 0#32
  let v58 : BitVec 1 := Scalar.cmpi .eq arg1 c0_i32
  let arg2 : BitVec 32 := BitVec.ofNat 32 (i 2).val
  let c0_i32_26 : BitVec 32 := 0#32
  let v59 : BitVec 1 := Scalar.cmpi .eq arg2 c0_i32_26
  let v60 : BitVec 1 := Scalar.andi v58 v59
  let v61 : BitVec 32 := Scalar.extui v60
  let c0_i32_27 : BitVec 32 := 0#32
  let v62 : BitVec 1 := Scalar.cmpi .ne v61 c0_i32_27
  v62

def k0_cond2 (i : grid0.Coords) : BitVec 1 :=
  let arg1 : BitVec 32 := BitVec.ofNat 32 (i 1).val
  let c0_i32 : BitVec 32 := 0#32
  let v58 : BitVec 1 := Scalar.cmpi .eq arg1 c0_i32
  let arg2 : BitVec 32 := BitVec.ofNat 32 (i 2).val
  let c0_i32_26 : BitVec 32 := 0#32
  let v59 : BitVec 1 := Scalar.cmpi .eq arg2 c0_i32_26
  let v60 : BitVec 1 := Scalar.andi v58 v59
  let v_true : BitVec 1 := 1#1
  let v63 : BitVec 1 := Scalar.xori v60 v_true
  let v64 : BitVec 32 := Scalar.extui v63
  let c0_i32_28 : BitVec 32 := 0#32
  let v65 : BitVec 1 := Scalar.cmpi .ne v64 c0_i32_28
  v65

def k0_cond3 (i : grid0.Coords) : BitVec 1 :=
  let arg2 : BitVec 32 := BitVec.ofNat 32 (i 2).val
  let c0_i32_29 : BitVec 32 := 0#32
  let v66 : BitVec 1 := Scalar.cmpi .eq arg2 c0_i32_29
  let v67 : BitVec 32 := Scalar.extui v66
  let c0_i32_30 : BitVec 32 := 0#32
  let v68 : BitVec 1 := Scalar.cmpi .ne v67 c0_i32_30
  v68

def k0_cond4 (i : grid0.Coords) : BitVec 1 :=
  let arg2 : BitVec 32 := BitVec.ofNat 32 (i 2).val
  let c0_i32_29 : BitVec 32 := 0#32
  let v66 : BitVec 1 := Scalar.cmpi .eq arg2 c0_i32_29
  let true_31 : BitVec 1 := 1#1
  let v69 : BitVec 1 := Scalar.xori v66 true_31
  let v70 : BitVec 32 := Scalar.extui v69
  let c0_i32_32 : BitVec 32 := 0#32
  let v71 : BitVec 1 := Scalar.cmpi .ne v70 c0_i32_32
  v71

def k0_cond5 (i : grid0.Coords) : BitVec 1 :=
  let arg2 : BitVec 32 := BitVec.ofNat 32 (i 2).val
  let c0_i32_33 : BitVec 32 := 0#32
  let v72 : BitVec 1 := Scalar.cmpi .eq arg2 c0_i32_33
  let v73 : BitVec 32 := Scalar.extui v72
  let c0_i32_34 : BitVec 32 := 0#32
  let v74 : BitVec 1 := Scalar.cmpi .ne v73 c0_i32_34
  v74

def k0_cond6 (i : grid0.Coords) : BitVec 1 :=
  let arg2 : BitVec 32 := BitVec.ofNat 32 (i 2).val
  let c0_i32_33 : BitVec 32 := 0#32
  let v72 : BitVec 1 := Scalar.cmpi .eq arg2 c0_i32_33
  let true_35 : BitVec 1 := 1#1
  let v75 : BitVec 1 := Scalar.xori v72 true_35
  let v76 : BitVec 32 := Scalar.extui v75
  let c0_i32_36 : BitVec 32 := 0#32
  let v77 : BitVec 1 := Scalar.cmpi .ne v76 c0_i32_36
  v77

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![arg1.toNat, v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg0 c0_i32
  let c0_i32_0 : BitVec 32 := 0#32
  ![arg1.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![arg1.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ModBwdRefIdeal.lean ====
abbrev S2x2048x1024 : Shape := ⟨3, ![2, 2048, 1024]⟩
abbrev S1x1024 : Shape := ⟨2, ![1, 1024]⟩
abbrev S2x1x1024 : Shape := ⟨3, ![2, 1, 1024]⟩
abbrev S2x2304x1024 : Shape := ⟨3, ![2, 2304, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S2x2304x1024, .bf16⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .bf16⟩
  | .hbm, ⟨34, _⟩ => ⟨S2x2048x1024, .f32⟩
  | .hbm, ⟨35, _⟩ => ⟨S_, .f32⟩
  | .hbm, ⟨36, _⟩ => ⟨S2x1024, .f32⟩
  | .hbm, ⟨37, _⟩ => ⟨S2x1x1024, .f32⟩
  | .hbm, ⟨38, _⟩ => ⟨S2x2048x1024, .f32⟩
  | .hbm, ⟨39, _⟩ => ⟨S_, .f32⟩
  | .hbm, ⟨40, _⟩ => ⟨S2x1024, .f32⟩
  | .hbm, ⟨41, _⟩ => ⟨S2x1x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S_, .f32⟩
  | .hbm, ⟨46, _⟩ => ⟨S1024, .f32⟩
  | .hbm, ⟨47, _⟩ => ⟨S1x1x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2x2048x1024, .f32⟩
  | .hbm, ⟨54, _⟩ => ⟨S_, .f32⟩
  | .hbm, ⟨55, _⟩ => ⟨S2x2048, .f32⟩
  | .hbm, ⟨56, _⟩ => ⟨S2x2048x1, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== PostBwd.lean ====
abbrev S2x2304x2048 : Shape := ⟨3, ![2, 2304, 2048]⟩
abbrev S2x2304x3200 : Shape := ⟨3, ![2, 2304, 3200]⟩
abbrev S1x256 : Shape := ⟨2, ![1, 256]⟩
abbrev S2x2048x1024 : Shape := ⟨3, ![2, 2048, 1024]⟩
abbrev S1x256x1024 : Shape := ⟨3, ![1, 256, 1024]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S2x2304x2048, .f32⟩
  | .hbm, ⟨1, _⟩ => ⟨S2x2304x3200, .bf16⟩
  | .hbm, ⟨2, _⟩ => ⟨S1x256, .f32⟩
  | .hbm, ⟨3, _⟩ => ⟨S2x2048x1024, .bf16⟩
  | .hbm, ⟨4, _⟩ => ⟨S2x2048x1024, .bf16⟩
  | .hbm, ⟨5, _⟩ => ⟨S2x2048x1024, .bf16⟩
  | .hbm, ⟨6, _⟩ => ⟨S1x256, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256, .f32⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256, .f32⟩
  | _, _ => ⟨S2x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg1 : BitVec 32 := BitVec.ofNat 32 (i 1).val
  let c0_i32 : BitVec 32 := 0#32
  let v264 : BitVec 1 := Scalar.cmpi .eq arg1 c0_i32
  let arg2 : BitVec 32 := BitVec.ofNat 32 (i 2).val
  let c0_i32_105 : BitVec 32 := 0#32
  let v265 : BitVec 1 := Scalar.cmpi .eq arg2 c0_i32_105
  let v266 : BitVec 1 := Scalar.andi v264 v265
  let v267 : BitVec 32 := Scalar.extui v266
  let c0_i32_106 : BitVec 32 := 0#32
  let v268 : BitVec 1 := Scalar.cmpi .ne v267 c0_i32_106
  v268

def k0_cond2 (i : grid0.Coords) : BitVec 1 :=
  let arg1 : BitVec 32 := BitVec.ofNat 32 (i 1).val
  let c0_i32 : BitVec 32 := 0#32
  let v264 : BitVec 1 := Scalar.cmpi .eq arg1 c0_i32
  let arg2 : BitVec 32 := BitVec.ofNat 32 (i 2).val
  let c0_i32_105 : BitVec 32 := 0#32
  let v265 : BitVec 1 := Scalar.cmpi .eq arg2 c0_i32_105
  let v266 : BitVec 1 := Scalar.andi v264 v265
  let v_true : BitVec 1 := 1#1
  let v269 : BitVec 1 := Scalar.xori v266 v_true
  let v270 : BitVec 32 := Scalar.extui v269
  let c0_i32_107 : BitVec 32 := 0#32
  let v271 : BitVec 1 := Scalar.cmpi .ne v270 c0_i32_107
  v271

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg0 c0_i32
  let c0_i32_0 : BitVec 32 := 0#32
  ![arg1.toNat, v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c1_i32_0 : BitVec 32 := 1#32
  let v1 : BitVec 32 := Scalar.addi arg0 c1_i32_0
  let c0_i32 : BitVec 32 := 0#32
  ![arg1.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.addi arg0 c2_i32
  let c0_i32 : BitVec 32 := 0#32
  ![arg1.toNat, v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![arg1.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]
-- ==== PostBwdRefIdeal.lean ====
abbrev S2x2304x2048 : Shape := ⟨3, ![2, 2304, 2048]⟩
abbrev S2x2304x3200 : Shape := ⟨3, ![2, 2304, 3200]⟩
abbrev S1x256 : Shape := ⟨2, ![1, 256]⟩
abbrev S2x2048x1024 : Shape := ⟨3, ![2, 2048, 1024]⟩
abbrev S2x2048x4x256 : Shape := ⟨4, ![2, 2048, 4, 256]⟩
abbrev S_ : Shape := ⟨0, ![]⟩
abbrev S2x2048x4 : Shape := ⟨3, ![2, 2048, 4]⟩
abbrev S2x2048x4x1 : Shape := ⟨4, ![2, 2048, 4, 1]⟩
abbrev S1x1x1x256 : Shape := ⟨4, ![1, 1, 1, 256]⟩
abbrev S256 : Shape := ⟨1, ![256]⟩

abbrev nBuf : Space → Nat
  | .hbm => 82
  | .vmem => 0
  | .smem => 0
  | _ => 0

abbrev bufTy : (tb : Table) → Fin (tcTables nBuf tb) → BufTy
  | .hbm, ⟨0, _⟩ => ⟨S2x2304x2048, .f32⟩
  | .hbm, ⟨1, _⟩ => ⟨S2x2304x3200, .bf16⟩
  | .hbm, ⟨2, _⟩ => ⟨S1x256, .f32⟩
  | .hbm, ⟨3, _⟩ => ⟨S2x2048x1024, .bf16⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x4x256, .f32⟩
  | .hbm, ⟨8, _⟩ => ⟨S2x2048x1024, .bf16⟩
  | .hbm, ⟨9, _⟩ => ⟨S2x2048x1024, .f32⟩
  | .hbm, ⟨10, _⟩ => ⟨S2x2048x4x256, .f32⟩
  | .hbm, ⟨11, _⟩ => ⟨S_, .f32⟩
  | .hbm, ⟨12, _⟩ => ⟨S2x2048x4, .f32⟩
  | .hbm, ⟨13, _⟩ => ⟨S2x2048x4x1, .f32⟩
  | .hbm, ⟨14, _⟩ => ⟨S_, .f32⟩
  | .hbm, ⟨15, _⟩ => ⟨S2x2048x4x1, .f32⟩
  | .hbm, ⟨16, _⟩ => ⟨S2x2048x4x1, .f32⟩
  | .hbm, ⟨17, _⟩ => ⟨S_, .f32⟩
  | .hbm, ⟨18, _⟩ => ⟨S2x2048x4x1, .f32⟩
  | .hbm, ⟨19, _⟩ => ⟨S2x2048x4x1, .f32⟩
  | .hbm, ⟨20, _⟩ => ⟨S2x2048x4x1, .f32⟩
  | .hbm, ⟨21, _⟩ => ⟨S2x2048x4x1, .f32⟩
  | .hbm, ⟨22, _⟩ => ⟨S_, .f32⟩
  | .hbm, ⟨23, _⟩ => ⟨S2x2048x4x1, .f32⟩
  | .hbm, ⟨24, _⟩ => ⟨S2x2048x4x1, .f32⟩
  | .hbm, ⟨25, _⟩ => ⟨S2x2048x4x256, .f32⟩
  | .hbm, ⟨26, _⟩ => ⟨S2x2048x4x256, .f32⟩
  | .hbm, ⟨27, _⟩ => ⟨S1x1x1x256, .f32⟩
  | .hbm, ⟨28, _⟩ => ⟨S2x2048x4x256, .f32⟩
  | .hbm, ⟨29, _⟩ => ⟨S2x2048x4x256, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x4x256, .f32⟩
  | .hbm, ⟨53, _⟩ => ⟨S2x2048x4x256, .f32⟩
  | .hbm, ⟨54, _⟩ => ⟨S_, .f32⟩
  | .hbm, ⟨55, _⟩ => ⟨S256, .f32⟩
  | .hbm, ⟨56, _⟩ => ⟨S1x1x1x256, .f32⟩
  | .hbm, ⟨57, _⟩ => ⟨S2x2048x4x256, .f32⟩
  | .hbm, ⟨58, _⟩ => ⟨S2x2048x4x256, .f32⟩
  | .hbm, ⟨59, _⟩ => ⟨S_, .f32⟩
  | .hbm, ⟨60, _⟩ => ⟨S256, .f32⟩
  | .hbm, ⟨61, _⟩ => ⟨S1x256, .f32⟩
  | .hbm, ⟨62, _⟩ => ⟨S2x2048x4x256, .f32⟩
  | .hbm, ⟨63, _⟩ => ⟨S_, .f32⟩
  | .hbm, ⟨64, _⟩ => ⟨S2x2048x4, .f32⟩
  | .hbm, ⟨65, _⟩ => ⟨S2x2048x4x1, .f32⟩
  | .hbm, ⟨66, _⟩ => ⟨S2x2048x4x256, .f32⟩
  | .hbm, ⟨67, _⟩ => ⟨S2x2048x4x256, .f32⟩
  | .hbm, ⟨68, _⟩ => ⟨S2x2048x4x1, .f32⟩
  | .hbm, ⟨69, _⟩ => ⟨S_, .f32⟩
  | .hbm, ⟨70, _⟩ => ⟨S2x2048x4x1, .f32⟩
  | .hbm, ⟨71, _⟩ => ⟨S2x2048x4x1, .f32⟩
  | .hbm, ⟨72, _⟩ => ⟨S_, .f32⟩
  | .hbm, ⟨73, _⟩ => ⟨S2x2048x4, .f32⟩
  | .hbm, ⟨74, _⟩ => ⟨S2x2048x4x256, .f32⟩
  | .hbm, ⟨75, _⟩ => ⟨S2x2048x4x256, .f32⟩
  | .hbm, ⟨76, _⟩ => ⟨S2x2048x4x256, .f32⟩
  | .hbm, ⟨77, _⟩ => ⟨S2x2048x4x256, .f32⟩
  | .hbm, ⟨78, _⟩ => ⟨S2x2048x4x256, .f32⟩
  | .hbm, ⟨79, _⟩ => ⟨S2x2048x1024, .f32⟩
  | .hbm, ⟨80, _⟩ => ⟨S2x2048x1024, .bf16⟩
  | .hbm, ⟨81, _⟩ => ⟨S2x2048x1024, .bf16⟩
  | _, _ => ⟨S2x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v23_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v23_1 : Ref sig .tc := ⟨.hbm, 42, rfl⟩
abbrev main_v23_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== Proof.BwdRunC.lean ====
/-
The body of the gradient kernel, run once at the first grid point of the second direction: the
stores it makes, found by running the body from given blocks.
-/
module

public import proofs.«01_k».proof.Proof.Gen.KernelIdeal.Frame.RunB

@[expose] public section

set_option maxRecDepth 16384

noncomputable section

namespace Cert.KernelIdeal.Bwd

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_C (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) :
    Σ' (L6 : List (View.Piece (Elt F) S1x2x64x512 .bf16)), Σ' (L7 : List (View.Piece (Elt F) S1x2x64x512 .bf16)), Σ' (L8 : List (View.Piece (Elt F) S1x2x64x1024 .bf16)), Σ' (L9 : List (View.Piece (Elt F) S2x64x512 .f32)), { LS0 : List (View.Piece (Elt F) S2x4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_gla_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_gla_bwd_eq_skeleton]; unfold cc0_gla_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    simp only [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Cert.KernelIdeal.Bwd

end
-- ==== Proof.BwdRunD.lean ====
/-
The body of the gradient kernel, run once at a later grid point of the second direction: the
stores it makes, found by running the body from given blocks.
-/
module

public import proofs.«01_k».proof.Proof.BwdRunC

@[expose] public section

set_option maxRecDepth 16384

noncomputable section

namespace Cert.KernelIdeal.Bwd

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_D (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) :
    Σ' (L6 : List (View.Piece (Elt F) S1x2x64x512 .bf16)), Σ' (L7 : List (View.Piece (Elt F) S1x2x64x512 .bf16)), Σ' (L8 : List (View.Piece (Elt F) S1x2x64x1024 .bf16)), Σ' (L9 : List (View.Piece (Elt F) S2x64x512 .f32)), { LS0 : List (View.Piece (Elt F) S2x4x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_gla_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_gla_bwd_eq_skeleton]; unfold cc0_gla_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0
    sl_exec (disch := first | sl_exact hc0 | sl_exact hc1 | sl_exact hc2)
    simp only [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact HS0

end Cert.KernelIdeal.Bwd

end
-- ==== Proof.BwdFrame.lean ====
/-
The run of the gradient kernel over its whole grid: what each output block and the carried
gradient of the state hold after every grid point, that the program ends without a fault with its
arguments unchanged, and that nothing is left in flight.  Stated for every reading of the floats,
so that the program as compiled and its ideal reading share it.
-/
module

public import proofs.«01_k».proof.Proof.BwdRunD
public import Idealize.ShloMosaic.Lib.Claim

@[expose] public section

set_option maxRecDepth 16384

noncomputable section

namespace Cert.KernelIdeal.Bwd

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_6 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (y : S1x2x64x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).1 S1x1x64x128.size (by sl_kernel_rfl) y

def out0_A_6 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) : Vec F S1x2x64x512 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).1)

theorem cover0_A_7 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (y : S1x2x64x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.1 S1x1x64x128.size (by sl_kernel_rfl) y

def out0_A_7 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) : Vec F S1x2x64x512 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.1)

theorem cover0_A_8 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (y : S1x2x64x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.2.1 S1x1x64x256.size (by sl_kernel_rfl) y

def out0_A_8 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) : Vec F S1x2x64x1024 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.2.1)

theorem cover0_A_9 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (y : S2x64x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.1 S1x64x512.size (by sl_kernel_rfl) y

def out0_A_9 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) : Vec F S2x64x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.1)

theorem scover0_A_0 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (y : S2x4x256x128.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.1 (by sl_whole_mem) y

def sout0_A_0 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) : Vec F S2x4x256x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.1)

theorem cover0_B_6 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) (y : S1x2x64x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).1 S1x1x64x128.size (by sl_kernel_rfl) y

def out0_B_6 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) : Vec F S1x2x64x512 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).1)

theorem cover0_B_7 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) (y : S1x2x64x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.1 S1x1x64x128.size (by sl_kernel_rfl) y

def out0_B_7 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) : Vec F S1x2x64x512 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.1)

theorem cover0_B_8 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) (y : S1x2x64x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.1 S1x1x64x256.size (by sl_kernel_rfl) y

def out0_B_8 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) : Vec F S1x2x64x1024 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.1)

theorem cover0_B_9 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) (y : S2x64x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.1 S1x64x512.size (by sl_kernel_rfl) y

def out0_B_9 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) : Vec F S2x64x512 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.1)

theorem scover0_B_0 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) (y : S2x4x256x128.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.2.1 S1x1x256x128.size (by sl_kernel_rfl) y

def sout0_B_0 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : cond0_1 i) (hc2 : ¬cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) : Vec F S2x4x256x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.2.1)

theorem cover0_C_6 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (y : S1x2x64x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).1 S1x1x64x128.size (by sl_kernel_rfl) y

def out0_C_6 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) : Vec F S1x2x64x512 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).1)

theorem cover0_C_7 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (y : S1x2x64x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).2.1 S1x1x64x128.size (by sl_kernel_rfl) y

def out0_C_7 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) : Vec F S1x2x64x512 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).2.1)

theorem cover0_C_8 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (y : S1x2x64x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).2.2.1 S1x1x64x256.size (by sl_kernel_rfl) y

def out0_C_8 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) : Vec F S1x2x64x1024 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).2.2.1)

theorem cover0_C_9 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (y : S2x64x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.1 S1x64x512.size (by sl_kernel_rfl) y

def out0_C_9 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) : Vec F S2x64x512 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.1)

theorem scover0_C_0 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (y : S2x4x256x128.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.1, y ∈ pc.1.set :=
  View.cover_of_wholeMem (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.1 (by sl_whole_mem) y

def sout0_C_0 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) : Vec F S2x4x256x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.1)

theorem cover0_D_6 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) (y : S1x2x64x512.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).1 S1x1x64x128.size (by sl_kernel_rfl) y

def out0_D_6 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) : Vec F S1x2x64x512 .bf16 :=
  VO0_6.read (Elt F) (VO0_6.writes (Elt F) VO0_6.junk (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).1)

theorem cover0_D_7 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) (y : S1x2x64x512.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.1 S1x1x64x128.size (by sl_kernel_rfl) y

def out0_D_7 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) : Vec F S1x2x64x512 .bf16 :=
  VO0_7.read (Elt F) (VO0_7.writes (Elt F) VO0_7.junk (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.1)

theorem cover0_D_8 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) (y : S1x2x64x1024.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.1 S1x1x64x256.size (by sl_kernel_rfl) y

def out0_D_8 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) : Vec F S1x2x64x1024 .bf16 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.1)

theorem cover0_D_9 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) (y : S2x64x512.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.1 S1x64x512.size (by sl_kernel_rfl) y

def out0_D_9 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) : Vec F S2x64x512 .f32 :=
  VO0_9.read (Elt F) (VO0_9.writes (Elt F) VO0_9.junk (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.1)

theorem scover0_D_0 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) (y : S2x4x256x128.Idx) :
    ∃ pc ∈ (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.2.1 S1x1x256x128.size (by sl_kernel_rfl) y

def sout0_D_0 (c : Dev nD) (i : grid0.Coords) (arg2 : Memref sig .tc .vmem S2x64x512 .bf16) (harg2 : arg2.IsWhole) (arg3 : Memref sig .tc .vmem S2x64x512 .bf16) (harg3 : arg3.IsWhole) (arg4 : Memref sig .tc .vmem S2x64x1024 .bf16) (harg4 : arg4.IsWhole) (arg5 : Memref sig .tc .vmem S2x64x512 .f32) (harg5 : arg5.IsWhole) (arg6 : Memref sig .tc .vmem S2x1x1x4x256x128 .f32) (harg6 : arg6.IsWhole) (arg7 : Memref sig .tc .vmem S2x64x1024 .bf16) (harg7 : arg7.IsWhole) (arg8 : Memref sig .tc .vmem S1x2x64x512 .bf16) (harg8 : arg8.IsWhole) (arg9 : Memref sig .tc .vmem S1x2x64x512 .bf16) (harg9 : arg9.IsWhole) (arg10 : Memref sig .tc .vmem S1x2x64x1024 .bf16) (harg10 : arg10.IsWhole) (arg11 : Memref sig .tc .vmem S2x64x512 .f32) (harg11 : arg11.IsWhole) (arg12 : Memref sig .tc .vmem S2x4x256x128 .f32) (harg12 : arg12.IsWhole) (hc0 : ¬cond0_0 i) (hc1 : ¬cond0_1 i) (hc2 : cond0_2 i)
    (x0 : Vec F S2x64x512 .bf16) (x1 : Vec F S2x64x512 .bf16) (x2 : Vec F S2x64x1024 .bf16) (x3 : Vec F S2x64x512 .f32) (x4 : Vec F S2x1x1x4x256x128 .f32) (x5 : Vec F S2x64x1024 .bf16) (xs0 : Vec F S2x4x256x128 .f32) : Vec F S2x4x256x128 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 hc0 hc1 hc2 x0 x1 x2 x3 x4 x5 xs0).2.2.2.2.1)

def outsAt0 (c : Dev nD) : (n : ℕ) → n < cfg0.N → Vec F S1x2x64x512 .bf16 × Vec F S1x2x64x512 .bf16 × Vec F S1x2x64x1024 .bf16 × Vec F S2x64x512 .f32 × Vec F S2x4x256x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (X0_1 m c ⟨0, hn⟩) (X0_2 m c ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (X0_1 m c ⟨0, hn⟩) (X0_2 m c ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (X0_1 m c ⟨0, hn⟩) (X0_2 m c ⟨0, hn⟩) (iblk m c 3 ⟨0, hn⟩) (iblk m c 4 ⟨0, hn⟩) (iblk m c 5 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (X0_1 m c ⟨0, hn⟩) (X0_2 m c ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (X0_0 m c ⟨0, hn⟩) (X0_1 m c ⟨0, hn⟩) (X0_2 m c ⟨0, hn⟩) (iblk m c 3 ⟨0, hn⟩) (iblk m c 4 ⟨0, hn⟩) (iblk m c 5 ⟨0, hn⟩))
  | n + 1, hn =>
    if h0 : (n + 1) % 36 = 0 then
      if h1 : (n + 1) < 36 then
        if h2 : 36 ≤ (n + 1) then
          False.elim (by have hN : n + 1 < 72 := lt_of_lt_of_eq hn (show cfg0.N = 72 from N_0); omega)
        else
          (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩))
      else
        if h2 : 36 ≤ (n + 1) then
          (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩), out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩), out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩), out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩))
        else
          False.elim (by have hN : n + 1 < 72 := lt_of_lt_of_eq hn (show cfg0.N = 72 from N_0); omega)
    else
      if h1 : (n + 1) < 36 then
        if h2 : 36 ≤ (n + 1) then
          False.elim (by have hN : n + 1 < 72 := lt_of_lt_of_eq hn (show cfg0.N = 72 from N_0); omega)
        else
          (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2.2.2)
      else
        if h2 : 36 ≤ (n + 1) then
          (out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2.2.2, out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2.2.2)
        else
          False.elim (by have hN : n + 1 < 72 := lt_of_lt_of_eq hn (show cfg0.N = 72 from N_0); omega)

theorem outsAt0_A (c : Dev nD) (t : Fin cfg0.N) (h0 : t.val % 36 = 0) (h1 : t.val < 36) (h2 : ¬36 ≤ t.val) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (X0_0 m c t) (X0_1 m c t) (X0_2 m c t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (X0_0 m c t) (X0_1 m c t) (X0_2 m c t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (X0_0 m c t) (X0_1 m c t) (X0_2 m c t) (iblk m c 3 t) (iblk m c 4 t) (iblk m c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (X0_0 m c t) (X0_1 m c t) (X0_2 m c t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (X0_0 m c t) (X0_1 m c t) (X0_2 m c t) (iblk m c 3 t) (iblk m c 4 t) (iblk m c 5 t)) := by
  obtain ⟨n, hn⟩ := t
  cases n with
  | zero => exact rfl
  | succ n => exact (dif_pos h0).trans ((dif_pos h1).trans ((dif_neg h2).trans rfl))

theorem outsAt0_B (c : Dev nD) (t : Fin cfg0.N) (h0 : ¬t.val % 36 = 0) (h1 : t.val < 36) (h2 : ¬36 ≤ t.val) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : t.val % 36 = 0) (h1 : ¬t.val < 36) (h2 : 36 ≤ t.val) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) ((hcond0_2 t).mpr h2) (X0_0 m c t) (X0_1 m c t) (X0_2 m c t) (iblk m c 3 t) (iblk m c 4 t) (iblk m c 5 t), out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) ((hcond0_2 t).mpr h2) (X0_0 m c t) (X0_1 m c t) (X0_2 m c t) (iblk m c 3 t) (iblk m c 4 t) (iblk m c 5 t), out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) ((hcond0_2 t).mpr h2) (X0_0 m c t) (X0_1 m c t) (X0_2 m c t) (iblk m c 3 t) (iblk m c 4 t) (iblk m c 5 t), out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) ((hcond0_2 t).mpr h2) (X0_0 m c t) (X0_1 m c t) (X0_2 m c t) (iblk m c 3 t) (iblk m c 4 t) (iblk m c 5 t), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) ((hcond0_2 t).mpr h2) (X0_0 m c t) (X0_1 m c t) (X0_2 m c t) (iblk m c 3 t) (iblk m c 4 t) (iblk m c 5 t)) := by
  obtain ⟨n, hn⟩ := t
  cases n with
  | zero => exact (by exfalso; (try dsimp only at h1); exact by omega)
  | succ n => exact (dif_pos h0).trans ((dif_neg h1).trans ((dif_pos h2).trans rfl))

theorem outsAt0_D (c : Dev nD) (t : Fin cfg0.N) (h0 : ¬t.val % 36 = 0) (h1 : ¬t.val < 36) (h2 : 36 ≤ t.val) :
    outsAt0 m c t.val t.isLt = (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (X0_0 m c t) (X0_1 m c t) (X0_2 m c t) (iblk m c 3 t) (iblk m c 4 t) (iblk m c 5 t) (outsAt0 m c (t.val - 1) (Nat.lt_of_le_of_lt (Nat.sub_le _ _) t.isLt)).2.2.2.2, out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (X0_0 m c t) (X0_1 m c t) (X0_2 m c t) (iblk m c 3 t) (iblk m c 4 t) (iblk m c 5 t) (outsAt0 m c (t.val - 1) (Nat.lt_of_le_of_lt (Nat.sub_le _ _) t.isLt)).2.2.2.2, out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (X0_0 m c t) (X0_1 m c t) (X0_2 m c t) (iblk m c 3 t) (iblk m c 4 t) (iblk m c 5 t) (outsAt0 m c (t.val - 1) (Nat.lt_of_le_of_lt (Nat.sub_le _ _) t.isLt)).2.2.2.2, out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (X0_0 m c t) (X0_1 m c t) (X0_2 m c t) (iblk m c 3 t) (iblk m c 4 t) (iblk m c 5 t) (outsAt0 m c (t.val - 1) (Nat.lt_of_le_of_lt (Nat.sub_le _ _) t.isLt)).2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 12800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 72 := lt_of_lt_of_eq t.isLt (show cfg0.N = 72 from N_0)
  by_cases h0 : t.val % 36 = 0
  · by_cases h1 : t.val < 36
    · by_cases h2 : 36 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        rw [show (dats m 0 c).leavesExact 7 t = owns (c : Thread nD τ) (ms0_7 t) fullShare ((dats m 0 c).after 7 t) from by
      unfold Dat.leavesExact; rw [liveAt0_7_A t ((hcond0_0 t).mpr h0) ((hcond0_1 t).mpr h1) (fun h => h2 ((hcond0_2 t).mp h))], after0_7]
        rw [show (dats m 0 c).leavesExact 8 t = owns (c : Thread nD τ) (ms0_8 t) fullShare ((dats m 0 c).after 8 t) from by
      unfold Dat.leavesExact; rw [liveAt0_8_A t ((hcond0_0 t).mpr h0) ((hcond0_1 t).mpr h1) (fun h => h2 ((hcond0_2 t).mp h))], after0_8]
        rw [show (dats m 0 c).leavesExact 9 t = owns (c : Thread nD τ) (ms0_9 t) fullShare ((dats m 0 c).after 9 t) from by
      unfold Dat.leavesExact; rw [liveAt0_9_A t ((hcond0_0 t).mpr h0) ((hcond0_1 t).mpr h1) (fun h => h2 ((hcond0_2 t).mp h))], after0_9]
        by_cases hz : t.val = 0
        · rw [PhiS_castSucc m c t, PhiS_zero m c _ _ hz, PhiA0_eq]
          rw [outsAt0_A m c t h0 h1 h2]
          unfold out0_A_6 out0_A_7 out0_A_8 out0_A_9 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (X0_0 m c t) (X0_1 m c t) (X0_2 m c t) (iblk m c 3 t) (iblk m c 4 t) (iblk m c 5 t)).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [HS0]; · iexact HS0
          iintro ⟨H0, H1, H2, H3, H4, H5, ⟨%e6, H6⟩, ⟨%e7, H7⟩, ⟨%e8, H8⟩, ⟨%e9, H9⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]
          · unfold owns; iexists _; isplitr
            swap; · iexact H6
            ipureintro; exact View.read_writes_of_cover _ _ _ _ _ (cover0_A_6 c _ _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _)
        · exfalso; have hN : t.val < 72 := lt_of_lt_of_eq t.isLt (show cfg0.N = 72 from N_0); omega
    · by_cases h2 : 36 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_C t ((hcond0_0 t).mpr h0) (fun h => h1 ((hcond0_1 t).mp h)) ((hcond0_2 t).mpr h2)], after0_6]
        rw [show (dats m 0 c).leavesExact 7 t = owns (c : Thread nD τ) (ms0_7 t) fullShare ((dats m 0 c).after 7 t) from by
      unfold Dat.leavesExact; rw [liveAt0_7_C t ((hcond0_0 t).mpr h0) (fun h => h1 ((hcond0_1 t).mp h)) ((hcond0_2 t).mpr h2)], after0_7]
        rw [show (dats m 0 c).leavesExact 8 t = owns (c : Thread nD τ) (ms0_8 t) fullShare ((dats m 0 c).after 8 t) from by
      unfold Dat.leavesExact; rw [liveAt0_8_C t ((hcond0_0 t).mpr h0) (fun h => h1 ((hcond0_1 t).mp h)) ((hcond0_2 t).mpr h2)], after0_8]
        rw [show (dats m 0 c).leavesExact 9 t = owns (c : Thread nD τ) (ms0_9 t) fullShare ((dats m 0 c).after 9 t) from by
      unfold Dat.leavesExact; rw [liveAt0_9_C t ((hcond0_0 t).mpr h0) (fun h => h1 ((hcond0_1 t).mp h)) ((hcond0_2 t).mpr h2)], after0_9]
        by_cases hz : t.val = 0
        · exfalso; have hN : t.val < 72 := lt_of_lt_of_eq t.isLt (show cfg0.N = 72 from N_0); omega
        · rw [PhiS_castSucc m c t, PhiS_pos m c _ _ hz]
          rw [outsAt0_C m c t h0 h1 h2]
          unfold out0_C_6 out0_C_7 out0_C_8 out0_C_9 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_C c (grid0.coords t) _ _ _ _ _ _ _ _ _ _ _ _ _ _ _ _ _ _ _ _ _ _ ((hcond0_0 t).mpr h0) (fun h => h1 ((hcond0_1 t).mp h)) ((hcond0_2 t).mpr h2) (X0_0 m c t) (X0_1 m c t) (X0_2 m c t) (iblk m c 3 t) (iblk m c 4 t) (iblk m c 5 t)).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [HS0]; · iexists _; iexact HS0
          iintro ⟨H0, H1, H2, H3, H4, H5, ⟨%e6, H6⟩, ⟨%e7, H7⟩, ⟨%e8, H8⟩, ⟨%e9, H9⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]
          · unfold owns; iexists _; isplitr
            swap; · iexact H6
            ipureintro; exact View.read_writes_of_cover _ _ _ _ _ (cover0_C_6 c _ _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_C_7 c _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _)
      · exfalso; omega
  · by_cases h1 : t.val < 36
    · by_cases h2 : 36 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h))], after0_6]
        rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1) (fun h => h2 ((hcond0_2 t).mp h))], after0_7]
        rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_1 t).mpr h1) (fun h => h2 ((hcond0_2 t).mp h))], after0_8]
        rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h))], after0_9]
        by_cases hz : t.val = 0
        · exfalso; have hN : t.val < 72 := lt_of_lt_of_eq t.isLt (show cfg0.N = 72 from N_0); omega
        · rw [PhiS_castSucc m c t, PhiS_pos m c _ _ hz]
          rw [outsAt0_B m c t h0 h1 h2]
          unfold out0_B_6 out0_B_7 out0_B_8 out0_B_9 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_B c (grid0.coords t) _ _ _ _ _ _ _ _ _ _ _ _ _ _ _ _ _ _ _ _ _ _ (fun h => h0 ((hcond0_0 t).mp h)) ((hcond0_1 t).mpr h1) (fun h => h2 ((hcond0_2 t).mp h)) (X0_0 m c t) (X0_1 m c t) (X0_2 m c t) (iblk m c 3 t) (iblk m c 4 t) (iblk m c 5 t) _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [HS0]; · iexact HS0
          iintro ⟨H0, H1, H2, H3, H4, H5, ⟨%e6, H6⟩, ⟨%e7, H7⟩, ⟨%e8, H8⟩, ⟨%e9, H9⟩, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]
          · unfold owns; iexists _; isplitr
            swap; · iexact H6
            ipureintro; exact View.read_writes_of_cover _ _ _ _ _ (cover0_B_6 c _ _ _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _)
    · by_cases h2 : 36 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_D t (fun h => h0 ((hcond0_0 t).mp h)) (fun h => h1 ((hcond0_1 t).mp h)) ((hcond0_2 t).mpr h2)], after0_6]
        rw [show (dats m 0 c).leavesExact 7 t = owns (c : Thread nD τ) (ms0_7 t) fullShare ((dats m 0 c).after 7 t) from by
      unfold Dat.leavesExact; rw [liveAt0_7_D t (fun h => h0 ((hcond0_0 t).mp h)) (fun h => h1 ((hcond0_1 t).mp h)) ((hcond0_2 t).mpr h2)], after0_7]
        rw [show (dats m 0 c).leavesExact 8 t = owns (c : Thread nD τ) (ms0_8 t) fullShare ((dats m 0 c).after 8 t) from by
      unfold Dat.leavesExact; rw [liveAt0_8_D t (fun h => h0 ((hcond0_0 t).mp h)) (fun h => h1 ((hcond0_1 t).mp h)) ((hcond0_2 t).mpr h2)], after0_8]
        rw [show (dats m 0 c).leavesExact 9 t = owns (c : Thread nD τ) (ms0_9 t) fullShare ((dats m 0 c).after 9 t) from by
      unfold Dat.leavesExact; rw [liveAt0_9_D t (fun h => h0 ((hcond0_0 t).mp h)) (fun h => h1 ((hcond0_1 t).mp h)) ((hcond0_2 t).mpr h2)], after0_9]
        by_cases hz : t.val = 0
        · exfalso; have hN : t.val < 72 := lt_of_lt_of_eq t.isLt (show cfg0.N = 72 from N_0); omega
        · rw [PhiS_castSucc m c t, PhiS_pos m c _ _ hz]
          rw [outsAt0_D m c t h0 h1 h2]
          unfold out0_D_6 out0_D_7 out0_D_8 out0_D_9 sout0_D_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_D c (grid0.coords t) _ _ _ _ _ _ _ _ _ _ _ _ _ _ _ _ _ _ _ _ _ _ (fun h => h0 ((hcond0_0 t).mp h)) (fun h => h1 ((hcond0_1 t).mp h)) ((hcond0_2 t).mpr h2) (X0_0 m c t) (X0_1 m c t) (X0_2 m c t) (iblk m c 3 t) (iblk m c 4 t) (iblk m c 5 t) _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [HS0]; · iexact HS0
          iintro ⟨H0, H1, H2, H3, H4, H5, ⟨%e6, H6⟩, ⟨%e7, H7⟩, ⟨%e8, H8⟩, ⟨%e9, H9⟩, ⟨%es0, HS0⟩⟩
          isplitl [HS0 Hg]
          · isplitl [HS0]
            · unfold owns; iexists _; isplitr
              swap; · iexact HS0
              ipureintro; exact View.read_writes_of_cover _ _ _ _ _ (scover0_D_0 c _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]
          · unfold owns; iexists _; isplitr
            swap; · iexact H6
            ipureintro; exact View.read_writes_of_cover _ _ _ _ _ (cover0_D_6 c _ _ _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_D_7 c _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_D_8 c _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_D_9 c _ _ _ _ _ _ _ _ _ _ _ _ _ _ _ _ _ _ _ _ _ _ _ _ _ _ _ _ _ _ _ _ _)
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 72 := N_0; omega)

set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Bwd

end
-- ==== Proof.BwdValue.lean ====
/-
The result arrays of the gradient kernel after its run, named: each is the array its output window
writes back, block by block, and the arguments are unchanged.
-/
module

public import proofs.«01_k».proof.Proof.BwdFrame
public import Idealize.ShloMosaic.Lib.Pipeline.Value

@[expose] public section

noncomputable section

namespace Cert.KernelIdeal.Value

open Cert.KernelIdeal Cert.KernelIdeal.Gen Cert.KernelIdeal.Bwd Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

theorem flushed6_A (c : Dev nD) (t : Fin cfg0.N) (h0 : t.val % 36 = 0) (h1 : t.val < 36) (h2 : ¬36 ≤ t.val) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (X0_0 m c t) (X0_1 m c t) (X0_2 m c t) (iblk m c 3 t) (iblk m c 4 t) (iblk m c 5 t)) := by
  simp only [flushed6, outsAt0_A m c t h0 h1 h2]

theorem flushed6_B (c : Dev nD) (t : Fin cfg0.N) (h0 : ¬t.val % 36 = 0) (h1 : t.val < 36) (h2 : ¬36 ≤ t.val) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) := by
  simp only [flushed6, outsAt0_B m c t h0 h1 h2]

theorem flushed6_C (c : Dev nD) (t : Fin cfg0.N) (h0 : t.val % 36 = 0) (h1 : ¬t.val < 36) (h2 : 36 ≤ t.val) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) ((hcond0_2 t).mpr h2) (X0_0 m c t) (X0_1 m c t) (X0_2 m c t) (iblk m c 3 t) (iblk m c 4 t) (iblk m c 5 t)) := by
  simp only [flushed6, outsAt0_C m c t h0 h1 h2]

theorem flushed6_D (c : Dev nD) (t : Fin cfg0.N) (h0 : ¬t.val % 36 = 0) (h1 : ¬t.val < 36) (h2 : 36 ≤ t.val) :
    (dats m 0 c).flushed 6 t = (cfg0.win 6).cut (grid0.coords t) (out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) := by
  simp only [flushed6, outsAt0_D m c t h0 h1 h2]

theorem idx_inj6 : ∀ t t' : Fin cfg0.N, win0_6.index t = win0_6.index t' → t = t' :=
  (by decide +kernel : ∀ t t' : Fin grid0.N, win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

theorem entry6 (c : Dev nD) (i : S2x2x2304x512.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

theorem flushed7_A (c : Dev nD) (t : Fin cfg0.N) (h0 : t.val % 36 = 0) (h1 : t.val < 36) (h2 : ¬36 ≤ t.val) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (X0_0 m c t) (X0_1 m c t) (X0_2 m c t) (iblk m c 3 t) (iblk m c 4 t) (iblk m c 5 t)) := by
  simp only [flushed7, outsAt0_A m c t h0 h1 h2]

theorem flushed7_B (c : Dev nD) (t : Fin cfg0.N) (h0 : ¬t.val % 36 = 0) (h1 : t.val < 36) (h2 : ¬36 ≤ t.val) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) := by
  simp only [flushed7, outsAt0_B m c t h0 h1 h2]

theorem flushed7_C (c : Dev nD) (t : Fin cfg0.N) (h0 : t.val % 36 = 0) (h1 : ¬t.val < 36) (h2 : 36 ≤ t.val) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) ((hcond0_2 t).mpr h2) (X0_0 m c t) (X0_1 m c t) (X0_2 m c t) (iblk m c 3 t) (iblk m c 4 t) (iblk m c 5 t)) := by
  simp only [flushed7, outsAt0_C m c t h0 h1 h2]

theorem flushed7_D (c : Dev nD) (t : Fin cfg0.N) (h0 : ¬t.val % 36 = 0) (h1 : ¬t.val < 36) (h2 : 36 ≤ t.val) :
    (dats m 0 c).flushed 7 t = (cfg0.win 7).cut (grid0.coords t) (out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) := by
  simp only [flushed7, outsAt0_D m c t h0 h1 h2]

theorem idx_inj7 : ∀ t t' : Fin cfg0.N, win0_7.index t = win0_7.index t' → t = t' :=
  (by decide +kernel : ∀ t t' : Fin grid0.N, win0_7.index t = win0_7.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

theorem entry7 (c : Dev nD) (i : S2x2x2304x512.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

theorem flushed8 (c : Dev nD) (t : Fin cfg0.N) :
    (dats m 0 c).flushed 8 t = (cfg0.win 8).cut (grid0.coords t) ((outsAt0 m c t.val t.isLt).2.2.1) := by
  show (cfg0.win 8).cut (grid0.coords t) ((dats m 0 c).after 8 t) = _
  rw [after0_8]

theorem flushed8_A (c : Dev nD) (t : Fin cfg0.N) (h0 : t.val % 36 = 0) (h1 : t.val < 36) (h2 : ¬36 ≤ t.val) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (X0_0 m c t) (X0_1 m c t) (X0_2 m c t) (iblk m c 3 t) (iblk m c 4 t) (iblk m c 5 t)) := by
  simp only [flushed8, outsAt0_A m c t h0 h1 h2]

theorem flushed8_B (c : Dev nD) (t : Fin cfg0.N) (h0 : ¬t.val % 36 = 0) (h1 : t.val < 36) (h2 : ¬36 ≤ t.val) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) := by
  simp only [flushed8, outsAt0_B m c t h0 h1 h2]

theorem flushed8_C (c : Dev nD) (t : Fin cfg0.N) (h0 : t.val % 36 = 0) (h1 : ¬t.val < 36) (h2 : 36 ≤ t.val) :
    (dats m 0 c).flushed 8 t = (cfg0.win 8).cut (grid0.coords t) (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) ((hcond0_2 t).mpr h2) (X0_0 m c t) (X0_1 m c t) (X0_2 m c t) (iblk m c 3 t) (iblk m c 4 t) (iblk m c 5 t)) := by
  simp only [flushed8, outsAt0_C m c t h0 h1 h2]

theorem flushed8_D (c : Dev nD) (t : Fin cfg0.N) (h0 : ¬t.val % 36 = 0) (h1 : ¬t.val < 36) (h2 : 36 ≤ t.val) :
    (dats m 0 c).flushed 8 t = (cfg0.win 8).cut (grid0.coords t) (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) := by
  simp only [flushed8, outsAt0_D m c t h0 h1 h2]

theorem idx_inj8 : ∀ t t' : Fin cfg0.N, win0_8.index t = win0_8.index t' → t = t' :=
  (by decide +kernel : ∀ t t' : Fin grid0.N, win0_8.index t = win0_8.index t' → t = t')

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

theorem entry8 (c : Dev nD) (i : S2x2x2304x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

theorem flushed9 (c : Dev nD) (t : Fin cfg0.N) :
    (dats m 0 c).flushed 9 t = (cfg0.win 9).cut (grid0.coords t) ((outsAt0 m c t.val t.isLt).2.2.2.1) := by
  show (cfg0.win 9).cut (grid0.coords t) ((dats m 0 c).after 9 t) = _
  rw [after0_9]

theorem flushed9_A (c : Dev nD) (t : Fin cfg0.N) (h0 : t.val % 36 = 0) (h1 : t.val < 36) (h2 : ¬36 ≤ t.val) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (X0_0 m c t) (X0_1 m c t) (X0_2 m c t) (iblk m c 3 t) (iblk m c 4 t) (iblk m c 5 t)) := by
  simp only [flushed9, outsAt0_A m c t h0 h1 h2]

theorem flushed9_B (c : Dev nD) (t : Fin cfg0.N) (h0 : ¬t.val % 36 = 0) (h1 : t.val < 36) (h2 : ¬36 ≤ t.val) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) := by
  simp only [flushed9, outsAt0_B m c t h0 h1 h2]

theorem flushed9_C (c : Dev nD) (t : Fin cfg0.N) (h0 : t.val % 36 = 0) (h1 : ¬t.val < 36) (h2 : 36 ≤ t.val) :
    (dats m 0 c).flushed 9 t = (cfg0.win 9).cut (grid0.coords t) (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) ((hcond0_2 t).mpr h2) (X0_0 m c t) (X0_1 m c t) (X0_2 m c t) (iblk m c 3 t) (iblk m c 4 t) (iblk m c 5 t)) := by
  simp only [flushed9, outsAt0_C m c t h0 h1 h2]

theorem flushed9_D (c : Dev nD) (t : Fin cfg0.N) (h0 : ¬t.val % 36 = 0) (h1 : ¬t.val < 36) (h2 : 36 ≤ t.val) :
    (dats m 0 c).flushed 9 t = (cfg0.win 9).cut (grid0.coords t) (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (X0_0 m c t) (X0_1 m c t) (X0_2 m c t) (iblk m c 3 t) (iblk m c 4 t) (iblk m c 5 t) (outsAt0 m c (t.val - 1) (Nat.lt_of_le_of_lt (Nat.sub_le _ _) t.isLt)).2.2.2.2) := by
  simp only [flushed9, outsAt0_D m c t h0 h1 h2]

theorem idx_inj9 : ∀ t t' : Fin cfg0.N, win0_9.index t = win0_9.index t' → t = t' :=
  (by decide +kernel : ∀ t t' : Fin grid0.N, win0_9.index t = win0_9.index t' → t = t')

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

theorem entry9 (c : Dev nD) (i : S2x2304x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post6 m r h c,
      post7 m r h c,
      post8 m r h c,
      post9 m r h c,
      kept_main_arg0 m r h c,
      kept_main_arg1 m r h c,
      kept_main_arg2 m r h c,
      kept_main_arg3 m r h c⟩)
    (run_main m ρ)

def scAt0_0 (c : Dev nD) (n : ℕ) (hb : n < cfg0.N) (acc : Vec F S2x4x256x128 .f32) : Vec F S2x4x256x128 .f32 :=
  if h0 : n % 36 = 0 then
    if h1 : n < 36 then
      if h2 : 36 ≤ n then
        acc
      else
        sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (X0_0 m c (⟨n, hb⟩ : Fin cfg0.N)) (X0_1 m c (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N))
    else
      if h2 : 36 ≤ n then
        sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) ((hcond0_2 (⟨n, hb⟩ : Fin cfg0.N)).mpr h2) (X0_0 m c (⟨n, hb⟩ : Fin cfg0.N)) (X0_1 m c (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N))
      else
        acc
  else
    if h1 : n < 36 then
      if h2 : 36 ≤ n then
        acc
      else
        sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (X0_0 m c (⟨n, hb⟩ : Fin cfg0.N)) (X0_1 m c (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc
    else
      if h2 : 36 ≤ n then
        sout0_D_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (X0_0 m c (⟨n, hb⟩ : Fin cfg0.N)) (X0_1 m c (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc
      else
        acc

theorem soutsAt0_0_eq (c : Dev nD) (t : Fin cfg0.N) :
    (outsAt0 m c t.val t.isLt).2.2.2.2 = Pipeline.accAt (fun n h => scAt0_0 m c n h (VS0_0.read (Elt F) VS0_0.junk)) (scAt0_0 m c) (36 * (t.val / 36)) (t.val % 36)
      (by have h1 := t.isLt; have h2 := Nat.div_add_mod t.val 36; omega) :=
  Pipeline.eq_accAt_of_mod (fun n h => (outsAt0 m c n h).2.2.2.2) 36 (fun n h => scAt0_0 m c n h (VS0_0.read (Elt F) VS0_0.junk)) (scAt0_0 m c)
    (fun n h hn => by
      have hN := lt_of_lt_of_eq h (show cfg0.N = 72 from N_0)
      by_cases h0 : n % 36 = 0 <;> by_cases h1 : n < 36 <;> by_cases h2 : 36 ≤ n
      all_goals first | (exfalso; omega) | (rw [outsAt0_A m c ⟨n, h⟩ h0 h1 h2]; dsimp only; unfold scAt0_0; rw [dif_pos h0, dif_pos h1, dif_neg h2] <;> try rfl) | (rw [outsAt0_B m c ⟨n, h⟩ h0 h1 h2]; dsimp only; unfold scAt0_0; rw [dif_neg h0, dif_pos h1, dif_neg h2] <;> try rfl) | (rw [outsAt0_C m c ⟨n, h⟩ h0 h1 h2]; dsimp only; unfold scAt0_0; rw [dif_pos h0, dif_neg h1, dif_pos h2] <;> try rfl) | (rw [outsAt0_D m c ⟨n, h⟩ h0 h1 h2]; dsimp only; unfold scAt0_0; rw [dif_neg h0, dif_neg h1, dif_pos h2] <;> try rfl))
    (fun n h hn => by
      have hN := lt_of_lt_of_eq h (show cfg0.N = 72 from N_0)
      by_cases h0 : (n + 1) % 36 = 0 <;> by_cases h1 : (n + 1) < 36 <;> by_cases h2 : 36 ≤ (n + 1)
      all_goals first | (exfalso; omega) | (rw [outsAt0_A m c ⟨n + 1, h⟩ h0 h1 h2]; dsimp only; unfold scAt0_0; rw [dif_pos h0, dif_pos h1, dif_neg h2] <;> try rfl) | (rw [outsAt0_B m c ⟨n + 1, h⟩ h0 h1 h2]; dsimp only; unfold scAt0_0; rw [dif_neg h0, dif_pos h1, dif_neg h2] <;> try rfl) | (rw [outsAt0_C m c ⟨n + 1, h⟩ h0 h1 h2]; dsimp only; unfold scAt0_0; rw [dif_pos h0, dif_neg h1, dif_pos h2] <;> try rfl) | (rw [outsAt0_D m c ⟨n + 1, h⟩ h0 h1 h2]; dsimp only; unfold scAt0_0; rw [dif_neg h0, dif_neg h1, dif_pos h2] <;> try rfl))
    (by decide) t.val t.isLt _

end Cert.KernelIdeal.Value

end
-- ==== Proof.Stores.lean ====
/-
  Stores over earlier stores: where the later ones cover, what the earlier ones left is not read.
-/
module

public import Idealize.ShloMosaic.Lib.Pipeline.ValueKit
public import Idealize.ShloMosaic.Lib.Pipeline.ReadBack
public import Idealize.ShloMosaic.Lib.Pipeline.FrameBody

@[expose] public section

noncomputable section

open Idealize.ShloMosaic

namespace Cert.Gla

variable {Val : EltTy → Type} {S : Shape} {e : EltTy}

theorem canon_append_covered [∀ e, Nonempty (Val e)] (L' : List (View.Piece Val S e)) : ∀ (L : List (View.Piece Val S e)) (y : S.Idx),
    (∃ p ∈ L, y ∈ p.1.set) → View.canon (L ++ L') y = View.canon L y
  | [], _, hc => by obtain ⟨p, hp, _⟩ := hc; exact absurd hp List.not_mem_nil
  | p :: L, y, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_covered L' L y ?_
      obtain ⟨q, hq, hyq⟩ := hc
      rcases List.mem_cons.mp hq with rfl | hq'
      · exact absurd hyq hm
      · exact ⟨q, hq', hyq⟩

end Cert.Gla
-- ==== Proof.Rows.lean ====
/-
  Running sums down the rows of a chunk: the six roll-and-add steps that a kernel takes over the 64 rows of a
  [64, 512] array, as one operation, and their value over the extended reals — the sum of the rows up to (or from) a row.
-/
module

public import Idealize.ShloMosaic.Lib.Pointwise
public import Idealize.ShloMosaic.Lib.KernelVsHost

@[expose] public section

set_option maxRecDepth 16384

noncomputable section

open Idealize.ShloMosaic Idealize.ShloMosaic.TcCoe

namespace Cert.Gla

variable {F : FTy → Type} [FloatOps F]

/-- The rows of a chunk: 64 positions, 512 = 4 · 128 lanes. -/
abbrev Rows : Shape := ⟨2, ![64, 512]⟩

/-- One roll-and-add step towards the sum of the rows up to a row. -/
def prefixStep (n : BitVec 32) (x : FVec F Rows .f32) : FVec F Rows .f32 :=
  addf x (select (cmpi .sge (iota .tc Rows 32 [0] (by decide)) (broadcast Rows n))
    (dynamicRotate 0 n none x (by decide)) (broadcast Rows (Scalar.ofBits .f32 0x00000000#32)))

/-- One roll-and-add step towards the sum of the rows from a row on. -/
def suffixStep (n : BitVec 32) (x : FVec F Rows .f32) : FVec F Rows .f32 :=
  addf x (select (cmpi .slt (iota .tc Rows 32 [0] (by decide)) (broadcast Rows n))
    (dynamicRotate 0 n none x (by decide)) (broadcast Rows (Scalar.ofBits .f32 0x00000000#32)))

/-- The six steps: every row ends with the sum of the rows up to it. -/
def prefixRows (x : FVec F Rows .f32) : FVec F Rows .f32 :=
  prefixStep 32#32 (prefixStep 16#32 (prefixStep 8#32 (prefixStep 4#32 (prefixStep 2#32 (prefixStep 1#32 x)))))

/-- The six steps the other way: every row ends with the sum of the rows from it on. -/
def suffixRows (x : FVec F Rows .f32) : FVec F Rows .f32 :=
  suffixStep 32#32 (suffixStep 48#32 (suffixStep 56#32 (suffixStep 60#32 (suffixStep 62#32 (suffixStep 63#32 x)))))

/-! ## The values -/

theorem sge_row : ∀ n r : Fin 64, IntOp.cmpi .sge (BitVec.ofNat 32 r.val) (BitVec.ofNat 32 n.val) = if n.val ≤ r.val then 1#1 else 0#1 := by
  decide +kernel

theorem slt_row : ∀ n r : Fin 64, IntOp.cmpi .slt (BitVec.ofNat 32 r.val) (BitVec.ofNat 32 n.val) = if r.val < n.val then 1#1 else 0#1 := by
  decide +kernel

/-- Column `c` as a function of a row number, 0 past the last row. -/
def col (x : FVec Ideal Rows .f32) (c : Fin 512) (r : ℕ) : EReal := if h : r < 64 then x (ix2 ⟨r, h⟩ c) else 0

theorem col_of_lt (x : FVec Ideal Rows .f32) (c : Fin 512) (r : ℕ) (h : r < 64) : col x c r = x (ix2 ⟨r, h⟩ c) := dif_pos h

theorem prefixStep_apply (n : Fin 64) (x : FVec Ideal Rows .f32) (r : ℕ) (c : Fin 512) (hr : r < 64) :
    col (prefixStep (BitVec.ofNat 32 n.val) x) c r = col x c r + if n.val ≤ r then col x c (r - n.val) else 0 := by
  have hx : prefixStep (BitVec.ofNat 32 n.val) x (ix2 ⟨r, hr⟩ c)
      = x (ix2 ⟨r, hr⟩ c) + Scalar.select (IntOp.cmpi .sge (BitVec.ofNat 32 r) (BitVec.ofNat 32 n.val))
          (x (ix2 ⟨(r + 64 - (BitVec.ofNat 32 n.val).toNat % 64) % 64, Nat.mod_lt _ (by decide)⟩ c)) 0 := by
    pointwise [prefixStep]
  rw [col_of_lt _ _ _ hr, hx, col_of_lt _ _ _ hr, sge_row n ⟨r, hr⟩]
  by_cases h : n.val ≤ r
  · rw [if_pos h, if_pos h, col_of_lt _ _ _ (by omega)]
    refine congrArg _ (congrArg x (congrArg (fun a => ix2 a c) (Fin.ext ?_)))
    have := n.isLt
    simp only [BitVec.toNat_ofNat]
    omega
  · rw [if_neg h, if_neg h]; rfl

theorem suffixStep_apply (n s : Fin 64) (hs : n.val + s.val = 64) (x : FVec Ideal Rows .f32) (r : ℕ) (c : Fin 512) (hr : r < 64) :
    col (suffixStep (BitVec.ofNat 32 n.val) x) c r = col x c r + col x c (r + s.val) := by
  have hx : suffixStep (BitVec.ofNat 32 n.val) x (ix2 ⟨r, hr⟩ c)
      = x (ix2 ⟨r, hr⟩ c) + Scalar.select (IntOp.cmpi .slt (BitVec.ofNat 32 r) (BitVec.ofNat 32 n.val))
          (x (ix2 ⟨(r + 64 - (BitVec.ofNat 32 n.val).toNat % 64) % 64, Nat.mod_lt _ (by decide)⟩ c)) 0 := by
    pointwise [suffixStep]
  rw [col_of_lt _ _ _ hr, hx, col_of_lt _ _ _ hr, slt_row n ⟨r, hr⟩]
  by_cases h : r < n.val
  · rw [if_pos h, col_of_lt _ _ _ (by omega)]
    refine congrArg _ (congrArg x (congrArg (fun a => ix2 a c) (Fin.ext ?_)))
    have := n.isLt
    simp only [BitVec.toNat_ofNat]
    omega
  · rw [if_neg h, show col x c (r + s.val) = 0 from dif_neg (by omega)]; rfl

/-- Doubling: the last `n` terms up to `r`, and the `n` terms before those, are the last `2n`. -/
theorem last_add (f : ℕ → EReal) (n r : ℕ) :
    (∑ i ∈ Finset.range n, if i ≤ r then f (r - i) else 0)
      + (if n ≤ r then ∑ i ∈ Finset.range n, if i ≤ r - n then f (r - n - i) else 0 else 0)
      = ∑ i ∈ Finset.range (n + n), if i ≤ r then f (r - i) else 0 := by
  rw [Finset.sum_range_add]
  congr 1
  by_cases h : n ≤ r
  · rw [if_pos h]
    refine Finset.sum_congr rfl fun i _ => ?_
    by_cases h' : i ≤ r - n
    · rw [if_pos h', if_pos (by omega), Nat.sub_sub]
    · rw [if_neg h', if_neg (by omega)]
  · rw [if_neg h, Finset.sum_eq_zero]
    intro i _
    rw [if_neg (by omega)]

/-- A column holds, at every row, the sum of the last `n` entries of `f` up to that row. -/
def Last (x : FVec Ideal Rows .f32) (c : Fin 512) (f : ℕ → EReal) (n : ℕ) : Prop :=
  ∀ r, r < 64 → col x c r = ∑ i ∈ Finset.range n, if i ≤ r then f (r - i) else 0

theorem Last.step {x : FVec Ideal Rows .f32} {c : Fin 512} {f : ℕ → EReal} {n : ℕ} (h : Last x c f n) (hn : n < 64) :
    Last (prefixStep (BitVec.ofNat 32 n) x) c f (n + n) := fun r hr => by
  rw [prefixStep_apply ⟨n, hn⟩ x r c hr, h r hr, ← last_add]
  congr 1
  by_cases h' : n ≤ r
  · rw [if_pos h', if_pos h', h _ (by omega)]
  · rw [if_neg h', if_neg h']

theorem prefixRows_last (x : FVec Ideal Rows .f32) (c : Fin 512) : Last (prefixRows x) c (col x c) 64 := by
  have h1 : Last x c (col x c) 1 := fun r _ => by simp
  exact (((((h1.step (by decide)).step (by decide)).step (by decide)).step (by decide)).step (by decide)).step (by decide)

/-- THE SUM UP TO A ROW: row `r` of the six steps is the sum of the rows up to `r`. -/
theorem prefixRows_apply (x : FVec Ideal Rows .f32) (r : Fin 64) (c : Fin 512) :
    prefixRows x (ix2 r c) = ∑ k : Fin 64, if k ≤ r then x (ix2 k c) else 0 := by
  have h := prefixRows_last x c r.val r.isLt
  rw [col_of_lt _ _ _ r.isLt] at h
  rw [h, ← Finset.sum_filter, ← Finset.sum_filter]
  refine Finset.sum_nbij' (fun i => ⟨(r.val - i) % 64, Nat.mod_lt _ (by decide)⟩) (fun k => r.val - k.val) ?_ ?_ ?_ ?_ ?_
  all_goals simp only [Finset.mem_filter, Finset.mem_range, Finset.mem_univ, true_and]
  · intro i hi; exact Fin.le_def.mpr (by show (r.val - i) % 64 ≤ r.val; omega)
  · intro k hk; have := Fin.le_def.mp hk; omega
  · intro i hi; show r.val - (r.val - i) % 64 = i; omega
  · intro k hk; have := Fin.le_def.mp hk; exact Fin.ext (by show (r.val - (r.val - k.val)) % 64 = k.val; omega)
  · intro i hi
    rw [col_of_lt _ _ _ (by omega)]
    exact congrArg x (congrArg (fun a => ix2 a c) (Fin.ext (by show r.val - i = (r.val - i) % 64; omega)))

/-- A column holds, at every row, the sum of the first `n` entries of `f` from that row on. -/
def First (x : FVec Ideal Rows .f32) (c : Fin 512) (f : ℕ → EReal) (n : ℕ) : Prop :=
  ∀ r, r < 64 → col x c r = ∑ i ∈ Finset.range n, f (r + i)

theorem First.step {x : FVec Ideal Rows .f32} {c : Fin 512} {f : ℕ → EReal} {n : ℕ} (h : First x c f n) (m : ℕ)
    (hf : ∀ r, 64 ≤ r → f r = 0) (hn : n < 64) (hm : m < 64) (hmn : m + n = 64) :
    First (suffixStep (BitVec.ofNat 32 m) x) c f (n + n) := fun r hr => by
  rw [suffixStep_apply ⟨m, hm⟩ ⟨n, hn⟩ hmn x r c hr, h r hr, Finset.sum_range_add]
  congr 1
  by_cases h' : r + n < 64
  · rw [h _ h']
    exact Finset.sum_congr rfl fun i _ => by rw [Nat.add_assoc]
  · rw [show col x c (r + n) = 0 from dif_neg h', Finset.sum_eq_zero]
    intro i _
    exact hf _ (by omega)

theorem suffixRows_first (x : FVec Ideal Rows .f32) (c : Fin 512) : First (suffixRows x) c (col x c) 64 := by
  have h1 : First x c (col x c) 1 := fun r _ => by simp
  have hf : ∀ r, 64 ≤ r → col x c r = 0 := fun r hr => dif_neg (by omega)
  exact (((((h1.step 63 hf (by decide) (by decide) rfl).step 62 hf (by decide) (by decide) rfl).step 60 hf (by decide) (by decide) rfl).step
    56 hf (by decide) (by decide) rfl).step 48 hf (by decide) (by decide) rfl).step 32 hf (by decide) (by decide) rfl

/-- THE SUM FROM A ROW ON: row `r` of the six steps is the sum of the rows from `r` on. -/
theorem suffixRows_apply (x : FVec Ideal Rows .f32) (r : Fin 64) (c : Fin 512) :
    suffixRows x (ix2 r c) = ∑ k : Fin 64, if r ≤ k then x (ix2 k c) else 0 := by
  have h := suffixRows_first x c r.val r.isLt
  rw [col_of_lt _ _ _ r.isLt] at h
  have h0 : (∑ i ∈ Finset.range 64, col x c (r.val + i)) = ∑ i ∈ (Finset.range 64).filter (fun i => r.val + i < 64), col x c (r.val + i) := by
    rw [Finset.sum_filter]
    refine Finset.sum_congr rfl fun i _ => ?_
    by_cases h' : r.val + i < 64
    · rw [if_pos h']
    · rw [if_neg h']; exact dif_neg h'
  rw [h, h0, ← Finset.sum_filter]
  refine Finset.sum_nbij' (fun i => ⟨(r.val + i) % 64, Nat.mod_lt _ (by decide)⟩) (fun k => k.val - r.val) ?_ ?_ ?_ ?_ ?_
  all_goals simp only [Finset.mem_filter, Finset.mem_range, Finset.mem_univ, true_and]
  · intro i hi; exact Fin.le_def.mpr (by show r.val ≤ (r.val + i) % 64; omega)
  · intro k hk; have := Fin.le_def.mp hk; omega
  · intro i hi; show (r.val + i) % 64 - r.val = i; omega
  · intro k hk; have := Fin.le_def.mp hk; exact Fin.ext (by show (r.val + (k.val - r.val)) % 64 = k.val; omega)
  · intro i hi
    rw [col_of_lt _ _ _ hi.2]
    exact congrArg x (congrArg (fun a => ix2 a c) (Fin.ext (by show r.val + i = (r.val + i) % 64; omega)))

end Cert.Gla

end
-- ==== Proof.Head.lean ====
/-
  One chunk of gated linear attention on one head as the kernels write it: vector expressions over any float.
  The heads lie beside one another in the lanes: head `h` has the key lanes from `128 · h`.
-/
module

public import Idealize.ShloMosaic.Lib.Pointwise
public import Idealize.ShloMosaic.Lib.KernelVsHost
public import proofs.«01_k».proof.Proof.Rows

@[expose] public section

set_option maxRecDepth 16384

noncomputable section

open Idealize.ShloMosaic Idealize.ShloMosaic.TcCoe

namespace Cert.Gla

variable {F : FTy → Type} [FloatOps F]

abbrev Row512 : Shape := ⟨2, ![1, 512]⟩
abbrev Row128 : Shape := ⟨2, ![1, 128]⟩
abbrev KeyRows : Shape := ⟨2, ![64, 128]⟩
abbrev ValRows : Shape := ⟨2, ![64, 256]⟩
abbrev Square : Shape := ⟨2, ![64, 64]⟩
abbrev StateT : Shape := ⟨2, ![256, 128]⟩
abbrev Rows1 : Shape := ⟨3, ![1, 64, 512]⟩
abbrev ValRows1 : Shape := ⟨3, ![1, 64, 256]⟩
abbrev StateT1 : Shape := ⟨4, ![1, 1, 256, 128]⟩

/-- The products over the last axis of both sides, over the last and the first, and over the first of both. -/
abbrev nt (m k n : ℕ) (h : DotDims.WF ⟨2, ![m, k]⟩ ⟨2, ![n, k]⟩ ⟨2, ![m, n]⟩ [1] [1] [0] [0] [] []) : DotDims ⟨2, ![m, k]⟩ ⟨2, ![n, k]⟩ ⟨2, ![m, n]⟩ :=
  ⟨[1], [1], [0], [0], [], [], h⟩
abbrev nn (m k n : ℕ) (h : DotDims.WF ⟨2, ![m, k]⟩ ⟨2, ![k, n]⟩ ⟨2, ![m, n]⟩ [1] [0] [0] [1] [] []) : DotDims ⟨2, ![m, k]⟩ ⟨2, ![k, n]⟩ ⟨2, ![m, n]⟩ :=
  ⟨[1], [0], [0], [1], [], [], h⟩
abbrev tn (m k n : ℕ) (h : DotDims.WF ⟨2, ![k, m]⟩ ⟨2, ![k, n]⟩ ⟨2, ![m, n]⟩ [0] [0] [1] [1] [] []) : DotDims ⟨2, ![k, m]⟩ ⟨2, ![k, n]⟩ ⟨2, ![m, n]⟩ :=
  ⟨[0], [0], [1], [1], [], [], h⟩

/-- The zeros a product starts from. -/
abbrev zeros (s : Shape) : FVec F s .f32 := constant s .f32 0x00000000#32

/-! ## All heads at once: decays, queries, keys -/

/-- The gates of a chunk. -/
def gates (g : FVec F Rows1 .f32) : FVec F Rows .f32 := shapeCast Rows g (by decide)

/-- The sum of the gates up to every position in the order of the scan. -/
def sums : Bool → FVec F Rows .f32 → FVec F Rows .f32
  | false, g => prefixRows g
  | true, g => suffixRows g

/-- The sum of all the gates of the chunk. -/
def total (g : FVec F Rows .f32) : FVec F Row512 .f32 :=
  shapeCast Row512 (multiReduction .add [0] ⟨1, ![512]⟩ g 0x00000000#32 (by decide) (.inl rfl) rfl) (by decide)

def grow (b : FVec F Rows .f32) : FVec F Rows .f32 := exp b
def decay (b : FVec F Rows .f32) : FVec F Rows .f32 := exp (subf (broadcast Rows (Scalar.ofBits .f32 0x00000000#32)) b)
def toEnd (bl : FVec F Row512 .f32) (b : FVec F Rows .f32) : FVec F Rows .f32 := exp (subf (broadcastTo Rows bl (by decide)) b)
def endRow (bl : FVec F Row512 .f32) : FVec F Row512 .f32 := exp bl

/-- The queries, scaled, with a weight. -/
def queries (q : FVec F Rows1 .bf16) (w : FVec F Rows .f32) : FVec F Rows .f32 :=
  mulf (mulf (extf .f32 (shapeCast Rows q (by decide)) (by decide)) (broadcast Rows (Scalar.ofBits .f32 0x3DB504F3#32))) w

/-- The keys with a weight. -/
def keys (k : FVec F Rows1 .bf16) (w : FVec F Rows .f32) : FVec F Rows .f32 :=
  mulf (extf .f32 (shapeCast Rows k (by decide)) (by decide)) w

/-- The same, rounded. -/
def rounded {s : Shape} (x : FVec F s .f32) : FVec F s .bf16 := truncf .bf16 x (by decide)

/-! ## One head -/

/-- The lanes of head `h`. -/
def lanes {φ : FTy} (h : ℕ) (x : FVec F Rows φ) (hs : Rows.Slices ![0, 128 * h] KeyRows) : FVec F KeyRows φ :=
  extractStridedSlice KeyRows ![0, 128 * h] x hs
def lanesRow (h : ℕ) (x : FVec F Row512 .f32) (hs : Row512.Slices ![0, 128 * h] Row128) : FVec F Row128 .f32 :=
  extractStridedSlice Row128 ![0, 128 * h] x hs

def values {φ : FTy} (v : FVec F ValRows1 φ) : FVec F ValRows φ := shapeCast ValRows v (by decide)
def state (s : FVec F StateT1 .f32) : FVec F StateT .f32 := shapeCast StateT s (by decide)

/-- Which positions a position reads. -/
def causal : Bool → IVec Square 1
  | false => cmpi .sle (iota .tc Square 32 [1] (by decide)) (iota .tc Square 32 [0] (by decide))
  | true => cmpi .sge (iota .tc Square 32 [1] (by decide)) (iota .tc Square 32 [0] (by decide))

/-- A square of products, at the positions read. -/
def masked (m : IVec Square 1) (x : FVec F Square .f32) : FVec F Square .bf16 :=
  rounded (select m x (broadcast Square (Scalar.ofBits .f32 0x00000000#32)))

/-- The attention inside the chunk. -/
def attend (m : IVec Square 1) (qs ks : FVec F KeyRows .bf16) : FVec F Square .bf16 :=
  masked m (matmul (nt 64 128 64 (by decide)) none qs ks (zeros _))

/-- The output. -/
def headOut (m : IVec Square 1) (qs ks : FVec F KeyRows .bf16) (v : FVec F ValRows .bf16) (s : FVec F StateT .f32) : FVec F ValRows1 .f32 :=
  shapeCast ValRows1 (addf (matmul (nt 64 128 256 (by decide)) none qs (rounded s) (zeros _))
    (matmul (nn 64 64 256 (by decide)) none (attend m qs ks) v (zeros _))) (by decide)

/-- The state after the chunk. -/
def headNext (el : FVec F Row128 .f32) (kd : FVec F KeyRows .bf16) (v : FVec F ValRows .bf16) (s : FVec F StateT .f32) : FVec F StateT1 .f32 :=
  shapeCast StateT1 (addf (mulf (broadcastTo StateT el (by decide)) s)
    (matmul (tn 256 64 128 (by decide)) none v kd (zeros _))) (by decide)

end Cert.Gla
-- ==== Proof.Spec.lean ====
/-
  One chunk of gated linear attention on one head, over the extended reals: 64 positions, 128 key lanes, 256 value lanes.
  `le back j r` says that position `j` is at or before `r` in the order of the scan; `back` says whether
  the scan goes down the positions. The value of a chunk read backwards is that of the reversed chunk read forwards.
-/
module

public import Idealize.ShloMosaic.Lib.Pointwise
public import Idealize.ShloMosaic.Lib.KernelVsHost

@[expose] public section

set_option maxRecDepth 16384

noncomputable section

open Idealize.ShloMosaic Idealize.ShloMosaic.TcCoe

namespace Cert.Gla

/-- The positions of a chunk by key lanes. -/
abbrev Keys := Fin 64 → Fin 128 → EReal
/-- The positions of a chunk by value lanes. -/
abbrev Vals := Fin 64 → Fin 256 → EReal
/-- The carried state. -/
abbrev State := Fin 128 → Fin 256 → EReal

/-- `j` is at or before `r` in the order of the scan. -/
def le (back : Bool) (j r : Fin 64) : Prop := bif back then r ≤ j else j ≤ r

instance (back : Bool) (j r : Fin 64) : Decidable (le back j r) := by
  cases back
  · exact inferInstanceAs (Decidable (j ≤ r))
  · exact inferInstanceAs (Decidable (r ≤ j))

/-- The row at place `r` of the scan. -/
def row (back : Bool) (r : Fin 64) : Fin 64 := bif back then r.rev else r

variable (back : Bool) (q k g : Keys) (v o : Vals) (s ds : State)

/-- The sum of the gates up to a position. -/
def cum (r : Fin 64) (c : Fin 128) : EReal := ∑ j, if le back j r then g j c else 0

/-- The sum of the gates of the chunk. -/
def tot (c : Fin 128) : EReal := ∑ j, g j c

/-- Queries, keys and keys against the end of the chunk, with their decays. -/
def qs (r : Fin 64) (c : Fin 128) : EReal := q r c * Ideal.exp (cum back g r c)
def ks (r : Fin 64) (c : Fin 128) : EReal := k r c * Ideal.exp (0 - cum back g r c)
def kd (r : Fin 64) (c : Fin 128) : EReal := k r c * Ideal.exp (tot g c - cum back g r c)

/-- The attention inside the chunk. -/
def att (r j : Fin 64) : EReal := if le back j r then ∑ c, qs back q g r c * ks back k g j c else 0

/-- The output: what the state gives and what the chunk gives. -/
def out (r : Fin 64) (x : Fin 256) : EReal := (∑ c, qs back q g r c * s c x) + ∑ j, att back q k g r j * v j x

/-- The state after the chunk. -/
def next (c : Fin 128) (x : Fin 256) : EReal := Ideal.exp (tot g c) * s c x + ∑ j, kd back k g j c * v j x

/-! ## The gradients, of the output gradient `o` and the gradient `ds` of the state after the chunk -/

def datt (r j : Fin 64) : EReal := if le back j r then ∑ x, o r x * v j x else 0
def dqs (r : Fin 64) (c : Fin 128) : EReal := (∑ x, o r x * s c x) + ∑ j, datt back v o r j * ks back k g j c
def dks (j : Fin 64) (c : Fin 128) : EReal := ∑ r, datt back v o r j * qs back q g r c
def dkd (j : Fin 64) (c : Fin 128) : EReal := ∑ x, v j x * ds c x
def dq (r : Fin 64) (c : Fin 128) : EReal := dqs back k g v o s r c * Ideal.exp (cum back g r c)
def dk (r : Fin 64) (c : Fin 128) : EReal :=
  dks back q g v o r c * Ideal.exp (0 - cum back g r c) + dkd v ds r c * Ideal.exp (tot g c - cum back g r c)
def dv (j : Fin 64) (x : Fin 256) : EReal := (∑ r, att back q k g r j * o r x) + ∑ c, kd back k g j c * ds c x
def dprev (c : Fin 128) (x : Fin 256) : EReal := (∑ r, o r x * qs back q g r c) + Ideal.exp (tot g c) * ds c x

/-- What a position's sum of gates is given by the position itself. -/
def db (j : Fin 64) (c : Fin 128) : EReal :=
  dqs back k g v o s j c * qs back q g j c - dks back q g v o j c * ks back k g j c - dkd v ds j c * kd back k g j c
/-- What the sum of all the gates is given. -/
def dbl (c : Fin 128) : EReal := (∑ j, dkd v ds j c * kd back k g j c) + (∑ x, s c x * ds c x) * Ideal.exp (tot g c)
/-- The gradient of the gates: a gate is in the sums of the positions at or after it. -/
def dla (r : Fin 64) (c : Fin 128) : EReal := cum (!back) (db back q k g v o s ds) r c + dbl back k g v s ds c

end Cert.Gla
-- ==== Proof.HeadValue.lean ====
/-
  The kernels' expressions for one chunk on one head, over the extended reals: the functions of `Spec`.
-/
module

public import proofs.«01_k».proof.Proof.Head
public import proofs.«01_k».proof.Proof.Spec

@[expose] public section

set_option maxRecDepth 16384

noncomputable section

open Idealize.ShloMosaic Idealize.ShloMosaic.TcCoe

namespace Cert.Gla

/-- Lane `c` of head `h`, among the key lanes and among the value lanes. -/
def lane (h : Fin 4) (c : Fin 128) : Fin 512 := ⟨128 * h.val + c.val, by omega⟩
def vlane (h : Fin 4) (x : Fin 256) : Fin 1024 := ⟨256 * h.val + x.val, by omega⟩

/-- The scale of the queries. -/
abbrev scale : EReal := Ideal.ofBits .f32 0x3DB504F3#32

theorem causal_apply (back : Bool) (r j : Fin 64) : causal back (ix2 r j) = if le back j r then 1#1 else 0#1 := by
  have hs : ∀ r j : Fin 64, IntOp.cmpi .sle (BitVec.ofNat 32 j.val) (BitVec.ofNat 32 r.val) = if j ≤ r then 1#1 else 0#1 := by decide +kernel
  have hg : ∀ r j : Fin 64, IntOp.cmpi .sge (BitVec.ofNat 32 j.val) (BitVec.ofNat 32 r.val) = if r ≤ j then 1#1 else 0#1 := by decide +kernel
  cases back
  · pointwise [causal]
    exact hs r j
  · pointwise [causal]
    exact hg r j

section
variable (back : Bool) (h : Fin 4) {ql kl : FVec Ideal Rows1 .bf16} {gl : FVec Ideal Rows1 .f32} {Q K G : Keys}

theorem sums_apply (hG : ∀ r c, gl (ix3 0 r (lane h c)) = G r c) (r : Fin 64) (c : Fin 128) :
    sums back (gates gl) (ix2 r (lane h c)) = cum back G r c := by
  have hg : ∀ j, gates gl (ix2 j (lane h c)) = G j c := fun j => by rw [← hG]; pointwise [gates]
  cases back
  · exact (prefixRows_apply _ _ _).trans (Finset.sum_congr rfl fun j _ => by rw [hg]; rfl)
  · exact (suffixRows_apply _ _ _).trans (Finset.sum_congr rfl fun j _ => by rw [hg]; rfl)

theorem total_apply (hG : ∀ r c, gl (ix3 0 r (lane h c)) = G r c) (c : Fin 128) : total (gates gl) (ix2 0 (lane h c)) = tot G c := by
  have hg : ∀ j, gates gl (ix2 j (lane h c)) = G j c := fun j => by rw [← hG]; pointwise [gates]
  pointwise [total]
  exact Finset.sum_congr rfl fun j _ => hg j

theorem lanes_apply {φ : FTy} (x : FVec Ideal Rows φ) (hs) (r : Fin 64) (c : Fin 128) : lanes h.val x hs (ix2 r c) = x (ix2 r (lane h c)) := by
  pointwise [lanes]
  rfl

theorem lanesRow_apply (x : FVec Ideal Row512 .f32) (hs) (c : Fin 128) : lanesRow h.val x hs (ix2 0 c) = x (ix2 0 (lane h c)) := by
  pointwise [lanesRow]
  rfl

theorem queries_apply (hQ : ∀ r c, ql (ix3 0 r (lane h c)) * scale = Q r c) (hG : ∀ r c, gl (ix3 0 r (lane h c)) = G r c) (r : Fin 64) (c : Fin 128) :
    queries ql (grow (sums back (gates gl))) (ix2 r (lane h c)) = qs back Q G r c := by
  rw [qs, ← sums_apply back h hG, ← hQ]
  pointwise [queries, grow]

theorem keys_decay_apply (hK : ∀ r c, kl (ix3 0 r (lane h c)) = K r c) (hG : ∀ r c, gl (ix3 0 r (lane h c)) = G r c) (r : Fin 64) (c : Fin 128) :
    keys kl (decay (sums back (gates gl))) (ix2 r (lane h c)) = ks back K G r c := by
  rw [ks, ← sums_apply back h hG, ← hK]
  pointwise [keys, decay]

theorem keys_toEnd_apply (hK : ∀ r c, kl (ix3 0 r (lane h c)) = K r c) (hG : ∀ r c, gl (ix3 0 r (lane h c)) = G r c) (r : Fin 64) (c : Fin 128) :
    keys kl (toEnd (total (gates gl)) (sums back (gates gl))) (ix2 r (lane h c)) = kd back K G r c := by
  rw [kd, ← sums_apply back h hG, ← hK, ← total_apply h hG]
  pointwise [keys, toEnd]

theorem endRow_apply (hG : ∀ r c, gl (ix3 0 r (lane h c)) = G r c) (c : Fin 128) :
    endRow (total (gates gl)) (ix2 0 (lane h c)) = Ideal.exp (tot G c) := by
  rw [← total_apply h hG]
  pointwise [endRow]

end

section
variable (back : Bool) {qv kv dv' : FVec Ideal KeyRows .bf16} {vv ov : FVec Ideal ValRows .bf16} {sv : FVec Ideal StateT .f32} {el : FVec Ideal Row128 .f32}
  {Q K G : Keys} {V O : Vals} {S : State}

theorem attend_apply (hq : ∀ r c, qv (ix2 r c) = qs back Q G r c) (hk : ∀ r c, kv (ix2 r c) = ks back K G r c) (r j : Fin 64) :
    attend (causal back) qv kv (ix2 r j) = att back Q K G r j := by
  have e : attend (causal back) qv kv (ix2 r j) = Scalar.select (causal back (ix2 r j)) (∑ c, qv (ix2 r c) * kv (ix2 j c)) 0 := by
    pointwise [attend, masked, rounded]
  rw [e, causal_apply, att]
  split
  · exact (Finset.sum_congr rfl fun c _ => by rw [hq, hk] : (∑ c, qv (ix2 r c) * kv (ix2 j c)) = _)
  · rfl

theorem headOut_apply (hq : ∀ r c, qv (ix2 r c) = qs back Q G r c) (hk : ∀ r c, kv (ix2 r c) = ks back K G r c)
    (hv : ∀ r x, vv (ix2 r x) = V r x) (hs : ∀ c x, sv (ix2 x c) = S c x) (r : Fin 64) (x : Fin 256) :
    headOut (causal back) qv kv vv sv (ix3 0 r x) = out back Q K G V S r x := by
  have e : headOut (causal back) qv kv vv sv (ix3 0 r x)
      = (∑ c, qv (ix2 r c) * sv (ix2 x c)) + ∑ j, attend (causal back) qv kv (ix2 r j) * vv (ix2 j x) := by
    generalize hA : attend (causal back) qv kv = A
    pointwise [headOut, rounded, hA]
  rw [e, out]
  simp only [attend_apply back hq hk, hq, hv, hs]

theorem headNext_apply (he : ∀ c, el (ix2 0 c) = Ideal.exp (tot G c)) (hd : ∀ r c, dv' (ix2 r c) = kd back K G r c)
    (hv : ∀ r x, vv (ix2 r x) = V r x) (hs : ∀ c x, sv (ix2 x c) = S c x) (c : Fin 128) (x : Fin 256) :
    headNext el dv' vv sv (ix4 0 0 x c) = next back K G V S c x := by
  have e : headNext el dv' vv sv (ix4 0 0 x c) = el (ix2 0 c) * sv (ix2 x c) + ∑ j, vv (ix2 j x) * dv' (ix2 j c) := by
    pointwise [headNext]
  rw [e, next]
  simp only [he, hd, hv, hs]
  exact congrArg _ (Finset.sum_congr rfl fun j _ => mul_comm _ _)

end

/-! ## From the loads of a chunk -/

section
variable (back : Bool) (h : Fin 4) {ql kl : FVec Ideal Rows1 .bf16} {gl : FVec Ideal Rows1 .f32} {vl : FVec Ideal ValRows1 .bf16}
  {sl : FVec Ideal StateT1 .f32} {Q K G : Keys} {V : Vals} {S : State}

theorem values_apply {φ : FTy} (vl : FVec Ideal ValRows1 φ) (r : Fin 64) (x : Fin 256) : values vl (ix2 r x) = vl (ix3 0 r x) := by
  pointwise [values]

theorem state_apply (sl : FVec Ideal StateT1 .f32) (x : Fin 256) (c : Fin 128) : state sl (ix2 x c) = sl (ix4 0 0 x c) := by
  pointwise [state]

theorem rounded_apply {s : Shape} (x : FVec Ideal s .f32) (i : s.Idx) : rounded x i = x i := by
  pointwise [rounded]

/-- The output of a head, of what is loaded. -/
theorem out_of_loads (hQ : ∀ r c, ql (ix3 0 r (lane h c)) * scale = Q r c) (hK : ∀ r c, kl (ix3 0 r (lane h c)) = K r c)
    (hG : ∀ r c, gl (ix3 0 r (lane h c)) = G r c) (hV : ∀ r x, vl (ix3 0 r x) = V r x) (hS : ∀ c x, sl (ix4 0 0 x c) = S c x) (hs) (i : ValRows1.Idx) :
    headOut (causal back) (lanes h.val (rounded (queries ql (grow (sums back (gates gl))))) hs)
      (lanes h.val (rounded (keys kl (decay (sums back (gates gl))))) hs) (values vl) (state sl) i = out back Q K G V S (i 1) (i 2) := by
  rw [show i = ix3 0 (i 1) (i 2) by idx_ext]
  exact headOut_apply back (fun r c => by rw [lanes_apply, rounded_apply, queries_apply back h hQ hG])
    (fun r c => by rw [lanes_apply, rounded_apply, keys_decay_apply back h hK hG])
    (fun r x => by rw [values_apply, hV]) (fun c x => by rw [state_apply, hS]) _ _

/-- The next state of a head, of what is loaded. -/
theorem next_of_loads (hK : ∀ r c, kl (ix3 0 r (lane h c)) = K r c)
    (hG : ∀ r c, gl (ix3 0 r (lane h c)) = G r c) (hV : ∀ r x, vl (ix3 0 r x) = V r x) (hS : ∀ c x, sl (ix4 0 0 x c) = S c x) (hs hs') (i : StateT1.Idx) :
    headNext (lanesRow h.val (endRow (total (gates gl))) hs')
      (lanes h.val (rounded (keys kl (toEnd (total (gates gl)) (sums back (gates gl))))) hs) (values vl) (state sl) i = next back K G V S (i 3) (i 2) := by
  rw [show i = ix4 0 0 (i 2) (i 3) by idx_ext]
  exact headNext_apply back (fun c => by rw [lanesRow_apply, endRow_apply h hG])
    (fun r c => by rw [lanes_apply, rounded_apply, keys_toEnd_apply back h hK hG])
    (fun r x => by rw [values_apply, hV]) (fun c x => by rw [state_apply, hS]) _ _

end

end Cert.Gla
-- ==== Proof.Chunk.lean ====
/-
  One chunk of both batch elements and all heads, as blocks of arrays: what the kernels' expressions for one head
  give at the head's place in the block.
-/
module

public import proofs.«01_k».proof.Proof.HeadValue

@[expose] public section

set_option maxRecDepth 16384

noncomputable section

open Idealize.ShloMosaic Idealize.ShloMosaic.TcCoe

namespace Cert.Gla

abbrev KeyBlock : Shape := ⟨3, ![2, 64, 512]⟩
abbrev ValBlock : Shape := ⟨3, ![2, 64, 1024]⟩
abbrev StateBlock : Shape := ⟨4, ![2, 4, 256, 128]⟩

/-- The head of a value lane, and its place there. -/
def vhead (l : Fin 1024) : Fin 4 := ⟨l.val / 256, by omega⟩
def vpart (l : Fin 1024) : Fin 256 := ⟨l.val % 256, by omega⟩
/-- The head of a key lane, and its place there. -/
def khead (l : Fin 512) : Fin 4 := ⟨l.val / 128, by omega⟩
def kpart (l : Fin 512) : Fin 128 := ⟨l.val % 128, by omega⟩

@[simp] theorem vhead_vlane (h : Fin 4) (x : Fin 256) : vhead (vlane h x) = h := Fin.ext (by simp only [vhead, vlane]; omega)
@[simp] theorem vpart_vlane (h : Fin 4) (x : Fin 256) : vpart (vlane h x) = x := Fin.ext (by simp only [vpart, vlane]; omega)
@[simp] theorem khead_lane (h : Fin 4) (c : Fin 128) : khead (lane h c) = h := Fin.ext (by simp only [khead, lane]; omega)
@[simp] theorem kpart_lane (h : Fin 4) (c : Fin 128) : kpart (lane h c) = c := Fin.ext (by simp only [kpart, lane]; omega)

theorem vlane_zero (x : Fin 256) (hx : x.val < 1024) : (⟨x.val, hx⟩ : Fin 1024) = vlane 0 x := Fin.ext (Nat.zero_add _).symm

/-- The states of both batch elements' heads. -/
abbrev States := Fin 2 → Fin 4 → State

variable (x0 x1 : FVec Ideal KeyBlock .bf16) (x2 : FVec Ideal ValBlock .bf16) (x3 : FVec Ideal KeyBlock .f32) (S : States)

/-- A head's queries (scaled), keys, values and gates in the blocks. -/
def blockQ (e : Fin 2) (h : Fin 4) : Keys := fun r c => x0 (ix3 e r (lane h c)) * scale
def blockK {φ : FTy} (x : FVec Ideal KeyBlock φ) (e : Fin 2) (h : Fin 4) : Keys := fun r c => x (ix3 e r (lane h c))
def blockV {φ : FTy} (x : FVec Ideal ValBlock φ) (e : Fin 2) (h : Fin 4) : Vals := fun r x' => x (ix3 e r (vlane h x'))
def blockS (s : FVec Ideal StateBlock .f32) : States := fun e h c x => s (ix4 e h x c)

/-- The block of outputs. -/
def chunkOut (back : Bool) : FVec Ideal ValBlock .f32 := fun y =>
  out back (blockQ x0 (y 0) (vhead (y 2))) (blockK x1 (y 0) (vhead (y 2))) (blockK x3 (y 0) (vhead (y 2))) (blockV x2 (y 0) (vhead (y 2)))
    (S (y 0) (vhead (y 2))) (y 1) (vpart (y 2))

theorem chunkOut_at (back : Bool) (e : Fin 2) (h : Fin 4) (r : Fin 64) (x : Fin 256) : chunkOut x0 x1 x2 x3 S back (ix3 e r (vlane h x))
    = out back (blockQ x0 e h) (blockK x1 e h) (blockK x3 e h) (blockV x2 e h) (S e h) r x := by
  show out back (blockQ x0 e (vhead (vlane h x))) (blockK x1 e (vhead (vlane h x))) (blockK x3 e (vhead (vlane h x)))
    (blockV x2 e (vhead (vlane h x))) (S e (vhead (vlane h x))) r (vpart (vlane h x)) = _
  rw [vhead_vlane, vpart_vlane]

/-- The states after the chunk. -/
def chunkNext (back : Bool) : States := fun e h =>
  next back (blockK x1 e h) (blockK x3 e h) (blockV x2 e h) (S e h)

/-- States as a block. -/
def stateBlock : FVec Ideal StateBlock .f32 := fun y => S (y 0) (y 1) (y 3) (y 2)

theorem blockS_stateBlock : blockS (stateBlock S) = S := rfl

section
variable (back : Bool) (e : Fin 2) (h : Fin 4) {ql kl : FVec Ideal Rows1 .bf16} {gl : FVec Ideal Rows1 .f32} {vl : FVec Ideal ValRows1 .bf16}
  {sl : FVec Ideal StateT1 .f32} {x0 x1 x2 x3 S}

theorem out_piece (hq : ∀ r l, ql (ix3 0 r l) = x0 (ix3 e r l) := by intros; pointwise) (hk : ∀ r l, kl (ix3 0 r l) = x1 (ix3 e r l) := by intros; pointwise)
    (hg : ∀ r l, gl (ix3 0 r l) = x3 (ix3 e r l) := by intros; pointwise)
    (hv : ∀ r x, vl (ix3 0 r x) = x2 (ix3 e r (vlane h x)) := by
      intros; pointwise; first | rfl | rw [vlane_zero])
    (hs : ∀ x c, sl (ix4 0 0 x c) = S e h c x := by intros; pointwise; rfl)
    (hsl : Rows.Slices ![0, 128 * h.val] KeyRows := by decide) {y : ValBlock.Idx} {z : ValRows1.Idx} (h0 : (y 0).val = e.val := by omega)
    (h1 : (y 1).val = (z 1).val := by omega) (h2 : (y 2).val = 256 * h.val + (z 2).val := by omega) :
    headOut (causal back) (lanes h.val (rounded (queries ql (grow (sums back (gates gl))))) hsl)
      (lanes h.val (rounded (keys kl (decay (sums back (gates gl))))) hsl) (values vl) (state sl) z = chunkOut x0 x1 x2 x3 S back y := by
  idx_vars y
  idx_vars z
  obtain rfl : y0 = e := Fin.ext h0
  obtain rfl : y1 = z1 := Fin.ext h1
  obtain rfl : y2 = vlane h z2 := Fin.ext h2
  refine (out_of_loads back h (Q := blockQ x0 y0 h) (K := blockK x1 y0 h) (G := blockK x3 y0 h) (V := blockV x2 y0 h) (S := S y0 h)
    (fun r c => by rw [hq]; rfl) (fun r c => hk _ _) (fun r c => hg _ _) hv (fun c x => hs _ _) hsl _).trans (chunkOut_at ..).symm

theorem next_piece (hk : ∀ r l, kl (ix3 0 r l) = x1 (ix3 e r l) := by intros; pointwise) (hg : ∀ r l, gl (ix3 0 r l) = x3 (ix3 e r l) := by intros; pointwise)
    (hv : ∀ r x, vl (ix3 0 r x) = x2 (ix3 e r (vlane h x)) := by
      intros; pointwise; first | rfl | rw [vlane_zero])
    (hs : ∀ x c, sl (ix4 0 0 x c) = S e h c x := by intros; pointwise; rfl)
    (hsl : Rows.Slices ![0, 128 * h.val] KeyRows := by decide) (hsr : Row512.Slices ![0, 128 * h.val] Row128 := by decide)
    {y : StateBlock.Idx} {z : StateT1.Idx} (h0 : (y 0).val = e.val := by omega) (h1 : (y 1).val = h.val := by omega)
    (h2 : (y 2).val = (z 2).val := by omega) (h3 : (y 3).val = (z 3).val := by omega) :
    headNext (lanesRow h.val (endRow (total (gates gl))) hsr)
      (lanes h.val (rounded (keys kl (toEnd (total (gates gl)) (sums back (gates gl))))) hsl) (values vl) (state sl) z
      = stateBlock (chunkNext x1 x2 x3 S back) y := by
  idx_vars y
  idx_vars z
  obtain rfl : y0 = e := Fin.ext h0
  obtain rfl : y1 = h := Fin.ext h1
  obtain rfl : y2 = z2 := Fin.ext h2
  obtain rfl : y3 = z3 := Fin.ext h3
  exact next_of_loads back y1 (K := blockK x1 y0 y1) (G := blockK x3 y0 y1) (V := blockV x2 y0 y1) (S := S y0 y1)
    (fun r c => hk _ _) (fun r c => hg _ _) hv (fun c x => hs _ _) hsl hsr _

end

end Cert.Gla
-- ==== Proof.Seq.lean ====
/-
  The whole sequence: 36 chunks of 64 positions, read forwards (direction 0) or backwards (direction 1: the four
  context chunks first, then the others, each from its end). The states after every chunk; the arrays of outputs and of states.
-/
module

public import proofs.«01_k».proof.Proof.Chunk

@[expose] public section

set_option maxRecDepth 16384

noncomputable section

open Idealize.ShloMosaic Idealize.ShloMosaic.TcCoe

namespace Cert.Gla

/-- The projections: queries, keys, values side by side (and more); the gates of both directions. -/
abbrev Proj := FVec Ideal ⟨3, ![2, 2304, 3200]⟩ .bf16
abbrev Gates := FVec Ideal ⟨3, ![2, 2304, 1024]⟩ .f32

/-- Whether a direction reads a chunk from its end. -/
def back (d : Fin 2) : Bool := decide (d = 1)

/-- The block in the array that is chunk `n` of direction `d`; it is its own inverse. -/
def place (d : Fin 2) (n : ℕ) : ℕ := if d = 0 then n else if n < 4 then 3 - n else 39 - n

/-- Row `r` of block `b`. -/
def pos (b : ℕ) (r : Fin 64) : Fin 2304 := ⟨(64 * b + r.val) % 2304, by omega⟩

/-- The block of a position and its row there. -/
def blockOf (p : Fin 2304) : ℕ := p.val / 64
def rowOf (p : Fin 2304) : Fin 64 := ⟨p.val % 64, by omega⟩

def qlane (h : Fin 4) (c : Fin 128) : Fin 3200 := ⟨128 * h.val + c.val, by omega⟩
def klane (h : Fin 4) (c : Fin 128) : Fin 3200 := ⟨512 + (128 * h.val + c.val), by omega⟩
def wlane (h : Fin 4) (x : Fin 256) : Fin 3200 := ⟨1024 + (256 * h.val + x.val), by omega⟩
def glane (d : Fin 2) (h : Fin 4) (c : Fin 128) : Fin 1024 := ⟨512 * d.val + (128 * h.val + c.val), by omega⟩

variable (p : Proj) (l : Gates) (d e : Fin 2) (h : Fin 4)

/-- The queries (scaled), keys, values and gates of block `b`. -/
def chunkQ (b : ℕ) : Keys := fun r c => p (ix3 e (pos b r) (qlane h c)) * scale
def chunkK (b : ℕ) : Keys := fun r c => p (ix3 e (pos b r) (klane h c))
def chunkV (b : ℕ) : Vals := fun r x => p (ix3 e (pos b r) (wlane h x))
def chunkG (b : ℕ) : Keys := fun r c => l (ix3 e (pos b r) (glane d h c))

/-- No state yet. -/
def noStates : States := fun _ _ _ _ => 0

/-- The states before chunk `n` of direction `d`. -/
def states : ℕ → States
  | 0 => noStates
  | n + 1 => fun e h => next (back d) (chunkK p e h (place d n)) (chunkG l d e h (place d n)) (chunkV p e h (place d n)) (states n e h)

/-- The output of block `b` in direction `d`. -/
def outOf (b : ℕ) (r : Fin 64) (x : Fin 256) : EReal :=
  out (back d) (chunkQ p e h b) (chunkK p e h b) (chunkG l d e h b) (chunkV p e h b) (states p l d (place d b) e h) r x

/-- The lanes of the outputs: direction, head, value lane. -/
def olane (d : Fin 2) (h : Fin 4) (x : Fin 256) : Fin 2048 := ⟨1024 * d.val + (256 * h.val + x.val), by omega⟩
def odir (i : Fin 2048) : Fin 2 := ⟨i.val / 1024, by omega⟩
def ohead (i : Fin 2048) : Fin 4 := ⟨i.val % 1024 / 256, by omega⟩
def opart (i : Fin 2048) : Fin 256 := ⟨i.val % 256, by omega⟩

/-- The outputs of both directions. -/
def outputs : FVec Ideal ⟨3, ![2, 2304, 2048]⟩ .f32 := fun y =>
  outOf p l (odir (y 2)) (y 0) (ohead (y 2)) (blockOf (y 1)) (rowOf (y 1)) (opart (y 2))

/-- The states before every chunk. -/
def allStates : FVec Ideal ⟨6, ![2, 2, 36, 4, 256, 128]⟩ .f32 := fun y => states p l (y 1) (y 2).val (y 0) (y 3) (y 5) (y 4)

theorem place_place (d : Fin 2) (n : ℕ) (hn : n < 36) : place d (place d n) = n := by
  unfold place
  split_ifs <;> omega

theorem place_lt (d : Fin 2) (n : ℕ) (hn : n < 36) : place d n < 36 := by
  unfold place
  split_ifs <;> omega

/-- The four sequences that are read at once: direction and batch entry of each. -/
def dirOf (b : Fin 4) : Fin 2 := ⟨b.val / 2, by omega⟩
def entryOf (b : Fin 4) : Fin 2 := ⟨b.val % 2, by omega⟩

/-- The order in which the backward scan reads the positions. -/
def flipPos (p : Fin 2304) : Fin 2304 := ⟨if p.val < 256 then 255 - p.val else 2559 - p.val, by split <;> omega⟩

/-- Row `r` of the scan's chunk `n`, as a position of the array. -/
def scanPos (b : Fin 4) (n : Fin 36) (r : Fin 64) : Fin 2304 := pos (place (dirOf b) n.val) (row (back (dirOf b)) r)

theorem scanPos_first (b : Fin 4) (hb : b.val < 2) (n : Fin 36) (r : Fin 64) : scanPos b n r = ⟨n.val * 64 + r.val, by omega⟩ := by
  have hd : dirOf b = 0 := Fin.ext (by simp only [dirOf]; omega)
  apply Fin.ext
  simp only [scanPos, pos, hd, place, back, row]
  simp
  omega

theorem scanPos_second (b : Fin 4) (hb : ¬b.val < 2) (n : Fin 36) (r : Fin 64) : scanPos b n r = flipPos ⟨n.val * 64 + r.val, by omega⟩ := by
  have hd : dirOf b = 1 := Fin.ext (by simp only [dirOf]; omega)
  have hr : (row true r).val = 63 - r.val := by simp [row, Fin.val_rev]
  apply Fin.ext
  simp only [scanPos, pos, hd, place, back, flipPos, decide_true, hr]
  simp
  split_ifs <;> omega

theorem blockOf_pos (b : ℕ) (hb : b < 36) (r : Fin 64) : blockOf (pos b r) = b := by
  simp only [blockOf, pos]
  omega

theorem rowOf_pos (b : ℕ) (hb : b < 36) (r : Fin 64) : rowOf (pos b r) = r := by
  apply Fin.ext
  simp only [rowOf, pos]
  omega

/-- The outputs, at a direction's lane of a block's row. -/
theorem outputs_at (b : ℕ) (hb : b < 36) (r : Fin 64) (x : Fin 1024) :
    outputs p l (ix3 e (pos b r) ⟨1024 * d.val + x.val, by omega⟩) = outOf p l d e (vhead x) b r (vpart x) := by
  have h1 : odir ⟨1024 * d.val + x.val, by omega⟩ = d := Fin.ext (by simp only [odir]; omega)
  have h2 : ohead ⟨1024 * d.val + x.val, by omega⟩ = vhead x := Fin.ext (by simp only [ohead, vhead]; omega)
  have h3 : opart ⟨1024 * d.val + x.val, by omega⟩ = vpart x := Fin.ext (by simp only [opart, vpart]; omega)
  show outOf p l (odir ⟨1024 * d.val + x.val, by omega⟩) e (ohead ⟨1024 * d.val + x.val, by omega⟩) (blockOf (pos b r)) (rowOf (pos b r))
    (opart ⟨1024 * d.val + x.val, by omega⟩) = _
  rw [h1, h2, h3, blockOf_pos b hb, rowOf_pos b hb]

theorem scanPos_val (b : Fin 4) (n : Fin 36) (r : Fin 64) :
    (scanPos b n r).val = if b.val < 2 then n.val * 64 + r.val else if n.val * 64 + r.val < 256 then 255 - (n.val * 64 + r.val) else 2559 - (n.val * 64 + r.val) := by
  split
  · rw [scanPos_first b ‹_›]
  · rw [scanPos_second b ‹_›]
    rfl

theorem place_of_scanPos (b : Fin 4) (n : Fin 36) (r : Fin 64) : place (dirOf b) n.val = blockOf (scanPos b n r) :=
  (blockOf_pos _ (place_lt _ _ n.isLt) _).symm

theorem row_of_scanPos (b : Fin 4) (n : Fin 36) (r : Fin 64) : row (back (dirOf b)) r = rowOf (scanPos b n r) :=
  (rowOf_pos _ (place_lt _ _ n.isLt) _).symm

end Cert.Gla
-- ==== Proof.FwdBlock.lean ====
/-
  The forward kernel at one grid point, in each of its four cases (first chunk or a later one; forwards or backwards): the blocks it writes
  and the states it carries on, as functions of the blocks it reads and of the states carried to it.
-/
module

public import proofs.«01_k».proof.Proof.Gen.FwdIdeal.Value
public import proofs.«01_k».proof.Proof.Stores
public import proofs.«01_k».proof.Proof.Seq

@[expose] public section

set_option maxRecDepth 16384

noncomputable section

open Idealize.ShloMosaic Idealize.ShloMosaic.TcCoe
open Cert.FwdIdeal Cert.FwdIdeal.Gen Cert.Gla

namespace Cert.FwdIdeal.Block

variable (c : Dev nD) (i : grid0.Coords) (arg2 : Memref sig .tc .vmem S2x64x512 .bf16) (harg2 : arg2.IsWhole) (arg3 : Memref sig .tc .vmem S2x64x512 .bf16) (harg3 : arg3.IsWhole)
  (arg4 : Memref sig .tc .vmem S2x64x1024 .bf16) (harg4 : arg4.IsWhole) (arg5 : Memref sig .tc .vmem S2x64x512 .f32) (harg5 : arg5.IsWhole)
  (arg6 : Memref sig .tc .vmem S2x64x1024 .f32) (harg6 : arg6.IsWhole) (arg7 : Memref sig .tc .vmem S2x1x1x4x256x128 .f32) (harg7 : arg7.IsWhole)
  (arg8 : Memref sig .tc .vmem S2x4x256x128 .f32) (harg8 : arg8.IsWhole)
  (x0 : Vec Ideal S2x64x512 .bf16) (x1 : Vec Ideal S2x64x512 .bf16) (x2 : Vec Ideal S2x64x1024 .bf16) (x3 : Vec Ideal S2x64x512 .f32) (xs0 : Vec Ideal S2x4x256x128 .f32)

/-- The carried states as the block that is kept of them. -/
def keptStates (S : States) : FVec Ideal S2x1x1x4x256x128 .f32 := fun y => S (y 0) (y 3) (y 5) (y 4)

/-- The fill before the first chunk. -/
theorem fill_eq : k0_pay1 (F := Ideal) = stateBlock noStates := by
  funext y
  idx_vars y
  pointwise [k0_pay1]
  rfl

theorem out_A (hc0 : cond0_0 i) (hc1 : cond0_1 i) (hc2 : ¬cond0_2 i) :
    out0_A_4 c i arg2 harg2 arg3 harg3 arg4 harg4 arg5 harg5 arg6 harg6 arg7 harg7 arg8 harg8 hc0 hc1 hc2 x0 x1 x2 x3 = chunkOut x0 x1 x2 x3 noStates false := by
  funext y
  unfold out0_A_4
  frame_open
  try simp (disch := decide) only [↓ View.readCov_skip, ↓ View.readCov_cons_toLoadRect, ↓ View.readCov_fill]
  frame_out
  try simp only [read_unread_whole]
  simp only [fill_eq]
  canon_tiles z h
  exacts [out_piece false 1 3, out_piece false 1 2, out_piece false 1 1, out_piece false 1 0, out_piece false 0 3, out_piece false 0 2, out_piece false 0 1, out_piece false 0 0]

theorem kept_A (hc0 : cond0_0 i) (hc1 : cond0_1 i) (hc2 : ¬cond0_2 i) :
    out0_A_5 c i arg2 harg2 arg3 harg3 arg4 harg4 arg5 harg5 arg6 harg6 arg7 harg7 arg8 harg8 hc0 hc1 hc2 x0 x1 x2 x3 = keptStates noStates := by
  funext y
  unfold out0_A_5
  frame_open
  try simp (disch := decide) only [↓ View.readCov_skip, ↓ View.readCov_cons_toLoadRect, ↓ View.readCov_fill]
  frame_out
  try simp only [read_unread_whole]
  idx_vars y
  pointwise [k0_pay2, k0_pay1]
  rfl

theorem next_A (hc0 : cond0_0 i) (hc1 : cond0_1 i) (hc2 : ¬cond0_2 i) :
    sout0_A_0 c i arg2 harg2 arg3 harg3 arg4 harg4 arg5 harg5 arg6 harg6 arg7 harg7 arg8 harg8 hc0 hc1 hc2 x0 x1 x2 x3 = stateBlock (chunkNext x1 x2 x3 noStates false) := by
  funext y
  unfold sout0_A_0
  frame_open
  try simp (disch := decide) only [↓ View.readCov_skip, ↓ View.readCov_cons_toLoadRect, ↓ View.readCov_fill]
  frame_out
  try simp only [read_unread_whole]
  refine (canon_append_covered [_] [_, _, _, _, _, _, _, _] y (View.cover_of_tiled_head _ _ _ rfl y)).trans ?_
  simp only [fill_eq]
  canon_tiles z h
  exacts [next_piece false 1 3, next_piece false 1 2, next_piece false 1 1, next_piece false 1 0, next_piece false 0 3, next_piece false 0 2, next_piece false 0 1, next_piece false 0 0]

theorem out_B (hc0 : ¬cond0_0 i) (hc1 : cond0_1 i) (hc2 : ¬cond0_2 i) :
    out0_B_4 c i arg2 harg2 arg3 harg3 arg4 harg4 arg5 harg5 arg6 harg6 arg7 harg7 arg8 harg8 hc0 hc1 hc2 x0 x1 x2 x3 xs0 = chunkOut x0 x1 x2 x3 (blockS xs0) false := by
  funext y
  unfold out0_B_4
  frame_open
  try simp (disch := decide) only [↓ View.readCov_skip, ↓ View.readCov_cons_toLoadRect, ↓ View.readCov_fill]
  frame_out
  try simp only [read_unread_whole]
  canon_tiles z h
  exacts [out_piece false 1 3, out_piece false 1 2, out_piece false 1 1, out_piece false 1 0, out_piece false 0 3, out_piece false 0 2, out_piece false 0 1, out_piece false 0 0]

theorem kept_B (hc0 : ¬cond0_0 i) (hc1 : cond0_1 i) (hc2 : ¬cond0_2 i) :
    out0_B_5 c i arg2 harg2 arg3 harg3 arg4 harg4 arg5 harg5 arg6 harg6 arg7 harg7 arg8 harg8 hc0 hc1 hc2 x0 x1 x2 x3 xs0 = keptStates (blockS xs0) := by
  funext y
  unfold out0_B_5
  frame_open
  try simp (disch := decide) only [↓ View.readCov_skip, ↓ View.readCov_cons_toLoadRect, ↓ View.readCov_fill]
  frame_out
  try simp only [read_unread_whole]
  idx_vars y
  pointwise [k0_pay2, k0_pay1]
  rfl

theorem next_B (hc0 : ¬cond0_0 i) (hc1 : cond0_1 i) (hc2 : ¬cond0_2 i) :
    sout0_B_0 c i arg2 harg2 arg3 harg3 arg4 harg4 arg5 harg5 arg6 harg6 arg7 harg7 arg8 harg8 hc0 hc1 hc2 x0 x1 x2 x3 xs0 = stateBlock (chunkNext x1 x2 x3 (blockS xs0) false) := by
  funext y
  unfold sout0_B_0
  frame_open
  try simp (disch := decide) only [↓ View.readCov_skip, ↓ View.readCov_cons_toLoadRect, ↓ View.readCov_fill]
  frame_out
  try simp only [read_unread_whole]
  canon_tiles z h
  exacts [next_piece false 1 3, next_piece false 1 2, next_piece false 1 1, next_piece false 1 0, next_piece false 0 3, next_piece false 0 2, next_piece false 0 1, next_piece false 0 0]

theorem out_C (hc0 : cond0_0 i) (hc1 : ¬cond0_1 i) (hc2 : cond0_2 i) :
    out0_C_4 c i arg2 harg2 arg3 harg3 arg4 harg4 arg5 harg5 arg6 harg6 arg7 harg7 arg8 harg8 hc0 hc1 hc2 x0 x1 x2 x3 = chunkOut x0 x1 x2 x3 noStates true := by
  funext y
  unfold out0_C_4
  frame_open
  try simp (disch := decide) only [↓ View.readCov_skip, ↓ View.readCov_cons_toLoadRect, ↓ View.readCov_fill]
  frame_out
  try simp only [read_unread_whole]
  simp only [fill_eq]
  canon_tiles z h
  exacts [out_piece true 1 3, out_piece true 1 2, out_piece true 1 1, out_piece true 1 0, out_piece true 0 3, out_piece true 0 2, out_piece true 0 1, out_piece true 0 0]

theorem kept_C (hc0 : cond0_0 i) (hc1 : ¬cond0_1 i) (hc2 : cond0_2 i) :
    out0_C_5 c i arg2 harg2 arg3 harg3 arg4 harg4 arg5 harg5 arg6 harg6 arg7 harg7 arg8 harg8 hc0 hc1 hc2 x0 x1 x2 x3 = keptStates noStates := by
  funext y
  unfold out0_C_5
  frame_open
  try simp (disch := decide) only [↓ View.readCov_skip, ↓ View.readCov_cons_toLoadRect, ↓ View.readCov_fill]
  frame_out
  try simp only [read_unread_whole]
  idx_vars y
  pointwise [k0_pay2, k0_pay1]
  rfl

theorem next_C (hc0 : cond0_0 i) (hc1 : ¬cond0_1 i) (hc2 : cond0_2 i) :
    sout0_C_0 c i arg2 harg2 arg3 harg3 arg4 harg4 arg5 harg5 arg6 harg6 arg7 harg7 arg8 harg8 hc0 hc1 hc2 x0 x1 x2 x3 = stateBlock (chunkNext x1 x2 x3 noStates true) := by
  funext y
  unfold sout0_C_0
  frame_open
  try simp (disch := decide) only [↓ View.readCov_skip, ↓ View.readCov_cons_toLoadRect, ↓ View.readCov_fill]
  frame_out
  try simp only [read_unread_whole]
  refine (canon_append_covered [_] [_, _, _, _, _, _, _, _] y (View.cover_of_tiled_head _ _ _ rfl y)).trans ?_
  simp only [fill_eq]
  canon_tiles z h
  exacts [next_piece true 1 3, next_piece true 1 2, next_piece true 1 1, next_piece true 1 0, next_piece true 0 3, next_piece true 0 2, next_piece true 0 1, next_piece true 0 0]

theorem out_D (hc0 : ¬cond0_0 i) (hc1 : ¬cond0_1 i) (hc2 : cond0_2 i) :
    out0_D_4 c i arg2 harg2 arg3 harg3 arg4 harg4 arg5 harg5 arg6 harg6 arg7 harg7 arg8 harg8 hc0 hc1 hc2 x0 x1 x2 x3 xs0 = chunkOut x0 x1 x2 x3 (blockS xs0) true := by
  funext y
  unfold out0_D_4
  frame_open
  try simp (disch := decide) only [↓ View.readCov_skip, ↓ View.readCov_cons_toLoadRect, ↓ View.readCov_fill]
  frame_out
  try simp only [read_unread_whole]
  canon_tiles z h
  exacts [out_piece true 1 3, out_piece true 1 2, out_piece true 1 1, out_piece true 1 0, out_piece true 0 3, out_piece true 0 2, out_piece true 0 1, out_piece true 0 0]

theorem kept_D (hc0 : ¬cond0_0 i) (hc1 : ¬cond0_1 i) (hc2 : cond0_2 i) :
    out0_D_5 c i arg2 harg2 arg3 harg3 arg4 harg4 arg5 harg5 arg6 harg6 arg7 harg7 arg8 harg8 hc0 hc1 hc2 x0 x1 x2 x3 xs0 = keptStates (blockS xs0) := by
  funext y
  unfold out0_D_5
  frame_open
  try simp (disch := decide) only [↓ View.readCov_skip, ↓ View.readCov_cons_toLoadRect, ↓ View.readCov_fill]
  frame_out
  try simp only [read_unread_whole]
  idx_vars y
  pointwise [k0_pay2, k0_pay1]
  rfl

theorem next_D (hc0 : ¬cond0_0 i) (hc1 : ¬cond0_1 i) (hc2 : cond0_2 i) :
    sout0_D_0 c i arg2 harg2 arg3 harg3 arg4 harg4 arg5 harg5 arg6 harg6 arg7 harg7 arg8 harg8 hc0 hc1 hc2 x0 x1 x2 x3 xs0 = stateBlock (chunkNext x1 x2 x3 (blockS xs0) true) := by
  funext y
  unfold sout0_D_0
  frame_open
  try simp (disch := decide) only [↓ View.readCov_skip, ↓ View.readCov_cons_toLoadRect, ↓ View.readCov_fill]
  frame_out
  try simp only [read_unread_whole]
  canon_tiles z h
  exacts [next_piece true 1 3, next_piece true 1 2, next_piece true 1 1, next_piece true 1 0, next_piece true 0 3, next_piece true 0 2, next_piece true 0 1, next_piece true 0 0]

end Cert.FwdIdeal.Block
-- ==== Proof.FwdValue.lean ====
/-
  The forward kernel's arrays: the states it carries from point to point, and what its blocks make up.
-/
module

public import proofs.«01_k».proof.Proof.FwdBlock

@[expose] public section

set_option maxRecDepth 16384

noncomputable section

open Idealize.ShloMosaic Idealize.ShloMosaic.TcCoe
open Idealize.ShloMosaic.Pipeline (Dat)
open Cert.FwdIdeal Cert.FwdIdeal.Gen Cert.Gla

namespace Cert.FwdIdeal.Arrays

variable (m : (ℓ : Loc nD τ sig) → Buf (Elt Ideal) ℓ) (c : Dev nD)

/-- The direction of a grid point, and the block it reads. -/
def dir (t : ℕ) : Fin 2 := if t < 36 then 0 else 1
def blk (t : ℕ) : ℕ := place (dir t) (t % 36)

/-- The arguments. -/
abbrev projs : Proj := m ((c : Thread nD τ).loc main_arg0)
abbrev gateArr : Gates := m ((c : Thread nD τ).loc main_arg1)

theorem idx : ∀ t : Fin cfg0.N, win0_0.index t = ![0, blk t.val, 0] ∧ win0_1.index t = ![0, blk t.val, 1] ∧ win0_2.index t = ![0, blk t.val, 1]
    ∧ win0_3.index t = ![0, blk t.val, (dir t.val).val] ∧ win0_4.index t = ![0, blk t.val, (dir t.val).val]
    ∧ win0_5.index t = ![0, (dir t.val).val, t.val % 36, 0, 0, 0] ∧ blk t.val < 36 :=
  (by decide +kernel : ∀ t : Fin grid0.N, _)

theorem x0_at (t : Fin cfg0.N) (e : Fin 2) (r : Fin 64) (k : Fin 512) :
    X0_0 m c t (ix3 e r k) = projs m c (ix3 e (pos (blk t.val) r) ⟨k.val, by omega⟩) := by
  have hb := (idx t).2.2.2.2.2.2
  unfold X0_0 Pipeline.Window.fill
  rw [dif_pos (moved0_0 t _)]
  blk_ext [iblk, V, idx t, pos]

theorem x1_at (t : Fin cfg0.N) (e : Fin 2) (r : Fin 64) (k : Fin 512) :
    X0_1 m c t (ix3 e r k) = projs m c (ix3 e (pos (blk t.val) r) ⟨512 + k.val, by omega⟩) := by
  have hb := (idx t).2.2.2.2.2.2
  unfold X0_1 Pipeline.Window.fill
  rw [dif_pos (moved0_1 t _)]
  blk_ext [iblk, V, idx t, pos]

theorem x2_at (t : Fin cfg0.N) (e : Fin 2) (r : Fin 64) (k : Fin 1024) :
    X0_2 m c t (ix3 e r k) = projs m c (ix3 e (pos (blk t.val) r) ⟨1024 + k.val, by omega⟩) := by
  have hb := (idx t).2.2.2.2.2.2
  unfold X0_2 Pipeline.Window.fill
  rw [dif_pos (moved0_2 t _)]
  blk_ext [iblk, V, idx t, pos]

theorem x3_at (t : Fin cfg0.N) (e : Fin 2) (r : Fin 64) (k : Fin 512) :
    iblk m c 3 t (ix3 e r k) = gateArr m c (ix3 e (pos (blk t.val) r) ⟨512 * (dir t.val).val + k.val, by omega⟩) := by
  have hb := (idx t).2.2.2.2.2.2
  blk_ext [iblk, V, idx t, pos]

theorem readQ (t : Fin cfg0.N) (e : Fin 2) (h : Fin 4) : blockQ (X0_0 m c t) e h = chunkQ (projs m c) e h (blk t.val) := by
  funext r k
  unfold blockQ chunkQ
  rw [x0_at]
  rfl

theorem readK (t : Fin cfg0.N) (e : Fin 2) (h : Fin 4) : blockK (φ := .bf16) (X0_1 m c t) e h = chunkK (projs m c) e h (blk t.val) := by
  funext r k
  unfold blockK chunkK
  rw [x1_at]
  rfl

theorem readV (t : Fin cfg0.N) (e : Fin 2) (h : Fin 4) : blockV (φ := .bf16) (X0_2 m c t) e h = chunkV (projs m c) e h (blk t.val) := by
  funext r k
  unfold blockV chunkV
  rw [x2_at]
  rfl

theorem readG (t : Fin cfg0.N) (e : Fin 2) (h : Fin 4) : blockK (φ := .f32) (iblk m c 3 t) e h = chunkG (gateArr m c) (dir t.val) e h (blk t.val) := by
  funext r k
  unfold blockK chunkG
  rw [x3_at]
  rfl

/-- The states before a grid point's chunk. -/
def before (t : ℕ) : States := states (projs m c) (gateArr m c) (dir t) (t % 36)

theorem before_start (t : ℕ) (h : t % 36 = 0) : before m c t = noStates := by
  unfold before
  rw [h]
  rfl

/-- What a grid point leaves: its outputs, the states before it, the states after it. -/
def Leaves (t : Fin cfg0.N) : Prop :=
  outsAt0 m c t.val t.isLt
    = (chunkOut (X0_0 m c t) (X0_1 m c t) (X0_2 m c t) (iblk m c 3 t) (before m c t.val) (back (dir t.val)), Block.keptStates (before m c t.val),
        stateBlock (chunkNext (X0_1 m c t) (X0_2 m c t) (iblk m c 3 t) (before m c t.val) (back (dir t.val))))

/-- The states after a point's chunk are those before the next point's, while the direction lasts. -/
theorem after_eq (t u : Fin cfg0.N) (htu : u.val = t.val + 1) (hu : ¬u.val % 36 = 0) :
    chunkNext (X0_1 m c t) (X0_2 m c t) (iblk m c 3 t) (before m c t.val) (back (dir t.val)) = before m c u.val := by
  have hN : u.val < 72 := u.isLt
  have hd : dir u.val = dir t.val := by
    unfold dir
    split_ifs <;> first | rfl | omega
  have hn : u.val % 36 = t.val % 36 + 1 := by omega
  funext e h
  unfold chunkNext
  rw [readK, readV, readG]
  unfold before
  rw [hd, hn]
  rfl

theorem leaves (n : ℕ) : ∀ t : Fin cfg0.N, t.val = n → Leaves m c t := by
  induction n with
  | zero =>
    intro t ht
    have h0 : t.val % 36 = 0 := by omega
    have h1 : t.val < 36 := by omega
    have hd : back (dir t.val) = false := by simp [dir, h1, back]
    unfold Leaves
    rw [outsAt0_A m c t h0 h1 (by omega), Block.out_A, Block.kept_A, Block.next_A, before_start m c _ h0, hd]
  | succ n ih =>
    intro t ht
    have hN : t.val < 72 := t.isLt
    by_cases h0 : t.val % 36 = 0
    · have h1 : ¬t.val < 36 := by omega
      have hd : back (dir t.val) = true := by simp [dir, h1, back]
      unfold Leaves
      rw [outsAt0_C m c t h0 h1 (by omega), Block.out_C, Block.kept_C, Block.next_C, before_start m c _ h0, hd]
    · have hp : n < cfg0.N := by show n < 72; omega
      have prev : outsAt0 m c (t.val - 1) (Nat.lt_of_le_of_lt (Nat.sub_le _ _) t.isLt) = outsAt0 m c n hp := by
        congr 1
        omega
      have hs : blockS (outsAt0 m c (t.val - 1) (Nat.lt_of_le_of_lt (Nat.sub_le _ _) t.isLt)).2.2 = before m c t.val := by
        rw [prev, ih ⟨n, hp⟩ rfl, blockS_stateBlock]
        exact after_eq m c ⟨n, hp⟩ t ht h0
      unfold Leaves
      by_cases h1 : t.val < 36
      · have hd : back (dir t.val) = false := by simp [dir, h1, back]
        rw [outsAt0_B m c t h0 h1 (by omega), Block.out_B, Block.kept_B, Block.next_B, hs, hd]
      · have hd : back (dir t.val) = true := by simp [dir, h1, back]
        rw [outsAt0_D m c t h0 h1 (by omega), Block.out_D, Block.kept_D, Block.next_D, hs, hd]

/-- The array of outputs. -/
theorem arr4 : (dats m 0 c).arrAt 4 cfg0.N = outputs (projs m c) (gateArr m c) := by
  refine (dats m 0 c).arrAt_eq_of_covers 4 _ (by decide +kernel) fun t hf y => ?_
  have hl := leaves m c t.val t rfl
  unfold Leaves at hl
  blk_simp
  rw [after0_4, hl]
  have hb := (idx t).2.2.2.2.2.2
  idx_vars y
  have he : ((View.whole main_v0_0).slice (win0_4.rect t)).emb (ix3 y0 y1 y2)
      = ix3 y0 (pos (blk t.val) y1) ⟨1024 * (dir t.val).val + y2.val, by omega⟩ := by
    blk_ext [idx t, pos]
  rw [he, outputs_at _ _ _ _ _ hb]
  unfold outOf
  show out _ (blockQ (X0_0 m c t) y0 (vhead y2)) (blockK (X0_1 m c t) y0 (vhead y2)) (blockK (iblk m c 3 t) y0 (vhead y2))
    (blockV (X0_2 m c t) y0 (vhead y2)) (before m c t.val y0 (vhead y2)) y1 (vpart y2) = _
  have ht : t.val < 72 := t.isLt
  rw [readQ, readK, readG, readV, show place (dir t.val) (blk t.val) = t.val % 36 from place_place _ _ (by omega)]
  rfl

/-- The array of states. -/
theorem arr5 : (dats m 0 c).arrAt 5 cfg0.N = allStates (projs m c) (gateArr m c) := by
  refine (dats m 0 c).arrAt_eq_of_covers 5 _ (by decide +kernel) fun t hf y => ?_
  have hl := leaves m c t.val t rfl
  unfold Leaves at hl
  blk_simp
  rw [after0_5, hl]
  have hb := (idx t).2.2.2.2.2.2
  idx_vars y
  have ht : t.val < 72 := t.isLt
  have he : ((View.whole main_v0_1).slice (win0_5.rect t)).emb (ix6 y0 y1 y2 y3 y4 y5)
      = ix6 y0 (dir t.val) ⟨t.val % 36, by omega⟩ y3 y4 y5 := by
    blk_ext [idx t]
  rw [he]
  rfl

end Cert.FwdIdeal.Arrays
-- ==== Proof.Windows.lean ====
/-
  The host's running sum (`cumsum`, printed as a window sum) along the 64 positions of a chunk, read at an index over the
  extended reals; and a block of a stack of arrays read and replaced at a position that a loop counts.
-/
module

public import Idealize.ShloMosaic.Lib.Pointwise
public import Idealize.ShloMosaic.Lib.WordCmp

@[expose] public section

set_option maxRecDepth 16384

noncomputable section

open Idealize.ShloMosaic Idealize.ShloMosaic.TcCoe

namespace Cert.Gla

/-- Per direction and batch entry, head, position of a chunk, lane. -/
abbrev Heads : Shape := ⟨4, ![4, 4, 64, 128]⟩

/-- One window of a running sum: all 64 positions. -/
abbrev Win : Shape := ⟨4, ![1, 1, 64, 1]⟩

/-- The positions of a window. -/
def winEquiv : Fin 64 ≃ Win.Idx where
  toFun k := ix4 (0 : Fin 1) (0 : Fin 1) k (0 : Fin 1)
  invFun i := i 2
  left_inv k := rfl
  right_inv i := by
    funext a
    fin_cases a
    · exact Subsingleton.elim (α := Fin 1) _ _
    · exact Subsingleton.elim (α := Fin 1) _ _
    · rfl
    · exact Subsingleton.elim (α := Fin 1) _ _

theorem foldl_add_list {n : ℕ} (g : Fin n → EReal) (l : List (Fin n)) : ∀ v : EReal, l.foldl (fun r k => r + g k) v = v + (l.map g).sum := by
  induction l with
  | nil => intro v; simp
  | cons a l ih => intro v; rw [List.foldl_cons, ih, List.map_cons, List.sum_cons, add_assoc]

theorem foldl_add_sum {n : ℕ} (g : Fin n → EReal) (v : EReal) :
    (List.finRange n).foldl (fun r k => r + g k) v = v + ∑ k, g k := by
  rw [foldl_add_list, Fin.sum_univ_def]

theorem window_sum (lo hi : Fin 4 → ℕ) (x : FVec Ideal Heads .f32) (v : EReal)
    (h : Heads.ReduceWindows ![1, 1, 64, 1] ![1, 1, 1, 1] lo hi Heads) (j : Heads.Idx) :
    Ideal.hostReduceWindowAdd ![1, 1, 64, 1] ![1, 1, 1, 1] lo hi h x v j
      = v + ∑ k : Fin 64, (if hin : ∀ a : Fin Heads.rank, lo a ≤ (j a).val * (![1, 1, 1, 1] : Fin 4 → ℕ) a + (winEquiv k a).val ∧ (j a).val * (![1, 1, 1, 1] : Fin 4 → ℕ) a + (winEquiv k a).val - lo a < Heads.size a
          then x (fun a => ⟨(j a).val * (![1, 1, 1, 1] : Fin 4 → ℕ) a + (winEquiv k a).val - lo a, (hin a).2⟩) else v) := by
  have e : Ideal.hostReduceWindowAdd ![1, 1, 64, 1] ![1, 1, 1, 1] lo hi h x v j
      = (List.finRange Win.numel).foldl (fun r n => r + (if hin : ∀ a : Fin Heads.rank, lo a ≤ (j a).val * (![1, 1, 1, 1] : Fin 4 → ℕ) a + (Win.rowMajor.symm n a).val ∧ (j a).val * (![1, 1, 1, 1] : Fin 4 → ℕ) a + (Win.rowMajor.symm n a).val - lo a < Heads.size a
          then x (fun a => ⟨(j a).val * (![1, 1, 1, 1] : Fin 4 → ℕ) a + (Win.rowMajor.symm n a).val - lo a, (hin a).2⟩) else v)) v := by
    unfold Ideal.hostReduceWindowAdd Host.reduceWindow
    dsimp only
    refine congrArg (fun f => List.foldl f v _) (funext fun r => funext fun n => congrArg (r + ·) ?_)
    by_cases hin : ∀ a : Fin Heads.rank, lo a ≤ (j a).val * (![1, 1, 1, 1] : Fin 4 → ℕ) a + (Win.rowMajor.symm n a).val ∧ (j a).val * (![1, 1, 1, 1] : Fin 4 → ℕ) a + (Win.rowMajor.symm n a).val - lo a < Heads.size a
    · refine (dif_pos hin).trans (Eq.symm ?_)
      exact dif_pos hin
    · refine (dif_neg hin).trans (Eq.symm ?_)
      exact dif_neg hin
  rw [e, foldl_add_sum]
  refine congrArg (v + ·) ?_
  refine (Fintype.sum_equiv (winEquiv.trans Win.rowMajor) _ _ fun k => ?_).symm
  simp only [Equiv.trans_apply, Equiv.symm_apply_apply]

/-- THE RUNNING SUM: at position `r`, the sum of the positions up to `r`. -/
theorem cumsum_apply (x : FVec Ideal Heads .f32) (h : Heads.ReduceWindows ![1, 1, 64, 1] ![1, 1, 1, 1] ![0, 0, 63, 0] ![0, 0, 0, 0] Heads)
    (b n : Fin 4) (r : Fin 64) (c : Fin 128) :
    Ideal.hostReduceWindowAdd ![1, 1, 64, 1] ![1, 1, 1, 1] ![0, 0, 63, 0] ![0, 0, 0, 0] h x 0 (ix4 b n r c)
      = ∑ k : Fin 64, if k ≤ r then x (ix4 b n k c) else 0 := by
  rw [window_sum, zero_add, ← Finset.sum_filter]
  have hz : ∀ k : Fin 64, ¬ 63 ≤ r.val + k.val → (if hin : ∀ a : Fin 4, (![0, 0, 63, 0] : Fin 4 → ℕ) a ≤ (ix4 b n r c a).val * (![1, 1, 1, 1] : Fin 4 → ℕ) a + (winEquiv k a).val ∧ (ix4 b n r c a).val * (![1, 1, 1, 1] : Fin 4 → ℕ) a + (winEquiv k a).val - (![0, 0, 63, 0] : Fin 4 → ℕ) a < Heads.size a
          then x (fun a => ⟨(ix4 b n r c a).val * (![1, 1, 1, 1] : Fin 4 → ℕ) a + (winEquiv k a).val - (![0, 0, 63, 0] : Fin 4 → ℕ) a, (hin a).2⟩) else (0 : EReal)) = 0 := by
    intro k hk
    refine dif_neg fun hin => hk ?_
    have : 63 ≤ r.val * 1 + k.val := (hin 2).1
    omega
  rw [← Finset.sum_filter_add_sum_filter_not Finset.univ (fun k : Fin 64 => 63 ≤ r.val + k.val),
    Finset.sum_eq_zero (s := Finset.univ.filter fun k : Fin 64 => ¬ 63 ≤ r.val + k.val) (fun k hk => hz k (Finset.mem_filter.mp hk).2), add_zero]
  refine Finset.sum_nbij' (fun k => ⟨(r.val + k.val - 63) % 64, Nat.mod_lt _ (by decide)⟩) (fun k => ⟨(k.val + 63 - r.val) % 64, Nat.mod_lt _ (by decide)⟩) ?_ ?_ ?_ ?_ ?_
  all_goals simp only [Finset.mem_filter, Finset.mem_univ, true_and]
  · intro k hk; exact Fin.le_def.mpr (by show (r.val + k.val - 63) % 64 ≤ r.val; omega)
  · intro k hk; have := Fin.le_def.mp hk; show 63 ≤ r.val + (k.val + 63 - r.val) % 64; omega
  · intro k hk; exact Fin.ext (by show ((r.val + k.val - 63) % 64 + 63 - r.val) % 64 = k.val; omega)
  · intro k hk; have := Fin.le_def.mp hk; exact Fin.ext (by show (r.val + (k.val + 63 - r.val) % 64 - 63) % 64 = k.val; omega)
  · intro k hk
    rw [dif_pos]
    · refine congrArg x (funext fun a => Fin.ext ?_)
      fin_cases a
      · show b.val * 1 + 0 - 0 = b.val; omega
      · show n.val * 1 + 0 - 0 = n.val; omega
      · show r.val * 1 + k.val - 63 = (r.val + k.val - 63) % 64; omega
      · show c.val * 1 + 0 - 0 = c.val; omega
    · intro a
      have := r.isLt
      have := k.isLt
      have := b.isLt
      have := n.isLt
      have := c.isLt
      fin_cases a
      · show 0 ≤ b.val * 1 + 0 ∧ b.val * 1 + 0 - 0 < 4; omega
      · show 0 ≤ n.val * 1 + 0 ∧ n.val * 1 + 0 - 0 < 4; omega
      · show 63 ≤ r.val * 1 + k.val ∧ r.val * 1 + k.val - 63 < 64; omega
      · show 0 ≤ c.val * 1 + 0 ∧ c.val * 1 + 0 - 0 < 128; omega

/-- THE RUNNING SUM FROM THE END: at position `r`, the sum of the positions from `r` on. -/
theorem revCumsum_apply (x : FVec Ideal Heads .f32) (h : Heads.ReduceWindows ![1, 1, 64, 1] ![1, 1, 1, 1] ![0, 0, 0, 0] ![0, 0, 63, 0] Heads)
    (b n : Fin 4) (r : Fin 64) (c : Fin 128) :
    Ideal.hostReduceWindowAdd ![1, 1, 64, 1] ![1, 1, 1, 1] ![0, 0, 0, 0] ![0, 0, 63, 0] h x 0 (ix4 b n r c)
      = ∑ k : Fin 64, if r ≤ k then x (ix4 b n k c) else 0 := by
  rw [window_sum, zero_add, ← Finset.sum_filter]
  have hz : ∀ k : Fin 64, ¬ r.val + k.val < 64 → (if hin : ∀ a : Fin 4, (![0, 0, 0, 0] : Fin 4 → ℕ) a ≤ (ix4 b n r c a).val * (![1, 1, 1, 1] : Fin 4 → ℕ) a + (winEquiv k a).val ∧ (ix4 b n r c a).val * (![1, 1, 1, 1] : Fin 4 → ℕ) a + (winEquiv k a).val - (![0, 0, 0, 0] : Fin 4 → ℕ) a < Heads.size a
          then x (fun a => ⟨(ix4 b n r c a).val * (![1, 1, 1, 1] : Fin 4 → ℕ) a + (winEquiv k a).val - (![0, 0, 0, 0] : Fin 4 → ℕ) a, (hin a).2⟩) else (0 : EReal)) = 0 := by
    intro k hk
    refine dif_neg fun hin => hk ?_
    have : r.val * 1 + k.val - 0 < 64 := (hin 2).2
    omega
  rw [← Finset.sum_filter_add_sum_filter_not Finset.univ (fun k : Fin 64 => r.val + k.val < 64),
    Finset.sum_eq_zero (s := Finset.univ.filter fun k : Fin 64 => ¬ r.val + k.val < 64) (fun k hk => hz k (Finset.mem_filter.mp hk).2), add_zero]
  refine Finset.sum_nbij' (fun k => ⟨(r.val + k.val) % 64, Nat.mod_lt _ (by decide)⟩) (fun k => ⟨(k.val - r.val) % 64, Nat.mod_lt _ (by decide)⟩) ?_ ?_ ?_ ?_ ?_
  all_goals simp only [Finset.mem_filter, Finset.mem_univ, true_and]
  · intro k hk; exact Fin.le_def.mpr (by show r.val ≤ (r.val + k.val) % 64; omega)
  · intro k hk; have := Fin.le_def.mp hk; show r.val + (k.val - r.val) % 64 < 64; omega
  · intro k hk; exact Fin.ext (by show ((r.val + k.val) % 64 - r.val) % 64 = k.val; omega)
  · intro k hk; have := Fin.le_def.mp hk; exact Fin.ext (by show (r.val + (k.val - r.val) % 64) % 64 = k.val; omega)
  · intro k hk
    rw [dif_pos]
    · refine congrArg x (funext fun a => Fin.ext ?_)
      fin_cases a
      · show b.val * 1 + 0 - 0 = b.val; omega
      · show n.val * 1 + 0 - 0 = n.val; omega
      · show r.val * 1 + k.val - 0 = (r.val + k.val) % 64; omega
      · show c.val * 1 + 0 - 0 = c.val; omega
    · intro a
      have := r.isLt
      have := k.isLt
      have := b.isLt
      have := n.isLt
      have := c.isLt
      fin_cases a
      · show 0 ≤ b.val * 1 + 0 ∧ b.val * 1 + 0 - 0 < 4; omega
      · show 0 ≤ n.val * 1 + 0 ∧ n.val * 1 + 0 - 0 < 4; omega
      · show 0 ≤ r.val * 1 + k.val ∧ r.val * 1 + k.val - 0 < 64; omega
      · show 0 ≤ c.val * 1 + 0 ∧ c.val * 1 + 0 - 0 < 128; omega

/-! ## A block of a stack at a counted position -/

variable {α : Type}

/-- Entry `p` of a stack of 36 arrays. -/
theorem stack_read {a b : ℕ} (x : (⟨5, ![36, 4, 4, a, b]⟩ : Shape).Idx → α) (start : Fin 5 → Int)
    (h : (⟨5, ![36, 4, 4, a, b]⟩ : Shape).Slices (fun _ => 0) ⟨5, ![1, 4, 4, a, b]⟩) (p : Fin 36)
    (e0 : start 0 = (p.val : Int)) (e : ∀ k : Fin 5, k ≠ 0 → start k = 0) (o : Fin 1) (i j : Fin 4) (r : Fin a) (c : Fin b) :
    Host.dynamicSlice ⟨5, ![1, 4, 4, a, b]⟩ x start h (ix5 o i j r c) = x (ix5 p i j r c) := by
  have hk : (⟨5, ![36, 4, 4, a, b]⟩ : Shape).Slices ![p.val, 0, 0, 0, 0] ⟨5, ![1, 4, 4, a, b]⟩ :=
    ⟨rfl, fun k => by
      have := p.isLt
      fin_cases k
      · show p.val + 1 ≤ 36; omega
      · show 0 + 4 ≤ 4; omega
      · show 0 + 4 ≤ 4; omega
      · show 0 + a ≤ a; omega
      · show 0 + b ≤ b; omega⟩
  rw [WordCmp.dynamicSlice_eq_extract _ x start h ![p.val, 0, 0, 0, 0] hk (fun k => by
    fin_cases k
    · exact e0
    · exact e 1 (by decide)
    · exact e 2 (by decide)
    · exact e 3 (by decide)
    · exact e 4 (by decide))]
  unfold extractStridedSlice
  refine congrArg x (funext fun k => Fin.ext ?_)
  have := o.isLt
  fin_cases k
  · show p.val + o.val = p.val; omega
  · show 0 + i.val = i.val; omega
  · show 0 + j.val = j.val; omega
  · show 0 + r.val = r.val; omega
  · show 0 + c.val = c.val; omega

/-- The same, without the axis of one. -/
theorem entry_of {a b : ℕ} (x : (⟨5, ![36, 4, 4, a, b]⟩ : Shape).Idx → α) (start : Fin 5 → Int)
    (h : (⟨5, ![36, 4, 4, a, b]⟩ : Shape).Slices (fun _ => 0) ⟨5, ![1, 4, 4, a, b]⟩) (p : Fin 36)
    (e0 : start 0 = (p.val : Int)) (e : ∀ k : Fin 5, k ≠ 0 → start k = 0) (i j : Fin 4) (r : Fin a) (c : Fin b)
    (hs : (⟨5, ![1, 4, 4, a, b]⟩ : Shape).ShapeCasts ⟨4, ![4, 4, a, b]⟩)
    (hd : ∀ y : (⟨5, ![1, 4, 4, a, b]⟩ : Shape).Idx → α, shapeCast ⟨4, ![4, 4, a, b]⟩ y hs (ix4 i j r c) = y (ix5 0 i j r c) := by intro y; pointwise) :
    shapeCast ⟨4, ![4, 4, a, b]⟩ (Host.dynamicSlice ⟨5, ![1, 4, 4, a, b]⟩ x start h) hs (ix4 i j r c) = x (ix5 p i j r c) := by
  rw [hd]
  exact stack_read x start h p e0 e 0 i j r c

/-- Entry `p` of a stack of 36 arrays replaced. -/
theorem stack_write {a b : ℕ} (x : (⟨5, ![36, 4, 4, a, b]⟩ : Shape).Idx → α) (u : (⟨5, ![1, 4, 4, a, b]⟩ : Shape).Idx → α) (start : Fin 5 → Int)
    (h : (⟨5, ![36, 4, 4, a, b]⟩ : Shape).Slices (fun _ => 0) ⟨5, ![1, 4, 4, a, b]⟩) (p : Fin 36)
    (e0 : start 0 = (p.val : Int)) (e : ∀ k : Fin 5, k ≠ 0 → start k = 0) (o : Fin 36) (i j : Fin 4) (r : Fin a) (c : Fin b) :
    Host.dynamicUpdateSlice x u start h (ix5 o i j r c) = if o = p then u (ix5 0 i j r c) else x (ix5 o i j r c) := by
  have hk : (⟨5, ![36, 4, 4, a, b]⟩ : Shape).Slices ![p.val, 0, 0, 0, 0] ⟨5, ![1, 4, 4, a, b]⟩ :=
    ⟨rfl, fun k => by
      have := p.isLt
      fin_cases k
      · show p.val + 1 ≤ 36; omega
      · show 0 + 4 ≤ 4; omega
      · show 0 + 4 ≤ 4; omega
      · show 0 + a ≤ a; omega
      · show 0 + b ≤ b; omega⟩
  rw [WordCmp.dynamicUpdateSlice_eq_update x u start h ![p.val, 0, 0, 0, 0] hk (fun k => by
    fin_cases k
    · exact e0
    · exact e 1 (by decide)
    · exact e 2 (by decide)
    · exact e 3 (by decide)
    · exact e 4 (by decide)), updateSlice_apply]
  by_cases ho : o = p
  · subst ho
    rw [if_pos rfl, dif_pos]
    · refine congrArg u (funext fun k => Fin.ext ?_)
      fin_cases k
      · show o.val - o.val = 0; omega
      · rfl
      · rfl
      · rfl
      · rfl
    · intro k
      have := i.isLt
      have := j.isLt
      have := r.isLt
      have := c.isLt
      fin_cases k
      · show o.val ≤ o.val ∧ o.val < o.val + 1; omega
      · show 0 ≤ i.val ∧ i.val < 0 + 4; omega
      · show 0 ≤ j.val ∧ j.val < 0 + 4; omega
      · show 0 ≤ r.val ∧ r.val < 0 + a; omega
      · show 0 ≤ c.val ∧ c.val < 0 + b; omega
  · rw [if_neg ho, dif_neg]
    intro hin
    have h0 : p.val ≤ o.val ∧ o.val < p.val + 1 := hin 0
    exact ho (Fin.ext (by omega))

end Cert.Gla

end
-- ==== Proof.Reversal.lean ====
/-
  A chunk read backwards is the reversed chunk read forwards.
-/
module

public import proofs.«01_k».proof.Proof.Spec

@[expose] public section

set_option maxRecDepth 16384

noncomputable section

open Idealize.ShloMosaic Idealize.ShloMosaic.TcCoe

namespace Cert.Gla

/-- The rows in the order of the scan. -/
def scanned (back : Bool) {α : Type} (x : Fin 64 → α) : Fin 64 → α := fun r => x (row back r)

theorem sum_row (back : Bool) (f : Fin 64 → EReal) : ∑ j, f (row back j) = ∑ j, f j := by
  cases back
  · rfl
  · exact Equiv.sum_comp Fin.revPerm f

theorem le_row (back : Bool) (j r : Fin 64) : le back (row back j) (row back r) ↔ le false j r := by
  cases back
  · exact Iff.rfl
  · exact Fin.rev_le_rev

theorem row_row (back : Bool) (r : Fin 64) : row back (row back r) = r := by
  cases back
  · rfl
  · exact Fin.rev_rev r

/-- The sum up to the last row is the sum. -/
theorem cum_last (g : Keys) (c : Fin 128) : cum false g 63 c = tot g c :=
  Finset.sum_congr rfl fun j _ => if_pos (Fin.le_last j)

variable (back : Bool) (q k g : Keys) (v o : Vals) (s ds : State)

theorem cum_scanned (r : Fin 64) (c : Fin 128) : cum false (scanned back g) r c = cum back g (row back r) c := by
  unfold cum
  rw [← sum_row back (fun j => if le back j (row back r) then g j c else 0)]
  exact Finset.sum_congr rfl fun j _ => if_congr (le_row back j r).symm rfl rfl

theorem tot_scanned (c : Fin 128) : tot (scanned back g) c = tot g c := sum_row back fun j => g j c

theorem qs_scanned (r : Fin 64) (c : Fin 128) : qs false (scanned back q) (scanned back g) r c = qs back q g (row back r) c := by
  unfold qs
  rw [cum_scanned]
  rfl

theorem ks_scanned (r : Fin 64) (c : Fin 128) : ks false (scanned back k) (scanned back g) r c = ks back k g (row back r) c := by
  unfold ks
  rw [cum_scanned]
  rfl

theorem kd_scanned (r : Fin 64) (c : Fin 128) : kd false (scanned back k) (scanned back g) r c = kd back k g (row back r) c := by
  unfold kd
  rw [cum_scanned, tot_scanned]
  rfl

theorem att_scanned (r j : Fin 64) :
    att false (scanned back q) (scanned back k) (scanned back g) r j = att back q k g (row back r) (row back j) := by
  unfold att
  simp only [qs_scanned, ks_scanned]
  exact if_congr (le_row back j r).symm rfl rfl

theorem out_scanned (r : Fin 64) (x : Fin 256) :
    out false (scanned back q) (scanned back k) (scanned back g) (scanned back v) s r x = out back q k g v s (row back r) x := by
  unfold out
  simp only [qs_scanned, att_scanned]
  exact congrArg _ (sum_row back fun j => att back q k g (row back r) j * v j x)

theorem next_scanned (c : Fin 128) (x : Fin 256) :
    next false (scanned back k) (scanned back g) (scanned back v) s c x = next back k g v s c x := by
  unfold next
  simp only [kd_scanned, tot_scanned]
  exact congrArg _ (sum_row back fun j => kd back k g j c * v j x)

/-! ## The gradients -/

theorem datt_scanned (r j : Fin 64) : datt false (scanned back v) (scanned back o) r j = datt back v o (row back r) (row back j) := by
  unfold datt
  exact if_congr (le_row back j r).symm rfl rfl

theorem dqs_scanned (r : Fin 64) (c : Fin 128) :
    dqs false (scanned back k) (scanned back g) (scanned back v) (scanned back o) s r c = dqs back k g v o s (row back r) c := by
  unfold dqs
  simp only [datt_scanned, ks_scanned]
  exact congrArg _ (sum_row back fun j => datt back v o (row back r) j * ks back k g j c)

theorem dks_scanned (j : Fin 64) (c : Fin 128) :
    dks false (scanned back q) (scanned back g) (scanned back v) (scanned back o) j c = dks back q g v o (row back j) c := by
  unfold dks
  simp only [datt_scanned, qs_scanned]
  exact sum_row back fun r => datt back v o r (row back j) * qs back q g r c

theorem dkd_scanned (j : Fin 64) (c : Fin 128) : dkd (scanned back v) ds j c = dkd v ds (row back j) c := rfl

theorem dq_scanned (r : Fin 64) (c : Fin 128) :
    dq false (scanned back k) (scanned back g) (scanned back v) (scanned back o) s r c = dq back k g v o s (row back r) c := by
  unfold dq
  rw [dqs_scanned, cum_scanned]

theorem dk_scanned (r : Fin 64) (c : Fin 128) :
    dk false (scanned back q) (scanned back g) (scanned back v) (scanned back o) ds r c = dk back q g v o ds (row back r) c := by
  unfold dk
  rw [dks_scanned, cum_scanned, tot_scanned, dkd_scanned]

theorem dv_scanned (j : Fin 64) (x : Fin 256) :
    dv false (scanned back q) (scanned back k) (scanned back g) (scanned back o) ds j x = dv back q k g o ds (row back j) x := by
  unfold dv
  simp only [att_scanned, kd_scanned]
  exact congrArg (· + _) (sum_row back fun r => att back q k g r (row back j) * o r x)

theorem dprev_scanned (c : Fin 128) (x : Fin 256) :
    dprev false (scanned back q) (scanned back g) (scanned back o) ds c x = dprev back q g o ds c x := by
  unfold dprev
  simp only [qs_scanned, tot_scanned]
  exact congrArg (· + _) (sum_row back fun r => o r x * qs back q g r c)

theorem db_scanned : db false (scanned back q) (scanned back k) (scanned back g) (scanned back v) (scanned back o) s ds
    = scanned back (db back q k g v o s ds) := by
  funext r c
  unfold db
  rw [dqs_scanned, dks_scanned, dkd_scanned, qs_scanned, ks_scanned, kd_scanned]
  rfl

theorem dbl_scanned (c : Fin 128) :
    dbl false (scanned back k) (scanned back g) (scanned back v) s ds c = dbl back k g v s ds c := by
  unfold dbl
  simp only [dkd_scanned, kd_scanned, tot_scanned]
  exact congrArg (· + _) (sum_row back fun j => dkd v ds j c * kd back k g j c)

/-- The order turned round. -/
theorem le_not (j r : Fin 64) : le (!back) j r ↔ le back r j := by
  cases back <;> exact Iff.rfl

theorem revcum_scanned (r : Fin 64) (c : Fin 128) : cum true (scanned back g) r c = cum (!back) g (row back r) c := by
  unfold cum
  rw [← sum_row back (fun j => if le (!back) j (row back r) then g j c else 0)]
  exact Finset.sum_congr rfl fun j _ => if_congr ((le_not false j r).trans ((le_row back r j).symm.trans (le_not back _ _).symm)) rfl rfl

theorem dla_scanned (r : Fin 64) (c : Fin 128) :
    dla false (scanned back q) (scanned back k) (scanned back g) (scanned back v) (scanned back o) s ds r c = dla back q k g v o s ds (row back r) c := by
  unfold dla
  rw [db_scanned, dbl_scanned]
  exact congrArg (· + _) (revcum_scanned back _ r c)

end Cert.Gla
-- ==== Proof.FwdRefStep.lean ====
/-
  One trip of the forward reference's loop, read at an index: one chunk of `Spec`, for each of the four sequences.
-/
module

public import proofs.«01_k».proof.Proof.Gen.FwdRefIdeal.Run
public import proofs.«01_k».proof.Proof.Windows
public import proofs.«01_k».proof.Proof.Reversal

@[expose] public section

set_option maxRecDepth 16384

noncomputable section

open Idealize.ShloMosaic Idealize.ShloMosaic.TcCoe
open Cert.FwdRefIdeal Cert.FwdRefIdeal.Gen Cert.FwdRefIdeal.Value Cert.Gla

namespace Cert.FwdRefIdeal.Trip

variable (V : Valuation τ sig (Elt Ideal)) (p : Fin 36) (b h : Fin 4)

/-- The loop's arrays of queries, keys, values, gates and states. -/
abbrev qStack : FVec Ideal S36x4x4x64x128 .f32 := V (Proc.devRef .tc main_v36_0)
abbrev kStack : FVec Ideal S36x4x4x64x128 .f32 := V (Proc.devRef .tc main_v36_1)
abbrev vStack : FVec Ideal S36x4x4x64x256 .f32 := V (Proc.devRef .tc main_v36_2)
abbrev gStack : FVec Ideal S36x4x4x64x128 .f32 := V (Proc.devRef .tc main_v36_3)
abbrev stateArr : FVec Ideal S4x4x128x256 .f32 := V (Proc.devRef .tc main_v36_5)

def q : Keys := fun r c => qStack V (ix5 p b h r c)
def k : Keys := fun r c => kStack V (ix5 p b h r c)
def v : Vals := fun r c => vStack V (ix5 p b h r c)
def g : Keys := fun r c => gStack V (ix5 p b h r c)
def s : State := fun c x => stateArr V (ix4 b h c x)

/-- The comparison of positions, as bits. -/
theorem causal_bits (r j : Fin 64) :
    Scalar.select (IntOp.cmpi CmpIPredicate.sge (IntOp.addi (BitVec.ofNat 32 r.val) 0#32) (BitVec.ofNat 32 j.val)) (1#1) (0#1)
      = if le false j r then 1#1 else 0#1 :=
  (by decide +kernel : ∀ r j : Fin 64, Scalar.select (IntOp.cmpi CmpIPredicate.sge (IntOp.addi (BitVec.ofNat 32 r.val) 0#32) (BitVec.ofNat 32 j.val)) (1#1) (0#1)
      = if le false j r then 1#1 else 0#1) r j

variable {V p} (hp : V (Proc.devRef .tc main_v36_4) = fun _ => BitVec.ofNat 32 p.val)
include hp

theorem start0 : ((V (Proc.devRef .tc main_v36_4) : IVec S_ 32) (Shape.Idx.first h_S_)).toInt = (p.val : Int) := by
  rw [hp]
  exact (by decide +kernel : ∀ p : Fin 36, (BitVec.ofNat 32 p.val).toInt = (p.val : Int)) p

theorem k_at (r : Fin 64) (c : Fin 128) : res_main_while0b_v50 V (ix4 b h r c) = k V p b h r c :=
  entry_of _ _ _ p (start0 hp) (fun k hk => by fin_cases k <;> first | exact absurd rfl hk | rfl) b h r c _

theorem v_at (r : Fin 64) (c : Fin 256) : res_main_while0b_v51 V (ix4 b h r c) = v V p b h r c :=
  entry_of _ _ _ p (start0 hp) (fun k hk => by fin_cases k <;> first | exact absurd rfl hk | rfl) b h r c _

theorem cum_at (r : Fin 64) (c : Fin 128) : res_main_while0b_v55 V (ix4 b h r c) = cum false (g V p b h) r c := by
  have hz : (broadcastInDim S_ ![] bcast_S_S_ (constant (F := Ideal) S_ .f32 0x00000000#32)) (Shape.Idx.first h_S_) = 0 := by pointwise
  unfold res_main_while0b_v55 Host.reduceWindowAdd
  rw [Ideal.hostReduceWindowAdd_def, hz]
  refine (cumsum_apply _ _ b h r c).trans (Finset.sum_congr rfl fun j _ => if_congr Iff.rfl ?_ rfl)
  exact entry_of _ _ _ p (start0 hp) (fun k hk => by fin_cases k <;> first | exact absurd rfl hk | rfl) b h j c _

theorem total_at (c : Fin 128) : res_main_while0b_v56 V (ix4 b h 0 c) = tot (g V p b h) c := by
  rw [← cum_last, ← cum_at b h hp]
  pointwise [res_main_while0b_v56]

theorem qs_at (r : Fin 64) (c : Fin 128) : res_main_while0b_v58 V (ix4 b h r c) = qs false (q V p b h) (g V p b h) r c := by
  unfold qs
  rw [← cum_at b h hp]
  unfold res_main_while0b_v58
  generalize res_main_while0b_v55 V = B
  refine congrArg (· * Ideal.exp (B (ix4 b h r c))) ?_
  exact entry_of _ _ _ p (start0 hp) (fun k hk => by fin_cases k <;> first | exact absurd rfl hk | rfl) b h r c _

/-- The next states. -/
theorem next_at (c : Fin 128) (x : Fin 256) :
    step_main_v36_5 V (ix4 b h c x) = next false (k V p b h) (g V p b h) (v V p b h) (s V b h) c x := by
  unfold step_main_v36_5
  have hT := total_at b h hp
  have hC := cum_at b h hp
  have hK := k_at b h hp
  have hV := v_at b h hp
  generalize res_main_while0b_v56 V = T at hT ⊢
  generalize res_main_while0b_v55 V = B at hC ⊢
  generalize res_main_while0b_v50 V = K at hK ⊢
  generalize res_main_while0b_v51 V = W at hV ⊢
  rw [id_eq]
  pointwise
  simp only [hT, hC, hK, hV]
  rfl

theorem outStep_at (n : Fin 36) (r : Fin 64) (x : Fin 256) :
    step_main_v36_6 V (ix5 n b h r x) = if n = p then out false (q V p b h) (k V p b h) (g V p b h) (v V p b h) (s V b h) r x
      else (V (Proc.devRef .tc main_v36_6) : FVec Ideal S36x4x4x64x256 .f32) (ix5 n b h r x) := by
  unfold step_main_v36_6
  refine (stack_write _ _ _ _ p (start0 hp) (fun k hk => by fin_cases k <;> first | exact absurd rfl hk | rfl) n b h r x).trans (if_congr Iff.rfl ?_ rfl)
  have hQ := qs_at b h hp
  have hC := cum_at b h hp
  have hK := k_at b h hp
  have hV := v_at b h hp
  generalize res_main_while0b_v58 V = T at hQ ⊢
  generalize res_main_while0b_v55 V = B at hC ⊢
  generalize res_main_while0b_v50 V = K at hK ⊢
  generalize res_main_while0b_v51 V = W at hV ⊢
  rw [id_eq]
  pointwise
  simp only [hQ, hC, hK, hV, causal_bits, ← zero_sub]
  unfold out att
  refine congrArg₂ (· + ·) rfl (Finset.sum_congr rfl fun j _ => ?_)
  split
  · rfl
  · exact (zero_mul _).symm

theorem stateStep_at (n : Fin 36) (c : Fin 128) (x : Fin 256) :
    step_main_v36_7 V (ix5 n b h c x) = if n = p then s V b h c x
      else (V (Proc.devRef .tc main_v36_7) : FVec Ideal S36x4x4x128x256 .f32) (ix5 n b h c x) := by
  unfold step_main_v36_7
  refine (stack_write _ _ _ _ p (start0 hp) (fun k hk => by fin_cases k <;> first | exact absurd rfl hk | rfl) n b h c x).trans (if_congr Iff.rfl ?_ rfl)
  pointwise
  rfl

end Cert.FwdRefIdeal.Trip
-- ==== Proof.FwdRefEntry.lean ====
/-
  What the forward reference's loop starts from: the four sequences, cut into chunks.
-/
module

public import proofs.«01_k».proof.Proof.Gen.FwdRefIdeal.Run
public import proofs.«01_k».proof.Proof.Seq

@[expose] public section

set_option maxRecDepth 16384

noncomputable section

open Idealize.ShloMosaic Idealize.ShloMosaic.TcCoe
open Idealize.ShloMosaic.StableHlo
open Cert.FwdRefIdeal Cert.FwdRefIdeal.Gen Cert.FwdRefIdeal.Value Cert.Gla

namespace Cert.FwdRefIdeal.Entry

variable (m : (ℓ : Loc nD τ sig) → Buf (Elt Ideal) ℓ) (c : Dev nD)

abbrev projs : Proj := m ((c.tc : Thread nD τ).loc main_arg0)
abbrev gateArr : Gates := m ((c.tc : Thread nD τ).loc main_arg1)

/-- The projections, and a copy in the order of the backward scan, one batch. -/
def wide (a : FVec Ideal S2x2304x3200 .bf16) : FVec Ideal S2x2304x2048 .f32 :=
  extf .f32 (extractStridedSlice S2x2304x2048 ![0, 0, 0] a slices_S2x2304x3200_S2x2304x2048_0_0_0) bitsLt_bf16_f32
def wideFlipped (a : FVec Ideal S2x2304x2048 .f32) : FVec Ideal S2x2304x2048 .f32 :=
  concatenate S2x2304x2048 1 [⟨S2x256x2048, Host.reverse [1] (extractStridedSlice S2x256x2048 ![0, 0, 0] a slices_S2x2304x2048_S2x256x2048_0_0_0)⟩,
    ⟨S2x2048x2048, Host.reverse [1] (extractStridedSlice S2x2048x2048 ![0, 256, 0] a slices_S2x2304x2048_S2x2048x2048_0_256_0)⟩] concatenates_S2x256x2048_S2x2048x2048_S2x2304x2048_d1
def wideBoth (a : FVec Ideal S2x2304x2048 .f32) : FVec Ideal S4x2304x2048 .f32 :=
  concatenate S4x2304x2048 0 [⟨S2x2304x2048, a⟩, ⟨S2x2304x2048, wideFlipped a⟩] concatenates_S2x2304x2048_S2x2304x2048_S4x2304x2048_d0

/-- The queries (scaled), chunk by chunk. -/
def qSeq (a : FVec Ideal S4x2304x2048 .f32) : FVec Ideal S36x4x4x64x128 .f32 :=
  transpose S36x4x4x64x128 [1, 0, 3, 2, 4]
    (shapeCast S4x36x64x4x128 (mulf (shapeCast S4x2304x4x128 (extractStridedSlice S4x2304x512 ![0, 0, 0] a slices_S4x2304x2048_S4x2304x512_0_0_0) shapeCasts_S4x2304x512_S4x2304x4x128)
        (broadcastInDim S4x2304x4x128 ![] bcast_S_S4x2304x4x128 (constant S_ .f32 0x3DB504F3#32))) shapeCasts_S4x2304x4x128_S4x36x64x4x128)
    transposes_S4x36x64x4x128_S36x4x4x64x128_1_0_3_2_4

theorem q_entry : (entryContents preI m c (Proc.devRef .tc main_v36_0) : FVec Ideal S36x4x4x64x128 .f32) = qSeq (wideBoth (wide (projs m c))) := by
  simp only [entryContents, afterL_cons, afterL_nil]
  after_reads_simp
  rfl

theorem wideFlipped_at (a : FVec Ideal S2x2304x2048 .f32) (e : Fin 2) (p : Fin 2304) (k : Fin 2048) :
    wideFlipped a (ix3 e p k) = a (ix3 e (flipPos p) k) := by
  pointwise [wideFlipped]
  simp only [List.mem_singleton, flipPos, Fin.val_rev]
  split <;> refine congrArg a ?_ <;> idx_ext <;> simp <;> omega

theorem wideBoth_at (a : FVec Ideal S2x2304x2048 .f32) (b : Fin 4) (n : Fin 36) (r : Fin 64) (k : Fin 2048) :
    wideBoth a (ix3 b ⟨n.val * 64 + r.val, by omega⟩ k) = a (ix3 (entryOf b) (scanPos b n r) k) := by
  have e : wideBoth a (ix3 b ⟨n.val * 64 + r.val, by omega⟩ k) = if h : b.val < 2 then a (ix3 ⟨b.val, h⟩ ⟨n.val * 64 + r.val, by omega⟩ k)
      else wideFlipped a (ix3 ⟨b.val - 2, by omega⟩ ⟨n.val * 64 + r.val, by omega⟩ k) := by
    generalize hF : wideFlipped a = F
    pointwise [wideBoth, hF]
  rw [e]
  split
  · rw [scanPos_first b ‹_›, show (⟨b.val, ‹_›⟩ : Fin 2) = entryOf b from Fin.ext (by simp only [entryOf]; omega)]
  · rw [scanPos_second b ‹_›, wideFlipped_at, show (⟨b.val - 2, by omega⟩ : Fin 2) = entryOf b from Fin.ext (by simp only [entryOf]; omega)]

theorem q_at (a : Proj) (n : Fin 36) (b h : Fin 4) (r : Fin 64) (k : Fin 128) :
    qSeq (wideBoth (wide a)) (ix5 n b h r k) = chunkQ a (entryOf b) h (place (dirOf b) n.val) (row (back (dirOf b)) r) k := by
  have e : ∀ A, qSeq A (ix5 n b h r k) = A (ix3 b ⟨n.val * 64 + r.val, by omega⟩ ⟨h.val * 128 + k.val, by omega⟩) * scale := by
    intro A
    pointwise [qSeq]
  rw [e, wideBoth_at]
  refine congrArg (· * scale) ?_
  pointwise [wide]
  rw [show (⟨h.val * 128 + k.val, by omega⟩ : Fin 3200) = qlane h k from Fin.ext (by simp only [qlane]; omega)]
  rfl

/-- The keys, the values and the gates, chunk by chunk. -/
def kSeq (a : FVec Ideal S4x2304x2048 .f32) : FVec Ideal S36x4x4x64x128 .f32 :=
  transpose S36x4x4x64x128 [1, 0, 3, 2, 4]
    (shapeCast S4x36x64x4x128 (shapeCast S4x2304x4x128 (extractStridedSlice S4x2304x512 ![0, 0, 512] a slices_S4x2304x2048_S4x2304x512_0_0_512) shapeCasts_S4x2304x512_S4x2304x4x128)
      shapeCasts_S4x2304x4x128_S4x36x64x4x128) transposes_S4x36x64x4x128_S36x4x4x64x128_1_0_3_2_4
def vSeq (a : FVec Ideal S4x2304x2048 .f32) : FVec Ideal S36x4x4x64x256 .f32 :=
  transpose S36x4x4x64x256 [1, 0, 3, 2, 4]
    (shapeCast S4x36x64x4x256 (shapeCast S4x2304x4x256 (extractStridedSlice S4x2304x1024 ![0, 0, 1024] a slices_S4x2304x2048_S4x2304x1024_0_0_1024) shapeCasts_S4x2304x1024_S4x2304x4x256)
      shapeCasts_S4x2304x4x256_S4x36x64x4x256) transposes_S4x36x64x4x256_S36x4x4x64x256_1_0_3_2_4
def gSeq (a : FVec Ideal S4x2304x512 .f32) : FVec Ideal S36x4x4x64x128 .f32 :=
  transpose S36x4x4x64x128 [1, 0, 3, 2, 4]
    (shapeCast S4x36x64x4x128 (shapeCast S4x2304x4x128 a shapeCasts_S4x2304x512_S4x2304x4x128)
      shapeCasts_S4x2304x4x128_S4x36x64x4x128) transposes_S4x36x64x4x128_S36x4x4x64x128_1_0_3_2_4

/-- The gates of the forward scan and those of the backward scan, the latter in its order. -/
def gFirst (l : FVec Ideal S2x2304x1024 .f32) : FVec Ideal S2x2304x512 .f32 := extractStridedSlice S2x2304x512 ![0, 0, 0] l slices_S2x2304x1024_S2x2304x512_0_0_0
def gSecond (l : FVec Ideal S2x2304x1024 .f32) : FVec Ideal S2x2304x512 .f32 := extractStridedSlice S2x2304x512 ![0, 0, 512] l slices_S2x2304x1024_S2x2304x512_0_0_512
def gFlipped (a : FVec Ideal S2x2304x512 .f32) : FVec Ideal S2x2304x512 .f32 :=
  concatenate S2x2304x512 1 [⟨S2x256x512, Host.reverse [1] (extractStridedSlice S2x256x512 ![0, 0, 0] a slices_S2x2304x512_S2x256x512_0_0_0)⟩,
    ⟨S2x2048x512, Host.reverse [1] (extractStridedSlice S2x2048x512 ![0, 256, 0] a slices_S2x2304x512_S2x2048x512_0_256_0)⟩] concatenates_S2x256x512_S2x2048x512_S2x2304x512_d1
def gBoth (a b : FVec Ideal S2x2304x512 .f32) : FVec Ideal S4x2304x512 .f32 :=
  concatenate S4x2304x512 0 [⟨S2x2304x512, a⟩, ⟨S2x2304x512, gFlipped b⟩] concatenates_S2x2304x512_S2x2304x512_S4x2304x512_d0

theorem k_entry : (entryContents preI m c (Proc.devRef .tc main_v36_1) : FVec Ideal S36x4x4x64x128 .f32) = kSeq (wideBoth (wide (projs m c))) := by
  simp only [entryContents, afterL_cons, afterL_nil]
  after_reads_simp
  rfl

theorem v_entry : (entryContents preI m c (Proc.devRef .tc main_v36_2) : FVec Ideal S36x4x4x64x256 .f32) = vSeq (wideBoth (wide (projs m c))) := by
  simp only [entryContents, afterL_cons, afterL_nil]
  after_reads_simp
  rfl

theorem g_entry : (entryContents preI m c (Proc.devRef .tc main_v36_3) : FVec Ideal S36x4x4x64x128 .f32)
    = gSeq (gBoth (gFirst (gateArr m c)) (gSecond (gateArr m c))) := by
  simp only [entryContents, afterL_cons, afterL_nil]
  after_reads_simp
  rfl

theorem s_entry (b h : Fin 4) (k : Fin 128) (x : Fin 256) :
    (entryContents preI m c (Proc.devRef .tc main_v36_5) : FVec Ideal S4x4x128x256 .f32) (ix4 b h k x) = (0 : EReal) := by
  simp only [entryContents, afterL_cons, afterL_nil]
  after_reads_simp
  simp only [id_eq]
  pointwise

theorem k_at (a : Proj) (n : Fin 36) (b h : Fin 4) (r : Fin 64) (k : Fin 128) :
    kSeq (wideBoth (wide a)) (ix5 n b h r k) = chunkK a (entryOf b) h (place (dirOf b) n.val) (row (back (dirOf b)) r) k := by
  have e : ∀ A, kSeq A (ix5 n b h r k) = A (ix3 b ⟨n.val * 64 + r.val, by omega⟩ ⟨512 + (h.val * 128 + k.val), by omega⟩) := by
    intro A
    pointwise [kSeq]
  rw [e, wideBoth_at]
  pointwise [wide]
  rw [show (⟨512 + (h.val * 128 + k.val), by omega⟩ : Fin 3200) = klane h k from Fin.ext (by simp only [klane]; omega)]
  rfl

theorem v_at (a : Proj) (n : Fin 36) (b h : Fin 4) (r : Fin 64) (x : Fin 256) :
    vSeq (wideBoth (wide a)) (ix5 n b h r x) = chunkV a (entryOf b) h (place (dirOf b) n.val) (row (back (dirOf b)) r) x := by
  have e : ∀ A, vSeq A (ix5 n b h r x) = A (ix3 b ⟨n.val * 64 + r.val, by omega⟩ ⟨1024 + (h.val * 256 + x.val), by omega⟩) := by
    intro A
    pointwise [vSeq]
  rw [e, wideBoth_at]
  pointwise [wide]
  rw [show (⟨1024 + (h.val * 256 + x.val), by omega⟩ : Fin 3200) = wlane h x from Fin.ext (by simp only [wlane]; omega)]
  rfl

theorem gFlipped_at (a : FVec Ideal S2x2304x512 .f32) (e : Fin 2) (p : Fin 2304) (k : Fin 512) :
    gFlipped a (ix3 e p k) = a (ix3 e (flipPos p) k) := by
  pointwise [gFlipped]
  simp only [List.mem_singleton, flipPos, Fin.val_rev]
  split <;> refine congrArg a ?_ <;> idx_ext <;> simp <;> omega

theorem g_at (a : Gates) (n : Fin 36) (b h : Fin 4) (r : Fin 64) (k : Fin 128) :
    gSeq (gBoth (gFirst a) (gSecond a)) (ix5 n b h r k)
      = chunkG a (dirOf b) (entryOf b) h (place (dirOf b) n.val) (row (back (dirOf b)) r) k := by
  have e : ∀ A, gSeq A (ix5 n b h r k) = A (ix3 b ⟨n.val * 64 + r.val, by omega⟩ ⟨h.val * 128 + k.val, by omega⟩) := by
    intro A
    pointwise [gSeq]
  have f : ∀ A B (l : Fin 512), gBoth A B (ix3 b ⟨n.val * 64 + r.val, by omega⟩ l) = if h : b.val < 2 then A (ix3 ⟨b.val, h⟩ ⟨n.val * 64 + r.val, by omega⟩ l)
      else gFlipped B (ix3 ⟨b.val - 2, by omega⟩ ⟨n.val * 64 + r.val, by omega⟩ l) := by
    intro A B l
    generalize hF : gFlipped B = F
    pointwise [gBoth, hF]
  rw [e, f]
  unfold chunkG
  show _ = a (ix3 (entryOf b) (scanPos b n r) (glane (dirOf b) h k))
  split
  · rw [scanPos_first b ‹_›, show (⟨b.val, ‹_›⟩ : Fin 2) = entryOf b from Fin.ext (by simp only [entryOf]; omega)]
    pointwise [gFirst]
    refine congrArg a (congrArg (ix3 _ _) (Fin.ext ?_))
    simp only [glane, dirOf]
    omega
  · rw [scanPos_second b ‹_›, gFlipped_at, show (⟨b.val - 2, by omega⟩ : Fin 2) = entryOf b from Fin.ext (by simp only [entryOf]; omega)]
    pointwise [gSecond]
    refine congrArg a (congrArg (ix3 _ _) (Fin.ext ?_))
    simp only [glane, dirOf]
    omega

end Cert.FwdRefIdeal.Entry
-- ==== Proof.FwdRefValue.lean ====
/-
  The forward reference's loop: after `k` trips it holds the states before chunk `k`, and the outputs and the states of the chunks
  before; then its results are the arrays of `Seq`.
-/
module

public import proofs.«01_k».proof.Proof.FwdRefStep
public import proofs.«01_k».proof.Proof.FwdRefEntry

@[expose] public section

set_option maxRecDepth 16384

noncomputable section

open Idealize.ShloMosaic Idealize.ShloMosaic.TcCoe
open Idealize.ShloMosaic.StableHlo
open Cert.FwdRefIdeal Cert.FwdRefIdeal.Gen Cert.FwdRefIdeal.Value Cert.Gla

namespace Cert.FwdRefIdeal.Loop

variable (m : (ℓ : Loc nD τ sig) → Buf (Elt Ideal) ℓ) (c : Dev nD)

abbrev projs : Proj := m ((c.tc : Thread nD τ).loc main_arg0)
abbrev gateArr : Gates := m ((c.tc : Thread nD τ).loc main_arg1)

/-- What the loop holds after `k` trips. -/
structure Holds (trips : ℕ) (V : Valuation τ sig (Elt Ideal)) : Prop where
  count : V (Proc.devRef .tc main_v36_4) = fun _ => BitVec.ofNat 32 trips
  q : (V (Proc.devRef .tc main_v36_0) : FVec Ideal S36x4x4x64x128 .f32) = Entry.qSeq (Entry.wideBoth (Entry.wide (projs m c)))
  k : (V (Proc.devRef .tc main_v36_1) : FVec Ideal S36x4x4x64x128 .f32) = Entry.kSeq (Entry.wideBoth (Entry.wide (projs m c)))
  v : (V (Proc.devRef .tc main_v36_2) : FVec Ideal S36x4x4x64x256 .f32) = Entry.vSeq (Entry.wideBoth (Entry.wide (projs m c)))
  g : (V (Proc.devRef .tc main_v36_3) : FVec Ideal S36x4x4x64x128 .f32) = Entry.gSeq (Entry.gBoth (Entry.gFirst (gateArr m c)) (Entry.gSecond (gateArr m c)))
  state : ∀ b h a x, (V (Proc.devRef .tc main_v36_5) : FVec Ideal S4x4x128x256 .f32) (ix4 b h a x)
    = states (projs m c) (gateArr m c) (dirOf b) trips (entryOf b) h a x
  outs : ∀ (n : Fin 36) b h r x, n.val < trips → (V (Proc.devRef .tc main_v36_6) : FVec Ideal S36x4x4x64x256 .f32) (ix5 n b h r x)
    = outOf (projs m c) (gateArr m c) (dirOf b) (entryOf b) h (place (dirOf b) n.val) (row (back (dirOf b)) r) x
  kept : ∀ (n : Fin 36) b h a x, n.val < trips → (V (Proc.devRef .tc main_v36_7) : FVec Ideal S36x4x4x128x256 .f32) (ix5 n b h a x)
    = states (projs m c) (gateArr m c) (dirOf b) n.val (entryOf b) h a x

theorem start : Holds m c 0 (entryContents preI m c) where
  count := ctr_entry m c
  q := Entry.q_entry m c
  k := Entry.k_entry m c
  v := Entry.v_entry m c
  g := Entry.g_entry m c
  state b h a x := Entry.s_entry m c b h a x
  outs n b h r x hn := absurd hn (Nat.not_lt_zero _)
  kept n b h r x hn := absurd hn (Nat.not_lt_zero _)

section
variable {m c} {p : Fin 36} {V : Valuation τ sig (Elt Ideal)} (H : Holds m c p.val V) (b h : Fin 4)
include H

theorem trip_q : Trip.q V p b h = scanned (back (dirOf b)) (chunkQ (projs m c) (entryOf b) h (place (dirOf b) p.val)) := by
  funext r a
  exact (congrFun H.q _).trans (Entry.q_at _ p b h r a)

theorem trip_k : Trip.k V p b h = scanned (back (dirOf b)) (chunkK (projs m c) (entryOf b) h (place (dirOf b) p.val)) := by
  funext r a
  exact (congrFun H.k _).trans (Entry.k_at _ p b h r a)

theorem trip_v : Trip.v V p b h = scanned (back (dirOf b)) (chunkV (projs m c) (entryOf b) h (place (dirOf b) p.val)) := by
  funext r a
  exact (congrFun H.v _).trans (Entry.v_at _ p b h r a)

theorem trip_g : Trip.g V p b h = scanned (back (dirOf b)) (chunkG (gateArr m c) (dirOf b) (entryOf b) h (place (dirOf b) p.val)) := by
  funext r a
  exact (congrFun H.g _).trans (Entry.g_at _ p b h r a)

theorem trip_s : Trip.s V b h = states (projs m c) (gateArr m c) (dirOf b) p.val (entryOf b) h := by
  funext a x
  exact H.state b h a x

end

theorem step (p : Fin 36) (V : Valuation τ sig (Elt Ideal)) (H : Holds m c p.val V) : Holds m c (p.val + 1) (STEP V) where
  count := by
    rw [STEP_main_v36_4]
    unfold step_main_v36_4
    rw [H.count]
    funext i
    exact (BitVec.ofNat_add _ _).symm
  q := (STEP_main_v36_0 V).trans H.q
  k := (STEP_main_v36_1 V).trans H.k
  v := (STEP_main_v36_2 V).trans H.v
  g := (STEP_main_v36_3 V).trans H.g
  state b h a x := by
    rw [STEP_main_v36_5]
    refine (Trip.next_at b h H.count a x).trans ?_
    rw [trip_k H, trip_v H, trip_g H, trip_s H, next_scanned]
    rfl
  outs n b h r x hn := by
    rw [STEP_main_v36_6]
    refine (Trip.outStep_at b h H.count n r x).trans ?_
    by_cases hp : n = p
    · subst hp
      rw [if_pos rfl, trip_q H, trip_k H, trip_v H, trip_g H, trip_s H, out_scanned]
      unfold outOf
      rw [place_place _ _ n.isLt]
    · rw [if_neg hp]
      refine H.outs n b h r x ?_
      have := fun h => hp (Fin.ext h)
      omega
  kept n b h a x hn := by
    rw [STEP_main_v36_7]
    refine (Trip.stateStep_at b h H.count n a x).trans ?_
    by_cases hp : n = p
    · subst hp
      rw [if_pos rfl, trip_s H]
    · rw [if_neg hp]
      refine H.kept n b h a x ?_
      have := fun h => hp (Fin.ext h)
      omega

theorem holds : ∀ k : ℕ, k ≤ 36 → Holds m c k (STEP^[k] (entryContents preI m c))
  | 0, _ => start m c
  | k + 1, hk => by
    rw [Function.iterate_succ_apply']
    exact step m c ⟨k, hk⟩ _ (holds k (Nat.le_of_succ_le hk))

/-- An output, at its place in the array. -/
theorem outs_at {V : Valuation τ sig (Elt Ideal)} (H : Holds m c 36 V) (n : Fin 36) (b h : Fin 4) (r : Fin 64) (x : Fin 256)
    (e : Fin 2) (p : Fin 2304) (i : Fin 2048) (hp : (scanPos b n r).val = p.val) (he : b.val % 2 = e.val) (hi : 1024 * (b.val / 2) + (256 * h.val + x.val) = i.val) :
    (V (Proc.devRef .tc main_v36_6) : FVec Ideal S36x4x4x64x256 .f32) (ix5 n b h r x) = outputs (projs m c) (gateArr m c) (ix3 e p i) := by
  rw [H.outs n b h r x n.isLt, place_of_scanPos b n r, row_of_scanPos b n r, show scanPos b n r = p from Fin.ext hp,
    show entryOf b = e from Fin.ext he, show dirOf b = odir i from Fin.ext (by simp only [dirOf, odir]; omega),
    show h = ohead i from Fin.ext (by simp only [ohead]; omega), show x = opart i from Fin.ext (by simp only [opart]; omega)]
  rfl

/-- The states. -/
theorem states_eq : out_main_v48 (STEP^[36] (entryContents preI m c)) = allStates (projs m c) (gateArr m c) := by
  have H := holds m c 36 (Nat.le_refl _)
  generalize STEP^[36] (entryContents preI m c) = V at H ⊢
  funext y
  idx_vars y
  pointwise [out_main_v48]
  refine (H.kept y2 _ y3 y5 y4 y2.isLt).trans ?_
  rw [show dirOf ⟨y1.val * 2 + y0.val, by omega⟩ = y1 from Fin.ext (by simp only [dirOf]; omega),
    show entryOf ⟨y1.val * 2 + y0.val, by omega⟩ = y0 from Fin.ext (by simp only [entryOf]; omega)]
  rfl

/-- The outputs. -/
theorem outs_eq : out_main_v46 (STEP^[36] (entryContents preI m c)) = outputs (projs m c) (gateArr m c) := by
  have H := holds m c 36 (Nat.le_refl _)
  generalize STEP^[36] (entryContents preI m c) = V at H ⊢
  funext y
  idx_vars y
  pointwise [out_main_v46]
  by_cases h1 : y2.val < 1024
  · rw [dif_pos h1]
    exact outs_at m c H _ _ _ _ _ _ _ _ (by rw [scanPos_val]; dsimp; split_ifs <;> omega) (by dsimp; omega) (by dsimp; omega)
  · rw [dif_neg h1]
    by_cases h2 : y1.val < 256
    · rw [dif_pos h2]
      exact outs_at m c H _ _ _ _ _ _ _ _ (by rw [scanPos_val]; simp [Fin.val_rev]; split_ifs <;> omega) (by simp; omega) (by simp; omega)
    · rw [dif_neg h2]
      exact outs_at m c H _ _ _ _ _ _ _ _ (by rw [scanPos_val]; simp [Fin.val_rev]; split_ifs <;> omega) (by simp; omega) (by simp; omega)

end Cert.FwdRefIdeal.Loop
-- ==== Proof.FwdClaim.lean ====
/-
The forward pass of the gated linear attention scan: the kernel and the scan it is checked against
end with the same results.
-/
module

public import proofs.«01_k».proof.Defs
public import proofs.«01_k».proof.Proof.FwdValue
public import proofs.«01_k».proof.Proof.FwdRefValue

@[expose] public section

noncomputable section

namespace Cert.Proof

open Idealize.ShloMosaic Idealize.ShloMosaic.TcCoe Idealize.SL.Sem Cert.Gla

/-- Both programs end with the outputs and the stored states of the scan. -/
theorem forward : Cert.algebraic_FwdIdeal_FwdRefIdeal
    (hFwdIdeal := Cert.FwdIdeal.Gen.facts) (hFwdRefIdeal := Cert.FwdRefIdeal.Gen.facts) := by
  intro m g m' g' _ hm
  refine ⟨fun c => outputs (Cert.FwdIdeal.Arrays.projs m c) (Cert.FwdIdeal.Arrays.gateArr m c),
    fun c => allStates (Cert.FwdIdeal.Arrays.projs m c) (Cert.FwdIdeal.Arrays.gateArr m c), ?_, ?_⟩
  · refine (θ_run Cert.FwdIdeal.defs _ _).mono (fun r h c => ?_) (Cert.FwdIdeal.Value.run_blocks m g)
    obtain ⟨h0, h1, ha, hb⟩ := h c
    exact ⟨h0.trans (Cert.FwdIdeal.Arrays.arr4 m c), h1.trans (Cert.FwdIdeal.Arrays.arr5 m c), ha, hb⟩
  · refine (θ_run Cert.FwdRefIdeal.defs _ _).mono (fun r h c => ?_) (Cert.FwdRefIdeal.Value.run m' g')
    obtain ⟨h0, h1, ha, hb⟩ := h c
    obtain ⟨e0, e1⟩ := hm c
    have ep : Cert.FwdRefIdeal.Loop.projs m' c = Cert.FwdIdeal.Arrays.projs m c := e0
    have eg : Cert.FwdRefIdeal.Loop.gateArr m' c = Cert.FwdIdeal.Arrays.gateArr m c := e1
    exact ⟨h0.trans ((Cert.FwdRefIdeal.Loop.outs_eq m' c).trans (congrArg₂ outputs ep eg)),
      h1.trans ((Cert.FwdRefIdeal.Loop.states_eq m' c).trans (congrArg₂ allStates ep eg)), ha, hb⟩

end Cert.Proof

end
-- ==== Proof.BwdHead.lean ====
/-
  The gradients of one chunk of gated linear attention on one head as the kernel writes them: vector expressions over
  any float. `m` says which positions a position reads, `o` is the gradient of the outputs, `ds` that of the state after the chunk.
-/
module

public import proofs.«01_k».proof.Proof.Head

@[expose] public section

set_option maxRecDepth 16384

noncomputable section

open Idealize.ShloMosaic Idealize.ShloMosaic.TcCoe

namespace Cert.Gla

variable {F : FTy → Type} [FloatOps F]

abbrev KeyRows4 : Shape := ⟨4, ![1, 1, 64, 128]⟩
abbrev ValRows4 : Shape := ⟨4, ![1, 1, 64, 256]⟩
abbrev StateT6 : Shape := ⟨6, ![1, 1, 1, 1, 256, 128]⟩

/-- The gradient of the outputs: `w` says whether this chunk's positions are put out. -/
def outGrad (w : BitVec 1) (o : FVec F ValRows1 .bf16) : FVec F ValRows .bf16 :=
  Scalar.select w (values o) (broadcast ValRows (Scalar.truncf .bf16 (by decide) (Scalar.ofBits .f32 0x00000000#32)))

/-- The state before the chunk. -/
def before (s : FVec F StateT6 .f32) : FVec F StateT .f32 := shapeCast StateT s (by decide)

def headDatt (m : IVec Square 1) (o v : FVec F ValRows .bf16) : FVec F Square .bf16 :=
  masked m (matmul (nt 64 256 64 (by decide)) none o v (zeros _))

def headDqs (m : IVec Square 1) (ks : FVec F KeyRows .bf16) (v o : FVec F ValRows .bf16) (s : FVec F StateT .f32) : FVec F KeyRows .f32 :=
  addf (matmul (nn 64 256 128 (by decide)) none o (rounded s) (zeros _)) (matmul (nn 64 64 128 (by decide)) none (headDatt m o v) ks (zeros _))

def headDks (m : IVec Square 1) (qs : FVec F KeyRows .bf16) (v o : FVec F ValRows .bf16) : FVec F KeyRows .f32 :=
  matmul (tn 64 64 128 (by decide)) none (headDatt m o v) qs (zeros _)

def headDkd (v : FVec F ValRows .bf16) (ds : FVec F StateT .f32) : FVec F KeyRows .f32 :=
  matmul (nn 64 256 128 (by decide)) none v (rounded ds) (zeros _)

/-- The gradients of values, queries and keys. -/
def headDv (m : IVec Square 1) (qs ks kd : FVec F KeyRows .bf16) (o : FVec F ValRows .bf16) (ds : FVec F StateT .f32) : FVec F ValRows4 .bf16 :=
  shapeCast ValRows4 (rounded (addf (matmul (tn 64 64 256 (by decide)) none (attend m qs ks) o (zeros _))
    (matmul (nt 64 128 256 (by decide)) none kd (rounded ds) (zeros _)))) (by decide)

def headDq (dqs ex : FVec F KeyRows .f32) : FVec F KeyRows4 .bf16 :=
  shapeCast KeyRows4 (rounded (mulf (mulf dqs ex) (broadcast KeyRows (Scalar.ofBits .f32 0x3DB504F3#32)))) (by decide)

def headDk (dks ei dkd ed : FVec F KeyRows .f32) : FVec F KeyRows4 .bf16 :=
  shapeCast KeyRows4 (rounded (addf (mulf dks ei) (mulf dkd ed))) (by decide)

/-- The gradient of the state before the chunk. -/
def headPrev (el : FVec F Row128 .f32) (qs : FVec F KeyRows .bf16) (o : FVec F ValRows .bf16) (ds : FVec F StateT .f32) : FVec F StateT1 .f32 :=
  shapeCast StateT1 (addf (matmul (tn 256 64 128 (by decide)) none o qs (zeros _)) (mulf (broadcastTo StateT el (by decide)) ds)) (by decide)

/-- What the sums of the gates are given, and what the chunk's sum is. -/
def headDb (dqs qs dks ks dkd kd : FVec F KeyRows .f32) : FVec F KeyRows .f32 := subf (subf (mulf dqs qs) (mulf dks ks)) (mulf dkd kd)

def headDbl (dkd kd : FVec F KeyRows .f32) (s ds : FVec F StateT .f32) (el : FVec F Row128 .f32) : FVec F Row128 .f32 :=
  addf (shapeCast Row128 (multiReduction .add [0] ⟨1, ![128]⟩ (mulf dkd kd) 0x00000000#32 (by decide) (.inl rfl) rfl) (by decide))
    (mulf (shapeCast Row128 (multiReduction .add [0] ⟨1, ![128]⟩ (mulf s ds) 0x00000000#32 (by decide) (.inl rfl) rfl) (by decide)) el)

theorem rows4 : Shape.Concatenates [KeyRows, KeyRows, KeyRows, KeyRows] Rows 1 := by decide
theorem row4 : Shape.Concatenates [Row128, Row128, Row128, Row128] Row512 1 := by decide

/-- The gradient of the gates, of all heads. -/
def gateGrad (back : Bool) (b0 b1 b2 b3 : FVec F KeyRows .f32) (l0 l1 l2 l3 : FVec F Row128 .f32) : FVec F Rows1 .f32 :=
  shapeCast Rows1 (addf (sums (!back) (concatenate Rows 1 [⟨KeyRows, b0⟩, ⟨KeyRows, b1⟩, ⟨KeyRows, b2⟩, ⟨KeyRows, b3⟩] rows4))
    (broadcastTo Rows (concatenate Row512 1 [⟨Row128, l0⟩, ⟨Row128, l1⟩, ⟨Row128, l2⟩, ⟨Row128, l3⟩] row4) (by decide))) (by decide)

end Cert.Gla
-- ==== Proof.BwdHeadValue.lean ====
/-
  The kernel's expressions for the gradients of one chunk on one head, over the extended reals: the functions of `Spec`.
-/
module

public import proofs.«01_k».proof.Proof.BwdHead
public import proofs.«01_k».proof.Proof.HeadValue

@[expose] public section

set_option maxRecDepth 16384

noncomputable section

open Idealize.ShloMosaic Idealize.ShloMosaic.TcCoe

namespace Cert.Gla

theorem before_apply (sl : FVec Ideal StateT6 .f32) (x : Fin 256) (c : Fin 128) : before sl (ix2 x c) = sl (ix6 0 0 0 0 x c) := by
  pointwise [before]

theorem outGrad_apply (w : BitVec 1) (o : FVec Ideal ValRows1 .bf16) (r : Fin 64) (x : Fin 256) :
    outGrad w o (ix2 r x) = if w = 1#1 then o (ix3 0 r x) else (0 : EReal) := by
  by_cases h : w = 1#1
  · subst h
    rw [if_pos rfl]
    pointwise [outGrad, values]
  · rw [if_neg h, outGrad, show Scalar.select w (values o) _ = _ from if_neg h]
    pointwise

section
variable (back : Bool) {qv kv dv' : FVec Ideal KeyRows .bf16} {vv ov : FVec Ideal ValRows .bf16} {sv dsv : FVec Ideal StateT .f32}
  {el : FVec Ideal Row128 .f32} {Q K G : Keys} {V O : Vals} {S DS : State}

theorem headDatt_apply (ho : ∀ r x, ov (ix2 r x) = O r x) (hv : ∀ r x, vv (ix2 r x) = V r x) (r j : Fin 64) :
    headDatt (causal back) ov vv (ix2 r j) = datt back V O r j := by
  have e : headDatt (causal back) ov vv (ix2 r j) = Scalar.select (causal back (ix2 r j)) (∑ x, ov (ix2 r x) * vv (ix2 j x)) 0 := by
    pointwise [headDatt, masked, rounded]
  rw [e, causal_apply, datt]
  split
  · exact (Finset.sum_congr rfl fun c _ => by rw [ho, hv] : (∑ x, ov (ix2 r x) * vv (ix2 j x)) = _)
  · rfl

theorem headDqs_apply (hk : ∀ r c, kv (ix2 r c) = ks back K G r c) (hv : ∀ r x, vv (ix2 r x) = V r x) (ho : ∀ r x, ov (ix2 r x) = O r x)
    (hs : ∀ c x, sv (ix2 x c) = S c x) (r : Fin 64) (c : Fin 128) :
    headDqs (causal back) kv vv ov sv (ix2 r c) = dqs back K G V O S r c := by
  have e : headDqs (causal back) kv vv ov sv (ix2 r c)
      = (∑ x, ov (ix2 r x) * sv (ix2 x c)) + ∑ j, headDatt (causal back) ov vv (ix2 r j) * kv (ix2 j c) := by
    unfold headDqs
    generalize headDatt (causal back) ov vv = A
    pointwise [rounded]
  rw [e, dqs]
  simp only [headDatt_apply back ho hv, hk, ho, hs]

theorem headDks_apply (hq : ∀ r c, qv (ix2 r c) = qs back Q G r c) (hv : ∀ r x, vv (ix2 r x) = V r x) (ho : ∀ r x, ov (ix2 r x) = O r x)
    (j : Fin 64) (c : Fin 128) : headDks (causal back) qv vv ov (ix2 j c) = dks back Q G V O j c := by
  have e : headDks (causal back) qv vv ov (ix2 j c) = ∑ r, headDatt (causal back) ov vv (ix2 r j) * qv (ix2 r c) := by
    unfold headDks
    generalize headDatt (causal back) ov vv = A
    pointwise
  rw [e, dks]
  simp only [headDatt_apply back ho hv, hq]

theorem headDkd_apply (hv : ∀ r x, vv (ix2 r x) = V r x) (hd : ∀ c x, dsv (ix2 x c) = DS c x) (j : Fin 64) (c : Fin 128) :
    headDkd vv dsv (ix2 j c) = dkd V DS j c := by
  have e : headDkd vv dsv (ix2 j c) = ∑ x, vv (ix2 j x) * dsv (ix2 x c) := by pointwise [headDkd, rounded]
  rw [e, dkd]
  simp only [hv, hd]

theorem headDv_apply (hq : ∀ r c, qv (ix2 r c) = qs back Q G r c) (hk : ∀ r c, kv (ix2 r c) = ks back K G r c)
    (hkd : ∀ r c, dv' (ix2 r c) = kd back K G r c) (ho : ∀ r x, ov (ix2 r x) = O r x) (hd : ∀ c x, dsv (ix2 x c) = DS c x) (j : Fin 64) (x : Fin 256) :
    headDv (causal back) qv kv dv' ov dsv (ix4 0 0 j x) = dv back Q K G O DS j x := by
  have e : headDv (causal back) qv kv dv' ov dsv (ix4 0 0 j x)
      = (∑ r, attend (causal back) qv kv (ix2 r j) * ov (ix2 r x)) + ∑ c, dv' (ix2 j c) * dsv (ix2 x c) := by
    unfold headDv
    generalize attend (causal back) qv kv = A
    pointwise [rounded]
  rw [e, dv]
  simp only [attend_apply back hq hk, hkd, ho, hd]

theorem headPrev_apply (he : ∀ c, el (ix2 0 c) = Ideal.exp (tot G c)) (hq : ∀ r c, qv (ix2 r c) = qs back Q G r c)
    (ho : ∀ r x, ov (ix2 r x) = O r x) (hd : ∀ c x, dsv (ix2 x c) = DS c x) (c : Fin 128) (x : Fin 256) :
    headPrev el qv ov dsv (ix4 0 0 x c) = dprev back Q G O DS c x := by
  have e : headPrev el qv ov dsv (ix4 0 0 x c) = (∑ r, ov (ix2 r x) * qv (ix2 r c)) + el (ix2 0 c) * dsv (ix2 x c) := by
    pointwise [headPrev]
  rw [e, dprev]
  simp only [he, hq, ho, hd]

theorem headDq_apply (a b : FVec Ideal KeyRows .f32) (r : Fin 64) (c : Fin 128) : headDq a b (ix4 0 0 r c) = a (ix2 r c) * b (ix2 r c) * scale := by
  pointwise [headDq, rounded]

theorem headDk_apply (a b a' b' : FVec Ideal KeyRows .f32) (r : Fin 64) (c : Fin 128) :
    headDk a b a' b' (ix4 0 0 r c) = a (ix2 r c) * b (ix2 r c) + a' (ix2 r c) * b' (ix2 r c) := by
  pointwise [headDk, rounded]

theorem headDb_apply (a b a' b' a2 b2 : FVec Ideal KeyRows .f32) (r : Fin 64) (c : Fin 128) :
    headDb a b a' b' a2 b2 (ix2 r c) = a (ix2 r c) * b (ix2 r c) - a' (ix2 r c) * b' (ix2 r c) - a2 (ix2 r c) * b2 (ix2 r c) := by
  pointwise [headDb]

theorem headDbl_apply (a b : FVec Ideal KeyRows .f32) (s ds : FVec Ideal StateT .f32) (el : FVec Ideal Row128 .f32) (c : Fin 128) :
    headDbl a b s ds el (ix2 0 c) = (∑ j, a (ix2 j c) * b (ix2 j c)) + (∑ x, s (ix2 x c) * ds (ix2 x c)) * el (ix2 0 c) := by
  pointwise [headDbl]

end

/-- The rows that go into the gradient of the gates, of all heads. -/
def fourRows (b : Fin 4 → FVec Ideal KeyRows .f32) : FVec Ideal Rows .f32 :=
  concatenate Rows 1 [⟨KeyRows, b 0⟩, ⟨KeyRows, b 1⟩, ⟨KeyRows, b 2⟩, ⟨KeyRows, b 3⟩] rows4
def fourRow (l : Fin 4 → FVec Ideal Row128 .f32) : FVec Ideal Row512 .f32 :=
  concatenate Row512 1 [⟨Row128, l 0⟩, ⟨Row128, l 1⟩, ⟨Row128, l 2⟩, ⟨Row128, l 3⟩] row4

theorem fourRows_apply (b : Fin 4 → FVec Ideal KeyRows .f32) (h : Fin 4) (r : Fin 64) (c : Fin 128) :
    fourRows b (ix2 r (lane h c)) = b h (ix2 r c) := by
  have e : ∀ l : Fin 512, fourRows b (ix2 r l) = if h : l.val < 128 then b 0 (ix2 r ⟨l.val, h⟩)
      else if h : l.val - 128 < 128 then b 1 (ix2 r ⟨l.val - 128, h⟩)
      else if h : l.val - 128 - 128 < 128 then b 2 (ix2 r ⟨l.val - 128 - 128, h⟩)
      else b 3 (ix2 r ⟨l.val - 128 - 128 - 128, by omega⟩) := fun l => by pointwise [fourRows]
  have hl : (lane h c).val = 128 * h.val + c.val := rfl
  have pick : ∀ (g d : ℕ) (hg : g < 4) (hd : d < 128), h.val = g → c.val = d → b ⟨g, hg⟩ (ix2 r ⟨d, hd⟩) = b h (ix2 r c) := by
    rintro g d hg hd rfl rfl; rfl
  rw [e]
  split_ifs with h1 h2 h3
  exacts [pick 0 _ (by decide) _ (by omega) (by omega), pick 1 _ (by decide) _ (by omega) (by omega),
    pick 2 _ (by decide) _ (by omega) (by omega), pick 3 _ (by decide) _ (by omega) (by omega)]

theorem fourRow_apply (b : Fin 4 → FVec Ideal Row128 .f32) (h : Fin 4) (c : Fin 128) :
    fourRow b (ix2 0 (lane h c)) = b h (ix2 0 c) := by
  have e : ∀ l : Fin 512, fourRow b (ix2 0 l) = if h : l.val < 128 then b 0 (ix2 0 ⟨l.val, h⟩)
      else if h : l.val - 128 < 128 then b 1 (ix2 0 ⟨l.val - 128, h⟩)
      else if h : l.val - 128 - 128 < 128 then b 2 (ix2 0 ⟨l.val - 128 - 128, h⟩)
      else b 3 (ix2 0 ⟨l.val - 128 - 128 - 128, by omega⟩) := fun l => by pointwise [fourRow]
  have hl : (lane h c).val = 128 * h.val + c.val := rfl
  have pick : ∀ (g d : ℕ) (hg : g < 4) (hd : d < 128), h.val = g → c.val = d → b ⟨g, hg⟩ (ix2 0 ⟨d, hd⟩) = b h (ix2 0 c) := by
    rintro g d hg hd rfl rfl; rfl
  rw [e]
  split_ifs with h1 h2 h3
  exacts [pick 0 _ (by decide) _ (by omega) (by omega), pick 1 _ (by decide) _ (by omega) (by omega),
    pick 2 _ (by decide) _ (by omega) (by omega), pick 3 _ (by decide) _ (by omega) (by omega)]

theorem gateGrad_apply (back : Bool) (b : Fin 4 → FVec Ideal KeyRows .f32) (l : Fin 4 → FVec Ideal Row128 .f32) (h : Fin 4) (B : Keys) (L : Fin 128 → EReal)
    (hb : ∀ r c, b h (ix2 r c) = B r c) (hl : ∀ c, l h (ix2 0 c) = L c) (r : Fin 64) (c : Fin 128) :
    gateGrad back (b 0) (b 1) (b 2) (b 3) (l 0) (l 1) (l 2) (l 3) (ix3 0 r (lane h c)) = cum (!back) B r c + L c := by
  have e : gateGrad back (b 0) (b 1) (b 2) (b 3) (l 0) (l 1) (l 2) (l 3) (ix3 0 r (lane h c))
      = sums (!back) (fourRows b) (ix2 r (lane h c)) + fourRow l (ix2 0 (lane h c)) := by
    show shapeCast Rows1 (addf (sums (!back) (fourRows b)) (broadcastTo Rows (fourRow l) (by decide))) (by decide) (ix3 0 r (lane h c)) = _
    generalize sums (!back) (fourRows b) = A
    generalize fourRow l = A'
    pointwise
  rw [e, fourRow_apply, hl]
  refine congrArg (· + L c) ?_
  cases back
  · exact (suffixRows_apply _ _ _).trans (Finset.sum_congr rfl fun j _ => by rw [fourRows_apply, hb]; rfl)
  · exact (prefixRows_apply _ _ _).trans (Finset.sum_congr rfl fun j _ => by rw [fourRows_apply, hb]; rfl)

end Cert.Gla
-- ==== Proof.BwdChunk.lean ====
/-
  The gradients of one chunk of both batch elements and all heads, as blocks of arrays: what the kernel's expressions for
  one head give at the head's place in the block.
-/
module

public import proofs.«01_k».proof.Proof.BwdHeadValue
public import proofs.«01_k».proof.Proof.Chunk

@[expose] public section

set_option maxRecDepth 16384

noncomputable section

open Idealize.ShloMosaic Idealize.ShloMosaic.TcCoe

namespace Cert.Gla

abbrev KeyBlock4 : Shape := ⟨4, ![1, 2, 64, 512]⟩
abbrev ValBlock4 : Shape := ⟨4, ![1, 2, 64, 1024]⟩
abbrev StateBlock6 : Shape := ⟨6, ![2, 1, 1, 4, 256, 128]⟩

variable (x0 x1 : FVec Ideal KeyBlock .bf16) (x2 : FVec Ideal ValBlock .bf16) (x3 : FVec Ideal KeyBlock .f32)
  (x4 : FVec Ideal StateBlock6 .f32) (w : BitVec 1) (x5 : FVec Ideal ValBlock .bf16) (D : States)

/-- A head's gradient of the outputs and its state before the chunk in the blocks. -/
def blockO (e : Fin 2) (h : Fin 4) : Vals := fun r x => if w = 1#1 then x5 (ix3 e r (vlane h x)) else (0 : EReal)
def blockT (e : Fin 2) (h : Fin 4) : State := fun c x => x4 (ix6 e 0 0 h x c)

/-- The blocks of gradients. -/
def chunkDq (back : Bool) : FVec Ideal KeyBlock4 .bf16 := fun y =>
  dq back (blockK x1 (y 1) (khead (y 3))) (blockK x3 (y 1) (khead (y 3))) (blockV x2 (y 1) (khead (y 3))) (blockO w x5 (y 1) (khead (y 3)))
    (blockT x4 (y 1) (khead (y 3))) (y 2) (kpart (y 3)) * scale

def chunkDk (back : Bool) : FVec Ideal KeyBlock4 .bf16 := fun y =>
  dk back (blockQ x0 (y 1) (khead (y 3))) (blockK x3 (y 1) (khead (y 3))) (blockV x2 (y 1) (khead (y 3))) (blockO w x5 (y 1) (khead (y 3)))
    (D (y 1) (khead (y 3))) (y 2) (kpart (y 3))

def chunkDv (back : Bool) : FVec Ideal ValBlock4 .bf16 := fun y =>
  dv back (blockQ x0 (y 1) (vhead (y 3))) (blockK x1 (y 1) (vhead (y 3))) (blockK x3 (y 1) (vhead (y 3))) (blockO w x5 (y 1) (vhead (y 3)))
    (D (y 1) (vhead (y 3))) (y 2) (vpart (y 3))

def chunkDla (back : Bool) : FVec Ideal KeyBlock .f32 := fun y =>
  dla back (blockQ x0 (y 0) (khead (y 2))) (blockK x1 (y 0) (khead (y 2))) (blockK x3 (y 0) (khead (y 2))) (blockV x2 (y 0) (khead (y 2)))
    (blockO w x5 (y 0) (khead (y 2))) (blockT x4 (y 0) (khead (y 2))) (D (y 0) (khead (y 2))) (y 1) (kpart (y 2))

/-- The gradients of the states before the chunk. -/
def chunkPrev (back : Bool) : States := fun e h => dprev back (blockQ x0 e h) (blockK x3 e h) (blockO w x5 e h) (D e h)

theorem lane_khead (l : Fin 512) : lane (khead l) (kpart l) = l := Fin.ext (by simp only [lane, khead, kpart]; omega)

/-! ## The rows of a head, of what is loaded -/

section
variable (back : Bool) (h : Fin 4) {ql kl : FVec Ideal Rows1 .bf16} {gl : FVec Ideal Rows1 .f32} {Q K G : Keys}

theorem grow_lanes (hG : ∀ r c, gl (ix3 0 r (lane h c)) = G r c) (hs) (r : Fin 64) (c : Fin 128) :
    lanes h.val (grow (sums back (gates gl))) hs (ix2 r c) = Ideal.exp (cum back G r c) := by
  rw [lanes_apply, ← sums_apply back h hG]
  pointwise [grow]

theorem decay_lanes (hG : ∀ r c, gl (ix3 0 r (lane h c)) = G r c) (hs) (r : Fin 64) (c : Fin 128) :
    lanes h.val (decay (sums back (gates gl))) hs (ix2 r c) = Ideal.exp (0 - cum back G r c) := by
  rw [lanes_apply, ← sums_apply back h hG]
  pointwise [decay]

theorem toEnd_lanes (hG : ∀ r c, gl (ix3 0 r (lane h c)) = G r c) (hs) (r : Fin 64) (c : Fin 128) :
    lanes h.val (toEnd (total (gates gl)) (sums back (gates gl))) hs (ix2 r c) = Ideal.exp (tot G c - cum back G r c) := by
  rw [lanes_apply, ← sums_apply back h hG, ← total_apply h hG]
  pointwise [toEnd]

end

/-- The rows of head `h` that the gradients are products of. -/
abbrev rowsQ {φ : FTy} (back : Bool) (h : ℕ) (f : FVec Ideal Rows .f32 → FVec Ideal Rows φ) (ql : FVec Ideal Rows1 .bf16) (gl : FVec Ideal Rows1 .f32)
    (hs : Rows.Slices ![0, 128 * h] KeyRows) : FVec Ideal KeyRows φ := lanes h (f (queries ql (grow (sums back (gates gl))))) hs
abbrev rowsK {φ : FTy} (back : Bool) (h : ℕ) (f : FVec Ideal Rows .f32 → FVec Ideal Rows φ) (kl : FVec Ideal Rows1 .bf16) (gl : FVec Ideal Rows1 .f32)
    (hs : Rows.Slices ![0, 128 * h] KeyRows) : FVec Ideal KeyRows φ := lanes h (f (keys kl (decay (sums back (gates gl))))) hs
abbrev rowsE {φ : FTy} (back : Bool) (h : ℕ) (f : FVec Ideal Rows .f32 → FVec Ideal Rows φ) (kl : FVec Ideal Rows1 .bf16) (gl : FVec Ideal Rows1 .f32)
    (hs : Rows.Slices ![0, 128 * h] KeyRows) : FVec Ideal KeyRows φ := lanes h (f (keys kl (toEnd (total (gates gl)) (sums back (gates gl))))) hs

section
variable (back : Bool) (e : Fin 2) (h : Fin 4) {ql kl : FVec Ideal Rows1 .bf16} {gl : FVec Ideal Rows1 .f32} {vl ol : FVec Ideal ValRows1 .bf16}
  {sl : FVec Ideal StateT6 .f32} {dl : FVec Ideal StateT1 .f32} {w : BitVec 1} {x0 x1 x2 x3 x4 x5 D}

/-- What is loaded for a head of a batch element is its part of the blocks. -/
structure Loaded (ql kl : FVec Ideal Rows1 .bf16) (gl : FVec Ideal Rows1 .f32) (vl ol : FVec Ideal ValRows1 .bf16) (sl : FVec Ideal StateT6 .f32)
    (dl : FVec Ideal StateT1 .f32) (x0 x1 : FVec Ideal KeyBlock .bf16) (x2 : FVec Ideal ValBlock .bf16) (x3 : FVec Ideal KeyBlock .f32)
    (x4 : FVec Ideal StateBlock6 .f32) (x5 : FVec Ideal ValBlock .bf16) (D : States) : Prop where
  hq : ∀ r l, ql (ix3 0 r l) = x0 (ix3 e r l)
  hk : ∀ r l, kl (ix3 0 r l) = x1 (ix3 e r l)
  hg : ∀ r l, gl (ix3 0 r l) = x3 (ix3 e r l)
  hv : ∀ r x, vl (ix3 0 r x) = x2 (ix3 e r (vlane h x))
  ho : ∀ r x, ol (ix3 0 r x) = x5 (ix3 e r (vlane h x))
  hs : ∀ x c, sl (ix6 0 0 0 0 x c) = x4 (ix6 e 0 0 h x c)
  hd : ∀ x c, dl (ix4 0 0 x c) = D e h c x

variable {e h}
variable (L : Loaded e h ql kl gl vl ol sl dl x0 x1 x2 x3 x4 x5 D) (hsl : Rows.Slices ![0, 128 * h.val] KeyRows) (hsr : Row512.Slices ![0, 128 * h.val] Row128)
include L

theorem Loaded.q (r : Fin 64) (c : Fin 128) : ql (ix3 0 r (lane h c)) * scale = blockQ x0 e h r c := by rw [L.hq]; rfl
theorem Loaded.k (r : Fin 64) (c : Fin 128) : kl (ix3 0 r (lane h c)) = blockK x1 e h r c := L.hk _ _
theorem Loaded.g (r : Fin 64) (c : Fin 128) : gl (ix3 0 r (lane h c)) = blockK x3 e h r c := L.hg _ _
theorem Loaded.v (r : Fin 64) (x : Fin 256) : values vl (ix2 r x) = blockV x2 e h r x := by rw [values_apply, L.hv]; rfl
theorem Loaded.o (r : Fin 64) (x : Fin 256) : outGrad w ol (ix2 r x) = blockO w x5 e h r x := by rw [outGrad_apply, L.ho]; rfl
theorem Loaded.s (c : Fin 128) (x : Fin 256) : before sl (ix2 x c) = blockT x4 e h c x := by rw [before_apply, L.hs]; rfl
theorem Loaded.d (c : Fin 128) (x : Fin 256) : state dl (ix2 x c) = D e h c x := by rw [state_apply, L.hd]

theorem Loaded.qs (r : Fin 64) (c : Fin 128) : rowsQ back h.val id ql gl hsl (ix2 r c) = Gla.qs back (blockQ x0 e h) (blockK x3 e h) r c := by
  show lanes _ _ _ _ = _
  rw [lanes_apply, id_eq, queries_apply back h L.q L.g]
theorem Loaded.ks (r : Fin 64) (c : Fin 128) : rowsK back h.val id kl gl hsl (ix2 r c) = Gla.ks back (blockK x1 e h) (blockK x3 e h) r c := by
  show lanes _ _ _ _ = _
  rw [lanes_apply, id_eq, keys_decay_apply back h L.k L.g]
theorem Loaded.kd (r : Fin 64) (c : Fin 128) : rowsE back h.val id kl gl hsl (ix2 r c) = Gla.kd back (blockK x1 e h) (blockK x3 e h) r c := by
  show lanes _ _ _ _ = _
  rw [lanes_apply, id_eq, keys_toEnd_apply back h L.k L.g]
theorem Loaded.qs' (r : Fin 64) (c : Fin 128) : rowsQ back h.val rounded ql gl hsl (ix2 r c) = Gla.qs back (blockQ x0 e h) (blockK x3 e h) r c := by
  show lanes _ _ _ _ = _
  rw [lanes_apply, rounded_apply, queries_apply back h L.q L.g]
theorem Loaded.ks' (r : Fin 64) (c : Fin 128) : rowsK back h.val rounded kl gl hsl (ix2 r c) = Gla.ks back (blockK x1 e h) (blockK x3 e h) r c := by
  show lanes _ _ _ _ = _
  rw [lanes_apply, rounded_apply, keys_decay_apply back h L.k L.g]
theorem Loaded.kd' (r : Fin 64) (c : Fin 128) : rowsE back h.val rounded kl gl hsl (ix2 r c) = Gla.kd back (blockK x1 e h) (blockK x3 e h) r c := by
  show lanes _ _ _ _ = _
  rw [lanes_apply, rounded_apply, keys_toEnd_apply back h L.k L.g]
theorem Loaded.el (c : Fin 128) : lanesRow h.val (endRow (total (gates gl))) hsr (ix2 0 c) = Ideal.exp (tot (blockK x3 e h) c) := by
  rw [lanesRow_apply, endRow_apply h L.g]

theorem Loaded.dqs (r : Fin 64) (c : Fin 128) : headDqs (causal back) (rowsK back h.val rounded kl gl hsl) (values vl) (outGrad w ol) (before sl) (ix2 r c)
    = Gla.dqs back (blockK x1 e h) (blockK x3 e h) (blockV x2 e h) (blockO w x5 e h) (blockT x4 e h) r c :=
  headDqs_apply back (L.ks' back hsl) L.v L.o L.s r c
theorem Loaded.dks (r : Fin 64) (c : Fin 128) : headDks (causal back) (rowsQ back h.val rounded ql gl hsl) (values vl) (outGrad w ol) (ix2 r c)
    = Gla.dks back (blockQ x0 e h) (blockK x3 e h) (blockV x2 e h) (blockO w x5 e h) r c :=
  headDks_apply back (L.qs' back hsl) L.v L.o r c
theorem Loaded.dkd (r : Fin 64) (c : Fin 128) : headDkd (values vl) (state dl) (ix2 r c) = Gla.dkd (blockV x2 e h) (D e h) r c :=
  headDkd_apply L.v L.d r c

end

/-! ## The pieces of the blocks -/

section
variable (back : Bool) (e : Fin 2) (h : Fin 4) {ql kl : FVec Ideal Rows1 .bf16} {gl : FVec Ideal Rows1 .f32} {vl ol : FVec Ideal ValRows1 .bf16}
  {sl : FVec Ideal StateT6 .f32} {dl : FVec Ideal StateT1 .f32} {w : BitVec 1} {x0 x1 x2 x3 x4 x5 D}
  {hsl : Rows.Slices ![0, 128 * h.val] KeyRows} {hsr : Row512.Slices ![0, 128 * h.val] Row128}

theorem dq_piece (hk : ∀ r l, kl (ix3 0 r l) = x1 (ix3 e r l) := by intros; pointwise) (hg : ∀ r l, gl (ix3 0 r l) = x3 (ix3 e r l) := by intros; pointwise)
    (hv : ∀ r x, vl (ix3 0 r x) = x2 (ix3 e r (vlane h x)) := by intros; pointwise; first | rfl | rw [vlane_zero])
    (ho : ∀ r x, ol (ix3 0 r x) = x5 (ix3 e r (vlane h x)) := by intros; pointwise; first | rfl | rw [vlane_zero])
    (hs : ∀ x c, sl (ix6 0 0 0 0 x c) = x4 (ix6 e 0 0 h x c) := by intros; pointwise)
    {y : KeyBlock4.Idx} {z : KeyRows4.Idx} (h1 : (y 1).val = e.val := by omega)
    (h2 : (y 2).val = (z 2).val := by omega) (h3 : (y 3).val = 128 * h.val + (z 3).val := by omega) :
    headDq (headDqs (causal back) (rowsK back h.val rounded kl gl hsl) (values vl) (outGrad w ol) (before sl)) (lanes h.val (grow (sums back (gates gl))) hsl) z
      = chunkDq x1 x2 x3 x4 w x5 back y := by
  idx_vars y
  idx_vars z
  obtain rfl : y1 = e := Fin.ext h1
  obtain rfl : y2 = z2 := Fin.ext h2
  obtain rfl : y3 = lane h z3 := Fin.ext h3
  have L : Loaded y1 h (fun _ => (0 : EReal)) kl gl vl ol sl (fun _ => (0 : EReal)) (fun _ => (0 : EReal)) x1 x2 x3 x4 x5 (fun _ _ _ _ => 0) :=
    ⟨fun _ _ => rfl, hk, hg, hv, ho, hs, fun _ _ => rfl⟩
  rw [show (ix4 z0 z1 y2 z3 : KeyRows4.Idx) = ix4 0 0 y2 z3 by idx_ext, headDq_apply, L.dqs, grow_lanes back h L.g]
  show _ = dq back (blockK x1 y1 (khead (lane h z3))) (blockK x3 y1 (khead (lane h z3))) (blockV x2 y1 (khead (lane h z3))) (blockO w x5 y1 (khead (lane h z3)))
    (blockT x4 y1 (khead (lane h z3))) y2 (kpart (lane h z3)) * scale
  rw [khead_lane, kpart_lane]
  rfl

theorem dk_piece (hq : ∀ r l, ql (ix3 0 r l) = x0 (ix3 e r l) := by intros; pointwise) (hg : ∀ r l, gl (ix3 0 r l) = x3 (ix3 e r l) := by intros; pointwise)
    (hv : ∀ r x, vl (ix3 0 r x) = x2 (ix3 e r (vlane h x)) := by intros; pointwise; first | rfl | rw [vlane_zero])
    (ho : ∀ r x, ol (ix3 0 r x) = x5 (ix3 e r (vlane h x)) := by intros; pointwise; first | rfl | rw [vlane_zero])
    (hd : ∀ x c, dl (ix4 0 0 x c) = D e h c x := by intros; pointwise; rfl)
    {y : KeyBlock4.Idx} {z : KeyRows4.Idx} (h1 : (y 1).val = e.val := by omega)
    (h2 : (y 2).val = (z 2).val := by omega) (h3 : (y 3).val = 128 * h.val + (z 3).val := by omega) :
    headDk (headDks (causal back) (rowsQ back h.val rounded ql gl hsl) (values vl) (outGrad w ol)) (lanes h.val (decay (sums back (gates gl))) hsl)
      (headDkd (values vl) (state dl)) (lanes h.val (toEnd (total (gates gl)) (sums back (gates gl))) hsl) z
      = chunkDk x0 x2 x3 w x5 D back y := by
  idx_vars y
  idx_vars z
  obtain rfl : y1 = e := Fin.ext h1
  obtain rfl : y2 = z2 := Fin.ext h2
  obtain rfl : y3 = lane h z3 := Fin.ext h3
  have L : Loaded y1 h ql (fun _ => (0 : EReal)) gl vl ol (fun _ => (0 : EReal)) dl x0 (fun _ => (0 : EReal)) x2 x3 (fun _ => (0 : EReal)) x5 D :=
    ⟨hq, fun _ _ => rfl, hg, hv, ho, fun _ _ => rfl, hd⟩
  rw [show (ix4 z0 z1 y2 z3 : KeyRows4.Idx) = ix4 0 0 y2 z3 by idx_ext, headDk_apply, L.dks, L.dkd, decay_lanes back h L.g, toEnd_lanes back h L.g]
  show _ = dk back (blockQ x0 y1 (khead (lane h z3))) (blockK x3 y1 (khead (lane h z3))) (blockV x2 y1 (khead (lane h z3))) (blockO w x5 y1 (khead (lane h z3)))
    (D y1 (khead (lane h z3))) y2 (kpart (lane h z3))
  rw [khead_lane, kpart_lane]
  rfl

theorem dv_piece (hq : ∀ r l, ql (ix3 0 r l) = x0 (ix3 e r l) := by intros; pointwise)
    (hk : ∀ r l, kl (ix3 0 r l) = x1 (ix3 e r l) := by intros; pointwise) (hg : ∀ r l, gl (ix3 0 r l) = x3 (ix3 e r l) := by intros; pointwise)
    (ho : ∀ r x, ol (ix3 0 r x) = x5 (ix3 e r (vlane h x)) := by intros; pointwise; first | rfl | rw [vlane_zero])
    (hd : ∀ x c, dl (ix4 0 0 x c) = D e h c x := by intros; pointwise; rfl)
    {y : ValBlock4.Idx} {z : ValRows4.Idx} (h1 : (y 1).val = e.val := by omega)
    (h2 : (y 2).val = (z 2).val := by omega) (h3 : (y 3).val = 256 * h.val + (z 3).val := by omega) :
    headDv (causal back) (rowsQ back h.val rounded ql gl hsl) (rowsK back h.val rounded kl gl hsl) (rowsE back h.val rounded kl gl hsl)
      (outGrad w ol) (state dl) z = chunkDv x0 x1 x3 w x5 D back y := by
  idx_vars y
  idx_vars z
  obtain rfl : y1 = e := Fin.ext h1
  obtain rfl : y2 = z2 := Fin.ext h2
  obtain rfl : y3 = vlane h z3 := Fin.ext h3
  have L : Loaded y1 h ql kl gl (fun _ => (0 : EReal)) ol (fun _ => (0 : EReal)) dl x0 x1 (fun _ => (0 : EReal)) x3 (fun _ => (0 : EReal)) x5 D :=
    ⟨hq, hk, hg, fun _ _ => rfl, ho, fun _ _ => rfl, hd⟩
  rw [show (ix4 z0 z1 y2 z3 : ValRows4.Idx) = ix4 0 0 y2 z3 by idx_ext,
    headDv_apply back (L.qs' back hsl) (L.ks' back hsl) (L.kd' back hsl) L.o L.d]
  show _ = dv back (blockQ x0 y1 (vhead (vlane h z3))) (blockK x1 y1 (vhead (vlane h z3))) (blockK x3 y1 (vhead (vlane h z3))) (blockO w x5 y1 (vhead (vlane h z3)))
    (D y1 (vhead (vlane h z3))) y2 (vpart (vlane h z3))
  rw [vhead_vlane, vpart_vlane]

theorem prev_piece (hq : ∀ r l, ql (ix3 0 r l) = x0 (ix3 e r l) := by intros; pointwise)
    (hg : ∀ r l, gl (ix3 0 r l) = x3 (ix3 e r l) := by intros; pointwise)
    (ho : ∀ r x, ol (ix3 0 r x) = x5 (ix3 e r (vlane h x)) := by intros; pointwise; first | rfl | rw [vlane_zero])
    (hd : ∀ x c, dl (ix4 0 0 x c) = D e h c x := by intros; pointwise; rfl)
    {y : StateBlock.Idx} {z : StateT1.Idx} (h0 : (y 0).val = e.val := by omega) (h1 : (y 1).val = h.val := by omega)
    (h2 : (y 2).val = (z 2).val := by omega) (h3 : (y 3).val = (z 3).val := by omega) :
    headPrev (lanesRow h.val (endRow (total (gates gl))) hsr) (rowsQ back h.val rounded ql gl hsl) (outGrad w ol) (state dl) z
      = stateBlock (chunkPrev x0 x3 w x5 D back) y := by
  idx_vars y
  idx_vars z
  obtain rfl : y0 = e := Fin.ext h0
  obtain rfl : y1 = h := Fin.ext h1
  obtain rfl : y2 = z2 := Fin.ext h2
  obtain rfl : y3 = z3 := Fin.ext h3
  have L : Loaded y0 y1 ql (fun _ => (0 : EReal)) gl (fun _ => (0 : EReal)) ol (fun _ => (0 : EReal)) dl x0 (fun _ => (0 : EReal)) (fun _ => (0 : EReal)) x3
      (fun _ => (0 : EReal)) x5 D :=
    ⟨hq, fun _ _ => rfl, hg, fun _ _ => rfl, ho, fun _ _ => rfl, hd⟩
  rw [show (ix4 z0 z1 y2 y3 : StateT1.Idx) = ix4 0 0 y2 y3 by idx_ext, headPrev_apply back (L.el hsr) (L.qs' back hsl) L.o L.d]
  rfl

end

/-! ## The gradient of the gates: the rows of all heads, summed at once -/

/-- What a head gives, of what is loaded for it. -/
abbrev rowsDb (back : Bool) (h : ℕ) (w : BitVec 1) (ql kl : FVec Ideal Rows1 .bf16) (gl : FVec Ideal Rows1 .f32) (vl ol : FVec Ideal ValRows1 .bf16)
    (sl : FVec Ideal StateT6 .f32) (dl : FVec Ideal StateT1 .f32) (hs : Rows.Slices ![0, 128 * h] KeyRows) : FVec Ideal KeyRows .f32 :=
  headDb (headDqs (causal back) (rowsK back h rounded kl gl hs) (values vl) (outGrad w ol) (before sl)) (rowsQ back h id ql gl hs)
    (headDks (causal back) (rowsQ back h rounded ql gl hs) (values vl) (outGrad w ol)) (rowsK back h id kl gl hs)
    (headDkd (values vl) (state dl)) (rowsE back h id kl gl hs)

abbrev rowDbl (back : Bool) (h : ℕ) (kl : FVec Ideal Rows1 .bf16) (gl : FVec Ideal Rows1 .f32) (vl : FVec Ideal ValRows1 .bf16)
    (sl : FVec Ideal StateT6 .f32) (dl : FVec Ideal StateT1 .f32) (hs : Rows.Slices ![0, 128 * h] KeyRows) (hr : Row512.Slices ![0, 128 * h] Row128) : FVec Ideal Row128 .f32 :=
  headDbl (headDkd (values vl) (state dl)) (rowsE back h id kl gl hs) (before sl) (state dl) (lanesRow h (endRow (total (gates gl))) hr)

theorem slices_rows : ∀ h : Fin 4, Rows.Slices ![0, 128 * h.val] KeyRows := by decide
theorem slices_row : ∀ h : Fin 4, Row512.Slices ![0, 128 * h.val] Row128 := by decide

section
variable (back : Bool) (e : Fin 2) {ql kl : FVec Ideal Rows1 .bf16} {gl : FVec Ideal Rows1 .f32} {v0 v1 v2 v3 o0 o1 o2 o3 : FVec Ideal ValRows1 .bf16}
  {s0 s1 s2 s3 : FVec Ideal StateT6 .f32} {d0 d1 d2 d3 : FVec Ideal StateT1 .f32} {w : BitVec 1} {x0 x1 x2 x3 x4 x5 D}

theorem dla_piece (hq : ∀ r l, ql (ix3 0 r l) = x0 (ix3 e r l) := by intros; pointwise)
    (hk : ∀ r l, kl (ix3 0 r l) = x1 (ix3 e r l) := by intros; pointwise) (hg : ∀ r l, gl (ix3 0 r l) = x3 (ix3 e r l) := by intros; pointwise)
    (hv0 : ∀ r x, v0 (ix3 0 r x) = x2 (ix3 e r (vlane 0 x)) := by intros; pointwise; first | rfl | rw [vlane_zero])
    (hv1 : ∀ r x, v1 (ix3 0 r x) = x2 (ix3 e r (vlane 1 x)) := by intros; pointwise; rfl)
    (hv2 : ∀ r x, v2 (ix3 0 r x) = x2 (ix3 e r (vlane 2 x)) := by intros; pointwise; rfl)
    (hv3 : ∀ r x, v3 (ix3 0 r x) = x2 (ix3 e r (vlane 3 x)) := by intros; pointwise; rfl)
    (ho0 : ∀ r x, o0 (ix3 0 r x) = x5 (ix3 e r (vlane 0 x)) := by intros; pointwise; first | rfl | rw [vlane_zero])
    (ho1 : ∀ r x, o1 (ix3 0 r x) = x5 (ix3 e r (vlane 1 x)) := by intros; pointwise; rfl)
    (ho2 : ∀ r x, o2 (ix3 0 r x) = x5 (ix3 e r (vlane 2 x)) := by intros; pointwise; rfl)
    (ho3 : ∀ r x, o3 (ix3 0 r x) = x5 (ix3 e r (vlane 3 x)) := by intros; pointwise; rfl)
    (hs0 : ∀ x c, s0 (ix6 0 0 0 0 x c) = x4 (ix6 e 0 0 0 x c) := by intros; pointwise)
    (hs1 : ∀ x c, s1 (ix6 0 0 0 0 x c) = x4 (ix6 e 0 0 1 x c) := by intros; pointwise)
    (hs2 : ∀ x c, s2 (ix6 0 0 0 0 x c) = x4 (ix6 e 0 0 2 x c) := by intros; pointwise)
    (hs3 : ∀ x c, s3 (ix6 0 0 0 0 x c) = x4 (ix6 e 0 0 3 x c) := by intros; pointwise)
    (hd0 : ∀ x c, d0 (ix4 0 0 x c) = D e 0 c x := by intros; pointwise; rfl) (hd1 : ∀ x c, d1 (ix4 0 0 x c) = D e 1 c x := by intros; pointwise; rfl)
    (hd2 : ∀ x c, d2 (ix4 0 0 x c) = D e 2 c x := by intros; pointwise; rfl) (hd3 : ∀ x c, d3 (ix4 0 0 x c) = D e 3 c x := by intros; pointwise; rfl)
    {y : KeyBlock.Idx} {z : Rows1.Idx} (h0 : (y 0).val = e.val := by omega)
    (h1 : (y 1).val = (z 1).val := by omega) (h2 : (y 2).val = (z 2).val := by omega) :
    gateGrad back (rowsDb back 0 w ql kl gl v0 o0 s0 d0 (slices_rows 0)) (rowsDb back 1 w ql kl gl v1 o1 s1 d1 (slices_rows 1))
      (rowsDb back 2 w ql kl gl v2 o2 s2 d2 (slices_rows 2)) (rowsDb back 3 w ql kl gl v3 o3 s3 d3 (slices_rows 3))
      (rowDbl back 0 kl gl v0 s0 d0 (slices_rows 0) (slices_row 0)) (rowDbl back 1 kl gl v1 s1 d1 (slices_rows 1) (slices_row 1))
      (rowDbl back 2 kl gl v2 s2 d2 (slices_rows 2) (slices_row 2)) (rowDbl back 3 kl gl v3 s3 d3 (slices_rows 3) (slices_row 3)) z
      = chunkDla x0 x1 x2 x3 x4 w x5 D back y := by
  idx_vars y
  idx_vars z
  obtain rfl : y0 = e := Fin.ext h0
  obtain rfl : y1 = z1 := Fin.ext h1
  obtain rfl : y2 = z2 := Fin.ext h2
  have L : ∀ h : Fin 4, Loaded y0 h ql kl gl (![v0, v1, v2, v3] h) (![o0, o1, o2, o3] h) (![s0, s1, s2, s3] h) (![d0, d1, d2, d3] h) x0 x1 x2 x3 x4 x5 D := by
    intro h
    fin_cases h
    exacts [⟨hq, hk, hg, hv0, ho0, hs0, hd0⟩, ⟨hq, hk, hg, hv1, ho1, hs1, hd1⟩, ⟨hq, hk, hg, hv2, ho2, hs2, hd2⟩, ⟨hq, hk, hg, hv3, ho3, hs3, hd3⟩]
  rw [show (ix3 z0 y1 y2 : Rows1.Idx) = ix3 0 y1 (lane (khead y2) (kpart y2)) by rw [lane_khead]; idx_ext]
  refine (gateGrad_apply back
    (fun h => rowsDb back h.val w ql kl gl (![v0, v1, v2, v3] h) (![o0, o1, o2, o3] h) (![s0, s1, s2, s3] h) (![d0, d1, d2, d3] h) (slices_rows h))
    (fun h => rowDbl back h.val kl gl (![v0, v1, v2, v3] h) (![s0, s1, s2, s3] h) (![d0, d1, d2, d3] h) (slices_rows h) (slices_row h)) (khead y2)
    (db back (blockQ x0 y0 (khead y2)) (blockK x1 y0 (khead y2)) (blockK x3 y0 (khead y2)) (blockV x2 y0 (khead y2)) (blockO w x5 y0 (khead y2))
      (blockT x4 y0 (khead y2)) (D y0 (khead y2)))
    (dbl back (blockK x1 y0 (khead y2)) (blockK x3 y0 (khead y2)) (blockV x2 y0 (khead y2)) (blockT x4 y0 (khead y2)) (D y0 (khead y2)))
    (fun r c => ?_) (fun c => ?_) y1 (kpart y2)).trans rfl
  · have H := L (khead y2)
    show headDb _ _ _ _ _ _ _ = _
    rw [headDb_apply, H.dqs, H.dks, H.dkd, H.qs, H.ks, H.kd]
    rfl
  · have H := L (khead y2)
    show headDbl _ _ _ _ _ _ = _
    rw [headDbl_apply, H.el]
    simp only [H.dkd, H.kd, H.s, H.d]
    rfl

end

end Cert.Gla
-- ==== Proof.BwdBlock.lean ====
/-
  The gradient kernel at one grid point, in each of its four cases (last chunk or an earlier one; forwards or backwards): the
  blocks it writes and the gradients of states it carries on, as functions of the blocks it reads and of the gradients carried to it.
-/
module

public import proofs.«01_k».proof.Proof.BwdValue
public import proofs.«01_k».proof.Proof.Stores
public import proofs.«01_k».proof.Proof.BwdChunk
public import proofs.«01_k».proof.Proof.Seq

@[expose] public section

set_option maxRecDepth 16384

noncomputable section

open Idealize.ShloMosaic Idealize.ShloMosaic.TcCoe
open Cert.KernelIdeal Cert.KernelIdeal.Gen Cert.KernelIdeal.Bwd Cert.Gla

namespace Cert.KernelIdeal.Block

variable (c : Dev nD) (i : grid0.Coords)
  (arg2 : Memref sig .tc .vmem S2x64x512 .bf16) (harg2 : arg2.IsWhole) (arg3 : Memref sig .tc .vmem S2x64x512 .bf16) (harg3 : arg3.IsWhole)
  (arg4 : Memref sig .tc .vmem S2x64x1024 .bf16) (harg4 : arg4.IsWhole) (arg5 : Memref sig .tc .vmem S2x64x512 .f32) (harg5 : arg5.IsWhole)
  (arg6 : Memref sig .tc .vmem S2x1x1x4x256x128 .f32) (harg6 : arg6.IsWhole) (arg7 : Memref sig .tc .vmem S2x64x1024 .bf16) (harg7 : arg7.IsWhole)
  (arg8 : Memref sig .tc .vmem S1x2x64x512 .bf16) (harg8 : arg8.IsWhole) (arg9 : Memref sig .tc .vmem S1x2x64x512 .bf16) (harg9 : arg9.IsWhole)
  (arg10 : Memref sig .tc .vmem S1x2x64x1024 .bf16) (harg10 : arg10.IsWhole) (arg11 : Memref sig .tc .vmem S2x64x512 .f32) (harg11 : arg11.IsWhole)
  (arg12 : Memref sig .tc .vmem S2x4x256x128 .f32) (harg12 : arg12.IsWhole)
  (x0 x1 : Vec Ideal S2x64x512 .bf16) (x2 : Vec Ideal S2x64x1024 .bf16) (x3 : Vec Ideal S2x64x512 .f32) (x4 : Vec Ideal S2x1x1x4x256x128 .f32)
  (x5 : Vec Ideal S2x64x1024 .bf16) (xs0 : Vec Ideal S2x4x256x128 .f32)

/-- Whether a grid point's positions are latents, for which the outputs have a gradient. -/
def isLatent (i : grid0.Coords) : BitVec 1 :=
  let n : BitVec 32 := Scalar.subi 35#32 (BitVec.ofNat 32 (i 1).val)
  Scalar.cmpi .sge (Scalar.select (Scalar.cmpi .eq (BitVec.ofNat 32 (i 0).val) 0#32) n
    (Scalar.select (Scalar.cmpi .slt n 4#32) (Scalar.subi 3#32 n) (Scalar.subi 39#32 n))) 4#32

/-- The fill before the last chunk. -/
theorem fill_eq : k0_pay1 (F := Ideal) = stateBlock noStates := by
  funext y
  idx_vars y
  pointwise [k0_pay1]
  rfl

theorem dq_A (hc0 : cond0_0 i) (hc1 : cond0_1 i) (hc2 : ¬cond0_2 i) :
    out0_A_6 c i arg2 harg2 arg3 harg3 arg4 harg4 arg5 harg5 arg6 harg6 arg7 harg7 arg8 harg8 arg9 harg9 arg10 harg10 arg11 harg11 arg12 harg12 hc0 hc1 hc2 x0 x1 x2 x3 x4 x5
      = chunkDq x1 x2 x3 x4 (isLatent i) x5 false := by
  funext y
  unfold out0_A_6
  frame_open
  try simp (disch := decide) only [↓ View.readCov_skip, ↓ View.readCov_cons_toLoadRect, ↓ View.readCov_fill]
  frame_out
  try simp only [read_unread_whole]
  canon_tiles z h
  exacts [dq_piece false 1 3, dq_piece false 1 2, dq_piece false 1 1, dq_piece false 1 0, dq_piece false 0 3, dq_piece false 0 2, dq_piece false 0 1, dq_piece false 0 0]

theorem dk_A (hc0 : cond0_0 i) (hc1 : cond0_1 i) (hc2 : ¬cond0_2 i) :
    out0_A_7 c i arg2 harg2 arg3 harg3 arg4 harg4 arg5 harg5 arg6 harg6 arg7 harg7 arg8 harg8 arg9 harg9 arg10 harg10 arg11 harg11 arg12 harg12 hc0 hc1 hc2 x0 x1 x2 x3 x4 x5
      = chunkDk x0 x2 x3 (isLatent i) x5 noStates false := by
  funext y
  unfold out0_A_7
  frame_open
  try simp (disch := decide) only [↓ View.readCov_skip, ↓ View.readCov_cons_toLoadRect, ↓ View.readCov_fill]
  frame_out
  try simp only [read_unread_whole]
  simp only [fill_eq]
  canon_tiles z h
  exacts [dk_piece false 1 3, dk_piece false 1 2, dk_piece false 1 1, dk_piece false 1 0, dk_piece false 0 3, dk_piece false 0 2, dk_piece false 0 1, dk_piece false 0 0]

theorem dv_A (hc0 : cond0_0 i) (hc1 : cond0_1 i) (hc2 : ¬cond0_2 i) :
    out0_A_8 c i arg2 harg2 arg3 harg3 arg4 harg4 arg5 harg5 arg6 harg6 arg7 harg7 arg8 harg8 arg9 harg9 arg10 harg10 arg11 harg11 arg12 harg12 hc0 hc1 hc2 x0 x1 x2 x3 x4 x5
      = chunkDv x0 x1 x3 (isLatent i) x5 noStates false := by
  funext y
  unfold out0_A_8
  frame_open
  try simp (disch := decide) only [↓ View.readCov_skip, ↓ View.readCov_cons_toLoadRect, ↓ View.readCov_fill]
  frame_out
  try simp only [read_unread_whole]
  simp only [fill_eq]
  canon_tiles z h
  exacts [dv_piece false 1 3, dv_piece false 1 2, dv_piece false 1 1, dv_piece false 1 0, dv_piece false 0 3, dv_piece false 0 2, dv_piece false 0 1, dv_piece false 0 0]

theorem dla_A (hc0 : cond0_0 i) (hc1 : cond0_1 i) (hc2 : ¬cond0_2 i) :
    out0_A_9 c i arg2 harg2 arg3 harg3 arg4 harg4 arg5 harg5 arg6 harg6 arg7 harg7 arg8 harg8 arg9 harg9 arg10 harg10 arg11 harg11 arg12 harg12 hc0 hc1 hc2 x0 x1 x2 x3 x4 x5
      = chunkDla x0 x1 x2 x3 x4 (isLatent i) x5 noStates false := by
  funext y
  unfold out0_A_9
  frame_open
  try simp (disch := decide) only [↓ View.readCov_skip, ↓ View.readCov_cons_toLoadRect, ↓ View.readCov_fill]
  frame_out
  try simp only [read_unread_whole]
  simp only [fill_eq]
  canon_tiles z h
  exacts [dla_piece false 1, dla_piece false 0]

theorem prev_A (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5
      = stateBlock (chunkPrev x0 x3 (isLatent i) x5 noStates false) := by
  funext y
  unfold sout0_A_0
  frame_open
  try simp (disch := decide) only [↓ View.readCov_skip, ↓ View.readCov_cons_toLoadRect, ↓ View.readCov_fill]
  frame_out
  try simp only [read_unread_whole]
  refine (canon_append_covered [_] [_, _, _, _, _, _, _, _] y (View.cover_of_tiled_head _ _ _ rfl y)).trans ?_
  simp only [fill_eq]
  canon_tiles z h
  exacts [prev_piece false 1 3, prev_piece false 1 2, prev_piece false 1 1, prev_piece false 1 0, prev_piece false 0 3, prev_piece false 0 2, prev_piece false 0 1, prev_piece false 0 0]

theorem dq_B (hc0 : ¬cond0_0 i) (hc1 : cond0_1 i) (hc2 : ¬cond0_2 i) :
    out0_B_6 c i arg2 harg2 arg3 harg3 arg4 harg4 arg5 harg5 arg6 harg6 arg7 harg7 arg8 harg8 arg9 harg9 arg10 harg10 arg11 harg11 arg12 harg12 hc0 hc1 hc2 x0 x1 x2 x3 x4 x5 xs0
      = chunkDq x1 x2 x3 x4 (isLatent i) x5 false := by
  funext y
  unfold out0_B_6
  frame_open
  try simp (disch := decide) only [↓ View.readCov_skip, ↓ View.readCov_cons_toLoadRect, ↓ View.readCov_fill]
  frame_out
  try simp only [read_unread_whole]
  canon_tiles z h
  exacts [dq_piece false 1 3, dq_piece false 1 2, dq_piece false 1 1, dq_piece false 1 0, dq_piece false 0 3, dq_piece false 0 2, dq_piece false 0 1, dq_piece false 0 0]

theorem dk_B (hc0 : ¬cond0_0 i) (hc1 : cond0_1 i) (hc2 : ¬cond0_2 i) :
    out0_B_7 c i arg2 harg2 arg3 harg3 arg4 harg4 arg5 harg5 arg6 harg6 arg7 harg7 arg8 harg8 arg9 harg9 arg10 harg10 arg11 harg11 arg12 harg12 hc0 hc1 hc2 x0 x1 x2 x3 x4 x5 xs0
      = chunkDk x0 x2 x3 (isLatent i) x5 (blockS xs0) false := by
  funext y
  unfold out0_B_7
  frame_open
  try simp (disch := decide) only [↓ View.readCov_skip, ↓ View.readCov_cons_toLoadRect, ↓ View.readCov_fill]
  frame_out
  try simp only [read_unread_whole]
  canon_tiles z h
  exacts [dk_piece false 1 3, dk_piece false 1 2, dk_piece false 1 1, dk_piece false 1 0, dk_piece false 0 3, dk_piece false 0 2, dk_piece false 0 1, dk_piece false 0 0]

theorem dv_B (hc0 : ¬cond0_0 i) (hc1 : cond0_1 i) (hc2 : ¬cond0_2 i) :
    out0_B_8 c i arg2 harg2 arg3 harg3 arg4 harg4 arg5 harg5 arg6 harg6 arg7 harg7 arg8 harg8 arg9 harg9 arg10 harg10 arg11 harg11 arg12 harg12 hc0 hc1 hc2 x0 x1 x2 x3 x4 x5 xs0
      = chunkDv x0 x1 x3 (isLatent i) x5 (blockS xs0) false := by
  funext y
  unfold out0_B_8
  frame_open
  try simp (disch := decide) only [↓ View.readCov_skip, ↓ View.readCov_cons_toLoadRect, ↓ View.readCov_fill]
  frame_out
  try simp only [read_unread_whole]
  canon_tiles z h
  exacts [dv_piece false 1 3, dv_piece false 1 2, dv_piece false 1 1, dv_piece false 1 0, dv_piece false 0 3, dv_piece false 0 2, dv_piece false 0 1, dv_piece false 0 0]

theorem dla_B (hc0 : ¬cond0_0 i) (hc1 : cond0_1 i) (hc2 : ¬cond0_2 i) :
    out0_B_9 c i arg2 harg2 arg3 harg3 arg4 harg4 arg5 harg5 arg6 harg6 arg7 harg7 arg8 harg8 arg9 harg9 arg10 harg10 arg11 harg11 arg12 harg12 hc0 hc1 hc2 x0 x1 x2 x3 x4 x5 xs0
      = chunkDla x0 x1 x2 x3 x4 (isLatent i) x5 (blockS xs0) false := by
  funext y
  unfold out0_B_9
  frame_open
  try simp (disch := decide) only [↓ View.readCov_skip, ↓ View.readCov_cons_toLoadRect, ↓ View.readCov_fill]
  frame_out
  try simp only [read_unread_whole]
  canon_tiles z h
  exacts [dla_piece false 1, dla_piece false 0]

theorem prev_B (hc0 : ¬cond0_0 i) (hc1 : cond0_1 i) (hc2 : ¬cond0_2 i) :
    sout0_B_0 c i arg2 harg2 arg3 harg3 arg4 harg4 arg5 harg5 arg6 harg6 arg7 harg7 arg8 harg8 arg9 harg9 arg10 harg10 arg11 harg11 arg12 harg12 hc0 hc1 hc2 x0 x1 x2 x3 x4 x5 xs0
      = stateBlock (chunkPrev x0 x3 (isLatent i) x5 (blockS xs0) false) := by
  funext y
  unfold sout0_B_0
  frame_open
  try simp (disch := decide) only [↓ View.readCov_skip, ↓ View.readCov_cons_toLoadRect, ↓ View.readCov_fill]
  frame_out
  try simp only [read_unread_whole]
  canon_tiles z h
  exacts [prev_piece false 1 3, prev_piece false 1 2, prev_piece false 1 1, prev_piece false 1 0, prev_piece false 0 3, prev_piece false 0 2, prev_piece false 0 1, prev_piece false 0 0]

theorem dq_C (hc0 : cond0_0 i) (hc1 : ¬cond0_1 i) (hc2 : cond0_2 i) :
    out0_C_6 c i arg2 harg2 arg3 harg3 arg4 harg4 arg5 harg5 arg6 harg6 arg7 harg7 arg8 harg8 arg9 harg9 arg10 harg10 arg11 harg11 arg12 harg12 hc0 hc1 hc2 x0 x1 x2 x3 x4 x5
      = chunkDq x1 x2 x3 x4 (isLatent i) x5 true := by
  funext y
  unfold out0_C_6
  frame_open
  try simp (disch := decide) only [↓ View.readCov_skip, ↓ View.readCov_cons_toLoadRect, ↓ View.readCov_fill]
  frame_out
  try simp only [read_unread_whole]
  canon_tiles z h
  exacts [dq_piece true 1 3, dq_piece true 1 2, dq_piece true 1 1, dq_piece true 1 0, dq_piece true 0 3, dq_piece true 0 2, dq_piece true 0 1, dq_piece true 0 0]

theorem dk_C (hc0 : cond0_0 i) (hc1 : ¬cond0_1 i) (hc2 : cond0_2 i) :
    out0_C_7 c i arg2 harg2 arg3 harg3 arg4 harg4 arg5 harg5 arg6 harg6 arg7 harg7 arg8 harg8 arg9 harg9 arg10 harg10 arg11 harg11 arg12 harg12 hc0 hc1 hc2 x0 x1 x2 x3 x4 x5
      = chunkDk x0 x2 x3 (isLatent i) x5 noStates true := by
  funext y
  unfold out0_C_7
  frame_open
  try simp (disch := decide) only [↓ View.readCov_skip, ↓ View.readCov_cons_toLoadRect, ↓ View.readCov_fill]
  frame_out
  try simp only [read_unread_whole]
  simp only [fill_eq]
  canon_tiles z h
  exacts [dk_piece true 1 3, dk_piece true 1 2, dk_piece true 1 1, dk_piece true 1 0, dk_piece true 0 3, dk_piece true 0 2, dk_piece true 0 1, dk_piece true 0 0]

theorem dv_C (hc0 : cond0_0 i) (hc1 : ¬cond0_1 i) (hc2 : cond0_2 i) :
    out0_C_8 c i arg2 harg2 arg3 harg3 arg4 harg4 arg5 harg5 arg6 harg6 arg7 harg7 arg8 harg8 arg9 harg9 arg10 harg10 arg11 harg11 arg12 harg12 hc0 hc1 hc2 x0 x1 x2 x3 x4 x5
      = chunkDv x0 x1 x3 (isLatent i) x5 noStates true := by
  funext y
  unfold out0_C_8
  frame_open
  try simp (disch := decide) only [↓ View.readCov_skip, ↓ View.readCov_cons_toLoadRect, ↓ View.readCov_fill]
  frame_out
  try simp only [read_unread_whole]
  simp only [fill_eq]
  canon_tiles z h
  exacts [dv_piece true 1 3, dv_piece true 1 2, dv_piece true 1 1, dv_piece true 1 0, dv_piece true 0 3, dv_piece true 0 2, dv_piece true 0 1, dv_piece true 0 0]

theorem dla_C (hc0 : cond0_0 i) (hc1 : ¬cond0_1 i) (hc2 : cond0_2 i) :
    out0_C_9 c i arg2 harg2 arg3 harg3 arg4 harg4 arg5 harg5 arg6 harg6 arg7 harg7 arg8 harg8 arg9 harg9 arg10 harg10 arg11 harg11 arg12 harg12 hc0 hc1 hc2 x0 x1 x2 x3 x4 x5
      = chunkDla x0 x1 x2 x3 x4 (isLatent i) x5 noStates true := by
  funext y
  unfold out0_C_9
  frame_open
  try simp (disch := decide) only [↓ View.readCov_skip, ↓ View.readCov_cons_toLoadRect, ↓ View.readCov_fill]
  frame_out
  try simp only [read_unread_whole]
  simp only [fill_eq]
  canon_tiles z h
  exacts [dla_piece true 1, dla_piece true 0]

theorem prev_C (hc0 : cond0_0 i) (hc1 : ¬cond0_1 i) (hc2 : cond0_2 i) :
    sout0_C_0 c i arg2 harg2 arg3 harg3 arg4 harg4 arg5 harg5 arg6 harg6 arg7 harg7 arg8 harg8 arg9 harg9 arg10 harg10 arg11 harg11 arg12 harg12 hc0 hc1 hc2 x0 x1 x2 x3 x4 x5
      = stateBlock (chunkPrev x0 x3 (isLatent i) x5 noStates true) := by
  funext y
  unfold sout0_C_0
  frame_open
  try simp (disch := decide) only [↓ View.readCov_skip, ↓ View.readCov_cons_toLoadRect, ↓ View.readCov_fill]
  frame_out
  try simp only [read_unread_whole]
  refine (canon_append_covered [_] [_, _, _, _, _, _, _, _] y (View.cover_of_tiled_head _ _ _ rfl y)).trans ?_
  simp only [fill_eq]
  canon_tiles z h
  exacts [prev_piece true 1 3, prev_piece true 1 2, prev_piece true 1 1, prev_piece true 1 0, prev_piece true 0 3, prev_piece true 0 2, prev_piece true 0 1, prev_piece true 0 0]

theorem dq_D (hc0 : ¬cond0_0 i) (hc1 : ¬cond0_1 i) (hc2 : cond0_2 i) :
    out0_D_6 c i arg2 harg2 arg3 harg3 arg4 harg4 arg5 harg5 arg6 harg6 arg7 harg7 arg8 harg8 arg9 harg9 arg10 harg10 arg11 harg11 arg12 harg12 hc0 hc1 hc2 x0 x1 x2 x3 x4 x5 xs0
      = chunkDq x1 x2 x3 x4 (isLatent i) x5 true := by
  funext y
  unfold out0_D_6
  frame_open
  try simp (disch := decide) only [↓ View.readCov_skip, ↓ View.readCov_cons_toLoadRect, ↓ View.readCov_fill]
  frame_out
  try simp only [read_unread_whole]
  canon_tiles z h
  exacts [dq_piece true 1 3, dq_piece true 1 2, dq_piece true 1 1, dq_piece true 1 0, dq_piece true 0 3, dq_piece true 0 2, dq_piece true 0 1, dq_piece true 0 0]

theorem dk_D (hc0 : ¬cond0_0 i) (hc1 : ¬cond0_1 i) (hc2 : cond0_2 i) :
    out0_D_7 c i arg2 harg2 arg3 harg3 arg4 harg4 arg5 harg5 arg6 harg6 arg7 harg7 arg8 harg8 arg9 harg9 arg10 harg10 arg11 harg11 arg12 harg12 hc0 hc1 hc2 x0 x1 x2 x3 x4 x5 xs0
      = chunkDk x0 x2 x3 (isLatent i) x5 (blockS xs0) true := by
  funext y
  unfold out0_D_7
  frame_open
  try simp (disch := decide) only [↓ View.readCov_skip, ↓ View.readCov_cons_toLoadRect, ↓ View.readCov_fill]
  frame_out
  try simp only [read_unread_whole]
  canon_tiles z h
  exacts [dk_piece true 1 3, dk_piece true 1 2, dk_piece true 1 1, dk_piece true 1 0, dk_piece true 0 3, dk_piece true 0 2, dk_piece true 0 1, dk_piece true 0 0]

theorem dv_D (hc0 : ¬cond0_0 i) (hc1 : ¬cond0_1 i) (hc2 : cond0_2 i) :
    out0_D_8 c i arg2 harg2 arg3 harg3 arg4 harg4 arg5 harg5 arg6 harg6 arg7 harg7 arg8 harg8 arg9 harg9 arg10 harg10 arg11 harg11 arg12 harg12 hc0 hc1 hc2 x0 x1 x2 x3 x4 x5 xs0
      = chunkDv x0 x1 x3 (isLatent i) x5 (blockS xs0) true := by
  funext y
  unfold out0_D_8
  frame_open
  try simp (disch := decide) only [↓ View.readCov_skip, ↓ View.readCov_cons_toLoadRect, ↓ View.readCov_fill]
  frame_out
  try simp only [read_unread_whole]
  canon_tiles z h
  exacts [dv_piece true 1 3, dv_piece true 1 2, dv_piece true 1 1, dv_piece true 1 0, dv_piece true 0 3, dv_piece true 0 2, dv_piece true 0 1, dv_piece true 0 0]

theorem dla_D (hc0 : ¬cond0_0 i) (hc1 : ¬cond0_1 i) (hc2 : cond0_2 i) :
    out0_D_9 c i arg2 harg2 arg3 harg3 arg4 harg4 arg5 harg5 arg6 harg6 arg7 harg7 arg8 harg8 arg9 harg9 arg10 harg10 arg11 harg11 arg12 harg12 hc0 hc1 hc2 x0 x1 x2 x3 x4 x5 xs0
      = chunkDla x0 x1 x2 x3 x4 (isLatent i) x5 (blockS xs0) true := by
  funext y
  unfold out0_D_9
  frame_open
  try simp (disch := decide) only [↓ View.readCov_skip, ↓ View.readCov_cons_toLoadRect, ↓ View.readCov_fill]
  frame_out
  try simp only [read_unread_whole]
  canon_tiles z h
  exacts [dla_piece true 1, dla_piece true 0]

theorem prev_D (hc0 : ¬cond0_0 i) (hc1 : ¬cond0_1 i) (hc2 : cond0_2 i) :
    sout0_D_0 c i arg2 harg2 arg3 harg3 arg4 harg4 arg5 harg5 arg6 harg6 arg7 harg7 arg8 harg8 arg9 harg9 arg10 harg10 arg11 harg11 arg12 harg12 hc0 hc1 hc2 x0 x1 x2 x3 x4 x5 xs0
      = stateBlock (chunkPrev x0 x3 (isLatent i) x5 (blockS xs0) true) := by
  funext y
  unfold sout0_D_0
  frame_open
  try simp (disch := decide) only [↓ View.readCov_skip, ↓ View.readCov_cons_toLoadRect, ↓ View.readCov_fill]
  frame_out
  try simp only [read_unread_whole]
  canon_tiles z h
  exacts [prev_piece true 1 3, prev_piece true 1 2, prev_piece true 1 1, prev_piece true 1 0, prev_piece true 0 3, prev_piece true 0 2, prev_piece true 0 1, prev_piece true 0 0]

end Cert.KernelIdeal.Block
-- ==== Proof.BwdSeq.lean ====
/-
  The gradients over the whole sequence: 36 chunks, from the last to the first of each direction. The gradients of the
  states after every chunk; the arrays of the gradients of queries, keys, values and gates.
-/
module

public import proofs.«01_k».proof.Proof.Seq

@[expose] public section

set_option maxRecDepth 16384

noncomputable section

open Idealize.ShloMosaic Idealize.ShloMosaic.TcCoe

namespace Cert.Gla

/-- The states before every chunk, and the gradients of the outputs at the latents. -/
abbrev Stored := FVec Ideal ⟨6, ![2, 2, 36, 4, 256, 128]⟩ .f32
abbrev OutGrads := FVec Ideal ⟨3, ![2, 2048, 1024]⟩ .bf16

variable (p : Proj) (l : Gates) (s : Stored) (o : OutGrads) (d e : Fin 2) (h : Fin 4)

/-- The gradient of the outputs in block `b`: the first four blocks, the context, are not put out. -/
def chunkO (b : ℕ) : Vals := fun r x => if 4 ≤ b then o (ix3 e ⟨(64 * (b - 4) + r.val) % 2048, by omega⟩ (vlane h x)) else (0 : EReal)

/-- The state before chunk `n`. -/
def chunkS (n : ℕ) : State := fun c x => s (ix6 e d ⟨n % 36, by omega⟩ h x c)

/-- The gradient of the states, `n` chunks from the end. -/
def gradStates : ℕ → States
  | 0 => noStates
  | n + 1 => fun e h => dprev (back d) (chunkQ p e h (place d (35 - n))) (chunkG l d e h (place d (35 - n))) (chunkO o e h (place d (35 - n))) (gradStates n e h)

/-- The gradients in block `b`. -/
def dqOf (b : ℕ) : Keys := dq (back d) (chunkK p e h b) (chunkG l d e h b) (chunkV p e h b) (chunkO o e h b) (chunkS s d e h (place d b))
def dkOf (b : ℕ) : Keys :=
  dk (back d) (chunkQ p e h b) (chunkG l d e h b) (chunkV p e h b) (chunkO o e h b) (gradStates p l o d (35 - place d b) e h)
def dvOf (b : ℕ) : Vals :=
  dv (back d) (chunkQ p e h b) (chunkK p e h b) (chunkG l d e h b) (chunkO o e h b) (gradStates p l o d (35 - place d b) e h)
def dlaOf (b : ℕ) : Keys :=
  dla (back d) (chunkQ p e h b) (chunkK p e h b) (chunkG l d e h b) (chunkV p e h b) (chunkO o e h b) (chunkS s d e h (place d b))
    (gradStates p l o d (35 - place d b) e h)

/-- The arrays of gradients. -/
def gradQ : FVec Ideal ⟨4, ![2, 2, 2304, 512]⟩ .bf16 := fun y =>
  dqOf p l s o (y 0) (y 1) (khead (y 3)) (blockOf (y 2)) (rowOf (y 2)) (kpart (y 3)) * scale
def gradK : FVec Ideal ⟨4, ![2, 2, 2304, 512]⟩ .bf16 := fun y =>
  dkOf p l o (y 0) (y 1) (khead (y 3)) (blockOf (y 2)) (rowOf (y 2)) (kpart (y 3))
def gradV : FVec Ideal ⟨4, ![2, 2, 2304, 1024]⟩ .bf16 := fun y =>
  dvOf p l o (y 0) (y 1) (vhead (y 3)) (blockOf (y 2)) (rowOf (y 2)) (vpart (y 3))

/-- The lanes of the gates: direction, head, key lane. -/
def gdir (i : Fin 1024) : Fin 2 := ⟨i.val / 512, by omega⟩
def glow (i : Fin 1024) : Fin 512 := ⟨i.val % 512, by omega⟩

def gradG : FVec Ideal ⟨3, ![2, 2304, 1024]⟩ .f32 := fun y =>
  dlaOf p l s o (gdir (y 2)) (y 0) (khead (glow (y 2))) (blockOf (y 1)) (rowOf (y 1)) (kpart (glow (y 2)))

/-- The gradients of the gates, at a direction's lane of a block's row. -/
theorem gradG_at (b : ℕ) (hb : b < 36) (r : Fin 64) (x : Fin 512) :
    gradG p l s o (ix3 e (pos b r) ⟨512 * d.val + x.val, by omega⟩) = dlaOf p l s o d e (khead x) b r (kpart x) := by
  have h1 : gdir ⟨512 * d.val + x.val, by omega⟩ = d := Fin.ext (by simp only [gdir]; omega)
  have h2 : glow ⟨512 * d.val + x.val, by omega⟩ = x := Fin.ext (by simp only [glow]; omega)
  show dlaOf p l s o (gdir ⟨512 * d.val + x.val, by omega⟩) e (khead (glow ⟨512 * d.val + x.val, by omega⟩)) (blockOf (pos b r)) (rowOf (pos b r))
    (kpart (glow ⟨512 * d.val + x.val, by omega⟩)) = _
  rw [h1, h2, blockOf_pos b hb, rowOf_pos b hb]

end Cert.Gla
-- ==== Proof.BwdArrays.lean ====
/-
  The gradient kernel's arrays: the gradients of states it carries from point to point, and what its blocks make up.
-/
module

public import proofs.«01_k».proof.Proof.BwdBlock
public import proofs.«01_k».proof.Proof.BwdSeq

@[expose] public section

set_option maxRecDepth 16384

noncomputable section

open Idealize.ShloMosaic Idealize.ShloMosaic.TcCoe
open Idealize.ShloMosaic.Pipeline (Dat)
open Cert.KernelIdeal Cert.KernelIdeal.Gen Cert.KernelIdeal.Bwd Cert.Gla

namespace Cert.KernelIdeal.Arrays

variable (m : (ℓ : Loc nD τ sig) → Buf (Elt Ideal) ℓ) (c : Dev nD)

/-- The direction of a grid point, its chunk and the block it reads. -/
def dir (t : ℕ) : Fin 2 := if t < 36 then 0 else 1
def blk (t : ℕ) : ℕ := place (dir t) (35 - t % 36)

/-- The arguments. -/
abbrev projs : Proj := m ((c : Thread nD τ).loc main_arg0)
abbrev gateArr : Gates := m ((c : Thread nD τ).loc main_arg1)
abbrev stored : Stored := m ((c : Thread nD τ).loc main_arg2)
abbrev outGrads : OutGrads := m ((c : Thread nD τ).loc main_arg3)

theorem idx : ∀ t : Fin cfg0.N, win0_0.index t = ![0, blk t.val, 0] ∧ win0_1.index t = ![0, blk t.val, 1] ∧ win0_2.index t = ![0, blk t.val, 1]
    ∧ win0_3.index t = ![0, blk t.val, (dir t.val).val] ∧ win0_4.index t = ![0, (dir t.val).val, 35 - t.val % 36, 0, 0, 0]
    ∧ win0_5.index t = ![0, blk t.val - 4, 0] ∧ win0_6.index t = ![(dir t.val).val, 0, blk t.val, 0]
    ∧ win0_7.index t = ![(dir t.val).val, 0, blk t.val, 0] ∧ win0_8.index t = ![(dir t.val).val, 0, blk t.val, 0]
    ∧ win0_9.index t = ![0, blk t.val, (dir t.val).val] ∧ blk t.val < 36 :=
  (by decide +kernel : ∀ t : Fin grid0.N, _)

theorem blk_lt (t : Fin cfg0.N) : blk t.val < 36 := (idx t).2.2.2.2.2.2.2.2.2.2

theorem latent : ∀ t : Fin cfg0.N, Block.isLatent (grid0.coords t) = if 4 ≤ blk t.val then 1#1 else 0#1 :=
  (by decide +kernel : ∀ t : Fin grid0.N, _)

theorem x0_at (t : Fin cfg0.N) (e : Fin 2) (r : Fin 64) (k : Fin 512) :
    X0_0 m c t (ix3 e r k) = projs m c (ix3 e (pos (blk t.val) r) ⟨k.val, by omega⟩) := by
  have hb := blk_lt t
  unfold X0_0 Pipeline.Window.fill
  rw [dif_pos (moved0_0 t _)]
  blk_ext [iblk, V, idx t, pos]

theorem x1_at (t : Fin cfg0.N) (e : Fin 2) (r : Fin 64) (k : Fin 512) :
    X0_1 m c t (ix3 e r k) = projs m c (ix3 e (pos (blk t.val) r) ⟨512 + k.val, by omega⟩) := by
  have hb := blk_lt t
  unfold X0_1 Pipeline.Window.fill
  rw [dif_pos (moved0_1 t _)]
  blk_ext [iblk, V, idx t, pos]

theorem x2_at (t : Fin cfg0.N) (e : Fin 2) (r : Fin 64) (k : Fin 1024) :
    X0_2 m c t (ix3 e r k) = projs m c (ix3 e (pos (blk t.val) r) ⟨1024 + k.val, by omega⟩) := by
  have hb := blk_lt t
  unfold X0_2 Pipeline.Window.fill
  rw [dif_pos (moved0_2 t _)]
  blk_ext [iblk, V, idx t, pos]

theorem x3_at (t : Fin cfg0.N) (e : Fin 2) (r : Fin 64) (k : Fin 512) :
    iblk m c 3 t (ix3 e r k) = gateArr m c (ix3 e (pos (blk t.val) r) ⟨512 * (dir t.val).val + k.val, by omega⟩) := by
  have hb := blk_lt t
  blk_ext [iblk, V, idx t, pos]

theorem x4_at (t : Fin cfg0.N) (e : Fin 2) (h : Fin 4) (x : Fin 256) (k : Fin 128) :
    iblk m c 4 t (ix6 e 0 0 h x k) = stored m c (ix6 e (dir t.val) ⟨(35 - t.val % 36) % 36, by omega⟩ h x k) := by
  blk_ext [iblk, V, idx t]

theorem x5_at (t : Fin cfg0.N) (e : Fin 2) (r : Fin 64) (k : Fin 1024) :
    iblk m c 5 t (ix3 e r k) = outGrads m c (ix3 e ⟨(64 * (blk t.val - 4) + r.val) % 2048, by omega⟩ k) := by
  have hb := blk_lt t
  blk_ext [iblk, V, idx t]

theorem readQ (t : Fin cfg0.N) (e : Fin 2) (h : Fin 4) : blockQ (X0_0 m c t) e h = chunkQ (projs m c) e h (blk t.val) := by
  funext r k
  unfold blockQ chunkQ
  rw [x0_at]
  rfl

theorem readK (t : Fin cfg0.N) (e : Fin 2) (h : Fin 4) : blockK (φ := .bf16) (X0_1 m c t) e h = chunkK (projs m c) e h (blk t.val) := by
  funext r k
  unfold blockK chunkK
  rw [x1_at]
  rfl

theorem readV (t : Fin cfg0.N) (e : Fin 2) (h : Fin 4) : blockV (φ := .bf16) (X0_2 m c t) e h = chunkV (projs m c) e h (blk t.val) := by
  funext r k
  unfold blockV chunkV
  rw [x2_at]
  rfl

theorem readG (t : Fin cfg0.N) (e : Fin 2) (h : Fin 4) : blockK (φ := .f32) (iblk m c 3 t) e h = chunkG (gateArr m c) (dir t.val) e h (blk t.val) := by
  funext r k
  unfold blockK chunkG
  rw [x3_at]
  rfl

theorem readS (t : Fin cfg0.N) (e : Fin 2) (h : Fin 4) : blockT (iblk m c 4 t) e h = chunkS (stored m c) (dir t.val) e h (place (dir t.val) (blk t.val)) := by
  funext k x
  unfold blockT
  rw [x4_at, blk, place_place _ _ (by omega)]
  rfl

theorem readO (t : Fin cfg0.N) (e : Fin 2) (h : Fin 4) :
    blockO (Block.isLatent (grid0.coords t)) (iblk m c 5 t) e h = chunkO (outGrads m c) e h (blk t.val) := by
  funext r x
  unfold blockO chunkO
  rw [latent, x5_at]
  by_cases hb : 4 ≤ blk t.val
  · rw [if_pos hb, if_pos hb, if_pos rfl]
  · rw [if_neg hb, if_neg hb, if_neg (by decide)]

/-- The gradients of the states after a grid point's chunk. -/
def after (t : ℕ) : States := gradStates (projs m c) (gateArr m c) (outGrads m c) (dir t) (t % 36)

theorem after_start (t : ℕ) (h : t % 36 = 0) : after m c t = noStates := by
  unfold after
  rw [h]
  rfl

/-- What a grid point leaves: the gradients in its block, and the gradients of the states before its chunk. -/
def Leaves (t : Fin cfg0.N) : Prop :=
  outsAt0 m c t.val t.isLt
    = (chunkDq (X0_1 m c t) (X0_2 m c t) (iblk m c 3 t) (iblk m c 4 t) (Block.isLatent (grid0.coords t)) (iblk m c 5 t) (back (dir t.val)),
        chunkDk (X0_0 m c t) (X0_2 m c t) (iblk m c 3 t) (Block.isLatent (grid0.coords t)) (iblk m c 5 t) (after m c t.val) (back (dir t.val)),
        chunkDv (X0_0 m c t) (X0_1 m c t) (iblk m c 3 t) (Block.isLatent (grid0.coords t)) (iblk m c 5 t) (after m c t.val) (back (dir t.val)),
        chunkDla (X0_0 m c t) (X0_1 m c t) (X0_2 m c t) (iblk m c 3 t) (iblk m c 4 t) (Block.isLatent (grid0.coords t)) (iblk m c 5 t) (after m c t.val)
          (back (dir t.val)),
        stateBlock (chunkPrev (X0_0 m c t) (iblk m c 3 t) (Block.isLatent (grid0.coords t)) (iblk m c 5 t) (after m c t.val) (back (dir t.val))))

/-- The gradients before a point's chunk are those after the next point's, while the direction lasts. -/
theorem prev_eq (t u : Fin cfg0.N) (htu : u.val = t.val + 1) (hu : ¬u.val % 36 = 0) :
    chunkPrev (X0_0 m c t) (iblk m c 3 t) (Block.isLatent (grid0.coords t)) (iblk m c 5 t) (after m c t.val) (back (dir t.val)) = after m c u.val := by
  have hN : u.val < 72 := u.isLt
  have hd : dir u.val = dir t.val := by
    unfold dir
    split_ifs <;> first | rfl | omega
  have hn : u.val % 36 = t.val % 36 + 1 := by omega
  funext e h
  unfold chunkPrev
  rw [readQ, readG, readO]
  unfold after
  rw [hd, hn]
  rfl

theorem leaves (n : ℕ) : ∀ t : Fin cfg0.N, t.val = n → Leaves m c t := by
  induction n with
  | zero =>
    intro t ht
    have h0 : t.val % 36 = 0 := by omega
    have h1 : t.val < 36 := by omega
    have hd : back (dir t.val) = false := by simp [dir, h1, back]
    unfold Leaves
    rw [outsAt0_A m c t h0 h1 (by omega), Block.dq_A, Block.dk_A, Block.dv_A, Block.dla_A, Block.prev_A, after_start m c _ h0, hd]
  | succ n ih =>
    intro t ht
    have hN : t.val < 72 := t.isLt
    by_cases h0 : t.val % 36 = 0
    · have h1 : ¬t.val < 36 := by omega
      have hd : back (dir t.val) = true := by simp [dir, h1, back]
      unfold Leaves
      rw [outsAt0_C m c t h0 h1 (by omega), Block.dq_C, Block.dk_C, Block.dv_C, Block.dla_C, Block.prev_C, after_start m c _ h0, hd]
    · have hp : n < cfg0.N := by show n < 72; omega
      have prev : outsAt0 m c (t.val - 1) (Nat.lt_of_le_of_lt (Nat.sub_le _ _) t.isLt) = outsAt0 m c n hp := by
        congr 1
        omega
      have hs : blockS (outsAt0 m c (t.val - 1) (Nat.lt_of_le_of_lt (Nat.sub_le _ _) t.isLt)).2.2.2.2 = after m c t.val := by
        rw [prev, ih ⟨n, hp⟩ rfl, blockS_stateBlock]
        exact prev_eq m c ⟨n, hp⟩ t ht h0
      unfold Leaves
      by_cases h1 : t.val < 36
      · have hd : back (dir t.val) = false := by simp [dir, h1, back]
        rw [outsAt0_B m c t h0 h1 (by omega), Block.dq_B, Block.dk_B, Block.dv_B, Block.dla_B, Block.prev_B, hs, hd]
      · have hd : back (dir t.val) = true := by simp [dir, h1, back]
        rw [outsAt0_D m c t h0 h1 (by omega), Block.dq_D, Block.dk_D, Block.dv_D, Block.dla_D, Block.prev_D, hs, hd]

theorem place_blk (t : Fin cfg0.N) : 35 - place (dir t.val) (blk t.val) = t.val % 36 := by
  have ht : t.val < 72 := t.isLt
  rw [blk, place_place _ _ (by omega)]
  omega

/-- The arrays of gradients. -/
theorem arr6 : (dats m 0 c).arrAt 6 cfg0.N = gradQ (projs m c) (gateArr m c) (stored m c) (outGrads m c) := by
  refine (dats m 0 c).arrAt_eq_of_covers 6 _ (by decide +kernel) fun t hf y => ?_
  have hl := leaves m c t.val t rfl
  unfold Leaves at hl
  blk_simp
  rw [after0_6, hl]
  have hb := blk_lt t
  idx_vars y
  have he : ((View.whole main_v0_0).slice (win0_6.rect t)).emb (ix4 y0 y1 y2 y3) = ix4 (dir t.val) y1 (pos (blk t.val) y2) y3 := by
    blk_ext [idx t, pos]
  rw [he]
  show dq _ (blockK (X0_1 m c t) y1 (khead y3)) (blockK (iblk m c 3 t) y1 (khead y3)) (blockV (X0_2 m c t) y1 (khead y3))
      (blockO (Block.isLatent (grid0.coords t)) (iblk m c 5 t) y1 (khead y3)) (blockT (iblk m c 4 t) y1 (khead y3)) y2 (kpart y3) * scale
    = dqOf _ _ _ _ (dir t.val) y1 (khead y3) (blockOf (pos (blk t.val) y2)) (rowOf (pos (blk t.val) y2)) (kpart y3) * scale
  rw [readK, readG, readV, readO, readS, blockOf_pos _ hb, rowOf_pos _ hb]
  rfl

theorem arr7 : (dats m 0 c).arrAt 7 cfg0.N = gradK (projs m c) (gateArr m c) (outGrads m c) := by
  refine (dats m 0 c).arrAt_eq_of_covers 7 _ (by decide +kernel) fun t hf y => ?_
  have hl := leaves m c t.val t rfl
  unfold Leaves at hl
  blk_simp
  rw [after0_7, hl]
  have hb := blk_lt t
  idx_vars y
  have he : ((View.whole main_v0_1).slice (win0_7.rect t)).emb (ix4 y0 y1 y2 y3) = ix4 (dir t.val) y1 (pos (blk t.val) y2) y3 := by
    blk_ext [idx t, pos]
  rw [he]
  show dk _ (blockQ (X0_0 m c t) y1 (khead y3)) (blockK (iblk m c 3 t) y1 (khead y3)) (blockV (X0_2 m c t) y1 (khead y3))
      (blockO (Block.isLatent (grid0.coords t)) (iblk m c 5 t) y1 (khead y3)) (after m c t.val y1 (khead y3)) y2 (kpart y3)
    = dkOf _ _ _ (dir t.val) y1 (khead y3) (blockOf (pos (blk t.val) y2)) (rowOf (pos (blk t.val) y2)) (kpart y3)
  rw [readQ, readG, readV, readO, blockOf_pos _ hb, rowOf_pos _ hb, dkOf, place_blk]
  rfl

theorem arr8 : (dats m 0 c).arrAt 8 cfg0.N = gradV (projs m c) (gateArr m c) (outGrads m c) := by
  refine (dats m 0 c).arrAt_eq_of_covers 8 _ (by decide +kernel) fun t hf y => ?_
  have hl := leaves m c t.val t rfl
  unfold Leaves at hl
  blk_simp
  rw [after0_8, hl]
  have hb := blk_lt t
  idx_vars y
  have he : ((View.whole main_v0_2).slice (win0_8.rect t)).emb (ix4 y0 y1 y2 y3) = ix4 (dir t.val) y1 (pos (blk t.val) y2) y3 := by
    blk_ext [idx t, pos]
  rw [he]
  show dv _ (blockQ (X0_0 m c t) y1 (vhead y3)) (blockK (X0_1 m c t) y1 (vhead y3)) (blockK (iblk m c 3 t) y1 (vhead y3))
      (blockO (Block.isLatent (grid0.coords t)) (iblk m c 5 t) y1 (vhead y3)) (after m c t.val y1 (vhead y3)) y2 (vpart y3)
    = dvOf _ _ _ (dir t.val) y1 (vhead y3) (blockOf (pos (blk t.val) y2)) (rowOf (pos (blk t.val) y2)) (vpart y3)
  rw [readQ, readK, readG, readO, blockOf_pos _ hb, rowOf_pos _ hb, dvOf, place_blk]
  rfl

theorem arr9 : (dats m 0 c).arrAt 9 cfg0.N = gradG (projs m c) (gateArr m c) (stored m c) (outGrads m c) := by
  refine (dats m 0 c).arrAt_eq_of_covers 9 _ (by decide +kernel) fun t hf y => ?_
  have hl := leaves m c t.val t rfl
  unfold Leaves at hl
  blk_simp
  rw [after0_9, hl]
  have hb := blk_lt t
  idx_vars y
  have he : ((View.whole main_v0_3).slice (win0_9.rect t)).emb (ix3 y0 y1 y2)
      = ix3 y0 (pos (blk t.val) y1) ⟨512 * (dir t.val).val + y2.val, by omega⟩ := by
    blk_ext [idx t, pos]
  rw [he, gradG_at _ _ _ _ _ _ _ hb]
  show dla _ (blockQ (X0_0 m c t) y0 (khead y2)) (blockK (X0_1 m c t) y0 (khead y2)) (blockK (iblk m c 3 t) y0 (khead y2)) (blockV (X0_2 m c t) y0 (khead y2))
      (blockO (Block.isLatent (grid0.coords t)) (iblk m c 5 t) y0 (khead y2)) (blockT (iblk m c 4 t) y0 (khead y2)) (after m c t.val y0 (khead y2)) y1 (kpart y2) = _
  rw [readQ, readK, readG, readV, readO, readS, dlaOf, place_blk]
  rfl

end Cert.KernelIdeal.Arrays
-- ==== Proof.BwdRefStep.lean ====
/-
  One trip of the gradient reference's loop, read at an index: the gradients of one chunk of `Spec`, for each of the four sequences.
-/
module

public import proofs.«01_k».proof.Proof.Gen.ReferenceIdeal.Run
public import proofs.«01_k».proof.Proof.Windows
public import proofs.«01_k».proof.Proof.Reversal

@[expose] public section

set_option maxRecDepth 16384

noncomputable section

open Idealize.ShloMosaic Idealize.ShloMosaic.TcCoe
open Cert.ReferenceIdeal Cert.ReferenceIdeal.Gen Cert.ReferenceIdeal.Value Cert.Gla

namespace Cert.ReferenceIdeal.Trip

variable (V : Valuation τ sig (Elt Ideal)) (p : Fin 36) (b h : Fin 4)

/-- The loop's arrays of states, queries, keys, values, gates and gradients of outputs, and the gradients of states it carries. -/
abbrev sStack : FVec Ideal S36x4x4x128x256 .f32 := V (Proc.devRef .tc main_v52_0)
abbrev qStack : FVec Ideal S36x4x4x64x128 .f32 := V (Proc.devRef .tc main_v52_1)
abbrev kStack : FVec Ideal S36x4x4x64x128 .f32 := V (Proc.devRef .tc main_v52_2)
abbrev vStack : FVec Ideal S36x4x4x64x256 .f32 := V (Proc.devRef .tc main_v52_3)
abbrev gStack : FVec Ideal S36x4x4x64x128 .f32 := V (Proc.devRef .tc main_v52_4)
abbrev oStack : FVec Ideal S36x4x4x64x256 .f32 := V (Proc.devRef .tc main_v52_5)
abbrev gradArr : FVec Ideal S4x4x128x256 .f32 := V (Proc.devRef .tc main_v52_7)

def s : State := fun c x => sStack V (ix5 p b h c x)
def q : Keys := fun r c => qStack V (ix5 p b h r c)
def k : Keys := fun r c => kStack V (ix5 p b h r c)
def v : Vals := fun r c => vStack V (ix5 p b h r c)
def g : Keys := fun r c => gStack V (ix5 p b h r c)
def o : Vals := fun r c => oStack V (ix5 p b h r c)
def ds : State := fun c x => gradArr V (ix4 b h c x)

/-- The comparison of positions, as bits. -/
theorem causal_bits (r j : Fin 64) :
    Scalar.select (IntOp.cmpi CmpIPredicate.sge (IntOp.addi (BitVec.ofNat 32 r.val) 0#32) (BitVec.ofNat 32 j.val)) (1#1) (0#1)
      = if le false j r then 1#1 else 0#1 :=
  (by decide +kernel : ∀ r j : Fin 64, Scalar.select (IntOp.cmpi CmpIPredicate.sge (IntOp.addi (BitVec.ofNat 32 r.val) 0#32) (BitVec.ofNat 32 j.val)) (1#1) (0#1)
      = if le false j r then 1#1 else 0#1) r j

theorem mask_at (r j : Fin 64) : res_main_while0b_v126_1 V (ix4 b h r j) = if le false j r then 1#1 else 0#1 := by
  rw [← causal_bits]
  pointwise [res_main_while0b_v126_1]

/-- What a position adds to the gradients of the gates before it: its own part, and at the end of the chunk what all the gates are given. -/
theorem gate_eq (j : Fin 64) (c : Fin 128) (q k g : Keys) (v o : Vals) (s ds : State) (x : EReal) :
    -(dkd v ds j c * kd false k g j c) + -(k j c * dks false q g v o j c * Ideal.exp (0 - cum false g j c))
        + q j c * dqs false k g v o s j c * Ideal.exp (cum false g j c) + x
      = db false q k g v o s ds j c + x := by
  refine congrArg (· + x) ?_
  unfold db qs ks
  rw [sub_eq_add_neg, sub_eq_add_neg, mul_comm (k j c), mul_assoc (dks false q g v o j c), mul_comm (q j c), mul_assoc (dqs false k g v o s j c),
    add_comm (-_) (-_), add_comm _ (dqs false k g v o s j c * _), ← add_assoc,
    sub_eq_add_neg (dqs false k g v o s j c * _)]

theorem last_sum (W : Fin 64 → EReal) (x : EReal) (r : Fin 64) :
    (∑ j, if r ≤ j then W j + (if j = 63 then x else 0) else 0) = (∑ j, if le true j r then W j else 0) + x := by
  have e : ∀ j : Fin 64, (if r ≤ j then W j + (if j = 63 then x else 0) else 0) = (if le true j r then W j else 0) + (if j = 63 then x else 0) := by
    intro j
    show _ = (if r ≤ j then W j else 0) + _
    by_cases hr : r ≤ j
    · rw [if_pos hr, if_pos hr]
    · have hj : ¬j = 63 := by
        rintro rfl
        exact hr (Fin.le_last r)
      rw [if_neg hr, if_neg hr, if_neg hj, add_zero]
  rw [Finset.sum_congr rfl fun j _ => e j, Finset.sum_add_distrib, Finset.sum_ite_eq' Finset.univ (63 : Fin 64) fun _ => x, if_pos (Finset.mem_univ _)]

variable {V p} (hp : V (Proc.devRef .tc main_v52_6) = fun _ => BitVec.ofNat 32 (35 - p.val))
include hp

theorem start0 : ((res_main_while0b_v105 V : IVec S_ 32) (Shape.Idx.first h_S_)).toInt = (p.val : Int) := by
  unfold res_main_while0b_v105
  rw [hp]
  exact (by decide +kernel : ∀ p : Fin 36, ((36#32 - BitVec.ofNat 32 (35 - p.val)) - 1#32).toInt = (p.val : Int)) p

theorem s_at (c : Fin 128) (x : Fin 256) : res_main_while0b_v106 V (ix4 b h c x) = s V p b h c x :=
  entry_of _ _ _ p (start0 hp) (fun k hk => by fin_cases k <;> first | exact absurd rfl hk | rfl) b h c x _

theorem q_at (r : Fin 64) (c : Fin 128) : res_main_while0b_v107 V (ix4 b h r c) = q V p b h r c :=
  entry_of _ _ _ p (start0 hp) (fun k hk => by fin_cases k <;> first | exact absurd rfl hk | rfl) b h r c _

theorem k_at (r : Fin 64) (c : Fin 128) : res_main_while0b_v108 V (ix4 b h r c) = k V p b h r c :=
  entry_of _ _ _ p (start0 hp) (fun k hk => by fin_cases k <;> first | exact absurd rfl hk | rfl) b h r c _

theorem v_at (r : Fin 64) (c : Fin 256) : res_main_while0b_v109 V (ix4 b h r c) = v V p b h r c :=
  entry_of _ _ _ p (start0 hp) (fun k hk => by fin_cases k <;> first | exact absurd rfl hk | rfl) b h r c _

theorem o_at (r : Fin 64) (c : Fin 256) : res_main_while0b_v111 V (ix4 b h r c) = o V p b h r c :=
  entry_of _ _ _ p (start0 hp) (fun k hk => by fin_cases k <;> first | exact absurd rfl hk | rfl) b h r c _

theorem cum_at (r : Fin 64) (c : Fin 128) : res_main_while0b_v114 V (ix4 b h r c) = cum false (g V p b h) r c := by
  have hz : (broadcastInDim S_ ![] bcast_S_S_ (constant (F := Ideal) S_ .f32 0x00000000#32)) (Shape.Idx.first h_S_) = 0 := by pointwise
  unfold res_main_while0b_v114 Host.reduceWindowAdd
  rw [Ideal.hostReduceWindowAdd_def, hz]
  refine (cumsum_apply _ _ b h r c).trans (Finset.sum_congr rfl fun j _ => if_congr Iff.rfl ?_ rfl)
  exact entry_of _ _ _ p (start0 hp) (fun k hk => by fin_cases k <;> first | exact absurd rfl hk | rfl) b h j c _

theorem total_at (c : Fin 128) : res_main_while0b_v115 V (ix4 b h 0 c) = tot (g V p b h) c := by
  rw [← cum_last, ← cum_at b h hp]
  pointwise [res_main_while0b_v115]

theorem ex_at (r : Fin 64) (c : Fin 128) : res_main_while0b_v116 V (ix4 b h r c) = Ideal.exp (cum false (g V p b h) r c) :=
  congrArg Ideal.exp (cum_at b h hp r c)

theorem ei_at (r : Fin 64) (c : Fin 128) : res_main_while0b_v119 V (ix4 b h r c) = Ideal.exp (0 - cum false (g V p b h) r c) := by
  rw [zero_sub]
  exact congrArg (fun t => Ideal.exp (-t)) (cum_at b h hp r c)

theorem ed_at (r : Fin 64) (c : Fin 128) :
    res_main_while0b_v123 V (ix4 b h r c) = Ideal.exp (tot (g V p b h) c - cum false (g V p b h) r c) := by
  have hT := total_at b h hp
  have hC := cum_at b h hp
  unfold res_main_while0b_v123
  generalize res_main_while0b_v115 V = T at hT ⊢
  generalize res_main_while0b_v114 V = B at hC ⊢
  rw [← hT, ← hC]
  pointwise

theorem qs_at (r : Fin 64) (c : Fin 128) : res_main_while0b_v117 V (ix4 b h r c) = qs false (q V p b h) (g V p b h) r c :=
  congrArg₂ (· * ·) (q_at b h hp r c) (ex_at b h hp r c)

theorem ks_at (r : Fin 64) (c : Fin 128) : res_main_while0b_v120 V (ix4 b h r c) = ks false (k V p b h) (g V p b h) r c :=
  congrArg₂ (· * ·) (k_at b h hp r c) (ei_at b h hp r c)

theorem kd_at (r : Fin 64) (c : Fin 128) : res_main_while0b_v124 V (ix4 b h r c) = kd false (k V p b h) (g V p b h) r c :=
  congrArg₂ (· * ·) (k_at b h hp r c) (ed_at b h hp r c)

theorem att_at (r j : Fin 64) : res_main_while0b_v126_0 V (ix4 b h r j) = att false (q V p b h) (k V p b h) (g V p b h) r j := by
  have hM := mask_at V b h
  have hQ := qs_at b h hp
  have hK := ks_at b h hp
  unfold res_main_while0b_v126_0 att
  generalize res_main_while0b_v126_1 V = M at hM ⊢
  generalize res_main_while0b_v117 V = Q at hQ ⊢
  generalize res_main_while0b_v120 V = K at hK ⊢
  rw [id_eq]
  pointwise
  simp only [hM, hQ, hK]
  split <;> rfl

theorem el_at (c : Fin 128) : res_main_while0b_v131 V (ix3 b h c) = Ideal.exp (tot (g V p b h) c) := by
  have hT := total_at b h hp
  unfold res_main_while0b_v131
  generalize res_main_while0b_v115 V = T at hT ⊢
  rw [← hT]
  pointwise

theorem dkd_at (j : Fin 64) (c : Fin 128) : res_main_while0b_v140 V (ix4 b h j c) = dkd (v V p b h) (ds V b h) j c := by
  have hV := v_at b h hp
  unfold res_main_while0b_v140 dkd
  generalize res_main_while0b_v109 V = W at hV ⊢
  pointwise
  simp only [hV]
  exact Finset.sum_congr (M := EReal) rfl fun x _ => mul_comm (_ : EReal) _

theorem datt_at (r j : Fin 64) : res_main_while0b_v157 V (ix4 b h r j) = datt false (v V p b h) (o V p b h) r j := by
  have hM := mask_at V b h
  have hV := v_at b h hp
  have hO := o_at b h hp
  unfold res_main_while0b_v157 datt
  generalize res_main_while0b_v126_1 V = M at hM ⊢
  generalize res_main_while0b_v109 V = W at hV ⊢
  generalize res_main_while0b_v111 V = O at hO ⊢
  pointwise
  simp only [hM, hV, hO]
  split <;> rfl

theorem dks_at (j : Fin 64) (c : Fin 128) :
    res_main_while0b_v158 V (ix4 b h j c) = dks false (q V p b h) (g V p b h) (v V p b h) (o V p b h) j c := by
  have hA := datt_at b h hp
  have hQ := qs_at b h hp
  unfold res_main_while0b_v158 dks
  generalize res_main_while0b_v157 V = A at hA ⊢
  generalize res_main_while0b_v117 V = Q at hQ ⊢
  pointwise
  simp only [hA, hQ]

theorem dqs_at (r : Fin 64) (c : Fin 128) :
    res_main_while0b_v160 V (ix4 b h r c) = dqs false (k V p b h) (g V p b h) (v V p b h) (o V p b h) (s V p b h) r c := by
  have hA := datt_at b h hp
  have hK := ks_at b h hp
  have hS := s_at b h hp
  have hO := o_at b h hp
  unfold res_main_while0b_v160 dqs
  generalize res_main_while0b_v157 V = A at hA ⊢
  generalize res_main_while0b_v120 V = K at hK ⊢
  generalize res_main_while0b_v106 V = S at hS ⊢
  generalize res_main_while0b_v111 V = O at hO ⊢
  pointwise
  simp only [hA, hK, hS, hO]

theorem dkdkd_at (j : Fin 64) (c : Fin 128) :
    res_main_while0b_v163 V (ix4 b h j c) = dkd (v V p b h) (ds V b h) j c * kd false (k V p b h) (g V p b h) j c := by
  refine (congrArg₂ (fun x y : EReal => x * y) (congrArg₂ (fun x y : EReal => x * y) (k_at b h hp j c) (dkd_at b h hp j c)) (ed_at b h hp j c)).trans ?_
  unfold kd
  rw [mul_comm (k V p b h j c), mul_assoc]

/-- The gradients of the states before the chunk. -/
theorem prev_at (c : Fin 128) (x : Fin 256) :
    step_main_v52_7 V (ix4 b h c x) = dprev false (q V p b h) (g V p b h) (o V p b h) (ds V b h) c x := by
  have hL := el_at b h hp
  have hQ := qs_at b h hp
  have hO := o_at b h hp
  unfold step_main_v52_7 res_main_while0b_v132 dprev
  generalize res_main_while0b_v131 V = L at hL ⊢
  generalize res_main_while0b_v117 V = Q at hQ ⊢
  generalize res_main_while0b_v111 V = O at hO ⊢
  rw [id_eq]
  pointwise
  simp only [hL, hQ, hO]
  exact add_comm (_ : EReal) _

theorem dqStep_at (n : Fin 36) (r : Fin 64) (c : Fin 128) :
    step_main_v52_8 V (ix5 n b h r c) = if n = p then dq false (k V p b h) (g V p b h) (v V p b h) (o V p b h) (s V p b h) r c
      else (V (Proc.devRef .tc main_v52_8) : FVec Ideal S36x4x4x64x128 .f32) (ix5 n b h r c) := by
  unfold step_main_v52_8
  refine (stack_write _ _ _ _ p (start0 hp) (fun k hk => by fin_cases k <;> first | exact absurd rfl hk | rfl) n b h r c).trans (if_congr Iff.rfl ?_ rfl)
  have hA := dqs_at b h hp
  have hE := ex_at b h hp
  unfold dq
  generalize res_main_while0b_v160 V = A at hA ⊢
  generalize res_main_while0b_v116 V = B at hE ⊢
  rw [← hA, ← hE]
  pointwise

theorem dkStep_at (n : Fin 36) (r : Fin 64) (c : Fin 128) :
    step_main_v52_9 V (ix5 n b h r c) = if n = p then dk false (q V p b h) (g V p b h) (v V p b h) (o V p b h) (ds V b h) r c
      else (V (Proc.devRef .tc main_v52_9) : FVec Ideal S36x4x4x64x128 .f32) (ix5 n b h r c) := by
  unfold step_main_v52_9
  refine (stack_write _ _ _ _ p (start0 hp) (fun k hk => by fin_cases k <;> first | exact absurd rfl hk | rfl) n b h r c).trans (if_congr Iff.rfl ?_ rfl)
  have hD := dkd_at b h hp
  have hE := ed_at b h hp
  have hA := dks_at b h hp
  have hI := ei_at b h hp
  unfold dk
  generalize res_main_while0b_v140 V = D at hD ⊢
  generalize res_main_while0b_v123 V = E at hE ⊢
  generalize res_main_while0b_v158 V = A at hA ⊢
  generalize res_main_while0b_v119 V = I at hI ⊢
  rw [← hD, ← hE, ← hA, ← hI, add_comm]
  pointwise

theorem dvStep_at (n : Fin 36) (r : Fin 64) (x : Fin 256) :
    step_main_v52_10 V (ix5 n b h r x) = if n = p then dv false (q V p b h) (k V p b h) (g V p b h) (o V p b h) (ds V b h) r x
      else (V (Proc.devRef .tc main_v52_10) : FVec Ideal S36x4x4x64x256 .f32) (ix5 n b h r x) := by
  unfold step_main_v52_10
  refine (stack_write _ _ _ _ p (start0 hp) (fun k hk => by fin_cases k <;> first | exact absurd rfl hk | rfl) n b h r x).trans (if_congr Iff.rfl ?_ rfl)
  have hA := att_at b h hp
  have hO := o_at b h hp
  have hK := kd_at b h hp
  unfold dv
  generalize res_main_while0b_v126_0 V = A at hA ⊢
  generalize res_main_while0b_v111 V = O at hO ⊢
  generalize res_main_while0b_v124 V = K at hK ⊢
  rw [add_comm]
  pointwise
  simp only [hA, hO, hK]
  exact congrArg₂ (· + ·) (Finset.sum_congr rfl fun x _ => mul_comm _ _) (Finset.sum_congr rfl fun x _ => mul_comm _ _)

theorem dlaStep_at (n : Fin 36) (r : Fin 64) (c : Fin 128) :
    step_main_v52_11 V (ix5 n b h r c)
      = if n = p then dla false (q V p b h) (k V p b h) (g V p b h) (v V p b h) (o V p b h) (s V p b h) (ds V b h) r c
      else (V (Proc.devRef .tc main_v52_11) : FVec Ideal S36x4x4x64x128 .f32) (ix5 n b h r c) := by
  unfold step_main_v52_11
  refine (stack_write _ _ _ _ p (start0 hp) (fun k hk => by fin_cases k <;> first | exact absurd rfl hk | rfl) n b h r c).trans (if_congr Iff.rfl ?_ rfl)
  have hz : (broadcastInDim S_ ![] bcast_S_S_ (constant (F := Ideal) S_ .f32 0x00000000#32)) (Shape.Idx.first h_S_) = 0 := by pointwise
  have hu : ∀ y : FVec Ideal S4x4x64x128 .f32,
      broadcastInDim S1x4x4x64x128 ![1, 2, 3, 4] bcast_S4x4x64x128_S1x4x4x64x128_1_2_3_4 y (ix5 0 b h r c) = y (ix4 b h r c) := by
    intro y
    pointwise
  rw [hu]
  unfold Host.reduceWindowAdd
  rw [Ideal.hostReduceWindowAdd_def, hz]
  refine (revCumsum_apply _ _ b h r c).trans ?_
  have hX := dkdkd_at b h hp
  have hK := k_at b h hp
  have hA := dks_at b h hp
  have hI := ei_at b h hp
  have hQ := q_at b h hp
  have hD := dqs_at b h hp
  have hE := ex_at b h hp
  have hS := s_at b h hp
  have hL := el_at b h hp
  unfold dla cum
  generalize res_main_while0b_v163 V = X at hX ⊢
  generalize res_main_while0b_v108 V = K at hK ⊢
  generalize res_main_while0b_v158 V = A at hA ⊢
  generalize res_main_while0b_v119 V = I at hI ⊢
  generalize res_main_while0b_v107 V = Q at hQ ⊢
  generalize res_main_while0b_v160 V = D at hD ⊢
  generalize res_main_while0b_v116 V = E at hE ⊢
  generalize res_main_while0b_v106 V = S at hS ⊢
  generalize res_main_while0b_v131 V = L at hL ⊢
  rw [Bool.not_false, ← last_sum]
  refine Finset.sum_congr rfl fun j _ => if_congr Iff.rfl ?_ rfl
  refine Eq.trans ?_ (gate_eq j c _ _ _ _ _ _ _ _)
  pointwise
  simp only [hX, hK, hA, hI, hQ, hD, hE, hS, hL]
  refine congrArg₂ (fun x y : EReal => x + y) rfl ?_
  by_cases hj : j = 63
  · subst hj
    rw [if_pos rfl, dif_pos (by decide)]
    unfold dbl
    rw [add_comm]
    refine congrArg₂ (fun x y : EReal => x + y) rfl (congrArg₂ (fun x y : EReal => x * y) ?_ rfl)
    rw [Fin.sum_univ_one]
    exact Finset.sum_congr (M := EReal) rfl fun x _ => mul_comm (_ : EReal) _
  · rw [if_neg hj, dif_neg fun hin => hj (Fin.ext (by show j.val = 63; omega))]

end Cert.ReferenceIdeal.Trip
-- ==== Proof.BwdRefEntry.lean ====
/-
  What the gradient reference's loop starts from: the four sequences, the stored states and the gradients of the outputs,
  cut into chunks.
-/
module

public import proofs.«01_k».proof.Proof.Gen.ReferenceIdeal.Run
public import proofs.«01_k».proof.Proof.FwdRefEntry
public import proofs.«01_k».proof.Proof.BwdSeq

@[expose] public section

set_option maxRecDepth 16384

noncomputable section

open Idealize.ShloMosaic Idealize.ShloMosaic.TcCoe
open Idealize.ShloMosaic.StableHlo
open Cert.ReferenceIdeal Cert.ReferenceIdeal.Gen Cert.ReferenceIdeal.Value Cert.Gla
open Cert.FwdRefIdeal.Entry (wide wideBoth qSeq kSeq vSeq gSeq gBoth gFirst gSecond)

namespace Cert.ReferenceIdeal.Entry

variable (m : (ℓ : Loc nD τ sig) → Buf (Elt Ideal) ℓ) (c : Dev nD)

abbrev projs : Proj := m ((c.tc : Thread nD τ).loc main_arg0)
abbrev gateArr : Gates := m ((c.tc : Thread nD τ).loc main_arg1)
abbrev stored : Stored := m ((c.tc : Thread nD τ).loc main_arg2)
abbrev outGrads : OutGrads := m ((c.tc : Thread nD τ).loc main_arg3)

theorem q_entry : (entryContents preI m c (Proc.devRef .tc main_v52_1) : FVec Ideal S36x4x4x64x128 .f32) = qSeq (wideBoth (wide (projs m c))) := by
  simp only [entryContents, afterL_cons, afterL_nil]
  after_reads_simp
  rfl

set_option maxHeartbeats 1600000 in
theorem k_entry : (entryContents preI m c (Proc.devRef .tc main_v52_2) : FVec Ideal S36x4x4x64x128 .f32) = kSeq (wideBoth (wide (projs m c))) := by
  simp only [entryContents, afterL_cons, afterL_nil]
  after_reads_simp
  rfl

set_option maxHeartbeats 1600000 in
theorem v_entry : (entryContents preI m c (Proc.devRef .tc main_v52_3) : FVec Ideal S36x4x4x64x256 .f32) = vSeq (wideBoth (wide (projs m c))) := by
  simp only [entryContents, afterL_cons, afterL_nil]
  after_reads_simp
  rfl

theorem g_entry : (entryContents preI m c (Proc.devRef .tc main_v52_4) : FVec Ideal S36x4x4x64x128 .f32)
    = gSeq (gBoth (gFirst (gateArr m c)) (gSecond (gateArr m c))) := by
  simp only [entryContents, afterL_cons, afterL_nil]
  after_reads_simp
  rfl

theorem ds_entry (b h : Fin 4) (k : Fin 128) (x : Fin 256) :
    (entryContents preI m c (Proc.devRef .tc main_v52_7) : FVec Ideal S4x4x128x256 .f32) (ix4 b h k x) = (0 : EReal) := by
  simp only [entryContents, afterL_cons, afterL_nil]
  after_reads_simp
  simp only [id_eq]
  pointwise

theorem s_entry (n : Fin 36) (b h : Fin 4) (k : Fin 128) (x : Fin 256) :
    (entryContents preI m c (Proc.devRef .tc main_v52_0) : FVec Ideal S36x4x4x128x256 .f32) (ix5 n b h k x)
      = stored m c (ix6 (entryOf b) (dirOf b) n h x k) := by
  simp only [entryContents, afterL_cons, afterL_nil]
  after_reads_simp
  simp only [id_eq]
  pointwise
  rfl

/-- The gradients of the outputs, with nothing for the context; a copy in the order of the backward scan; one batch of both; chunk by chunk. -/
def padded (a : OutGrads) : FVec Ideal S2x2304x1024 .f32 :=
  concatenate S2x2304x1024 1 [⟨S2x256x1024, broadcastInDim S2x256x1024 ![] bcast_S_S2x256x1024 (constant S_ .f32 0x00000000#32)⟩,
    ⟨S2x2048x1024, extf .f32 a bitsLt_bf16_f32⟩] concatenates_S2x256x1024_S2x2048x1024_S2x2304x1024_d1
def oFlipped (a : FVec Ideal S2x2304x1024 .f32) : FVec Ideal S2x2304x1024 .f32 :=
  concatenate S2x2304x1024 1 [⟨S2x256x1024, Host.reverse [1] (extractStridedSlice S2x256x1024 ![0, 0, 0] a slices_S2x2304x1024_S2x256x1024_0_0_0)⟩,
    ⟨S2x2048x1024, Host.reverse [1] (extractStridedSlice S2x2048x1024 ![0, 256, 0] a slices_S2x2304x1024_S2x2048x1024_0_256_0)⟩] concatenates_S2x256x1024_S2x2048x1024_S2x2304x1024_d1
def oBoth (a : FVec Ideal S2x2304x1024 .f32) : FVec Ideal S4x2304x1024 .f32 :=
  concatenate S4x2304x1024 0 [⟨S2x2304x1024, a⟩, ⟨S2x2304x1024, oFlipped a⟩] concatenates_S2x2304x1024_S2x2304x1024_S4x2304x1024_d0
def oSeq (a : FVec Ideal S4x2304x1024 .f32) : FVec Ideal S36x4x4x64x256 .f32 :=
  transpose S36x4x4x64x256 [1, 0, 3, 2, 4]
    (shapeCast S4x36x64x4x256 (shapeCast S4x2304x4x256 a shapeCasts_S4x2304x1024_S4x2304x4x256)
      shapeCasts_S4x2304x4x256_S4x36x64x4x256) transposes_S4x36x64x4x256_S36x4x4x64x256_1_0_3_2_4

set_option maxHeartbeats 1600000 in
theorem o_entry : (entryContents preI m c (Proc.devRef .tc main_v52_5) : FVec Ideal S36x4x4x64x256 .f32) = oSeq (oBoth (padded (outGrads m c))) := by
  simp only [entryContents, afterL_cons, afterL_nil]
  after_reads_simp
  rfl

theorem oFlipped_at (a : FVec Ideal S2x2304x1024 .f32) (e : Fin 2) (p : Fin 2304) (k : Fin 1024) :
    oFlipped a (ix3 e p k) = a (ix3 e (flipPos p) k) := by
  pointwise [oFlipped]
  simp only [List.mem_singleton, flipPos, Fin.val_rev]
  split <;> refine congrArg a ?_ <;> idx_ext <;> simp <;> omega

theorem oBoth_at (a : FVec Ideal S2x2304x1024 .f32) (b : Fin 4) (n : Fin 36) (r : Fin 64) (k : Fin 1024) :
    oBoth a (ix3 b ⟨n.val * 64 + r.val, by omega⟩ k) = a (ix3 (entryOf b) (scanPos b n r) k) := by
  have e : oBoth a (ix3 b ⟨n.val * 64 + r.val, by omega⟩ k) = if h : b.val < 2 then a (ix3 ⟨b.val, h⟩ ⟨n.val * 64 + r.val, by omega⟩ k)
      else oFlipped a (ix3 ⟨b.val - 2, by omega⟩ ⟨n.val * 64 + r.val, by omega⟩ k) := by
    generalize hF : oFlipped a = F
    pointwise [oBoth, hF]
  rw [e]
  split
  · rw [scanPos_first b ‹_›, show (⟨b.val, ‹_›⟩ : Fin 2) = entryOf b from Fin.ext (by simp only [entryOf]; omega)]
  · rw [scanPos_second b ‹_›, oFlipped_at, show (⟨b.val - 2, by omega⟩ : Fin 2) = entryOf b from Fin.ext (by simp only [entryOf]; omega)]

theorem padded_at (a : OutGrads) (e : Fin 2) (p : Fin 2304) (k : Fin 1024) :
    padded a (ix3 e p k) = if h : p.val < 256 then (0 : EReal) else a (ix3 e ⟨p.val - 256, by omega⟩ k) := by
  pointwise [padded]

theorem o_at (n : Fin 36) (b h : Fin 4) (r : Fin 64) (x : Fin 256) :
    oSeq (oBoth (padded (outGrads m c))) (ix5 n b h r x)
      = chunkO (outGrads m c) (entryOf b) h (place (dirOf b) n.val) (row (back (dirOf b)) r) x := by
  have e : ∀ A, oSeq A (ix5 n b h r x) = A (ix3 b ⟨n.val * 64 + r.val, by omega⟩ ⟨h.val * 256 + x.val, by omega⟩) := by
    intro A
    pointwise [oSeq]
  have hb := place_lt (dirOf b) _ n.isLt
  have hr := (row (back (dirOf b)) r).isLt
  rw [e, oBoth_at, padded_at]
  unfold chunkO
  have hv : (scanPos b n r).val = 64 * place (dirOf b) n.val + (row (back (dirOf b)) r).val := by
    simp only [scanPos, pos]
    omega
  by_cases h4 : 4 ≤ place (dirOf b) n.val
  · rw [if_pos h4, dif_neg (by omega)]
    refine congrArg (outGrads m c) ?_
    refine congrArg₂ (fun i j => ix3 (entryOf b) i j) (Fin.ext ?_) (Fin.ext ?_)
    · show (scanPos b n r).val - 256 = (64 * (place (dirOf b) n.val - 4) + (row (back (dirOf b)) r).val) % 2048
      omega
    · simp only [vlane]
      omega
  · rw [if_neg h4, dif_pos (by omega)]

end Cert.ReferenceIdeal.Entry
-- ==== Proof.BwdRefValue.lean ====
/-
  The gradient reference's loop: after `k` trips it holds the gradients of the states before the last `k` chunks, and the gradients
  in those chunks; then its results are the arrays of `BwdSeq`.
-/
module

public import proofs.«01_k».proof.Proof.BwdRefStep
public import proofs.«01_k».proof.Proof.BwdRefEntry

@[expose] public section

set_option maxRecDepth 16384

noncomputable section

open Idealize.ShloMosaic Idealize.ShloMosaic.TcCoe
open Idealize.ShloMosaic.StableHlo
open Cert.ReferenceIdeal Cert.ReferenceIdeal.Gen Cert.ReferenceIdeal.Value Cert.Gla
open Cert.ReferenceIdeal.Entry (projs gateArr stored outGrads)
open Cert.FwdRefIdeal.Entry (wide wideBoth qSeq kSeq vSeq gSeq gBoth gFirst gSecond)

namespace Cert.ReferenceIdeal.Loop

variable (m : (ℓ : Loc nD τ sig) → Buf (Elt Ideal) ℓ) (c : Dev nD)

/-- What the loop holds after `k` trips. -/
structure Holds (trips : ℕ) (V : Valuation τ sig (Elt Ideal)) : Prop where
  count : V (Proc.devRef .tc main_v52_6) = fun _ => BitVec.ofNat 32 trips
  s : ∀ n b h a x, (V (Proc.devRef .tc main_v52_0) : FVec Ideal S36x4x4x128x256 .f32) (ix5 n b h a x) = stored m c (ix6 (entryOf b) (dirOf b) n h x a)
  q : (V (Proc.devRef .tc main_v52_1) : FVec Ideal S36x4x4x64x128 .f32) = qSeq (wideBoth (wide (projs m c)))
  k : (V (Proc.devRef .tc main_v52_2) : FVec Ideal S36x4x4x64x128 .f32) = kSeq (wideBoth (wide (projs m c)))
  v : (V (Proc.devRef .tc main_v52_3) : FVec Ideal S36x4x4x64x256 .f32) = vSeq (wideBoth (wide (projs m c)))
  g : (V (Proc.devRef .tc main_v52_4) : FVec Ideal S36x4x4x64x128 .f32) = gSeq (gBoth (gFirst (gateArr m c)) (gSecond (gateArr m c)))
  o : (V (Proc.devRef .tc main_v52_5) : FVec Ideal S36x4x4x64x256 .f32) = Entry.oSeq (Entry.oBoth (Entry.padded (outGrads m c)))
  ds : ∀ b h a x, (V (Proc.devRef .tc main_v52_7) : FVec Ideal S4x4x128x256 .f32) (ix4 b h a x)
    = gradStates (projs m c) (gateArr m c) (outGrads m c) (dirOf b) trips (entryOf b) h a x
  dqs : ∀ (n : Fin 36) b h r x, 35 < n.val + trips → (V (Proc.devRef .tc main_v52_8) : FVec Ideal S36x4x4x64x128 .f32) (ix5 n b h r x)
    = dqOf (projs m c) (gateArr m c) (stored m c) (outGrads m c) (dirOf b) (entryOf b) h (place (dirOf b) n.val) (row (back (dirOf b)) r) x
  dks : ∀ (n : Fin 36) b h r x, 35 < n.val + trips → (V (Proc.devRef .tc main_v52_9) : FVec Ideal S36x4x4x64x128 .f32) (ix5 n b h r x)
    = dkOf (projs m c) (gateArr m c) (outGrads m c) (dirOf b) (entryOf b) h (place (dirOf b) n.val) (row (back (dirOf b)) r) x
  dvs : ∀ (n : Fin 36) b h r x, 35 < n.val + trips → (V (Proc.devRef .tc main_v52_10) : FVec Ideal S36x4x4x64x256 .f32) (ix5 n b h r x)
    = dvOf (projs m c) (gateArr m c) (outGrads m c) (dirOf b) (entryOf b) h (place (dirOf b) n.val) (row (back (dirOf b)) r) x
  dgs : ∀ (n : Fin 36) b h r x, 35 < n.val + trips → (V (Proc.devRef .tc main_v52_11) : FVec Ideal S36x4x4x64x128 .f32) (ix5 n b h r x)
    = dlaOf (projs m c) (gateArr m c) (stored m c) (outGrads m c) (dirOf b) (entryOf b) h (place (dirOf b) n.val) (row (back (dirOf b)) r) x

theorem start : Holds m c 0 (entryContents preI m c) where
  count := ctr_entry m c
  s n b h a x := Entry.s_entry m c n b h a x
  q := Entry.q_entry m c
  k := Entry.k_entry m c
  v := Entry.v_entry m c
  g := Entry.g_entry m c
  o := Entry.o_entry m c
  ds b h a x := Entry.ds_entry m c b h a x
  dqs n b h r x hn := absurd hn (by omega)
  dks n b h r x hn := absurd hn (by omega)
  dvs n b h r x hn := absurd hn (by omega)
  dgs n b h r x hn := absurd hn (by omega)

section
variable {m c} {t : ℕ} {p : Fin 36} {V : Valuation τ sig (Elt Ideal)} (H : Holds m c t V) (b h : Fin 4)
include H

theorem trip_q : Trip.q V p b h = scanned (back (dirOf b)) (chunkQ (projs m c) (entryOf b) h (place (dirOf b) p.val)) := by
  funext r a
  exact (congrFun H.q _).trans (Cert.FwdRefIdeal.Entry.q_at _ p b h r a)

theorem trip_k : Trip.k V p b h = scanned (back (dirOf b)) (chunkK (projs m c) (entryOf b) h (place (dirOf b) p.val)) := by
  funext r a
  exact (congrFun H.k _).trans (Cert.FwdRefIdeal.Entry.k_at _ p b h r a)

theorem trip_v : Trip.v V p b h = scanned (back (dirOf b)) (chunkV (projs m c) (entryOf b) h (place (dirOf b) p.val)) := by
  funext r a
  exact (congrFun H.v _).trans (Cert.FwdRefIdeal.Entry.v_at _ p b h r a)

theorem trip_g : Trip.g V p b h = scanned (back (dirOf b)) (chunkG (gateArr m c) (dirOf b) (entryOf b) h (place (dirOf b) p.val)) := by
  funext r a
  exact (congrFun H.g _).trans (Cert.FwdRefIdeal.Entry.g_at _ p b h r a)

theorem trip_o : Trip.o V p b h = scanned (back (dirOf b)) (chunkO (outGrads m c) (entryOf b) h (place (dirOf b) p.val)) := by
  funext r a
  exact (congrFun H.o _).trans (Entry.o_at m c p b h r a)

theorem trip_s : Trip.s V p b h = chunkS (stored m c) (dirOf b) (entryOf b) h p.val := by
  funext a x
  refine (H.s p b h a x).trans ?_
  unfold chunkS
  rw [show (⟨p.val % 36, by omega⟩ : Fin 36) = p from Fin.ext (by show p.val % 36 = p.val; omega)]

theorem trip_ds : Trip.ds V b h = gradStates (projs m c) (gateArr m c) (outGrads m c) (dirOf b) t (entryOf b) h := by
  funext a x
  exact H.ds b h a x

end

theorem step (t : ℕ) (p : Fin 36) (htp : t + p.val = 35) (V : Valuation τ sig (Elt Ideal)) (H : Holds m c t V) : Holds m c (t + 1) (STEP V) := by
  have hp : V (Proc.devRef .tc main_v52_6) = fun _ => BitVec.ofNat 32 (35 - p.val) := by
    rw [H.count, show t = 35 - p.val by omega]
  have hd : 35 - p.val = t := by omega
  have ht : 35 - t = p.val := by omega
  have old : ∀ n : Fin 36, ¬n = p → 35 < n.val + (t + 1) → 35 < n.val + t := by
    intro n hn h1
    have := fun h => hn (Fin.ext h)
    omega
  constructor
  · rw [STEP_main_v52_6]
    unfold step_main_v52_6
    rw [H.count]
    funext i
    exact (BitVec.ofNat_add _ _).symm
  · intro n b h a x
    rw [STEP_main_v52_0]
    exact H.s n b h a x
  · exact (STEP_main_v52_1 V).trans H.q
  · exact (STEP_main_v52_2 V).trans H.k
  · exact (STEP_main_v52_3 V).trans H.v
  · exact (STEP_main_v52_4 V).trans H.g
  · exact (STEP_main_v52_5 V).trans H.o
  · intro b h a x
    rw [STEP_main_v52_7]
    refine (Trip.prev_at b h hp a x).trans ?_
    rw [trip_q H, trip_g H, trip_o H, trip_ds H, dprev_scanned]
    show dprev _ _ _ _ (gradStates (projs m c) (gateArr m c) (outGrads m c) (dirOf b) t (entryOf b) h) a x
      = dprev (back (dirOf b)) (chunkQ (projs m c) (entryOf b) h (place (dirOf b) (35 - t)))
        (chunkG (gateArr m c) (dirOf b) (entryOf b) h (place (dirOf b) (35 - t)))
        (chunkO (outGrads m c) (entryOf b) h (place (dirOf b) (35 - t)))
        (gradStates (projs m c) (gateArr m c) (outGrads m c) (dirOf b) t (entryOf b) h) a x
    rw [ht]
  · intro n b h r x hn
    rw [STEP_main_v52_8]
    refine (Trip.dqStep_at b h hp n r x).trans ?_
    by_cases hnp : n = p
    · subst hnp
      rw [if_pos rfl, trip_k H, trip_v H, trip_g H, trip_o H, trip_s H, dq_scanned]
      unfold dqOf
      rw [place_place _ _ n.isLt]
    · rw [if_neg hnp]
      exact H.dqs n b h r x (old n hnp hn)
  · intro n b h r x hn
    rw [STEP_main_v52_9]
    refine (Trip.dkStep_at b h hp n r x).trans ?_
    by_cases hnp : n = p
    · subst hnp
      rw [if_pos rfl, trip_q H, trip_v H, trip_g H, trip_o H, trip_ds H, dk_scanned]
      unfold dkOf
      rw [place_place _ _ n.isLt, hd]
    · rw [if_neg hnp]
      exact H.dks n b h r x (old n hnp hn)
  · intro n b h r x hn
    rw [STEP_main_v52_10]
    refine (Trip.dvStep_at b h hp n r x).trans ?_
    by_cases hnp : n = p
    · subst hnp
      rw [if_pos rfl, trip_q H, trip_k H, trip_g H, trip_o H, trip_ds H, dv_scanned]
      unfold dvOf
      rw [place_place _ _ n.isLt, hd]
    · rw [if_neg hnp]
      exact H.dvs n b h r x (old n hnp hn)
  · intro n b h r x hn
    rw [STEP_main_v52_11]
    refine (Trip.dlaStep_at b h hp n r x).trans ?_
    by_cases hnp : n = p
    · subst hnp
      rw [if_pos rfl, trip_q H, trip_k H, trip_v H, trip_g H, trip_o H, trip_s H, trip_ds H, dla_scanned]
      unfold dlaOf
      rw [place_place _ _ n.isLt, hd]
    · rw [if_neg hnp]
      exact H.dgs n b h r x (old n hnp hn)

theorem holds : ∀ k : ℕ, k ≤ 36 → Holds m c k (STEP^[k] (entryContents preI m c))
  | 0, _ => start m c
  | k + 1, hk => by
    rw [Function.iterate_succ_apply']
    exact step m c k ⟨35 - k, by omega⟩ (by dsimp only; omega) _ (holds k (Nat.le_of_succ_le hk))

section
variable {m c} {V : Valuation τ sig (Elt Ideal)} (H : Holds m c 36 V) (n : Fin 36) (b h : Fin 4) (r : Fin 64) (d e : Fin 2) (p : Fin 2304)
  (hp : (scanPos b n r).val = p.val) (he : b.val % 2 = e.val) (hd : b.val / 2 = d.val)
include H hp he hd

theorem dq_at (x : Fin 128) (i : Fin 512) (hi : 128 * h.val + x.val = i.val) :
    (V (Proc.devRef .tc main_v52_8) : FVec Ideal S36x4x4x64x128 .f32) (ix5 n b h r x)
      = dqOf (projs m c) (gateArr m c) (stored m c) (outGrads m c) d e (khead i) (blockOf p) (rowOf p) (kpart i) := by
  rw [H.dqs n b h r x (by omega), place_of_scanPos b n r, row_of_scanPos b n r, show scanPos b n r = p from Fin.ext hp,
    show entryOf b = e from Fin.ext he, show dirOf b = d from Fin.ext hd,
    show h = khead i from Fin.ext (by simp only [khead]; omega), show x = kpart i from Fin.ext (by simp only [kpart]; omega)]

theorem dk_at (x : Fin 128) (i : Fin 512) (hi : 128 * h.val + x.val = i.val) :
    (V (Proc.devRef .tc main_v52_9) : FVec Ideal S36x4x4x64x128 .f32) (ix5 n b h r x)
      = dkOf (projs m c) (gateArr m c) (outGrads m c) d e (khead i) (blockOf p) (rowOf p) (kpart i) := by
  rw [H.dks n b h r x (by omega), place_of_scanPos b n r, row_of_scanPos b n r, show scanPos b n r = p from Fin.ext hp,
    show entryOf b = e from Fin.ext he, show dirOf b = d from Fin.ext hd,
    show h = khead i from Fin.ext (by simp only [khead]; omega), show x = kpart i from Fin.ext (by simp only [kpart]; omega)]

theorem dv_at (x : Fin 256) (i : Fin 1024) (hi : 256 * h.val + x.val = i.val) :
    (V (Proc.devRef .tc main_v52_10) : FVec Ideal S36x4x4x64x256 .f32) (ix5 n b h r x)
      = dvOf (projs m c) (gateArr m c) (outGrads m c) d e (vhead i) (blockOf p) (rowOf p) (vpart i) := by
  rw [H.dvs n b h r x (by omega), place_of_scanPos b n r, row_of_scanPos b n r, show scanPos b n r = p from Fin.ext hp,
    show entryOf b = e from Fin.ext he, show dirOf b = d from Fin.ext hd,
    show h = vhead i from Fin.ext (by simp only [vhead]; omega), show x = vpart i from Fin.ext (by simp only [vpart]; omega)]

theorem dg_at (x : Fin 128) (i : Fin 1024) (hi : 512 * d.val + (128 * h.val + x.val) = i.val) :
    (V (Proc.devRef .tc main_v52_11) : FVec Ideal S36x4x4x64x128 .f32) (ix5 n b h r x)
      = gradG (projs m c) (gateArr m c) (stored m c) (outGrads m c) (ix3 e p i) := by
  show _ = dlaOf (projs m c) (gateArr m c) (stored m c) (outGrads m c) (gdir i) e (khead (glow i)) (blockOf p) (rowOf p) (kpart (glow i))
  rw [H.dgs n b h r x (by omega), place_of_scanPos b n r, row_of_scanPos b n r, show scanPos b n r = p from Fin.ext hp,
    show entryOf b = e from Fin.ext he, show dirOf b = gdir i from Fin.ext (by simp only [dirOf, gdir]; omega),
    show h = khead (glow i) from Fin.ext (by simp only [khead, glow]; omega), show x = kpart (glow i) from Fin.ext (by simp only [kpart, glow]; omega)]

end

theorem gradQ_eq : out_main_v94 (STEP^[36] (entryContents preI m c)) = gradQ (projs m c) (gateArr m c) (stored m c) (outGrads m c) := by
  have H := holds m c 36 (Nat.le_refl _)
  generalize STEP^[36] (entryContents preI m c) = V at H ⊢
  funext y
  idx_vars y
  pointwise [out_main_v94]
  refine congrArg (fun x : EReal => x * scale) ?_
  by_cases h1 : y0.val < 1
  · rw [dif_pos h1]
    exact dq_at H _ _ _ _ y0 y1 y2 (by rw [scanPos_val]; dsimp; split_ifs <;> omega) (by dsimp; omega) (by dsimp; omega) _ y3 (by dsimp; omega)
  · rw [dif_neg h1]
    by_cases h2 : y2.val < 256
    · rw [dif_pos h2]
      exact dq_at H _ _ _ _ y0 y1 y2 (by rw [scanPos_val]; simp [Fin.val_rev]; split_ifs <;> omega) (by simp [Fin.val_rev]; omega) (by simp [Fin.val_rev]; omega) _ y3 (by simp [Fin.val_rev]; omega)
    · rw [dif_neg h2]
      exact dq_at H _ _ _ _ y0 y1 y2 (by rw [scanPos_val]; simp [Fin.val_rev]; split_ifs <;> omega) (by simp [Fin.val_rev]; omega) (by simp [Fin.val_rev]; omega) _ y3 (by simp [Fin.val_rev]; omega)

theorem gradK_eq : out_main_v98 (STEP^[36] (entryContents preI m c)) = gradK (projs m c) (gateArr m c) (outGrads m c) := by
  have H := holds m c 36 (Nat.le_refl _)
  generalize STEP^[36] (entryContents preI m c) = V at H ⊢
  funext y
  idx_vars y
  pointwise [out_main_v98]
  by_cases h1 : y0.val < 1
  · rw [dif_pos h1]
    exact dk_at H _ _ _ _ y0 y1 y2 (by rw [scanPos_val]; dsimp; split_ifs <;> omega) (by dsimp; omega) (by dsimp; omega) _ y3 (by dsimp; omega)
  · rw [dif_neg h1]
    by_cases h2 : y2.val < 256
    · rw [dif_pos h2]
      exact dk_at H _ _ _ _ y0 y1 y2 (by rw [scanPos_val]; simp [Fin.val_rev]; split_ifs <;> omega) (by simp [Fin.val_rev]; omega) (by simp [Fin.val_rev]; omega) _ y3 (by simp [Fin.val_rev]; omega)
    · rw [dif_neg h2]
      exact dk_at H _ _ _ _ y0 y1 y2 (by rw [scanPos_val]; simp [Fin.val_rev]; split_ifs <;> omega) (by simp [Fin.val_rev]; omega) (by simp [Fin.val_rev]; omega) _ y3 (by simp [Fin.val_rev]; omega)

theorem gradV_eq : out_main_v102 (STEP^[36] (entryContents preI m c)) = gradV (projs m c) (gateArr m c) (outGrads m c) := by
  have H := holds m c 36 (Nat.le_refl _)
  generalize STEP^[36] (entryContents preI m c) = V at H ⊢
  funext y
  idx_vars y
  pointwise [out_main_v102]
  by_cases h1 : y0.val < 1
  · rw [dif_pos h1]
    exact dv_at H _ _ _ _ y0 y1 y2 (by rw [scanPos_val]; dsimp; split_ifs <;> omega) (by dsimp; omega) (by dsimp; omega) _ y3 (by dsimp; omega)
  · rw [dif_neg h1]
    by_cases h2 : y2.val < 256
    · rw [dif_pos h2]
      exact dv_at H _ _ _ _ y0 y1 y2 (by rw [scanPos_val]; simp [Fin.val_rev]; split_ifs <;> omega) (by simp [Fin.val_rev]; omega) (by simp [Fin.val_rev]; omega) _ y3 (by simp [Fin.val_rev]; omega)
    · rw [dif_neg h2]
      exact dv_at H _ _ _ _ y0 y1 y2 (by rw [scanPos_val]; simp [Fin.val_rev]; split_ifs <;> omega) (by simp [Fin.val_rev]; omega) (by simp [Fin.val_rev]; omega) _ y3 (by simp [Fin.val_rev]; omega)

theorem gradG_eq : out_main_v103 (STEP^[36] (entryContents preI m c)) = gradG (projs m c) (gateArr m c) (stored m c) (outGrads m c) := by
  have H := holds m c 36 (Nat.le_refl _)
  generalize STEP^[36] (entryContents preI m c) = V at H ⊢
  funext y
  idx_vars y
  pointwise [out_main_v103]
  by_cases h1 : y2.val < 512
  · rw [dif_pos h1]
    exact dg_at H _ _ _ _ (gdir y2) y0 y1 (by rw [scanPos_val]; dsimp [gdir]; split_ifs <;> omega) (by dsimp [gdir]; omega) (by dsimp [gdir]; omega) _ y2 (by dsimp [gdir]; omega)
  · rw [dif_neg h1]
    by_cases h2 : y1.val < 256
    · rw [dif_pos h2]
      exact dg_at H _ _ _ _ (gdir y2) y0 y1 (by rw [scanPos_val]; simp [Fin.val_rev, gdir]; split_ifs <;> omega) (by simp [Fin.val_rev, gdir]; omega) (by simp [Fin.val_rev, gdir]; omega) _ y2 (by simp [Fin.val_rev, gdir]; omega)
    · rw [dif_neg h2]
      exact dg_at H _ _ _ _ (gdir y2) y0 y1 (by rw [scanPos_val]; simp [Fin.val_rev, gdir]; split_ifs <;> omega) (by simp [Fin.val_rev, gdir]; omega) (by simp [Fin.val_rev, gdir]; omega) _ y2 (by simp [Fin.val_rev, gdir]; omega)

end Cert.ReferenceIdeal.Loop
-- ==== Proof.BwdClaim.lean ====
/-
The gradient of the gated linear attention scan: the kernel and the scan's derivative it is checked against
end with the same results.
-/
module

public import proofs.«01_k».proof.Defs
public import proofs.«01_k».proof.Proof.BwdArrays
public import proofs.«01_k».proof.Proof.BwdRefValue

@[expose] public section

noncomputable section

namespace Cert.Proof

open Idealize.ShloMosaic Idealize.ShloMosaic.TcCoe Idealize.SL.Sem Cert.Gla

/-- Both programs end with the gradients of queries, keys, values and gates. -/
theorem backward : Cert.algebraic_KernelIdeal_ReferenceIdeal
    (hKernelIdeal := Cert.KernelIdeal.Gen.facts) (hReferenceIdeal := Cert.ReferenceIdeal.Gen.facts) := by
  intro m g m' g' _ hm
  refine ⟨fun c => gradQ (Cert.KernelIdeal.Arrays.projs m c) (Cert.KernelIdeal.Arrays.gateArr m c) (Cert.KernelIdeal.Arrays.stored m c)
      (Cert.KernelIdeal.Arrays.outGrads m c),
    fun c => gradK (Cert.KernelIdeal.Arrays.projs m c) (Cert.KernelIdeal.Arrays.gateArr m c) (Cert.KernelIdeal.Arrays.outGrads m c),
    fun c => gradV (Cert.KernelIdeal.Arrays.projs m c) (Cert.KernelIdeal.Arrays.gateArr m c) (Cert.KernelIdeal.Arrays.outGrads m c),
    fun c => gradG (Cert.KernelIdeal.Arrays.projs m c) (Cert.KernelIdeal.Arrays.gateArr m c) (Cert.KernelIdeal.Arrays.stored m c)
      (Cert.KernelIdeal.Arrays.outGrads m c), ?_, ?_⟩
  · refine (θ_run Cert.KernelIdeal.defs _ _).mono (fun r h c => ?_) (Cert.KernelIdeal.Value.run_blocks m g)
    obtain ⟨h0, h1, h2, h3, h4⟩ := h c
    exact ⟨h0.trans (Cert.KernelIdeal.Arrays.arr6 m c), h1.trans (Cert.KernelIdeal.Arrays.arr7 m c), h2.trans (Cert.KernelIdeal.Arrays.arr8 m c),
      h3.trans (Cert.KernelIdeal.Arrays.arr9 m c), h4⟩
  · refine (θ_run Cert.ReferenceIdeal.defs _ _).mono (fun r h c => ?_) (Cert.ReferenceIdeal.Value.run m' g')
    obtain ⟨h0, h1, h2, h3, h4⟩ := h c
    obtain ⟨e0, e1, e2, e3⟩ := hm c
    have ep : Cert.ReferenceIdeal.Entry.projs m' c = Cert.KernelIdeal.Arrays.projs m c := e0
    have eg : Cert.ReferenceIdeal.Entry.gateArr m' c = Cert.KernelIdeal.Arrays.gateArr m c := e1
    have es : Cert.ReferenceIdeal.Entry.stored m' c = Cert.KernelIdeal.Arrays.stored m c := e2
    have eo : Cert.ReferenceIdeal.Entry.outGrads m' c = Cert.KernelIdeal.Arrays.outGrads m c := e3
    refine ⟨h0.trans ((Cert.ReferenceIdeal.Loop.gradQ_eq m' c).trans ?_), h1.trans ((Cert.ReferenceIdeal.Loop.gradK_eq m' c).trans ?_),
      h2.trans ((Cert.ReferenceIdeal.Loop.gradV_eq m' c).trans ?_), h3.trans ((Cert.ReferenceIdeal.Loop.gradG_eq m' c).trans ?_), h4⟩
    · rw [ep, eg, es, eo]
    · rw [ep, eg, eo]
    · rw [ep, eg, eo]
    · rw [ep, eg, es, eo]

end Cert.Proof

end
-- ==== Proof.Products.lean ====
/-
  Products of arrays held in the layouts of the feed-forward and short-convolution calls, each read as a matrix over the extended reals.
-/
module

public import Idealize.ShloMosaic.Lib.Pointwise

@[expose] public section

noncomputable section

open Idealize.ShloMosaic Idealize.ShloMosaic.TcCoe

namespace Cert.Products

/-- A matrix, and the three products of two. -/
abbrev Mat (r c : ℕ) : Type := Fin r → Fin c → EReal

variable {r c k : ℕ}
def mulNN (a : Mat r k) (b : Mat k c) : Mat r c := fun i j => ∑ x, a i x * b x j
def mulNT (a : Mat r k) (b : Mat c k) : Mat r c := fun i j => ∑ x, a i x * b j x
def mulTN (a : Mat k r) (b : Mat k c) : Mat r c := fun i j => ∑ x, a x i * b x j

/-- The two examples of the device and their tokens, as rows. -/
def ex (i : Fin 4096) : Fin 2 := ⟨i.val / 2048, by omega⟩
def tk (i : Fin 4096) : Fin 2048 := ⟨i.val % 2048, by omega⟩

/-- An array of tokens as a matrix. -/
def ofTokens {φ : FTy} (a : FVec Ideal ⟨3, ![2, 2048, c]⟩ φ) : Mat 4096 c := fun i j => a (ix3 (ex i) (tk i) j)

/-- The same, its two halves of lanes held as planes. -/
def ofPlanes {φ : FTy} (a : FVec Ideal ⟨4, ![2, 2, 2048, 2560]⟩ φ) : Mat 4096 5120 := fun i j =>
  a (ix4 (ex i) ⟨j.val / 2560, by omega⟩ (tk i) ⟨j.val % 2560, by omega⟩)

/-- A matrix whose columns are held in eight shards. -/
def ofShards {φ : FTy} (n : ℕ) (h : c = 8 * n) (a : FVec Ideal ⟨3, ![8, r, n]⟩ φ) : Mat r c := fun i j =>
  a (ix3 ⟨j.val / n, Nat.div_lt_of_lt_mul (by have := j.isLt; rw [Nat.mul_comm]; omega)⟩ i
    ⟨j.val % n, Nat.mod_lt _ (Nat.pos_of_ne_zero fun h0 => by subst h0; have := j.isLt; omega)⟩)

def ofFlat {φ : FTy} (a : FVec Ideal ⟨2, ![r, c]⟩ φ) : Mat r c := fun i j => a (ix2 i j)

/-- The row of an example's token, the column of a half's lane, the column of a shard's lane. -/
def tokRow (e : Fin 2) (t : Fin 2048) : Fin 4096 := ⟨2048 * e.val + t.val, by omega⟩
def halfCol (p : Fin 2) (j : Fin 2560) : Fin 5120 := ⟨p.val * 2560 + j.val, by omega⟩
def shardCol (n : ℕ) (h : c = 8 * n) (p : Fin 8) (j : Fin n) : Fin c := ⟨p.val * n + j.val, by
  have h0 := p.isLt
  have h2 := j.isLt
  calc _ < n * p.val + n := by rw [Nat.mul_comm]; omega
    _ = n * (p.val + 1) := by ring
    _ ≤ n * 8 := Nat.mul_le_mul_left _ h0
    _ = c := by omega⟩

/-- A matrix in each layout. -/
def flat {φ : FTy} (a : Mat r c) : FVec Ideal ⟨2, ![r, c]⟩ φ := fun y => a (y 0) (y 1)
def shards {φ : FTy} (n : ℕ) (h : c = 8 * n) (a : Mat r c) : FVec Ideal ⟨3, ![8, r, n]⟩ φ := fun y => a (y 1) (shardCol n h (y 0) (y 2))
def planes {φ : FTy} (a : Mat 4096 5120) : FVec Ideal ⟨4, ![2, 2, 2048, 2560]⟩ φ := fun y => a (tokRow (y 0) (y 2)) (halfCol (y 1) (y 3))

/-- An element of a layout, at the matrix's coordinates. -/
theorem ofShards_at {φ : FTy} {n : ℕ} {h : c = 8 * n} (a : FVec Ideal ⟨3, ![8, r, n]⟩ φ) {p : Fin 8} {i i' : Fin r} {x : Fin n} {j : Fin c}
    (hi : i.val = i'.val) (hj : n * p.val + x.val = j.val) : a (ix3 p i x) = ofShards n h a i' j := by
  obtain rfl := Fin.ext hi
  refine congrArg₂ (fun (u : Fin 8) (v : Fin n) => a (ix3 u i v)) (Fin.ext ?_) (Fin.ext ?_)
  · show p.val = j.val / n
    rw [← hj, Nat.mul_add_div (by have := x.isLt; omega), Nat.div_eq_of_lt x.isLt, Nat.add_zero]
  · show x.val = j.val % n
    rw [← hj, Nat.mul_add_mod, Nat.mod_eq_of_lt x.isLt]

theorem ofPlanes_at {φ : FTy} (a : FVec Ideal ⟨4, ![2, 2, 2048, 2560]⟩ φ) {e p : Fin 2} {t : Fin 2048} {x : Fin 2560} {i : Fin 4096} {j : Fin 5120}
    (hi : 2048 * e.val + t.val = i.val) (hj : 2560 * p.val + x.val = j.val) : a (ix4 e p t x) = ofPlanes a i j := by
  obtain rfl : e = ex i := Fin.ext (by show e.val = i.val / 2048; omega)
  obtain rfl : t = tk i := Fin.ext (by show t.val = i.val % 2048; omega)
  exact congrArg₂ (fun (u : Fin 2) (v : Fin 2560) => a (ix4 (ex i) u (tk i) v)) (Fin.ext (by show p.val = j.val / 2560; omega))
    (Fin.ext (by show x.val = j.val % 2560; omega))

theorem ofTokens_at {φ : FTy} (a : FVec Ideal ⟨3, ![2, 2048, c]⟩ φ) {e : Fin 2} {t : Fin 2048} {i : Fin 4096} {j : Fin c}
    (hi : 2048 * e.val + t.val = i.val) : a (ix3 e t j) = ofTokens a i j := by
  obtain rfl : e = ex i := Fin.ext (by show e.val = i.val / 2048; omega)
  obtain rfl : t = tk i := Fin.ext (by show t.val = i.val % 2048; omega)
  rfl

/-- The products in their layouts, at an index. -/
theorem flat_mulNN {φ : FTy} (a : Mat r k) (b : Mat k c) (i : Fin r) (j : Fin c) : flat (φ := φ) (mulNN a b) (ix2 i j) = ∑ x, a i x * b x j := rfl
theorem flat_mulNT {φ : FTy} (a : Mat r k) (b : Mat c k) (i : Fin r) (j : Fin c) : flat (φ := φ) (mulNT a b) (ix2 i j) = ∑ x, a i x * b j x := rfl
theorem planes_mulNN {φ : FTy} (a : Mat 4096 k) (b : Mat k 5120) (e p : Fin 2) (t : Fin 2048) (x : Fin 2560) :
    planes (φ := φ) (mulNN a b) (ix4 e p t x) = ∑ y, a (tokRow e t) y * b y (halfCol p x) := rfl
theorem shards_mulTN {φ : FTy} (n : ℕ) (h : c = 8 * n) (a : Mat k r) (b : Mat k c) (p : Fin 8) (i : Fin r) (j : Fin n) :
    shards (φ := φ) n h (mulTN a b) (ix3 p i j) = ∑ x, a x i * b x (shardCol n h p j) := rfl

/-- Two sums of products with equal factors. -/
theorem sum_mul_congr {f g f' g' : Fin k → EReal} (hf : ∀ x, f x = f' x) (hg : ∀ x, g x = g' x) : ∑ x, f x * g x = ∑ x, f' x * g' x :=
  Finset.sum_congr rfl fun x _ => congrArg₂ (fun u v : EReal => u * v) (hf x) (hg x)

/-- The tokens of both examples, one after the other. -/
def tokEquiv : Fin 2 × Fin 2048 ≃ Fin 4096 where
  toFun x := tokRow x.1 x.2
  invFun i := (ex i, tk i)
  left_inv x := Prod.ext (Fin.ext (by simp only [ex, tokRow]; omega)) (Fin.ext (by simp only [tk, tokRow]; omega))
  right_inv i := Fin.ext (by simp only [ex, tk, tokRow]; omega)

/-- A sum over examples and over tokens is one over rows. -/
theorem sum_tokens (f g : Fin 2 → Fin 2048 → EReal) : ∑ x, ∑ y, g x y * f x y = ∑ i : Fin 4096, f (ex i) (tk i) * g (ex i) (tk i) := by
  rw [← Fintype.sum_prod_type' (f := fun x y => g x y * f x y)]
  exact Fintype.sum_equiv tokEquiv _ _ fun x => by
    obtain ⟨x, y⟩ := x
    have hx := congrArg Prod.fst (tokEquiv.left_inv (x, y))
    have hy := congrArg Prod.snd (tokEquiv.left_inv (x, y))
    show g x y * f x y = f (ex (tokEquiv (x, y))) (tk (tokEquiv (x, y))) * g (ex (tokEquiv (x, y))) (tk (tokEquiv (x, y)))
    rw [show ex (tokEquiv (x, y)) = x from hx, show tk (tokEquiv (x, y)) = y from hy]
    exact mul_comm (_ : EReal) _

/-- A sum over rows is the first example's and the second's. -/
theorem sum_halves (f : Fin 4096 → EReal) : ∑ i, f i = ∑ t, f (tokRow 0 t) + ∑ t, f (tokRow 1 t) := by
  rw [← Equiv.sum_comp tokEquiv f, Fintype.sum_prod_type, Fin.sum_univ_two]
  rfl

end Cert.Products

end
-- ==== Proof.UpDxValue.lean ====
/-
  The gradient of the feed-forward block's up-projection's input: the kernel's array and the derivative's are one product.
-/
module

public import proofs.«01_k».proof.Defs
public import proofs.«01_k».proof.Proof.Gen.UpDxIdeal.Value
public import proofs.«01_k».proof.Proof.Gen.UpDxRefIdeal.Run
public import proofs.«01_k».proof.Proof.Products
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.UpDxIdeal.Arrays

open Cert.UpDxIdeal Cert.UpDxIdeal.Gen

variable (m : (ℓ : Loc nD τ sig) → Buf (Elt Ideal) ℓ) (c : Dev nD)

abbrev left : FVec Ideal S2x2x2048x2560 .bf16 := m ((c : Thread nD τ).loc main_arg0)
abbrev right : FVec Ideal S8x1024x640 .bf16 := m ((c : Thread nD τ).loc main_arg1)

/-- The result. -/
def result (a : FVec Ideal S2x2x2048x2560 .bf16) (b : FVec Ideal S8x1024x640 .bf16) : FVec Ideal S4096x1024 .bf16 := flat (mulNT (ofPlanes a) (ofShards 640 rfl b))

theorem idx : ∀ t : Fin cfg0.N, win0_0.index t = ![t.val / 4, 0, t.val / 2 % 2, 0] ∧ win0_1.index t = ![0, t.val % 2, 0] ∧ win0_2.index t = ![t.val / 2, t.val % 2] ∧ t.val < 8 :=
  (by decide +kernel : ∀ t : Fin grid0.N, _)

theorem x0_at (t : Fin cfg0.N) (p : Fin 2) (r : Fin 1024) (k : Fin 2560) :
    iblk m c 0 t (ix4 (0 : Fin 1) p r k) = left m c (ix4 ⟨t.val / 4, by have := (idx t).2.2.2; omega⟩ p ⟨1024 * (t.val / 2 % 2) + r.val, by omega⟩ k) := by
  have ht := (idx t).2.2.2
  blk_ext [iblk, V, idx t]

theorem x1_at (t : Fin cfg0.N) (p : Fin 8) (r : Fin 512) (k : Fin 640) :
    iblk m c 1 t (ix3 p r k) = right m c (ix3 ⟨p.val, by have := (idx t).2.2.2; omega⟩ ⟨512 * (t.val % 2) + r.val, by have := (idx t).2.2.2; omega⟩ k) := by
  have ht := (idx t).2.2.2
  blk_ext [iblk, V, idx t]

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  unfold out0_2
  frame_open
  frame_out
  idx_vars y
  have he : ((View.whole main_v0).slice (win0_2.rect t)).emb (ix2 y0 y1) = ix2 ⟨1024 * (t.val / 2) + y0.val, by omega⟩ ⟨512 * (t.val % 2) + y1.val, by omega⟩ := by
    blk_ext [idx t]
  rw [he]
  have h0 := x0_at m c t
  have h1 := x1_at m c t
  generalize iblk m c 0 t = x0 at h0 ⊢
  generalize iblk m c 1 t = x1 at h1 ⊢
  pointwise [k0_pay1]
  rw [result, flat_mulNT]
  refine sum_mul_congr (fun k => ?_) (fun k => ?_)
  · split_ifs <;> exact (h0 _ _ _).trans (ofPlanes_at _ (by dsimp only <;> omega) (by dsimp only <;> omega))
  · split_ifs <;> exact (h1 _ _ _).trans (ofShards_at _ (by dsimp only <;> omega) (by dsimp only <;> omega))

theorem ref_eq (a : FVec Ideal S2x2x2048x2560 .bf16) (b : FVec Ideal S8x1024x640 .bf16) :
    truncf .bf16 (shapeCast _ (Host.dotGeneral Cert.UpDxRefIdeal.dot_S2x2048x5120_S1024x5120_S2x2048x1024_2_1_01_0_n_n none (extf .f32 (shapeCast _ (transpose Cert.UpDxRefIdeal.S2x2048x2x2560 [0, 2, 1, 3] a Cert.UpDxRefIdeal.Facts₀.transposes_S2x2x2048x2560_S2x2048x2x2560_0_2_1_3) Cert.UpDxRefIdeal.Facts₀.shapeCasts_S2x2048x2x2560_S2x2048x5120) Cert.UpDxRefIdeal.Facts₀.bitsLt_bf16_f32) (extf .f32 (shapeCast _ (transpose Cert.UpDxRefIdeal.S1024x8x640 [1, 0, 2] b Cert.UpDxRefIdeal.Facts₀.transposes_S8x1024x640_S1024x8x640_1_0_2) Cert.UpDxRefIdeal.Facts₀.shapeCasts_S1024x8x640_S1024x5120) Cert.UpDxRefIdeal.Facts₀.bitsLt_bf16_f32)) Cert.UpDxRefIdeal.Facts₀.shapeCasts_S2x2048x1024_S4096x1024) Cert.UpDxRefIdeal.Facts₀.bitsLt_bf16_f32
      = result a b := by
  funext y
  idx_vars y
  pointwise []
  rfl

end Cert.UpDxIdeal.Arrays

open Cert.UpDxIdeal.Arrays in
/-- Both programs end with the same product. -/
theorem Cert.Proof.productUpDx : Cert.algebraic_UpDxIdeal_UpDxRefIdeal
    (hUpDxIdeal := Cert.UpDxIdeal.Gen.facts) (hUpDxRefIdeal := Cert.UpDxRefIdeal.Gen.facts) := by
  intro m g m' g' _ hm
  refine ⟨fun c => result (left m c) (right m c), ?_, ?_⟩
  · exact (θ_run Cert.UpDxIdeal.defs _ _).mono (fun r h c => ⟨(h c).1.trans (arr2 m c), (h c).2⟩) (Cert.UpDxIdeal.Value.run_blocks m g)
  · exact (θ_run Cert.UpDxRefIdeal.defs _ _).mono
      (fun r h c => ⟨(h c).1.trans ((ref_eq _ _).trans (congrArg₂ result (hm c).1 (hm c).2)), (h c).2⟩) (Cert.UpDxRefIdeal.Value.run m' g')

open Cert.UpDxRefIdeal in
/-- The reference keeps its arguments; it has no counters. -/
theorem Cert.Proof.keepsUpDx : Cert.quiescent_UpDxRefIdeal (hUpDxRefIdeal := Gen.facts) := fun m ρ _ =>
  (θ_run defs _ _).mono (fun r h => ⟨fun c => (h c).2, sem_eq_zero_of_no_sems (by decide) r.2⟩) (Value.run m ρ)

end
-- ==== Proof.UpDwValue.lean ====
/-
  The gradient of the feed-forward block's up-projection: the kernel's array and the derivative's are one product.
-/
module

public import proofs.«01_k».proof.Defs
public import proofs.«01_k».proof.Proof.Gen.UpDwIdeal.Value
public import proofs.«01_k».proof.Proof.Gen.UpDwRefIdeal.Run
public import proofs.«01_k».proof.Proof.Products
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.UpDwIdeal.Arrays

open Cert.UpDwIdeal Cert.UpDwIdeal.Gen

variable (m : (ℓ : Loc nD τ sig) → Buf (Elt Ideal) ℓ) (c : Dev nD)

abbrev left : FVec Ideal S2x2048x1024 .bf16 := m ((c : Thread nD τ).loc main_arg0)
abbrev right : FVec Ideal S2x2x2048x2560 .bf16 := m ((c : Thread nD τ).loc main_arg1)

/-- The result. -/
def result (a : FVec Ideal S2x2048x1024 .bf16) (b : FVec Ideal S2x2x2048x2560 .bf16) : FVec Ideal S8x1024x640 .bf16 := shards 640 rfl (mulTN (ofTokens a) (ofPlanes b))

theorem V_main_v0 : V m c main_v0 = shapeCast _ (left m c) shapeCasts_S2x2048x1024_S4096x1024 := by
  show StableHlo.after hostOps0 _ (Proc.devRef .tc main_v0) = _
  unfold hostOps0
  after_results <;> rfl

theorem idx : ∀ t : Fin cfg0.N, win0_0.index t = ![t.val % 2, 0] ∧ win0_1.index t = ![t.val % 2, t.val / 4, 0, t.val / 2 % 2] ∧ win0_2.index t = ![t.val / 2, 0, 0] ∧ t.val < 8 :=
  (by decide +kernel : ∀ t : Fin grid0.N, _)

theorem x0_at (t : Fin cfg0.N) (r : Fin 2048) (k : Fin 1024) :
    iblk m c 0 t (ix2 r k) = left m c (ix3 ⟨t.val % 2, by omega⟩ r k) := by
  have ht := (idx t).2.2.2
  have he : ((cfg0.win 0).blk t).view.emb (ix2 r k) = ix2 ⟨2048 * (t.val % 2) + r.val, by omega⟩ k := by
    blk_ext [idx t]
  show V m c main_v0 (((cfg0.win 0).blk t).view.emb (ix2 r k)) = _
  rw [V_main_v0, he]
  pointwise []
  exact congrArg (fun e : Fin 2 => left m c (ix3 e r k)) (Fin.ext (by dsimp only; omega))

theorem x1_at (t : Fin cfg0.N) (r : Fin 2048) (k : Fin 1280) :
    iblk m c 1 t (ix4 (0 : Fin 1) (0 : Fin 1) r k)
      = right m c (ix4 ⟨t.val % 2, by omega⟩ ⟨t.val / 4, by have := (idx t).2.2.2; omega⟩ r ⟨1280 * (t.val / 2 % 2) + k.val, by omega⟩) := by
  have ht := (idx t).2.2.2
  blk_ext [iblk, V, idx t]

variable (i : grid0.Coords) (arg3 : Memref sig .tc .vmem S2048x1024 .bf16) (harg3 : arg3.IsWhole) (arg4 : Memref sig .tc .vmem S1x1x2048x1280 .bf16) (harg4 : arg4.IsWhole)
variable (arg5 : Memref sig .tc .vmem S2x1024x640 .bf16) (harg5 : arg5.IsWhole) (arg6 : Memref sig .tc .vmem S1024x1280 .f32) (harg6 : arg6.IsWhole)
variable (x0 : Vec Ideal S2048x1024 .bf16) (x1 : Vec Ideal S1x1x2048x1280 .bf16)

/-- After the first example's rows the scratch holds their product. -/
theorem first (hc0 : cond0_0 i) (hc1 : ¬cond0_1 i) (a : Fin 1024) (b : Fin 1280) :
    sout0_A_0 c i arg3 harg3 arg4 harg4 arg5 harg5 arg6 harg6 hc0 hc1 x0 x1 (ix2 a b) = ∑ k, x0 (ix2 k a) * x1 (ix4 (0 : Fin 1) (0 : Fin 1) k b) := by
  unfold sout0_A_0
  frame_open
  try simp (disch := decide) only [↓ View.readCov_skip, ↓ View.readCov_cons_toLoadRect, ↓ View.readCov_fill]
  frame_out
  try simp only [read_unread_whole]
  pointwise [k0_pay2, k0_pay1]

/-- After the second's, the output block holds the sum, in two shards. -/
theorem second (hc0 : ¬cond0_0 i) (hc1 : cond0_1 i) (xs : Vec Ideal S1024x1280 .f32) (p : Fin 2) (a : Fin 1024) (b : Fin 640) :
    out0_B_2 c i arg3 harg3 arg4 harg4 arg5 harg5 arg6 harg6 hc0 hc1 x0 x1 xs (ix3 p a b)
      = xs (ix2 a ⟨640 * p.val + b.val, by omega⟩) + ∑ k, x0 (ix2 k a) * x1 (ix4 (0 : Fin 1) (0 : Fin 1) k ⟨640 * p.val + b.val, by omega⟩) := by
  unfold out0_B_2
  frame_open
  try simp (disch := decide) only [↓ View.readCov_skip, ↓ View.readCov_cons_toLoadRect, ↓ View.readCov_fill]
  frame_out
  try simp only [read_unread_whole]
  canon_tiles z q
  all_goals
    idx_vars z
    pointwise [k0_pay5, k0_pay4, k0_pay3, k0_pay2]
    obtain rfl : a = z1 := Fin.ext q1
    obtain rfl : b = z2 := Fin.ext q2
    refine congrArg (fun u : Fin 1280 => xs (ix2 a u) + ∑ k, x0 (ix2 k a) * x1 (ix4 (0 : Fin 1) (0 : Fin 1) k u)) (Fin.ext ?_)
    dsimp only
    omega

/-- The product of two blocks, at an index. -/
def part (x0 : Vec Ideal S2048x1024 .bf16) (x1 : Vec Ideal S1x1x2048x1280 .bf16) : Mat 1024 1280 := fun a b =>
  ∑ k, x0 (ix2 k a) * x1 (ix4 (0 : Fin 1) (0 : Fin 1) k b)

/-- So a pair of grid points leaves the two examples' products added. -/
theorem out_at (t : Fin cfg0.N) (hodd : t.val % 2 = 1) (hlt : t.val - 1 < cfg0.N) (p : Fin 2) (a : Fin 1024) (b : Fin 640) :
    (outsAt0 m c t.val t.isLt).1 (ix3 p a b)
      = part (iblk m c 0 ⟨t.val - 1, hlt⟩) (iblk m c 1 ⟨t.val - 1, hlt⟩) a ⟨640 * p.val + b.val, by omega⟩
        + part (iblk m c 0 t) (iblk m c 1 t) a ⟨640 * p.val + b.val, by omega⟩ := by
  have hA : outsAt0 m c (t.val - 1) hlt = _ := outsAt0_A m c ⟨t.val - 1, hlt⟩ (by dsimp only; omega) (by dsimp only; omega)
  rw [outsAt0_B m c t (by omega) hodd]
  dsimp only
  rw [second, hA]
  dsimp only
  rw [first]
  rfl

/-- The result at an index of a shard, example by example. -/
theorem result_at (a : FVec Ideal S2x2048x1024 .bf16) (b : FVec Ideal S2x2x2048x2560 .bf16) (s : Fin 8) (i : Fin 1024) (j : Fin 640) :
    result a b (ix3 s i j)
      = ∑ t, ofTokens a (tokRow 0 t) i * ofPlanes b (tokRow 0 t) (shardCol 640 rfl s j)
        + ∑ t, ofTokens a (tokRow 1 t) i * ofPlanes b (tokRow 1 t) (shardCol 640 rfl s j) := by
  rw [result, shards_mulTN, sum_halves]

theorem arr2 : (dats m 0 c).arrAt 2 cfg0.N = result (left m c) (right m c) := by
  refine (dats m 0 c).arrAt_eq_of_covers 2 _ (by decide +kernel) fun t hf y => ?_
  have ht := (idx t).2.2.2
  have hodd : t.val % 2 = 1 := (flush0_2 t).mp hf
  blk_simp
  rw [after0_2]
  idx_vars y
  have he : ((View.whole main_v1).slice (win0_2.rect t)).emb (ix3 y0 y1 y2) = ix3 ⟨2 * (t.val / 2) + y0.val, by omega⟩ y1 y2 := by
    blk_ext [idx t]
  have hlt : t.val - 1 < cfg0.N := Nat.lt_of_le_of_lt (Nat.sub_le _ _) t.isLt
  rw [he, out_at m c t hodd hlt, result_at]
  have h0 := x0_at m c t
  have h1 := x1_at m c t
  have g0 := x0_at m c ⟨t.val - 1, hlt⟩
  have g1 := x1_at m c ⟨t.val - 1, hlt⟩
  generalize iblk m c 0 t = x0 at h0 ⊢
  generalize iblk m c 1 t = x1 at h1 ⊢
  generalize iblk m c 0 ⟨t.val - 1, hlt⟩ = z0 at g0 ⊢
  generalize iblk m c 1 ⟨t.val - 1, hlt⟩ = z1 at g1 ⊢
  refine congrArg₂ (fun u v : EReal => u + v) (sum_mul_congr (fun k => (g0 _ _).trans (ofTokens_at _ ?_)) fun k => (g1 _ _).trans (ofPlanes_at _ ?_ ?_))
    (sum_mul_congr (fun k => (h0 _ _).trans (ofTokens_at _ ?_)) fun k => (h1 _ _).trans (ofPlanes_at _ ?_ ?_))
  all_goals
    simp only [tokRow, shardCol, Fin.val_zero, Fin.val_one]
    omega

theorem ref_eq (a : FVec Ideal S2x2048x1024 .bf16) (b : FVec Ideal S2x2x2048x2560 .bf16) :
    truncf .bf16 (transpose Cert.UpDwRefIdeal.S8x1024x640 [1, 0, 2] (shapeCast _ (transpose Cert.UpDwRefIdeal.S1024x5120 [1, 0] (Host.dotGeneral Cert.UpDwRefIdeal.dot_S2x2048x5120_S2x2048x1024_S5120x1024_01_01_2_2_n_n none (extf .f32 (shapeCast _ (transpose Cert.UpDwRefIdeal.S2x2048x2x2560 [0, 2, 1, 3] b Cert.UpDwRefIdeal.Facts₀.transposes_S2x2x2048x2560_S2x2048x2x2560_0_2_1_3) Cert.UpDwRefIdeal.Facts₀.shapeCasts_S2x2048x2x2560_S2x2048x5120) Cert.UpDwRefIdeal.Facts₀.bitsLt_bf16_f32) (extf .f32 a Cert.UpDwRefIdeal.Facts₀.bitsLt_bf16_f32)) Cert.UpDwRefIdeal.Facts₀.transposes_S5120x1024_S1024x5120_1_0) Cert.UpDwRefIdeal.Facts₀.shapeCasts_S1024x5120_S1024x8x640) Cert.UpDwRefIdeal.Facts₀.transposes_S1024x8x640_S8x1024x640_1_0_2) Cert.UpDwRefIdeal.Facts₀.bitsLt_bf16_f32
      = result a b := by
  funext y
  idx_vars y
  pointwise []
  exact sum_tokens (fun e t => a (ix3 e t y1))
    (fun e t => b (ix4 e ⟨(y0.val * 640 + y2.val) / 2560, by omega⟩ t ⟨(y0.val * 640 + y2.val) % 2560, by omega⟩))

end Cert.UpDwIdeal.Arrays

open Cert.UpDwIdeal.Arrays in
/-- Both programs end with the same product. -/
theorem Cert.Proof.productUpDw : Cert.algebraic_UpDwIdeal_UpDwRefIdeal
    (hUpDwIdeal := Cert.UpDwIdeal.Gen.facts) (hUpDwRefIdeal := Cert.UpDwRefIdeal.Gen.facts) := by
  intro m g m' g' _ hm
  refine ⟨fun c => result (left m c) (right m c), ?_, ?_⟩
  · exact (θ_run Cert.UpDwIdeal.defs _ _).mono (fun r h c => ⟨(h c).1.trans (arr2 m c), (h c).2⟩) (Cert.UpDwIdeal.Value.run_blocks m g)
  · exact (θ_run Cert.UpDwRefIdeal.defs _ _).mono
      (fun r h c => ⟨(h c).1.trans ((ref_eq _ _).trans (congrArg₂ result (hm c).1 (hm c).2)), (h c).2⟩) (Cert.UpDwRefIdeal.Value.run m' g')

open Cert.UpDwRefIdeal in
/-- The reference keeps its arguments; it has no counters. -/
theorem Cert.Proof.keepsUpDw : Cert.quiescent_UpDwRefIdeal (hUpDwRefIdeal := Gen.facts) := fun m ρ _ =>
  (θ_run defs _ _).mono (fun r h => ⟨fun c => (h c).2, sem_eq_zero_of_no_sems (by decide) r.2⟩) (Value.run m ρ)

end
-- ==== Proof.DownDxValue.lean ====
/-
  The gradient of the feed-forward block's down-projection's input: the kernel's array and the derivative's are one product.
-/
module

public import proofs.«01_k».proof.Defs
public import proofs.«01_k».proof.Proof.Gen.DownDxIdeal.Value
public import proofs.«01_k».proof.Proof.Gen.DownDxRefIdeal.Run
public import proofs.«01_k».proof.Proof.Products
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.DownDxIdeal.Arrays

open Cert.DownDxIdeal Cert.DownDxIdeal.Gen

variable (m : (ℓ : Loc nD τ sig) → Buf (Elt Ideal) ℓ) (c : Dev nD)

abbrev left : FVec Ideal S2x2048x1024 .bf16 := m ((c : Thread nD τ).loc main_arg0)
abbrev right : FVec Ideal S2560x1024 .bf16 := m ((c : Thread nD τ).loc main_arg1)

/-- The result. -/
def result (a : FVec Ideal S2x2048x1024 .bf16) (b : FVec Ideal S2560x1024 .bf16) : FVec Ideal S4096x2560 .bf16 := flat (mulNT (ofTokens a) (ofFlat b))

theorem V_main_v0 : V m c main_v0 = shapeCast _ (left m c) shapeCasts_S2x2048x1024_S4096x1024 := by
  show StableHlo.after hostOps0 _ (Proc.devRef .tc main_v0) = _
  unfold hostOps0
  after_results <;> rfl

theorem idx : ∀ t : Fin cfg0.N, win0_0.index t = ![t.val / 2, 0] ∧ win0_1.index t = ![t.val % 2, 0] ∧ win0_2.index t = ![t.val / 2, t.val % 2] ∧ t.val < 8 :=
  (by decide +kernel : ∀ t : Fin grid0.N, _)

theorem x0_at (t : Fin cfg0.N) (r : Fin 1024) (k : Fin 1024) :
    iblk m c 0 t (ix2 r k) = ofTokens (left m c) ⟨1024 * (t.val / 2) + r.val, by have := (idx t).2.2.2; omega⟩ ⟨k.val, by have := (idx t).2.2.2; omega⟩ := by
  have ht := (idx t).2.2.2
  have he : ((cfg0.win 0).blk t).view.emb (ix2 r k) = ix2 ⟨1024 * (t.val / 2) + r.val, by omega⟩ ⟨k.val, by omega⟩ := by
    blk_ext [idx t]
  show V m c main_v0 (((cfg0.win 0).blk t).view.emb (ix2 r k)) = _
  rw [V_main_v0, he]
  pointwise []
  rfl

theorem x1_at (t : Fin cfg0.N) (r : Fin 1280) (k : Fin 1024) :
    iblk m c 1 t (ix2 r k) = ofFlat (right m c) ⟨1280 * (t.val % 2) + r.val, by have := (idx t).2.2.2; omega⟩ ⟨k.val, by have := (idx t).2.2.2; omega⟩ := by
  have ht := (idx t).2.2.2
  show _ = right m c (ix2 _ _)
  blk_ext [iblk, V, idx t]

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  unfold out0_2
  frame_open
  frame_out
  idx_vars y
  have he : ((View.whole main_v1).slice (win0_2.rect t)).emb (ix2 y0 y1) = ix2 ⟨1024 * (t.val / 2) + y0.val, by omega⟩ ⟨1280 * (t.val % 2) + y1.val, by omega⟩ := by
    blk_ext [idx t]
  rw [he]
  have h0 := x0_at m c t
  have h1 := x1_at m c t
  generalize iblk m c 0 t = x0 at h0 ⊢
  generalize iblk m c 1 t = x1 at h1 ⊢
  pointwise [k0_pay1]
  exact sum_mul_congr (fun k => (h0 _ _)) (fun k => (h1 _ _))

theorem ref_eq (a : FVec Ideal S2x2048x1024 .bf16) (b : FVec Ideal S2560x1024 .bf16) :
    truncf .bf16 (shapeCast _ (Host.dotGeneral Cert.DownDxRefIdeal.dot_S2x2048x1024_S2560x1024_S2x2048x2560_2_1_01_0_n_n none (extf .f32 a Cert.DownDxRefIdeal.Facts₀.bitsLt_bf16_f32) (extf .f32 b Cert.DownDxRefIdeal.Facts₀.bitsLt_bf16_f32)) Cert.DownDxRefIdeal.Facts₀.shapeCasts_S2x2048x2560_S4096x2560) Cert.DownDxRefIdeal.Facts₀.bitsLt_bf16_f32
      = result a b := by
  funext y
  idx_vars y
  pointwise []
  rfl

end Cert.DownDxIdeal.Arrays

open Cert.DownDxIdeal.Arrays in
/-- Both programs end with the same product. -/
theorem Cert.Proof.productDownDx : Cert.algebraic_DownDxIdeal_DownDxRefIdeal
    (hDownDxIdeal := Cert.DownDxIdeal.Gen.facts) (hDownDxRefIdeal := Cert.DownDxRefIdeal.Gen.facts) := by
  intro m g m' g' _ hm
  refine ⟨fun c => result (left m c) (right m c), ?_, ?_⟩
  · exact (θ_run Cert.DownDxIdeal.defs _ _).mono (fun r h c => ⟨(h c).1.trans (arr2 m c), (h c).2⟩) (Cert.DownDxIdeal.Value.run_blocks m g)
  · exact (θ_run Cert.DownDxRefIdeal.defs _ _).mono
      (fun r h c => ⟨(h c).1.trans ((ref_eq _ _).trans (congrArg₂ result (hm c).1 (hm c).2)), (h c).2⟩) (Cert.DownDxRefIdeal.Value.run m' g')

open Cert.DownDxRefIdeal in
/-- The reference keeps its arguments; it has no counters. -/
theorem Cert.Proof.keepsDownDx : Cert.quiescent_DownDxRefIdeal (hDownDxRefIdeal := Gen.facts) := fun m ρ _ =>
  (θ_run defs _ _).mono (fun r h => ⟨fun c => (h c).2, sem_eq_zero_of_no_sems (by decide) r.2⟩) (Value.run m ρ)

end
-- ==== Proof.DownDwValue.lean ====
/-
  The gradient of the feed-forward block's down-projection: the kernel's array and the derivative's are one product.
-/
module

public import proofs.«01_k».proof.Defs
public import proofs.«01_k».proof.Proof.Gen.DownDwIdeal.Value
public import proofs.«01_k».proof.Proof.Gen.DownDwRefIdeal.Run
public import proofs.«01_k».proof.Proof.Products
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.DownDwIdeal.Arrays

open Cert.DownDwIdeal Cert.DownDwIdeal.Gen

variable (m : (ℓ : Loc nD τ sig) → Buf (Elt Ideal) ℓ) (c : Dev nD)

abbrev left : FVec Ideal S2x2048x2560 .bf16 := m ((c : Thread nD τ).loc main_arg0)
abbrev right : FVec Ideal S2x2048x1024 .bf16 := m ((c : Thread nD τ).loc main_arg1)

/-- The result. -/
def result (a : FVec Ideal S2x2048x2560 .bf16) (b : FVec Ideal S2x2048x1024 .bf16) : FVec Ideal S2560x1024 .bf16 := flat (mulTN (ofTokens a) (ofTokens b))

theorem V_main_v0 : V m c main_v0 = shapeCast _ (left m c) shapeCasts_S2x2048x2560_S4096x2560 := by
  show StableHlo.after hostOps0 _ (Proc.devRef .tc main_v0) = _
  unfold hostOps0
  after_results <;> rfl

theorem V_main_v1 : V m c main_v1 = shapeCast _ (right m c) shapeCasts_S2x2048x1024_S4096x1024 := by
  show StableHlo.after hostOps0 _ (Proc.devRef .tc main_v1) = _
  unfold hostOps0
  after_results <;> rfl

theorem idx : ∀ t : Fin cfg0.N, win0_0.index t = ![0, t.val / 2] ∧ win0_1.index t = ![0, t.val % 2] ∧ win0_2.index t = ![t.val / 2, t.val % 2] ∧ t.val < 8 :=
  (by decide +kernel : ∀ t : Fin grid0.N, _)

theorem x0_at (t : Fin cfg0.N) (r : Fin 4096) (k : Fin 640) :
    iblk m c 0 t (ix2 r k) = ofTokens (left m c) ⟨r.val, by have := (idx t).2.2.2; omega⟩ ⟨640 * (t.val / 2) + k.val, by have := (idx t).2.2.2; omega⟩ := by
  have ht := (idx t).2.2.2
  have he : ((cfg0.win 0).blk t).view.emb (ix2 r k) = ix2 ⟨r.val, by omega⟩ ⟨640 * (t.val / 2) + k.val, by omega⟩ := by
    blk_ext [idx t]
  show V m c main_v0 (((cfg0.win 0).blk t).view.emb (ix2 r k)) = _
  rw [V_main_v0, he]
  pointwise []
  rfl

theorem x1_at (t : Fin cfg0.N) (r : Fin 4096) (k : Fin 512) :
    iblk m c 1 t (ix2 r k) = ofTokens (right m c) ⟨r.val, by have := (idx t).2.2.2; omega⟩ ⟨512 * (t.val % 2) + k.val, by have := (idx t).2.2.2; omega⟩ := by
  have ht := (idx t).2.2.2
  have he : ((cfg0.win 1).blk t).view.emb (ix2 r k) = ix2 ⟨r.val, by omega⟩ ⟨512 * (t.val % 2) + k.val, by omega⟩ := by
    blk_ext [idx t]
  show V m c main_v1 (((cfg0.win 1).blk t).view.emb (ix2 r k)) = _
  rw [V_main_v1, he]
  pointwise []
  rfl

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  unfold out0_2
  frame_open
  frame_out
  idx_vars y
  have he : ((View.whole main_v2).slice (win0_2.rect t)).emb (ix2 y0 y1) = ix2 ⟨640 * (t.val / 2) + y0.val, by omega⟩ ⟨512 * (t.val % 2) + y1.val, by omega⟩ := by
    blk_ext [idx t]
  rw [he]
  have h0 := x0_at m c t
  have h1 := x1_at m c t
  generalize iblk m c 0 t = x0 at h0 ⊢
  generalize iblk m c 1 t = x1 at h1 ⊢
  pointwise [k0_pay1]
  exact sum_mul_congr (fun k => (h0 _ _)) (fun k => (h1 _ _))

theorem ref_eq (a : FVec Ideal S2x2048x2560 .bf16) (b : FVec Ideal S2x2048x1024 .bf16) :
    truncf .bf16 (transpose S2560x1024 [1, 0] (Host.dotGeneral Cert.DownDwRefIdeal.dot_S2x2048x1024_S2x2048x2560_S1024x2560_01_01_2_2_n_n none (extf .f32 b Cert.DownDwRefIdeal.Facts₀.bitsLt_bf16_f32) (extf .f32 a Cert.DownDwRefIdeal.Facts₀.bitsLt_bf16_f32)) Cert.DownDwRefIdeal.Facts₀.transposes_S1024x2560_S2560x1024_1_0) Cert.DownDwRefIdeal.Facts₀.bitsLt_bf16_f32
      = result a b := by
  funext y
  idx_vars y
  pointwise []
  exact sum_tokens (fun e t => a (ix3 e t y0)) (fun e t => b (ix3 e t y1))

end Cert.DownDwIdeal.Arrays

open Cert.DownDwIdeal.Arrays in
/-- Both programs end with the same product. -/
theorem Cert.Proof.productDownDw : Cert.algebraic_DownDwIdeal_DownDwRefIdeal
    (hDownDwIdeal := Cert.DownDwIdeal.Gen.facts) (hDownDwRefIdeal := Cert.DownDwRefIdeal.Gen.facts) := by
  intro m g m' g' _ hm
  refine ⟨fun c => result (left m c) (right m c), ?_, ?_⟩
  · exact (θ_run Cert.DownDwIdeal.defs _ _).mono (fun r h c => ⟨(h c).1.trans (arr2 m c), (h c).2⟩) (Cert.DownDwIdeal.Value.run_blocks m g)
  · exact (θ_run Cert.DownDwRefIdeal.defs _ _).mono
      (fun r h c => ⟨(h c).1.trans ((ref_eq _ _).trans (congrArg₂ result (hm c).1 (hm c).2)), (h c).2⟩) (Cert.DownDwRefIdeal.Value.run m' g')

open Cert.DownDwRefIdeal in
/-- The reference keeps its arguments; it has no counters. -/
theorem Cert.Proof.keepsDownDw : Cert.quiescent_DownDwRefIdeal (hDownDwRefIdeal := Gen.facts) := fun m ρ _ =>
  (θ_run defs _ _).mono (fun r h => ⟨fun c => (h c).2, sem_eq_zero_of_no_sems (by decide) r.2⟩) (Value.run m ρ)

end
-- ==== Proof.UpValue.lean ====
/-
  The feed-forward block's up-projection: the kernel's array and the reference's are one product.
-/
module

public import proofs.«01_k».proof.Defs
public import proofs.«01_k».proof.Proof.Gen.UpIdeal.Value
public import proofs.«01_k».proof.Proof.Gen.UpRefIdeal.Run
public import proofs.«01_k».proof.Proof.Products
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.UpIdeal.Arrays

open Cert.UpIdeal Cert.UpIdeal.Gen

variable (m : (ℓ : Loc nD τ sig) → Buf (Elt Ideal) ℓ) (c : Dev nD)

abbrev left : FVec Ideal S2x2048x1024 .bf16 := m ((c : Thread nD τ).loc main_arg0)
abbrev right : FVec Ideal S8x1024x640 .bf16 := m ((c : Thread nD τ).loc main_arg1)

/-- The result. -/
def result (a : FVec Ideal S2x2048x1024 .bf16) (b : FVec Ideal S8x1024x640 .bf16) : FVec Ideal S2x2x2048x2560 .bf16 := planes (mulNN (ofTokens a) (ofShards 640 rfl b))

theorem V_main_v0 : V m c main_v0 = shapeCast _ (left m c) shapeCasts_S2x2048x1024_S4096x1024 := by
  show StableHlo.after hostOps0 _ (Proc.devRef .tc main_v0) = _
  unfold hostOps0
  after_results <;> rfl

theorem idx : ∀ t : Fin cfg0.N, win0_0.index t = ![t.val / 4, 0] ∧ win0_1.index t = ![t.val % 4, 0, 0] ∧ win0_2.index t = ![t.val / 8, t.val % 4 / 2, t.val / 4 % 2, t.val % 2] ∧ t.val < 16 :=
  (by decide +kernel : ∀ t : Fin grid0.N, _)

theorem x0_at (t : Fin cfg0.N) (r : Fin 1024) (k : Fin 1024) :
    iblk m c 0 t (ix2 r k) = ofTokens (left m c) ⟨1024 * (t.val / 4) + r.val, by have := (idx t).2.2.2; omega⟩ ⟨k.val, by have := (idx t).2.2.2; omega⟩ := by
  have ht := (idx t).2.2.2
  have he : ((cfg0.win 0).blk t).view.emb (ix2 r k) = ix2 ⟨1024 * (t.val / 4) + r.val, by omega⟩ ⟨k.val, by omega⟩ := by
    blk_ext [idx t]
  show V m c main_v0 (((cfg0.win 0).blk t).view.emb (ix2 r k)) = _
  rw [V_main_v0, he]
  pointwise []
  rfl

theorem x1_at (t : Fin cfg0.N) (p : Fin 2) (r : Fin 1024) (k : Fin 640) :
    iblk m c 1 t (ix3 p r k) = right m c (ix3 ⟨2 * (t.val % 4) + p.val, by have := (idx t).2.2.2; omega⟩ ⟨r.val, by have := (idx t).2.2.2; omega⟩ k) := by
  have ht := (idx t).2.2.2
  blk_ext [iblk, V, idx t]

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  unfold out0_2
  frame_open
  frame_out
  idx_vars y
  have he : ((View.whole main_v1).slice (win0_2.rect t)).emb (ix4 y0 y1 y2 y3)
      = ix4 ⟨t.val / 8, by omega⟩ ⟨t.val % 4 / 2, by omega⟩ ⟨1024 * (t.val / 4 % 2) + y2.val, by omega⟩ ⟨1280 * (t.val % 2) + y3.val, by omega⟩ := by
    blk_ext [idx t]
  rw [he]
  have h0 := x0_at m c t
  have h1 := x1_at m c t
  generalize iblk m c 0 t = x0 at h0 ⊢
  generalize iblk m c 1 t = x1 at h1 ⊢
  pointwise [k0_pay1]
  rw [result, planes_mulNN]
  refine sum_mul_congr (fun k => (h0 _ _).trans (congrArg (fun i => ofTokens (left m c) i _) (Fin.ext ?_))) (fun k => ?_)
  · show _ = 2048 * _ + _
    dsimp only
    omega
  split_ifs <;> exact (h1 _ _ _).trans (ofShards_at _ (by dsimp only <;> omega) (by simp only [halfCol] <;> omega))

theorem ref_eq (a : FVec Ideal S2x2048x1024 .bf16) (b : FVec Ideal S8x1024x640 .bf16) :
    truncf .bf16 (transpose Cert.UpRefIdeal.S2x2x2048x2560 [0, 2, 1, 3] (shapeCast _ (Host.dotGeneral Cert.UpRefIdeal.dot_S2x2048x1024_S1024x5120_S2x2048x5120_2_0_01_1_n_n none (extf .f32 a Cert.UpRefIdeal.Facts₀.bitsLt_bf16_f32) (extf .f32 (shapeCast _ (transpose Cert.UpRefIdeal.S1024x8x640 [1, 0, 2] b Cert.UpRefIdeal.Facts₀.transposes_S8x1024x640_S1024x8x640_1_0_2) Cert.UpRefIdeal.Facts₀.shapeCasts_S1024x8x640_S1024x5120) Cert.UpRefIdeal.Facts₀.bitsLt_bf16_f32)) Cert.UpRefIdeal.Facts₀.shapeCasts_S2x2048x5120_S2x2048x2x2560) Cert.UpRefIdeal.Facts₀.transposes_S2x2048x2x2560_S2x2x2048x2560_0_2_1_3) Cert.UpRefIdeal.Facts₀.bitsLt_bf16_f32
      = result a b := by
  funext y
  idx_vars y
  pointwise []
  exact sum_mul_congr (fun k => ofTokens_at _ rfl) (fun k => rfl)

end Cert.UpIdeal.Arrays

open Cert.UpIdeal.Arrays in
/-- Both programs end with the same product. -/
theorem Cert.Proof.productUp : Cert.algebraic_UpIdeal_UpRefIdeal
    (hUpIdeal := Cert.UpIdeal.Gen.facts) (hUpRefIdeal := Cert.UpRefIdeal.Gen.facts) := by
  intro m g m' g' _ hm
  refine ⟨fun c => result (left m c) (right m c), ?_, ?_⟩
  · exact (θ_run Cert.UpIdeal.defs _ _).mono (fun r h c => ⟨(h c).1.trans (arr2 m c), (h c).2⟩) (Cert.UpIdeal.Value.run_blocks m g)
  · exact (θ_run Cert.UpRefIdeal.defs _ _).mono
      (fun r h c => ⟨(h c).1.trans ((ref_eq _ _).trans (congrArg₂ result (hm c).1 (hm c).2)), (h c).2⟩) (Cert.UpRefIdeal.Value.run m' g')

open Cert.UpRefIdeal in
/-- The reference keeps its arguments; it has no counters. -/
theorem Cert.Proof.keepsUp : Cert.quiescent_UpRefIdeal (hUpRefIdeal := Gen.facts) := fun m ρ _ =>
  (θ_run defs _ _).mono (fun r h => ⟨fun c => (h c).2, sem_eq_zero_of_no_sems (by decide) r.2⟩) (Value.run m ρ)

end
-- ==== Proof.DownValue.lean ====
/-
  The feed-forward block's down-projection: the kernel's array and the reference's are one product.
-/
module

public import proofs.«01_k».proof.Defs
public import proofs.«01_k».proof.Proof.Gen.DownIdeal.Value
public import proofs.«01_k».proof.Proof.Gen.DownRefIdeal.Run
public import proofs.«01_k».proof.Proof.Products
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.DownIdeal.Arrays

open Cert.DownIdeal Cert.DownIdeal.Gen

variable (m : (ℓ : Loc nD τ sig) → Buf (Elt Ideal) ℓ) (c : Dev nD)

abbrev left : FVec Ideal S2x2048x2560 .bf16 := m ((c : Thread nD τ).loc main_arg0)
abbrev right : FVec Ideal S2560x1024 .bf16 := m ((c : Thread nD τ).loc main_arg1)

/-- The result. -/
def result (a : FVec Ideal S2x2048x2560 .bf16) (b : FVec Ideal S2560x1024 .bf16) : FVec Ideal S4096x1024 .f32 := flat (mulNN (ofTokens a) (ofFlat b))

theorem V_main_v0 : V m c main_v0 = shapeCast _ (left m c) shapeCasts_S2x2048x2560_S4096x2560 := by
  show StableHlo.after hostOps0 _ (Proc.devRef .tc main_v0) = _
  unfold hostOps0
  after_results <;> rfl

theorem idx : ∀ t : Fin cfg0.N, win0_0.index t = ![t.val, 0] ∧ win0_1.index t = ![0, 0] ∧ win0_2.index t = ![t.val, 0] ∧ t.val < 4 :=
  (by decide +kernel : ∀ t : Fin grid0.N, _)

theorem x0_at (t : Fin cfg0.N) (r : Fin 1024) (k : Fin 2560) :
    iblk m c 0 t (ix2 r k) = ofTokens (left m c) ⟨1024 * t.val + r.val, by have := (idx t).2.2.2; omega⟩ ⟨k.val, by have := (idx t).2.2.2; omega⟩ := by
  have ht := (idx t).2.2.2
  have he : ((cfg0.win 0).blk t).view.emb (ix2 r k) = ix2 ⟨1024 * t.val + r.val, by omega⟩ ⟨k.val, by omega⟩ := by
    blk_ext [idx t]
  show V m c main_v0 (((cfg0.win 0).blk t).view.emb (ix2 r k)) = _
  rw [V_main_v0, he]
  pointwise []
  rfl

theorem x1_at (t : Fin cfg0.N) (r : Fin 2560) (k : Fin 1024) :
    iblk m c 1 t (ix2 r k) = ofFlat (right m c) ⟨r.val, by have := (idx t).2.2.2; omega⟩ ⟨k.val, by have := (idx t).2.2.2; omega⟩ := by
  have ht := (idx t).2.2.2
  show _ = right m c (ix2 _ _)
  blk_ext [iblk, V, idx t]

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  unfold out0_2
  frame_open
  frame_out
  idx_vars y
  have he : ((View.whole main_v1).slice (win0_2.rect t)).emb (ix2 y0 y1) = ix2 ⟨1024 * t.val + y0.val, by omega⟩ ⟨y1.val, by omega⟩ := by
    blk_ext [idx t]
  rw [he]
  have h0 := x0_at m c t
  have h1 := x1_at m c t
  generalize iblk m c 0 t = x0 at h0 ⊢
  generalize iblk m c 1 t = x1 at h1 ⊢
  pointwise [k0_pay1]
  exact sum_mul_congr (fun k => (h0 _ _)) (fun k => (h1 _ _))

theorem ref_eq (a : FVec Ideal S2x2048x2560 .bf16) (b : FVec Ideal S2560x1024 .bf16) :
    shapeCast _ (Host.dotGeneral Cert.DownRefIdeal.dot_S2x2048x2560_S2560x1024_S2x2048x1024_2_0_01_1_n_n none (extf .f32 a Cert.DownRefIdeal.Facts₀.bitsLt_bf16_f32) (extf .f32 b Cert.DownRefIdeal.Facts₀.bitsLt_bf16_f32)) Cert.DownRefIdeal.Facts₀.shapeCasts_S2x2048x1024_S4096x1024
      = result a b := by
  funext y
  idx_vars y
  pointwise []
  rfl

end Cert.DownIdeal.Arrays

open Cert.DownIdeal.Arrays in
/-- Both programs end with the same product. -/
theorem Cert.Proof.productDown : Cert.algebraic_DownIdeal_DownRefIdeal
    (hDownIdeal := Cert.DownIdeal.Gen.facts) (hDownRefIdeal := Cert.DownRefIdeal.Gen.facts) := by
  intro m g m' g' _ hm
  refine ⟨fun c => result (left m c) (right m c), ?_, ?_⟩
  · exact (θ_run Cert.DownIdeal.defs _ _).mono (fun r h c => ⟨(h c).1.trans (arr2 m c), (h c).2⟩) (Cert.DownIdeal.Value.run_blocks m g)
  · exact (θ_run Cert.DownRefIdeal.defs _ _).mono
      (fun r h c => ⟨(h c).1.trans ((ref_eq _ _).trans (congrArg₂ result (hm c).1 (hm c).2)), (h c).2⟩) (Cert.DownRefIdeal.Value.run m' g')

open Cert.DownRefIdeal in
/-- The reference keeps its arguments; it has no counters. -/
theorem Cert.Proof.keepsDown : Cert.quiescent_DownRefIdeal (hDownRefIdeal := Gen.facts) := fun m ρ _ =>
  (θ_run defs _ _).mono (fun r h => ⟨fun c => (h c).2, sem_eq_zero_of_no_sems (by decide) r.2⟩) (Value.run m ρ)

end
-- ==== Proof.ScInValue.lean ====
/-
  The short convolution's input projection: the kernel's array and the reference's are one product.
-/
module

public import proofs.«01_k».proof.Defs
public import proofs.«01_k».proof.Proof.Gen.ScInIdeal.Value
public import proofs.«01_k».proof.Proof.Gen.ScInRefIdeal.Run
public import proofs.«01_k».proof.Proof.Products
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.ScInIdeal.Arrays

open Cert.ScInIdeal Cert.ScInIdeal.Gen

variable (m : (ℓ : Loc nD τ sig) → Buf (Elt Ideal) ℓ) (c : Dev nD)

abbrev left : FVec Ideal S2x2048x1024 .bf16 := m ((c : Thread nD τ).loc main_arg0)
abbrev right : FVec Ideal S8x1024x384 .bf16 := m ((c : Thread nD τ).loc main_arg1)

/-- The result. -/
def result (a : FVec Ideal S2x2048x1024 .bf16) (b : FVec Ideal S8x1024x384 .bf16) : FVec Ideal S4096x3072 .f32 := flat (mulNN (ofTokens a) (ofShards 384 rfl b))

theorem V_main_v0 : V m c main_v0 = shapeCast _ (left m c) shapeCasts_S2x2048x1024_S4096x1024 := by
  show StableHlo.after hostOps0 _ (Proc.devRef .tc main_v0) = _
  unfold hostOps0
  after_results <;> rfl

theorem idx : ∀ t : Fin cfg0.N, win0_0.index t = ![t.val / 2, 0] ∧ win0_1.index t = ![t.val % 2, 0, 0] ∧ win0_2.index t = ![t.val / 2, t.val % 2] ∧ t.val < 8 :=
  (by decide +kernel : ∀ t : Fin grid0.N, _)

theorem x0_at (t : Fin cfg0.N) (r : Fin 1024) (k : Fin 1024) :
    iblk m c 0 t (ix2 r k) = ofTokens (left m c) ⟨1024 * (t.val / 2) + r.val, by have := (idx t).2.2.2; omega⟩ ⟨k.val, by have := (idx t).2.2.2; omega⟩ := by
  have ht := (idx t).2.2.2
  have he : ((cfg0.win 0).blk t).view.emb (ix2 r k) = ix2 ⟨1024 * (t.val / 2) + r.val, by omega⟩ ⟨k.val, by omega⟩ := by
    blk_ext [idx t]
  show V m c main_v0 (((cfg0.win 0).blk t).view.emb (ix2 r k)) = _
  rw [V_main_v0, he]
  pointwise []
  rfl

theorem x1_at (t : Fin cfg0.N) (p : Fin 4) (r : Fin 1024) (k : Fin 384) :
    iblk m c 1 t (ix3 p r k) = right m c (ix3 ⟨4 * (t.val % 2) + p.val, by have := (idx t).2.2.2; omega⟩ ⟨r.val, by have := (idx t).2.2.2; omega⟩ k) := by
  have ht := (idx t).2.2.2
  blk_ext [iblk, V, idx t]

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  unfold out0_2
  frame_open
  frame_out
  idx_vars y
  have he : ((View.whole main_v1).slice (win0_2.rect t)).emb (ix2 y0 y1) = ix2 ⟨1024 * (t.val / 2) + y0.val, by omega⟩ ⟨1536 * (t.val % 2) + y1.val, by omega⟩ := by
    blk_ext [idx t]
  rw [he]
  have h0 := x0_at m c t
  have h1 := x1_at m c t
  generalize iblk m c 0 t = x0 at h0 ⊢
  generalize iblk m c 1 t = x1 at h1 ⊢
  pointwise [k0_pay1]
  rw [result, flat_mulNN]
  refine sum_mul_congr (fun k => h0 _ _) (fun k => ?_)
  split_ifs <;> exact (h1 _ _ _).trans (ofShards_at _ (by dsimp only <;> omega) (by dsimp only <;> omega))

theorem ref_eq (a : FVec Ideal S2x2048x1024 .bf16) (b : FVec Ideal S8x1024x384 .bf16) :
    shapeCast _ (Host.dotGeneral Cert.ScInRefIdeal.dot_S2x2048x1024_S1024x3072_S2x2048x3072_2_0_01_1_n_n none (extf .f32 a Cert.ScInRefIdeal.Facts₀.bitsLt_bf16_f32) (extf .f32 (shapeCast _ (transpose Cert.ScInRefIdeal.S1024x8x384 [1, 0, 2] b Cert.ScInRefIdeal.Facts₀.transposes_S8x1024x384_S1024x8x384_1_0_2) Cert.ScInRefIdeal.Facts₀.shapeCasts_S1024x8x384_S1024x3072) Cert.ScInRefIdeal.Facts₀.bitsLt_bf16_f32)) Cert.ScInRefIdeal.Facts₀.shapeCasts_S2x2048x3072_S4096x3072
      = result a b := by
  funext y
  idx_vars y
  pointwise []
  rfl

end Cert.ScInIdeal.Arrays

open Cert.ScInIdeal.Arrays in
/-- Both programs end with the same product. -/
theorem Cert.Proof.productScIn : Cert.algebraic_ScInIdeal_ScInRefIdeal
    (hScInIdeal := Cert.ScInIdeal.Gen.facts) (hScInRefIdeal := Cert.ScInRefIdeal.Gen.facts) := by
  intro m g m' g' _ hm
  refine ⟨fun c => result (left m c) (right m c), ?_, ?_⟩
  · exact (θ_run Cert.ScInIdeal.defs _ _).mono (fun r h c => ⟨(h c).1.trans (arr2 m c), (h c).2⟩) (Cert.ScInIdeal.Value.run_blocks m g)
  · exact (θ_run Cert.ScInRefIdeal.defs _ _).mono
      (fun r h c => ⟨(h c).1.trans ((ref_eq _ _).trans (congrArg₂ result (hm c).1 (hm c).2)), (h c).2⟩) (Cert.ScInRefIdeal.Value.run m' g')

open Cert.ScInRefIdeal in
/-- The reference keeps its arguments; it has no counters. -/
theorem Cert.Proof.keepsScIn : Cert.quiescent_ScInRefIdeal (hScInRefIdeal := Gen.facts) := fun m ρ _ =>
  (θ_run defs _ _).mono (fun r h => ⟨fun c => (h c).2, sem_eq_zero_of_no_sems (by decide) r.2⟩) (Value.run m ρ)

end
-- ==== Proof.ScInDxValue.lean ====
/-
  The gradient of the short convolution's input projection's input: the kernel's array and the derivative's are one product.
-/
module

public import proofs.«01_k».proof.Defs
public import proofs.«01_k».proof.Proof.Gen.ScInDxIdeal.Value
public import proofs.«01_k».proof.Proof.Gen.ScInDxRefIdeal.Run
public import proofs.«01_k».proof.Proof.Products
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.ScInDxIdeal.Arrays

open Cert.ScInDxIdeal Cert.ScInDxIdeal.Gen

variable (m : (ℓ : Loc nD τ sig) → Buf (Elt Ideal) ℓ) (c : Dev nD)

abbrev left : FVec Ideal S2x2048x3072 .bf16 := m ((c : Thread nD τ).loc main_arg0)
abbrev right : FVec Ideal S8x1024x384 .bf16 := m ((c : Thread nD τ).loc main_arg1)

/-- The result. -/
def result (a : FVec Ideal S2x2048x3072 .bf16) (b : FVec Ideal S8x1024x384 .bf16) : FVec Ideal S4096x1024 .bf16 := flat (mulNT (ofTokens a) (ofShards 384 rfl b))

theorem V_main_v0 : V m c main_v0 = shapeCast _ (left m c) shapeCasts_S2x2048x3072_S4096x3072 := by
  show StableHlo.after hostOps0 _ (Proc.devRef .tc main_v0) = _
  unfold hostOps0
  after_results <;> rfl

theorem idx : ∀ t : Fin cfg0.N, win0_0.index t = ![t.val, 0] ∧ win0_1.index t = ![0, 0, 0] ∧ win0_2.index t = ![t.val, 0] ∧ t.val < 4 :=
  (by decide +kernel : ∀ t : Fin grid0.N, _)

theorem x0_at (t : Fin cfg0.N) (r : Fin 1024) (k : Fin 3072) :
    iblk m c 0 t (ix2 r k) = ofTokens (left m c) ⟨1024 * t.val + r.val, by have := (idx t).2.2.2; omega⟩ ⟨k.val, by have := (idx t).2.2.2; omega⟩ := by
  have ht := (idx t).2.2.2
  have he : ((cfg0.win 0).blk t).view.emb (ix2 r k) = ix2 ⟨1024 * t.val + r.val, by omega⟩ ⟨k.val, by omega⟩ := by
    blk_ext [idx t]
  show V m c main_v0 (((cfg0.win 0).blk t).view.emb (ix2 r k)) = _
  rw [V_main_v0, he]
  pointwise []
  rfl

theorem x1_at (t : Fin cfg0.N) (p : Fin 8) (r : Fin 1024) (k : Fin 384) :
    iblk m c 1 t (ix3 p r k) = right m c (ix3 ⟨p.val, by have := (idx t).2.2.2; omega⟩ ⟨r.val, by have := (idx t).2.2.2; omega⟩ k) := by
  have ht := (idx t).2.2.2
  blk_ext [iblk, V, idx t]

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  unfold out0_2
  frame_open
  frame_out
  idx_vars y
  have he : ((View.whole main_v1).slice (win0_2.rect t)).emb (ix2 y0 y1) = ix2 ⟨1024 * t.val + y0.val, by omega⟩ ⟨y1.val, by omega⟩ := by
    blk_ext [idx t]
  rw [he]
  have h0 := x0_at m c t
  have h1 := x1_at m c t
  generalize iblk m c 0 t = x0 at h0 ⊢
  generalize iblk m c 1 t = x1 at h1 ⊢
  pointwise [k0_pay1]
  rw [result, flat_mulNT]
  refine sum_mul_congr (fun k => h0 _ _) (fun k => ?_)
  split_ifs <;> exact (h1 _ _ _).trans (ofShards_at _ (by dsimp only <;> omega) (by dsimp only <;> omega))

theorem ref_eq (a : FVec Ideal S2x2048x3072 .bf16) (b : FVec Ideal S8x1024x384 .bf16) :
    truncf .bf16 (shapeCast _ (Host.dotGeneral Cert.ScInDxRefIdeal.dot_S2x2048x3072_S1024x3072_S2x2048x1024_2_1_01_0_n_n none (extf .f32 a Cert.ScInDxRefIdeal.Facts₀.bitsLt_bf16_f32) (extf .f32 (shapeCast _ (transpose Cert.ScInDxRefIdeal.S1024x8x384 [1, 0, 2] b Cert.ScInDxRefIdeal.Facts₀.transposes_S8x1024x384_S1024x8x384_1_0_2) Cert.ScInDxRefIdeal.Facts₀.shapeCasts_S1024x8x384_S1024x3072) Cert.ScInDxRefIdeal.Facts₀.bitsLt_bf16_f32)) Cert.ScInDxRefIdeal.Facts₀.shapeCasts_S2x2048x1024_S4096x1024) Cert.ScInDxRefIdeal.Facts₀.bitsLt_bf16_f32
      = result a b := by
  funext y
  idx_vars y
  pointwise []
  rfl

end Cert.ScInDxIdeal.Arrays

open Cert.ScInDxIdeal.Arrays in
/-- Both programs end with the same product. -/
theorem Cert.Proof.productScInDx : Cert.algebraic_ScInDxIdeal_ScInDxRefIdeal
    (hScInDxIdeal := Cert.ScInDxIdeal.Gen.facts) (hScInDxRefIdeal := Cert.ScInDxRefIdeal.Gen.facts) := by
  intro m g m' g' _ hm
  refine ⟨fun c => result (left m c) (right m c), ?_, ?_⟩
  · exact (θ_run Cert.ScInDxIdeal.defs _ _).mono (fun r h c => ⟨(h c).1.trans (arr2 m c), (h c).2⟩) (Cert.ScInDxIdeal.Value.run_blocks m g)
  · exact (θ_run Cert.ScInDxRefIdeal.defs _ _).mono
      (fun r h c => ⟨(h c).1.trans ((ref_eq _ _).trans (congrArg₂ result (hm c).1 (hm c).2)), (h c).2⟩) (Cert.ScInDxRefIdeal.Value.run m' g')

open Cert.ScInDxRefIdeal in
/-- The reference keeps its arguments; it has no counters. -/
theorem Cert.Proof.keepsScInDx : Cert.quiescent_ScInDxRefIdeal (hScInDxRefIdeal := Gen.facts) := fun m ρ _ =>
  (θ_run defs _ _).mono (fun r h => ⟨fun c => (h c).2, sem_eq_zero_of_no_sems (by decide) r.2⟩) (Value.run m ρ)

end
-- ==== Proof.ScInDwValue.lean ====
/-
  The gradient of the short convolution's input projection: the kernel's array and the derivative's are one product.
-/
module

public import proofs.«01_k».proof.Defs
public import proofs.«01_k».proof.Proof.Gen.ScInDwIdeal.Value
public import proofs.«01_k».proof.Proof.Gen.ScInDwRefIdeal.Run
public import proofs.«01_k».proof.Proof.Products
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.ScInDwIdeal.Arrays

open Cert.ScInDwIdeal Cert.ScInDwIdeal.Gen

variable (m : (ℓ : Loc nD τ sig) → Buf (Elt Ideal) ℓ) (c : Dev nD)

abbrev left : FVec Ideal S2x2048x1024 .bf16 := m ((c : Thread nD τ).loc main_arg0)
abbrev right : FVec Ideal S2x2048x3072 .bf16 := m ((c : Thread nD τ).loc main_arg1)

/-- The result. -/
def result (a : FVec Ideal S2x2048x1024 .bf16) (b : FVec Ideal S2x2048x3072 .bf16) : FVec Ideal S8x1024x384 .bf16 := shards 384 rfl (mulTN (ofTokens a) (ofTokens b))

theorem V_main_v0 : V m c main_v0 = shapeCast _ (left m c) shapeCasts_S2x2048x1024_S4096x1024 := by
  show StableHlo.after hostOps0 _ (Proc.devRef .tc main_v0) = _
  unfold hostOps0
  after_results <;> rfl

theorem V_main_v1 : V m c main_v1 = shapeCast _ (right m c) shapeCasts_S2x2048x3072_S4096x3072 := by
  show StableHlo.after hostOps0 _ (Proc.devRef .tc main_v1) = _
  unfold hostOps0
  after_results <;> rfl

theorem idx : ∀ t : Fin cfg0.N, win0_0.index t = ![0, t.val / 4] ∧ win0_1.index t = ![0, t.val % 4] ∧ win0_2.index t = ![t.val % 4, t.val / 4, 0] ∧ t.val < 8 :=
  (by decide +kernel : ∀ t : Fin grid0.N, _)

theorem x0_at (t : Fin cfg0.N) (r : Fin 4096) (k : Fin 512) :
    iblk m c 0 t (ix2 r k) = ofTokens (left m c) ⟨r.val, by have := (idx t).2.2.2; omega⟩ ⟨512 * (t.val / 4) + k.val, by have := (idx t).2.2.2; omega⟩ := by
  have ht := (idx t).2.2.2
  have he : ((cfg0.win 0).blk t).view.emb (ix2 r k) = ix2 ⟨r.val, by omega⟩ ⟨512 * (t.val / 4) + k.val, by omega⟩ := by
    blk_ext [idx t]
  show V m c main_v0 (((cfg0.win 0).blk t).view.emb (ix2 r k)) = _
  rw [V_main_v0, he]
  pointwise []
  rfl

theorem x1_at (t : Fin cfg0.N) (r : Fin 4096) (k : Fin 768) :
    iblk m c 1 t (ix2 r k) = ofTokens (right m c) ⟨r.val, by have := (idx t).2.2.2; omega⟩ ⟨768 * (t.val % 4) + k.val, by have := (idx t).2.2.2; omega⟩ := by
  have ht := (idx t).2.2.2
  have he : ((cfg0.win 1).blk t).view.emb (ix2 r k) = ix2 ⟨r.val, by omega⟩ ⟨768 * (t.val % 4) + k.val, by omega⟩ := by
    blk_ext [idx t]
  show V m c main_v1 (((cfg0.win 1).blk t).view.emb (ix2 r k)) = _
  rw [V_main_v1, he]
  pointwise []
  rfl

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  unfold out0_2
  frame_open
  frame_out
  idx_vars y
  have he : ((View.whole main_v2).slice (win0_2.rect t)).emb (ix3 y0 y1 y2)
      = ix3 ⟨2 * (t.val % 4) + y0.val, by omega⟩ ⟨512 * (t.val / 4) + y1.val, by omega⟩ y2 := by
    blk_ext [idx t]
  rw [he]
  have h0 := x0_at m c t
  have h1 := x1_at m c t
  generalize iblk m c 0 t = x0 at h0 ⊢
  generalize iblk m c 1 t = x1 at h1 ⊢
  pointwise [k0_pay1]
  canon_tiles z q
  all_goals
    idx_vars z
    pointwise [k0_pay3, k0_pay2, k0_pay1]
    rw [result, shards_mulTN]
    refine sum_mul_congr (fun k => (h0 _ _).trans (congrArg (ofTokens (left m c) _) (Fin.ext ?_))) (fun k => (h1 _ _).trans (congrArg (ofTokens (right m c) _) (Fin.ext ?_)))
    · dsimp only
      omega
    · simp only [shardCol]
      omega

theorem ref_eq (a : FVec Ideal S2x2048x1024 .bf16) (b : FVec Ideal S2x2048x3072 .bf16) :
    truncf .bf16 (transpose Cert.ScInDwRefIdeal.S8x1024x384 [1, 0, 2] (shapeCast _ (transpose Cert.ScInDwRefIdeal.S1024x3072 [1, 0] (Host.dotGeneral Cert.ScInDwRefIdeal.dot_S2x2048x3072_S2x2048x1024_S3072x1024_01_01_2_2_n_n none (extf .f32 b Cert.ScInDwRefIdeal.Facts₀.bitsLt_bf16_f32) (extf .f32 a Cert.ScInDwRefIdeal.Facts₀.bitsLt_bf16_f32)) Cert.ScInDwRefIdeal.Facts₀.transposes_S3072x1024_S1024x3072_1_0) Cert.ScInDwRefIdeal.Facts₀.shapeCasts_S1024x3072_S1024x8x384) Cert.ScInDwRefIdeal.Facts₀.transposes_S1024x8x384_S8x1024x384_1_0_2) Cert.ScInDwRefIdeal.Facts₀.bitsLt_bf16_f32
      = result a b := by
  funext y
  idx_vars y
  pointwise []
  exact sum_tokens (fun e t => a (ix3 e t y1)) (fun e t => b (ix3 e t ⟨y0.val * 384 + y2.val, by omega⟩))

end Cert.ScInDwIdeal.Arrays

open Cert.ScInDwIdeal.Arrays in
/-- Both programs end with the same product. -/
theorem Cert.Proof.productScInDw : Cert.algebraic_ScInDwIdeal_ScInDwRefIdeal
    (hScInDwIdeal := Cert.ScInDwIdeal.Gen.facts) (hScInDwRefIdeal := Cert.ScInDwRefIdeal.Gen.facts) := by
  intro m g m' g' _ hm
  refine ⟨fun c => result (left m c) (right m c), ?_, ?_⟩
  · exact (θ_run Cert.ScInDwIdeal.defs _ _).mono (fun r h c => ⟨(h c).1.trans (arr2 m c), (h c).2⟩) (Cert.ScInDwIdeal.Value.run_blocks m g)
  · exact (θ_run Cert.ScInDwRefIdeal.defs _ _).mono
      (fun r h c => ⟨(h c).1.trans ((ref_eq _ _).trans (congrArg₂ result (hm c).1 (hm c).2)), (h c).2⟩) (Cert.ScInDwRefIdeal.Value.run m' g')

open Cert.ScInDwRefIdeal in
/-- The reference keeps its arguments; it has no counters. -/
theorem Cert.Proof.keepsScInDw : Cert.quiescent_ScInDwRefIdeal (hScInDwRefIdeal := Gen.facts) := fun m ρ _ =>
  (θ_run defs _ _).mono (fun r h => ⟨fun c => (h c).2, sem_eq_zero_of_no_sems (by decide) r.2⟩) (Value.run m ρ)

end
-- ==== Proof.ScOutDxValue.lean ====
/-
  The gradient of the short convolution's output projection's input: the kernel's array and the derivative's are one product.
-/
module

public import proofs.«01_k».proof.Defs
public import proofs.«01_k».proof.Proof.Gen.ScOutDxIdeal.Value
public import proofs.«01_k».proof.Proof.Gen.ScOutDxRefIdeal.Run
public import proofs.«01_k».proof.Proof.Products
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.ScOutDxIdeal.Arrays

open Cert.ScOutDxIdeal Cert.ScOutDxIdeal.Gen

variable (m : (ℓ : Loc nD τ sig) → Buf (Elt Ideal) ℓ) (c : Dev nD)

abbrev left : FVec Ideal S2x2048x1024 .bf16 := m ((c : Thread nD τ).loc main_arg0)
abbrev right : FVec Ideal S1024x1024 .bf16 := m ((c : Thread nD τ).loc main_arg1)

/-- The result. -/
def result (a : FVec Ideal S2x2048x1024 .bf16) (b : FVec Ideal S1024x1024 .bf16) : FVec Ideal S4096x1024 .bf16 := flat (mulNT (ofTokens a) (ofFlat b))

theorem V_main_v0 : V m c main_v0 = shapeCast _ (left m c) shapeCasts_S2x2048x1024_S4096x1024 := by
  show StableHlo.after hostOps0 _ (Proc.devRef .tc main_v0) = _
  unfold hostOps0
  after_results <;> rfl

theorem idx : ∀ t : Fin cfg0.N, win0_0.index t = ![t.val, 0] ∧ win0_1.index t = ![0, 0] ∧ win0_2.index t = ![t.val, 0] ∧ t.val < 4 :=
  (by decide +kernel : ∀ t : Fin grid0.N, _)

theorem x0_at (t : Fin cfg0.N) (r : Fin 1024) (k : Fin 1024) :
    iblk m c 0 t (ix2 r k) = ofTokens (left m c) ⟨1024 * t.val + r.val, by have := (idx t).2.2.2; omega⟩ ⟨k.val, by have := (idx t).2.2.2; omega⟩ := by
  have ht := (idx t).2.2.2
  have he : ((cfg0.win 0).blk t).view.emb (ix2 r k) = ix2 ⟨1024 * t.val + r.val, by omega⟩ ⟨k.val, by omega⟩ := by
    blk_ext [idx t]
  show V m c main_v0 (((cfg0.win 0).blk t).view.emb (ix2 r k)) = _
  rw [V_main_v0, he]
  pointwise []
  rfl

theorem x1_at (t : Fin cfg0.N) (r : Fin 1024) (k : Fin 1024) :
    iblk m c 1 t (ix2 r k) = ofFlat (right m c) ⟨r.val, by have := (idx t).2.2.2; omega⟩ ⟨k.val, by have := (idx t).2.2.2; omega⟩ := by
  have ht := (idx t).2.2.2
  show _ = right m c (ix2 _ _)
  blk_ext [iblk, V, idx t]

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  unfold out0_2
  frame_open
  frame_out
  idx_vars y
  have he : ((View.whole main_v1).slice (win0_2.rect t)).emb (ix2 y0 y1) = ix2 ⟨1024 * t.val + y0.val, by omega⟩ ⟨y1.val, by omega⟩ := by
    blk_ext [idx t]
  rw [he]
  have h0 := x0_at m c t
  have h1 := x1_at m c t
  generalize iblk m c 0 t = x0 at h0 ⊢
  generalize iblk m c 1 t = x1 at h1 ⊢
  pointwise [k0_pay1]
  exact sum_mul_congr (fun k => (h0 _ _)) (fun k => (h1 _ _))

theorem ref_eq (a : FVec Ideal S2x2048x1024 .bf16) (b : FVec Ideal S1024x1024 .bf16) :
    truncf .bf16 (shapeCast _ (Host.dotGeneral Cert.ScOutDxRefIdeal.dot_S2x2048x1024_S1024x1024_S2x2048x1024_2_1_01_0_n_n none (extf .f32 a Cert.ScOutDxRefIdeal.Facts₀.bitsLt_bf16_f32) (extf .f32 b Cert.ScOutDxRefIdeal.Facts₀.bitsLt_bf16_f32)) Cert.ScOutDxRefIdeal.Facts₀.shapeCasts_S2x2048x1024_S4096x1024) Cert.ScOutDxRefIdeal.Facts₀.bitsLt_bf16_f32
      = result a b := by
  funext y
  idx_vars y
  pointwise []
  rfl

end Cert.ScOutDxIdeal.Arrays

open Cert.ScOutDxIdeal.Arrays in
/-- Both programs end with the same product. -/
theorem Cert.Proof.productScOutDx : Cert.algebraic_ScOutDxIdeal_ScOutDxRefIdeal
    (hScOutDxIdeal := Cert.ScOutDxIdeal.Gen.facts) (hScOutDxRefIdeal := Cert.ScOutDxRefIdeal.Gen.facts) := by
  intro m g m' g' _ hm
  refine ⟨fun c => result (left m c) (right m c), ?_, ?_⟩
  · exact (θ_run Cert.ScOutDxIdeal.defs _ _).mono (fun r h c => ⟨(h c).1.trans (arr2 m c), (h c).2⟩) (Cert.ScOutDxIdeal.Value.run_blocks m g)
  · exact (θ_run Cert.ScOutDxRefIdeal.defs _ _).mono
      (fun r h c => ⟨(h c).1.trans ((ref_eq _ _).trans (congrArg₂ result (hm c).1 (hm c).2)), (h c).2⟩) (Cert.ScOutDxRefIdeal.Value.run m' g')

open Cert.ScOutDxRefIdeal in
/-- The reference keeps its arguments; it has no counters. -/
theorem Cert.Proof.keepsScOutDx : Cert.quiescent_ScOutDxRefIdeal (hScOutDxRefIdeal := Gen.facts) := fun m ρ _ =>
  (θ_run defs _ _).mono (fun r h => ⟨fun c => (h c).2, sem_eq_zero_of_no_sems (by decide) r.2⟩) (Value.run m ρ)

end
-- ==== Proof.ScOutDwValue.lean ====
/-
  The gradient of the short convolution's output projection: the kernel's array and the derivative's are one product.
-/
module

public import proofs.«01_k».proof.Defs
public import proofs.«01_k».proof.Proof.Gen.ScOutDwIdeal.Value
public import proofs.«01_k».proof.Proof.Gen.ScOutDwRefIdeal.Run
public import proofs.«01_k».proof.Proof.Products
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.ScOutDwIdeal.Arrays

open Cert.ScOutDwIdeal Cert.ScOutDwIdeal.Gen

variable (m : (ℓ : Loc nD τ sig) → Buf (Elt Ideal) ℓ) (c : Dev nD)

abbrev left : FVec Ideal S2x2048x1024 .bf16 := m ((c : Thread nD τ).loc main_arg0)
abbrev right : FVec Ideal S2x2048x1024 .bf16 := m ((c : Thread nD τ).loc main_arg1)

/-- The result. -/
def result (a : FVec Ideal S2x2048x1024 .bf16) (b : FVec Ideal S2x2048x1024 .bf16) : FVec Ideal S1024x1024 .bf16 := flat (mulTN (ofTokens a) (ofTokens b))

theorem V_main_v0 : V m c main_v0 = shapeCast _ (left m c) shapeCasts_S2x2048x1024_S4096x1024 := by
  show StableHlo.after hostOps0 _ (Proc.devRef .tc main_v0) = _
  unfold hostOps0
  after_results <;> rfl

theorem V_main_v1 : V m c main_v1 = shapeCast _ (right m c) shapeCasts_S2x2048x1024_S4096x1024 := by
  show StableHlo.after hostOps0 _ (Proc.devRef .tc main_v1) = _
  unfold hostOps0
  after_results <;> rfl

theorem idx : ∀ t : Fin cfg0.N, win0_0.index t = ![0, 0] ∧ win0_1.index t = ![0, t.val] ∧ win0_2.index t = ![0, t.val] ∧ t.val < 4 :=
  (by decide +kernel : ∀ t : Fin grid0.N, _)

theorem x0_at (t : Fin cfg0.N) (r : Fin 4096) (k : Fin 1024) :
    iblk m c 0 t (ix2 r k) = ofTokens (left m c) ⟨r.val, by have := (idx t).2.2.2; omega⟩ ⟨k.val, by have := (idx t).2.2.2; omega⟩ := by
  have ht := (idx t).2.2.2
  have he : ((cfg0.win 0).blk t).view.emb (ix2 r k) = ix2 ⟨r.val, by omega⟩ ⟨k.val, by omega⟩ := by
    blk_ext [idx t]
  show V m c main_v0 (((cfg0.win 0).blk t).view.emb (ix2 r k)) = _
  rw [V_main_v0, he]
  pointwise []
  rfl

theorem x1_at (t : Fin cfg0.N) (r : Fin 4096) (k : Fin 256) :
    iblk m c 1 t (ix2 r k) = ofTokens (right m c) ⟨r.val, by have := (idx t).2.2.2; omega⟩ ⟨256 * t.val + k.val, by have := (idx t).2.2.2; omega⟩ := by
  have ht := (idx t).2.2.2
  have he : ((cfg0.win 1).blk t).view.emb (ix2 r k) = ix2 ⟨r.val, by omega⟩ ⟨256 * t.val + k.val, by omega⟩ := by
    blk_ext [idx t]
  show V m c main_v1 (((cfg0.win 1).blk t).view.emb (ix2 r k)) = _
  rw [V_main_v1, he]
  pointwise []
  rfl

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  unfold out0_2
  frame_open
  frame_out
  idx_vars y
  have he : ((View.whole main_v2).slice (win0_2.rect t)).emb (ix2 y0 y1) = ix2 ⟨y0.val, by omega⟩ ⟨256 * t.val + y1.val, by omega⟩ := by
    blk_ext [idx t]
  rw [he]
  have h0 := x0_at m c t
  have h1 := x1_at m c t
  generalize iblk m c 0 t = x0 at h0 ⊢
  generalize iblk m c 1 t = x1 at h1 ⊢
  pointwise [k0_pay1]
  exact sum_mul_congr (fun k => (h0 _ _)) (fun k => (h1 _ _))

theorem ref_eq (a : FVec Ideal S2x2048x1024 .bf16) (b : FVec Ideal S2x2048x1024 .bf16) :
    truncf .bf16 (transpose S1024x1024 [1, 0] (Host.dotGeneral Cert.ScOutDwRefIdeal.dot_S2x2048x1024_S2x2048x1024_S1024x1024_01_01_2_2_n_n none (extf .f32 b Cert.ScOutDwRefIdeal.Facts₀.bitsLt_bf16_f32) (extf .f32 a Cert.ScOutDwRefIdeal.Facts₀.bitsLt_bf16_f32)) Cert.ScOutDwRefIdeal.Facts₀.transposes_S1024x1024_S1024x1024_1_0) Cert.ScOutDwRefIdeal.Facts₀.bitsLt_bf16_f32
      = result a b := by
  funext y
  idx_vars y
  pointwise []
  exact sum_tokens (fun e t => a (ix3 e t y0)) (fun e t => b (ix3 e t y1))

end Cert.ScOutDwIdeal.Arrays

open Cert.ScOutDwIdeal.Arrays in
/-- Both programs end with the same product. -/
theorem Cert.Proof.productScOutDw : Cert.algebraic_ScOutDwIdeal_ScOutDwRefIdeal
    (hScOutDwIdeal := Cert.ScOutDwIdeal.Gen.facts) (hScOutDwRefIdeal := Cert.ScOutDwRefIdeal.Gen.facts) := by
  intro m g m' g' _ hm
  refine ⟨fun c => result (left m c) (right m c), ?_, ?_⟩
  · exact (θ_run Cert.ScOutDwIdeal.defs _ _).mono (fun r h c => ⟨(h c).1.trans (arr2 m c), (h c).2⟩) (Cert.ScOutDwIdeal.Value.run_blocks m g)
  · exact (θ_run Cert.ScOutDwRefIdeal.defs _ _).mono
      (fun r h c => ⟨(h c).1.trans ((ref_eq _ _).trans (congrArg₂ result (hm c).1 (hm c).2)), (h c).2⟩) (Cert.ScOutDwRefIdeal.Value.run m' g')

open Cert.ScOutDwRefIdeal in
/-- The reference keeps its arguments; it has no counters. -/
theorem Cert.Proof.keepsScOutDw : Cert.quiescent_ScOutDwRefIdeal (hScOutDwRefIdeal := Gen.facts) := fun m ρ _ =>
  (θ_run defs _ _).mono (fun r h => ⟨fun c => (h c).2, sem_eq_zero_of_no_sems (by decide) r.2⟩) (Value.run m ρ)

end
-- ==== Proof.Sequences.lean ====
/-
  Whole sequences of the gated linear attention: 256 rows of context and 2048 tokens for each of the two examples, as rows of matrices over the
  extended reals.
-/
module

public import proofs.«01_k».proof.Proof.Products

@[expose] public section

noncomputable section

open Idealize.ShloMosaic Idealize.ShloMosaic.TcCoe

namespace Cert.Products

variable {c : ℕ}

/-- An array of both examples' sequences as a matrix. -/
def ofSeqs {φ : FTy} (a : FVec Ideal ⟨3, ![2, 2304, c]⟩ φ) : Mat 4608 c := fun i j => a (ix3 ⟨i.val / 2304, by omega⟩ ⟨i.val % 2304, by omega⟩ j)

/-- The row of an example's position. -/
def seqRow (e : Fin 2) (t : Fin 2304) : Fin 4608 := ⟨2304 * e.val + t.val, by omega⟩

/-- The 3104 lanes of the input projection, out of the 3200 that are stored. -/
def lanes {r : ℕ} (a : Mat r 3200) : Mat r 3104 := fun i j => a i ⟨j.val, by omega⟩

/-- The stored lanes, the last 96 zero. -/
def filled {r : ℕ} (a : Mat r 3104) : Mat r 3200 := fun i j => if h : j.val < 3104 then a i ⟨j.val, h⟩ else 0

theorem filled_lt {r : ℕ} (a : Mat r 3104) (i : Fin r) {j : Fin 3200} (h : j.val < 3104) : filled a i j = a i ⟨j.val, h⟩ := dif_pos h
theorem filled_ge {r : ℕ} (a : Mat r 3104) (i : Fin r) {j : Fin 3200} (h : ¬j.val < 3104) : filled a i j = 0 := dif_neg h

theorem sum_lanes (f : Fin 3200 → EReal) (g : Fin 3104 → EReal) (h : ∀ j : Fin 3104, f ⟨j.val, by omega⟩ = g j)
    (h0 : ∀ j : Fin 3200, 3104 ≤ j.val → f j = 0) : ∑ j, f j = ∑ j, g j := by
  have e := Fin.sum_univ_add (a := 3104) (b := 96) f
  rw [Finset.sum_eq_zero (s := Finset.univ) (f := fun i : Fin 96 => f (Fin.natAdd 3104 i)) fun i _ => h0 _ (Nat.le_add_right _ _), add_zero] at e
  exact e.trans (Finset.sum_congr rfl fun j _ => h j)

theorem sum_mul_zero {k : ℕ} {f g : Fin k → EReal} (h : ∀ x, g x = 0) : ∑ x, f x * g x = 0 :=
  Finset.sum_eq_zero fun x _ => by rw [h x, mul_zero]

/-- The positions of both examples, one after the other. -/
def seqEquiv : Fin 2 × Fin 2304 ≃ Fin 4608 where
  toFun x := seqRow x.1 x.2
  invFun i := (⟨i.val / 2304, by omega⟩, ⟨i.val % 2304, by omega⟩)
  left_inv x := Prod.ext (Fin.ext (by simp only [seqRow]; omega)) (Fin.ext (by simp only [seqRow]; omega))
  right_inv i := Fin.ext (by simp only [seqRow]; omega)

/-- A sum over examples and over positions is one over rows. -/
theorem sum_seqs {p q : ℕ} {φ ψ : FTy} (a : FVec Ideal ⟨3, ![2, 2304, p]⟩ φ) (b : FVec Ideal ⟨3, ![2, 2304, q]⟩ ψ) (i : Fin p) (j : Fin q) :
    ∑ e : Fin 2, ∑ t : Fin 2304, (b (ix3 e t j) : EReal) * a (ix3 e t i) = ∑ x : Fin 4608, ofSeqs a x i * ofSeqs b x j := by
  rw [← Fintype.sum_prod_type' (f := fun (e : Fin 2) (t : Fin 2304) => (b (ix3 e t j) : EReal) * a (ix3 e t i))]
  refine Fintype.sum_equiv seqEquiv _ _ fun x => ?_
  obtain ⟨e, t⟩ := x
  have he : (⟨(seqEquiv (e, t)).val / 2304, by omega⟩ : Fin 2) = e := congrArg Prod.fst (seqEquiv.left_inv (e, t))
  have ht : (⟨(seqEquiv (e, t)).val % 2304, by omega⟩ : Fin 2304) = t := congrArg Prod.snd (seqEquiv.left_inv (e, t))
  rw [ofSeqs, ofSeqs, he, ht]
  exact mul_comm (_ : EReal) _

end Cert.Products

end
-- ==== Proof.GlaInValue.lean ====
/-
  The gated linear attention's input projection: the kernel's array and the reference's are one product.
-/
module

public import proofs.«01_k».proof.Defs
public import proofs.«01_k».proof.Proof.Gen.GlaInIdeal.Value
public import proofs.«01_k».proof.Proof.Gen.GlaInRefIdeal.Run
public import proofs.«01_k».proof.Proof.Sequences
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.GlaInIdeal.Arrays

open Cert.GlaInIdeal Cert.GlaInIdeal.Gen

variable (m : (ℓ : Loc nD τ sig) → Buf (Elt Ideal) ℓ) (c : Dev nD)

abbrev left : FVec Ideal S2x2304x1024 .bf16 := m ((c : Thread nD τ).loc main_arg0)
abbrev right : FVec Ideal S8x1024x388 .bf16 := m ((c : Thread nD τ).loc main_arg1)

/-- The result. -/
def result (a : FVec Ideal S2x2304x1024 .bf16) (b : FVec Ideal S8x1024x388 .bf16) : FVec Ideal S4608x3200 .bf16 := flat (filled (mulNN (ofSeqs a) (ofShards 388 rfl b)))

theorem V_main_v0 : V m c main_v0 = shapeCast _ (left m c) shapeCasts_S2x2304x1024_S4608x1024 := by
  show StableHlo.after hostOps0 _ (Proc.devRef .tc main_v0) = _
  unfold hostOps0
  after_results <;> rfl

theorem idx : ∀ t : Fin cfg0.N, win0_0.index t = ![t.val, 0] ∧ win0_1.index t = ![0, 0, 0] ∧ win0_2.index t = ![t.val, 0] ∧ t.val < 3 :=
  (by decide +kernel : ∀ t : Fin grid0.N, _)

theorem x0_at (t : Fin cfg0.N) (r : Fin 1536) (k : Fin 1024) :
    iblk m c 0 t (ix2 r k) = ofSeqs (left m c) ⟨1536 * t.val + r.val, by have := (idx t).2.2.2; omega⟩ ⟨k.val, by have := (idx t).2.2.2; omega⟩ := by
  have ht := (idx t).2.2.2
  have he : ((cfg0.win 0).blk t).view.emb (ix2 r k) = ix2 ⟨1536 * t.val + r.val, by omega⟩ ⟨k.val, by omega⟩ := by
    blk_ext [idx t]
  show V m c main_v0 (((cfg0.win 0).blk t).view.emb (ix2 r k)) = _
  rw [V_main_v0, he]
  pointwise []
  rfl

theorem x1_at (t : Fin cfg0.N) (p : Fin 8) (r : Fin 1024) (k : Fin 388) :
    iblk m c 1 t (ix3 p r k) = right m c (ix3 ⟨p.val, by have := (idx t).2.2.2; omega⟩ ⟨r.val, by have := (idx t).2.2.2; omega⟩ k) := by
  have ht := (idx t).2.2.2
  blk_ext [iblk, V, idx t]

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  unfold out0_2
  frame_open
  frame_out
  idx_vars y
  have he : ((View.whole main_v1).slice (win0_2.rect t)).emb (ix2 y0 y1) = ix2 ⟨1536 * t.val + y0.val, by omega⟩ ⟨y1.val, by omega⟩ := by
    blk_ext [idx t]
  rw [he]
  have h0 := x0_at m c t
  have h1 := x1_at m c t
  generalize iblk m c 0 t = x0 at h0 ⊢
  generalize iblk m c 1 t = x1 at h1 ⊢
  pointwise [k0_pay1]
  by_cases hy : y1.val < 3104
  · refine Eq.trans ?_ (filled_lt _ _ hy).symm
    refine sum_mul_congr (fun k => h0 _ _) (fun k => ?_)
    repeat
      split
      · exact (h1 _ _ _).trans (ofShards_at _ (by dsimp only <;> omega) (by dsimp only <;> omega))
    exfalso
    omega
  · refine Eq.trans ?_ (filled_ge _ _ hy).symm
    refine sum_mul_zero fun k => ?_
    iterate 8 refine (dif_neg (by omega)).trans ?_
    rfl

theorem ref_eq (a : FVec Ideal S2x2304x1024 .bf16) (b : FVec Ideal S8x1024x388 .bf16) :
    truncf .bf16 (shapeCast _ (pad Cert.GlaInRefIdeal.S2x2304x3200 ![0, 0, 0] ![0, 0, 96] ![0, 0, 0] (Host.dotGeneral Cert.GlaInRefIdeal.dot_S2x2304x1024_S1024x3104_S2x2304x3104_2_0_01_1_n_n none (extf .f32 a Cert.GlaInRefIdeal.Facts₀.bitsLt_bf16_f32) (extf .f32 (shapeCast _ (transpose Cert.GlaInRefIdeal.S1024x8x388 [1, 0, 2] b Cert.GlaInRefIdeal.Facts₀.transposes_S8x1024x388_S1024x8x388_1_0_2) Cert.GlaInRefIdeal.Facts₀.shapeCasts_S1024x8x388_S1024x3104) Cert.GlaInRefIdeal.Facts₀.bitsLt_bf16_f32)) (sitofp .f32 (constantI Cert.GlaInRefIdeal.S_ 32 0#32)) Cert.GlaInRefIdeal.Facts₀.pads_S2x2304x3104_S2x2304x3200_000_000_0960 Cert.GlaInRefIdeal.Facts₀.h_S_) Cert.GlaInRefIdeal.Facts₀.shapeCasts_S2x2304x3200_S4608x3200) Cert.GlaInRefIdeal.Facts₀.bitsLt_bf16_f32
      = result a b := by
  funext y
  idx_vars y
  pointwise []
  show _ = filled (mulNN (ofSeqs a) (ofShards 388 rfl b)) y0 y1
  by_cases hy : y1.val < 3104
  · rw [dif_pos ⟨by omega, by omega, hy⟩]
    exact (filled_lt (mulNN (ofSeqs a) (ofShards 388 rfl b)) y0 hy).symm
  · rw [dif_neg fun h => hy h.2.2]
    exact (show FloatOps.sitofp (F := Ideal) .f32 0#32 = (0 : EReal) by simp [FloatOps.sitofp]).trans (filled_ge _ _ hy).symm

end Cert.GlaInIdeal.Arrays

open Cert.GlaInIdeal.Arrays in
/-- Both programs end with the same product. -/
theorem Cert.Proof.productGlaIn : Cert.algebraic_GlaInIdeal_GlaInRefIdeal
    (hGlaInIdeal := Cert.GlaInIdeal.Gen.facts) (hGlaInRefIdeal := Cert.GlaInRefIdeal.Gen.facts) := by
  intro m g m' g' _ hm
  refine ⟨fun c => result (left m c) (right m c), ?_, ?_⟩
  · exact (θ_run Cert.GlaInIdeal.defs _ _).mono (fun r h c => ⟨(h c).1.trans (arr2 m c), (h c).2⟩) (Cert.GlaInIdeal.Value.run_blocks m g)
  · exact (θ_run Cert.GlaInRefIdeal.defs _ _).mono
      (fun r h c => ⟨(h c).1.trans ((ref_eq _ _).trans (congrArg₂ result (hm c).1 (hm c).2)), (h c).2⟩) (Cert.GlaInRefIdeal.Value.run m' g')

open Cert.GlaInRefIdeal in
/-- The reference keeps its arguments; it has no counters. -/
theorem Cert.Proof.keepsGlaIn : Cert.quiescent_GlaInRefIdeal (hGlaInRefIdeal := Gen.facts) := fun m ρ _ =>
  (θ_run defs _ _).mono (fun r h => ⟨fun c => (h c).2, sem_eq_zero_of_no_sems (by decide) r.2⟩) (Value.run m ρ)

end
-- ==== Proof.GlaInDxValue.lean ====
/-
  The gradient of the gated linear attention's input projection's input: the kernel's array and the derivative's are one product.
-/
module

public import proofs.«01_k».proof.Defs
public import proofs.«01_k».proof.Proof.Gen.GlaInDxIdeal.Value
public import proofs.«01_k».proof.Proof.Gen.GlaInDxRefIdeal.Run
public import proofs.«01_k».proof.Proof.Sequences
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.GlaInDxIdeal.Arrays

open Cert.GlaInDxIdeal Cert.GlaInDxIdeal.Gen

variable (m : (ℓ : Loc nD τ sig) → Buf (Elt Ideal) ℓ) (c : Dev nD)

abbrev left : FVec Ideal S2x2304x3200 .bf16 := m ((c : Thread nD τ).loc main_arg0)
abbrev right : FVec Ideal S8x1024x388 .bf16 := m ((c : Thread nD τ).loc main_arg1)

/-- The result. -/
def result (a : FVec Ideal S2x2304x3200 .bf16) (b : FVec Ideal S8x1024x388 .bf16) : FVec Ideal S4608x1024 .bf16 := flat (mulNT (lanes (ofSeqs a)) (ofShards 388 rfl b))

theorem V_main_v0 : V m c main_v0 = shapeCast _ (left m c) shapeCasts_S2x2304x3200_S4608x3200 := by
  show StableHlo.after hostOps0 _ (Proc.devRef .tc main_v0) = _
  unfold hostOps0
  after_results <;> rfl

theorem idx : ∀ t : Fin cfg0.N, win0_0.index t = ![t.val, 0] ∧ win0_1.index t = ![0, 0, 0] ∧ win0_2.index t = ![t.val, 0] ∧ t.val < 6 :=
  (by decide +kernel : ∀ t : Fin grid0.N, _)

theorem x0_at (t : Fin cfg0.N) (r : Fin 768) (k : Fin 3200) :
    iblk m c 0 t (ix2 r k) = ofSeqs (left m c) ⟨768 * t.val + r.val, by have := (idx t).2.2.2; omega⟩ ⟨k.val, by have := (idx t).2.2.2; omega⟩ := by
  have ht := (idx t).2.2.2
  have he : ((cfg0.win 0).blk t).view.emb (ix2 r k) = ix2 ⟨768 * t.val + r.val, by omega⟩ ⟨k.val, by omega⟩ := by
    blk_ext [idx t]
  show V m c main_v0 (((cfg0.win 0).blk t).view.emb (ix2 r k)) = _
  rw [V_main_v0, he]
  pointwise []
  rfl

theorem x1_at (t : Fin cfg0.N) (p : Fin 8) (r : Fin 1024) (k : Fin 388) :
    iblk m c 1 t (ix3 p r k) = right m c (ix3 ⟨p.val, by have := (idx t).2.2.2; omega⟩ ⟨r.val, by have := (idx t).2.2.2; omega⟩ k) := by
  have ht := (idx t).2.2.2
  blk_ext [iblk, V, idx t]

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  unfold out0_2
  frame_open
  frame_out
  idx_vars y
  have he : ((View.whole main_v1).slice (win0_2.rect t)).emb (ix2 y0 y1) = ix2 ⟨768 * t.val + y0.val, by omega⟩ ⟨y1.val, by omega⟩ := by
    blk_ext [idx t]
  rw [he]
  have h0 := x0_at m c t
  have h1 := x1_at m c t
  generalize iblk m c 0 t = x0 at h0 ⊢
  generalize iblk m c 1 t = x1 at h1 ⊢
  pointwise [k0_pay1]
  rw [result, flat_mulNT]
  refine sum_lanes _ _ (fun k => ?_) (fun k hk => ?_)
  · refine congrArg₂ (fun u v : EReal => u * v) (h0 _ _) ?_
    dsimp only
    repeat
      split
      · exact (h1 _ _ _).trans (ofShards_at _ (by dsimp only <;> omega) (by dsimp only <;> omega))
    exfalso
    omega
  · refine (congrArg (fun u : EReal => _ * u) ?_).trans (mul_zero (_ : EReal))
    iterate 8 refine (dif_neg (by omega)).trans ?_
    rfl

theorem ref_eq (a : FVec Ideal S2x2304x3200 .bf16) (b : FVec Ideal S8x1024x388 .bf16) :
    truncf .bf16 (shapeCast _ (Host.dotGeneral Cert.GlaInDxRefIdeal.dot_S2x2304x3104_S1024x3104_S2x2304x1024_2_1_01_0_n_n none (extf .f32 (extractStridedSlice Cert.GlaInDxRefIdeal.S2x2304x3104 ![0, 0, 0] a Cert.GlaInDxRefIdeal.Facts₀.slices_S2x2304x3200_S2x2304x3104_0_0_0) Cert.GlaInDxRefIdeal.Facts₀.bitsLt_bf16_f32) (extf .f32 (shapeCast _ (transpose Cert.GlaInDxRefIdeal.S1024x8x388 [1, 0, 2] b Cert.GlaInDxRefIdeal.Facts₀.transposes_S8x1024x388_S1024x8x388_1_0_2) Cert.GlaInDxRefIdeal.Facts₀.shapeCasts_S1024x8x388_S1024x3104) Cert.GlaInDxRefIdeal.Facts₀.bitsLt_bf16_f32)) Cert.GlaInDxRefIdeal.Facts₀.shapeCasts_S2x2304x1024_S4608x1024) Cert.GlaInDxRefIdeal.Facts₀.bitsLt_bf16_f32
      = result a b := by
  funext y
  idx_vars y
  pointwise []
  rfl

end Cert.GlaInDxIdeal.Arrays

open Cert.GlaInDxIdeal.Arrays in
/-- Both programs end with the same product. -/
theorem Cert.Proof.productGlaInDx : Cert.algebraic_GlaInDxIdeal_GlaInDxRefIdeal
    (hGlaInDxIdeal := Cert.GlaInDxIdeal.Gen.facts) (hGlaInDxRefIdeal := Cert.GlaInDxRefIdeal.Gen.facts) := by
  intro m g m' g' _ hm
  refine ⟨fun c => result (left m c) (right m c), ?_, ?_⟩
  · exact (θ_run Cert.GlaInDxIdeal.defs _ _).mono (fun r h c => ⟨(h c).1.trans (arr2 m c), (h c).2⟩) (Cert.GlaInDxIdeal.Value.run_blocks m g)
  · exact (θ_run Cert.GlaInDxRefIdeal.defs _ _).mono
      (fun r h c => ⟨(h c).1.trans ((ref_eq _ _).trans (congrArg₂ result (hm c).1 (hm c).2)), (h c).2⟩) (Cert.GlaInDxRefIdeal.Value.run m' g')

open Cert.GlaInDxRefIdeal in
/-- The reference keeps its arguments; it has no counters. -/
theorem Cert.Proof.keepsGlaInDx : Cert.quiescent_GlaInDxRefIdeal (hGlaInDxRefIdeal := Gen.facts) := fun m ρ _ =>
  (θ_run defs _ _).mono (fun r h => ⟨fun c => (h c).2, sem_eq_zero_of_no_sems (by decide) r.2⟩) (Value.run m ρ)

end
-- ==== Proof.GlaInDwValue.lean ====
/-
  The gradient of the gated linear attention's input projection: the kernel's array and the derivative's are one product.
-/
module

public import proofs.«01_k».proof.Defs
public import proofs.«01_k».proof.Proof.Gen.GlaInDwIdeal.Value
public import proofs.«01_k».proof.Proof.Gen.GlaInDwRefIdeal.Run
public import proofs.«01_k».proof.Proof.Sequences
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.GlaInDwIdeal.Arrays

open Cert.GlaInDwIdeal Cert.GlaInDwIdeal.Gen

variable (m : (ℓ : Loc nD τ sig) → Buf (Elt Ideal) ℓ) (c : Dev nD)

abbrev left : FVec Ideal S2x2304x1024 .bf16 := m ((c : Thread nD τ).loc main_arg0)
abbrev right : FVec Ideal S2x2304x3200 .bf16 := m ((c : Thread nD τ).loc main_arg1)

/-- The result. -/
def result (a : FVec Ideal S2x2304x1024 .bf16) (b : FVec Ideal S2x2304x3200 .bf16) : FVec Ideal S8x1024x388 .bf16 := shards 388 rfl (mulTN (ofSeqs a) (lanes (ofSeqs b)))

theorem V_main_v0 : V m c main_v0 = shapeCast _ (left m c) shapeCasts_S2x2304x1024_S4608x1024 := by
  show StableHlo.after hostOps0 _ (Proc.devRef .tc main_v0) = _
  unfold hostOps0
  after_results <;> rfl

theorem V_main_v1 : V m c main_v1 = shapeCast _ (right m c) shapeCasts_S2x2304x3200_S4608x3200 := by
  show StableHlo.after hostOps0 _ (Proc.devRef .tc main_v1) = _
  unfold hostOps0
  after_results <;> rfl

theorem idx : ∀ t : Fin cfg0.N, win0_0.index t = ![t.val, 0] ∧ win0_1.index t = ![t.val, 0] ∧ win0_2.index t = ![0, 0, 0] ∧ t.val < 6 :=
  (by decide +kernel : ∀ t : Fin grid0.N, _)

theorem x0_at (t : Fin cfg0.N) (r : Fin 768) (k : Fin 1024) :
    iblk m c 0 t (ix2 r k) = ofSeqs (left m c) ⟨768 * t.val + r.val, by have := (idx t).2.2.2; omega⟩ ⟨k.val, by have := (idx t).2.2.2; omega⟩ := by
  have ht := (idx t).2.2.2
  have he : ((cfg0.win 0).blk t).view.emb (ix2 r k) = ix2 ⟨768 * t.val + r.val, by omega⟩ ⟨k.val, by omega⟩ := by
    blk_ext [idx t]
  show V m c main_v0 (((cfg0.win 0).blk t).view.emb (ix2 r k)) = _
  rw [V_main_v0, he]
  pointwise []
  rfl

theorem x1_at (t : Fin cfg0.N) (r : Fin 768) (k : Fin 3200) :
    iblk m c 1 t (ix2 r k) = ofSeqs (right m c) ⟨768 * t.val + r.val, by have := (idx t).2.2.2; omega⟩ ⟨k.val, by have := (idx t).2.2.2; omega⟩ := by
  have ht := (idx t).2.2.2
  have he : ((cfg0.win 1).blk t).view.emb (ix2 r k) = ix2 ⟨768 * t.val + r.val, by omega⟩ ⟨k.val, by omega⟩ := by
    blk_ext [idx t]
  show V m c main_v1 (((cfg0.win 1).blk t).view.emb (ix2 r k)) = _
  rw [V_main_v1, he]
  pointwise []
  rfl

variable (i : grid0.Coords) (arg3 : Memref sig .tc .vmem S768x1024 .bf16) (harg3 : arg3.IsWhole) (arg4 : Memref sig .tc .vmem S768x3200 .bf16) (harg4 : arg4.IsWhole)
variable (arg6 : Memref sig .tc .vmem S8x1024x388 .bf16) (harg6 : arg6.IsWhole) (arg7 : Memref sig .tc .vmem S1024x3200 .f32) (harg7 : arg7.IsWhole)
variable (x0 : Vec Ideal S768x1024 .bf16) (x1 : Vec Ideal S768x3200 .bf16)

/-- The product of two blocks, at an index. -/
def part (x0 : Vec Ideal S768x1024 .bf16) (x1 : Vec Ideal S768x3200 .bf16) : Mat 1024 3200 := fun a b => ∑ k, x0 (ix2 k a) * x1 (ix2 k b)

/-- After the first block of rows the scratch holds its product; after each later one, the product is added. -/
theorem first (hc0 : cond0_0 i) (hc1 : ¬cond0_1 i) (a : Fin 1024) (b : Fin 3200) :
    sout0_A_0 c i arg3 harg3 arg4 harg4 arg6 harg6 arg7 harg7 hc0 hc1 x0 x1 (ix2 a b) = part x0 x1 a b := by
  unfold sout0_A_0
  frame_open
  try simp (disch := decide) only [↓ View.readCov_skip, ↓ View.readCov_cons_toLoadRect, ↓ View.readCov_fill]
  frame_out
  try simp only [read_unread_whole]
  pointwise [k0_pay2, k0_pay1]
  rfl

theorem next (hc0 : ¬cond0_0 i) (hc1 : ¬cond0_1 i) (xs : Vec Ideal S1024x3200 .f32) (a : Fin 1024) (b : Fin 3200) :
    sout0_B_0 c i arg3 harg3 arg4 harg4 arg6 harg6 arg7 harg7 hc0 hc1 x0 x1 xs (ix2 a b) = xs (ix2 a b) + part x0 x1 a b := by
  unfold sout0_B_0
  frame_open
  try simp (disch := decide) only [↓ View.readCov_skip, ↓ View.readCov_cons_toLoadRect, ↓ View.readCov_fill]
  frame_out
  try simp only [read_unread_whole]
  pointwise [k0_pay2]
  rfl

/-- With the last block added, the output holds the sum, in eight shards. -/
theorem last (hc0 : ¬cond0_0 i) (hc1 : cond0_1 i) (xs : Vec Ideal S1024x3200 .f32) (p : Fin 8) (a : Fin 1024) (b : Fin 388) :
    out0_C_2 c i arg3 harg3 arg4 harg4 arg6 harg6 arg7 harg7 hc0 hc1 x0 x1 xs (ix3 p a b)
      = xs (ix2 a ⟨388 * p.val + b.val, by omega⟩) + part x0 x1 a ⟨388 * p.val + b.val, by omega⟩ := by
  unfold out0_C_2
  frame_open
  try simp (disch := decide) only [↓ View.readCov_skip, ↓ View.readCov_cons_toLoadRect, ↓ View.readCov_fill]
  frame_out
  try simp only [read_unread_whole]
  canon_tiles z q
  all_goals
    idx_vars z
    pointwise [k0_pay11, k0_pay10, k0_pay9, k0_pay8, k0_pay7, k0_pay6, k0_pay5, k0_pay4, k0_pay3, k0_pay2]
    obtain rfl : a = z1 := Fin.ext q1
    obtain rfl : b = z2 := Fin.ext q2
    refine congrArg (fun u : Fin 3200 => xs (ix2 a u) + part x0 x1 a u) (Fin.ext ?_)
    dsimp only
    omega

/-- The term of a row in the product at an index. -/
def term (a : Fin 1024) (b : Fin 3200) (n : ℕ) : EReal := if h : n < 4608 then ofSeqs (left m c) ⟨n, h⟩ a * ofSeqs (right m c) ⟨n, h⟩ b else 0

/-- A grid point's product is the sum over its rows. -/
theorem part_eq (t : Fin cfg0.N) (a : Fin 1024) (b : Fin 3200) :
    part (iblk m c 0 t) (iblk m c 1 t) a b = ∑ k ∈ Finset.range 768, term m c a b (768 * t.val + k) := by
  have ht := (idx t).2.2.2
  rw [part, Finset.sum_range]
  refine Finset.sum_congr rfl fun k _ => ?_
  rw [term, dif_pos (by omega)]
  exact congrArg₂ (fun u v : EReal => u * v) (x0_at m c t k a) (x1_at m c t k b)

/-- So the scratch sums over the rows that were read. -/
theorem scratch_at (n : ℕ) (hn : n < cfg0.N) (h5 : n < 5) (a : Fin 1024) (b : Fin 3200) :
    (outsAt0 m c n hn).2 (ix2 a b) = ∑ k ∈ Finset.range (768 * (n + 1)), term m c a b k := by
  induction n with
  | zero =>
    have e : outsAt0 m c 0 hn = _ := outsAt0_A m c ⟨0, hn⟩ (by dsimp only) (by dsimp only; omega)
    rw [e]
    dsimp only
    rw [first, part_eq]
    simp only [Nat.mul_zero, Nat.zero_add, Nat.mul_one]
  | succ n ih =>
    have e : outsAt0 m c (n + 1) hn = _ := outsAt0_B m c ⟨n + 1, hn⟩ (by dsimp only; omega) (by dsimp only; omega)
    rw [e]
    dsimp only
    rw [next, part_eq, Nat.mul_succ 768 (n + 1), Finset.sum_range_add]
    exact congrArg (fun u : EReal => u + _) (ih (by omega) (by omega))

theorem out_at (t : Fin cfg0.N) (h5 : t.val % 6 = 5) (p : Fin 8) (a : Fin 1024) (b : Fin 388) :
    (outsAt0 m c t.val t.isLt).1 (ix3 p a b) = ∑ k, ofSeqs (left m c) k a * ofSeqs (right m c) k ⟨388 * p.val + b.val, by omega⟩ := by
  have ht := (idx t).2.2.2
  rw [outsAt0_C m c t (by omega) h5]
  dsimp only
  rw [last, part_eq, scratch_at m c (t.val - 1) _ (by omega), show 768 * (t.val - 1 + 1) = 3840 by omega, show 768 * t.val = 3840 by omega,
    ← Finset.sum_range_add, Finset.sum_range]
  refine Finset.sum_congr rfl fun k _ => ?_
  rw [term, dif_pos k.isLt]

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2]
  idx_vars y
  have he : ((View.whole main_v2).slice (win0_2.rect t)).emb (ix3 y0 y1 y2) = ix3 y0 y1 y2 := by
    blk_ext [idx t]
  rw [he, out_at m c t ((flush0_2 t).mp hf), result, shards_mulTN]
  refine sum_mul_congr (fun k => rfl) (fun k => congrArg (ofSeqs (right m c) k) (Fin.ext ?_))
  simp only [shardCol]
  omega

theorem ref_eq (a : FVec Ideal S2x2304x1024 .bf16) (b : FVec Ideal S2x2304x3200 .bf16) :
    truncf .bf16 (transpose Cert.GlaInDwRefIdeal.S8x1024x388 [1, 0, 2] (shapeCast _ (transpose Cert.GlaInDwRefIdeal.S1024x3104 [1, 0] (Host.dotGeneral Cert.GlaInDwRefIdeal.dot_S2x2304x3104_S2x2304x1024_S3104x1024_01_01_2_2_n_n none (extf .f32 (extractStridedSlice Cert.GlaInDwRefIdeal.S2x2304x3104 ![0, 0, 0] b Cert.GlaInDwRefIdeal.Facts₀.slices_S2x2304x3200_S2x2304x3104_0_0_0) Cert.GlaInDwRefIdeal.Facts₀.bitsLt_bf16_f32) (extf .f32 a Cert.GlaInDwRefIdeal.Facts₀.bitsLt_bf16_f32)) Cert.GlaInDwRefIdeal.Facts₀.transposes_S3104x1024_S1024x3104_1_0) Cert.GlaInDwRefIdeal.Facts₀.shapeCasts_S1024x3104_S1024x8x388) Cert.GlaInDwRefIdeal.Facts₀.transposes_S1024x8x388_S8x1024x388_1_0_2) Cert.GlaInDwRefIdeal.Facts₀.bitsLt_bf16_f32
      = result a b := by
  funext y
  idx_vars y
  pointwise []
  exact sum_seqs a b y1 ⟨y0.val * 388 + y2.val, by omega⟩

end Cert.GlaInDwIdeal.Arrays

open Cert.GlaInDwIdeal.Arrays in
/-- Both programs end with the same product. -/
theorem Cert.Proof.productGlaInDw : Cert.algebraic_GlaInDwIdeal_GlaInDwRefIdeal
    (hGlaInDwIdeal := Cert.GlaInDwIdeal.Gen.facts) (hGlaInDwRefIdeal := Cert.GlaInDwRefIdeal.Gen.facts) := by
  intro m g m' g' _ hm
  refine ⟨fun c => result (left m c) (right m c), ?_, ?_⟩
  · exact (θ_run Cert.GlaInDwIdeal.defs _ _).mono (fun r h c => ⟨(h c).1.trans (arr2 m c), (h c).2⟩) (Cert.GlaInDwIdeal.Value.run_blocks m g)
  · exact (θ_run Cert.GlaInDwRefIdeal.defs _ _).mono
      (fun r h c => ⟨(h c).1.trans ((ref_eq _ _).trans (congrArg₂ result (hm c).1 (hm c).2.1)), (h c).2⟩) (Cert.GlaInDwRefIdeal.Value.run m' g')

open Cert.GlaInDwRefIdeal in
/-- The reference keeps its arguments; it has no counters. -/
theorem Cert.Proof.keepsGlaInDw : Cert.quiescent_GlaInDwRefIdeal (hGlaInDwRefIdeal := Gen.facts) := fun m ρ _ =>
  (θ_run defs _ _).mono (fun r h => ⟨fun c => (h c).2, sem_eq_zero_of_no_sems (by decide) r.2⟩) (Value.run m ρ)

end
-- ==== Proof.GlaOutDwValue.lean ====
/-
  The gradient of the gated linear attention's output projection: the kernel's array and the derivative's are one product.
-/
module

public import proofs.«01_k».proof.Defs
public import proofs.«01_k».proof.Proof.Gen.GlaOutDwIdeal.Value
public import proofs.«01_k».proof.Proof.Gen.GlaOutDwRefIdeal.Run
public import proofs.«01_k».proof.Proof.Sequences
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Products

namespace Cert.GlaOutDwIdeal.Arrays

open Cert.GlaOutDwIdeal Cert.GlaOutDwIdeal.Gen

variable (m : (ℓ : Loc nD τ sig) → Buf (Elt Ideal) ℓ) (c : Dev nD)

abbrev left : FVec Ideal S2x2048x1024 .bf16 := m ((c : Thread nD τ).loc main_arg0)
abbrev right : FVec Ideal S2x2048x1024 .bf16 := m ((c : Thread nD τ).loc main_arg1)

/-- The result. -/
def result (a : FVec Ideal S2x2048x1024 .bf16) (b : FVec Ideal S2x2048x1024 .bf16) : FVec Ideal S1024x1024 .bf16 := flat (mulTN (ofTokens a) (ofTokens b))

theorem V_main_v0 : V m c main_v0 = shapeCast _ (left m c) shapeCasts_S2x2048x1024_S4096x1024 := by
  show StableHlo.after hostOps0 _ (Proc.devRef .tc main_v0) = _
  unfold hostOps0
  after_results <;> rfl

theorem V_main_v1 : V m c main_v1 = shapeCast _ (right m c) shapeCasts_S2x2048x1024_S4096x1024 := by
  show StableHlo.after hostOps0 _ (Proc.devRef .tc main_v1) = _
  unfold hostOps0
  after_results <;> rfl

theorem idx : ∀ t : Fin cfg0.N, win0_0.index t = ![0, 0] ∧ win0_1.index t = ![0, t.val] ∧ win0_2.index t = ![0, t.val] ∧ t.val < 4 :=
  (by decide +kernel : ∀ t : Fin grid0.N, _)

theorem x0_at (t : Fin cfg0.N) (r : Fin 4096) (k : Fin 1024) :
    iblk m c 0 t (ix2 r k) = ofTokens (left m c) ⟨r.val, by have := (idx t).2.2.2; omega⟩ ⟨k.val, by have := (idx t).2.2.2; omega⟩ := by
  have ht := (idx t).2.2.2
  have he : ((cfg0.win 0).blk t).view.emb (ix2 r k) = ix2 ⟨r.val, by omega⟩ ⟨k.val, by omega⟩ := by
    blk_ext [idx t]
  show V m c main_v0 (((cfg0.win 0).blk t).view.emb (ix2 r k)) = _
  rw [V_main_v0, he]
  pointwise []
  rfl

theorem x1_at (t : Fin cfg0.N) (r : Fin 4096) (k : Fin 256) :
    iblk m c 1 t (ix2 r k) = ofTokens (right m c) ⟨r.val, by have := (idx t).2.2.2; omega⟩ ⟨256 * t.val + k.val, by have := (idx t).2.2.2; omega⟩ := by
  have ht := (idx t).2.2.2
  have he : ((cfg0.win 1).blk t).view.emb (ix2 r k) = ix2 ⟨r.val, by omega⟩ ⟨256 * t.val + k.val, by omega⟩ := by
    blk_ext [idx t]
  show V m c main_v1 (((cfg0.win 1).blk t).view.emb (ix2 r k)) = _
  rw [V_main_v1, he]
  pointwise []
  rfl

theorem arr2 : (dats m 0 c).arrAt 2 cfg0.N = result (left m c) (right m c) := by
  refine (dats m 0 c).arrAt_eq_of_covers 2 _ (by decide +kernel) fun t hf y => ?_
  have ht := (idx t).2.2.2
  blk_simp
  rw [after0_2, outsAt0]
  unfold out0_A_2
  frame_open
  frame_out
  idx_vars y
  have he : ((View.whole main_v2).slice (win0_2.rect t)).emb (ix2 y0 y1) = ix2 ⟨y0.val, by omega⟩ ⟨256 * t.val + y1.val, by omega⟩ := by
    blk_ext [idx t]
  rw [he]
  have h0 := x0_at m c t
  have h1 := x1_at m c t
  generalize iblk m c 0 t = x0 at h0 ⊢
  generalize iblk m c 1 t = x1 at h1 ⊢
  pointwise [k0_pay1]
  exact sum_mul_congr (fun k => h0 _ _) (fun k => h1 _ _)

theorem ref_eq (a : FVec Ideal S2x2048x1024 .bf16) (b : FVec Ideal S2x2048x1024 .bf16) :
    truncf .bf16 (transpose Cert.GlaOutDwRefIdeal.S1024x1024 [1, 0] (Host.dotGeneral Cert.GlaOutDwRefIdeal.dot_S2x2048x1024_S2x2048x1024_S1024x1024_01_01_2_2_n_n none (extf .f32 b Cert.GlaOutDwRefIdeal.Facts₀.bitsLt_bf16_f32) (extf .f32 a Cert.GlaOutDwRefIdeal.Facts₀.bitsLt_bf16_f32)) Cert.GlaOutDwRefIdeal.Facts₀.transposes_S1024x1024_S1024x1024_1_0) Cert.GlaOutDwRefIdeal.Facts₀.bitsLt_bf16_f32
      = result a b := by
  funext y
  idx_vars y
  pointwise []
  exact sum_tokens (fun e t => a (ix3 e t y0)) (fun e t => b (ix3 e t y1))

end Cert.GlaOutDwIdeal.Arrays

open Cert.GlaOutDwIdeal.Arrays in
/-- Both programs end with the same product. -/
theorem Cert.Proof.productGlaOutDw : Cert.algebraic_GlaOutDwIdeal_GlaOutDwRefIdeal
    (hGlaOutDwIdeal := Cert.GlaOutDwIdeal.Gen.facts) (hGlaOutDwRefIdeal := Cert.GlaOutDwRefIdeal.Gen.facts) := by
  intro m g m' g' _ hm
  refine ⟨fun c => result (left m c) (right m c), ?_, ?_⟩
  · exact (θ_run Cert.GlaOutDwIdeal.defs _ _).mono (fun r h c => ⟨(h c).1.trans (arr2 m c), (h c).2⟩) (Cert.GlaOutDwIdeal.Value.run_blocks m g)
  · exact (θ_run Cert.GlaOutDwRefIdeal.defs _ _).mono
      (fun r h c => ⟨(h c).1.trans ((ref_eq _ _).trans (congrArg₂ result (hm c).1 (hm c).2.1)), (h c).2⟩) (Cert.GlaOutDwRefIdeal.Value.run m' g')

open Cert.GlaOutDwRefIdeal in
/-- The reference keeps its arguments; it has no counters. -/
theorem Cert.Proof.keepsGlaOutDw : Cert.quiescent_GlaOutDwRefIdeal (hGlaOutDwRefIdeal := Gen.facts) := fun m ρ _ =>
  (θ_run defs _ _).mono (fun r h => ⟨fun c => (h c).2, sem_eq_zero_of_no_sems (by decide) r.2⟩) (Value.run m ρ)

end
-- ==== Proof.Modulate.lean ====
/-
  A row's root-mean-square normalisation with gain, scale and shift, and the products whose result is gated, added to the residual and normalised
  for the next block, over the extended reals.
-/
module

public import Idealize.ShloMosaic.Lib.Pointwise

@[expose] public section

noncomputable section

open Idealize.ShloMosaic Idealize.ShloMosaic.TcCoe

namespace Cert.Modulate

/-- The number of lanes and the term that keeps the root away from zero. -/
abbrev width : EReal := Ideal.ofBits .f32 0x44800000#32
abbrev eps : EReal := Ideal.ofBits .f32 0x358637BD#32

/-- One over the root of a row's mean square. -/
def inv (x : Fin 1024 → EReal) : EReal := Ideal.rsqrt (Ideal.div (∑ i, x i * x i) width + eps)

/-- A row normalised and modulated. -/
def normed (x gain shift scale : Fin 1024 → EReal) : Fin 1024 → EReal := fun j => x j * inv x * gain j * (1 + scale j) + shift j

variable {k : ℕ} (a : FVec Ideal ⟨3, ![2, 2048, k]⟩ .bf16) (w : FVec Ideal ⟨2, ![k, 1024]⟩ .bf16) (h : FVec Ideal ⟨3, ![2, 2048, 1024]⟩ .f32)
variable (gate shift scale : FVec Ideal ⟨3, ![2, 1, 1024]⟩ .f32) (gain : FVec Ideal ⟨2, ![1, 1024]⟩ .f32)

/-- A token's row of the product, of the residual after it, and of the next block's input. -/
def product (e : Fin 2) (t : Fin 2048) : Fin 1024 → EReal := fun j => ∑ x, a (ix3 e t x) * w (ix2 x j)
def residual (e : Fin 2) (t : Fin 2048) : Fin 1024 → EReal := fun j => h (ix3 e t j) + gate (ix3 e (0 : Fin 1) j) * product a w e t j
def modulated (e : Fin 2) (t : Fin 2048) : Fin 1024 → EReal :=
  normed (residual a w h gate e t) (fun j => gain (ix2 (0 : Fin 1) j)) (fun j => shift (ix3 e (0 : Fin 1) j)) (fun j => scale (ix3 e (0 : Fin 1) j))

/-- Rows as an array of tokens. -/
def tokens {φ : FTy} (f : Fin 2 → Fin 2048 → Fin 1024 → EReal) : FVec Ideal ⟨3, ![2, 2048, 1024]⟩ φ := fun y => f (y 0) (y 1) (y 2)

end Cert.Modulate

end
-- ==== Proof.OutModValue.lean ====
/-
  The output projection of the gated linear attention and of the short convolution: the kernel's three arrays and the reference's, the product, the
  residual after it and the next block's input, are equal.
-/
module

public import proofs.«01_k».proof.Defs
public import proofs.«01_k».proof.Proof.Gen.OutModIdeal.Value
public import proofs.«01_k».proof.Proof.Gen.OutModRefIdeal.Run
public import proofs.«01_k».proof.Proof.Modulate
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Modulate

namespace Cert.OutModIdeal.Arrays

open Cert.OutModIdeal Cert.OutModIdeal.Gen

variable (m : (ℓ : Loc nD τ sig) → Buf (Elt Ideal) ℓ) (c : Dev nD)

abbrev act : FVec Ideal S2x2048x1024 .bf16 := m ((c : Thread nD τ).loc main_arg0)
abbrev weight : FVec Ideal S1024x1024 .bf16 := m ((c : Thread nD τ).loc main_arg1)
abbrev res : FVec Ideal S2x2048x1024 .f32 := m ((c : Thread nD τ).loc main_arg2)
abbrev gate : FVec Ideal S2x1x1024 .f32 := m ((c : Thread nD τ).loc main_arg3)
abbrev gain : FVec Ideal S1x1024 .f32 := m ((c : Thread nD τ).loc main_arg4)
abbrev shift : FVec Ideal S2x1x1024 .f32 := m ((c : Thread nD τ).loc main_arg5)
abbrev scale : FVec Ideal S2x1x1024 .f32 := m ((c : Thread nD τ).loc main_arg6)

theorem idx : ∀ t : Fin cfg0.N, win0_0.index t = ![t.val / 2, t.val % 2, 0] ∧ win0_1.index t = ![0, 0] ∧ win0_2.index t = ![t.val / 2, t.val % 2, 0] ∧ win0_3.index t = ![t.val / 2, 0, 0] ∧ win0_4.index t = ![0, 0] ∧ win0_5.index t = ![t.val / 2, 0, 0] ∧ win0_6.index t = ![t.val / 2, 0, 0] ∧ win0_7.index t = ![t.val / 2, t.val % 2, 0] ∧ win0_8.index t = ![t.val / 2, t.val % 2, 0] ∧ win0_9.index t = ![t.val / 2, t.val % 2, 0] :=
  (by decide +kernel : ∀ t : Fin grid0.N, _)

theorem lt (t : Fin cfg0.N) : t.val < 4 := lt_of_lt_of_eq t.isLt N_0

/-- The example and the token of a grid point's row. -/
def exOf (t : Fin cfg0.N) : Fin 2 := ⟨t.val / 2, by have := lt t; omega⟩
def tokOf (t : Fin cfg0.N) (r : Fin 1024) : Fin 2048 := ⟨1024 * (t.val % 2) + r.val, by omega⟩

theorem x0_at (t : Fin cfg0.N) (r : Fin 1024) (k : Fin 1024) : iblk m c 0 t (ix3 (0 : Fin 1) r k) = act m c (ix3 (exOf t) (tokOf t r) k) := by
  have ht := lt t
  blk_ext [iblk, V, idx t, exOf, tokOf]

theorem x1_at (t : Fin cfg0.N) (r : Fin 1024) (k : Fin 1024) : iblk m c 1 t (ix2 r k) = weight m c (ix2 r k) := by
  have ht := lt t
  blk_ext [iblk, V, idx t, exOf, tokOf]

theorem x2_at (t : Fin cfg0.N) (r : Fin 1024) (k : Fin 1024) : iblk m c 2 t (ix3 (0 : Fin 1) r k) = res m c (ix3 (exOf t) (tokOf t r) k) := by
  have ht := lt t
  blk_ext [iblk, V, idx t, exOf, tokOf]

theorem x3_at (t : Fin cfg0.N) (k : Fin 1024) : iblk m c 3 t (ix3 (0 : Fin 1) (0 : Fin 1) k) = gate m c (ix3 (exOf t) (0 : Fin 1) k) := by
  have ht := lt t
  blk_ext [iblk, V, idx t, exOf, tokOf]

theorem x5_at (t : Fin cfg0.N) (k : Fin 1024) : iblk m c 5 t (ix3 (0 : Fin 1) (0 : Fin 1) k) = shift m c (ix3 (exOf t) (0 : Fin 1) k) := by
  have ht := lt t
  blk_ext [iblk, V, idx t, exOf, tokOf]

theorem x6_at (t : Fin cfg0.N) (k : Fin 1024) : iblk m c 6 t (ix3 (0 : Fin 1) (0 : Fin 1) k) = scale m c (ix3 (exOf t) (0 : Fin 1) k) := by
  have ht := lt t
  blk_ext [iblk, V, idx t, exOf, tokOf]

theorem x4_at (t : Fin cfg0.N) (k : Fin 1024) : iblk m c 4 t (ix2 (0 : Fin 1) k) = gain m c (ix2 (0 : Fin 1) k) := by
  have ht := lt t
  blk_ext [iblk, V, idx t, exOf, tokOf]

theorem arr7 : (dats m 0 c).arrAt 7 cfg0.N = tokens (φ := .bf16) (product (act m c) (weight m c)) := by
  refine (dats m 0 c).arrAt_eq_of_covers 7 _ (by decide +kernel) fun t hf y => ?_
  have ht := lt t
  blk_simp
  rw [after0_7]
  unfold out0_7
  frame_open
  frame_out
  idx_vars y
  have he : ((View.whole main_v0_0).slice (win0_7.rect t)).emb (ix3 y0 y1 y2) = ix3 (exOf t) (tokOf t y1) y2 := by
    blk_ext [idx t, exOf, tokOf]
  rw [he]
  have h0 := x0_at m c t
  have h1 := x1_at m c t
  generalize iblk m c 0 t = x0 at h0 ⊢
  generalize iblk m c 1 t = x1 at h1 ⊢
  pointwise [k0_pay4, k0_pay2]
  simp only [h0, h1]
  rfl

theorem arr8 : (dats m 0 c).arrAt 8 cfg0.N = tokens (φ := .f32) (residual (act m c) (weight m c) (res m c) (gate m c)) := by
  refine (dats m 0 c).arrAt_eq_of_covers 8 _ (by decide +kernel) fun t hf y => ?_
  have ht := lt t
  blk_simp
  rw [after0_8]
  unfold out0_8
  frame_open
  frame_out
  idx_vars y
  have he : ((View.whole main_v0_1).slice (win0_8.rect t)).emb (ix3 y0 y1 y2) = ix3 (exOf t) (tokOf t y1) y2 := by
    blk_ext [idx t, exOf, tokOf]
  rw [he]
  have h0 := x0_at m c t
  have h1 := x1_at m c t
  have h2 := x2_at m c t
  have h3 := x3_at m c t
  generalize iblk m c 0 t = x0 at h0 ⊢
  generalize iblk m c 1 t = x1 at h1 ⊢
  generalize iblk m c 2 t = x2 at h2 ⊢
  generalize iblk m c 3 t = x3 at h3 ⊢
  pointwise [k0_pay5, k0_pay3, k0_pay2]
  simp only [h0, h1, h2, h3]
  rfl

theorem arr9 : (dats m 0 c).arrAt 9 cfg0.N = tokens (φ := .bf16) (modulated (act m c) (weight m c) (res m c) (gate m c) (shift m c) (scale m c) (gain m c)) := by
  refine (dats m 0 c).arrAt_eq_of_covers 9 _ (by decide +kernel) fun t hf y => ?_
  have ht := lt t
  blk_simp
  rw [after0_9]
  unfold out0_9
  frame_open
  frame_out
  idx_vars y
  have he : ((View.whole main_v0_2).slice (win0_9.rect t)).emb (ix3 y0 y1 y2) = ix3 (exOf t) (tokOf t y1) y2 := by
    blk_ext [idx t, exOf, tokOf]
  rw [he]
  have h0 := x0_at m c t
  have h1 := x1_at m c t
  have h2 := x2_at m c t
  have h3 := x3_at m c t
  have h4 := x4_at m c t
  have h5 := x5_at m c t
  have h6 := x6_at m c t
  generalize iblk m c 0 t = x0 at h0 ⊢
  generalize iblk m c 1 t = x1 at h1 ⊢
  generalize iblk m c 2 t = x2 at h2 ⊢
  generalize iblk m c 3 t = x3 at h3 ⊢
  generalize iblk m c 4 t = x4 at h4 ⊢
  generalize iblk m c 5 t = x5 at h5 ⊢
  generalize iblk m c 6 t = x6 at h6 ⊢
  pointwise [k0_pay8, k0_pay7, k0_pay6, k0_pay3, k0_pay2, k0_pay1]
  simp only [h0, h1, h2, h3, h4, h5, h6]
  rfl

theorem ref_product (a : FVec Ideal S2x2048x1024 .bf16) (w : FVec Ideal S1024x1024 .bf16) :
    truncf .bf16 (Host.dotGeneral Cert.OutModRefIdeal.dot_S2x2048x1024_S1024x1024_S2x2048x1024_2_0_01_1_n_n none (extf .f32 a Cert.OutModRefIdeal.Facts₀.bitsLt_bf16_f32) (extf .f32 w Cert.OutModRefIdeal.Facts₀.bitsLt_bf16_f32)) Cert.OutModRefIdeal.Facts₀.bitsLt_bf16_f32
      = tokens (product a w) := by
  funext y
  idx_vars y
  pointwise []
  rfl

theorem ref_residual (a : FVec Ideal S2x2048x1024 .bf16) (w : FVec Ideal S1024x1024 .bf16) (h : FVec Ideal S2x2048x1024 .f32) (gate : FVec Ideal S2x1x1024 .f32) :
    addf h (mulf (broadcastInDim Cert.OutModRefIdeal.S2x2048x1024 ![0, 1, 2] Cert.OutModRefIdeal.Facts₀.bcast_S2x1x1024_S2x2048x1024_0_1_2 gate) (Host.dotGeneral Cert.OutModRefIdeal.dot_S2x2048x1024_S1024x1024_S2x2048x1024_2_0_01_1_n_n none (extf .f32 a Cert.OutModRefIdeal.Facts₀.bitsLt_bf16_f32) (extf .f32 w Cert.OutModRefIdeal.Facts₀.bitsLt_bf16_f32)))
      = tokens (residual a w h gate) := by
  funext y
  idx_vars y
  pointwise []
  rfl

theorem ref_modulated (a : FVec Ideal S2x2048x1024 .bf16) (w : FVec Ideal S1024x1024 .bf16) (h : FVec Ideal S2x2048x1024 .f32)
    (gate shift scale : FVec Ideal S2x1x1024 .f32) (gain : FVec Ideal S1x1024 .f32) :
    truncf .bf16 (addf (mulf (mulf (mulf (addf h (mulf (broadcastInDim Cert.OutModRefIdeal.S2x2048x1024 ![0, 1, 2] Cert.OutModRefIdeal.Facts₀.bcast_S2x1x1024_S2x2048x1024_0_1_2 gate) (Host.dotGeneral Cert.OutModRefIdeal.dot_S2x2048x1024_S1024x1024_S2x2048x1024_2_0_01_1_n_n none (extf .f32 a Cert.OutModRefIdeal.Facts₀.bitsLt_bf16_f32) (extf .f32 w Cert.OutModRefIdeal.Facts₀.bitsLt_bf16_f32)))) (broadcastInDim Cert.OutModRefIdeal.S2x2048x1024 ![0, 1, 2] Cert.OutModRefIdeal.Facts₀.bcast_S2x2048x1_S2x2048x1024_0_1_2 (Host.rsqrt (addf (Host.divf (broadcastInDim Cert.OutModRefIdeal.S2x2048x1 ![0, 1] Cert.OutModRefIdeal.Facts₀.bcast_S2x2048_S2x2048x1_0_1 (Host.reduceAdd (mulf (addf h (mulf (broadcastInDim Cert.OutModRefIdeal.S2x2048x1024 ![0, 1, 2] Cert.OutModRefIdeal.Facts₀.bcast_S2x1x1024_S2x2048x1024_0_1_2 gate) (Host.dotGeneral Cert.OutModRefIdeal.dot_S2x2048x1024_S1024x1024_S2x2048x1024_2_0_01_1_n_n none (extf .f32 a Cert.OutModRefIdeal.Facts₀.bitsLt_bf16_f32) (extf .f32 w Cert.OutModRefIdeal.Facts₀.bitsLt_bf16_f32)))) (addf h (mulf (broadcastInDim Cert.OutModRefIdeal.S2x2048x1024 ![0, 1, 2] Cert.OutModRefIdeal.Facts₀.bcast_S2x1x1024_S2x2048x1024_0_1_2 gate) (Host.dotGeneral Cert.OutModRefIdeal.dot_S2x2048x1024_S1024x1024_S2x2048x1024_2_0_01_1_n_n none (extf .f32 a Cert.OutModRefIdeal.Facts₀.bitsLt_bf16_f32) (extf .f32 w Cert.OutModRefIdeal.Facts₀.bitsLt_bf16_f32))))) (constant Cert.OutModRefIdeal.S_ .f32 0x00000000#32) Cert.OutModRefIdeal.Facts₀.reducesTo_S2x2048x1024_S2x2048_d2 Cert.OutModRefIdeal.Facts₀.h_S_)) (broadcastInDim Cert.OutModRefIdeal.S2x2048x1 ![] Cert.OutModRefIdeal.Facts₀.bcast_S_S2x2048x1 (constant Cert.OutModRefIdeal.S_ .f32 0x44800000#32))) (broadcastInDim Cert.OutModRefIdeal.S2x2048x1 ![] Cert.OutModRefIdeal.Facts₀.bcast_S_S2x2048x1 (constant Cert.OutModRefIdeal.S_ .f32 0x358637BD#32)))))) (broadcastInDim Cert.OutModRefIdeal.S2x2048x1024 ![0, 1, 2] Cert.OutModRefIdeal.Facts₀.bcast_S1x1x1024_S2x2048x1024_0_1_2 (broadcastInDim Cert.OutModRefIdeal.S1x1x1024 ![1, 2] Cert.OutModRefIdeal.Facts₀.bcast_S1x1024_S1x1x1024_1_2 gain))) (broadcastInDim Cert.OutModRefIdeal.S2x2048x1024 ![0, 1, 2] Cert.OutModRefIdeal.Facts₀.bcast_S2x1x1024_S2x2048x1024_0_1_2 (addf (broadcastInDim Cert.OutModRefIdeal.S2x1x1024 ![] Cert.OutModRefIdeal.Facts₀.bcast_S_S2x1x1024 (constant Cert.OutModRefIdeal.S_ .f32 0x3F800000#32)) scale))) (broadcastInDim Cert.OutModRefIdeal.S2x2048x1024 ![0, 1, 2] Cert.OutModRefIdeal.Facts₀.bcast_S2x1x1024_S2x2048x1024_0_1_2 shift)) Cert.OutModRefIdeal.Facts₀.bitsLt_bf16_f32
      = tokens (modulated a w h gate shift scale gain) := by
  funext y
  idx_vars y
  pointwise []
  rfl

end Cert.OutModIdeal.Arrays

open Cert.OutModIdeal.Arrays in
/-- Both programs end with the same three arrays. -/
theorem Cert.Proof.productOutMod : Cert.algebraic_OutModIdeal_OutModRefIdeal
    (hOutModIdeal := Cert.OutModIdeal.Gen.facts) (hOutModRefIdeal := Cert.OutModRefIdeal.Gen.facts) := by
  intro m g m' g' _ hm
  refine ⟨fun c => tokens (φ := .bf16) (product (act m c) (weight m c)), fun c => tokens (φ := .f32) (residual (act m c) (weight m c) (res m c) (gate m c)),
    fun c => tokens (φ := .bf16) (modulated (act m c) (weight m c) (res m c) (gate m c) (shift m c) (scale m c) (gain m c)), ?_, ?_⟩
  · exact (θ_run Cert.OutModIdeal.defs _ _).mono
      (fun r h c => ⟨(h c).1.trans (arr7 m c), (h c).2.1.trans (arr8 m c), (h c).2.2.1.trans (arr9 m c), (h c).2.2.2⟩) (Cert.OutModIdeal.Value.run_blocks m g)
  · refine (θ_run Cert.OutModRefIdeal.defs _ _).mono (fun r h c => ?_) (Cert.OutModRefIdeal.Value.run m' g')
    obtain ⟨e0, e1, e2, e3, e4, e5, e6⟩ := hm c
    obtain ⟨p, q, s, k⟩ := h c
    refine ⟨p.trans ?_, q.trans ?_, s.trans ?_, k⟩
    · rw [e0, e1]
      exact ref_product _ _
    · rw [e0, e1, e2, e3]
      exact ref_residual _ _ _ _
    · rw [e0, e1, e2, e3, e4, e5, e6]
      exact ref_modulated _ _ _ _ _ _ _

open Cert.OutModRefIdeal in
/-- The reference keeps its arguments; it has no counters. -/
theorem Cert.Proof.keepsOutMod : Cert.quiescent_OutModRefIdeal (hOutModRefIdeal := Gen.facts) := fun m ρ _ =>
  (θ_run defs _ _).mono (fun r h => ⟨fun c => (h c).2.2.2, sem_eq_zero_of_no_sems (by decide) r.2⟩) (Value.run m ρ)

end
-- ==== Proof.DownModValue.lean ====
/-
  The first feed-forward block's down-projection: the kernel's three arrays and the reference's, the product, the residual after it and the next
  block's input, are equal.
-/
module

public import proofs.«01_k».proof.Defs
public import proofs.«01_k».proof.Proof.Gen.DownModIdeal.Value
public import proofs.«01_k».proof.Proof.Gen.DownModRefIdeal.Run
public import proofs.«01_k».proof.Proof.Modulate
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Modulate

namespace Cert.DownModIdeal.Arrays

open Cert.DownModIdeal Cert.DownModIdeal.Gen

variable (m : (ℓ : Loc nD τ sig) → Buf (Elt Ideal) ℓ) (c : Dev nD)

abbrev act : FVec Ideal S2x2048x2560 .bf16 := m ((c : Thread nD τ).loc main_arg0)
abbrev weight : FVec Ideal S2560x1024 .bf16 := m ((c : Thread nD τ).loc main_arg1)
abbrev res : FVec Ideal S2x2048x1024 .f32 := m ((c : Thread nD τ).loc main_arg2)
abbrev gate : FVec Ideal S2x1x1024 .f32 := m ((c : Thread nD τ).loc main_arg3)
abbrev gain : FVec Ideal S1x1024 .f32 := m ((c : Thread nD τ).loc main_arg4)
abbrev shift : FVec Ideal S2x1x1024 .f32 := m ((c : Thread nD τ).loc main_arg5)
abbrev scale : FVec Ideal S2x1x1024 .f32 := m ((c : Thread nD τ).loc main_arg6)

theorem idx : ∀ t : Fin cfg0.N, win0_0.index t = ![t.val / 4, t.val % 4, 0] ∧ win0_1.index t = ![0, 0] ∧ win0_2.index t = ![t.val / 4, t.val % 4, 0] ∧ win0_3.index t = ![t.val / 4, 0, 0] ∧ win0_4.index t = ![0, 0] ∧ win0_5.index t = ![t.val / 4, 0, 0] ∧ win0_6.index t = ![t.val / 4, 0, 0] ∧ win0_7.index t = ![t.val / 4, t.val % 4, 0] ∧ win0_8.index t = ![t.val / 4, t.val % 4, 0] ∧ win0_9.index t = ![t.val / 4, t.val % 4, 0] :=
  (by decide +kernel : ∀ t : Fin grid0.N, _)

theorem lt (t : Fin cfg0.N) : t.val < 8 := lt_of_lt_of_eq t.isLt N_0

/-- The example and the token of a grid point's row. -/
def exOf (t : Fin cfg0.N) : Fin 2 := ⟨t.val / 4, by have := lt t; omega⟩
def tokOf (t : Fin cfg0.N) (r : Fin 512) : Fin 2048 := ⟨512 * (t.val % 4) + r.val, by omega⟩

theorem x0_at (t : Fin cfg0.N) (r : Fin 512) (k : Fin 2560) : iblk m c 0 t (ix3 (0 : Fin 1) r k) = act m c (ix3 (exOf t) (tokOf t r) k) := by
  have ht := lt t
  blk_ext [iblk, V, idx t, exOf, tokOf]

theorem x1_at (t : Fin cfg0.N) (r : Fin 2560) (k : Fin 1024) : iblk m c 1 t (ix2 r k) = weight m c (ix2 r k) := by
  have ht := lt t
  blk_ext [iblk, V, idx t, exOf, tokOf]

theorem x2_at (t : Fin cfg0.N) (r : Fin 512) (k : Fin 1024) : iblk m c 2 t (ix3 (0 : Fin 1) r k) = res m c (ix3 (exOf t) (tokOf t r) k) := by
  have ht := lt t
  blk_ext [iblk, V, idx t, exOf, tokOf]

theorem x3_at (t : Fin cfg0.N) (k : Fin 1024) : iblk m c 3 t (ix3 (0 : Fin 1) (0 : Fin 1) k) = gate m c (ix3 (exOf t) (0 : Fin 1) k) := by
  have ht := lt t
  blk_ext [iblk, V, idx t, exOf, tokOf]

theorem x5_at (t : Fin cfg0.N) (k : Fin 1024) : iblk m c 5 t (ix3 (0 : Fin 1) (0 : Fin 1) k) = shift m c (ix3 (exOf t) (0 : Fin 1) k) := by
  have ht := lt t
  blk_ext [iblk, V, idx t, exOf, tokOf]

theorem x6_at (t : Fin cfg0.N) (k : Fin 1024) : iblk m c 6 t (ix3 (0 : Fin 1) (0 : Fin 1) k) = scale m c (ix3 (exOf t) (0 : Fin 1) k) := by
  have ht := lt t
  blk_ext [iblk, V, idx t, exOf, tokOf]

theorem x4_at (t : Fin cfg0.N) (k : Fin 1024) : iblk m c 4 t (ix2 (0 : Fin 1) k) = gain m c (ix2 (0 : Fin 1) k) := by
  have ht := lt t
  blk_ext [iblk, V, idx t, exOf, tokOf]

theorem arr7 : (dats m 0 c).arrAt 7 cfg0.N = tokens (φ := .bf16) (product (act m c) (weight m c)) := by
  refine (dats m 0 c).arrAt_eq_of_covers 7 _ (by decide +kernel) fun t hf y => ?_
  have ht := lt t
  blk_simp
  rw [after0_7]
  unfold out0_7
  frame_open
  frame_out
  idx_vars y
  have he : ((View.whole main_v0_0).slice (win0_7.rect t)).emb (ix3 y0 y1 y2) = ix3 (exOf t) (tokOf t y1) y2 := by
    blk_ext [idx t, exOf, tokOf]
  rw [he]
  have h0 := x0_at m c t
  have h1 := x1_at m c t
  generalize iblk m c 0 t = x0 at h0 ⊢
  generalize iblk m c 1 t = x1 at h1 ⊢
  pointwise [k0_pay4, k0_pay2]
  simp only [h0, h1]
  rfl

theorem arr8 : (dats m 0 c).arrAt 8 cfg0.N = tokens (φ := .f32) (residual (act m c) (weight m c) (res m c) (gate m c)) := by
  refine (dats m 0 c).arrAt_eq_of_covers 8 _ (by decide +kernel) fun t hf y => ?_
  have ht := lt t
  blk_simp
  rw [after0_8]
  unfold out0_8
  frame_open
  frame_out
  idx_vars y
  have he : ((View.whole main_v0_1).slice (win0_8.rect t)).emb (ix3 y0 y1 y2) = ix3 (exOf t) (tokOf t y1) y2 := by
    blk_ext [idx t, exOf, tokOf]
  rw [he]
  have h0 := x0_at m c t
  have h1 := x1_at m c t
  have h2 := x2_at m c t
  have h3 := x3_at m c t
  generalize iblk m c 0 t = x0 at h0 ⊢
  generalize iblk m c 1 t = x1 at h1 ⊢
  generalize iblk m c 2 t = x2 at h2 ⊢
  generalize iblk m c 3 t = x3 at h3 ⊢
  pointwise [k0_pay5, k0_pay3, k0_pay2]
  simp only [h0, h1, h2, h3]
  rfl

theorem arr9 : (dats m 0 c).arrAt 9 cfg0.N = tokens (φ := .bf16) (modulated (act m c) (weight m c) (res m c) (gate m c) (shift m c) (scale m c) (gain m c)) := by
  refine (dats m 0 c).arrAt_eq_of_covers 9 _ (by decide +kernel) fun t hf y => ?_
  have ht := lt t
  blk_simp
  rw [after0_9]
  unfold out0_9
  frame_open
  frame_out
  idx_vars y
  have he : ((View.whole main_v0_2).slice (win0_9.rect t)).emb (ix3 y0 y1 y2) = ix3 (exOf t) (tokOf t y1) y2 := by
    blk_ext [idx t, exOf, tokOf]
  rw [he]
  have h0 := x0_at m c t
  have h1 := x1_at m c t
  have h2 := x2_at m c t
  have h3 := x3_at m c t
  have h4 := x4_at m c t
  have h5 := x5_at m c t
  have h6 := x6_at m c t
  generalize iblk m c 0 t = x0 at h0 ⊢
  generalize iblk m c 1 t = x1 at h1 ⊢
  generalize iblk m c 2 t = x2 at h2 ⊢
  generalize iblk m c 3 t = x3 at h3 ⊢
  generalize iblk m c 4 t = x4 at h4 ⊢
  generalize iblk m c 5 t = x5 at h5 ⊢
  generalize iblk m c 6 t = x6 at h6 ⊢
  pointwise [k0_pay8, k0_pay7, k0_pay6, k0_pay3, k0_pay2, k0_pay1]
  simp only [h0, h1, h2, h3, h4, h5, h6]
  rfl

theorem ref_product (a : FVec Ideal S2x2048x2560 .bf16) (w : FVec Ideal S2560x1024 .bf16) :
    truncf .bf16 (Host.dotGeneral Cert.DownModRefIdeal.dot_S2x2048x2560_S2560x1024_S2x2048x1024_2_0_01_1_n_n none (extf .f32 a Cert.DownModRefIdeal.Facts₀.bitsLt_bf16_f32) (extf .f32 w Cert.DownModRefIdeal.Facts₀.bitsLt_bf16_f32)) Cert.DownModRefIdeal.Facts₀.bitsLt_bf16_f32
      = tokens (product a w) := by
  funext y
  idx_vars y
  pointwise []
  rfl

theorem ref_residual (a : FVec Ideal S2x2048x2560 .bf16) (w : FVec Ideal S2560x1024 .bf16) (h : FVec Ideal S2x2048x1024 .f32) (gate : FVec Ideal S2x1x1024 .f32) :
    addf h (mulf (broadcastInDim Cert.DownModRefIdeal.S2x2048x1024 ![0, 1, 2] Cert.DownModRefIdeal.Facts₀.bcast_S2x1x1024_S2x2048x1024_0_1_2 gate) (Host.dotGeneral Cert.DownModRefIdeal.dot_S2x2048x2560_S2560x1024_S2x2048x1024_2_0_01_1_n_n none (extf .f32 a Cert.DownModRefIdeal.Facts₀.bitsLt_bf16_f32) (extf .f32 w Cert.DownModRefIdeal.Facts₀.bitsLt_bf16_f32)))
      = tokens (residual a w h gate) := by
  funext y
  idx_vars y
  pointwise []
  rfl

theorem ref_modulated (a : FVec Ideal S2x2048x2560 .bf16) (w : FVec Ideal S2560x1024 .bf16) (h : FVec Ideal S2x2048x1024 .f32)
    (gate shift scale : FVec Ideal S2x1x1024 .f32) (gain : FVec Ideal S1x1024 .f32) :
    truncf .bf16 (addf (mulf (mulf (mulf (addf h (mulf (broadcastInDim Cert.DownModRefIdeal.S2x2048x1024 ![0, 1, 2] Cert.DownModRefIdeal.Facts₀.bcast_S2x1x1024_S2x2048x1024_0_1_2 gate) (Host.dotGeneral Cert.DownModRefIdeal.dot_S2x2048x2560_S2560x1024_S2x2048x1024_2_0_01_1_n_n none (extf .f32 a Cert.DownModRefIdeal.Facts₀.bitsLt_bf16_f32) (extf .f32 w Cert.DownModRefIdeal.Facts₀.bitsLt_bf16_f32)))) (broadcastInDim Cert.DownModRefIdeal.S2x2048x1024 ![0, 1, 2] Cert.DownModRefIdeal.Facts₀.bcast_S2x2048x1_S2x2048x1024_0_1_2 (Host.rsqrt (addf (Host.divf (broadcastInDim Cert.DownModRefIdeal.S2x2048x1 ![0, 1] Cert.DownModRefIdeal.Facts₀.bcast_S2x2048_S2x2048x1_0_1 (Host.reduceAdd (mulf (addf h (mulf (broadcastInDim Cert.DownModRefIdeal.S2x2048x1024 ![0, 1, 2] Cert.DownModRefIdeal.Facts₀.bcast_S2x1x1024_S2x2048x1024_0_1_2 gate) (Host.dotGeneral Cert.DownModRefIdeal.dot_S2x2048x2560_S2560x1024_S2x2048x1024_2_0_01_1_n_n none (extf .f32 a Cert.DownModRefIdeal.Facts₀.bitsLt_bf16_f32) (extf .f32 w Cert.DownModRefIdeal.Facts₀.bitsLt_bf16_f32)))) (addf h (mulf (broadcastInDim Cert.DownModRefIdeal.S2x2048x1024 ![0, 1, 2] Cert.DownModRefIdeal.Facts₀.bcast_S2x1x1024_S2x2048x1024_0_1_2 gate) (Host.dotGeneral Cert.DownModRefIdeal.dot_S2x2048x2560_S2560x1024_S2x2048x1024_2_0_01_1_n_n none (extf .f32 a Cert.DownModRefIdeal.Facts₀.bitsLt_bf16_f32) (extf .f32 w Cert.DownModRefIdeal.Facts₀.bitsLt_bf16_f32))))) (constant Cert.DownModRefIdeal.S_ .f32 0x00000000#32) Cert.DownModRefIdeal.Facts₀.reducesTo_S2x2048x1024_S2x2048_d2 Cert.DownModRefIdeal.Facts₀.h_S_)) (broadcastInDim Cert.DownModRefIdeal.S2x2048x1 ![] Cert.DownModRefIdeal.Facts₀.bcast_S_S2x2048x1 (constant Cert.DownModRefIdeal.S_ .f32 0x44800000#32))) (broadcastInDim Cert.DownModRefIdeal.S2x2048x1 ![] Cert.DownModRefIdeal.Facts₀.bcast_S_S2x2048x1 (constant Cert.DownModRefIdeal.S_ .f32 0x358637BD#32)))))) (broadcastInDim Cert.DownModRefIdeal.S2x2048x1024 ![0, 1, 2] Cert.DownModRefIdeal.Facts₀.bcast_S1x1x1024_S2x2048x1024_0_1_2 (broadcastInDim Cert.DownModRefIdeal.S1x1x1024 ![1, 2] Cert.DownModRefIdeal.Facts₀.bcast_S1x1024_S1x1x1024_1_2 gain))) (broadcastInDim Cert.DownModRefIdeal.S2x2048x1024 ![0, 1, 2] Cert.DownModRefIdeal.Facts₀.bcast_S2x1x1024_S2x2048x1024_0_1_2 (addf (broadcastInDim Cert.DownModRefIdeal.S2x1x1024 ![] Cert.DownModRefIdeal.Facts₀.bcast_S_S2x1x1024 (constant Cert.DownModRefIdeal.S_ .f32 0x3F800000#32)) scale))) (broadcastInDim Cert.DownModRefIdeal.S2x2048x1024 ![0, 1, 2] Cert.DownModRefIdeal.Facts₀.bcast_S2x1x1024_S2x2048x1024_0_1_2 shift)) Cert.DownModRefIdeal.Facts₀.bitsLt_bf16_f32
      = tokens (modulated a w h gate shift scale gain) := by
  funext y
  idx_vars y
  pointwise []
  rfl

end Cert.DownModIdeal.Arrays

open Cert.DownModIdeal.Arrays in
/-- Both programs end with the same three arrays. -/
theorem Cert.Proof.productDownMod : Cert.algebraic_DownModIdeal_DownModRefIdeal
    (hDownModIdeal := Cert.DownModIdeal.Gen.facts) (hDownModRefIdeal := Cert.DownModRefIdeal.Gen.facts) := by
  intro m g m' g' _ hm
  refine ⟨fun c => tokens (φ := .bf16) (product (act m c) (weight m c)), fun c => tokens (φ := .f32) (residual (act m c) (weight m c) (res m c) (gate m c)),
    fun c => tokens (φ := .bf16) (modulated (act m c) (weight m c) (res m c) (gate m c) (shift m c) (scale m c) (gain m c)), ?_, ?_⟩
  · exact (θ_run Cert.DownModIdeal.defs _ _).mono
      (fun r h c => ⟨(h c).1.trans (arr7 m c), (h c).2.1.trans (arr8 m c), (h c).2.2.1.trans (arr9 m c), (h c).2.2.2⟩) (Cert.DownModIdeal.Value.run_blocks m g)
  · refine (θ_run Cert.DownModRefIdeal.defs _ _).mono (fun r h c => ?_) (Cert.DownModRefIdeal.Value.run m' g')
    obtain ⟨e0, e1, e2, e3, e4, e5, e6⟩ := hm c
    obtain ⟨p, q, s, k⟩ := h c
    refine ⟨p.trans ?_, q.trans ?_, s.trans ?_, k⟩
    · rw [e0, e1]
      exact ref_product _ _
    · rw [e0, e1, e2, e3]
      exact ref_residual _ _ _ _
    · rw [e0, e1, e2, e3, e4, e5, e6]
      exact ref_modulated _ _ _ _ _ _ _

open Cert.DownModRefIdeal in
/-- The reference keeps its arguments; it has no counters. -/
theorem Cert.Proof.keepsDownMod : Cert.quiescent_DownModRefIdeal (hDownModRefIdeal := Gen.facts) := fun m ρ _ =>
  (θ_run defs _ _).mono (fun r h => ⟨fun c => (h c).2.2.2, sem_eq_zero_of_no_sems (by decide) r.2⟩) (Value.run m ρ)

end
-- ==== Proof.ModulateGrad.lean ====
/-
  The gradient of a residual line followed by a normalised and modulated row, over the extended reals: what reaches the row, and the sums over the
  tokens that reach the gate, the gain, the shift and the scale; and a sum over tokens taken in blocks of 512.
-/
module

public import proofs.«01_k».proof.Proof.Modulate

@[expose] public section

noncomputable section

open Idealize.ShloMosaic Idealize.ShloMosaic.TcCoe

namespace Cert.Modulate

/-- A row's mean square, and its derivative's factor: what the root of the mean square hands back to every lane. -/
def square (x : Fin 1024 → EReal) : EReal := Ideal.div (∑ i, x i * x i) width + eps
def pull (x g : Fin 1024 → EReal) : EReal :=
  Ideal.div ((∑ i, x i * g i) * (Ideal.ofBits .f32 0xBF000000#32 * Ideal.div (inv x) (square x))) width

/-- What reaches the lanes of a row `x`: `g` through the normalisation, `d` directly. -/
def back (x g d : Fin 1024 → EReal) : Fin 1024 → EReal := fun j => d j + g j * inv x + x j * pull x g + pull x g * x j

variable (h d : FVec Ideal ⟨3, ![2, 2048, 1024]⟩ .f32) (y n : FVec Ideal ⟨3, ![2, 2048, 1024]⟩ .bf16)
variable (gate scale : FVec Ideal ⟨3, ![2, 1, 1024]⟩ .f32) (gain : FVec Ideal ⟨2, ![1, 1024]⟩ .f32)

/-- A token's row after the residual line. -/
def row (e : Fin 2) (t : Fin 2048) : Fin 1024 → EReal := fun j => h (ix3 e t j) + gate (ix3 e (0 : Fin 1) j) * y (ix3 e t j)

/-- The gradients of the row, and of what the gate multiplies. -/
def dres (e : Fin 2) (t : Fin 2048) : Fin 1024 → EReal :=
  back (row h y gate e t) (fun j => n (ix3 e t j) * (1 + scale (ix3 e (0 : Fin 1) j)) * gain (ix2 (0 : Fin 1) j)) (fun j => d (ix3 e t j))
def dgated (e : Fin 2) (t : Fin 2048) : Fin 1024 → EReal := fun j => gate (ix3 e (0 : Fin 1) j) * dres h d y n gate scale gain e t j

/-- A token's terms in the gradients of the gate, the gain, the shift and the scale. -/
def tgate (e : Fin 2) (t : Fin 2048) : Fin 1024 → EReal := fun j => dres h d y n gate scale gain e t j * y (ix3 e t j)
def tgain (e : Fin 2) (t : Fin 2048) : Fin 1024 → EReal := fun j =>
  row h y gate e t j * inv (row h y gate e t) * (n (ix3 e t j) * (1 + scale (ix3 e (0 : Fin 1) j)))
def tshift (e : Fin 2) (t : Fin 2048) : Fin 1024 → EReal := fun j => n (ix3 e t j)
def tscale (e : Fin 2) (t : Fin 2048) : Fin 1024 → EReal := fun j =>
  row h y gate e t j * inv (row h y gate e t) * gain (ix2 (0 : Fin 1) j) * n (ix3 e t j)

/-- The same for the normalisation of the rows `h` themselves: the rows' gradient, and a token's terms in those of the gain and of the scale. -/
def mres (e : Fin 2) (t : Fin 2048) : Fin 1024 → EReal :=
  back (fun j => h (ix3 e t j)) (fun j => n (ix3 e t j) * (1 + scale (ix3 e (0 : Fin 1) j)) * gain (ix2 (0 : Fin 1) j)) (fun j => d (ix3 e t j))
def mgain (e : Fin 2) (t : Fin 2048) : Fin 1024 → EReal := fun j =>
  h (ix3 e t j) * inv (fun i => h (ix3 e t i)) * (n (ix3 e t j) * (1 + scale (ix3 e (0 : Fin 1) j)))
def mscale (e : Fin 2) (t : Fin 2048) : Fin 1024 → EReal := fun j =>
  h (ix3 e t j) * inv (fun i => h (ix3 e t i)) * gain (ix2 (0 : Fin 1) j) * n (ix3 e t j)

/-- The latent tokens of a sequence that starts with 256 context tokens. -/
def late (a : FVec Ideal ⟨3, ![2, 2304, 1024]⟩ .bf16) : FVec Ideal ⟨3, ![2, 2048, 1024]⟩ .bf16 :=
  fun z => a (ix3 (n0 := 2) (z 0) (⟨256 + (z 1).val, by have : (z 1).val < 2048 := (z 1).isLt; omega⟩ : Fin 2304) (z 2))

/-- Sums over an example's tokens, and over all tokens. -/
def each (f : Fin 2 → Fin 2048 → Fin 1024 → EReal) : FVec Ideal ⟨3, ![2, 1, 1024]⟩ .f32 := fun z => ∑ t, f (z 0) t (z 2)
def all (f : Fin 2 → Fin 2048 → Fin 1024 → EReal) : FVec Ideal ⟨2, ![1, 1024]⟩ .f32 := fun z => ∑ e, ∑ t, f e t (z 1)

/-- The term of a row, of the 4096 rows of both examples. -/
def term (f : Fin 2 → Fin 2048 → Fin 1024 → EReal) (j : Fin 1024) (k : ℕ) : EReal :=
  if hk : k < 4096 then f ⟨k / 2048, by omega⟩ ⟨k % 2048, by omega⟩ j else 0

variable (f : Fin 2 → Fin 2048 → Fin 1024 → EReal) (j : Fin 1024)

theorem sum_each (e : Fin 2) : ∑ k ∈ Finset.range 2048, term f j (2048 * e.val + k) = ∑ t, f e t j := by
  rw [Finset.sum_range]
  refine Finset.sum_congr rfl fun t _ => ?_
  have he : e.val < 2 := e.isLt
  rw [term, dif_pos (by omega)]
  exact congrArg₂ (fun u v => f u v j) (Fin.ext (by dsimp only; omega)) (Fin.ext (by dsimp only; omega))

theorem sum_all : ∑ k ∈ Finset.range 4096, term f j k = ∑ e, ∑ t, f e t j := by
  rw [show 4096 = 2048 + 2048 from rfl, Finset.sum_range_add, Fin.sum_univ_two, ← sum_each f j 0, ← sum_each f j 1]
  simp only [Fin.val_zero, Fin.val_one, Nat.mul_zero, Nat.zero_add, Nat.mul_one]

/-- The sum over a block of 512 rows. -/
theorem sum_block (t : ℕ) (ht : t < 8) (g : Fin 512 → EReal)
    (hg : ∀ r : Fin 512, g r = f ⟨t / 4, by omega⟩ ⟨512 * (t % 4) + r.val, by omega⟩ j) :
    ∑ r, g r = ∑ k ∈ Finset.range 512, term f j (512 * t + k) := by
  rw [Finset.sum_range]
  refine Finset.sum_congr rfl fun r _ => ?_
  rw [hg, term, dif_pos (by omega)]
  exact congrArg₂ (fun u v => f u v j) (Fin.ext (by dsimp only; omega)) (Fin.ext (by dsimp only; omega))

/-- Blocks summed from the first one of an example, and from the first of all. -/
theorem sweep_each (N : ℕ) (hN : N = 8) (acc : (n : ℕ) → n < N → EReal)
    (h0 : ∀ n hn, n % 4 = 0 → acc n hn = ∑ k ∈ Finset.range 512, term f j (512 * n + k))
    (h1 : ∀ n (hn : n < N), ¬n % 4 = 0 → acc n hn = acc (n - 1) (Nat.lt_of_le_of_lt (Nat.sub_le _ _) hn) + ∑ k ∈ Finset.range 512, term f j (512 * n + k))
    (n : ℕ) (hn : n < N) : acc n hn = ∑ k ∈ Finset.range (512 * (n % 4 + 1)), term f j (2048 * (n / 4) + k) := by
  induction n with
  | zero => exact h0 0 hn rfl
  | succ n ih =>
    by_cases hz : (n + 1) % 4 = 0
    · rw [h0 _ hn hz, hz]
      refine Finset.sum_congr rfl fun k _ => congrArg (term f j) ?_
      omega
    · rw [h1 _ hn hz, show 512 * ((n + 1) % 4 + 1) = 512 * (n % 4 + 1) + 512 by omega, Finset.sum_range_add]
      refine congrArg₂ (fun u v : EReal => u + v) ?_ ?_
      · refine (ih (by omega)).trans (Finset.sum_congr rfl fun k _ => congrArg (term f j) ?_)
        omega
      · refine Finset.sum_congr rfl fun k _ => congrArg (term f j) ?_
        omega

theorem sweep_all (N : ℕ) (acc : (n : ℕ) → n < N → EReal)
    (h0 : ∀ hn, acc 0 hn = ∑ k ∈ Finset.range 512, term f j (512 * 0 + k))
    (h1 : ∀ n (hn : n < N), 1 ≤ n → acc n hn = acc (n - 1) (Nat.lt_of_le_of_lt (Nat.sub_le _ _) hn) + ∑ k ∈ Finset.range 512, term f j (512 * n + k))
    (n : ℕ) (hn : n < N) : acc n hn = ∑ k ∈ Finset.range (512 * (n + 1)), term f j k := by
  induction n with
  | zero =>
    rw [h0]
    simp only [Nat.mul_zero, Nat.zero_add, Nat.mul_one]
  | succ n ih =>
    rw [h1 _ hn (by omega), Nat.mul_succ 512 (n + 1), Finset.sum_range_add]
    exact congrArg (fun u : EReal => u + _) (ih (by omega))

/-- The sum over a block of 256 rows. -/
theorem sum_half (t : ℕ) (ht : t < 16) (g : Fin 256 → EReal)
    (hg : ∀ r : Fin 256, g r = f ⟨t / 8, by omega⟩ ⟨256 * (t % 8) + r.val, by omega⟩ j) :
    ∑ r, g r = ∑ k ∈ Finset.range 256, term f j (256 * t + k) := by
  rw [Finset.sum_range]
  refine Finset.sum_congr rfl fun r _ => ?_
  rw [hg, term, dif_pos (by omega)]
  exact congrArg₂ (fun u v => f u v j) (Fin.ext (by dsimp only; omega)) (Fin.ext (by dsimp only; omega))

/-- Such blocks summed from the first one of an example, and from the first of all. -/
theorem half_each (N : ℕ) (hN : N = 16) (acc : (n : ℕ) → n < N → EReal)
    (h0 : ∀ n hn, n % 8 = 0 → acc n hn = ∑ k ∈ Finset.range 256, term f j (256 * n + k))
    (h1 : ∀ n (hn : n < N), ¬n % 8 = 0 → acc n hn = acc (n - 1) (Nat.lt_of_le_of_lt (Nat.sub_le _ _) hn) + ∑ k ∈ Finset.range 256, term f j (256 * n + k))
    (n : ℕ) (hn : n < N) : acc n hn = ∑ k ∈ Finset.range (256 * (n % 8 + 1)), term f j (2048 * (n / 8) + k) := by
  induction n with
  | zero => exact h0 0 hn rfl
  | succ n ih =>
    by_cases hz : (n + 1) % 8 = 0
    · rw [h0 _ hn hz, hz]
      refine Finset.sum_congr rfl fun k _ => congrArg (term f j) ?_
      omega
    · rw [h1 _ hn hz, show 256 * ((n + 1) % 8 + 1) = 256 * (n % 8 + 1) + 256 by omega, Finset.sum_range_add]
      refine congrArg₂ (fun u v : EReal => u + v) ?_ ?_
      · refine (ih (by omega)).trans (Finset.sum_congr rfl fun k _ => congrArg (term f j) ?_)
        omega
      · refine Finset.sum_congr rfl fun k _ => congrArg (term f j) ?_
        omega

theorem half_all (N : ℕ) (acc : (n : ℕ) → n < N → EReal)
    (h0 : ∀ hn, acc 0 hn = ∑ k ∈ Finset.range 256, term f j (256 * 0 + k))
    (h1 : ∀ n (hn : n < N), 1 ≤ n → acc n hn = acc (n - 1) (Nat.lt_of_le_of_lt (Nat.sub_le _ _) hn) + ∑ k ∈ Finset.range 256, term f j (256 * n + k))
    (n : ℕ) (hn : n < N) : acc n hn = ∑ k ∈ Finset.range (256 * (n + 1)), term f j k := by
  induction n with
  | zero =>
    rw [h0]
    simp only [Nat.mul_zero, Nat.zero_add, Nat.mul_one]
  | succ n ih =>
    rw [h1 _ hn (by omega), Nat.mul_succ 256 (n + 1), Finset.sum_range_add]
    exact congrArg (fun u : EReal => u + _) (ih (by omega))

/-- The sum over the first two axes of an array, at a lane. -/
theorem sum_lane {a b w : ℕ} (h : (⟨3, ![a, b, w]⟩ : Shape).ReducesTo [0, 1] ⟨1, ![w]⟩) (v : (⟨3, ![a, b, w]⟩ : Shape).Idx → EReal) (z : EReal) (k : Fin w) :
    Ideal.hostReduceAdd h v z (ix1 k) = z + ∑ i : Fin a, ∑ l : Fin b, v (ix3 i l k) := by
  rw [← Fintype.sum_prod_type' (fun i l => v (ix3 i l k))]
  refine congrArg (z + ·) (Finset.sum_filter_eq_sum_of_fiber _ (fun p : Fin a × Fin b => ix3 p.1 p.2 k) (fun p q e => ?_) (fun i => ?_) v)
  · exact Prod.ext (congrFun e 0) (congrFun e 1)
  · constructor
    · intro e
      refine ⟨(i 0, i 1), ?_⟩
      funext x
      apply Fin.ext
      fin_cases x
      · rfl
      · rfl
      · exact (congrArg Fin.val (congrFun e 0)).symm
    · rintro ⟨p, rfl⟩
      funext x
      fin_cases x
      rfl

end Cert.Modulate

end
-- ==== Proof.ResModBwdValue.lean ====
/-
  The gradient of the residual line and of the modulated normalisation after it: the kernel's six arrays and the reference's are equal.
-/
module

public import proofs.«01_k».proof.Defs
public import proofs.«01_k».proof.Proof.Gen.ResModBwdIdeal.Value
public import proofs.«01_k».proof.Proof.Gen.ResModBwdRefIdeal.Run
public import proofs.«01_k».proof.Proof.ModulateGrad
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Modulate

namespace Cert.ResModBwdIdeal.Arrays

open Cert.ResModBwdIdeal Cert.ResModBwdIdeal.Gen

variable (m : (ℓ : Loc nD τ sig) → Buf (Elt Ideal) ℓ) (c : Dev nD)

abbrev res : FVec Ideal S2x2048x1024 .f32 := m ((c : Thread nD τ).loc main_arg0)
abbrev branch : FVec Ideal S2x2048x1024 .bf16 := m ((c : Thread nD τ).loc main_arg1)
abbrev gate : FVec Ideal S2x1x1024 .f32 := m ((c : Thread nD τ).loc main_arg2)
abbrev gain : FVec Ideal S1x1024 .f32 := m ((c : Thread nD τ).loc main_arg3)
abbrev shift : FVec Ideal S2x1x1024 .f32 := m ((c : Thread nD τ).loc main_arg4)
abbrev scale : FVec Ideal S2x1x1024 .f32 := m ((c : Thread nD τ).loc main_arg5)
abbrev dres1 : FVec Ideal S2x2048x1024 .f32 := m ((c : Thread nD τ).loc main_arg6)
abbrev dnext : FVec Ideal S2x2048x1024 .bf16 := m ((c : Thread nD τ).loc main_arg7)

theorem idx : ∀ t : Fin cfg0.N, win0_0.index t = ![t.val / 4, t.val % 4, 0] ∧ win0_1.index t = ![t.val / 4, t.val % 4, 0] ∧ win0_2.index t = ![t.val / 4, 0, 0] ∧ win0_3.index t = ![0, 0] ∧ win0_4.index t = ![t.val / 4, 0, 0] ∧ win0_5.index t = ![t.val / 4, 0, 0] ∧ win0_6.index t = ![t.val / 4, t.val % 4, 0] ∧ win0_7.index t = ![t.val / 4, t.val % 4, 0] ∧ win0_8.index t = ![t.val / 4, t.val % 4, 0] ∧ win0_9.index t = ![t.val / 4, t.val % 4, 0] ∧ win0_10.index t = ![t.val / 4, 0, 0] ∧ win0_11.index t = ![0, 0] ∧ win0_12.index t = ![t.val / 4, 0, 0] ∧ win0_13.index t = ![t.val / 4, 0, 0] :=
  (by decide +kernel : ∀ t : Fin grid0.N, _)

theorem lt (t : Fin cfg0.N) : t.val < 8 := lt_of_lt_of_eq t.isLt N_0

/-- The example and the token of a grid point's row. -/
def exOf (t : Fin cfg0.N) : Fin 2 := ⟨t.val / 4, by have := lt t; omega⟩
def tokOf (t : Fin cfg0.N) (r : Fin 512) : Fin 2048 := ⟨512 * (t.val % 4) + r.val, by omega⟩

theorem x0_at (t : Fin cfg0.N) (r : Fin 512) (k : Fin 1024) : iblk m c 0 t (ix3 (0 : Fin 1) r k) = res m c (ix3 (exOf t) (tokOf t r) k) := by
  have ht := lt t
  blk_ext [iblk, V, idx t, exOf, tokOf]

theorem x1_at (t : Fin cfg0.N) (r : Fin 512) (k : Fin 1024) : iblk m c 1 t (ix3 (0 : Fin 1) r k) = branch m c (ix3 (exOf t) (tokOf t r) k) := by
  have ht := lt t
  blk_ext [iblk, V, idx t, exOf, tokOf]

theorem x2_at (t : Fin cfg0.N) (k : Fin 1024) : iblk m c 2 t (ix3 (0 : Fin 1) (0 : Fin 1) k) = gate m c (ix3 (exOf t) (0 : Fin 1) k) := by
  have ht := lt t
  blk_ext [iblk, V, idx t, exOf, tokOf]

theorem x3_at (t : Fin cfg0.N) (k : Fin 1024) : iblk m c 3 t (ix2 (0 : Fin 1) k) = gain m c (ix2 (0 : Fin 1) k) := by
  have ht := lt t
  blk_ext [iblk, V, idx t, exOf, tokOf]

theorem x4_at (t : Fin cfg0.N) (k : Fin 1024) : iblk m c 4 t (ix3 (0 : Fin 1) (0 : Fin 1) k) = shift m c (ix3 (exOf t) (0 : Fin 1) k) := by
  have ht := lt t
  blk_ext [iblk, V, idx t, exOf, tokOf]

theorem x5_at (t : Fin cfg0.N) (k : Fin 1024) : iblk m c 5 t (ix3 (0 : Fin 1) (0 : Fin 1) k) = scale m c (ix3 (exOf t) (0 : Fin 1) k) := by
  have ht := lt t
  blk_ext [iblk, V, idx t, exOf, tokOf]

theorem x6_at (t : Fin cfg0.N) (r : Fin 512) (k : Fin 1024) : iblk m c 6 t (ix3 (0 : Fin 1) r k) = dres1 m c (ix3 (exOf t) (tokOf t r) k) := by
  have ht := lt t
  blk_ext [iblk, V, idx t, exOf, tokOf]

theorem x7_at (t : Fin cfg0.N) (r : Fin 512) (k : Fin 1024) : iblk m c 7 t (ix3 (0 : Fin 1) r k) = dnext m c (ix3 (exOf t) (tokOf t r) k) := by
  have ht := lt t
  blk_ext [iblk, V, idx t, exOf, tokOf]

/-- The terms of the gradients of the gate, the gain, the shift and the scale. -/
abbrev gateF : Fin 2 → Fin 2048 → Fin 1024 → EReal := tgate (res m c) (dres1 m c) (branch m c) (dnext m c) (gate m c) (scale m c) (gain m c)
abbrev gainF : Fin 2 → Fin 2048 → Fin 1024 → EReal := tgain (res m c) (branch m c) (dnext m c) (gate m c) (scale m c)
abbrev shiftF : Fin 2 → Fin 2048 → Fin 1024 → EReal := tshift (dnext m c)
abbrev scaleF : Fin 2 → Fin 2048 → Fin 1024 → EReal := tscale (res m c) (branch m c) (dnext m c) (gate m c) (gain m c)

theorem out8_at (t : Fin cfg0.N) (r : Fin 512) (j : Fin 1024) :
    (outsAt0 m c t.val t.isLt).1 (ix3 (0 : Fin 1) r j) = dres (res m c) (dres1 m c) (branch m c) (dnext m c) (gate m c) (scale m c) (gain m c) (exOf t) (tokOf t r) j := by
  have ht := lt t
  by_cases h : t.val % 4 = 0
  · by_cases h' : t.val = 0
    · rw [outsAt0_A m c t (by omega) (by omega) (by omega) (by omega) (by omega) (by omega) (by omega) (by omega)]
      dsimp only
      unfold out0_A_8
      frame_open
      try simp (disch := decide) only [↓ View.readCov_skip, ↓ View.readCov_cons_toLoadRect, ↓ View.readCov_fill]
      frame_out
      try simp only [read_unread_whole]
      pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [x0_at, x1_at, x2_at, x3_at, x4_at, x5_at, x6_at, x7_at, Fin.sum_univ_one]
      rfl
    · rw [outsAt0_C m c t (by omega) (by omega) (by omega) (by omega) (by omega) (by omega) (by omega) (by omega)]
      dsimp only
      unfold out0_C_8
      frame_open
      try simp (disch := decide) only [↓ View.readCov_skip, ↓ View.readCov_cons_toLoadRect, ↓ View.readCov_fill]
      frame_out
      try simp only [read_unread_whole]
      pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [x0_at, x1_at, x2_at, x3_at, x4_at, x5_at, x6_at, x7_at, Fin.sum_univ_one]
      rfl
  · rw [outsAt0_B m c t (by omega) (by omega) (by omega) (by omega) (by omega) (by omega) (by omega) (by omega)]
    dsimp only
    unfold out0_B_8
    frame_open
    try simp (disch := decide) only [↓ View.readCov_skip, ↓ View.readCov_cons_toLoadRect, ↓ View.readCov_fill]
    frame_out
    try simp only [read_unread_whole]
    pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, x6_at, x7_at, Fin.sum_univ_one]
    rfl

theorem out9_at (t : Fin cfg0.N) (r : Fin 512) (j : Fin 1024) :
    (outsAt0 m c t.val t.isLt).2.1 (ix3 (0 : Fin 1) r j) = dgated (res m c) (dres1 m c) (branch m c) (dnext m c) (gate m c) (scale m c) (gain m c) (exOf t) (tokOf t r) j := by
  have ht := lt t
  by_cases h : t.val % 4 = 0
  · by_cases h' : t.val = 0
    · rw [outsAt0_A m c t (by omega) (by omega) (by omega) (by omega) (by omega) (by omega) (by omega) (by omega)]
      dsimp only
      unfold out0_A_9
      frame_open
      try simp (disch := decide) only [↓ View.readCov_skip, ↓ View.readCov_cons_toLoadRect, ↓ View.readCov_fill]
      frame_out
      try simp only [read_unread_whole]
      pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [x0_at, x1_at, x2_at, x3_at, x4_at, x5_at, x6_at, x7_at, Fin.sum_univ_one]
      rfl
    · rw [outsAt0_C m c t (by omega) (by omega) (by omega) (by omega) (by omega) (by omega) (by omega) (by omega)]
      dsimp only
      unfold out0_C_9
      frame_open
      try simp (disch := decide) only [↓ View.readCov_skip, ↓ View.readCov_cons_toLoadRect, ↓ View.readCov_fill]
      frame_out
      try simp only [read_unread_whole]
      pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [x0_at, x1_at, x2_at, x3_at, x4_at, x5_at, x6_at, x7_at, Fin.sum_univ_one]
      rfl
  · rw [outsAt0_B m c t (by omega) (by omega) (by omega) (by omega) (by omega) (by omega) (by omega) (by omega)]
    dsimp only
    unfold out0_B_9
    frame_open
    try simp (disch := decide) only [↓ View.readCov_skip, ↓ View.readCov_cons_toLoadRect, ↓ View.readCov_fill]
    frame_out
    try simp only [read_unread_whole]
    pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, x6_at, x7_at, Fin.sum_univ_one]
    rfl

theorem start10 (t : Fin cfg0.N) (h : t.val % 4 = 0) (j : Fin 1024) :
    (outsAt0 m c t.val t.isLt).2.2.1 (ix3 (0 : Fin 1) (0 : Fin 1) j) = ∑ r : Fin 512, gateF m c (exOf t) (tokOf t r) j := by
  have ht := lt t
  by_cases h' : t.val = 0
  · rw [outsAt0_A m c t (by omega) (by omega) (by omega) (by omega) (by omega) (by omega) (by omega) (by omega)]
    dsimp only
    unfold out0_A_10
    frame_open
    try simp (disch := decide) only [↓ View.readCov_skip, ↓ View.readCov_cons_toLoadRect, ↓ View.readCov_fill]
    frame_out
    try simp only [read_unread_whole]
    pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, x6_at, x7_at, Fin.sum_univ_one]
    rfl
  · rw [outsAt0_C m c t (by omega) (by omega) (by omega) (by omega) (by omega) (by omega) (by omega) (by omega)]
    dsimp only
    unfold out0_C_10
    frame_open
    try simp (disch := decide) only [↓ View.readCov_skip, ↓ View.readCov_cons_toLoadRect, ↓ View.readCov_fill]
    frame_out
    try simp only [read_unread_whole]
    pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, x6_at, x7_at, Fin.sum_univ_one]
    rfl

theorem step10 (t : Fin cfg0.N) (h : t.val % 4 ≠ 0) (j : Fin 1024) :
    (outsAt0 m c t.val t.isLt).2.2.1 (ix3 (0 : Fin 1) (0 : Fin 1) j)
      = (outsAt0 m c (t.val - 1) (lt_of_le_of_lt (Nat.sub_le _ _) t.isLt)).2.2.1 (ix3 (0 : Fin 1) (0 : Fin 1) j) + ∑ r : Fin 512, gateF m c (exOf t) (tokOf t r) j := by
  have ht := lt t
  rw [outsAt0_B m c t (by omega) (by omega) (by omega) (by omega) (by omega) (by omega) (by omega) (by omega)]
  dsimp only
  unfold out0_B_10
  frame_open
  try simp (disch := decide) only [↓ View.readCov_skip, ↓ View.readCov_cons_toLoadRect, ↓ View.readCov_fill]
  frame_out
  try simp only [read_unread_whole]
  pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [x0_at, x1_at, x2_at, x3_at, x4_at, x5_at, x6_at, x7_at, Fin.sum_univ_one]
  rfl

theorem start11 (t : Fin cfg0.N) (h : t.val = 0) (j : Fin 1024) :
    (outsAt0 m c t.val t.isLt).2.2.2.1 (ix2 (0 : Fin 1) j) = ∑ r : Fin 512, gainF m c (exOf t) (tokOf t r) j := by
  have ht := lt t
  rw [outsAt0_A m c t (by omega) (by omega) (by omega) (by omega) (by omega) (by omega) (by omega) (by omega)]
  dsimp only
  unfold out0_A_11
  frame_open
  try simp (disch := decide) only [↓ View.readCov_skip, ↓ View.readCov_cons_toLoadRect, ↓ View.readCov_fill]
  frame_out
  try simp only [read_unread_whole]
  pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [x0_at, x1_at, x2_at, x3_at, x4_at, x5_at, x6_at, x7_at, Fin.sum_univ_one]
  rfl

theorem step11 (t : Fin cfg0.N) (h : t.val ≠ 0) (j : Fin 1024) :
    (outsAt0 m c t.val t.isLt).2.2.2.1 (ix2 (0 : Fin 1) j)
      = (outsAt0 m c (t.val - 1) (lt_of_le_of_lt (Nat.sub_le _ _) t.isLt)).2.2.2.1 (ix2 (0 : Fin 1) j) + ∑ r : Fin 512, gainF m c (exOf t) (tokOf t r) j := by
  have ht := lt t
  by_cases h' : t.val % 4 = 0
  · rw [outsAt0_C m c t (by omega) (by omega) (by omega) (by omega) (by omega) (by omega) (by omega) (by omega)]
    dsimp only
    unfold out0_C_11
    frame_open
    try simp (disch := decide) only [↓ View.readCov_skip, ↓ View.readCov_cons_toLoadRect, ↓ View.readCov_fill]
    frame_out
    try simp only [read_unread_whole]
    pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, x6_at, x7_at, Fin.sum_univ_one]
    rfl
  · rw [outsAt0_B m c t (by omega) (by omega) (by omega) (by omega) (by omega) (by omega) (by omega) (by omega)]
    dsimp only
    unfold out0_B_11
    frame_open
    try simp (disch := decide) only [↓ View.readCov_skip, ↓ View.readCov_cons_toLoadRect, ↓ View.readCov_fill]
    frame_out
    try simp only [read_unread_whole]
    pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, x6_at, x7_at, Fin.sum_univ_one]
    rfl

theorem start12 (t : Fin cfg0.N) (h : t.val % 4 = 0) (j : Fin 1024) :
    (outsAt0 m c t.val t.isLt).2.2.2.2.1 (ix3 (0 : Fin 1) (0 : Fin 1) j) = ∑ r : Fin 512, shiftF m c (exOf t) (tokOf t r) j := by
  have ht := lt t
  by_cases h' : t.val = 0
  · rw [outsAt0_A m c t (by omega) (by omega) (by omega) (by omega) (by omega) (by omega) (by omega) (by omega)]
    dsimp only
    unfold out0_A_12
    frame_open
    try simp (disch := decide) only [↓ View.readCov_skip, ↓ View.readCov_cons_toLoadRect, ↓ View.readCov_fill]
    frame_out
    try simp only [read_unread_whole]
    pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, x6_at, x7_at, Fin.sum_univ_one]
    rfl
  · rw [outsAt0_C m c t (by omega) (by omega) (by omega) (by omega) (by omega) (by omega) (by omega) (by omega)]
    dsimp only
    unfold out0_C_12
    frame_open
    try simp (disch := decide) only [↓ View.readCov_skip, ↓ View.readCov_cons_toLoadRect, ↓ View.readCov_fill]
    frame_out
    try simp only [read_unread_whole]
    pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, x6_at, x7_at, Fin.sum_univ_one]
    rfl

theorem step12 (t : Fin cfg0.N) (h : t.val % 4 ≠ 0) (j : Fin 1024) :
    (outsAt0 m c t.val t.isLt).2.2.2.2.1 (ix3 (0 : Fin 1) (0 : Fin 1) j)
      = (outsAt0 m c (t.val - 1) (lt_of_le_of_lt (Nat.sub_le _ _) t.isLt)).2.2.2.2.1 (ix3 (0 : Fin 1) (0 : Fin 1) j) + ∑ r : Fin 512, shiftF m c (exOf t) (tokOf t r) j := by
  have ht := lt t
  rw [outsAt0_B m c t (by omega) (by omega) (by omega) (by omega) (by omega) (by omega) (by omega) (by omega)]
  dsimp only
  unfold out0_B_12
  frame_open
  try simp (disch := decide) only [↓ View.readCov_skip, ↓ View.readCov_cons_toLoadRect, ↓ View.readCov_fill]
  frame_out
  try simp only [read_unread_whole]
  pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [x0_at, x1_at, x2_at, x3_at, x4_at, x5_at, x6_at, x7_at, Fin.sum_univ_one]
  rfl

theorem start13 (t : Fin cfg0.N) (h : t.val % 4 = 0) (j : Fin 1024) :
    (outsAt0 m c t.val t.isLt).2.2.2.2.2 (ix3 (0 : Fin 1) (0 : Fin 1) j) = ∑ r : Fin 512, scaleF m c (exOf t) (tokOf t r) j := by
  have ht := lt t
  by_cases h' : t.val = 0
  · rw [outsAt0_A m c t (by omega) (by omega) (by omega) (by omega) (by omega) (by omega) (by omega) (by omega)]
    dsimp only
    unfold out0_A_13
    frame_open
    try simp (disch := decide) only [↓ View.readCov_skip, ↓ View.readCov_cons_toLoadRect, ↓ View.readCov_fill]
    frame_out
    try simp only [read_unread_whole]
    pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, x6_at, x7_at, Fin.sum_univ_one]
    rfl
  · rw [outsAt0_C m c t (by omega) (by omega) (by omega) (by omega) (by omega) (by omega) (by omega) (by omega)]
    dsimp only
    unfold out0_C_13
    frame_open
    try simp (disch := decide) only [↓ View.readCov_skip, ↓ View.readCov_cons_toLoadRect, ↓ View.readCov_fill]
    frame_out
    try simp only [read_unread_whole]
    pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, x6_at, x7_at, Fin.sum_univ_one]
    rfl

theorem step13 (t : Fin cfg0.N) (h : t.val % 4 ≠ 0) (j : Fin 1024) :
    (outsAt0 m c t.val t.isLt).2.2.2.2.2 (ix3 (0 : Fin 1) (0 : Fin 1) j)
      = (outsAt0 m c (t.val - 1) (lt_of_le_of_lt (Nat.sub_le _ _) t.isLt)).2.2.2.2.2 (ix3 (0 : Fin 1) (0 : Fin 1) j) + ∑ r : Fin 512, scaleF m c (exOf t) (tokOf t r) j := by
  have ht := lt t
  rw [outsAt0_B m c t (by omega) (by omega) (by omega) (by omega) (by omega) (by omega) (by omega) (by omega)]
  dsimp only
  unfold out0_B_13
  frame_open
  try simp (disch := decide) only [↓ View.readCov_skip, ↓ View.readCov_cons_toLoadRect, ↓ View.readCov_fill]
  frame_out
  try simp only [read_unread_whole]
  pointwise [k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [x0_at, x1_at, x2_at, x3_at, x4_at, x5_at, x6_at, x7_at, Fin.sum_univ_one]
  rfl

theorem acc10 (t : Fin cfg0.N) (j : Fin 1024) : (outsAt0 m c t.val t.isLt).2.2.1 (ix3 (0 : Fin 1) (0 : Fin 1) j) = ∑ k ∈ Finset.range (512 * (t.val % 4 + 1)), term (gateF m c) j (2048 * (t.val / 4) + k) :=
  sweep_each (gateF m c) j cfg0.N N_0 (fun n hn => (outsAt0 m c n hn).2.2.1 (ix3 (0 : Fin 1) (0 : Fin 1) j))
    (fun n hn h => (start10 m c ⟨n, hn⟩ h j).trans (sum_block (gateF m c) j n (lt ⟨n, hn⟩) _ fun r => rfl))
    (fun n hn h => (step10 m c ⟨n, hn⟩ h j).trans (congrArg (fun u : EReal => _ + u) (sum_block (gateF m c) j n (lt ⟨n, hn⟩) _ fun r => rfl)))
    t.val t.isLt

theorem acc11 (t : Fin cfg0.N) (j : Fin 1024) : (outsAt0 m c t.val t.isLt).2.2.2.1 (ix2 (0 : Fin 1) j) = ∑ k ∈ Finset.range (512 * (t.val + 1)), term (gainF m c) j k :=
  sweep_all (gainF m c) j cfg0.N (fun n hn => (outsAt0 m c n hn).2.2.2.1 (ix2 (0 : Fin 1) j))
    (fun hn => (start11 m c ⟨0, hn⟩ rfl j).trans (sum_block (gainF m c) j 0 (by omega) _ fun r => rfl))
    (fun n hn h => (step11 m c ⟨n, hn⟩ (Nat.ne_of_gt h) j).trans (congrArg (fun u : EReal => _ + u) (sum_block (gainF m c) j n (lt ⟨n, hn⟩) _ fun r => rfl)))
    t.val t.isLt

theorem acc12 (t : Fin cfg0.N) (j : Fin 1024) : (outsAt0 m c t.val t.isLt).2.2.2.2.1 (ix3 (0 : Fin 1) (0 : Fin 1) j) = ∑ k ∈ Finset.range (512 * (t.val % 4 + 1)), term (shiftF m c) j (2048 * (t.val / 4) + k) :=
  sweep_each (shiftF m c) j cfg0.N N_0 (fun n hn => (outsAt0 m c n hn).2.2.2.2.1 (ix3 (0 : Fin 1) (0 : Fin 1) j))
    (fun n hn h => (start12 m c ⟨n, hn⟩ h j).trans (sum_block (shiftF m c) j n (lt ⟨n, hn⟩) _ fun r => rfl))
    (fun n hn h => (step12 m c ⟨n, hn⟩ h j).trans (congrArg (fun u : EReal => _ + u) (sum_block (shiftF m c) j n (lt ⟨n, hn⟩) _ fun r => rfl)))
    t.val t.isLt

theorem acc13 (t : Fin cfg0.N) (j : Fin 1024) : (outsAt0 m c t.val t.isLt).2.2.2.2.2 (ix3 (0 : Fin 1) (0 : Fin 1) j) = ∑ k ∈ Finset.range (512 * (t.val % 4 + 1)), term (scaleF m c) j (2048 * (t.val / 4) + k) :=
  sweep_each (scaleF m c) j cfg0.N N_0 (fun n hn => (outsAt0 m c n hn).2.2.2.2.2 (ix3 (0 : Fin 1) (0 : Fin 1) j))
    (fun n hn h => (start13 m c ⟨n, hn⟩ h j).trans (sum_block (scaleF m c) j n (lt ⟨n, hn⟩) _ fun r => rfl))
    (fun n hn h => (step13 m c ⟨n, hn⟩ h j).trans (congrArg (fun u : EReal => _ + u) (sum_block (scaleF m c) j n (lt ⟨n, hn⟩) _ fun r => rfl)))
    t.val t.isLt

theorem arr8 : (dats m 0 c).arrAt 8 cfg0.N = tokens (φ := .f32) (dres (res m c) (dres1 m c) (branch m c) (dnext m c) (gate m c) (scale m c) (gain m c)) := by
  refine (dats m 0 c).arrAt_eq_of_covers 8 _ (by decide +kernel) fun t hf y => ?_
  have ht := lt t
  blk_simp
  rw [after0_8]
  idx_vars y
  obtain rfl : y0 = 0 := Subsingleton.elim _ _
  have he : ((View.whole main_v0_0).slice (win0_8.rect t)).emb (ix3 (0 : Fin 1) y1 y2) = ix3 (exOf t) (tokOf t y1) y2 := by
    blk_ext [idx t, exOf, tokOf]
  rw [he]
  exact out8_at m c t y1 y2

theorem arr9 : (dats m 0 c).arrAt 9 cfg0.N = tokens (φ := .bf16) (dgated (res m c) (dres1 m c) (branch m c) (dnext m c) (gate m c) (scale m c) (gain m c)) := by
  refine (dats m 0 c).arrAt_eq_of_covers 9 _ (by decide +kernel) fun t hf y => ?_
  have ht := lt t
  blk_simp
  rw [after0_9]
  idx_vars y
  obtain rfl : y0 = 0 := Subsingleton.elim _ _
  have he : ((View.whole main_v0_1).slice (win0_9.rect t)).emb (ix3 (0 : Fin 1) y1 y2) = ix3 (exOf t) (tokOf t y1) y2 := by
    blk_ext [idx t, exOf, tokOf]
  rw [he]
  exact out9_at m c t y1 y2

theorem arr10 : (dats m 0 c).arrAt 10 cfg0.N = each (gateF m c) := by
  refine (dats m 0 c).arrAt_eq_of_covers 10 _ (by decide +kernel) fun t hf y => ?_
  have ht := lt t
  blk_simp
  rw [after0_10]
  idx_vars y
  obtain rfl : y0 = 0 := Subsingleton.elim _ _
  obtain rfl : y1 = 0 := Subsingleton.elim _ _
  have he : ((View.whole main_v0_2).slice (win0_10.rect t)).emb (ix3 (0 : Fin 1) (0 : Fin 1) y2) = ix3 (exOf t) (0 : Fin 1) y2 := by
    blk_ext [idx t, exOf]
  rw [he, acc10, (flush0_10 t).mp hf]
  exact sum_each (gateF m c) y2 (exOf t)

theorem arr11 : (dats m 0 c).arrAt 11 cfg0.N = all (gainF m c) := by
  refine (dats m 0 c).arrAt_eq_of_covers 11 _ (by decide +kernel) fun t hf y => ?_
  have ht := lt t
  blk_simp
  rw [after0_11]
  idx_vars y
  obtain rfl : y0 = 0 := Subsingleton.elim _ _
  have he : ((View.whole main_v0_3).slice (win0_11.rect t)).emb (ix2 (0 : Fin 1) y1) = ix2 (0 : Fin 1) y1 := by
    blk_ext [idx t]
  rw [he, acc11, show t.val = 7 by have := (flush0_11 t).mp hf; omega]
  exact sum_all (gainF m c) y1

theorem arr12 : (dats m 0 c).arrAt 12 cfg0.N = each (shiftF m c) := by
  refine (dats m 0 c).arrAt_eq_of_covers 12 _ (by decide +kernel) fun t hf y => ?_
  have ht := lt t
  blk_simp
  rw [after0_12]
  idx_vars y
  obtain rfl : y0 = 0 := Subsingleton.elim _ _
  obtain rfl : y1 = 0 := Subsingleton.elim _ _
  have he : ((View.whole main_v0_4).slice (win0_12.rect t)).emb (ix3 (0 : Fin 1) (0 : Fin 1) y2) = ix3 (exOf t) (0 : Fin 1) y2 := by
    blk_ext [idx t, exOf]
  rw [he, acc12, (flush0_12 t).mp hf]
  exact sum_each (shiftF m c) y2 (exOf t)

theorem arr13 : (dats m 0 c).arrAt 13 cfg0.N = each (scaleF m c) := by
  refine (dats m 0 c).arrAt_eq_of_covers 13 _ (by decide +kernel) fun t hf y => ?_
  have ht := lt t
  blk_simp
  rw [after0_13]
  idx_vars y
  obtain rfl : y0 = 0 := Subsingleton.elim _ _
  obtain rfl : y1 = 0 := Subsingleton.elim _ _
  have he : ((View.whole main_v0_5).slice (win0_13.rect t)).emb (ix3 (0 : Fin 1) (0 : Fin 1) y2) = ix3 (exOf t) (0 : Fin 1) y2 := by
    blk_ext [idx t, exOf]
  rw [he, acc13, (flush0_13 t).mp hf]
  exact sum_each (scaleF m c) y2 (exOf t)

end Cert.ResModBwdIdeal.Arrays

namespace Cert.ResModBwdRefIdeal.Arrays

open Facts₀ Value

section

variable (m : (ℓ : Loc nD τ sig) → Buf (Elt Ideal) ℓ) (c : Dev nD)

theorem ref_v55 : res_main_v55 m c = tokens (φ := .f32) (dres (m ((c.tc : Thread nD τ).loc main_arg0)) (m ((c.tc : Thread nD τ).loc main_arg6)) (m ((c.tc : Thread nD τ).loc main_arg1)) (m ((c.tc : Thread nD τ).loc main_arg7)) (m ((c.tc : Thread nD τ).loc main_arg2)) (m ((c.tc : Thread nD τ).loc main_arg5)) (m ((c.tc : Thread nD τ).loc main_arg3))) := by
  unfold res_main_v55
  funext y
  idx_vars y
  pointwise []
  simp only [Fin.sum_univ_one]
  rfl

theorem ref_v62 : res_main_v62 m c = tokens (φ := .bf16) (dgated (m ((c.tc : Thread nD τ).loc main_arg0)) (m ((c.tc : Thread nD τ).loc main_arg6)) (m ((c.tc : Thread nD τ).loc main_arg1)) (m ((c.tc : Thread nD τ).loc main_arg7)) (m ((c.tc : Thread nD τ).loc main_arg2)) (m ((c.tc : Thread nD τ).loc main_arg5)) (m ((c.tc : Thread nD τ).loc main_arg3))) := by
  unfold res_main_v62
  funext y
  idx_vars y
  pointwise []
  simp only [Fin.sum_univ_one]
  rfl

theorem ref_v61 : res_main_v61 m c = each (tgate (m ((c.tc : Thread nD τ).loc main_arg0)) (m ((c.tc : Thread nD τ).loc main_arg6)) (m ((c.tc : Thread nD τ).loc main_arg1)) (m ((c.tc : Thread nD τ).loc main_arg7)) (m ((c.tc : Thread nD τ).loc main_arg2)) (m ((c.tc : Thread nD τ).loc main_arg5)) (m ((c.tc : Thread nD τ).loc main_arg3))) := by
  unfold res_main_v61
  funext y
  idx_vars y
  pointwise []
  simp only [Fin.sum_univ_one]
  rfl

end

variable (h : FVec Ideal S2x2048x1024 .f32) (y n : FVec Ideal S2x2048x1024 .bf16) (gate scale : FVec Ideal S2x1x1024 .f32) (gain : FVec Ideal S1x1024 .f32)

theorem ref_gain : broadcastInDim S1x1024 ![1] bcast_S1024_S1x1024_1 (Host.reduceAdd (shapeCast _ (Host.reduceAdd (mulf (mulf (addf h (mulf (broadcastInDim S2x2048x1024 ![0, 1, 2] bcast_S2x1x1024_S2x2048x1024_0_1_2 gate) (extf .f32 y bitsLt_bf16_f32))) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (addf h (mulf (broadcastInDim S2x2048x1024 ![0, 1, 2] bcast_S2x1x1024_S2x2048x1024_0_1_2 gate) (extf .f32 y bitsLt_bf16_f32))) (addf h (mulf (broadcastInDim S2x2048x1024 ![0, 1, 2] bcast_S2x1x1024_S2x2048x1024_0_1_2 gate) (extf .f32 y bitsLt_bf16_f32)))) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (mulf (extf .f32 n bitsLt_bf16_f32) (broadcastInDim S2x2048x1024 ![0, 1, 2] bcast_S2x1x1024_S2x2048x1024_0_1_2 (addf (broadcastInDim S2x1x1024 ![] bcast_S_S2x1x1024 (constant S_ .f32 0x3F800000#32)) scale)))) (constant S_ .f32 0x00000000#32) reducesTo_S2x2048x1024_S1024_d0_1 h_S_) shapeCasts_S1024_S1x1x1024) (constant S_ .f32 0x00000000#32) reducesTo_S1x1x1024_S1024_d0_1 h_S_)
      = all (tgain h y n gate scale) := by
  funext z
  idx_vars z
  pointwise []
  rw [sum_lane]
  pointwise [sum_lane]
  simp only [Fin.sum_univ_one, zero_add]
  rfl

theorem ref_shift : shapeCast _ (Host.reduceAdd (extf .f32 n bitsLt_bf16_f32) (constant S_ .f32 0x00000000#32) reducesTo_S2x2048x1024_S2x1024_d1 h_S_) shapeCasts_S2x1024_S2x1x1024
      = each (tshift n) := by
  funext z
  idx_vars z
  pointwise []
  rfl

theorem ref_scale : shapeCast _ (Host.reduceAdd (mulf (mulf (mulf (addf h (mulf (broadcastInDim S2x2048x1024 ![0, 1, 2] bcast_S2x1x1024_S2x2048x1024_0_1_2 gate) (extf .f32 y bitsLt_bf16_f32))) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (addf h (mulf (broadcastInDim S2x2048x1024 ![0, 1, 2] bcast_S2x1x1024_S2x2048x1024_0_1_2 gate) (extf .f32 y bitsLt_bf16_f32))) (addf h (mulf (broadcastInDim S2x2048x1024 ![0, 1, 2] bcast_S2x1x1024_S2x2048x1024_0_1_2 gate) (extf .f32 y bitsLt_bf16_f32)))) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![1, 2] bcast_S1x1024_S1x1x1024_1_2 gain))) (extf .f32 n bitsLt_bf16_f32)) (constant S_ .f32 0x00000000#32) reducesTo_S2x2048x1024_S2x1024_d1 h_S_) shapeCasts_S2x1024_S2x1x1024
      = each (tscale h y n gate gain) := by
  funext z
  idx_vars z
  pointwise []
  rfl

end Cert.ResModBwdRefIdeal.Arrays

open Cert.ResModBwdIdeal.Arrays in
/-- Both programs end with the same six arrays. -/
theorem Cert.Proof.productResModBwd : Cert.algebraic_ResModBwdIdeal_ResModBwdRefIdeal
    (hResModBwdIdeal := Cert.ResModBwdIdeal.Gen.facts) (hResModBwdRefIdeal := Cert.ResModBwdRefIdeal.Gen.facts) := by
  intro m g m' g' _ hm
  refine ⟨fun c => tokens (φ := .f32) (dres (res m c) (dres1 m c) (branch m c) (dnext m c) (gate m c) (scale m c) (gain m c)), fun c => tokens (φ := .bf16) (dgated (res m c) (dres1 m c) (branch m c) (dnext m c) (gate m c) (scale m c) (gain m c)), fun c => each (gateF m c), fun c => all (gainF m c), fun c => each (shiftF m c), fun c => each (scaleF m c), ?_, ?_⟩
  · exact (θ_run Cert.ResModBwdIdeal.defs _ _).mono
      (fun r h c => ⟨(h c).1.trans (arr8 m c), (h c).2.1.trans (arr9 m c), (h c).2.2.1.trans (arr10 m c), (h c).2.2.2.1.trans (arr11 m c),
        (h c).2.2.2.2.1.trans (arr12 m c), (h c).2.2.2.2.2.1.trans (arr13 m c), (h c).2.2.2.2.2.2⟩) (Cert.ResModBwdIdeal.Value.run_blocks m g)
  · refine (θ_run Cert.ResModBwdRefIdeal.defs _ _).mono (fun r h c => ?_) (Cert.ResModBwdRefIdeal.Value.run m' g')
    obtain ⟨e0, e1, e2, e3, e4, e5, e6, e7⟩ := hm c
    obtain ⟨p0, p1, p2, p3, p4, p5, k⟩ := h c
    refine ⟨p0.trans ?_, p1.trans ?_, p2.trans ?_, p3.trans ?_, p4.trans ?_, p5.trans ?_, k⟩
    · rw [Cert.ResModBwdRefIdeal.Arrays.ref_v55, e0, e1, e2, e3, e5, e6, e7]
    · rw [Cert.ResModBwdRefIdeal.Arrays.ref_v62, e0, e1, e2, e3, e5, e6, e7]
    · rw [Cert.ResModBwdRefIdeal.Arrays.ref_v61, e0, e1, e2, e3, e5, e6, e7]
    · rw [e0, e1, e2, e5, e7]
      exact Cert.ResModBwdRefIdeal.Arrays.ref_gain _ _ _ _ _
    · rw [e7]
      exact Cert.ResModBwdRefIdeal.Arrays.ref_shift _
    · rw [e0, e1, e2, e3, e7]
      exact Cert.ResModBwdRefIdeal.Arrays.ref_scale _ _ _ _ _

open Cert.ResModBwdRefIdeal in
/-- The reference keeps its arguments; it has no counters. -/
theorem Cert.Proof.keepsResModBwd : Cert.quiescent_ResModBwdRefIdeal (hResModBwdRefIdeal := Gen.facts) := fun m ρ _ =>
  (θ_run defs _ _).mono (fun r h => ⟨fun c => (h c).2.2.2.2.2.2, sem_eq_zero_of_no_sems (by decide) r.2⟩) (Value.run m ρ)

end
-- ==== Proof.ModBwdValue.lean ====
/-
  The gradient of a modulated normalisation and of the residual beside it: the kernel's four arrays and the reference's are equal.
-/
module

public import proofs.«01_k».proof.Defs
public import proofs.«01_k».proof.Proof.Gen.ModBwdIdeal.Value
public import proofs.«01_k».proof.Proof.Gen.ModBwdRefIdeal.Run
public import proofs.«01_k».proof.Proof.ModulateGrad
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Modulate

namespace Cert.ModBwdIdeal.Arrays

open Cert.ModBwdIdeal Cert.ModBwdIdeal.Gen

variable (m : (ℓ : Loc nD τ sig) → Buf (Elt Ideal) ℓ) (c : Dev nD)

abbrev act : FVec Ideal S2x2048x1024 .f32 := m ((c : Thread nD τ).loc main_arg0)
abbrev gain : FVec Ideal S1x1024 .f32 := m ((c : Thread nD τ).loc main_arg1)
abbrev shift : FVec Ideal S2x1x1024 .f32 := m ((c : Thread nD τ).loc main_arg2)
abbrev scale : FVec Ideal S2x1x1024 .f32 := m ((c : Thread nD τ).loc main_arg3)
abbrev dcat : FVec Ideal S2x2304x1024 .bf16 := m ((c : Thread nD τ).loc main_arg4)
abbrev dresid : FVec Ideal S2x2048x1024 .f32 := m ((c : Thread nD τ).loc main_arg5)

theorem idx : ∀ t : Fin cfg0.N, win0_0.index t = ![t.val / 8, t.val % 8, 0] ∧ win0_1.index t = ![0, 0] ∧ win0_2.index t = ![t.val / 8, 0, 0] ∧ win0_3.index t = ![t.val / 8, 0, 0] ∧ win0_4.index t = ![t.val / 8, t.val % 8 + 1, 0] ∧ win0_5.index t = ![t.val / 8, t.val % 8, 0] ∧ win0_6.index t = ![t.val / 8, t.val % 8, 0] ∧ win0_7.index t = ![0, 0] ∧ win0_8.index t = ![t.val / 8, 0, 0] ∧ win0_9.index t = ![t.val / 8, 0, 0] :=
  (by decide +kernel : ∀ t : Fin grid0.N, _)

theorem lt (t : Fin cfg0.N) : t.val < 16 := lt_of_lt_of_eq t.isLt N_0

/-- The example and the token of a grid point's row. -/
def exOf (t : Fin cfg0.N) : Fin 2 := ⟨t.val / 8, by have := lt t; omega⟩
def tokOf (t : Fin cfg0.N) (r : Fin 256) : Fin 2048 := ⟨256 * (t.val % 8) + r.val, by omega⟩

theorem x0_at (t : Fin cfg0.N) (r : Fin 256) (k : Fin 1024) : iblk m c 0 t (ix3 (0 : Fin 1) r k) = act m c (ix3 (exOf t) (tokOf t r) k) := by
  have ht := lt t
  blk_ext [iblk, V, idx t, exOf, tokOf]

theorem x1_at (t : Fin cfg0.N) (k : Fin 1024) : iblk m c 1 t (ix2 (0 : Fin 1) k) = gain m c (ix2 (0 : Fin 1) k) := by
  have ht := lt t
  blk_ext [iblk, V, idx t, exOf, tokOf]

theorem x2_at (t : Fin cfg0.N) (k : Fin 1024) : iblk m c 2 t (ix3 (0 : Fin 1) (0 : Fin 1) k) = shift m c (ix3 (exOf t) (0 : Fin 1) k) := by
  have ht := lt t
  blk_ext [iblk, V, idx t, exOf, tokOf]

theorem x3_at (t : Fin cfg0.N) (k : Fin 1024) : iblk m c 3 t (ix3 (0 : Fin 1) (0 : Fin 1) k) = scale m c (ix3 (exOf t) (0 : Fin 1) k) := by
  have ht := lt t
  blk_ext [iblk, V, idx t, exOf, tokOf]

theorem x4_at (t : Fin cfg0.N) (r : Fin 256) (k : Fin 1024) : iblk m c 4 t (ix3 (0 : Fin 1) r k) = late (dcat m c) (ix3 (exOf t) (tokOf t r) k) := by
  have ht := lt t
  blk_ext [iblk, V, idx t, exOf, tokOf, late]

theorem x5_at (t : Fin cfg0.N) (r : Fin 256) (k : Fin 1024) : iblk m c 5 t (ix3 (0 : Fin 1) r k) = dresid m c (ix3 (exOf t) (tokOf t r) k) := by
  have ht := lt t
  blk_ext [iblk, V, idx t, exOf, tokOf]

/-- The terms of the gradients of the gain, the shift and the scale. -/
abbrev gainF : Fin 2 → Fin 2048 → Fin 1024 → EReal := mgain (act m c) (late (dcat m c)) (scale m c)
abbrev shiftF : Fin 2 → Fin 2048 → Fin 1024 → EReal := tshift (late (dcat m c))
abbrev scaleF : Fin 2 → Fin 2048 → Fin 1024 → EReal := mscale (act m c) (late (dcat m c)) (gain m c)

theorem out6_at (t : Fin cfg0.N) (r : Fin 256) (j : Fin 1024) :
    (outsAt0 m c t.val t.isLt).1 (ix3 (0 : Fin 1) r j) = mres (act m c) (dresid m c) (late (dcat m c)) (scale m c) (gain m c) (exOf t) (tokOf t r) j := by
  have ht := lt t
  by_cases h : t.val % 8 = 0
  · by_cases h' : t.val = 0
    · rw [outsAt0_A m c t (by omega) (by omega) (by omega) (by omega) (by omega) (by omega)]
      dsimp only
      unfold out0_A_6
      frame_open
      try simp (disch := decide) only [↓ View.readCov_skip, ↓ View.readCov_cons_toLoadRect, ↓ View.readCov_fill]
      frame_out
      try simp only [read_unread_whole]
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [x0_at, x1_at, x2_at, x3_at, x4_at, x5_at, Fin.sum_univ_one]
      rfl
    · rw [outsAt0_C m c t (by omega) (by omega) (by omega) (by omega) (by omega) (by omega)]
      dsimp only
      unfold out0_C_6
      frame_open
      try simp (disch := decide) only [↓ View.readCov_skip, ↓ View.readCov_cons_toLoadRect, ↓ View.readCov_fill]
      frame_out
      try simp only [read_unread_whole]
      pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [x0_at, x1_at, x2_at, x3_at, x4_at, x5_at, Fin.sum_univ_one]
      rfl
  · rw [outsAt0_B m c t (by omega) (by omega) (by omega) (by omega) (by omega) (by omega)]
    dsimp only
    unfold out0_B_6
    frame_open
    try simp (disch := decide) only [↓ View.readCov_skip, ↓ View.readCov_cons_toLoadRect, ↓ View.readCov_fill]
    frame_out
    try simp only [read_unread_whole]
    pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, Fin.sum_univ_one]
    rfl

theorem start7 (t : Fin cfg0.N) (h : t.val = 0) (j : Fin 1024) :
    (outsAt0 m c t.val t.isLt).2.1 (ix2 (0 : Fin 1) j) = ∑ r : Fin 256, gainF m c (exOf t) (tokOf t r) j := by
  have ht := lt t
  rw [outsAt0_A m c t (by omega) (by omega) (by omega) (by omega) (by omega) (by omega)]
  dsimp only
  unfold out0_A_7
  frame_open
  try simp (disch := decide) only [↓ View.readCov_skip, ↓ View.readCov_cons_toLoadRect, ↓ View.readCov_fill]
  frame_out
  try simp only [read_unread_whole]
  pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [x0_at, x1_at, x2_at, x3_at, x4_at, x5_at, Fin.sum_univ_one]
  rfl

theorem step7 (t : Fin cfg0.N) (h : t.val ≠ 0) (j : Fin 1024) :
    (outsAt0 m c t.val t.isLt).2.1 (ix2 (0 : Fin 1) j)
      = (outsAt0 m c (t.val - 1) (lt_of_le_of_lt (Nat.sub_le _ _) t.isLt)).2.1 (ix2 (0 : Fin 1) j) + ∑ r : Fin 256, gainF m c (exOf t) (tokOf t r) j := by
  have ht := lt t
  by_cases h' : t.val % 8 = 0
  · rw [outsAt0_C m c t (by omega) (by omega) (by omega) (by omega) (by omega) (by omega)]
    dsimp only
    unfold out0_C_7
    frame_open
    try simp (disch := decide) only [↓ View.readCov_skip, ↓ View.readCov_cons_toLoadRect, ↓ View.readCov_fill]
    frame_out
    try simp only [read_unread_whole]
    pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, Fin.sum_univ_one]
    rfl
  · rw [outsAt0_B m c t (by omega) (by omega) (by omega) (by omega) (by omega) (by omega)]
    dsimp only
    unfold out0_B_7
    frame_open
    try simp (disch := decide) only [↓ View.readCov_skip, ↓ View.readCov_cons_toLoadRect, ↓ View.readCov_fill]
    frame_out
    try simp only [read_unread_whole]
    pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, Fin.sum_univ_one]
    rfl

theorem acc7 (t : Fin cfg0.N) (j : Fin 1024) : (outsAt0 m c t.val t.isLt).2.1 (ix2 (0 : Fin 1) j) = ∑ k ∈ Finset.range (256 * (t.val + 1)), term (gainF m c) j k :=
  half_all (gainF m c) j cfg0.N (fun n hn => (outsAt0 m c n hn).2.1 (ix2 (0 : Fin 1) j))
    (fun hn => (start7 m c ⟨0, hn⟩ rfl j).trans (sum_half (gainF m c) j 0 (by omega) _ fun r => rfl))
    (fun n hn h => (step7 m c ⟨n, hn⟩ (Nat.ne_of_gt h) j).trans (congrArg (fun u : EReal => _ + u) (sum_half (gainF m c) j n (lt ⟨n, hn⟩) _ fun r => rfl)))
    t.val t.isLt

theorem start8 (t : Fin cfg0.N) (h : t.val % 8 = 0) (j : Fin 1024) :
    (outsAt0 m c t.val t.isLt).2.2.1 (ix3 (0 : Fin 1) (0 : Fin 1) j) = ∑ r : Fin 256, shiftF m c (exOf t) (tokOf t r) j := by
  have ht := lt t
  by_cases h' : t.val = 0
  · rw [outsAt0_A m c t (by omega) (by omega) (by omega) (by omega) (by omega) (by omega)]
    dsimp only
    unfold out0_A_8
    frame_open
    try simp (disch := decide) only [↓ View.readCov_skip, ↓ View.readCov_cons_toLoadRect, ↓ View.readCov_fill]
    frame_out
    try simp only [read_unread_whole]
    pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, Fin.sum_univ_one]
    rfl
  · rw [outsAt0_C m c t (by omega) (by omega) (by omega) (by omega) (by omega) (by omega)]
    dsimp only
    unfold out0_C_8
    frame_open
    try simp (disch := decide) only [↓ View.readCov_skip, ↓ View.readCov_cons_toLoadRect, ↓ View.readCov_fill]
    frame_out
    try simp only [read_unread_whole]
    pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, Fin.sum_univ_one]
    rfl

theorem step8 (t : Fin cfg0.N) (h : t.val % 8 ≠ 0) (j : Fin 1024) :
    (outsAt0 m c t.val t.isLt).2.2.1 (ix3 (0 : Fin 1) (0 : Fin 1) j)
      = (outsAt0 m c (t.val - 1) (lt_of_le_of_lt (Nat.sub_le _ _) t.isLt)).2.2.1 (ix3 (0 : Fin 1) (0 : Fin 1) j) + ∑ r : Fin 256, shiftF m c (exOf t) (tokOf t r) j := by
  have ht := lt t
  rw [outsAt0_B m c t (by omega) (by omega) (by omega) (by omega) (by omega) (by omega)]
  dsimp only
  unfold out0_B_8
  frame_open
  try simp (disch := decide) only [↓ View.readCov_skip, ↓ View.readCov_cons_toLoadRect, ↓ View.readCov_fill]
  frame_out
  try simp only [read_unread_whole]
  pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [x0_at, x1_at, x2_at, x3_at, x4_at, x5_at, Fin.sum_univ_one]
  rfl

theorem acc8 (t : Fin cfg0.N) (j : Fin 1024) : (outsAt0 m c t.val t.isLt).2.2.1 (ix3 (0 : Fin 1) (0 : Fin 1) j) = ∑ k ∈ Finset.range (256 * (t.val % 8 + 1)), term (shiftF m c) j (2048 * (t.val / 8) + k) :=
  half_each (shiftF m c) j cfg0.N N_0 (fun n hn => (outsAt0 m c n hn).2.2.1 (ix3 (0 : Fin 1) (0 : Fin 1) j))
    (fun n hn h => (start8 m c ⟨n, hn⟩ h j).trans (sum_half (shiftF m c) j n (lt ⟨n, hn⟩) _ fun r => rfl))
    (fun n hn h => (step8 m c ⟨n, hn⟩ h j).trans (congrArg (fun u : EReal => _ + u) (sum_half (shiftF m c) j n (lt ⟨n, hn⟩) _ fun r => rfl)))
    t.val t.isLt

theorem start9 (t : Fin cfg0.N) (h : t.val % 8 = 0) (j : Fin 1024) :
    (outsAt0 m c t.val t.isLt).2.2.2 (ix3 (0 : Fin 1) (0 : Fin 1) j) = ∑ r : Fin 256, scaleF m c (exOf t) (tokOf t r) j := by
  have ht := lt t
  by_cases h' : t.val = 0
  · rw [outsAt0_A m c t (by omega) (by omega) (by omega) (by omega) (by omega) (by omega)]
    dsimp only
    unfold out0_A_9
    frame_open
    try simp (disch := decide) only [↓ View.readCov_skip, ↓ View.readCov_cons_toLoadRect, ↓ View.readCov_fill]
    frame_out
    try simp only [read_unread_whole]
    pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, Fin.sum_univ_one]
    rfl
  · rw [outsAt0_C m c t (by omega) (by omega) (by omega) (by omega) (by omega) (by omega)]
    dsimp only
    unfold out0_C_9
    frame_open
    try simp (disch := decide) only [↓ View.readCov_skip, ↓ View.readCov_cons_toLoadRect, ↓ View.readCov_fill]
    frame_out
    try simp only [read_unread_whole]
    pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    simp only [x0_at, x1_at, x2_at, x3_at, x4_at, x5_at, Fin.sum_univ_one]
    rfl

theorem step9 (t : Fin cfg0.N) (h : t.val % 8 ≠ 0) (j : Fin 1024) :
    (outsAt0 m c t.val t.isLt).2.2.2 (ix3 (0 : Fin 1) (0 : Fin 1) j)
      = (outsAt0 m c (t.val - 1) (lt_of_le_of_lt (Nat.sub_le _ _) t.isLt)).2.2.2 (ix3 (0 : Fin 1) (0 : Fin 1) j) + ∑ r : Fin 256, scaleF m c (exOf t) (tokOf t r) j := by
  have ht := lt t
  rw [outsAt0_B m c t (by omega) (by omega) (by omega) (by omega) (by omega) (by omega)]
  dsimp only
  unfold out0_B_9
  frame_open
  try simp (disch := decide) only [↓ View.readCov_skip, ↓ View.readCov_cons_toLoadRect, ↓ View.readCov_fill]
  frame_out
  try simp only [read_unread_whole]
  pointwise [k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [x0_at, x1_at, x2_at, x3_at, x4_at, x5_at, Fin.sum_univ_one]
  rfl

theorem acc9 (t : Fin cfg0.N) (j : Fin 1024) : (outsAt0 m c t.val t.isLt).2.2.2 (ix3 (0 : Fin 1) (0 : Fin 1) j) = ∑ k ∈ Finset.range (256 * (t.val % 8 + 1)), term (scaleF m c) j (2048 * (t.val / 8) + k) :=
  half_each (scaleF m c) j cfg0.N N_0 (fun n hn => (outsAt0 m c n hn).2.2.2 (ix3 (0 : Fin 1) (0 : Fin 1) j))
    (fun n hn h => (start9 m c ⟨n, hn⟩ h j).trans (sum_half (scaleF m c) j n (lt ⟨n, hn⟩) _ fun r => rfl))
    (fun n hn h => (step9 m c ⟨n, hn⟩ h j).trans (congrArg (fun u : EReal => _ + u) (sum_half (scaleF m c) j n (lt ⟨n, hn⟩) _ fun r => rfl)))
    t.val t.isLt

theorem arr6 : (dats m 0 c).arrAt 6 cfg0.N = tokens (φ := .f32) (mres (act m c) (dresid m c) (late (dcat m c)) (scale m c) (gain m c)) := by
  refine (dats m 0 c).arrAt_eq_of_covers 6 _ (by decide +kernel) fun t hf y => ?_
  have ht := lt t
  blk_simp
  rw [after0_6]
  idx_vars y
  obtain rfl : y0 = 0 := Subsingleton.elim _ _
  have he : ((View.whole main_v0_0).slice (win0_6.rect t)).emb (ix3 (0 : Fin 1) y1 y2) = ix3 (exOf t) (tokOf t y1) y2 := by
    blk_ext [idx t, exOf, tokOf]
  rw [he]
  exact out6_at m c t y1 y2

theorem arr7 : (dats m 0 c).arrAt 7 cfg0.N = all (gainF m c) := by
  refine (dats m 0 c).arrAt_eq_of_covers 7 _ (by decide +kernel) fun t hf y => ?_
  have ht := lt t
  blk_simp
  rw [after0_7]
  idx_vars y
  obtain rfl : y0 = 0 := Subsingleton.elim _ _
  have he : ((View.whole main_v0_1).slice (win0_7.rect t)).emb (ix2 (0 : Fin 1) y1) = ix2 (0 : Fin 1) y1 := by
    blk_ext [idx t]
  rw [he, acc7, show t.val = 15 by have := (flush0_7 t).mp hf; omega]
  exact sum_all (gainF m c) y1

theorem arr8 : (dats m 0 c).arrAt 8 cfg0.N = each (shiftF m c) := by
  refine (dats m 0 c).arrAt_eq_of_covers 8 _ (by decide +kernel) fun t hf y => ?_
  have ht := lt t
  blk_simp
  rw [after0_8]
  idx_vars y
  obtain rfl : y0 = 0 := Subsingleton.elim _ _
  obtain rfl : y1 = 0 := Subsingleton.elim _ _
  have he : ((View.whole main_v0_2).slice (win0_8.rect t)).emb (ix3 (0 : Fin 1) (0 : Fin 1) y2) = ix3 (exOf t) (0 : Fin 1) y2 := by
    blk_ext [idx t, exOf]
  rw [he, acc8, (flush0_8 t).mp hf]
  exact sum_each (shiftF m c) y2 (exOf t)

theorem arr9 : (dats m 0 c).arrAt 9 cfg0.N = each (scaleF m c) := by
  refine (dats m 0 c).arrAt_eq_of_covers 9 _ (by decide +kernel) fun t hf y => ?_
  have ht := lt t
  blk_simp
  rw [after0_9]
  idx_vars y
  obtain rfl : y0 = 0 := Subsingleton.elim _ _
  obtain rfl : y1 = 0 := Subsingleton.elim _ _
  have he : ((View.whole main_v0_3).slice (win0_9.rect t)).emb (ix3 (0 : Fin 1) (0 : Fin 1) y2) = ix3 (exOf t) (0 : Fin 1) y2 := by
    blk_ext [idx t, exOf]
  rw [he, acc9, (flush0_9 t).mp hf]
  exact sum_each (scaleF m c) y2 (exOf t)

end Cert.ModBwdIdeal.Arrays

namespace Cert.ModBwdRefIdeal.Arrays

open Facts₀ Value

theorem ref_act (m : (ℓ : Loc nD τ sig) → Buf (Elt Ideal) ℓ) (c : Dev nD) :
    res_main_v52 m c = tokens (φ := .f32) (mres (m ((c.tc : Thread nD τ).loc main_arg0)) (m ((c.tc : Thread nD τ).loc main_arg5)) (late (m ((c.tc : Thread nD τ).loc main_arg4))) (m ((c.tc : Thread nD τ).loc main_arg3)) (m ((c.tc : Thread nD τ).loc main_arg1))) := by
  unfold res_main_v52
  funext y
  idx_vars y
  pointwise []
  simp only [Fin.sum_univ_one]
  rfl

variable (x : FVec Ideal S2x2048x1024 .f32) (dcat : FVec Ideal S2x2304x1024 .bf16) (scale : FVec Ideal S2x1x1024 .f32) (gain : FVec Ideal S1x1024 .f32)

theorem ref_gain : broadcastInDim S1x1024 ![1] bcast_S1024_S1x1024_1 (Host.reduceAdd (shapeCast _ (Host.reduceAdd (mulf (mulf x (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (mulf (extf .f32 (extractStridedSlice S2x2048x1024 ![0, 256, 0] dcat slices_S2x2304x1024_S2x2048x1024_0_256_0) bitsLt_bf16_f32) (broadcastInDim S2x2048x1024 ![0, 1, 2] bcast_S2x1x1024_S2x2048x1024_0_1_2 (addf (broadcastInDim S2x1x1024 ![] bcast_S_S2x1x1024 (constant S_ .f32 0x3F800000#32)) scale)))) (constant S_ .f32 0x00000000#32) reducesTo_S2x2048x1024_S1024_d0_1 h_S_) shapeCasts_S1024_S1x1x1024) (constant S_ .f32 0x00000000#32) reducesTo_S1x1x1024_S1024_d0_1 h_S_)
      = all (mgain x (late dcat) scale) := by
  funext z
  idx_vars z
  pointwise []
  rw [sum_lane]
  pointwise [sum_lane]
  simp only [Fin.sum_univ_one, zero_add]
  rfl

theorem ref_shift : shapeCast _ (Host.reduceAdd (extf .f32 (extractStridedSlice S2x2048x1024 ![0, 256, 0] dcat slices_S2x2304x1024_S2x2048x1024_0_256_0) bitsLt_bf16_f32) (constant S_ .f32 0x00000000#32) reducesTo_S2x2048x1024_S2x1024_d1 h_S_) shapeCasts_S2x1024_S2x1x1024
      = each (tshift (late dcat)) := by
  funext z
  idx_vars z
  pointwise []
  rfl

theorem ref_scale : shapeCast _ (Host.reduceAdd (mulf (mulf (mulf x (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf x x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![1, 2] bcast_S1x1024_S1x1x1024_1_2 gain))) (extf .f32 (extractStridedSlice S2x2048x1024 ![0, 256, 0] dcat slices_S2x2304x1024_S2x2048x1024_0_256_0) bitsLt_bf16_f32)) (constant S_ .f32 0x00000000#32) reducesTo_S2x2048x1024_S2x1024_d1 h_S_) shapeCasts_S2x1024_S2x1x1024
      = each (mscale x (late dcat) gain) := by
  funext z
  idx_vars z
  pointwise []
  rfl

end Cert.ModBwdRefIdeal.Arrays

open Cert.ModBwdIdeal.Arrays in
/-- Both programs end with the same four arrays. -/
theorem Cert.Proof.productModBwd : Cert.algebraic_ModBwdIdeal_ModBwdRefIdeal
    (hModBwdIdeal := Cert.ModBwdIdeal.Gen.facts) (hModBwdRefIdeal := Cert.ModBwdRefIdeal.Gen.facts) := by
  intro m g m' g' _ hm
  refine ⟨fun c => tokens (φ := .f32) (mres (act m c) (dresid m c) (late (dcat m c)) (scale m c) (gain m c)), fun c => all (gainF m c), fun c => each (shiftF m c), fun c => each (scaleF m c), ?_, ?_⟩
  · exact (θ_run Cert.ModBwdIdeal.defs _ _).mono
      (fun r h c => ⟨(h c).1.trans (arr6 m c), (h c).2.1.trans (arr7 m c), (h c).2.2.1.trans (arr8 m c), (h c).2.2.2.1.trans (arr9 m c),
        (h c).2.2.2.2⟩) (Cert.ModBwdIdeal.Value.run_blocks m g)
  · refine (θ_run Cert.ModBwdRefIdeal.defs _ _).mono (fun r h c => ?_) (Cert.ModBwdRefIdeal.Value.run m' g')
    obtain ⟨e0, e1, e2, e3, e4, e5⟩ := hm c
    obtain ⟨p0, p1, p2, p3, k⟩ := h c
    refine ⟨p0.trans ?_, p1.trans ?_, p2.trans ?_, p3.trans ?_, k⟩
    · rw [Cert.ModBwdRefIdeal.Arrays.ref_act, e0, e1, e3, e4, e5]
    · rw [e0, e3, e4]
      exact Cert.ModBwdRefIdeal.Arrays.ref_gain _ _ _
    · rw [e4]
      exact Cert.ModBwdRefIdeal.Arrays.ref_shift _
    · rw [e0, e1, e4]
      exact Cert.ModBwdRefIdeal.Arrays.ref_scale _ _ _

open Cert.ModBwdRefIdeal in
/-- The reference keeps its arguments; it has no counters. -/
theorem Cert.Proof.keepsModBwd : Cert.quiescent_ModBwdRefIdeal (hModBwdRefIdeal := Gen.facts) := fun m ρ _ =>
  (θ_run defs _ _).mono (fun r h => ⟨fun c => (h c).2.2.2.2, sem_eq_zero_of_no_sems (by decide) r.2⟩) (Value.run m ρ)

end
-- ==== Proof.HeadGrad.lean ====
/-
  The gradient of a row of four heads, each normalised over its 256 lanes, scaled by a gain and gated, over the extended reals; and the sum over
  examples, tokens and heads that reaches the gain.
-/
module

public import proofs.«01_k».proof.Proof.ModulateGrad

@[expose] public section

noncomputable section

open Idealize.ShloMosaic Idealize.ShloMosaic.TcCoe

namespace Cert.Heads

def width : EReal := Ideal.ofBits .f32 0x43800000#32
def eps : EReal := Ideal.ofBits .f32 0x358637BD#32

/-- A head's mean square, one over its root, and what the root hands back to every lane. -/
def square (x : Fin 256 → EReal) : EReal := Ideal.div (∑ i, x i * x i) width + eps
def inv (x : Fin 256 → EReal) : EReal := Ideal.rsqrt (Ideal.div (∑ i, x i * x i) width + eps)
def pull (x g : Fin 256 → EReal) : EReal :=
  Ideal.div ((∑ i, x i * g i) * (Ideal.ofBits .f32 0xBF000000#32 * Ideal.div (inv x) (square x))) width

/-- What reaches the lanes of a head `x` when `g` reaches its normalisation. -/
def back (x g : Fin 256 → EReal) : Fin 256 → EReal := fun k => g k * inv x + x k * pull x g + pull x g * x k

/-- The lane of a head in its row, and a latent token in the sequence that starts with 256 context tokens. -/
def lane : Fin 4 → Fin 256 → Fin 1024
  | 0, k => ⟨k.val, by omega⟩
  | 1, k => ⟨256 + k.val, by omega⟩
  | 2, k => ⟨512 + k.val, by omega⟩
  | 3, k => ⟨768 + k.val, by omega⟩
def later (t : Fin 2048) : Fin 2304 := ⟨256 + t.val, by omega⟩

theorem lane_eq (h : Fin 4) (k : Fin 256) : lane h k = ⟨h.val * 256 + k.val, by omega⟩ := by
  match h with
  | 0 => exact Fin.ext (show k.val = 0 * 256 + k.val by omega)
  | 1 => rfl
  | 2 => rfl
  | 3 => rfl

theorem lane_val (h : Fin 4) (k : Fin 256) : (lane h k).val = h.val * 256 + k.val := congrArg Fin.val (lane_eq h k)

/-- Every lane of a row is one of a head's. -/
theorem lane_split (j : Fin 1024) : j = lane ⟨j.val / 256, by omega⟩ ⟨j.val % 256, by omega⟩ :=
  Fin.ext (by rw [lane_val]; dsimp only; omega)

/-- Four terms, added from the last to the first. -/
theorem four (x y z w : EReal) : w + z + y + x = x + y + z + w := by
  ac_rfl

variable (o : FVec Ideal ⟨3, ![2, 2304, 2048]⟩ .f32) (p : FVec Ideal ⟨3, ![2, 2304, 3200]⟩ .bf16)
variable (gain : FVec Ideal ⟨2, ![1, 256]⟩ .f32) (d : FVec Ideal ⟨3, ![2, 2048, 1024]⟩ .bf16)

/-- A token's scan output, both directions summed; its gate; and what reaches its gated output. -/
def out (e : Fin 2) (t : Fin 2048) (h : Fin 4) : Fin 256 → EReal := fun k =>
  o (ix3 e (later t) (⟨0 + (lane h k).val, by omega⟩ : Fin 2048)) + o (ix3 e (later t) (⟨1024 + (lane h k).val, by omega⟩ : Fin 2048))
def gate (e : Fin 2) (t : Fin 2048) (h : Fin 4) : Fin 256 → EReal := fun k => p (ix3 e (later t) (⟨2048 + (lane h k).val, by omega⟩ : Fin 3200))
def got (e : Fin 2) (t : Fin 2048) (h : Fin 4) : Fin 256 → EReal := fun k => d (ix3 e t (lane h k))

/-- What reaches the normalised output, before the gain. -/
def near (e : Fin 2) (t : Fin 2048) (h : Fin 4) : Fin 256 → EReal := fun k =>
  got d e t h k * (gate p e t h k * Ideal.logistic (gate p e t h k))

/-- The gradients of the summed scans and of the gate, and a head's term in the gain's. -/
def dout (e : Fin 2) (t : Fin 2048) (h : Fin 4) : Fin 256 → EReal := back (out o e t h) (fun k => near p d e t h k * gain (ix2 (0 : Fin 1) k))
def dgate (e : Fin 2) (t : Fin 2048) (h : Fin 4) : Fin 256 → EReal := fun k =>
  out o e t h k * inv (out o e t h) * gain (ix2 (0 : Fin 1) k) * got d e t h k * Ideal.logistic (gate p e t h k)
    + gate p e t h k * (out o e t h k * inv (out o e t h) * gain (ix2 (0 : Fin 1) k) * got d e t h k)
      * (Ideal.logistic (gate p e t h k) * (1 - Ideal.logistic (gate p e t h k)))
def tgain (e : Fin 2) (t : Fin 2048) (h : Fin 4) : Fin 256 → EReal := fun k => out o e t h k * inv (out o e t h) * near p d e t h k

/-- The sum over the first three axes of an array, at a lane. -/
theorem sum_heads {a b n w : ℕ} (h : (⟨4, ![a, b, n, w]⟩ : Shape).ReducesTo [0, 1, 2] ⟨1, ![w]⟩) (v : (⟨4, ![a, b, n, w]⟩ : Shape).Idx → EReal)
    (z : EReal) (k : Fin w) : Ideal.hostReduceAdd h v z (ix1 k) = z + ∑ i : Fin a, ∑ l : Fin b, ∑ o : Fin n, v (ix4 i l o k) := by
  have e : ∑ i : Fin a, ∑ l : Fin b, ∑ o : Fin n, v (ix4 i l o k) = ∑ p : Fin a × Fin b × Fin n, v (ix4 p.1 p.2.1 p.2.2 k) := by
    rw [Fintype.sum_prod_type]
    exact Finset.sum_congr rfl fun i _ => (Fintype.sum_prod_type (fun p : Fin b × Fin n => v (ix4 i p.1 p.2 k))).symm
  rw [e]
  refine congrArg (z + ·) (Finset.sum_filter_eq_sum_of_fiber _ (fun p : Fin a × Fin b × Fin n => ix4 p.1 p.2.1 p.2.2 k) (fun p q e => ?_) (fun i => ?_) v)
  · exact Prod.ext (congrFun e 0) (Prod.ext (congrFun e 1) (congrFun e 2))
  · constructor
    · intro e
      refine ⟨(i 0, i 1, i 2), ?_⟩
      funext x
      apply Fin.ext
      fin_cases x
      · rfl
      · rfl
      · rfl
      · exact (congrArg Fin.val (congrFun e 0)).symm
    · rintro ⟨p, rfl⟩
      funext x
      fin_cases x
      rfl

/-- Heads as an array of tokens, and a sum over examples, tokens and heads. -/
def heads (f : Fin 2 → Fin 2048 → Fin 4 → Fin 256 → EReal) : FVec Ideal ⟨3, ![2, 2048, 1024]⟩ .bf16 := fun z =>
  f (z 0) (z 1) ⟨(z 2).val / 256, by have : (z 2).val < 1024 := (z 2).isLt; omega⟩ ⟨(z 2).val % 256, by omega⟩
def total (f : Fin 2 → Fin 2048 → Fin 4 → Fin 256 → EReal) : FVec Ideal ⟨2, ![1, 256]⟩ .f32 := fun z => ∑ e, ∑ t, ∑ h, f e t h (z 1)

end Cert.Heads

end
-- ==== Proof.PostBwdValue.lean ====
/-
  The gradient of the normalised and gated output of the scan: the kernel's three arrays and the reference's are equal.
-/
module

public import proofs.«01_k».proof.Defs
public import proofs.«01_k».proof.Proof.Gen.PostBwdIdeal.Value
public import proofs.«01_k».proof.Proof.Gen.PostBwdRefIdeal.Run
public import proofs.«01_k».proof.Proof.HeadGrad
public import Idealize.ShloMosaic.Lib.Pipeline.ValueKit
public import Idealize.ShloMosaic.Lib.Pipeline.ReadBack
public import Idealize.ShloMosaic.Lib.Pipeline.FrameBody

@[expose] public section

set_option maxRecDepth 16384

noncomputable section

open Idealize.ShloMosaic Idealize.ShloMosaic.TcCoe Idealize.SL.Sem Cert.Heads

namespace Cert.PostBwdIdeal.Arrays

open Cert.PostBwdIdeal Cert.PostBwdIdeal.Gen

variable (m : (ℓ : Loc nD τ sig) → Buf (Elt Ideal) ℓ) (c : Dev nD)

abbrev o2 : FVec Ideal S2x2304x2048 .f32 := m ((c : Thread nD τ).loc main_arg0)
abbrev pcat : FVec Ideal S2x2304x3200 .bf16 := m ((c : Thread nD τ).loc main_arg1)
abbrev gain : FVec Ideal S1x256 .f32 := m ((c : Thread nD τ).loc main_arg2)
abbrev dy : FVec Ideal S2x2048x1024 .bf16 := m ((c : Thread nD τ).loc main_arg3)

theorem idx : ∀ t : Fin cfg0.N, win0_0.index t = ![t.val / 8, t.val % 8 + 1, 0] ∧ win0_1.index t = ![t.val / 8, t.val % 8 + 1, 1] ∧ win0_2.index t = ![t.val / 8, t.val % 8 + 1, 2] ∧ win0_3.index t = ![0, 0] ∧ win0_4.index t = ![t.val / 8, t.val % 8, 0] ∧ win0_5.index t = ![t.val / 8, t.val % 8, 0] ∧ win0_6.index t = ![t.val / 8, t.val % 8, 0] ∧ win0_7.index t = ![0, 0] :=
  (by decide +kernel : ∀ t : Fin grid0.N, _)

theorem lt (t : Fin cfg0.N) : t.val < 16 := lt_of_lt_of_eq t.isLt N_0

/-- The example and the latent token of a grid point's row. -/
def exOf (t : Fin cfg0.N) : Fin 2 := ⟨t.val / 8, by have := lt t; omega⟩
def tokOf (t : Fin cfg0.N) (r : Fin 256) : Fin 2048 := ⟨256 * (t.val % 8) + r.val, by omega⟩

theorem x0_at (t : Fin cfg0.N) (r : Fin 256) (k : Fin 1024) : iblk m c 0 t (ix3 (0 : Fin 1) r k) = o2 m c (ix3 (exOf t) (later (tokOf t r)) (⟨0 + k.val, by omega⟩ : Fin 2048)) := by
  have ht := lt t
  blk_ext [iblk, V, idx t, exOf, tokOf, later]

theorem x1_at (t : Fin cfg0.N) (r : Fin 256) (k : Fin 1024) : iblk m c 1 t (ix3 (0 : Fin 1) r k) = o2 m c (ix3 (exOf t) (later (tokOf t r)) (⟨1024 + k.val, by omega⟩ : Fin 2048)) := by
  have ht := lt t
  blk_ext [iblk, V, idx t, exOf, tokOf, later]

theorem x2_at (t : Fin cfg0.N) (r : Fin 256) (k : Fin 1024) : X0_2 m c t (ix3 (0 : Fin 1) r k) = pcat m c (ix3 (exOf t) (later (tokOf t r)) (⟨2048 + k.val, by omega⟩ : Fin 3200)) := by
  have ht := lt t
  unfold X0_2 Pipeline.Window.fill
  rw [dif_pos (moved0_2 t _)]
  blk_ext [iblk, V, idx t, exOf, tokOf, later]

theorem x3_at (t : Fin cfg0.N) (k : Fin 256) : iblk m c 3 t (ix2 (0 : Fin 1) k) = gain m c (ix2 (0 : Fin 1) k) := by
  have ht := lt t
  blk_ext [iblk, V, idx t]

theorem x4_at (t : Fin cfg0.N) (r : Fin 256) (k : Fin 1024) : iblk m c 4 t (ix3 (0 : Fin 1) r k) = dy m c (ix3 (exOf t) (tokOf t r) k) := by
  have ht := lt t
  blk_ext [iblk, V, idx t, exOf, tokOf]

theorem out5_lane (t : Fin cfg0.N) (r : Fin 256) (h : Fin 4) (k : Fin 256) :
    (outsAt0 m c t.val t.isLt).1 (ix3 (0 : Fin 1) r (lane h k)) = dout (o2 m c) (pcat m c) (gain m c) (dy m c) (exOf t) (tokOf t r) h k := by
  have ht := lt t
  by_cases hz : t.val = 0
  · rw [outsAt0_A m c t (by omega) (by omega)]
    dsimp only
    unfold out0_A_5
    frame_open
    frame_out
    canon_tiles z q
    all_goals
      idx_vars z
      have l := lane_val h k
      obtain rfl : r = z1 := Fin.ext q1
      obtain rfl : k = z2 := Fin.ext (by omega)
      pointwise [k0_pay82, k0_pay81, k0_pay80, k0_pay79, k0_pay78, k0_pay77, k0_pay76, k0_pay75, k0_pay74, k0_pay73, k0_pay72, k0_pay71, k0_pay70, k0_pay69, k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [x0_at, x1_at, x2_at, x3_at, x4_at, Fin.sum_univ_one]
    · obtain rfl : h = 3 := Fin.ext (show h.val = 3 by omega)
      rfl
    · obtain rfl : h = 2 := Fin.ext (show h.val = 2 by omega)
      rfl
    · obtain rfl : h = 1 := Fin.ext (show h.val = 1 by omega)
      rfl
    · obtain rfl : h = 0 := Fin.ext (show h.val = 0 by omega)
      rfl
  · rw [outsAt0_B m c t (by omega) (by omega)]
    dsimp only
    unfold out0_B_5
    frame_open
    frame_out
    canon_tiles z q
    all_goals
      idx_vars z
      have l := lane_val h k
      obtain rfl : r = z1 := Fin.ext q1
      obtain rfl : k = z2 := Fin.ext (by omega)
      pointwise [k0_pay82, k0_pay81, k0_pay80, k0_pay79, k0_pay78, k0_pay77, k0_pay76, k0_pay75, k0_pay74, k0_pay73, k0_pay72, k0_pay71, k0_pay70, k0_pay69, k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [x0_at, x1_at, x2_at, x3_at, x4_at, Fin.sum_univ_one]
    · obtain rfl : h = 3 := Fin.ext (show h.val = 3 by omega)
      rfl
    · obtain rfl : h = 2 := Fin.ext (show h.val = 2 by omega)
      rfl
    · obtain rfl : h = 1 := Fin.ext (show h.val = 1 by omega)
      rfl
    · obtain rfl : h = 0 := Fin.ext (show h.val = 0 by omega)
      rfl

theorem out5_at (t : Fin cfg0.N) (r : Fin 256) (j : Fin 1024) :
    (outsAt0 m c t.val t.isLt).1 (ix3 (0 : Fin 1) r j) = dout (o2 m c) (pcat m c) (gain m c) (dy m c) (exOf t) (tokOf t r) ⟨j.val / 256, by omega⟩ ⟨j.val % 256, by omega⟩ :=
  (congrArg (fun u => (outsAt0 m c t.val t.isLt).1 (ix3 (0 : Fin 1) r u)) (lane_split j)).trans (out5_lane m c t r _ _)

theorem out6_lane (t : Fin cfg0.N) (r : Fin 256) (h : Fin 4) (k : Fin 256) :
    (outsAt0 m c t.val t.isLt).2.1 (ix3 (0 : Fin 1) r (lane h k)) = dgate (o2 m c) (pcat m c) (gain m c) (dy m c) (exOf t) (tokOf t r) h k := by
  have ht := lt t
  by_cases hz : t.val = 0
  · rw [outsAt0_A m c t (by omega) (by omega)]
    dsimp only
    unfold out0_A_6
    frame_open
    frame_out
    canon_tiles z q
    all_goals
      idx_vars z
      have l := lane_val h k
      obtain rfl : r = z1 := Fin.ext q1
      obtain rfl : k = z2 := Fin.ext (by omega)
      pointwise [k0_pay82, k0_pay81, k0_pay80, k0_pay79, k0_pay78, k0_pay77, k0_pay76, k0_pay75, k0_pay74, k0_pay73, k0_pay72, k0_pay71, k0_pay70, k0_pay69, k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [x0_at, x1_at, x2_at, x3_at, x4_at, Fin.sum_univ_one]
    · obtain rfl : h = 3 := Fin.ext (show h.val = 3 by omega)
      rfl
    · obtain rfl : h = 2 := Fin.ext (show h.val = 2 by omega)
      rfl
    · obtain rfl : h = 1 := Fin.ext (show h.val = 1 by omega)
      rfl
    · obtain rfl : h = 0 := Fin.ext (show h.val = 0 by omega)
      rfl
  · rw [outsAt0_B m c t (by omega) (by omega)]
    dsimp only
    unfold out0_B_6
    frame_open
    frame_out
    canon_tiles z q
    all_goals
      idx_vars z
      have l := lane_val h k
      obtain rfl : r = z1 := Fin.ext q1
      obtain rfl : k = z2 := Fin.ext (by omega)
      pointwise [k0_pay82, k0_pay81, k0_pay80, k0_pay79, k0_pay78, k0_pay77, k0_pay76, k0_pay75, k0_pay74, k0_pay73, k0_pay72, k0_pay71, k0_pay70, k0_pay69, k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
      simp only [x0_at, x1_at, x2_at, x3_at, x4_at, Fin.sum_univ_one]
    · obtain rfl : h = 3 := Fin.ext (show h.val = 3 by omega)
      rfl
    · obtain rfl : h = 2 := Fin.ext (show h.val = 2 by omega)
      rfl
    · obtain rfl : h = 1 := Fin.ext (show h.val = 1 by omega)
      rfl
    · obtain rfl : h = 0 := Fin.ext (show h.val = 0 by omega)
      rfl

theorem out6_at (t : Fin cfg0.N) (r : Fin 256) (j : Fin 1024) :
    (outsAt0 m c t.val t.isLt).2.1 (ix3 (0 : Fin 1) r j) = dgate (o2 m c) (pcat m c) (gain m c) (dy m c) (exOf t) (tokOf t r) ⟨j.val / 256, by omega⟩ ⟨j.val % 256, by omega⟩ :=
  (congrArg (fun u => (outsAt0 m c t.val t.isLt).2.1 (ix3 (0 : Fin 1) r u)) (lane_split j)).trans (out6_lane m c t r _ _)

/-- A token's term in the gain's gradient, its four heads summed. -/
abbrev gainT (k : Fin 256) : Fin 2 → Fin 2048 → Fin 1024 → EReal := fun e t _ => ∑ h, tgain (o2 m c) (pcat m c) (dy m c) e t h k

theorem start7 (t : Fin cfg0.N) (h : t.val = 0) (k : Fin 256) :
    (outsAt0 m c t.val t.isLt).2.2 (ix2 (0 : Fin 1) k) = ∑ r : Fin 256, gainT m c k (exOf t) (tokOf t r) 0 := by
  have ht := lt t
  rw [outsAt0_A m c t (by omega) (by omega)]
  dsimp only
  unfold out0_A_7
  frame_open
  frame_out
  pointwise [k0_pay82, k0_pay81, k0_pay80, k0_pay79, k0_pay78, k0_pay77, k0_pay76, k0_pay75, k0_pay74, k0_pay73, k0_pay72, k0_pay71, k0_pay70, k0_pay69, k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [x0_at, x1_at, x2_at, x3_at, x4_at, gainT, Fin.sum_univ_four, Finset.sum_add_distrib]
  exact four _ _ _ _

theorem step7 (t : Fin cfg0.N) (h : t.val ≠ 0) (k : Fin 256) :
    (outsAt0 m c t.val t.isLt).2.2 (ix2 (0 : Fin 1) k)
      = (outsAt0 m c (t.val - 1) (lt_of_le_of_lt (Nat.sub_le _ _) t.isLt)).2.2 (ix2 (0 : Fin 1) k) + ∑ r : Fin 256, gainT m c k (exOf t) (tokOf t r) 0 := by
  have ht := lt t
  rw [outsAt0_B m c t (by omega) (by omega)]
  dsimp only
  unfold out0_B_7
  frame_open
  frame_out
  pointwise [k0_pay82, k0_pay81, k0_pay80, k0_pay79, k0_pay78, k0_pay77, k0_pay76, k0_pay75, k0_pay74, k0_pay73, k0_pay72, k0_pay71, k0_pay70, k0_pay69, k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  simp only [x0_at, x1_at, x2_at, x3_at, x4_at, gainT, Fin.sum_univ_four, Finset.sum_add_distrib]
  exact congrArg (fun u : EReal => _ + u) (four _ _ _ _)

theorem acc7 (t : Fin cfg0.N) (k : Fin 256) :
    (outsAt0 m c t.val t.isLt).2.2 (ix2 (0 : Fin 1) k) = ∑ i ∈ Finset.range (256 * (t.val + 1)), Modulate.term (gainT m c k) 0 i :=
  Modulate.half_all (gainT m c k) 0 cfg0.N (fun n hn => (outsAt0 m c n hn).2.2 (ix2 (0 : Fin 1) k))
    (fun hn => (start7 m c ⟨0, hn⟩ rfl k).trans (Modulate.sum_half (gainT m c k) 0 0 (by omega) _ fun r => rfl))
    (fun n hn h => (step7 m c ⟨n, hn⟩ (Nat.ne_of_gt h) k).trans (congrArg (fun u : EReal => _ + u) (Modulate.sum_half (gainT m c k) 0 n (lt ⟨n, hn⟩) _ fun r => rfl)))
    t.val t.isLt

theorem arr5 : (dats m 0 c).arrAt 5 cfg0.N = heads (dout (o2 m c) (pcat m c) (gain m c) (dy m c)) := by
  refine (dats m 0 c).arrAt_eq_of_covers 5 _ (by decide +kernel) fun t hf y => ?_
  have ht := lt t
  blk_simp
  rw [after0_5]
  idx_vars y
  obtain rfl : y0 = 0 := Subsingleton.elim _ _
  have he : ((View.whole main_v0_0).slice (win0_5.rect t)).emb (ix3 (0 : Fin 1) y1 y2) = ix3 (exOf t) (tokOf t y1) y2 := by
    blk_ext [idx t, exOf, tokOf]
  rw [he]
  exact out5_at m c t y1 y2

theorem arr6 : (dats m 0 c).arrAt 6 cfg0.N = heads (dgate (o2 m c) (pcat m c) (gain m c) (dy m c)) := by
  refine (dats m 0 c).arrAt_eq_of_covers 6 _ (by decide +kernel) fun t hf y => ?_
  have ht := lt t
  blk_simp
  rw [after0_6]
  idx_vars y
  obtain rfl : y0 = 0 := Subsingleton.elim _ _
  have he : ((View.whole main_v0_1).slice (win0_6.rect t)).emb (ix3 (0 : Fin 1) y1 y2) = ix3 (exOf t) (tokOf t y1) y2 := by
    blk_ext [idx t, exOf, tokOf]
  rw [he]
  exact out6_at m c t y1 y2

theorem arr7 : (dats m 0 c).arrAt 7 cfg0.N = total (tgain (o2 m c) (pcat m c) (dy m c)) := by
  refine (dats m 0 c).arrAt_eq_of_covers 7 _ (by decide +kernel) fun t hf y => ?_
  have ht := lt t
  blk_simp
  rw [after0_7]
  idx_vars y
  obtain rfl : y0 = 0 := Subsingleton.elim _ _
  have he : ((View.whole main_v0_2).slice (win0_7.rect t)).emb (ix2 (0 : Fin 1) y1) = ix2 (0 : Fin 1) y1 := by
    blk_ext [idx t]
  rw [he, acc7, show t.val = 15 by have := (flush0_7 t).mp hf; omega]
  exact Modulate.sum_all (gainT m c y1) 0

end Cert.PostBwdIdeal.Arrays

namespace Cert.PostBwdRefIdeal.Arrays

open Facts₀ Value

theorem ref_out (m : (ℓ : Loc nD τ sig) → Buf (Elt Ideal) ℓ) (c : Dev nD) :
    res_main_v52 m c = heads (dout (m ((c.tc : Thread nD τ).loc main_arg0)) (m ((c.tc : Thread nD τ).loc main_arg1)) (m ((c.tc : Thread nD τ).loc main_arg2)) (m ((c.tc : Thread nD τ).loc main_arg3))) := by
  unfold res_main_v52
  funext y
  idx_vars y
  pointwise []
  show _ = dout (m ((c.tc : Thread nD τ).loc main_arg0)) (m ((c.tc : Thread nD τ).loc main_arg1)) (m ((c.tc : Thread nD τ).loc main_arg2)) (m ((c.tc : Thread nD τ).loc main_arg3)) y0 y1 ⟨y2.val / 256, by omega⟩ ⟨y2.val % 256, by omega⟩
  simp only [Fin.sum_univ_one, dout, dgate, back, pull, square, Heads.inv, out, gate, got, near, lane_eq, Nat.div_add_mod', Nat.zero_add]
  rfl

theorem ref_gate (m : (ℓ : Loc nD τ sig) → Buf (Elt Ideal) ℓ) (c : Dev nD) :
    res_main_v53 m c = heads (dgate (m ((c.tc : Thread nD τ).loc main_arg0)) (m ((c.tc : Thread nD τ).loc main_arg1)) (m ((c.tc : Thread nD τ).loc main_arg2)) (m ((c.tc : Thread nD τ).loc main_arg3))) := by
  unfold res_main_v53
  funext y
  idx_vars y
  pointwise []
  show _ = dgate (m ((c.tc : Thread nD τ).loc main_arg0)) (m ((c.tc : Thread nD τ).loc main_arg1)) (m ((c.tc : Thread nD τ).loc main_arg2)) (m ((c.tc : Thread nD τ).loc main_arg3)) y0 y1 ⟨y2.val / 256, by omega⟩ ⟨y2.val % 256, by omega⟩
  simp only [Fin.sum_univ_one, dout, dgate, back, pull, square, Heads.inv, out, gate, got, near, lane_eq, Nat.div_add_mod', Nat.zero_add]
  rfl

variable (o : FVec Ideal S2x2304x2048 .f32) (p : FVec Ideal S2x2304x3200 .bf16) (d : FVec Ideal S2x2048x1024 .bf16)

theorem ref_gain : broadcastInDim S1x256 ![1] bcast_S256_S1x256_1 (Host.reduceAdd (shapeCast _ (Host.reduceAdd (mulf (mulf (shapeCast _ (addf (extractStridedSlice S2x2048x1024 ![0, 256, 0] o slices_S2x2304x2048_S2x2048x1024_0_256_0) (extractStridedSlice S2x2048x1024 ![0, 256, 1024] o slices_S2x2304x2048_S2x2048x1024_0_256_1024)) shapeCasts_S2x2048x1024_S2x2048x4x256) (broadcastInDim S2x2048x4x256 ![0, 1, 2, 3] bcast_S2x2048x4x1_S2x2048x4x256_0_1_2_3 (Host.rsqrt (addf (Host.divf (broadcastInDim S2x2048x4x1 ![0, 1, 2] bcast_S2x2048x4_S2x2048x4x1_0_1_2 (Host.reduceAdd (mulf (shapeCast _ (addf (extractStridedSlice S2x2048x1024 ![0, 256, 0] o slices_S2x2304x2048_S2x2048x1024_0_256_0) (extractStridedSlice S2x2048x1024 ![0, 256, 1024] o slices_S2x2304x2048_S2x2048x1024_0_256_1024)) shapeCasts_S2x2048x1024_S2x2048x4x256) (shapeCast _ (addf (extractStridedSlice S2x2048x1024 ![0, 256, 0] o slices_S2x2304x2048_S2x2048x1024_0_256_0) (extractStridedSlice S2x2048x1024 ![0, 256, 1024] o slices_S2x2304x2048_S2x2048x1024_0_256_1024)) shapeCasts_S2x2048x1024_S2x2048x4x256)) (constant S_ .f32 0x00000000#32) reducesTo_S2x2048x4x256_S2x2048x4_d3 h_S_)) (broadcastInDim S2x2048x4x1 ![] bcast_S_S2x2048x4x1 (constant S_ .f32 0x43800000#32))) (broadcastInDim S2x2048x4x1 ![] bcast_S_S2x2048x4x1 (constant S_ .f32 0x358637BD#32)))))) (shapeCast _ (mulf (extf .f32 d bitsLt_bf16_f32) (mulf (extf .f32 (extractStridedSlice S2x2048x1024 ![0, 256, 2048] p slices_S2x2304x3200_S2x2048x1024_0_256_2048) bitsLt_bf16_f32) (Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf (extf .f32 (extractStridedSlice S2x2048x1024 ![0, 256, 2048] p slices_S2x2304x3200_S2x2048x1024_0_256_2048) bitsLt_bf16_f32))))))) shapeCasts_S2x2048x1024_S2x2048x4x256)) (constant S_ .f32 0x00000000#32) reducesTo_S2x2048x4x256_S256_d0_1_2 h_S_) shapeCasts_S256_S1x1x1x256) (constant S_ .f32 0x00000000#32) reducesTo_S1x1x1x256_S256_d0_1_2 h_S_)
      = total (tgain o p d) := by
  funext z
  idx_vars z
  pointwise []
  rw [sum_heads]
  pointwise [sum_heads]
  simp only [Fin.sum_univ_one, zero_add]
  show _ = ∑ e, ∑ t, ∑ h, tgain o p d e t h z1
  simp only [tgain, Heads.inv, out, gate, got, near, lane_eq, Nat.zero_add]
  rfl

end Cert.PostBwdRefIdeal.Arrays

open Cert.PostBwdIdeal.Arrays in
/-- Both programs end with the same three arrays. -/
theorem Cert.Proof.productPostBwd : Cert.algebraic_PostBwdIdeal_PostBwdRefIdeal
    (hPostBwdIdeal := Cert.PostBwdIdeal.Gen.facts) (hPostBwdRefIdeal := Cert.PostBwdRefIdeal.Gen.facts) := by
  intro m g m' g' _ hm
  refine ⟨fun c => heads (dout (o2 m c) (pcat m c) (gain m c) (dy m c)), fun c => heads (dgate (o2 m c) (pcat m c) (gain m c) (dy m c)), fun c => total (tgain (o2 m c) (pcat m c) (dy m c)), ?_, ?_⟩
  · exact (θ_run Cert.PostBwdIdeal.defs _ _).mono
      (fun r h c => ⟨(h c).1.trans (arr5 m c), (h c).2.1.trans (arr6 m c), (h c).2.2.1.trans (arr7 m c),
        (h c).2.2.2⟩) (Cert.PostBwdIdeal.Value.run_blocks m g)
  · refine (θ_run Cert.PostBwdRefIdeal.defs _ _).mono (fun r h c => ?_) (Cert.PostBwdRefIdeal.Value.run m' g')
    obtain ⟨e0, e1, e2, e3⟩ := hm c
    obtain ⟨p0, p1, p2, k⟩ := h c
    refine ⟨p0.trans ?_, p1.trans ?_, p2.trans ?_, k⟩
    · rw [Cert.PostBwdRefIdeal.Arrays.ref_out, e0, e1, e2, e3]
    · rw [Cert.PostBwdRefIdeal.Arrays.ref_gate, e0, e1, e2, e3]
    · rw [e0, e1, e3]
      exact Cert.PostBwdRefIdeal.Arrays.ref_gain _ _ _

open Cert.PostBwdRefIdeal in
/-- The reference keeps its arguments; it has no counters. -/
theorem Cert.Proof.keepsPostBwd : Cert.quiescent_PostBwdRefIdeal (hPostBwdRefIdeal := Gen.facts) := fun m ρ _ =>
  (θ_run defs _ _).mono (fun r h => ⟨fun c => (h c).2.2.2, sem_eq_zero_of_no_sems (by decide) r.2⟩) (Value.run m ρ)

end
-- ==== Proof.lean ====
/-
Everything this certificate claims, assembled: every program ends without a fault, with its arguments
unchanged and nothing in flight; the ideal programs are the programs' own text; and each kernel computes
what the scan, the product or the derivative of one that it is checked against computes.
-/
module

public import proofs.«01_k».proof.Defs
public import proofs.«01_k».proof.Proof.Gen.Kernel
public import proofs.«01_k».proof.Proof.BwdValue
public import proofs.«01_k».proof.Proof.Gen.ReferenceIdeal.Run
public import proofs.«01_k».proof.Proof.Gen.Fwd.Frame
public import proofs.«01_k».proof.Proof.FwdClaim
public import proofs.«01_k».proof.Proof.BwdClaim
public import proofs.«01_k».proof.Proof.Gen.UpDx.Frame
public import proofs.«01_k».proof.Proof.UpDxValue
public import proofs.«01_k».proof.Proof.Gen.UpDw.Frame
public import proofs.«01_k».proof.Proof.UpDwValue
public import proofs.«01_k».proof.Proof.Gen.DownDx.Frame
public import proofs.«01_k».proof.Proof.DownDxValue
public import proofs.«01_k».proof.Proof.Gen.DownDw.Frame
public import proofs.«01_k».proof.Proof.DownDwValue
public import proofs.«01_k».proof.Proof.Gen.Up.Frame
public import proofs.«01_k».proof.Proof.UpValue
public import proofs.«01_k».proof.Proof.Gen.Down.Frame
public import proofs.«01_k».proof.Proof.DownValue
public import proofs.«01_k».proof.Proof.Gen.ScIn.Frame
public import proofs.«01_k».proof.Proof.ScInValue
public import proofs.«01_k».proof.Proof.Gen.ScInDx.Frame
public import proofs.«01_k».proof.Proof.ScInDxValue
public import proofs.«01_k».proof.Proof.Gen.ScInDw.Frame
public import proofs.«01_k».proof.Proof.ScInDwValue
public import proofs.«01_k».proof.Proof.Gen.ScOutDx.Frame
public import proofs.«01_k».proof.Proof.ScOutDxValue
public import proofs.«01_k».proof.Proof.Gen.ScOutDw.Frame
public import proofs.«01_k».proof.Proof.ScOutDwValue
public import proofs.«01_k».proof.Proof.Gen.GlaIn.Frame
public import proofs.«01_k».proof.Proof.GlaInValue
public import proofs.«01_k».proof.Proof.Gen.GlaInDx.Frame
public import proofs.«01_k».proof.Proof.GlaInDxValue
public import proofs.«01_k».proof.Proof.Gen.GlaInDw.Frame
public import proofs.«01_k».proof.Proof.GlaInDwValue
public import proofs.«01_k».proof.Proof.Gen.GlaOutDw.Frame
public import proofs.«01_k».proof.Proof.GlaOutDwValue
public import proofs.«01_k».proof.Proof.Gen.OutMod.Frame
public import proofs.«01_k».proof.Proof.OutModValue
public import proofs.«01_k».proof.Proof.Gen.DownMod.Frame
public import proofs.«01_k».proof.Proof.DownModValue
public import proofs.«01_k».proof.Proof.Gen.ResModBwd.Frame
public import proofs.«01_k».proof.Proof.ResModBwdValue
public import proofs.«01_k».proof.Proof.Gen.ModBwd.Frame
public import proofs.«01_k».proof.Proof.ModBwdValue
public import proofs.«01_k».proof.Proof.Gen.PostBwd.Frame
public import proofs.«01_k».proof.Proof.PostBwdValue

@[expose] public section

set_option maxRecDepth 65536

noncomputable section

open Idealize.ShloMosaic Idealize.SL.Sem

/-- The scans the kernels are checked against keep their arguments; they have no counters. -/
theorem Cert.Proof.keeps : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems (by decide) r.2⟩) (Cert.ReferenceIdeal.Value.run m ρ)

theorem Cert.Proof.keeps_forward : Cert.quiescent_FwdRefIdeal (hFwdRefIdeal := Cert.FwdRefIdeal.Gen.facts) := fun m ρ _ =>
  (θ_run Cert.FwdRefIdeal.defs _ _).mono
    (fun r h => ⟨fun c => (h c).2.2, sem_eq_zero_of_no_sems (by decide) r.2⟩) (Cert.FwdRefIdeal.Value.run m ρ)

/-- The gradient kernel and its ideal reading have one text. -/
theorem Cert.Proof.same_body : (Cert.Kernel.defs₀ (F := Bits)) = (Cert.KernelIdeal.defs₀ (F := Bits)) :=
  congrArg Defs.onTc (funext fun l => funext fun a => by
    match l, a with
    | 0, (t, s) => rfl
    | ⟨_ + 1, h⟩, _ => exact absurd h (Nat.not_lt.2 (Nat.le_add_left _ _)))

theorem Cert.Proof.same_text : (Cert.Kernel.defs (F := Bits)) = (Cert.KernelIdeal.defs (F := Bits)) :=
  congrArg (Pipeline.defs Cert.KernelIdeal.pcfgs) same_body

/-- The run of the gradient kernel is proved over any float values: here it is read at the machine's. -/
theorem Cert.Proof.gradient_keeps : Cert.quiescent_Kernel (hKernel := Cert.Kernel.Gen.facts) := fun m ρ _ =>
  (congrArg (fun d => θ_run d (onTc (τ := Cert.Kernel.τ) (Cert.Kernel.main (F := Bits))) ⟨m, fun _ => 0, ρ⟩ _) same_text).mpr
    (Cert.KernelIdeal.Bwd.frame (F := Bits) m ρ)

/-- All the claims. -/
theorem Cert.Proof.claim : Cert.Claim :=
  ⟨Cert.Kernel.Gen.facts, Cert.KernelIdeal.Gen.facts, Cert.ReferenceIdeal.Gen.facts, Cert.Fwd.Gen.facts,
    Cert.FwdIdeal.Gen.facts, Cert.FwdRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.ScIn.Gen.facts, Cert.ScInIdeal.Gen.facts, Cert.ScInRefIdeal.Gen.facts,
    Cert.ScInDx.Gen.facts, Cert.ScInDxIdeal.Gen.facts, Cert.ScInDxRefIdeal.Gen.facts,
    Cert.ScInDw.Gen.facts, Cert.ScInDwIdeal.Gen.facts, Cert.ScInDwRefIdeal.Gen.facts,
    Cert.ScOutDx.Gen.facts, Cert.ScOutDxIdeal.Gen.facts, Cert.ScOutDxRefIdeal.Gen.facts,
    Cert.ScOutDw.Gen.facts, Cert.ScOutDwIdeal.Gen.facts, Cert.ScOutDwRefIdeal.Gen.facts,
    Cert.GlaIn.Gen.facts, Cert.GlaInIdeal.Gen.facts, Cert.GlaInRefIdeal.Gen.facts,
    Cert.GlaInDx.Gen.facts, Cert.GlaInDxIdeal.Gen.facts, Cert.GlaInDxRefIdeal.Gen.facts,
    Cert.GlaInDw.Gen.facts, Cert.GlaInDwIdeal.Gen.facts, Cert.GlaInDwRefIdeal.Gen.facts,
    Cert.GlaOutDw.Gen.facts, Cert.GlaOutDwIdeal.Gen.facts, Cert.GlaOutDwRefIdeal.Gen.facts,
    Cert.OutMod.Gen.facts, Cert.OutModIdeal.Gen.facts, Cert.OutModRefIdeal.Gen.facts,
    Cert.DownMod.Gen.facts, Cert.DownModIdeal.Gen.facts, Cert.DownModRefIdeal.Gen.facts,
    Cert.ResModBwd.Gen.facts, Cert.ResModBwdIdeal.Gen.facts, Cert.ResModBwdRefIdeal.Gen.facts,
    Cert.ModBwd.Gen.facts, Cert.ModBwdIdeal.Gen.facts, Cert.ModBwdRefIdeal.Gen.facts,
    Cert.PostBwd.Gen.facts, Cert.PostBwdIdeal.Gen.facts, Cert.PostBwdRefIdeal.Gen.facts,
    Cert.Proof.gradient_keeps,
    fun m ρ _ => Cert.KernelIdeal.Bwd.frame m ρ,
    Cert.Proof.keeps,
    fun m ρ _ => Cert.Fwd.Gen.frame m ρ,
    fun m ρ _ => Cert.FwdIdeal.Gen.frame m ρ,
    Cert.Proof.keeps_forward,
    fun m ρ _ => Cert.UpDx.Gen.frame m ρ, fun m ρ _ => Cert.UpDxIdeal.Gen.frame m ρ, Cert.Proof.keepsUpDx,
    fun m ρ _ => Cert.UpDw.Gen.frame m ρ, fun m ρ _ => Cert.UpDwIdeal.Gen.frame m ρ, Cert.Proof.keepsUpDw,
    fun m ρ _ => Cert.DownDx.Gen.frame m ρ, fun m ρ _ => Cert.DownDxIdeal.Gen.frame m ρ, Cert.Proof.keepsDownDx,
    fun m ρ _ => Cert.DownDw.Gen.frame m ρ, fun m ρ _ => Cert.DownDwIdeal.Gen.frame m ρ, Cert.Proof.keepsDownDw,
    fun m ρ _ => Cert.Up.Gen.frame m ρ, fun m ρ _ => Cert.UpIdeal.Gen.frame m ρ, Cert.Proof.keepsUp,
    fun m ρ _ => Cert.Down.Gen.frame m ρ, fun m ρ _ => Cert.DownIdeal.Gen.frame m ρ, Cert.Proof.keepsDown,
    fun m ρ _ => Cert.ScIn.Gen.frame m ρ, fun m ρ _ => Cert.ScInIdeal.Gen.frame m ρ, Cert.Proof.keepsScIn,
    fun m ρ _ => Cert.ScInDx.Gen.frame m ρ, fun m ρ _ => Cert.ScInDxIdeal.Gen.frame m ρ, Cert.Proof.keepsScInDx,
    fun m ρ _ => Cert.ScInDw.Gen.frame m ρ, fun m ρ _ => Cert.ScInDwIdeal.Gen.frame m ρ, Cert.Proof.keepsScInDw,
    fun m ρ _ => Cert.ScOutDx.Gen.frame m ρ, fun m ρ _ => Cert.ScOutDxIdeal.Gen.frame m ρ, Cert.Proof.keepsScOutDx,
    fun m ρ _ => Cert.ScOutDw.Gen.frame m ρ, fun m ρ _ => Cert.ScOutDwIdeal.Gen.frame m ρ, Cert.Proof.keepsScOutDw,
    fun m ρ _ => Cert.GlaIn.Gen.frame m ρ, fun m ρ _ => Cert.GlaInIdeal.Gen.frame m ρ, Cert.Proof.keepsGlaIn,
    fun m ρ _ => Cert.GlaInDx.Gen.frame m ρ, fun m ρ _ => Cert.GlaInDxIdeal.Gen.frame m ρ, Cert.Proof.keepsGlaInDx,
    fun m ρ _ => Cert.GlaInDw.Gen.frame m ρ, fun m ρ _ => Cert.GlaInDwIdeal.Gen.frame m ρ, Cert.Proof.keepsGlaInDw,
    fun m ρ _ => Cert.GlaOutDw.Gen.frame m ρ, fun m ρ _ => Cert.GlaOutDwIdeal.Gen.frame m ρ, Cert.Proof.keepsGlaOutDw,
    fun m ρ _ => Cert.OutMod.Gen.frame m ρ, fun m ρ _ => Cert.OutModIdeal.Gen.frame m ρ, Cert.Proof.keepsOutMod,
    fun m ρ _ => Cert.DownMod.Gen.frame m ρ, fun m ρ _ => Cert.DownModIdeal.Gen.frame m ρ, Cert.Proof.keepsDownMod,
    fun m ρ _ => Cert.ResModBwd.Gen.frame m ρ, fun m ρ _ => Cert.ResModBwdIdeal.Gen.frame m ρ, Cert.Proof.keepsResModBwd,
    fun m ρ _ => Cert.ModBwd.Gen.frame m ρ, fun m ρ _ => Cert.ModBwdIdeal.Gen.frame m ρ, Cert.Proof.keepsModBwd,
    fun m ρ _ => Cert.PostBwd.Gen.frame m ρ, fun m ρ _ => Cert.PostBwdIdeal.Gen.frame m ρ, Cert.Proof.keepsPostBwd,
    trivial, Cert.Proof.backward, trivial, Cert.Proof.forward,
    trivial, Cert.Proof.productUpDx,
    trivial, Cert.Proof.productUpDw,
    trivial, Cert.Proof.productDownDx,
    trivial, Cert.Proof.productDownDw,
    trivial, Cert.Proof.productUp,
    trivial, Cert.Proof.productDown,
    trivial, Cert.Proof.productScIn,
    trivial, Cert.Proof.productScInDx,
    trivial, Cert.Proof.productScInDw,
    trivial, Cert.Proof.productScOutDx,
    trivial, Cert.Proof.productScOutDw,
    trivial, Cert.Proof.productGlaIn,
    trivial, Cert.Proof.productGlaInDx,
    trivial, Cert.Proof.productGlaInDw,
    trivial, Cert.Proof.productGlaOutDw,
    trivial, Cert.Proof.productOutMod,
    trivial, Cert.Proof.productDownMod,
    trivial, Cert.Proof.productResModBwd,
    trivial, Cert.Proof.productModBwd,
    trivial, Cert.Proof.productPostBwd⟩

end
